-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_WgradKernel (m : (ℓ : Loc Cert.WgradKernel.nD Cert.WgradKernel.τ Cert.WgradKernel.sig) → Buf (Elt Bits) ℓ) : Prop :=
  True

def Pre_WgradKernelIdeal (m : (ℓ : Loc Cert.WgradKernelIdeal.nD Cert.WgradKernelIdeal.τ Cert.WgradKernelIdeal.sig) → Buf (Elt Ideal) ℓ) : Prop :=
  True

def Pre_WgradReferenceIdeal (m : (ℓ : Loc Cert.WgradReferenceIdeal.nD Cert.WgradReferenceIdeal.τ Cert.WgradReferenceIdeal.sig) → Buf (Elt Ideal) ℓ) : Prop :=
  True

def Pre_DgradKernel (m : (ℓ : Loc Cert.DgradKernel.nD Cert.DgradKernel.τ Cert.DgradKernel.sig) → Buf (Elt Bits) ℓ) : Prop :=
  True

def Pre_DgradKernelIdeal (m : (ℓ : Loc Cert.DgradKernelIdeal.nD Cert.DgradKernelIdeal.τ Cert.DgradKernelIdeal.sig) → Buf (Elt Ideal) ℓ) : Prop :=
  True

def Pre_DgradReferenceIdeal (m : (ℓ : Loc Cert.DgradReferenceIdeal.nD Cert.DgradReferenceIdeal.τ Cert.DgradReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_ConvFwdKernel (m : (ℓ : Loc Cert.ConvFwdKernel.nD Cert.ConvFwdKernel.τ Cert.ConvFwdKernel.sig) → Buf (Elt Bits) ℓ) : Prop :=
  True

def Pre_ConvFwdKernelIdeal (m : (ℓ : Loc Cert.ConvFwdKernelIdeal.nD Cert.ConvFwdKernelIdeal.τ Cert.ConvFwdKernelIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MergeBwdKernel (m : (ℓ : Loc Cert.MergeBwdKernel.nD Cert.MergeBwdKernel.τ Cert.MergeBwdKernel.sig) → Buf (Elt Bits) ℓ) : Prop :=
  True

def Pre_MergeBwdKernelIdeal (m : (ℓ : Loc Cert.MergeBwdKernelIdeal.nD Cert.MergeBwdKernelIdeal.τ Cert.MergeBwdKernelIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_NormBwdKernel (m : (ℓ : Loc Cert.NormBwdKernel.nD Cert.NormBwdKernel.τ Cert.NormBwdKernel.sig) → Buf (Elt Bits) ℓ) : Prop :=
  True

def Pre_NormBwdKernelIdeal (m : (ℓ : Loc Cert.NormBwdKernelIdeal.nD Cert.NormBwdKernelIdeal.τ Cert.NormBwdKernelIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_MidBwdKernel (m : (ℓ : Loc Cert.MidBwdKernel.nD Cert.MidBwdKernel.τ Cert.MidBwdKernel.sig) → Buf (Elt Bits) ℓ) : Prop :=
  True

def Pre_MidBwdKernelIdeal (m : (ℓ : Loc Cert.MidBwdKernelIdeal.nD Cert.MidBwdKernelIdeal.τ Cert.MidBwdKernelIdeal.sig) → Buf (Elt Ideal) ℓ) : Prop :=
  True

def Pre_MidBwdReferenceIdeal (m : (ℓ : Loc Cert.MidBwdReferenceIdeal.nD Cert.MidBwdReferenceIdeal.τ Cert.MidBwdReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_HalvesKernel (m : (ℓ : Loc Cert.HalvesKernel.nD Cert.HalvesKernel.τ Cert.HalvesKernel.sig) → Buf (Elt Bits) ℓ) : Prop :=
  True

def Pre_HalvesKernelIdeal (m : (ℓ : Loc Cert.HalvesKernelIdeal.nD Cert.HalvesKernelIdeal.τ Cert.HalvesKernelIdeal.sig) → Buf (Elt Ideal) ℓ) : Prop :=
  True

def Pre_HalvesReferenceIdeal (m : (ℓ : Loc Cert.HalvesReferenceIdeal.nD Cert.HalvesReferenceIdeal.τ Cert.HalvesReferenceIdeal.sig) → Buf (Elt Ideal) ℓ) : Prop :=
  True

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_UpHalvesKernel (m : (ℓ : Loc Cert.UpHalvesKernel.nD Cert.UpHalvesKernel.τ Cert.UpHalvesKernel.sig) → Buf (Elt Bits) ℓ) : Prop :=
  True

def Pre_UpHalvesKernelIdeal (m : (ℓ : Loc Cert.UpHalvesKernelIdeal.nD Cert.UpHalvesKernelIdeal.τ Cert.UpHalvesKernelIdeal.sig) → Buf (Elt Ideal) ℓ) : Prop :=
  True

def Pre_UpHalvesReferenceIdeal (m : (ℓ : Loc Cert.UpHalvesReferenceIdeal.nD Cert.UpHalvesReferenceIdeal.τ Cert.UpHalvesReferenceIdeal.sig) → Buf (Elt Ideal) ℓ) : Prop :=
  True

def Pre_InHalvesKernel (m : (ℓ : Loc Cert.InHalvesKernel.nD Cert.InHalvesKernel.τ Cert.InHalvesKernel.sig) → Buf (Elt Bits) ℓ) : Prop :=
  True

def Pre_InHalvesKernelIdeal (m : (ℓ : Loc Cert.InHalvesKernelIdeal.nD Cert.InHalvesKernelIdeal.τ Cert.InHalvesKernelIdeal.sig) → Buf (Elt Ideal) ℓ) : Prop :=
  True

def Pre_InHalvesReferenceIdeal (m : (ℓ : Loc Cert.InHalvesReferenceIdeal.nD Cert.InHalvesReferenceIdeal.τ Cert.InHalvesReferenceIdeal.sig) → Buf (Elt Ideal) ℓ) : Prop :=
  True

def Pre_RowHalvesKernel (m : (ℓ : Loc Cert.RowHalvesKernel.nD Cert.RowHalvesKernel.τ Cert.RowHalvesKernel.sig) → Buf (Elt Bits) ℓ) : Prop :=
  True

def Pre_RowHalvesKernelIdeal (m : (ℓ : Loc Cert.RowHalvesKernelIdeal.nD Cert.RowHalvesKernelIdeal.τ Cert.RowHalvesKernelIdeal.sig) → Buf (Elt Ideal) ℓ) : Prop :=
  True

def Pre_RowHalvesReferenceIdeal (m : (ℓ : Loc Cert.RowHalvesReferenceIdeal.nD Cert.RowHalvesReferenceIdeal.τ Cert.RowHalvesReferenceIdeal.sig) → Buf (Elt Ideal) ℓ) : Prop :=
  True

def Pre_SmallHalvesKernel (m : (ℓ : Loc Cert.SmallHalvesKernel.nD Cert.SmallHalvesKernel.τ Cert.SmallHalvesKernel.sig) → Buf (Elt Bits) ℓ) : Prop :=
  True

def Pre_SmallHalvesKernelIdeal (m : (ℓ : Loc Cert.SmallHalvesKernelIdeal.nD Cert.SmallHalvesKernelIdeal.τ Cert.SmallHalvesKernelIdeal.sig) → Buf (Elt Ideal) ℓ) : Prop :=
  True

def Pre_SmallHalvesReferenceIdeal (m : (ℓ : Loc Cert.SmallHalvesReferenceIdeal.nD Cert.SmallHalvesReferenceIdeal.τ Cert.SmallHalvesReferenceIdeal.sig) → Buf (Elt Ideal) ℓ) : Prop :=
  True

def Pre_LruBwdKernel (m : (ℓ : Loc Cert.LruBwdKernel.nD Cert.LruBwdKernel.τ Cert.LruBwdKernel.sig) → Buf (Elt Bits) ℓ) : Prop :=
  True

def Pre_LruBwdKernelIdeal (m : (ℓ : Loc Cert.LruBwdKernelIdeal.nD Cert.LruBwdKernelIdeal.τ Cert.LruBwdKernelIdeal.sig) → Buf (Elt Ideal) ℓ) : Prop :=
  True

def Pre_LruBwdReferenceIdeal (m : (ℓ : Loc Cert.LruBwdReferenceIdeal.nD Cert.LruBwdReferenceIdeal.τ Cert.LruBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_WgradKernel [hWgradKernel : Cert.WgradKernel.Facts] : Prop :=
  ∀ (m : (ℓ : Loc Cert.WgradKernel.nD Cert.WgradKernel.τ Cert.WgradKernel.sig) → Buf (Elt Bits) ℓ) (g : Dev Cert.WgradKernel.nD → PrngReg), Pre_WgradKernel m →
    θ_run (Cert.WgradKernel.defs (F := Bits)) (onTc (τ := Cert.WgradKernel.τ) (Cert.WgradKernel.main (F := Bits))) ⟨m, fun _ => 0, g⟩ (fun r => (∀ c : Dev Cert.WgradKernel.nD,
      r.2.mem ((c.tc : Thread Cert.WgradKernel.nD Cert.WgradKernel.τ).loc Cert.WgradKernel.main_arg0) = m ((c.tc : Thread Cert.WgradKernel.nD Cert.WgradKernel.τ).loc Cert.WgradKernel.main_arg0)
      ∧ r.2.mem ((c.tc : Thread Cert.WgradKernel.nD Cert.WgradKernel.τ).loc Cert.WgradKernel.main_arg1) = m ((c.tc : Thread Cert.WgradKernel.nD Cert.WgradKernel.τ).loc Cert.WgradKernel.main_arg1)
      ∧ r.2.mem ((c.tc : Thread Cert.WgradKernel.nD Cert.WgradKernel.τ).loc Cert.WgradKernel.main_arg2) = m ((c.tc : Thread Cert.WgradKernel.nD Cert.WgradKernel.τ).loc Cert.WgradKernel.main_arg2))
      ∧ r.2.sem = fun _ => 0)

def quiescent_WgradKernelIdeal [hWgradKernelIdeal : Cert.WgradKernelIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg), Pre_WgradKernelIdeal m →
    θ_run (Cert.WgradKernelIdeal.defs (F := Ideal)) (onTc (τ := Cert.WgradKernelIdeal.τ) (Cert.WgradKernelIdeal.main (F := Ideal))) ⟨m, fun _ => 0, g⟩ (fun r => (∀ c : Dev Cert.WgradKernelIdeal.nD,
      r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
      ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1)
      ∧ r.2.mem ((c.tc : Thread Cert.WgradKernelIdeal.nD Cert.WgradKernelIdeal.τ).loc Cert.WgradKernelIdeal.main_arg2) = m ((c.tc : Thread Cert.WgradKernelIdeal.nD Cert.WgradKernelIdeal.τ).loc Cert.WgradKernelIdeal.main_arg2))
      ∧ r.2.sem = fun _ => 0)

def quiescent_WgradReferenceIdeal [hWgradReferenceIdeal : Cert.WgradReferenceIdeal.Facts] : Prop :=
  ∀ (m : (ℓ : Loc Cert.WgradReferenceIdeal.nD Cert.WgradReferenceIdeal.τ Cert.WgradReferenceIdeal.sig) → Buf (Elt Ideal) ℓ) (g : Dev Cert.WgradReferenceIdeal.nD → PrngReg), Pre_WgradReferenceIdeal m →
    θ_run (Cert.WgradReferenceIdeal.defs (F := Ideal)) (onTc (τ := Cert.WgradReferenceIdeal.τ) (Cert.WgradReferenceIdeal.main (F := Ideal))) ⟨m, fun _ => 0, g⟩ (fun r => (∀ c : Dev Cert.WgradReferenceIdeal.nD,
      r.2.mem ((c.tc : Thread Cert.WgradReferenceIdeal.nD Cert.WgradReferenceIdeal.τ).loc Cert.WgradReferenceIdeal.main_arg0) = m ((c.tc : Thread Cert.WgradReferenceIdeal.nD Cert.WgradReferenceIdeal.τ).loc Cert.WgradReferenceIdeal.main_arg0)
      ∧ r.2.mem ((c.tc : Thread Cert.WgradReferenceIdeal.nD Cert.WgradReferenceIdeal.τ).loc Cert.WgradReferenceIdeal.main_arg1) = m ((c.tc : Thread Cert.WgradReferenceIdeal.nD Cert.WgradReferenceIdeal.τ).loc Cert.WgradReferenceIdeal.main_arg1)
      ∧ r.2.mem ((c.tc : Thread Cert.WgradReferenceIdeal.nD Cert.WgradReferenceIdeal.τ).loc Cert.WgradReferenceIdeal.main_arg2) = m ((c.tc : Thread Cert.WgradReferenceIdeal.nD Cert.WgradReferenceIdeal.τ).loc Cert.WgradReferenceIdeal.main_arg2))
      ∧ r.2.sem = fun _ => 0)

def quiescent_DgradKernel [hDgradKernel : Cert.DgradKernel.Facts] : Prop :=
  ∀ (m : (ℓ : Loc Cert.DgradKernel.nD Cert.DgradKernel.τ Cert.DgradKernel.sig) → Buf (Elt Bits) ℓ) (g : Dev Cert.DgradKernel.nD → PrngReg), Pre_DgradKernel m →
    θ_run (Cert.DgradKernel.defs (F := Bits)) (onTc (τ := Cert.DgradKernel.τ) (Cert.DgradKernel.main (F := Bits))) ⟨m, fun _ => 0, g⟩ (fun r => (∀ c : Dev Cert.DgradKernel.nD,
      r.2.mem ((c.tc : Thread Cert.DgradKernel.nD Cert.DgradKernel.τ).loc Cert.DgradKernel.main_arg0) = m ((c.tc : Thread Cert.DgradKernel.nD Cert.DgradKernel.τ).loc Cert.DgradKernel.main_arg0)
      ∧ r.2.mem ((c.tc : Thread Cert.DgradKernel.nD Cert.DgradKernel.τ).loc Cert.DgradKernel.main_arg1) = m ((c.tc : Thread Cert.DgradKernel.nD Cert.DgradKernel.τ).loc Cert.DgradKernel.main_arg1)
      ∧ r.2.mem ((c.tc : Thread Cert.DgradKernel.nD Cert.DgradKernel.τ).loc Cert.DgradKernel.main_arg2) = m ((c.tc : Thread Cert.DgradKernel.nD Cert.DgradKernel.τ).loc Cert.DgradKernel.main_arg2))
      ∧ r.2.sem = fun _ => 0)

def quiescent_DgradKernelIdeal [hDgradKernelIdeal : Cert.DgradKernelIdeal.Facts] : Prop :=
  ∀ (m : (ℓ : Loc Cert.DgradKernelIdeal.nD Cert.DgradKernelIdeal.τ Cert.DgradKernelIdeal.sig) → Buf (Elt Ideal) ℓ) (g : Dev Cert.DgradKernelIdeal.nD → PrngReg), Pre_DgradKernelIdeal m →
    θ_run (Cert.DgradKernelIdeal.defs (F := Ideal)) (onTc (τ := Cert.DgradKernelIdeal.τ) (Cert.DgradKernelIdeal.main (F := Ideal))) ⟨m, fun _ => 0, g⟩ (fun r => (∀ c : Dev Cert.DgradKernelIdeal.nD,
      r.2.mem ((c.tc : Thread Cert.DgradKernelIdeal.nD Cert.DgradKernelIdeal.τ).loc Cert.DgradKernelIdeal.main_arg0) = m ((c.tc : Thread Cert.DgradKernelIdeal.nD Cert.DgradKernelIdeal.τ).loc Cert.DgradKernelIdeal.main_arg0)
      ∧ r.2.mem ((c.tc : Thread Cert.DgradKernelIdeal.nD Cert.DgradKernelIdeal.τ).loc Cert.DgradKernelIdeal.main_arg1) = m ((c.tc : Thread Cert.DgradKernelIdeal.nD Cert.DgradKernelIdeal.τ).loc Cert.DgradKernelIdeal.main_arg1)
      ∧ r.2.mem ((c.tc : Thread Cert.DgradKernelIdeal.nD Cert.DgradKernelIdeal.τ).loc Cert.DgradKernelIdeal.main_arg2) = m ((c.tc : Thread Cert.DgradKernelIdeal.nD Cert.DgradKernelIdeal.τ).loc Cert.DgradKernelIdeal.main_arg2))
      ∧ r.2.sem = fun _ => 0)

def quiescent_DgradReferenceIdeal [hDgradReferenceIdeal : Cert.DgradReferenceIdeal.Facts] : Prop :=
  ∀ (m : (ℓ : Loc Cert.DgradReferenceIdeal.nD Cert.DgradReferenceIdeal.τ Cert.DgradReferenceIdeal.sig) → Buf (Elt Ideal) ℓ) (g : Dev Cert.DgradReferenceIdeal.nD → PrngReg), Pre_DgradReferenceIdeal m →
    θ_run (Cert.DgradReferenceIdeal.defs (F := Ideal)) (onTc (τ := Cert.DgradReferenceIdeal.τ) (Cert.DgradReferenceIdeal.main (F := Ideal))) ⟨m, fun _ => 0, g⟩ (fun r => (∀ c : Dev Cert.DgradReferenceIdeal.nD,
      r.2.mem ((c.tc : Thread Cert.DgradReferenceIdeal.nD Cert.DgradReferenceIdeal.τ).loc Cert.DgradReferenceIdeal.main_arg0) = m ((c.tc : Thread Cert.DgradReferenceIdeal.nD Cert.DgradReferenceIdeal.τ).loc Cert.DgradReferenceIdeal.main_arg0)
      ∧ r.2.mem ((c.tc : Thread Cert.DgradReferenceIdeal.nD Cert.DgradReferenceIdeal.τ).loc Cert.DgradReferenceIdeal.main_arg1) = m ((c.tc : Thread Cert.DgradReferenceIdeal.nD Cert.DgradReferenceIdeal.τ).loc Cert.DgradReferenceIdeal.main_arg1)
      ∧ r.2.mem ((c.tc : Thread Cert.DgradReferenceIdeal.nD Cert.DgradReferenceIdeal.τ).loc Cert.DgradReferenceIdeal.main_arg2) = m ((c.tc : Thread Cert.DgradReferenceIdeal.nD Cert.DgradReferenceIdeal.τ).loc Cert.DgradReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_ConvFwdKernel [hConvFwdKernel : Cert.ConvFwdKernel.Facts] : Prop :=
  ∀ (m : (ℓ : Loc Cert.ConvFwdKernel.nD Cert.ConvFwdKernel.τ Cert.ConvFwdKernel.sig) → Buf (Elt Bits) ℓ) (g : Dev Cert.ConvFwdKernel.nD → PrngReg), Pre_ConvFwdKernel m →
    θ_run (Cert.ConvFwdKernel.defs (F := Bits)) (onTc (τ := Cert.ConvFwdKernel.τ) (Cert.ConvFwdKernel.main (F := Bits))) ⟨m, fun _ => 0, g⟩ (fun r => (∀ c : Dev Cert.ConvFwdKernel.nD,
      r.2.mem ((c.tc : Thread Cert.ConvFwdKernel.nD Cert.ConvFwdKernel.τ).loc Cert.ConvFwdKernel.main_arg0) = m ((c.tc : Thread Cert.ConvFwdKernel.nD Cert.ConvFwdKernel.τ).loc Cert.ConvFwdKernel.main_arg0)
      ∧ r.2.mem ((c.tc : Thread Cert.ConvFwdKernel.nD Cert.ConvFwdKernel.τ).loc Cert.ConvFwdKernel.main_arg1) = m ((c.tc : Thread Cert.ConvFwdKernel.nD Cert.ConvFwdKernel.τ).loc Cert.ConvFwdKernel.main_arg1))
      ∧ r.2.sem = fun _ => 0)

def quiescent_ConvFwdKernelIdeal [hConvFwdKernelIdeal : Cert.ConvFwdKernelIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg), Pre_ConvFwdKernelIdeal m →
    θ_run (Cert.ConvFwdKernelIdeal.defs (F := Ideal)) (onTc (τ := Cert.ConvFwdKernelIdeal.τ) (Cert.ConvFwdKernelIdeal.main (F := Ideal))) ⟨m, fun _ => 0, g⟩ (fun r => (∀ c : Dev Cert.ConvFwdKernelIdeal.nD,
      r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
      ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_MergeBwdKernel [hMergeBwdKernel : Cert.MergeBwdKernel.Facts] : Prop :=
  ∀ (m : (ℓ : Loc Cert.MergeBwdKernel.nD Cert.MergeBwdKernel.τ Cert.MergeBwdKernel.sig) → Buf (Elt Bits) ℓ) (g : Dev Cert.MergeBwdKernel.nD → PrngReg), Pre_MergeBwdKernel m →
    θ_run (Cert.MergeBwdKernel.defs (F := Bits)) (onTc (τ := Cert.MergeBwdKernel.τ) (Cert.MergeBwdKernel.main (F := Bits))) ⟨m, fun _ => 0, g⟩ (fun r => (∀ c : Dev Cert.MergeBwdKernel.nD,
      r.2.mem ((c.tc : Thread Cert.MergeBwdKernel.nD Cert.MergeBwdKernel.τ).loc Cert.MergeBwdKernel.main_arg0) = m ((c.tc : Thread Cert.MergeBwdKernel.nD Cert.MergeBwdKernel.τ).loc Cert.MergeBwdKernel.main_arg0)
      ∧ r.2.mem ((c.tc : Thread Cert.MergeBwdKernel.nD Cert.MergeBwdKernel.τ).loc Cert.MergeBwdKernel.main_arg1) = m ((c.tc : Thread Cert.MergeBwdKernel.nD Cert.MergeBwdKernel.τ).loc Cert.MergeBwdKernel.main_arg1)
      ∧ r.2.mem ((c.tc : Thread Cert.MergeBwdKernel.nD Cert.MergeBwdKernel.τ).loc Cert.MergeBwdKernel.main_arg2) = m ((c.tc : Thread Cert.MergeBwdKernel.nD Cert.MergeBwdKernel.τ).loc Cert.MergeBwdKernel.main_arg2)
      ∧ r.2.mem ((c.tc : Thread Cert.MergeBwdKernel.nD Cert.MergeBwdKernel.τ).loc Cert.MergeBwdKernel.main_arg3) = m ((c.tc : Thread Cert.MergeBwdKernel.nD Cert.MergeBwdKernel.τ).loc Cert.MergeBwdKernel.main_arg3)
      ∧ r.2.mem ((c.tc : Thread Cert.MergeBwdKernel.nD Cert.MergeBwdKernel.τ).loc Cert.MergeBwdKernel.main_arg4) = m ((c.tc : Thread Cert.MergeBwdKernel.nD Cert.MergeBwdKernel.τ).loc Cert.MergeBwdKernel.main_arg4))
      ∧ r.2.sem = fun _ => 0)

def quiescent_MergeBwdKernelIdeal [hMergeBwdKernelIdeal : Cert.MergeBwdKernelIdeal.Facts] : Prop :=
  ∀ (m : (ℓ : Loc Cert.MergeBwdKernelIdeal.nD Cert.MergeBwdKernelIdeal.τ Cert.MergeBwdKernelIdeal.sig) → Buf (Elt Ideal) ℓ) (g : Dev Cert.MergeBwdKernelIdeal.nD → PrngReg), Pre_MergeBwdKernelIdeal m →
    θ_run (Cert.MergeBwdKernelIdeal.defs (F := Ideal)) (onTc (τ := Cert.MergeBwdKernelIdeal.τ) (Cert.MergeBwdKernelIdeal.main (F := Ideal))) ⟨m, fun _ => 0, g⟩ (fun r => (∀ c : Dev Cert.MergeBwdKernelIdeal.nD,
      r.2.mem ((c.tc : Thread Cert.MergeBwdKernelIdeal.nD Cert.MergeBwdKernelIdeal.τ).loc Cert.MergeBwdKernelIdeal.main_arg0) = m ((c.tc : Thread Cert.MergeBwdKernelIdeal.nD Cert.MergeBwdKernelIdeal.τ).loc Cert.MergeBwdKernelIdeal.main_arg0)
      ∧ r.2.mem ((c.tc : Thread Cert.MergeBwdKernelIdeal.nD Cert.MergeBwdKernelIdeal.τ).loc Cert.MergeBwdKernelIdeal.main_arg1) = m ((c.tc : Thread Cert.MergeBwdKernelIdeal.nD Cert.MergeBwdKernelIdeal.τ).loc Cert.MergeBwdKernelIdeal.main_arg1)
      ∧ r.2.mem ((c.tc : Thread Cert.MergeBwdKernelIdeal.nD Cert.MergeBwdKernelIdeal.τ).loc Cert.MergeBwdKernelIdeal.main_arg2) = m ((c.tc : Thread Cert.MergeBwdKernelIdeal.nD Cert.MergeBwdKernelIdeal.τ).loc Cert.MergeBwdKernelIdeal.main_arg2)
      ∧ r.2.mem ((c.tc : Thread Cert.MergeBwdKernelIdeal.nD Cert.MergeBwdKernelIdeal.τ).loc Cert.MergeBwdKernelIdeal.main_arg3) = m ((c.tc : Thread Cert.MergeBwdKernelIdeal.nD Cert.MergeBwdKernelIdeal.τ).loc Cert.MergeBwdKernelIdeal.main_arg3)
      ∧ r.2.mem ((c.tc : Thread Cert.MergeBwdKernelIdeal.nD Cert.MergeBwdKernelIdeal.τ).loc Cert.MergeBwdKernelIdeal.main_arg4) = m ((c.tc : Thread Cert.MergeBwdKernelIdeal.nD Cert.MergeBwdKernelIdeal.τ).loc Cert.MergeBwdKernelIdeal.main_arg4))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3)
      ∧ r.2.mem ((c.tc : Thread Cert.MergeBwdReferenceIdeal.nD Cert.MergeBwdReferenceIdeal.τ).loc Cert.MergeBwdReferenceIdeal.main_arg4) = m ((c.tc : Thread Cert.MergeBwdReferenceIdeal.nD Cert.MergeBwdReferenceIdeal.τ).loc Cert.MergeBwdReferenceIdeal.main_arg4))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_NormBwdKernel [hNormBwdKernel : Cert.NormBwdKernel.Facts] : Prop :=
  ∀ (m : (ℓ : Loc Cert.NormBwdKernel.nD Cert.NormBwdKernel.τ Cert.NormBwdKernel.sig) → Buf (Elt Bits) ℓ) (g : Dev Cert.NormBwdKernel.nD → PrngReg), Pre_NormBwdKernel m →
    θ_run (Cert.NormBwdKernel.defs (F := Bits)) (onTc (τ := Cert.NormBwdKernel.τ) (Cert.NormBwdKernel.main (F := Bits))) ⟨m, fun _ => 0, g⟩ (fun r => (∀ c : Dev Cert.NormBwdKernel.nD,
      r.2.mem ((c.tc : Thread Cert.NormBwdKernel.nD Cert.NormBwdKernel.τ).loc Cert.NormBwdKernel.main_arg0) = m ((c.tc : Thread Cert.NormBwdKernel.nD Cert.NormBwdKernel.τ).loc Cert.NormBwdKernel.main_arg0)
      ∧ r.2.mem ((c.tc : Thread Cert.NormBwdKernel.nD Cert.NormBwdKernel.τ).loc Cert.NormBwdKernel.main_arg1) = m ((c.tc : Thread Cert.NormBwdKernel.nD Cert.NormBwdKernel.τ).loc Cert.NormBwdKernel.main_arg1)
      ∧ r.2.mem ((c.tc : Thread Cert.NormBwdKernel.nD Cert.NormBwdKernel.τ).loc Cert.NormBwdKernel.main_arg2) = m ((c.tc : Thread Cert.NormBwdKernel.nD Cert.NormBwdKernel.τ).loc Cert.NormBwdKernel.main_arg2)
      ∧ r.2.mem ((c.tc : Thread Cert.NormBwdKernel.nD Cert.NormBwdKernel.τ).loc Cert.NormBwdKernel.main_arg3) = m ((c.tc : Thread Cert.NormBwdKernel.nD Cert.NormBwdKernel.τ).loc Cert.NormBwdKernel.main_arg3))
      ∧ r.2.sem = fun _ => 0)

def quiescent_NormBwdKernelIdeal [hNormBwdKernelIdeal : Cert.NormBwdKernelIdeal.Facts] : Prop :=
  ∀ (m : (ℓ : Loc Cert.NormBwdKernelIdeal.nD Cert.NormBwdKernelIdeal.τ Cert.NormBwdKernelIdeal.sig) → Buf (Elt Ideal) ℓ) (g : Dev Cert.NormBwdKernelIdeal.nD → PrngReg), Pre_NormBwdKernelIdeal m →
    θ_run (Cert.NormBwdKernelIdeal.defs (F := Ideal)) (onTc (τ := Cert.NormBwdKernelIdeal.τ) (Cert.NormBwdKernelIdeal.main (F := Ideal))) ⟨m, fun _ => 0, g⟩ (fun r => (∀ c : Dev Cert.NormBwdKernelIdeal.nD,
      r.2.mem ((c.tc : Thread Cert.NormBwdKernelIdeal.nD Cert.NormBwdKernelIdeal.τ).loc Cert.NormBwdKernelIdeal.main_arg0) = m ((c.tc : Thread Cert.NormBwdKernelIdeal.nD Cert.NormBwdKernelIdeal.τ).loc Cert.NormBwdKernelIdeal.main_arg0)
      ∧ r.2.mem ((c.tc : Thread Cert.NormBwdKernelIdeal.nD Cert.NormBwdKernelIdeal.τ).loc Cert.NormBwdKernelIdeal.main_arg1) = m ((c.tc : Thread Cert.NormBwdKernelIdeal.nD Cert.NormBwdKernelIdeal.τ).loc Cert.NormBwdKernelIdeal.main_arg1)
      ∧ r.2.mem ((c.tc : Thread Cert.NormBwdKernelIdeal.nD Cert.NormBwdKernelIdeal.τ).loc Cert.NormBwdKernelIdeal.main_arg2) = m ((c.tc : Thread Cert.NormBwdKernelIdeal.nD Cert.NormBwdKernelIdeal.τ).loc Cert.NormBwdKernelIdeal.main_arg2)
      ∧ r.2.mem ((c.tc : Thread Cert.NormBwdKernelIdeal.nD Cert.NormBwdKernelIdeal.τ).loc Cert.NormBwdKernelIdeal.main_arg3) = m ((c.tc : Thread Cert.NormBwdKernelIdeal.nD Cert.NormBwdKernelIdeal.τ).loc Cert.NormBwdKernelIdeal.main_arg3))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3))
      ∧ r.2.sem = fun _ => 0)

def quiescent_MidBwdKernel [hMidBwdKernel : Cert.MidBwdKernel.Facts] : Prop :=
  ∀ (m : (ℓ : Loc Cert.MidBwdKernel.nD Cert.MidBwdKernel.τ Cert.MidBwdKernel.sig) → Buf (Elt Bits) ℓ) (g : Dev Cert.MidBwdKernel.nD → PrngReg), Pre_MidBwdKernel m →
    θ_run (Cert.MidBwdKernel.defs (F := Bits)) (onTc (τ := Cert.MidBwdKernel.τ) (Cert.MidBwdKernel.main (F := Bits))) ⟨m, fun _ => 0, g⟩ (fun r => (∀ c : Dev Cert.MidBwdKernel.nD,
      r.2.mem ((c.tc : Thread Cert.MidBwdKernel.nD Cert.MidBwdKernel.τ).loc Cert.MidBwdKernel.main_arg0) = m ((c.tc : Thread Cert.MidBwdKernel.nD Cert.MidBwdKernel.τ).loc Cert.MidBwdKernel.main_arg0)
      ∧ r.2.mem ((c.tc : Thread Cert.MidBwdKernel.nD Cert.MidBwdKernel.τ).loc Cert.MidBwdKernel.main_arg1) = m ((c.tc : Thread Cert.MidBwdKernel.nD Cert.MidBwdKernel.τ).loc Cert.MidBwdKernel.main_arg1)
      ∧ r.2.mem ((c.tc : Thread Cert.MidBwdKernel.nD Cert.MidBwdKernel.τ).loc Cert.MidBwdKernel.main_arg2) = m ((c.tc : Thread Cert.MidBwdKernel.nD Cert.MidBwdKernel.τ).loc Cert.MidBwdKernel.main_arg2)
      ∧ r.2.mem ((c.tc : Thread Cert.MidBwdKernel.nD Cert.MidBwdKernel.τ).loc Cert.MidBwdKernel.main_arg3) = m ((c.tc : Thread Cert.MidBwdKernel.nD Cert.MidBwdKernel.τ).loc Cert.MidBwdKernel.main_arg3)
      ∧ r.2.mem ((c.tc : Thread Cert.MidBwdKernel.nD Cert.MidBwdKernel.τ).loc Cert.MidBwdKernel.main_arg4) = m ((c.tc : Thread Cert.MidBwdKernel.nD Cert.MidBwdKernel.τ).loc Cert.MidBwdKernel.main_arg4)
      ∧ r.2.mem ((c.tc : Thread Cert.MidBwdKernel.nD Cert.MidBwdKernel.τ).loc Cert.MidBwdKernel.main_arg5) = m ((c.tc : Thread Cert.MidBwdKernel.nD Cert.MidBwdKernel.τ).loc Cert.MidBwdKernel.main_arg5))
      ∧ r.2.sem = fun _ => 0)

def quiescent_MidBwdKernelIdeal [hMidBwdKernelIdeal : Cert.MidBwdKernelIdeal.Facts] : Prop :=
  ∀ (m : (ℓ : Loc Cert.MidBwdKernelIdeal.nD Cert.MidBwdKernelIdeal.τ Cert.MidBwdKernelIdeal.sig) → Buf (Elt Ideal) ℓ) (g : Dev Cert.MidBwdKernelIdeal.nD → PrngReg), Pre_MidBwdKernelIdeal m →
    θ_run (Cert.MidBwdKernelIdeal.defs (F := Ideal)) (onTc (τ := Cert.MidBwdKernelIdeal.τ) (Cert.MidBwdKernelIdeal.main (F := Ideal))) ⟨m, fun _ => 0, g⟩ (fun r => (∀ c : Dev Cert.MidBwdKernelIdeal.nD,
      r.2.mem ((c.tc : Thread Cert.MidBwdKernelIdeal.nD Cert.MidBwdKernelIdeal.τ).loc Cert.MidBwdKernelIdeal.main_arg0) = m ((c.tc : Thread Cert.MidBwdKernelIdeal.nD Cert.MidBwdKernelIdeal.τ).loc Cert.MidBwdKernelIdeal.main_arg0)
      ∧ r.2.mem ((c.tc : Thread Cert.MidBwdKernelIdeal.nD Cert.MidBwdKernelIdeal.τ).loc Cert.MidBwdKernelIdeal.main_arg1) = m ((c.tc : Thread Cert.MidBwdKernelIdeal.nD Cert.MidBwdKernelIdeal.τ).loc Cert.MidBwdKernelIdeal.main_arg1)
      ∧ r.2.mem ((c.tc : Thread Cert.MidBwdKernelIdeal.nD Cert.MidBwdKernelIdeal.τ).loc Cert.MidBwdKernelIdeal.main_arg2) = m ((c.tc : Thread Cert.MidBwdKernelIdeal.nD Cert.MidBwdKernelIdeal.τ).loc Cert.MidBwdKernelIdeal.main_arg2)
      ∧ r.2.mem ((c.tc : Thread Cert.MidBwdKernelIdeal.nD Cert.MidBwdKernelIdeal.τ).loc Cert.MidBwdKernelIdeal.main_arg3) = m ((c.tc : Thread Cert.MidBwdKernelIdeal.nD Cert.MidBwdKernelIdeal.τ).loc Cert.MidBwdKernelIdeal.main_arg3)
      ∧ r.2.mem ((c.tc : Thread Cert.MidBwdKernelIdeal.nD Cert.MidBwdKernelIdeal.τ).loc Cert.MidBwdKernelIdeal.main_arg4) = m ((c.tc : Thread Cert.MidBwdKernelIdeal.nD Cert.MidBwdKernelIdeal.τ).loc Cert.MidBwdKernelIdeal.main_arg4)
      ∧ r.2.mem ((c.tc : Thread Cert.MidBwdKernelIdeal.nD Cert.MidBwdKernelIdeal.τ).loc Cert.MidBwdKernelIdeal.main_arg5) = m ((c.tc : Thread Cert.MidBwdKernelIdeal.nD Cert.MidBwdKernelIdeal.τ).loc Cert.MidBwdKernelIdeal.main_arg5))
      ∧ r.2.sem = fun _ => 0)

def quiescent_MidBwdReferenceIdeal [hMidBwdReferenceIdeal : Cert.MidBwdReferenceIdeal.Facts] : Prop :=
  ∀ (m : (ℓ : Loc Cert.MidBwdReferenceIdeal.nD Cert.MidBwdReferenceIdeal.τ Cert.MidBwdReferenceIdeal.sig) → Buf (Elt Ideal) ℓ) (g : Dev Cert.MidBwdReferenceIdeal.nD → PrngReg), Pre_MidBwdReferenceIdeal m →
    θ_run (Cert.MidBwdReferenceIdeal.defs (F := Ideal)) (onTc (τ := Cert.MidBwdReferenceIdeal.τ) (Cert.MidBwdReferenceIdeal.main (F := Ideal))) ⟨m, fun _ => 0, g⟩ (fun r => (∀ c : Dev Cert.MidBwdReferenceIdeal.nD,
      r.2.mem ((c.tc : Thread Cert.MidBwdReferenceIdeal.nD Cert.MidBwdReferenceIdeal.τ).loc Cert.MidBwdReferenceIdeal.main_arg0) = m ((c.tc : Thread Cert.MidBwdReferenceIdeal.nD Cert.MidBwdReferenceIdeal.τ).loc Cert.MidBwdReferenceIdeal.main_arg0)
      ∧ r.2.mem ((c.tc : Thread Cert.MidBwdReferenceIdeal.nD Cert.MidBwdReferenceIdeal.τ).loc Cert.MidBwdReferenceIdeal.main_arg1) = m ((c.tc : Thread Cert.MidBwdReferenceIdeal.nD Cert.MidBwdReferenceIdeal.τ).loc Cert.MidBwdReferenceIdeal.main_arg1)
      ∧ r.2.mem ((c.tc : Thread Cert.MidBwdReferenceIdeal.nD Cert.MidBwdReferenceIdeal.τ).loc Cert.MidBwdReferenceIdeal.main_arg2) = m ((c.tc : Thread Cert.MidBwdReferenceIdeal.nD Cert.MidBwdReferenceIdeal.τ).loc Cert.MidBwdReferenceIdeal.main_arg2)
      ∧ r.2.mem ((c.tc : Thread Cert.MidBwdReferenceIdeal.nD Cert.MidBwdReferenceIdeal.τ).loc Cert.MidBwdReferenceIdeal.main_arg3) = m ((c.tc : Thread Cert.MidBwdReferenceIdeal.nD Cert.MidBwdReferenceIdeal.τ).loc Cert.MidBwdReferenceIdeal.main_arg3)
      ∧ r.2.mem ((c.tc : Thread Cert.MidBwdReferenceIdeal.nD Cert.MidBwdReferenceIdeal.τ).loc Cert.MidBwdReferenceIdeal.main_arg4) = m ((c.tc : Thread Cert.MidBwdReferenceIdeal.nD Cert.MidBwdReferenceIdeal.τ).loc Cert.MidBwdReferenceIdeal.main_arg4)
      ∧ r.2.mem ((c.tc : Thread Cert.MidBwdReferenceIdeal.nD Cert.MidBwdReferenceIdeal.τ).loc Cert.MidBwdReferenceIdeal.main_arg5) = m ((c.tc : Thread Cert.MidBwdReferenceIdeal.nD Cert.MidBwdReferenceIdeal.τ).loc Cert.MidBwdReferenceIdeal.main_arg5))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_HalvesKernel [hHalvesKernel : Cert.HalvesKernel.Facts] : Prop :=
  ∀ (m : (ℓ : Loc Cert.HalvesKernel.nD Cert.HalvesKernel.τ Cert.HalvesKernel.sig) → Buf (Elt Bits) ℓ) (g : Dev Cert.HalvesKernel.nD → PrngReg), Pre_HalvesKernel m →
    θ_run (Cert.HalvesKernel.defs (F := Bits)) (onTc (τ := Cert.HalvesKernel.τ) (Cert.HalvesKernel.main (F := Bits))) ⟨m, fun _ => 0, g⟩ (fun r => (∀ c : Dev Cert.HalvesKernel.nD,
      r.2.mem ((c.tc : Thread Cert.HalvesKernel.nD Cert.HalvesKernel.τ).loc Cert.HalvesKernel.main_arg0) = m ((c.tc : Thread Cert.HalvesKernel.nD Cert.HalvesKernel.τ).loc Cert.HalvesKernel.main_arg0)
      ∧ r.2.mem ((c.tc : Thread Cert.HalvesKernel.nD Cert.HalvesKernel.τ).loc Cert.HalvesKernel.main_arg1) = m ((c.tc : Thread Cert.HalvesKernel.nD Cert.HalvesKernel.τ).loc Cert.HalvesKernel.main_arg1)
      ∧ r.2.mem ((c.tc : Thread Cert.HalvesKernel.nD Cert.HalvesKernel.τ).loc Cert.HalvesKernel.main_arg2) = m ((c.tc : Thread Cert.HalvesKernel.nD Cert.HalvesKernel.τ).loc Cert.HalvesKernel.main_arg2)
      ∧ r.2.mem ((c.tc : Thread Cert.HalvesKernel.nD Cert.HalvesKernel.τ).loc Cert.HalvesKernel.main_arg3) = m ((c.tc : Thread Cert.HalvesKernel.nD Cert.HalvesKernel.τ).loc Cert.HalvesKernel.main_arg3)
      ∧ r.2.mem ((c.tc : Thread Cert.HalvesKernel.nD Cert.HalvesKernel.τ).loc Cert.HalvesKernel.main_arg4) = m ((c.tc : Thread Cert.HalvesKernel.nD Cert.HalvesKernel.τ).loc Cert.HalvesKernel.main_arg4)
      ∧ r.2.mem ((c.tc : Thread Cert.HalvesKernel.nD Cert.HalvesKernel.τ).loc Cert.HalvesKernel.main_arg5) = m ((c.tc : Thread Cert.HalvesKernel.nD Cert.HalvesKernel.τ).loc Cert.HalvesKernel.main_arg5))
      ∧ r.2.sem = fun _ => 0)

def quiescent_HalvesKernelIdeal [hHalvesKernelIdeal : Cert.HalvesKernelIdeal.Facts] : Prop :=
  ∀ (m : (ℓ : Loc Cert.HalvesKernelIdeal.nD Cert.HalvesKernelIdeal.τ Cert.HalvesKernelIdeal.sig) → Buf (Elt Ideal) ℓ) (g : Dev Cert.HalvesKernelIdeal.nD → PrngReg), Pre_HalvesKernelIdeal m →
    θ_run (Cert.HalvesKernelIdeal.defs (F := Ideal)) (onTc (τ := Cert.HalvesKernelIdeal.τ) (Cert.HalvesKernelIdeal.main (F := Ideal))) ⟨m, fun _ => 0, g⟩ (fun r => (∀ c : Dev Cert.HalvesKernelIdeal.nD,
      r.2.mem ((c.tc : Thread Cert.HalvesKernelIdeal.nD Cert.HalvesKernelIdeal.τ).loc Cert.HalvesKernelIdeal.main_arg0) = m ((c.tc : Thread Cert.HalvesKernelIdeal.nD Cert.HalvesKernelIdeal.τ).loc Cert.HalvesKernelIdeal.main_arg0)
      ∧ r.2.mem ((c.tc : Thread Cert.HalvesKernelIdeal.nD Cert.HalvesKernelIdeal.τ).loc Cert.HalvesKernelIdeal.main_arg1) = m ((c.tc : Thread Cert.HalvesKernelIdeal.nD Cert.HalvesKernelIdeal.τ).loc Cert.HalvesKernelIdeal.main_arg1)
      ∧ r.2.mem ((c.tc : Thread Cert.HalvesKernelIdeal.nD Cert.HalvesKernelIdeal.τ).loc Cert.HalvesKernelIdeal.main_arg2) = m ((c.tc : Thread Cert.HalvesKernelIdeal.nD Cert.HalvesKernelIdeal.τ).loc Cert.HalvesKernelIdeal.main_arg2)
      ∧ r.2.mem ((c.tc : Thread Cert.HalvesKernelIdeal.nD Cert.HalvesKernelIdeal.τ).loc Cert.HalvesKernelIdeal.main_arg3) = m ((c.tc : Thread Cert.HalvesKernelIdeal.nD Cert.HalvesKernelIdeal.τ).loc Cert.HalvesKernelIdeal.main_arg3)
      ∧ r.2.mem ((c.tc : Thread Cert.HalvesKernelIdeal.nD Cert.HalvesKernelIdeal.τ).loc Cert.HalvesKernelIdeal.main_arg4) = m ((c.tc : Thread Cert.HalvesKernelIdeal.nD Cert.HalvesKernelIdeal.τ).loc Cert.HalvesKernelIdeal.main_arg4)
      ∧ r.2.mem ((c.tc : Thread Cert.HalvesKernelIdeal.nD Cert.HalvesKernelIdeal.τ).loc Cert.HalvesKernelIdeal.main_arg5) = m ((c.tc : Thread Cert.HalvesKernelIdeal.nD Cert.HalvesKernelIdeal.τ).loc Cert.HalvesKernelIdeal.main_arg5))
      ∧ r.2.sem = fun _ => 0)

def quiescent_HalvesReferenceIdeal [hHalvesReferenceIdeal : Cert.HalvesReferenceIdeal.Facts] : Prop :=
  ∀ (m : (ℓ : Loc Cert.HalvesReferenceIdeal.nD Cert.HalvesReferenceIdeal.τ Cert.HalvesReferenceIdeal.sig) → Buf (Elt Ideal) ℓ) (g : Dev Cert.HalvesReferenceIdeal.nD → PrngReg), Pre_HalvesReferenceIdeal m →
    θ_run (Cert.HalvesReferenceIdeal.defs (F := Ideal)) (onTc (τ := Cert.HalvesReferenceIdeal.τ) (Cert.HalvesReferenceIdeal.main (F := Ideal))) ⟨m, fun _ => 0, g⟩ (fun r => (∀ c : Dev Cert.HalvesReferenceIdeal.nD,
      r.2.mem ((c.tc : Thread Cert.HalvesReferenceIdeal.nD Cert.HalvesReferenceIdeal.τ).loc Cert.HalvesReferenceIdeal.main_arg0) = m ((c.tc : Thread Cert.HalvesReferenceIdeal.nD Cert.HalvesReferenceIdeal.τ).loc Cert.HalvesReferenceIdeal.main_arg0)
      ∧ r.2.mem ((c.tc : Thread Cert.HalvesReferenceIdeal.nD Cert.HalvesReferenceIdeal.τ).loc Cert.HalvesReferenceIdeal.main_arg1) = m ((c.tc : Thread Cert.HalvesReferenceIdeal.nD Cert.HalvesReferenceIdeal.τ).loc Cert.HalvesReferenceIdeal.main_arg1)
      ∧ r.2.mem ((c.tc : Thread Cert.HalvesReferenceIdeal.nD Cert.HalvesReferenceIdeal.τ).loc Cert.HalvesReferenceIdeal.main_arg2) = m ((c.tc : Thread Cert.HalvesReferenceIdeal.nD Cert.HalvesReferenceIdeal.τ).loc Cert.HalvesReferenceIdeal.main_arg2)
      ∧ r.2.mem ((c.tc : Thread Cert.HalvesReferenceIdeal.nD Cert.HalvesReferenceIdeal.τ).loc Cert.HalvesReferenceIdeal.main_arg3) = m ((c.tc : Thread Cert.HalvesReferenceIdeal.nD Cert.HalvesReferenceIdeal.τ).loc Cert.HalvesReferenceIdeal.main_arg3)
      ∧ r.2.mem ((c.tc : Thread Cert.HalvesReferenceIdeal.nD Cert.HalvesReferenceIdeal.τ).loc Cert.HalvesReferenceIdeal.main_arg4) = m ((c.tc : Thread Cert.HalvesReferenceIdeal.nD Cert.HalvesReferenceIdeal.τ).loc Cert.HalvesReferenceIdeal.main_arg4)
      ∧ r.2.mem ((c.tc : Thread Cert.HalvesReferenceIdeal.nD Cert.HalvesReferenceIdeal.τ).loc Cert.HalvesReferenceIdeal.main_arg5) = m ((c.tc : Thread Cert.HalvesReferenceIdeal.nD Cert.HalvesReferenceIdeal.τ).loc Cert.HalvesReferenceIdeal.main_arg5))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_UpHalvesKernel [hUpHalvesKernel : Cert.UpHalvesKernel.Facts] : Prop :=
  ∀ (m : (ℓ : Loc Cert.UpHalvesKernel.nD Cert.UpHalvesKernel.τ Cert.UpHalvesKernel.sig) → Buf (Elt Bits) ℓ) (g : Dev Cert.UpHalvesKernel.nD → PrngReg), Pre_UpHalvesKernel m →
    θ_run (Cert.UpHalvesKernel.defs (F := Bits)) (onTc (τ := Cert.UpHalvesKernel.τ) (Cert.UpHalvesKernel.main (F := Bits))) ⟨m, fun _ => 0, g⟩ (fun r => (∀ c : Dev Cert.UpHalvesKernel.nD,
      r.2.mem ((c.tc : Thread Cert.UpHalvesKernel.nD Cert.UpHalvesKernel.τ).loc Cert.UpHalvesKernel.main_arg0) = m ((c.tc : Thread Cert.UpHalvesKernel.nD Cert.UpHalvesKernel.τ).loc Cert.UpHalvesKernel.main_arg0)
      ∧ r.2.mem ((c.tc : Thread Cert.UpHalvesKernel.nD Cert.UpHalvesKernel.τ).loc Cert.UpHalvesKernel.main_arg1) = m ((c.tc : Thread Cert.UpHalvesKernel.nD Cert.UpHalvesKernel.τ).loc Cert.UpHalvesKernel.main_arg1)
      ∧ r.2.mem ((c.tc : Thread Cert.UpHalvesKernel.nD Cert.UpHalvesKernel.τ).loc Cert.UpHalvesKernel.main_arg2) = m ((c.tc : Thread Cert.UpHalvesKernel.nD Cert.UpHalvesKernel.τ).loc Cert.UpHalvesKernel.main_arg2)
      ∧ r.2.mem ((c.tc : Thread Cert.UpHalvesKernel.nD Cert.UpHalvesKernel.τ).loc Cert.UpHalvesKernel.main_arg3) = m ((c.tc : Thread Cert.UpHalvesKernel.nD Cert.UpHalvesKernel.τ).loc Cert.UpHalvesKernel.main_arg3)
      ∧ r.2.mem ((c.tc : Thread Cert.UpHalvesKernel.nD Cert.UpHalvesKernel.τ).loc Cert.UpHalvesKernel.main_arg4) = m ((c.tc : Thread Cert.UpHalvesKernel.nD Cert.UpHalvesKernel.τ).loc Cert.UpHalvesKernel.main_arg4)
      ∧ r.2.mem ((c.tc : Thread Cert.UpHalvesKernel.nD Cert.UpHalvesKernel.τ).loc Cert.UpHalvesKernel.main_arg5) = m ((c.tc : Thread Cert.UpHalvesKernel.nD Cert.UpHalvesKernel.τ).loc Cert.UpHalvesKernel.main_arg5))
      ∧ r.2.sem = fun _ => 0)

def quiescent_UpHalvesKernelIdeal [hUpHalvesKernelIdeal : Cert.UpHalvesKernelIdeal.Facts] : Prop :=
  ∀ (m : (ℓ : Loc Cert.UpHalvesKernelIdeal.nD Cert.UpHalvesKernelIdeal.τ Cert.UpHalvesKernelIdeal.sig) → Buf (Elt Ideal) ℓ) (g : Dev Cert.UpHalvesKernelIdeal.nD → PrngReg), Pre_UpHalvesKernelIdeal m →
    θ_run (Cert.UpHalvesKernelIdeal.defs (F := Ideal)) (onTc (τ := Cert.UpHalvesKernelIdeal.τ) (Cert.UpHalvesKernelIdeal.main (F := Ideal))) ⟨m, fun _ => 0, g⟩ (fun r => (∀ c : Dev Cert.UpHalvesKernelIdeal.nD,
      r.2.mem ((c.tc : Thread Cert.UpHalvesKernelIdeal.nD Cert.UpHalvesKernelIdeal.τ).loc Cert.UpHalvesKernelIdeal.main_arg0) = m ((c.tc : Thread Cert.UpHalvesKernelIdeal.nD Cert.UpHalvesKernelIdeal.τ).loc Cert.UpHalvesKernelIdeal.main_arg0)
      ∧ r.2.mem ((c.tc : Thread Cert.UpHalvesKernelIdeal.nD Cert.UpHalvesKernelIdeal.τ).loc Cert.UpHalvesKernelIdeal.main_arg1) = m ((c.tc : Thread Cert.UpHalvesKernelIdeal.nD Cert.UpHalvesKernelIdeal.τ).loc Cert.UpHalvesKernelIdeal.main_arg1)
      ∧ r.2.mem ((c.tc : Thread Cert.UpHalvesKernelIdeal.nD Cert.UpHalvesKernelIdeal.τ).loc Cert.UpHalvesKernelIdeal.main_arg2) = m ((c.tc : Thread Cert.UpHalvesKernelIdeal.nD Cert.UpHalvesKernelIdeal.τ).loc Cert.UpHalvesKernelIdeal.main_arg2)
      ∧ r.2.mem ((c.tc : Thread Cert.UpHalvesKernelIdeal.nD Cert.UpHalvesKernelIdeal.τ).loc Cert.UpHalvesKernelIdeal.main_arg3) = m ((c.tc : Thread Cert.UpHalvesKernelIdeal.nD Cert.UpHalvesKernelIdeal.τ).loc Cert.UpHalvesKernelIdeal.main_arg3)
      ∧ r.2.mem ((c.tc : Thread Cert.UpHalvesKernelIdeal.nD Cert.UpHalvesKernelIdeal.τ).loc Cert.UpHalvesKernelIdeal.main_arg4) = m ((c.tc : Thread Cert.UpHalvesKernelIdeal.nD Cert.UpHalvesKernelIdeal.τ).loc Cert.UpHalvesKernelIdeal.main_arg4)
      ∧ r.2.mem ((c.tc : Thread Cert.UpHalvesKernelIdeal.nD Cert.UpHalvesKernelIdeal.τ).loc Cert.UpHalvesKernelIdeal.main_arg5) = m ((c.tc : Thread Cert.UpHalvesKernelIdeal.nD Cert.UpHalvesKernelIdeal.τ).loc Cert.UpHalvesKernelIdeal.main_arg5))
      ∧ r.2.sem = fun _ => 0)

def quiescent_UpHalvesReferenceIdeal [hUpHalvesReferenceIdeal : Cert.UpHalvesReferenceIdeal.Facts] : Prop :=
  ∀ (m : (ℓ : Loc Cert.UpHalvesReferenceIdeal.nD Cert.UpHalvesReferenceIdeal.τ Cert.UpHalvesReferenceIdeal.sig) → Buf (Elt Ideal) ℓ) (g : Dev Cert.UpHalvesReferenceIdeal.nD → PrngReg), Pre_UpHalvesReferenceIdeal m →
    θ_run (Cert.UpHalvesReferenceIdeal.defs (F := Ideal)) (onTc (τ := Cert.UpHalvesReferenceIdeal.τ) (Cert.UpHalvesReferenceIdeal.main (F := Ideal))) ⟨m, fun _ => 0, g⟩ (fun r => (∀ c : Dev Cert.UpHalvesReferenceIdeal.nD,
      r.2.mem ((c.tc : Thread Cert.UpHalvesReferenceIdeal.nD Cert.UpHalvesReferenceIdeal.τ).loc Cert.UpHalvesReferenceIdeal.main_arg0) = m ((c.tc : Thread Cert.UpHalvesReferenceIdeal.nD Cert.UpHalvesReferenceIdeal.τ).loc Cert.UpHalvesReferenceIdeal.main_arg0)
      ∧ r.2.mem ((c.tc : Thread Cert.UpHalvesReferenceIdeal.nD Cert.UpHalvesReferenceIdeal.τ).loc Cert.UpHalvesReferenceIdeal.main_arg1) = m ((c.tc : Thread Cert.UpHalvesReferenceIdeal.nD Cert.UpHalvesReferenceIdeal.τ).loc Cert.UpHalvesReferenceIdeal.main_arg1)
      ∧ r.2.mem ((c.tc : Thread Cert.UpHalvesReferenceIdeal.nD Cert.UpHalvesReferenceIdeal.τ).loc Cert.UpHalvesReferenceIdeal.main_arg2) = m ((c.tc : Thread Cert.UpHalvesReferenceIdeal.nD Cert.UpHalvesReferenceIdeal.τ).loc Cert.UpHalvesReferenceIdeal.main_arg2)
      ∧ r.2.mem ((c.tc : Thread Cert.UpHalvesReferenceIdeal.nD Cert.UpHalvesReferenceIdeal.τ).loc Cert.UpHalvesReferenceIdeal.main_arg3) = m ((c.tc : Thread Cert.UpHalvesReferenceIdeal.nD Cert.UpHalvesReferenceIdeal.τ).loc Cert.UpHalvesReferenceIdeal.main_arg3)
      ∧ r.2.mem ((c.tc : Thread Cert.UpHalvesReferenceIdeal.nD Cert.UpHalvesReferenceIdeal.τ).loc Cert.UpHalvesReferenceIdeal.main_arg4) = m ((c.tc : Thread Cert.UpHalvesReferenceIdeal.nD Cert.UpHalvesReferenceIdeal.τ).loc Cert.UpHalvesReferenceIdeal.main_arg4)
      ∧ r.2.mem ((c.tc : Thread Cert.UpHalvesReferenceIdeal.nD Cert.UpHalvesReferenceIdeal.τ).loc Cert.UpHalvesReferenceIdeal.main_arg5) = m ((c.tc : Thread Cert.UpHalvesReferenceIdeal.nD Cert.UpHalvesReferenceIdeal.τ).loc Cert.UpHalvesReferenceIdeal.main_arg5))
      ∧ r.2.sem = fun _ => 0)

def quiescent_InHalvesKernel [hInHalvesKernel : Cert.InHalvesKernel.Facts] : Prop :=
  ∀ (m : (ℓ : Loc Cert.InHalvesKernel.nD Cert.InHalvesKernel.τ Cert.InHalvesKernel.sig) → Buf (Elt Bits) ℓ) (g : Dev Cert.InHalvesKernel.nD → PrngReg), Pre_InHalvesKernel m →
    θ_run (Cert.InHalvesKernel.defs (F := Bits)) (onTc (τ := Cert.InHalvesKernel.τ) (Cert.InHalvesKernel.main (F := Bits))) ⟨m, fun _ => 0, g⟩ (fun r => (∀ c : Dev Cert.InHalvesKernel.nD,
      r.2.mem ((c.tc : Thread Cert.InHalvesKernel.nD Cert.InHalvesKernel.τ).loc Cert.InHalvesKernel.main_arg0) = m ((c.tc : Thread Cert.InHalvesKernel.nD Cert.InHalvesKernel.τ).loc Cert.InHalvesKernel.main_arg0)
      ∧ r.2.mem ((c.tc : Thread Cert.InHalvesKernel.nD Cert.InHalvesKernel.τ).loc Cert.InHalvesKernel.main_arg1) = m ((c.tc : Thread Cert.InHalvesKernel.nD Cert.InHalvesKernel.τ).loc Cert.InHalvesKernel.main_arg1)
      ∧ r.2.mem ((c.tc : Thread Cert.InHalvesKernel.nD Cert.InHalvesKernel.τ).loc Cert.InHalvesKernel.main_arg2) = m ((c.tc : Thread Cert.InHalvesKernel.nD Cert.InHalvesKernel.τ).loc Cert.InHalvesKernel.main_arg2)
      ∧ r.2.mem ((c.tc : Thread Cert.InHalvesKernel.nD Cert.InHalvesKernel.τ).loc Cert.InHalvesKernel.main_arg3) = m ((c.tc : Thread Cert.InHalvesKernel.nD Cert.InHalvesKernel.τ).loc Cert.InHalvesKernel.main_arg3)
      ∧ r.2.mem ((c.tc : Thread Cert.InHalvesKernel.nD Cert.InHalvesKernel.τ).loc Cert.InHalvesKernel.main_arg4) = m ((c.tc : Thread Cert.InHalvesKernel.nD Cert.InHalvesKernel.τ).loc Cert.InHalvesKernel.main_arg4)
      ∧ r.2.mem ((c.tc : Thread Cert.InHalvesKernel.nD Cert.InHalvesKernel.τ).loc Cert.InHalvesKernel.main_arg5) = m ((c.tc : Thread Cert.InHalvesKernel.nD Cert.InHalvesKernel.τ).loc Cert.InHalvesKernel.main_arg5))
      ∧ r.2.sem = fun _ => 0)

def quiescent_InHalvesKernelIdeal [hInHalvesKernelIdeal : Cert.InHalvesKernelIdeal.Facts] : Prop :=
  ∀ (m : (ℓ : Loc Cert.InHalvesKernelIdeal.nD Cert.InHalvesKernelIdeal.τ Cert.InHalvesKernelIdeal.sig) → Buf (Elt Ideal) ℓ) (g : Dev Cert.InHalvesKernelIdeal.nD → PrngReg), Pre_InHalvesKernelIdeal m →
    θ_run (Cert.InHalvesKernelIdeal.defs (F := Ideal)) (onTc (τ := Cert.InHalvesKernelIdeal.τ) (Cert.InHalvesKernelIdeal.main (F := Ideal))) ⟨m, fun _ => 0, g⟩ (fun r => (∀ c : Dev Cert.InHalvesKernelIdeal.nD,
      r.2.mem ((c.tc : Thread Cert.InHalvesKernelIdeal.nD Cert.InHalvesKernelIdeal.τ).loc Cert.InHalvesKernelIdeal.main_arg0) = m ((c.tc : Thread Cert.InHalvesKernelIdeal.nD Cert.InHalvesKernelIdeal.τ).loc Cert.InHalvesKernelIdeal.main_arg0)
      ∧ r.2.mem ((c.tc : Thread Cert.InHalvesKernelIdeal.nD Cert.InHalvesKernelIdeal.τ).loc Cert.InHalvesKernelIdeal.main_arg1) = m ((c.tc : Thread Cert.InHalvesKernelIdeal.nD Cert.InHalvesKernelIdeal.τ).loc Cert.InHalvesKernelIdeal.main_arg1)
      ∧ r.2.mem ((c.tc : Thread Cert.InHalvesKernelIdeal.nD Cert.InHalvesKernelIdeal.τ).loc Cert.InHalvesKernelIdeal.main_arg2) = m ((c.tc : Thread Cert.InHalvesKernelIdeal.nD Cert.InHalvesKernelIdeal.τ).loc Cert.InHalvesKernelIdeal.main_arg2)
      ∧ r.2.mem ((c.tc : Thread Cert.InHalvesKernelIdeal.nD Cert.InHalvesKernelIdeal.τ).loc Cert.InHalvesKernelIdeal.main_arg3) = m ((c.tc : Thread Cert.InHalvesKernelIdeal.nD Cert.InHalvesKernelIdeal.τ).loc Cert.InHalvesKernelIdeal.main_arg3)
      ∧ r.2.mem ((c.tc : Thread Cert.InHalvesKernelIdeal.nD Cert.InHalvesKernelIdeal.τ).loc Cert.InHalvesKernelIdeal.main_arg4) = m ((c.tc : Thread Cert.InHalvesKernelIdeal.nD Cert.InHalvesKernelIdeal.τ).loc Cert.InHalvesKernelIdeal.main_arg4)
      ∧ r.2.mem ((c.tc : Thread Cert.InHalvesKernelIdeal.nD Cert.InHalvesKernelIdeal.τ).loc Cert.InHalvesKernelIdeal.main_arg5) = m ((c.tc : Thread Cert.InHalvesKernelIdeal.nD Cert.InHalvesKernelIdeal.τ).loc Cert.InHalvesKernelIdeal.main_arg5))
      ∧ r.2.sem = fun _ => 0)

def quiescent_InHalvesReferenceIdeal [hInHalvesReferenceIdeal : Cert.InHalvesReferenceIdeal.Facts] : Prop :=
  ∀ (m : (ℓ : Loc Cert.InHalvesReferenceIdeal.nD Cert.InHalvesReferenceIdeal.τ Cert.InHalvesReferenceIdeal.sig) → Buf (Elt Ideal) ℓ) (g : Dev Cert.InHalvesReferenceIdeal.nD → PrngReg), Pre_InHalvesReferenceIdeal m →
    θ_run (Cert.InHalvesReferenceIdeal.defs (F := Ideal)) (onTc (τ := Cert.InHalvesReferenceIdeal.τ) (Cert.InHalvesReferenceIdeal.main (F := Ideal))) ⟨m, fun _ => 0, g⟩ (fun r => (∀ c : Dev Cert.InHalvesReferenceIdeal.nD,
      r.2.mem ((c.tc : Thread Cert.InHalvesReferenceIdeal.nD Cert.InHalvesReferenceIdeal.τ).loc Cert.InHalvesReferenceIdeal.main_arg0) = m ((c.tc : Thread Cert.InHalvesReferenceIdeal.nD Cert.InHalvesReferenceIdeal.τ).loc Cert.InHalvesReferenceIdeal.main_arg0)
      ∧ r.2.mem ((c.tc : Thread Cert.InHalvesReferenceIdeal.nD Cert.InHalvesReferenceIdeal.τ).loc Cert.InHalvesReferenceIdeal.main_arg1) = m ((c.tc : Thread Cert.InHalvesReferenceIdeal.nD Cert.InHalvesReferenceIdeal.τ).loc Cert.InHalvesReferenceIdeal.main_arg1)
      ∧ r.2.mem ((c.tc : Thread Cert.InHalvesReferenceIdeal.nD Cert.InHalvesReferenceIdeal.τ).loc Cert.InHalvesReferenceIdeal.main_arg2) = m ((c.tc : Thread Cert.InHalvesReferenceIdeal.nD Cert.InHalvesReferenceIdeal.τ).loc Cert.InHalvesReferenceIdeal.main_arg2)
      ∧ r.2.mem ((c.tc : Thread Cert.InHalvesReferenceIdeal.nD Cert.InHalvesReferenceIdeal.τ).loc Cert.InHalvesReferenceIdeal.main_arg3) = m ((c.tc : Thread Cert.InHalvesReferenceIdeal.nD Cert.InHalvesReferenceIdeal.τ).loc Cert.InHalvesReferenceIdeal.main_arg3)
      ∧ r.2.mem ((c.tc : Thread Cert.InHalvesReferenceIdeal.nD Cert.InHalvesReferenceIdeal.τ).loc Cert.InHalvesReferenceIdeal.main_arg4) = m ((c.tc : Thread Cert.InHalvesReferenceIdeal.nD Cert.InHalvesReferenceIdeal.τ).loc Cert.InHalvesReferenceIdeal.main_arg4)
      ∧ r.2.mem ((c.tc : Thread Cert.InHalvesReferenceIdeal.nD Cert.InHalvesReferenceIdeal.τ).loc Cert.InHalvesReferenceIdeal.main_arg5) = m ((c.tc : Thread Cert.InHalvesReferenceIdeal.nD Cert.InHalvesReferenceIdeal.τ).loc Cert.InHalvesReferenceIdeal.main_arg5))
      ∧ r.2.sem = fun _ => 0)

def quiescent_RowHalvesKernel [hRowHalvesKernel : Cert.RowHalvesKernel.Facts] : Prop :=
  ∀ (m : (ℓ : Loc Cert.RowHalvesKernel.nD Cert.RowHalvesKernel.τ Cert.RowHalvesKernel.sig) → Buf (Elt Bits) ℓ) (g : Dev Cert.RowHalvesKernel.nD → PrngReg), Pre_RowHalvesKernel m →
    θ_run (Cert.RowHalvesKernel.defs (F := Bits)) (onTc (τ := Cert.RowHalvesKernel.τ) (Cert.RowHalvesKernel.main (F := Bits))) ⟨m, fun _ => 0, g⟩ (fun r => (∀ c : Dev Cert.RowHalvesKernel.nD,
      r.2.mem ((c.tc : Thread Cert.RowHalvesKernel.nD Cert.RowHalvesKernel.τ).loc Cert.RowHalvesKernel.main_arg0) = m ((c.tc : Thread Cert.RowHalvesKernel.nD Cert.RowHalvesKernel.τ).loc Cert.RowHalvesKernel.main_arg0)
      ∧ r.2.mem ((c.tc : Thread Cert.RowHalvesKernel.nD Cert.RowHalvesKernel.τ).loc Cert.RowHalvesKernel.main_arg1) = m ((c.tc : Thread Cert.RowHalvesKernel.nD Cert.RowHalvesKernel.τ).loc Cert.RowHalvesKernel.main_arg1)
      ∧ r.2.mem ((c.tc : Thread Cert.RowHalvesKernel.nD Cert.RowHalvesKernel.τ).loc Cert.RowHalvesKernel.main_arg2) = m ((c.tc : Thread Cert.RowHalvesKernel.nD Cert.RowHalvesKernel.τ).loc Cert.RowHalvesKernel.main_arg2)
      ∧ r.2.mem ((c.tc : Thread Cert.RowHalvesKernel.nD Cert.RowHalvesKernel.τ).loc Cert.RowHalvesKernel.main_arg3) = m ((c.tc : Thread Cert.RowHalvesKernel.nD Cert.RowHalvesKernel.τ).loc Cert.RowHalvesKernel.main_arg3)
      ∧ r.2.mem ((c.tc : Thread Cert.RowHalvesKernel.nD Cert.RowHalvesKernel.τ).loc Cert.RowHalvesKernel.main_arg4) = m ((c.tc : Thread Cert.RowHalvesKernel.nD Cert.RowHalvesKernel.τ).loc Cert.RowHalvesKernel.main_arg4)
      ∧ r.2.mem ((c.tc : Thread Cert.RowHalvesKernel.nD Cert.RowHalvesKernel.τ).loc Cert.RowHalvesKernel.main_arg5) = m ((c.tc : Thread Cert.RowHalvesKernel.nD Cert.RowHalvesKernel.τ).loc Cert.RowHalvesKernel.main_arg5))
      ∧ r.2.sem = fun _ => 0)

def quiescent_RowHalvesKernelIdeal [hRowHalvesKernelIdeal : Cert.RowHalvesKernelIdeal.Facts] : Prop :=
  ∀ (m : (ℓ : Loc Cert.RowHalvesKernelIdeal.nD Cert.RowHalvesKernelIdeal.τ Cert.RowHalvesKernelIdeal.sig) → Buf (Elt Ideal) ℓ) (g : Dev Cert.RowHalvesKernelIdeal.nD → PrngReg), Pre_RowHalvesKernelIdeal m →
    θ_run (Cert.RowHalvesKernelIdeal.defs (F := Ideal)) (onTc (τ := Cert.RowHalvesKernelIdeal.τ) (Cert.RowHalvesKernelIdeal.main (F := Ideal))) ⟨m, fun _ => 0, g⟩ (fun r => (∀ c : Dev Cert.RowHalvesKernelIdeal.nD,
      r.2.mem ((c.tc : Thread Cert.RowHalvesKernelIdeal.nD Cert.RowHalvesKernelIdeal.τ).loc Cert.RowHalvesKernelIdeal.main_arg0) = m ((c.tc : Thread Cert.RowHalvesKernelIdeal.nD Cert.RowHalvesKernelIdeal.τ).loc Cert.RowHalvesKernelIdeal.main_arg0)
      ∧ r.2.mem ((c.tc : Thread Cert.RowHalvesKernelIdeal.nD Cert.RowHalvesKernelIdeal.τ).loc Cert.RowHalvesKernelIdeal.main_arg1) = m ((c.tc : Thread Cert.RowHalvesKernelIdeal.nD Cert.RowHalvesKernelIdeal.τ).loc Cert.RowHalvesKernelIdeal.main_arg1)
      ∧ r.2.mem ((c.tc : Thread Cert.RowHalvesKernelIdeal.nD Cert.RowHalvesKernelIdeal.τ).loc Cert.RowHalvesKernelIdeal.main_arg2) = m ((c.tc : Thread Cert.RowHalvesKernelIdeal.nD Cert.RowHalvesKernelIdeal.τ).loc Cert.RowHalvesKernelIdeal.main_arg2)
      ∧ r.2.mem ((c.tc : Thread Cert.RowHalvesKernelIdeal.nD Cert.RowHalvesKernelIdeal.τ).loc Cert.RowHalvesKernelIdeal.main_arg3) = m ((c.tc : Thread Cert.RowHalvesKernelIdeal.nD Cert.RowHalvesKernelIdeal.τ).loc Cert.RowHalvesKernelIdeal.main_arg3)
      ∧ r.2.mem ((c.tc : Thread Cert.RowHalvesKernelIdeal.nD Cert.RowHalvesKernelIdeal.τ).loc Cert.RowHalvesKernelIdeal.main_arg4) = m ((c.tc : Thread Cert.RowHalvesKernelIdeal.nD Cert.RowHalvesKernelIdeal.τ).loc Cert.RowHalvesKernelIdeal.main_arg4)
      ∧ r.2.mem ((c.tc : Thread Cert.RowHalvesKernelIdeal.nD Cert.RowHalvesKernelIdeal.τ).loc Cert.RowHalvesKernelIdeal.main_arg5) = m ((c.tc : Thread Cert.RowHalvesKernelIdeal.nD Cert.RowHalvesKernelIdeal.τ).loc Cert.RowHalvesKernelIdeal.main_arg5))
      ∧ r.2.sem = fun _ => 0)

def quiescent_RowHalvesReferenceIdeal [hRowHalvesReferenceIdeal : Cert.RowHalvesReferenceIdeal.Facts] : Prop :=
  ∀ (m : (ℓ : Loc Cert.RowHalvesReferenceIdeal.nD Cert.RowHalvesReferenceIdeal.τ Cert.RowHalvesReferenceIdeal.sig) → Buf (Elt Ideal) ℓ) (g : Dev Cert.RowHalvesReferenceIdeal.nD → PrngReg), Pre_RowHalvesReferenceIdeal m →
    θ_run (Cert.RowHalvesReferenceIdeal.defs (F := Ideal)) (onTc (τ := Cert.RowHalvesReferenceIdeal.τ) (Cert.RowHalvesReferenceIdeal.main (F := Ideal))) ⟨m, fun _ => 0, g⟩ (fun r => (∀ c : Dev Cert.RowHalvesReferenceIdeal.nD,
      r.2.mem ((c.tc : Thread Cert.RowHalvesReferenceIdeal.nD Cert.RowHalvesReferenceIdeal.τ).loc Cert.RowHalvesReferenceIdeal.main_arg0) = m ((c.tc : Thread Cert.RowHalvesReferenceIdeal.nD Cert.RowHalvesReferenceIdeal.τ).loc Cert.RowHalvesReferenceIdeal.main_arg0)
      ∧ r.2.mem ((c.tc : Thread Cert.RowHalvesReferenceIdeal.nD Cert.RowHalvesReferenceIdeal.τ).loc Cert.RowHalvesReferenceIdeal.main_arg1) = m ((c.tc : Thread Cert.RowHalvesReferenceIdeal.nD Cert.RowHalvesReferenceIdeal.τ).loc Cert.RowHalvesReferenceIdeal.main_arg1)
      ∧ r.2.mem ((c.tc : Thread Cert.RowHalvesReferenceIdeal.nD Cert.RowHalvesReferenceIdeal.τ).loc Cert.RowHalvesReferenceIdeal.main_arg2) = m ((c.tc : Thread Cert.RowHalvesReferenceIdeal.nD Cert.RowHalvesReferenceIdeal.τ).loc Cert.RowHalvesReferenceIdeal.main_arg2)
      ∧ r.2.mem ((c.tc : Thread Cert.RowHalvesReferenceIdeal.nD Cert.RowHalvesReferenceIdeal.τ).loc Cert.RowHalvesReferenceIdeal.main_arg3) = m ((c.tc : Thread Cert.RowHalvesReferenceIdeal.nD Cert.RowHalvesReferenceIdeal.τ).loc Cert.RowHalvesReferenceIdeal.main_arg3)
      ∧ r.2.mem ((c.tc : Thread Cert.RowHalvesReferenceIdeal.nD Cert.RowHalvesReferenceIdeal.τ).loc Cert.RowHalvesReferenceIdeal.main_arg4) = m ((c.tc : Thread Cert.RowHalvesReferenceIdeal.nD Cert.RowHalvesReferenceIdeal.τ).loc Cert.RowHalvesReferenceIdeal.main_arg4)
      ∧ r.2.mem ((c.tc : Thread Cert.RowHalvesReferenceIdeal.nD Cert.RowHalvesReferenceIdeal.τ).loc Cert.RowHalvesReferenceIdeal.main_arg5) = m ((c.tc : Thread Cert.RowHalvesReferenceIdeal.nD Cert.RowHalvesReferenceIdeal.τ).loc Cert.RowHalvesReferenceIdeal.main_arg5))
      ∧ r.2.sem = fun _ => 0)

def quiescent_SmallHalvesKernel [hSmallHalvesKernel : Cert.SmallHalvesKernel.Facts] : Prop :=
  ∀ (m : (ℓ : Loc Cert.SmallHalvesKernel.nD Cert.SmallHalvesKernel.τ Cert.SmallHalvesKernel.sig) → Buf (Elt Bits) ℓ) (g : Dev Cert.SmallHalvesKernel.nD → PrngReg), Pre_SmallHalvesKernel m →
    θ_run (Cert.SmallHalvesKernel.defs (F := Bits)) (onTc (τ := Cert.SmallHalvesKernel.τ) (Cert.SmallHalvesKernel.main (F := Bits))) ⟨m, fun _ => 0, g⟩ (fun r => (∀ c : Dev Cert.SmallHalvesKernel.nD,
      r.2.mem ((c.tc : Thread Cert.SmallHalvesKernel.nD Cert.SmallHalvesKernel.τ).loc Cert.SmallHalvesKernel.main_arg0) = m ((c.tc : Thread Cert.SmallHalvesKernel.nD Cert.SmallHalvesKernel.τ).loc Cert.SmallHalvesKernel.main_arg0)
      ∧ r.2.mem ((c.tc : Thread Cert.SmallHalvesKernel.nD Cert.SmallHalvesKernel.τ).loc Cert.SmallHalvesKernel.main_arg1) = m ((c.tc : Thread Cert.SmallHalvesKernel.nD Cert.SmallHalvesKernel.τ).loc Cert.SmallHalvesKernel.main_arg1)
      ∧ r.2.mem ((c.tc : Thread Cert.SmallHalvesKernel.nD Cert.SmallHalvesKernel.τ).loc Cert.SmallHalvesKernel.main_arg2) = m ((c.tc : Thread Cert.SmallHalvesKernel.nD Cert.SmallHalvesKernel.τ).loc Cert.SmallHalvesKernel.main_arg2)
      ∧ r.2.mem ((c.tc : Thread Cert.SmallHalvesKernel.nD Cert.SmallHalvesKernel.τ).loc Cert.SmallHalvesKernel.main_arg3) = m ((c.tc : Thread Cert.SmallHalvesKernel.nD Cert.SmallHalvesKernel.τ).loc Cert.SmallHalvesKernel.main_arg3)
      ∧ r.2.mem ((c.tc : Thread Cert.SmallHalvesKernel.nD Cert.SmallHalvesKernel.τ).loc Cert.SmallHalvesKernel.main_arg4) = m ((c.tc : Thread Cert.SmallHalvesKernel.nD Cert.SmallHalvesKernel.τ).loc Cert.SmallHalvesKernel.main_arg4)
      ∧ r.2.mem ((c.tc : Thread Cert.SmallHalvesKernel.nD Cert.SmallHalvesKernel.τ).loc Cert.SmallHalvesKernel.main_arg5) = m ((c.tc : Thread Cert.SmallHalvesKernel.nD Cert.SmallHalvesKernel.τ).loc Cert.SmallHalvesKernel.main_arg5))
      ∧ r.2.sem = fun _ => 0)

def quiescent_SmallHalvesKernelIdeal [hSmallHalvesKernelIdeal : Cert.SmallHalvesKernelIdeal.Facts] : Prop :=
  ∀ (m : (ℓ : Loc Cert.SmallHalvesKernelIdeal.nD Cert.SmallHalvesKernelIdeal.τ Cert.SmallHalvesKernelIdeal.sig) → Buf (Elt Ideal) ℓ) (g : Dev Cert.SmallHalvesKernelIdeal.nD → PrngReg), Pre_SmallHalvesKernelIdeal m →
    θ_run (Cert.SmallHalvesKernelIdeal.defs (F := Ideal)) (onTc (τ := Cert.SmallHalvesKernelIdeal.τ) (Cert.SmallHalvesKernelIdeal.main (F := Ideal))) ⟨m, fun _ => 0, g⟩ (fun r => (∀ c : Dev Cert.SmallHalvesKernelIdeal.nD,
      r.2.mem ((c.tc : Thread Cert.SmallHalvesKernelIdeal.nD Cert.SmallHalvesKernelIdeal.τ).loc Cert.SmallHalvesKernelIdeal.main_arg0) = m ((c.tc : Thread Cert.SmallHalvesKernelIdeal.nD Cert.SmallHalvesKernelIdeal.τ).loc Cert.SmallHalvesKernelIdeal.main_arg0)
      ∧ r.2.mem ((c.tc : Thread Cert.SmallHalvesKernelIdeal.nD Cert.SmallHalvesKernelIdeal.τ).loc Cert.SmallHalvesKernelIdeal.main_arg1) = m ((c.tc : Thread Cert.SmallHalvesKernelIdeal.nD Cert.SmallHalvesKernelIdeal.τ).loc Cert.SmallHalvesKernelIdeal.main_arg1)
      ∧ r.2.mem ((c.tc : Thread Cert.SmallHalvesKernelIdeal.nD Cert.SmallHalvesKernelIdeal.τ).loc Cert.SmallHalvesKernelIdeal.main_arg2) = m ((c.tc : Thread Cert.SmallHalvesKernelIdeal.nD Cert.SmallHalvesKernelIdeal.τ).loc Cert.SmallHalvesKernelIdeal.main_arg2)
      ∧ r.2.mem ((c.tc : Thread Cert.SmallHalvesKernelIdeal.nD Cert.SmallHalvesKernelIdeal.τ).loc Cert.SmallHalvesKernelIdeal.main_arg3) = m ((c.tc : Thread Cert.SmallHalvesKernelIdeal.nD Cert.SmallHalvesKernelIdeal.τ).loc Cert.SmallHalvesKernelIdeal.main_arg3)
      ∧ r.2.mem ((c.tc : Thread Cert.SmallHalvesKernelIdeal.nD Cert.SmallHalvesKernelIdeal.τ).loc Cert.SmallHalvesKernelIdeal.main_arg4) = m ((c.tc : Thread Cert.SmallHalvesKernelIdeal.nD Cert.SmallHalvesKernelIdeal.τ).loc Cert.SmallHalvesKernelIdeal.main_arg4)
      ∧ r.2.mem ((c.tc : Thread Cert.SmallHalvesKernelIdeal.nD Cert.SmallHalvesKernelIdeal.τ).loc Cert.SmallHalvesKernelIdeal.main_arg5) = m ((c.tc : Thread Cert.SmallHalvesKernelIdeal.nD Cert.SmallHalvesKernelIdeal.τ).loc Cert.SmallHalvesKernelIdeal.main_arg5))
      ∧ r.2.sem = fun _ => 0)

def quiescent_SmallHalvesReferenceIdeal [hSmallHalvesReferenceIdeal : Cert.SmallHalvesReferenceIdeal.Facts] : Prop :=
  ∀ (m : (ℓ : Loc Cert.SmallHalvesReferenceIdeal.nD Cert.SmallHalvesReferenceIdeal.τ Cert.SmallHalvesReferenceIdeal.sig) → Buf (Elt Ideal) ℓ) (g : Dev Cert.SmallHalvesReferenceIdeal.nD → PrngReg), Pre_SmallHalvesReferenceIdeal m →
    θ_run (Cert.SmallHalvesReferenceIdeal.defs (F := Ideal)) (onTc (τ := Cert.SmallHalvesReferenceIdeal.τ) (Cert.SmallHalvesReferenceIdeal.main (F := Ideal))) ⟨m, fun _ => 0, g⟩ (fun r => (∀ c : Dev Cert.SmallHalvesReferenceIdeal.nD,
      r.2.mem ((c.tc : Thread Cert.SmallHalvesReferenceIdeal.nD Cert.SmallHalvesReferenceIdeal.τ).loc Cert.SmallHalvesReferenceIdeal.main_arg0) = m ((c.tc : Thread Cert.SmallHalvesReferenceIdeal.nD Cert.SmallHalvesReferenceIdeal.τ).loc Cert.SmallHalvesReferenceIdeal.main_arg0)
      ∧ r.2.mem ((c.tc : Thread Cert.SmallHalvesReferenceIdeal.nD Cert.SmallHalvesReferenceIdeal.τ).loc Cert.SmallHalvesReferenceIdeal.main_arg1) = m ((c.tc : Thread Cert.SmallHalvesReferenceIdeal.nD Cert.SmallHalvesReferenceIdeal.τ).loc Cert.SmallHalvesReferenceIdeal.main_arg1)
      ∧ r.2.mem ((c.tc : Thread Cert.SmallHalvesReferenceIdeal.nD Cert.SmallHalvesReferenceIdeal.τ).loc Cert.SmallHalvesReferenceIdeal.main_arg2) = m ((c.tc : Thread Cert.SmallHalvesReferenceIdeal.nD Cert.SmallHalvesReferenceIdeal.τ).loc Cert.SmallHalvesReferenceIdeal.main_arg2)
      ∧ r.2.mem ((c.tc : Thread Cert.SmallHalvesReferenceIdeal.nD Cert.SmallHalvesReferenceIdeal.τ).loc Cert.SmallHalvesReferenceIdeal.main_arg3) = m ((c.tc : Thread Cert.SmallHalvesReferenceIdeal.nD Cert.SmallHalvesReferenceIdeal.τ).loc Cert.SmallHalvesReferenceIdeal.main_arg3)
      ∧ r.2.mem ((c.tc : Thread Cert.SmallHalvesReferenceIdeal.nD Cert.SmallHalvesReferenceIdeal.τ).loc Cert.SmallHalvesReferenceIdeal.main_arg4) = m ((c.tc : Thread Cert.SmallHalvesReferenceIdeal.nD Cert.SmallHalvesReferenceIdeal.τ).loc Cert.SmallHalvesReferenceIdeal.main_arg4)
      ∧ r.2.mem ((c.tc : Thread Cert.SmallHalvesReferenceIdeal.nD Cert.SmallHalvesReferenceIdeal.τ).loc Cert.SmallHalvesReferenceIdeal.main_arg5) = m ((c.tc : Thread Cert.SmallHalvesReferenceIdeal.nD Cert.SmallHalvesReferenceIdeal.τ).loc Cert.SmallHalvesReferenceIdeal.main_arg5))
      ∧ r.2.sem = fun _ => 0)

def quiescent_LruBwdKernel [hLruBwdKernel : Cert.LruBwdKernel.Facts] : Prop :=
  ∀ (m : (ℓ : Loc Cert.LruBwdKernel.nD Cert.LruBwdKernel.τ Cert.LruBwdKernel.sig) → Buf (Elt Bits) ℓ) (g : Dev Cert.LruBwdKernel.nD → PrngReg), Pre_LruBwdKernel m →
    θ_run (Cert.LruBwdKernel.defs (F := Bits)) (onTc (τ := Cert.LruBwdKernel.τ) (Cert.LruBwdKernel.main (F := Bits))) ⟨m, fun _ => 0, g⟩ (fun r => (∀ c : Dev Cert.LruBwdKernel.nD,
      r.2.mem ((c.tc : Thread Cert.LruBwdKernel.nD Cert.LruBwdKernel.τ).loc Cert.LruBwdKernel.main_arg0) = m ((c.tc : Thread Cert.LruBwdKernel.nD Cert.LruBwdKernel.τ).loc Cert.LruBwdKernel.main_arg0)
      ∧ r.2.mem ((c.tc : Thread Cert.LruBwdKernel.nD Cert.LruBwdKernel.τ).loc Cert.LruBwdKernel.main_arg1) = m ((c.tc : Thread Cert.LruBwdKernel.nD Cert.LruBwdKernel.τ).loc Cert.LruBwdKernel.main_arg1)
      ∧ r.2.mem ((c.tc : Thread Cert.LruBwdKernel.nD Cert.LruBwdKernel.τ).loc Cert.LruBwdKernel.main_arg2) = m ((c.tc : Thread Cert.LruBwdKernel.nD Cert.LruBwdKernel.τ).loc Cert.LruBwdKernel.main_arg2)
      ∧ r.2.mem ((c.tc : Thread Cert.LruBwdKernel.nD Cert.LruBwdKernel.τ).loc Cert.LruBwdKernel.main_arg3) = m ((c.tc : Thread Cert.LruBwdKernel.nD Cert.LruBwdKernel.τ).loc Cert.LruBwdKernel.main_arg3)
      ∧ r.2.mem ((c.tc : Thread Cert.LruBwdKernel.nD Cert.LruBwdKernel.τ).loc Cert.LruBwdKernel.main_arg4) = m ((c.tc : Thread Cert.LruBwdKernel.nD Cert.LruBwdKernel.τ).loc Cert.LruBwdKernel.main_arg4)
      ∧ r.2.mem ((c.tc : Thread Cert.LruBwdKernel.nD Cert.LruBwdKernel.τ).loc Cert.LruBwdKernel.main_arg5) = m ((c.tc : Thread Cert.LruBwdKernel.nD Cert.LruBwdKernel.τ).loc Cert.LruBwdKernel.main_arg5)
      ∧ r.2.mem ((c.tc : Thread Cert.LruBwdKernel.nD Cert.LruBwdKernel.τ).loc Cert.LruBwdKernel.main_arg6) = m ((c.tc : Thread Cert.LruBwdKernel.nD Cert.LruBwdKernel.τ).loc Cert.LruBwdKernel.main_arg6)
      ∧ r.2.mem ((c.tc : Thread Cert.LruBwdKernel.nD Cert.LruBwdKernel.τ).loc Cert.LruBwdKernel.main_arg7) = m ((c.tc : Thread Cert.LruBwdKernel.nD Cert.LruBwdKernel.τ).loc Cert.LruBwdKernel.main_arg7)
      ∧ r.2.mem ((c.tc : Thread Cert.LruBwdKernel.nD Cert.LruBwdKernel.τ).loc Cert.LruBwdKernel.main_arg8) = m ((c.tc : Thread Cert.LruBwdKernel.nD Cert.LruBwdKernel.τ).loc Cert.LruBwdKernel.main_arg8)
      ∧ r.2.mem ((c.tc : Thread Cert.LruBwdKernel.nD Cert.LruBwdKernel.τ).loc Cert.LruBwdKernel.main_arg9) = m ((c.tc : Thread Cert.LruBwdKernel.nD Cert.LruBwdKernel.τ).loc Cert.LruBwdKernel.main_arg9)
      ∧ r.2.mem ((c.tc : Thread Cert.LruBwdKernel.nD Cert.LruBwdKernel.τ).loc Cert.LruBwdKernel.main_arg10) = m ((c.tc : Thread Cert.LruBwdKernel.nD Cert.LruBwdKernel.τ).loc Cert.LruBwdKernel.main_arg10))
      ∧ r.2.sem = fun _ => 0)

def quiescent_LruBwdKernelIdeal [hLruBwdKernelIdeal : Cert.LruBwdKernelIdeal.Facts] : Prop :=
  ∀ (m : (ℓ : Loc Cert.LruBwdKernelIdeal.nD Cert.LruBwdKernelIdeal.τ Cert.LruBwdKernelIdeal.sig) → Buf (Elt Ideal) ℓ) (g : Dev Cert.LruBwdKernelIdeal.nD → PrngReg), Pre_LruBwdKernelIdeal m →
    θ_run (Cert.LruBwdKernelIdeal.defs (F := Ideal)) (onTc (τ := Cert.LruBwdKernelIdeal.τ) (Cert.LruBwdKernelIdeal.main (F := Ideal))) ⟨m, fun _ => 0, g⟩ (fun r => (∀ c : Dev Cert.LruBwdKernelIdeal.nD,
      r.2.mem ((c.tc : Thread Cert.LruBwdKernelIdeal.nD Cert.LruBwdKernelIdeal.τ).loc Cert.LruBwdKernelIdeal.main_arg0) = m ((c.tc : Thread Cert.LruBwdKernelIdeal.nD Cert.LruBwdKernelIdeal.τ).loc Cert.LruBwdKernelIdeal.main_arg0)
      ∧ r.2.mem ((c.tc : Thread Cert.LruBwdKernelIdeal.nD Cert.LruBwdKernelIdeal.τ).loc Cert.LruBwdKernelIdeal.main_arg1) = m ((c.tc : Thread Cert.LruBwdKernelIdeal.nD Cert.LruBwdKernelIdeal.τ).loc Cert.LruBwdKernelIdeal.main_arg1)
      ∧ r.2.mem ((c.tc : Thread Cert.LruBwdKernelIdeal.nD Cert.LruBwdKernelIdeal.τ).loc Cert.LruBwdKernelIdeal.main_arg2) = m ((c.tc : Thread Cert.LruBwdKernelIdeal.nD Cert.LruBwdKernelIdeal.τ).loc Cert.LruBwdKernelIdeal.main_arg2)
      ∧ r.2.mem ((c.tc : Thread Cert.LruBwdKernelIdeal.nD Cert.LruBwdKernelIdeal.τ).loc Cert.LruBwdKernelIdeal.main_arg3) = m ((c.tc : Thread Cert.LruBwdKernelIdeal.nD Cert.LruBwdKernelIdeal.τ).loc Cert.LruBwdKernelIdeal.main_arg3)
      ∧ r.2.mem ((c.tc : Thread Cert.LruBwdKernelIdeal.nD Cert.LruBwdKernelIdeal.τ).loc Cert.LruBwdKernelIdeal.main_arg4) = m ((c.tc : Thread Cert.LruBwdKernelIdeal.nD Cert.LruBwdKernelIdeal.τ).loc Cert.LruBwdKernelIdeal.main_arg4)
      ∧ r.2.mem ((c.tc : Thread Cert.LruBwdKernelIdeal.nD Cert.LruBwdKernelIdeal.τ).loc Cert.LruBwdKernelIdeal.main_arg5) = m ((c.tc : Thread Cert.LruBwdKernelIdeal.nD Cert.LruBwdKernelIdeal.τ).loc Cert.LruBwdKernelIdeal.main_arg5)
      ∧ r.2.mem ((c.tc : Thread Cert.LruBwdKernelIdeal.nD Cert.LruBwdKernelIdeal.τ).loc Cert.LruBwdKernelIdeal.main_arg6) = m ((c.tc : Thread Cert.LruBwdKernelIdeal.nD Cert.LruBwdKernelIdeal.τ).loc Cert.LruBwdKernelIdeal.main_arg6)
      ∧ r.2.mem ((c.tc : Thread Cert.LruBwdKernelIdeal.nD Cert.LruBwdKernelIdeal.τ).loc Cert.LruBwdKernelIdeal.main_arg7) = m ((c.tc : Thread Cert.LruBwdKernelIdeal.nD Cert.LruBwdKernelIdeal.τ).loc Cert.LruBwdKernelIdeal.main_arg7)
      ∧ r.2.mem ((c.tc : Thread Cert.LruBwdKernelIdeal.nD Cert.LruBwdKernelIdeal.τ).loc Cert.LruBwdKernelIdeal.main_arg8) = m ((c.tc : Thread Cert.LruBwdKernelIdeal.nD Cert.LruBwdKernelIdeal.τ).loc Cert.LruBwdKernelIdeal.main_arg8)
      ∧ r.2.mem ((c.tc : Thread Cert.LruBwdKernelIdeal.nD Cert.LruBwdKernelIdeal.τ).loc Cert.LruBwdKernelIdeal.main_arg9) = m ((c.tc : Thread Cert.LruBwdKernelIdeal.nD Cert.LruBwdKernelIdeal.τ).loc Cert.LruBwdKernelIdeal.main_arg9)
      ∧ r.2.mem ((c.tc : Thread Cert.LruBwdKernelIdeal.nD Cert.LruBwdKernelIdeal.τ).loc Cert.LruBwdKernelIdeal.main_arg10) = m ((c.tc : Thread Cert.LruBwdKernelIdeal.nD Cert.LruBwdKernelIdeal.τ).loc Cert.LruBwdKernelIdeal.main_arg10))
      ∧ r.2.sem = fun _ => 0)

def quiescent_LruBwdReferenceIdeal [hLruBwdReferenceIdeal : Cert.LruBwdReferenceIdeal.Facts] : Prop :=
  ∀ (m : (ℓ : Loc Cert.LruBwdReferenceIdeal.nD Cert.LruBwdReferenceIdeal.τ Cert.LruBwdReferenceIdeal.sig) → Buf (Elt Ideal) ℓ) (g : Dev Cert.LruBwdReferenceIdeal.nD → PrngReg), Pre_LruBwdReferenceIdeal m →
    θ_run (Cert.LruBwdReferenceIdeal.defs (F := Ideal)) (onTc (τ := Cert.LruBwdReferenceIdeal.τ) (Cert.LruBwdReferenceIdeal.main (F := Ideal))) ⟨m, fun _ => 0, g⟩ (fun r => (∀ c : Dev Cert.LruBwdReferenceIdeal.nD,
      r.2.mem ((c.tc : Thread Cert.LruBwdReferenceIdeal.nD Cert.LruBwdReferenceIdeal.τ).loc Cert.LruBwdReferenceIdeal.main_arg0) = m ((c.tc : Thread Cert.LruBwdReferenceIdeal.nD Cert.LruBwdReferenceIdeal.τ).loc Cert.LruBwdReferenceIdeal.main_arg0)
      ∧ r.2.mem ((c.tc : Thread Cert.LruBwdReferenceIdeal.nD Cert.LruBwdReferenceIdeal.τ).loc Cert.LruBwdReferenceIdeal.main_arg1) = m ((c.tc : Thread Cert.LruBwdReferenceIdeal.nD Cert.LruBwdReferenceIdeal.τ).loc Cert.LruBwdReferenceIdeal.main_arg1)
      ∧ r.2.mem ((c.tc : Thread Cert.LruBwdReferenceIdeal.nD Cert.LruBwdReferenceIdeal.τ).loc Cert.LruBwdReferenceIdeal.main_arg2) = m ((c.tc : Thread Cert.LruBwdReferenceIdeal.nD Cert.LruBwdReferenceIdeal.τ).loc Cert.LruBwdReferenceIdeal.main_arg2)
      ∧ r.2.mem ((c.tc : Thread Cert.LruBwdReferenceIdeal.nD Cert.LruBwdReferenceIdeal.τ).loc Cert.LruBwdReferenceIdeal.main_arg3) = m ((c.tc : Thread Cert.LruBwdReferenceIdeal.nD Cert.LruBwdReferenceIdeal.τ).loc Cert.LruBwdReferenceIdeal.main_arg3)
      ∧ r.2.mem ((c.tc : Thread Cert.LruBwdReferenceIdeal.nD Cert.LruBwdReferenceIdeal.τ).loc Cert.LruBwdReferenceIdeal.main_arg4) = m ((c.tc : Thread Cert.LruBwdReferenceIdeal.nD Cert.LruBwdReferenceIdeal.τ).loc Cert.LruBwdReferenceIdeal.main_arg4)
      ∧ r.2.mem ((c.tc : Thread Cert.LruBwdReferenceIdeal.nD Cert.LruBwdReferenceIdeal.τ).loc Cert.LruBwdReferenceIdeal.main_arg5) = m ((c.tc : Thread Cert.LruBwdReferenceIdeal.nD Cert.LruBwdReferenceIdeal.τ).loc Cert.LruBwdReferenceIdeal.main_arg5)
      ∧ r.2.mem ((c.tc : Thread Cert.LruBwdReferenceIdeal.nD Cert.LruBwdReferenceIdeal.τ).loc Cert.LruBwdReferenceIdeal.main_arg6) = m ((c.tc : Thread Cert.LruBwdReferenceIdeal.nD Cert.LruBwdReferenceIdeal.τ).loc Cert.LruBwdReferenceIdeal.main_arg6)
      ∧ r.2.mem ((c.tc : Thread Cert.LruBwdReferenceIdeal.nD Cert.LruBwdReferenceIdeal.τ).loc Cert.LruBwdReferenceIdeal.main_arg7) = m ((c.tc : Thread Cert.LruBwdReferenceIdeal.nD Cert.LruBwdReferenceIdeal.τ).loc Cert.LruBwdReferenceIdeal.main_arg7)
      ∧ r.2.mem ((c.tc : Thread Cert.LruBwdReferenceIdeal.nD Cert.LruBwdReferenceIdeal.τ).loc Cert.LruBwdReferenceIdeal.main_arg8) = m ((c.tc : Thread Cert.LruBwdReferenceIdeal.nD Cert.LruBwdReferenceIdeal.τ).loc Cert.LruBwdReferenceIdeal.main_arg8)
      ∧ r.2.mem ((c.tc : Thread Cert.LruBwdReferenceIdeal.nD Cert.LruBwdReferenceIdeal.τ).loc Cert.LruBwdReferenceIdeal.main_arg9) = m ((c.tc : Thread Cert.LruBwdReferenceIdeal.nD Cert.LruBwdReferenceIdeal.τ).loc Cert.LruBwdReferenceIdeal.main_arg9)
      ∧ r.2.mem ((c.tc : Thread Cert.LruBwdReferenceIdeal.nD Cert.LruBwdReferenceIdeal.τ).loc Cert.LruBwdReferenceIdeal.main_arg10) = m ((c.tc : Thread Cert.LruBwdReferenceIdeal.nD Cert.LruBwdReferenceIdeal.τ).loc Cert.LruBwdReferenceIdeal.main_arg10))
      ∧ r.2.sem = fun _ => 0)

def preserves_Kernel_KernelIdeal : Prop :=
  IdealRules.named_const.Statement Cert.KernelIdeal.κ "k" .f32 0x3D372713#32 ((8943 / 200000 : ℝ) : EReal)
  ∧ IdealRules.named_const.Statement Cert.KernelIdeal.κ "k3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)) (v4 : (c : Dev Cert.KernelIdeal.nD) → Buf (Elt Ideal) ((c.tc : Thread Cert.KernelIdeal.nD Cert.KernelIdeal.τ).loc Cert.KernelIdeal.main_v50_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_v50_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v21_0)) (v1 : (c : Dev Cert.ConvKernelIdeal.nD) → Buf (Elt Ideal) ((c.tc : Thread Cert.ConvKernelIdeal.nD Cert.ConvKernelIdeal.τ).loc Cert.ConvKernelIdeal.main_v21_1)) (v2 : (c : Dev Cert.ConvKernelIdeal.nD) → Buf (Elt Ideal) ((c.tc : Thread Cert.ConvKernelIdeal.nD Cert.ConvKernelIdeal.τ).loc Cert.ConvKernelIdeal.main_v21_2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v21_0) = v0 c
          ∧ r.2.mem ((c.tc : Thread Cert.ConvKernelIdeal.nD Cert.ConvKernelIdeal.τ).loc Cert.ConvKernelIdeal.main_v21_1) = v1 c
          ∧ r.2.mem ((c.tc : Thread Cert.ConvKernelIdeal.nD Cert.ConvKernelIdeal.τ).loc Cert.ConvKernelIdeal.main_v21_2) = v2 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v61) = v0 c
          ∧ r.2.mem ((c.tc : Thread Cert.ConvReferenceIdeal.nD Cert.ConvReferenceIdeal.τ).loc Cert.ConvReferenceIdeal.main_v62) = v1 c
          ∧ r.2.mem ((c.tc : Thread Cert.ConvReferenceIdeal.nD Cert.ConvReferenceIdeal.τ).loc Cert.ConvReferenceIdeal.main_v50) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_WgradKernel_WgradKernelIdeal : Prop :=
  True

def algebraic_WgradKernelIdeal_WgradReferenceIdeal [hWgradKernelIdeal : Cert.WgradKernelIdeal.Facts] [hWgradReferenceIdeal : Cert.WgradReferenceIdeal.Facts] : Prop :=
  ∀ (m : (ℓ : Loc Cert.WgradKernelIdeal.nD Cert.WgradKernelIdeal.τ Cert.WgradKernelIdeal.sig) → Buf (Elt Ideal) ℓ) (g : Dev Cert.WgradKernelIdeal.nD → PrngReg)
    (m' : (ℓ : Loc Cert.WgradReferenceIdeal.nD Cert.WgradReferenceIdeal.τ Cert.WgradReferenceIdeal.sig) → Buf (Elt Ideal) ℓ) (g' : Dev Cert.WgradReferenceIdeal.nD → PrngReg), Pre_WgradKernelIdeal m →
    (∀ c : Dev Cert.WgradKernelIdeal.nD,
      m' ((c.tc : Thread Cert.WgradReferenceIdeal.nD Cert.WgradReferenceIdeal.τ).loc Cert.WgradReferenceIdeal.main_arg0) = m ((c.tc : Thread Cert.WgradKernelIdeal.nD Cert.WgradKernelIdeal.τ).loc Cert.WgradKernelIdeal.main_arg0)
      ∧ m' ((c.tc : Thread Cert.WgradReferenceIdeal.nD Cert.WgradReferenceIdeal.τ).loc Cert.WgradReferenceIdeal.main_arg1) = m ((c.tc : Thread Cert.WgradKernelIdeal.nD Cert.WgradKernelIdeal.τ).loc Cert.WgradKernelIdeal.main_arg1)
      ∧ m' ((c.tc : Thread Cert.WgradReferenceIdeal.nD Cert.WgradReferenceIdeal.τ).loc Cert.WgradReferenceIdeal.main_arg2) = m ((c.tc : Thread Cert.WgradKernelIdeal.nD Cert.WgradKernelIdeal.τ).loc Cert.WgradKernelIdeal.main_arg2)) →
    ∃ (v0 : (c : Dev Cert.WgradKernelIdeal.nD) → Buf (Elt Ideal) ((c.tc : Thread Cert.WgradKernelIdeal.nD Cert.WgradKernelIdeal.τ).loc Cert.WgradKernelIdeal.main_v8)),
      θ_run (Cert.WgradKernelIdeal.defs (F := Ideal)) (onTc (τ := Cert.WgradKernelIdeal.τ) (Cert.WgradKernelIdeal.main (F := Ideal))) ⟨m, fun _ => 0, g⟩ (fun r => ∀ c : Dev Cert.WgradKernelIdeal.nD,
          r.2.mem ((c.tc : Thread Cert.WgradKernelIdeal.nD Cert.WgradKernelIdeal.τ).loc Cert.WgradKernelIdeal.main_v8) = v0 c
          ∧ r.2.mem ((c.tc : Thread Cert.WgradKernelIdeal.nD Cert.WgradKernelIdeal.τ).loc Cert.WgradKernelIdeal.main_arg0) = m ((c.tc : Thread Cert.WgradKernelIdeal.nD Cert.WgradKernelIdeal.τ).loc Cert.WgradKernelIdeal.main_arg0)
          ∧ r.2.mem ((c.tc : Thread Cert.WgradKernelIdeal.nD Cert.WgradKernelIdeal.τ).loc Cert.WgradKernelIdeal.main_arg1) = m ((c.tc : Thread Cert.WgradKernelIdeal.nD Cert.WgradKernelIdeal.τ).loc Cert.WgradKernelIdeal.main_arg1)
          ∧ r.2.mem ((c.tc : Thread Cert.WgradKernelIdeal.nD Cert.WgradKernelIdeal.τ).loc Cert.WgradKernelIdeal.main_arg2) = m ((c.tc : Thread Cert.WgradKernelIdeal.nD Cert.WgradKernelIdeal.τ).loc Cert.WgradKernelIdeal.main_arg2))
      ∧ θ_run (Cert.WgradReferenceIdeal.defs (F := Ideal)) (onTc (τ := Cert.WgradReferenceIdeal.τ) (Cert.WgradReferenceIdeal.main (F := Ideal))) ⟨m', fun _ => 0, g'⟩ (fun r => ∀ c : Dev Cert.WgradReferenceIdeal.nD,
          r.2.mem ((c.tc : Thread Cert.WgradReferenceIdeal.nD Cert.WgradReferenceIdeal.τ).loc Cert.WgradReferenceIdeal.main_v4) = v0 c
          ∧ r.2.mem ((c.tc : Thread Cert.WgradReferenceIdeal.nD Cert.WgradReferenceIdeal.τ).loc Cert.WgradReferenceIdeal.main_arg0) = m' ((c.tc : Thread Cert.WgradReferenceIdeal.nD Cert.WgradReferenceIdeal.τ).loc Cert.WgradReferenceIdeal.main_arg0)
          ∧ r.2.mem ((c.tc : Thread Cert.WgradReferenceIdeal.nD Cert.WgradReferenceIdeal.τ).loc Cert.WgradReferenceIdeal.main_arg1) = m' ((c.tc : Thread Cert.WgradReferenceIdeal.nD Cert.WgradReferenceIdeal.τ).loc Cert.WgradReferenceIdeal.main_arg1)
          ∧ r.2.mem ((c.tc : Thread Cert.WgradReferenceIdeal.nD Cert.WgradReferenceIdeal.τ).loc Cert.WgradReferenceIdeal.main_arg2) = m' ((c.tc : Thread Cert.WgradReferenceIdeal.nD Cert.WgradReferenceIdeal.τ).loc Cert.WgradReferenceIdeal.main_arg2))

def preserves_DgradKernel_DgradKernelIdeal : Prop :=
  True

def algebraic_DgradKernelIdeal_DgradReferenceIdeal [hDgradKernelIdeal : Cert.DgradKernelIdeal.Facts] [hDgradReferenceIdeal : Cert.DgradReferenceIdeal.Facts] : Prop :=
  ∀ (m : (ℓ : Loc Cert.DgradKernelIdeal.nD Cert.DgradKernelIdeal.τ Cert.DgradKernelIdeal.sig) → Buf (Elt Ideal) ℓ) (g : Dev Cert.DgradKernelIdeal.nD → PrngReg)
    (m' : (ℓ : Loc Cert.DgradReferenceIdeal.nD Cert.DgradReferenceIdeal.τ Cert.DgradReferenceIdeal.sig) → Buf (Elt Ideal) ℓ) (g' : Dev Cert.DgradReferenceIdeal.nD → PrngReg), Pre_DgradKernelIdeal m →
    (∀ c : Dev Cert.DgradKernelIdeal.nD,
      m' ((c.tc : Thread Cert.DgradReferenceIdeal.nD Cert.DgradReferenceIdeal.τ).loc Cert.DgradReferenceIdeal.main_arg0) = m ((c.tc : Thread Cert.DgradKernelIdeal.nD Cert.DgradKernelIdeal.τ).loc Cert.DgradKernelIdeal.main_arg0)
      ∧ m' ((c.tc : Thread Cert.DgradReferenceIdeal.nD Cert.DgradReferenceIdeal.τ).loc Cert.DgradReferenceIdeal.main_arg1) = m ((c.tc : Thread Cert.DgradKernelIdeal.nD Cert.DgradKernelIdeal.τ).loc Cert.DgradKernelIdeal.main_arg1)
      ∧ m' ((c.tc : Thread Cert.DgradReferenceIdeal.nD Cert.DgradReferenceIdeal.τ).loc Cert.DgradReferenceIdeal.main_arg2) = m ((c.tc : Thread Cert.DgradKernelIdeal.nD Cert.DgradKernelIdeal.τ).loc Cert.DgradKernelIdeal.main_arg2)) →
    ∃ (v0 : (c : Dev Cert.DgradKernelIdeal.nD) → Buf (Elt Ideal) ((c.tc : Thread Cert.DgradKernelIdeal.nD Cert.DgradKernelIdeal.τ).loc Cert.DgradKernelIdeal.main_v9)),
      θ_run (Cert.DgradKernelIdeal.defs (F := Ideal)) (onTc (τ := Cert.DgradKernelIdeal.τ) (Cert.DgradKernelIdeal.main (F := Ideal))) ⟨m, fun _ => 0, g⟩ (fun r => ∀ c : Dev Cert.DgradKernelIdeal.nD,
          r.2.mem ((c.tc : Thread Cert.DgradKernelIdeal.nD Cert.DgradKernelIdeal.τ).loc Cert.DgradKernelIdeal.main_v9) = v0 c
          ∧ r.2.mem ((c.tc : Thread Cert.DgradKernelIdeal.nD Cert.DgradKernelIdeal.τ).loc Cert.DgradKernelIdeal.main_arg0) = m ((c.tc : Thread Cert.DgradKernelIdeal.nD Cert.DgradKernelIdeal.τ).loc Cert.DgradKernelIdeal.main_arg0)
          ∧ r.2.mem ((c.tc : Thread Cert.DgradKernelIdeal.nD Cert.DgradKernelIdeal.τ).loc Cert.DgradKernelIdeal.main_arg1) = m ((c.tc : Thread Cert.DgradKernelIdeal.nD Cert.DgradKernelIdeal.τ).loc Cert.DgradKernelIdeal.main_arg1)
          ∧ r.2.mem ((c.tc : Thread Cert.DgradKernelIdeal.nD Cert.DgradKernelIdeal.τ).loc Cert.DgradKernelIdeal.main_arg2) = m ((c.tc : Thread Cert.DgradKernelIdeal.nD Cert.DgradKernelIdeal.τ).loc Cert.DgradKernelIdeal.main_arg2))
      ∧ θ_run (Cert.DgradReferenceIdeal.defs (F := Ideal)) (onTc (τ := Cert.DgradReferenceIdeal.τ) (Cert.DgradReferenceIdeal.main (F := Ideal))) ⟨m', fun _ => 0, g'⟩ (fun r => ∀ c : Dev Cert.DgradReferenceIdeal.nD,
          r.2.mem ((c.tc : Thread Cert.DgradReferenceIdeal.nD Cert.DgradReferenceIdeal.τ).loc Cert.DgradReferenceIdeal.main_v3) = v0 c
          ∧ r.2.mem ((c.tc : Thread Cert.DgradReferenceIdeal.nD Cert.DgradReferenceIdeal.τ).loc Cert.DgradReferenceIdeal.main_arg0) = m' ((c.tc : Thread Cert.DgradReferenceIdeal.nD Cert.DgradReferenceIdeal.τ).loc Cert.DgradReferenceIdeal.main_arg0)
          ∧ r.2.mem ((c.tc : Thread Cert.DgradReferenceIdeal.nD Cert.DgradReferenceIdeal.τ).loc Cert.DgradReferenceIdeal.main_arg1) = m' ((c.tc : Thread Cert.DgradReferenceIdeal.nD Cert.DgradReferenceIdeal.τ).loc Cert.DgradReferenceIdeal.main_arg1)
          ∧ r.2.mem ((c.tc : Thread Cert.DgradReferenceIdeal.nD Cert.DgradReferenceIdeal.τ).loc Cert.DgradReferenceIdeal.main_arg2) = m' ((c.tc : Thread Cert.DgradReferenceIdeal.nD Cert.DgradReferenceIdeal.τ).loc Cert.DgradReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v4)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v4) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_UpKernel_UpKernelIdeal : Prop :=
  IdealRules.named_const.Statement Cert.UpKernelIdeal.κ "k" .f32 0x3D372713#32 ((8943 / 200000 : ℝ) : EReal)

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)) →
    ∃ (v0 : (c : Dev Cert.UpKernelIdeal.nD) → Buf (Elt Ideal) ((c.tc : Thread Cert.UpKernelIdeal.nD Cert.UpKernelIdeal.τ).loc Cert.UpKernelIdeal.main_v5_0)) (v1 : (c : Dev Cert.UpKernelIdeal.nD) → Buf (Elt Ideal) ((c.tc : Thread Cert.UpKernelIdeal.nD Cert.UpKernelIdeal.τ).loc Cert.UpKernelIdeal.main_v5_1)) (v2 : (c : Dev Cert.UpKernelIdeal.nD) → Buf (Elt Ideal) ((c.tc : Thread Cert.UpKernelIdeal.nD Cert.UpKernelIdeal.τ).loc Cert.UpKernelIdeal.main_v5_2)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v5_0) = v0 c
          ∧ r.2.mem ((c.tc : Thread Cert.UpKernelIdeal.nD Cert.UpKernelIdeal.τ).loc Cert.UpKernelIdeal.main_v5_1) = v1 c
          ∧ r.2.mem ((c.tc : Thread Cert.UpKernelIdeal.nD Cert.UpKernelIdeal.τ).loc Cert.UpKernelIdeal.main_v5_2) = v2 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v23) = v0 c
          ∧ r.2.mem ((c.tc : Thread Cert.UpReferenceIdeal.nD Cert.UpReferenceIdeal.τ).loc Cert.UpReferenceIdeal.main_v26) = v1 c
          ∧ r.2.mem ((c.tc : Thread Cert.UpReferenceIdeal.nD Cert.UpReferenceIdeal.τ).loc Cert.UpReferenceIdeal.main_v42) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_ConvFwdKernel_ConvFwdKernelIdeal : Prop :=
  True

def algebraic_ConvFwdKernelIdeal_ConvFwdReferenceIdeal [hConvFwdKernelIdeal : Cert.ConvFwdKernelIdeal.Facts] [hConvFwdReferenceIdeal : Cert.ConvFwdReferenceIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdKernelIdeal m →
    (∀ c : Dev Cert.ConvFwdKernelIdeal.nD,
      m' ((c.tc : Thread Cert.ConvFwdReferenceIdeal.nD Cert.ConvFwdReferenceIdeal.τ).loc Cert.ConvFwdReferenceIdeal.main_arg0) = m ((c.tc : Thread Cert.ConvFwdKernelIdeal.nD Cert.ConvFwdKernelIdeal.τ).loc Cert.ConvFwdKernelIdeal.main_arg0)
      ∧ m' ((c.tc : Thread Cert.ConvFwdReferenceIdeal.nD Cert.ConvFwdReferenceIdeal.τ).loc Cert.ConvFwdReferenceIdeal.main_arg1) = m ((c.tc : Thread Cert.ConvFwdKernelIdeal.nD Cert.ConvFwdKernelIdeal.τ).loc Cert.ConvFwdKernelIdeal.main_arg1)) →
    ∃ (v0 : (c : Dev Cert.ConvFwdKernelIdeal.nD) → Buf (Elt Ideal) ((c.tc : Thread Cert.ConvFwdKernelIdeal.nD Cert.ConvFwdKernelIdeal.τ).loc Cert.ConvFwdKernelIdeal.main_v0_0)) (v1 : (c : Dev Cert.ConvFwdKernelIdeal.nD) → Buf (Elt Ideal) ((c.tc : Thread Cert.ConvFwdKernelIdeal.nD Cert.ConvFwdKernelIdeal.τ).loc Cert.ConvFwdKernelIdeal.main_v0_1)),
      θ_run (Cert.ConvFwdKernelIdeal.defs (F := Ideal)) (onTc (τ := Cert.ConvFwdKernelIdeal.τ) (Cert.ConvFwdKernelIdeal.main (F := Ideal))) ⟨m, fun _ => 0, g⟩ (fun r => ∀ c : Dev Cert.ConvFwdKernelIdeal.nD,
          r.2.mem ((c.tc : Thread Cert.ConvFwdKernelIdeal.nD Cert.ConvFwdKernelIdeal.τ).loc Cert.ConvFwdKernelIdeal.main_v0_0) = v0 c
          ∧ r.2.mem ((c.tc : Thread Cert.ConvFwdKernelIdeal.nD Cert.ConvFwdKernelIdeal.τ).loc Cert.ConvFwdKernelIdeal.main_v0_1) = v1 c
          ∧ r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
          ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v19) = v0 c
          ∧ r.2.mem ((c.tc : Thread Cert.ConvFwdReferenceIdeal.nD Cert.ConvFwdReferenceIdeal.τ).loc Cert.ConvFwdReferenceIdeal.main_v21) = v1 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v4_0)) (v1 : (c : Dev Cert.MergeKernelIdeal.nD) → Buf (Elt Ideal) ((c.tc : Thread Cert.MergeKernelIdeal.nD Cert.MergeKernelIdeal.τ).loc Cert.MergeKernelIdeal.main_v4_1)) (v2 : (c : Dev Cert.MergeKernelIdeal.nD) → Buf (Elt Ideal) ((c.tc : Thread Cert.MergeKernelIdeal.nD Cert.MergeKernelIdeal.τ).loc Cert.MergeKernelIdeal.main_v4_2)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v4_0) = v0 c
          ∧ r.2.mem ((c.tc : Thread Cert.MergeKernelIdeal.nD Cert.MergeKernelIdeal.τ).loc Cert.MergeKernelIdeal.main_v4_1) = v1 c
          ∧ r.2.mem ((c.tc : Thread Cert.MergeKernelIdeal.nD Cert.MergeKernelIdeal.τ).loc Cert.MergeKernelIdeal.main_v4_2) = v2 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v2) = v0 c
          ∧ r.2.mem ((c.tc : Thread Cert.MergeReferenceIdeal.nD Cert.MergeReferenceIdeal.τ).loc Cert.MergeReferenceIdeal.main_v3) = v1 c
          ∧ r.2.mem ((c.tc : Thread Cert.MergeReferenceIdeal.nD Cert.MergeReferenceIdeal.τ).loc Cert.MergeReferenceIdeal.main_v19) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v0_0)) (v1 : (c : Dev Cert.NormKernelIdeal.nD) → Buf (Elt Ideal) ((c.tc : Thread Cert.NormKernelIdeal.nD Cert.NormKernelIdeal.τ).loc Cert.NormKernelIdeal.main_v0_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0_0) = v0 c
          ∧ r.2.mem ((c.tc : Thread Cert.NormKernelIdeal.nD Cert.NormKernelIdeal.τ).loc Cert.NormKernelIdeal.main_v0_1) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_v13) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v2_0)) (v1 : (c : Dev Cert.OutKernelIdeal.nD) → Buf (Elt Ideal) ((c.tc : Thread Cert.OutKernelIdeal.nD Cert.OutKernelIdeal.τ).loc Cert.OutKernelIdeal.main_v2_1)) (v2 : (c : Dev Cert.OutKernelIdeal.nD) → Buf (Elt Ideal) ((c.tc : Thread Cert.OutKernelIdeal.nD Cert.OutKernelIdeal.τ).loc Cert.OutKernelIdeal.main_v2_2)) (v3 : (c : Dev Cert.OutKernelIdeal.nD) → Buf (Elt Ideal) ((c.tc : Thread Cert.OutKernelIdeal.nD Cert.OutKernelIdeal.τ).loc Cert.OutKernelIdeal.main_v2_3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2_0) = v0 c
          ∧ r.2.mem ((c.tc : Thread Cert.OutKernelIdeal.nD Cert.OutKernelIdeal.τ).loc Cert.OutKernelIdeal.main_v2_1) = v1 c
          ∧ r.2.mem ((c.tc : Thread Cert.OutKernelIdeal.nD Cert.OutKernelIdeal.τ).loc Cert.OutKernelIdeal.main_v2_2) = v2 c
          ∧ r.2.mem ((c.tc : Thread Cert.OutKernelIdeal.nD Cert.OutKernelIdeal.τ).loc Cert.OutKernelIdeal.main_v2_3) = v3 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0) = v0 c
          ∧ r.2.mem ((c.tc : Thread Cert.OutReferenceIdeal.nD Cert.OutReferenceIdeal.τ).loc Cert.OutReferenceIdeal.main_v13) = v1 c
          ∧ r.2.mem ((c.tc : Thread Cert.OutReferenceIdeal.nD Cert.OutReferenceIdeal.τ).loc Cert.OutReferenceIdeal.main_v26) = v2 c
          ∧ r.2.mem ((c.tc : Thread Cert.OutReferenceIdeal.nD Cert.OutReferenceIdeal.τ).loc Cert.OutReferenceIdeal.main_v27) = v3 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_MergeBwdKernel_MergeBwdKernelIdeal : Prop :=
  True

def algebraic_MergeBwdKernelIdeal_MergeBwdReferenceIdeal [hMergeBwdKernelIdeal : Cert.MergeBwdKernelIdeal.Facts] [hMergeBwdReferenceIdeal : Cert.MergeBwdReferenceIdeal.Facts] : Prop :=
  ∀ (m : (ℓ : Loc Cert.MergeBwdKernelIdeal.nD Cert.MergeBwdKernelIdeal.τ Cert.MergeBwdKernelIdeal.sig) → Buf (Elt Ideal) ℓ) (g : Dev Cert.MergeBwdKernelIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdKernelIdeal m →
    (∀ c : Dev Cert.MergeBwdKernelIdeal.nD,
      m' ((c.tc : Thread Cert.MergeBwdReferenceIdeal.nD Cert.MergeBwdReferenceIdeal.τ).loc Cert.MergeBwdReferenceIdeal.main_arg0) = m ((c.tc : Thread Cert.MergeBwdKernelIdeal.nD Cert.MergeBwdKernelIdeal.τ).loc Cert.MergeBwdKernelIdeal.main_arg0)
      ∧ m' ((c.tc : Thread Cert.MergeBwdReferenceIdeal.nD Cert.MergeBwdReferenceIdeal.τ).loc Cert.MergeBwdReferenceIdeal.main_arg1) = m ((c.tc : Thread Cert.MergeBwdKernelIdeal.nD Cert.MergeBwdKernelIdeal.τ).loc Cert.MergeBwdKernelIdeal.main_arg1)
      ∧ m' ((c.tc : Thread Cert.MergeBwdReferenceIdeal.nD Cert.MergeBwdReferenceIdeal.τ).loc Cert.MergeBwdReferenceIdeal.main_arg2) = m ((c.tc : Thread Cert.MergeBwdKernelIdeal.nD Cert.MergeBwdKernelIdeal.τ).loc Cert.MergeBwdKernelIdeal.main_arg2)
      ∧ m' ((c.tc : Thread Cert.MergeBwdReferenceIdeal.nD Cert.MergeBwdReferenceIdeal.τ).loc Cert.MergeBwdReferenceIdeal.main_arg3) = m ((c.tc : Thread Cert.MergeBwdKernelIdeal.nD Cert.MergeBwdKernelIdeal.τ).loc Cert.MergeBwdKernelIdeal.main_arg3)
      ∧ m' ((c.tc : Thread Cert.MergeBwdReferenceIdeal.nD Cert.MergeBwdReferenceIdeal.τ).loc Cert.MergeBwdReferenceIdeal.main_arg4) = m ((c.tc : Thread Cert.MergeBwdKernelIdeal.nD Cert.MergeBwdKernelIdeal.τ).loc Cert.MergeBwdKernelIdeal.main_arg4)) →
    ∃ (v0 : (c : Dev Cert.MergeBwdKernelIdeal.nD) → Buf (Elt Ideal) ((c.tc : Thread Cert.MergeBwdKernelIdeal.nD Cert.MergeBwdKernelIdeal.τ).loc Cert.MergeBwdKernelIdeal.main_v20_0)) (v1 : (c : Dev Cert.MergeBwdKernelIdeal.nD) → Buf (Elt Ideal) ((c.tc : Thread Cert.MergeBwdKernelIdeal.nD Cert.MergeBwdKernelIdeal.τ).loc Cert.MergeBwdKernelIdeal.main_v20_1)) (v2 : (c : Dev Cert.MergeBwdKernelIdeal.nD) → Buf (Elt Ideal) ((c.tc : Thread Cert.MergeBwdKernelIdeal.nD Cert.MergeBwdKernelIdeal.τ).loc Cert.MergeBwdKernelIdeal.main_v20_2)) (v3 : (c : Dev Cert.MergeBwdKernelIdeal.nD) → Buf (Elt Ideal) ((c.tc : Thread Cert.MergeBwdKernelIdeal.nD Cert.MergeBwdKernelIdeal.τ).loc Cert.MergeBwdKernelIdeal.main_v20_3)),
      θ_run (Cert.MergeBwdKernelIdeal.defs (F := Ideal)) (onTc (τ := Cert.MergeBwdKernelIdeal.τ) (Cert.MergeBwdKernelIdeal.main (F := Ideal))) ⟨m, fun _ => 0, g⟩ (fun r => ∀ c : Dev Cert.MergeBwdKernelIdeal.nD,
          r.2.mem ((c.tc : Thread Cert.MergeBwdKernelIdeal.nD Cert.MergeBwdKernelIdeal.τ).loc Cert.MergeBwdKernelIdeal.main_v20_0) = v0 c
          ∧ r.2.mem ((c.tc : Thread Cert.MergeBwdKernelIdeal.nD Cert.MergeBwdKernelIdeal.τ).loc Cert.MergeBwdKernelIdeal.main_v20_1) = v1 c
          ∧ r.2.mem ((c.tc : Thread Cert.MergeBwdKernelIdeal.nD Cert.MergeBwdKernelIdeal.τ).loc Cert.MergeBwdKernelIdeal.main_v20_2) = v2 c
          ∧ r.2.mem ((c.tc : Thread Cert.MergeBwdKernelIdeal.nD Cert.MergeBwdKernelIdeal.τ).loc Cert.MergeBwdKernelIdeal.main_v20_3) = v3 c
          ∧ r.2.mem ((c.tc : Thread Cert.MergeBwdKernelIdeal.nD Cert.MergeBwdKernelIdeal.τ).loc Cert.MergeBwdKernelIdeal.main_arg0) = m ((c.tc : Thread Cert.MergeBwdKernelIdeal.nD Cert.MergeBwdKernelIdeal.τ).loc Cert.MergeBwdKernelIdeal.main_arg0)
          ∧ r.2.mem ((c.tc : Thread Cert.MergeBwdKernelIdeal.nD Cert.MergeBwdKernelIdeal.τ).loc Cert.MergeBwdKernelIdeal.main_arg1) = m ((c.tc : Thread Cert.MergeBwdKernelIdeal.nD Cert.MergeBwdKernelIdeal.τ).loc Cert.MergeBwdKernelIdeal.main_arg1)
          ∧ r.2.mem ((c.tc : Thread Cert.MergeBwdKernelIdeal.nD Cert.MergeBwdKernelIdeal.τ).loc Cert.MergeBwdKernelIdeal.main_arg2) = m ((c.tc : Thread Cert.MergeBwdKernelIdeal.nD Cert.MergeBwdKernelIdeal.τ).loc Cert.MergeBwdKernelIdeal.main_arg2)
          ∧ r.2.mem ((c.tc : Thread Cert.MergeBwdKernelIdeal.nD Cert.MergeBwdKernelIdeal.τ).loc Cert.MergeBwdKernelIdeal.main_arg3) = m ((c.tc : Thread Cert.MergeBwdKernelIdeal.nD Cert.MergeBwdKernelIdeal.τ).loc Cert.MergeBwdKernelIdeal.main_arg3)
          ∧ r.2.mem ((c.tc : Thread Cert.MergeBwdKernelIdeal.nD Cert.MergeBwdKernelIdeal.τ).loc Cert.MergeBwdKernelIdeal.main_arg4) = m ((c.tc : Thread Cert.MergeBwdKernelIdeal.nD Cert.MergeBwdKernelIdeal.τ).loc Cert.MergeBwdKernelIdeal.main_arg4))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v33) = v0 c
          ∧ r.2.mem ((c.tc : Thread Cert.MergeBwdReferenceIdeal.nD Cert.MergeBwdReferenceIdeal.τ).loc Cert.MergeBwdReferenceIdeal.main_v34) = v1 c
          ∧ r.2.mem ((c.tc : Thread Cert.MergeBwdReferenceIdeal.nD Cert.MergeBwdReferenceIdeal.τ).loc Cert.MergeBwdReferenceIdeal.main_v35) = v2 c
          ∧ r.2.mem ((c.tc : Thread Cert.MergeBwdReferenceIdeal.nD Cert.MergeBwdReferenceIdeal.τ).loc Cert.MergeBwdReferenceIdeal.main_v39) = v3 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3)
          ∧ r.2.mem ((c.tc : Thread Cert.MergeBwdReferenceIdeal.nD Cert.MergeBwdReferenceIdeal.τ).loc Cert.MergeBwdReferenceIdeal.main_arg4) = m' ((c.tc : Thread Cert.MergeBwdReferenceIdeal.nD Cert.MergeBwdReferenceIdeal.τ).loc Cert.MergeBwdReferenceIdeal.main_arg4))

def preserves_AdamKernel_AdamKernelIdeal : Prop :=
  IdealRules.named_const.Statement Cert.AdamKernelIdeal.κ "c1" .f32 0x3FC48605#32 ((8388608 / 5463681 : ℝ) : EReal)
  ∧ IdealRules.named_const.Statement Cert.AdamKernelIdeal.κ "c2" .f32 0x42C8E6D3#32 ((268435456 / 2672307 : ℝ) : EReal)

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_NormBwdKernel_NormBwdKernelIdeal : Prop :=
  True

def algebraic_NormBwdKernelIdeal_NormBwdReferenceIdeal [hNormBwdKernelIdeal : Cert.NormBwdKernelIdeal.Facts] [hNormBwdReferenceIdeal : Cert.NormBwdReferenceIdeal.Facts] : Prop :=
  ∀ (m : (ℓ : Loc Cert.NormBwdKernelIdeal.nD Cert.NormBwdKernelIdeal.τ Cert.NormBwdKernelIdeal.sig) → Buf (Elt Ideal) ℓ) (g : Dev Cert.NormBwdKernelIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdKernelIdeal m →
    (∀ c : Dev Cert.NormBwdKernelIdeal.nD,
      m' ((c.tc : Thread Cert.NormBwdReferenceIdeal.nD Cert.NormBwdReferenceIdeal.τ).loc Cert.NormBwdReferenceIdeal.main_arg0) = m ((c.tc : Thread Cert.NormBwdKernelIdeal.nD Cert.NormBwdKernelIdeal.τ).loc Cert.NormBwdKernelIdeal.main_arg0)
      ∧ m' ((c.tc : Thread Cert.NormBwdReferenceIdeal.nD Cert.NormBwdReferenceIdeal.τ).loc Cert.NormBwdReferenceIdeal.main_arg1) = m ((c.tc : Thread Cert.NormBwdKernelIdeal.nD Cert.NormBwdKernelIdeal.τ).loc Cert.NormBwdKernelIdeal.main_arg1)
      ∧ m' ((c.tc : Thread Cert.NormBwdReferenceIdeal.nD Cert.NormBwdReferenceIdeal.τ).loc Cert.NormBwdReferenceIdeal.main_arg2) = m ((c.tc : Thread Cert.NormBwdKernelIdeal.nD Cert.NormBwdKernelIdeal.τ).loc Cert.NormBwdKernelIdeal.main_arg2)
      ∧ m' ((c.tc : Thread Cert.NormBwdReferenceIdeal.nD Cert.NormBwdReferenceIdeal.τ).loc Cert.NormBwdReferenceIdeal.main_arg3) = m ((c.tc : Thread Cert.NormBwdKernelIdeal.nD Cert.NormBwdKernelIdeal.τ).loc Cert.NormBwdKernelIdeal.main_arg3)) →
    ∃ (v0 : (c : Dev Cert.NormBwdKernelIdeal.nD) → Buf (Elt Ideal) ((c.tc : Thread Cert.NormBwdKernelIdeal.nD Cert.NormBwdKernelIdeal.τ).loc Cert.NormBwdKernelIdeal.main_v0_0)) (v1 : (c : Dev Cert.NormBwdKernelIdeal.nD) → Buf (Elt Ideal) ((c.tc : Thread Cert.NormBwdKernelIdeal.nD Cert.NormBwdKernelIdeal.τ).loc Cert.NormBwdKernelIdeal.main_v0_1)),
      θ_run (Cert.NormBwdKernelIdeal.defs (F := Ideal)) (onTc (τ := Cert.NormBwdKernelIdeal.τ) (Cert.NormBwdKernelIdeal.main (F := Ideal))) ⟨m, fun _ => 0, g⟩ (fun r => ∀ c : Dev Cert.NormBwdKernelIdeal.nD,
          r.2.mem ((c.tc : Thread Cert.NormBwdKernelIdeal.nD Cert.NormBwdKernelIdeal.τ).loc Cert.NormBwdKernelIdeal.main_v0_0) = v0 c
          ∧ r.2.mem ((c.tc : Thread Cert.NormBwdKernelIdeal.nD Cert.NormBwdKernelIdeal.τ).loc Cert.NormBwdKernelIdeal.main_v0_1) = v1 c
          ∧ r.2.mem ((c.tc : Thread Cert.NormBwdKernelIdeal.nD Cert.NormBwdKernelIdeal.τ).loc Cert.NormBwdKernelIdeal.main_arg0) = m ((c.tc : Thread Cert.NormBwdKernelIdeal.nD Cert.NormBwdKernelIdeal.τ).loc Cert.NormBwdKernelIdeal.main_arg0)
          ∧ r.2.mem ((c.tc : Thread Cert.NormBwdKernelIdeal.nD Cert.NormBwdKernelIdeal.τ).loc Cert.NormBwdKernelIdeal.main_arg1) = m ((c.tc : Thread Cert.NormBwdKernelIdeal.nD Cert.NormBwdKernelIdeal.τ).loc Cert.NormBwdKernelIdeal.main_arg1)
          ∧ r.2.mem ((c.tc : Thread Cert.NormBwdKernelIdeal.nD Cert.NormBwdKernelIdeal.τ).loc Cert.NormBwdKernelIdeal.main_arg2) = m ((c.tc : Thread Cert.NormBwdKernelIdeal.nD Cert.NormBwdKernelIdeal.τ).loc Cert.NormBwdKernelIdeal.main_arg2)
          ∧ r.2.mem ((c.tc : Thread Cert.NormBwdKernelIdeal.nD Cert.NormBwdKernelIdeal.τ).loc Cert.NormBwdKernelIdeal.main_arg3) = m ((c.tc : Thread Cert.NormBwdKernelIdeal.nD Cert.NormBwdKernelIdeal.τ).loc Cert.NormBwdKernelIdeal.main_arg3))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v34) = v0 c
          ∧ r.2.mem ((c.tc : Thread Cert.NormBwdReferenceIdeal.nD Cert.NormBwdReferenceIdeal.τ).loc Cert.NormBwdReferenceIdeal.main_v17) = v1 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3))

def preserves_MidBwdKernel_MidBwdKernelIdeal : Prop :=
  True

def algebraic_MidBwdKernelIdeal_MidBwdReferenceIdeal [hMidBwdKernelIdeal : Cert.MidBwdKernelIdeal.Facts] [hMidBwdReferenceIdeal : Cert.MidBwdReferenceIdeal.Facts] : Prop :=
  ∀ (m : (ℓ : Loc Cert.MidBwdKernelIdeal.nD Cert.MidBwdKernelIdeal.τ Cert.MidBwdKernelIdeal.sig) → Buf (Elt Ideal) ℓ) (g : Dev Cert.MidBwdKernelIdeal.nD → PrngReg)
    (m' : (ℓ : Loc Cert.MidBwdReferenceIdeal.nD Cert.MidBwdReferenceIdeal.τ Cert.MidBwdReferenceIdeal.sig) → Buf (Elt Ideal) ℓ) (g' : Dev Cert.MidBwdReferenceIdeal.nD → PrngReg), Pre_MidBwdKernelIdeal m →
    (∀ c : Dev Cert.MidBwdKernelIdeal.nD,
      m' ((c.tc : Thread Cert.MidBwdReferenceIdeal.nD Cert.MidBwdReferenceIdeal.τ).loc Cert.MidBwdReferenceIdeal.main_arg0) = m ((c.tc : Thread Cert.MidBwdKernelIdeal.nD Cert.MidBwdKernelIdeal.τ).loc Cert.MidBwdKernelIdeal.main_arg0)
      ∧ m' ((c.tc : Thread Cert.MidBwdReferenceIdeal.nD Cert.MidBwdReferenceIdeal.τ).loc Cert.MidBwdReferenceIdeal.main_arg1) = m ((c.tc : Thread Cert.MidBwdKernelIdeal.nD Cert.MidBwdKernelIdeal.τ).loc Cert.MidBwdKernelIdeal.main_arg1)
      ∧ m' ((c.tc : Thread Cert.MidBwdReferenceIdeal.nD Cert.MidBwdReferenceIdeal.τ).loc Cert.MidBwdReferenceIdeal.main_arg2) = m ((c.tc : Thread Cert.MidBwdKernelIdeal.nD Cert.MidBwdKernelIdeal.τ).loc Cert.MidBwdKernelIdeal.main_arg2)
      ∧ m' ((c.tc : Thread Cert.MidBwdReferenceIdeal.nD Cert.MidBwdReferenceIdeal.τ).loc Cert.MidBwdReferenceIdeal.main_arg3) = m ((c.tc : Thread Cert.MidBwdKernelIdeal.nD Cert.MidBwdKernelIdeal.τ).loc Cert.MidBwdKernelIdeal.main_arg3)
      ∧ m' ((c.tc : Thread Cert.MidBwdReferenceIdeal.nD Cert.MidBwdReferenceIdeal.τ).loc Cert.MidBwdReferenceIdeal.main_arg4) = m ((c.tc : Thread Cert.MidBwdKernelIdeal.nD Cert.MidBwdKernelIdeal.τ).loc Cert.MidBwdKernelIdeal.main_arg4)
      ∧ m' ((c.tc : Thread Cert.MidBwdReferenceIdeal.nD Cert.MidBwdReferenceIdeal.τ).loc Cert.MidBwdReferenceIdeal.main_arg5) = m ((c.tc : Thread Cert.MidBwdKernelIdeal.nD Cert.MidBwdKernelIdeal.τ).loc Cert.MidBwdKernelIdeal.main_arg5)) →
    ∃ (v0 : (c : Dev Cert.MidBwdKernelIdeal.nD) → Buf (Elt Ideal) ((c.tc : Thread Cert.MidBwdKernelIdeal.nD Cert.MidBwdKernelIdeal.τ).loc Cert.MidBwdKernelIdeal.main_v13_0)) (v1 : (c : Dev Cert.MidBwdKernelIdeal.nD) → Buf (Elt Ideal) ((c.tc : Thread Cert.MidBwdKernelIdeal.nD Cert.MidBwdKernelIdeal.τ).loc Cert.MidBwdKernelIdeal.main_v13_1)) (v2 : (c : Dev Cert.MidBwdKernelIdeal.nD) → Buf (Elt Ideal) ((c.tc : Thread Cert.MidBwdKernelIdeal.nD Cert.MidBwdKernelIdeal.τ).loc Cert.MidBwdKernelIdeal.main_v13_2)) (v3 : (c : Dev Cert.MidBwdKernelIdeal.nD) → Buf (Elt Ideal) ((c.tc : Thread Cert.MidBwdKernelIdeal.nD Cert.MidBwdKernelIdeal.τ).loc Cert.MidBwdKernelIdeal.main_v13_3)),
      θ_run (Cert.MidBwdKernelIdeal.defs (F := Ideal)) (onTc (τ := Cert.MidBwdKernelIdeal.τ) (Cert.MidBwdKernelIdeal.main (F := Ideal))) ⟨m, fun _ => 0, g⟩ (fun r => ∀ c : Dev Cert.MidBwdKernelIdeal.nD,
          r.2.mem ((c.tc : Thread Cert.MidBwdKernelIdeal.nD Cert.MidBwdKernelIdeal.τ).loc Cert.MidBwdKernelIdeal.main_v13_0) = v0 c
          ∧ r.2.mem ((c.tc : Thread Cert.MidBwdKernelIdeal.nD Cert.MidBwdKernelIdeal.τ).loc Cert.MidBwdKernelIdeal.main_v13_1) = v1 c
          ∧ r.2.mem ((c.tc : Thread Cert.MidBwdKernelIdeal.nD Cert.MidBwdKernelIdeal.τ).loc Cert.MidBwdKernelIdeal.main_v13_2) = v2 c
          ∧ r.2.mem ((c.tc : Thread Cert.MidBwdKernelIdeal.nD Cert.MidBwdKernelIdeal.τ).loc Cert.MidBwdKernelIdeal.main_v13_3) = v3 c
          ∧ r.2.mem ((c.tc : Thread Cert.MidBwdKernelIdeal.nD Cert.MidBwdKernelIdeal.τ).loc Cert.MidBwdKernelIdeal.main_arg0) = m ((c.tc : Thread Cert.MidBwdKernelIdeal.nD Cert.MidBwdKernelIdeal.τ).loc Cert.MidBwdKernelIdeal.main_arg0)
          ∧ r.2.mem ((c.tc : Thread Cert.MidBwdKernelIdeal.nD Cert.MidBwdKernelIdeal.τ).loc Cert.MidBwdKernelIdeal.main_arg1) = m ((c.tc : Thread Cert.MidBwdKernelIdeal.nD Cert.MidBwdKernelIdeal.τ).loc Cert.MidBwdKernelIdeal.main_arg1)
          ∧ r.2.mem ((c.tc : Thread Cert.MidBwdKernelIdeal.nD Cert.MidBwdKernelIdeal.τ).loc Cert.MidBwdKernelIdeal.main_arg2) = m ((c.tc : Thread Cert.MidBwdKernelIdeal.nD Cert.MidBwdKernelIdeal.τ).loc Cert.MidBwdKernelIdeal.main_arg2)
          ∧ r.2.mem ((c.tc : Thread Cert.MidBwdKernelIdeal.nD Cert.MidBwdKernelIdeal.τ).loc Cert.MidBwdKernelIdeal.main_arg3) = m ((c.tc : Thread Cert.MidBwdKernelIdeal.nD Cert.MidBwdKernelIdeal.τ).loc Cert.MidBwdKernelIdeal.main_arg3)
          ∧ r.2.mem ((c.tc : Thread Cert.MidBwdKernelIdeal.nD Cert.MidBwdKernelIdeal.τ).loc Cert.MidBwdKernelIdeal.main_arg4) = m ((c.tc : Thread Cert.MidBwdKernelIdeal.nD Cert.MidBwdKernelIdeal.τ).loc Cert.MidBwdKernelIdeal.main_arg4)
          ∧ r.2.mem ((c.tc : Thread Cert.MidBwdKernelIdeal.nD Cert.MidBwdKernelIdeal.τ).loc Cert.MidBwdKernelIdeal.main_arg5) = m ((c.tc : Thread Cert.MidBwdKernelIdeal.nD Cert.MidBwdKernelIdeal.τ).loc Cert.MidBwdKernelIdeal.main_arg5))
      ∧ θ_run (Cert.MidBwdReferenceIdeal.defs (F := Ideal)) (onTc (τ := Cert.MidBwdReferenceIdeal.τ) (Cert.MidBwdReferenceIdeal.main (F := Ideal))) ⟨m', fun _ => 0, g'⟩ (fun r => ∀ c : Dev Cert.MidBwdReferenceIdeal.nD,
          r.2.mem ((c.tc : Thread Cert.MidBwdReferenceIdeal.nD Cert.MidBwdReferenceIdeal.τ).loc Cert.MidBwdReferenceIdeal.main_v50) = v0 c
          ∧ r.2.mem ((c.tc : Thread Cert.MidBwdReferenceIdeal.nD Cert.MidBwdReferenceIdeal.τ).loc Cert.MidBwdReferenceIdeal.main_v71) = v1 c
          ∧ r.2.mem ((c.tc : Thread Cert.MidBwdReferenceIdeal.nD Cert.MidBwdReferenceIdeal.τ).loc Cert.MidBwdReferenceIdeal.main_v33) = v2 c
          ∧ r.2.mem ((c.tc : Thread Cert.MidBwdReferenceIdeal.nD Cert.MidBwdReferenceIdeal.τ).loc Cert.MidBwdReferenceIdeal.main_v54) = v3 c
          ∧ r.2.mem ((c.tc : Thread Cert.MidBwdReferenceIdeal.nD Cert.MidBwdReferenceIdeal.τ).loc Cert.MidBwdReferenceIdeal.main_arg0) = m' ((c.tc : Thread Cert.MidBwdReferenceIdeal.nD Cert.MidBwdReferenceIdeal.τ).loc Cert.MidBwdReferenceIdeal.main_arg0)
          ∧ r.2.mem ((c.tc : Thread Cert.MidBwdReferenceIdeal.nD Cert.MidBwdReferenceIdeal.τ).loc Cert.MidBwdReferenceIdeal.main_arg1) = m' ((c.tc : Thread Cert.MidBwdReferenceIdeal.nD Cert.MidBwdReferenceIdeal.τ).loc Cert.MidBwdReferenceIdeal.main_arg1)
          ∧ r.2.mem ((c.tc : Thread Cert.MidBwdReferenceIdeal.nD Cert.MidBwdReferenceIdeal.τ).loc Cert.MidBwdReferenceIdeal.main_arg2) = m' ((c.tc : Thread Cert.MidBwdReferenceIdeal.nD Cert.MidBwdReferenceIdeal.τ).loc Cert.MidBwdReferenceIdeal.main_arg2)
          ∧ r.2.mem ((c.tc : Thread Cert.MidBwdReferenceIdeal.nD Cert.MidBwdReferenceIdeal.τ).loc Cert.MidBwdReferenceIdeal.main_arg3) = m' ((c.tc : Thread Cert.MidBwdReferenceIdeal.nD Cert.MidBwdReferenceIdeal.τ).loc Cert.MidBwdReferenceIdeal.main_arg3)
          ∧ r.2.mem ((c.tc : Thread Cert.MidBwdReferenceIdeal.nD Cert.MidBwdReferenceIdeal.τ).loc Cert.MidBwdReferenceIdeal.main_arg4) = m' ((c.tc : Thread Cert.MidBwdReferenceIdeal.nD Cert.MidBwdReferenceIdeal.τ).loc Cert.MidBwdReferenceIdeal.main_arg4)
          ∧ r.2.mem ((c.tc : Thread Cert.MidBwdReferenceIdeal.nD Cert.MidBwdReferenceIdeal.τ).loc Cert.MidBwdReferenceIdeal.main_arg5) = m' ((c.tc : Thread Cert.MidBwdReferenceIdeal.nD Cert.MidBwdReferenceIdeal.τ).loc Cert.MidBwdReferenceIdeal.main_arg5))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v2_1)) (v2 : (c : Dev Cert.LossKernelIdeal.nD) → Buf (Elt Ideal) ((c.tc : Thread Cert.LossKernelIdeal.nD Cert.LossKernelIdeal.τ).loc Cert.LossKernelIdeal.main_v2_2)) (v3 : (c : Dev Cert.LossKernelIdeal.nD) → Buf (Elt Ideal) ((c.tc : Thread Cert.LossKernelIdeal.nD Cert.LossKernelIdeal.τ).loc Cert.LossKernelIdeal.main_v2_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v2_1) = v1 c
          ∧ r.2.mem ((c.tc : Thread Cert.LossKernelIdeal.nD Cert.LossKernelIdeal.τ).loc Cert.LossKernelIdeal.main_v2_2) = v2 c
          ∧ r.2.mem ((c.tc : Thread Cert.LossKernelIdeal.nD Cert.LossKernelIdeal.τ).loc Cert.LossKernelIdeal.main_v2_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v31) = v0 c
          ∧ r.2.mem ((c.tc : Thread Cert.LossReferenceIdeal.nD Cert.LossReferenceIdeal.τ).loc Cert.LossReferenceIdeal.main_v51) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_v34) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_HalvesKernel_HalvesKernelIdeal : Prop :=
  IdealRules.named_const.Statement Cert.HalvesKernelIdeal.κ "c1" .f32 0x3FC48605#32 ((8388608 / 5463681 : ℝ) : EReal)
  ∧ IdealRules.named_const.Statement Cert.HalvesKernelIdeal.κ "c2" .f32 0x42C8E6D3#32 ((268435456 / 2672307 : ℝ) : EReal)

def algebraic_HalvesKernelIdeal_HalvesReferenceIdeal [hHalvesKernelIdeal : Cert.HalvesKernelIdeal.Facts] [hHalvesReferenceIdeal : Cert.HalvesReferenceIdeal.Facts] : Prop :=
  ∀ (m : (ℓ : Loc Cert.HalvesKernelIdeal.nD Cert.HalvesKernelIdeal.τ Cert.HalvesKernelIdeal.sig) → Buf (Elt Ideal) ℓ) (g : Dev Cert.HalvesKernelIdeal.nD → PrngReg)
    (m' : (ℓ : Loc Cert.HalvesReferenceIdeal.nD Cert.HalvesReferenceIdeal.τ Cert.HalvesReferenceIdeal.sig) → Buf (Elt Ideal) ℓ) (g' : Dev Cert.HalvesReferenceIdeal.nD → PrngReg), Pre_HalvesKernelIdeal m →
    (∀ c : Dev Cert.HalvesKernelIdeal.nD,
      m' ((c.tc : Thread Cert.HalvesReferenceIdeal.nD Cert.HalvesReferenceIdeal.τ).loc Cert.HalvesReferenceIdeal.main_arg0) = m ((c.tc : Thread Cert.HalvesKernelIdeal.nD Cert.HalvesKernelIdeal.τ).loc Cert.HalvesKernelIdeal.main_arg0)
      ∧ m' ((c.tc : Thread Cert.HalvesReferenceIdeal.nD Cert.HalvesReferenceIdeal.τ).loc Cert.HalvesReferenceIdeal.main_arg1) = m ((c.tc : Thread Cert.HalvesKernelIdeal.nD Cert.HalvesKernelIdeal.τ).loc Cert.HalvesKernelIdeal.main_arg1)
      ∧ m' ((c.tc : Thread Cert.HalvesReferenceIdeal.nD Cert.HalvesReferenceIdeal.τ).loc Cert.HalvesReferenceIdeal.main_arg2) = m ((c.tc : Thread Cert.HalvesKernelIdeal.nD Cert.HalvesKernelIdeal.τ).loc Cert.HalvesKernelIdeal.main_arg2)
      ∧ m' ((c.tc : Thread Cert.HalvesReferenceIdeal.nD Cert.HalvesReferenceIdeal.τ).loc Cert.HalvesReferenceIdeal.main_arg3) = m ((c.tc : Thread Cert.HalvesKernelIdeal.nD Cert.HalvesKernelIdeal.τ).loc Cert.HalvesKernelIdeal.main_arg3)
      ∧ m' ((c.tc : Thread Cert.HalvesReferenceIdeal.nD Cert.HalvesReferenceIdeal.τ).loc Cert.HalvesReferenceIdeal.main_arg4) = m ((c.tc : Thread Cert.HalvesKernelIdeal.nD Cert.HalvesKernelIdeal.τ).loc Cert.HalvesKernelIdeal.main_arg4)
      ∧ m' ((c.tc : Thread Cert.HalvesReferenceIdeal.nD Cert.HalvesReferenceIdeal.τ).loc Cert.HalvesReferenceIdeal.main_arg5) = m ((c.tc : Thread Cert.HalvesKernelIdeal.nD Cert.HalvesKernelIdeal.τ).loc Cert.HalvesKernelIdeal.main_arg5)) →
    ∃ (v0 : (c : Dev Cert.HalvesKernelIdeal.nD) → Buf (Elt Ideal) ((c.tc : Thread Cert.HalvesKernelIdeal.nD Cert.HalvesKernelIdeal.τ).loc Cert.HalvesKernelIdeal.main_v0_0)) (v1 : (c : Dev Cert.HalvesKernelIdeal.nD) → Buf (Elt Ideal) ((c.tc : Thread Cert.HalvesKernelIdeal.nD Cert.HalvesKernelIdeal.τ).loc Cert.HalvesKernelIdeal.main_v0_1)) (v2 : (c : Dev Cert.HalvesKernelIdeal.nD) → Buf (Elt Ideal) ((c.tc : Thread Cert.HalvesKernelIdeal.nD Cert.HalvesKernelIdeal.τ).loc Cert.HalvesKernelIdeal.main_v0_2)) (v3 : (c : Dev Cert.HalvesKernelIdeal.nD) → Buf (Elt Ideal) ((c.tc : Thread Cert.HalvesKernelIdeal.nD Cert.HalvesKernelIdeal.τ).loc Cert.HalvesKernelIdeal.main_v0_3)),
      θ_run (Cert.HalvesKernelIdeal.defs (F := Ideal)) (onTc (τ := Cert.HalvesKernelIdeal.τ) (Cert.HalvesKernelIdeal.main (F := Ideal))) ⟨m, fun _ => 0, g⟩ (fun r => ∀ c : Dev Cert.HalvesKernelIdeal.nD,
          r.2.mem ((c.tc : Thread Cert.HalvesKernelIdeal.nD Cert.HalvesKernelIdeal.τ).loc Cert.HalvesKernelIdeal.main_v0_0) = v0 c
          ∧ r.2.mem ((c.tc : Thread Cert.HalvesKernelIdeal.nD Cert.HalvesKernelIdeal.τ).loc Cert.HalvesKernelIdeal.main_v0_1) = v1 c
          ∧ r.2.mem ((c.tc : Thread Cert.HalvesKernelIdeal.nD Cert.HalvesKernelIdeal.τ).loc Cert.HalvesKernelIdeal.main_v0_2) = v2 c
          ∧ r.2.mem ((c.tc : Thread Cert.HalvesKernelIdeal.nD Cert.HalvesKernelIdeal.τ).loc Cert.HalvesKernelIdeal.main_v0_3) = v3 c
          ∧ r.2.mem ((c.tc : Thread Cert.HalvesKernelIdeal.nD Cert.HalvesKernelIdeal.τ).loc Cert.HalvesKernelIdeal.main_arg0) = m ((c.tc : Thread Cert.HalvesKernelIdeal.nD Cert.HalvesKernelIdeal.τ).loc Cert.HalvesKernelIdeal.main_arg0)
          ∧ r.2.mem ((c.tc : Thread Cert.HalvesKernelIdeal.nD Cert.HalvesKernelIdeal.τ).loc Cert.HalvesKernelIdeal.main_arg1) = m ((c.tc : Thread Cert.HalvesKernelIdeal.nD Cert.HalvesKernelIdeal.τ).loc Cert.HalvesKernelIdeal.main_arg1)
          ∧ r.2.mem ((c.tc : Thread Cert.HalvesKernelIdeal.nD Cert.HalvesKernelIdeal.τ).loc Cert.HalvesKernelIdeal.main_arg2) = m ((c.tc : Thread Cert.HalvesKernelIdeal.nD Cert.HalvesKernelIdeal.τ).loc Cert.HalvesKernelIdeal.main_arg2)
          ∧ r.2.mem ((c.tc : Thread Cert.HalvesKernelIdeal.nD Cert.HalvesKernelIdeal.τ).loc Cert.HalvesKernelIdeal.main_arg3) = m ((c.tc : Thread Cert.HalvesKernelIdeal.nD Cert.HalvesKernelIdeal.τ).loc Cert.HalvesKernelIdeal.main_arg3)
          ∧ r.2.mem ((c.tc : Thread Cert.HalvesKernelIdeal.nD Cert.HalvesKernelIdeal.τ).loc Cert.HalvesKernelIdeal.main_arg4) = m ((c.tc : Thread Cert.HalvesKernelIdeal.nD Cert.HalvesKernelIdeal.τ).loc Cert.HalvesKernelIdeal.main_arg4)
          ∧ r.2.mem ((c.tc : Thread Cert.HalvesKernelIdeal.nD Cert.HalvesKernelIdeal.τ).loc Cert.HalvesKernelIdeal.main_arg5) = m ((c.tc : Thread Cert.HalvesKernelIdeal.nD Cert.HalvesKernelIdeal.τ).loc Cert.HalvesKernelIdeal.main_arg5))
      ∧ θ_run (Cert.HalvesReferenceIdeal.defs (F := Ideal)) (onTc (τ := Cert.HalvesReferenceIdeal.τ) (Cert.HalvesReferenceIdeal.main (F := Ideal))) ⟨m', fun _ => 0, g'⟩ (fun r => ∀ c : Dev Cert.HalvesReferenceIdeal.nD,
          r.2.mem ((c.tc : Thread Cert.HalvesReferenceIdeal.nD Cert.HalvesReferenceIdeal.τ).loc Cert.HalvesReferenceIdeal.main_v6) = v0 c
          ∧ r.2.mem ((c.tc : Thread Cert.HalvesReferenceIdeal.nD Cert.HalvesReferenceIdeal.τ).loc Cert.HalvesReferenceIdeal.main_v30) = v1 c
          ∧ r.2.mem ((c.tc : Thread Cert.HalvesReferenceIdeal.nD Cert.HalvesReferenceIdeal.τ).loc Cert.HalvesReferenceIdeal.main_v11) = v2 c
          ∧ r.2.mem ((c.tc : Thread Cert.HalvesReferenceIdeal.nD Cert.HalvesReferenceIdeal.τ).loc Cert.HalvesReferenceIdeal.main_v17) = v3 c
          ∧ r.2.mem ((c.tc : Thread Cert.HalvesReferenceIdeal.nD Cert.HalvesReferenceIdeal.τ).loc Cert.HalvesReferenceIdeal.main_arg0) = m' ((c.tc : Thread Cert.HalvesReferenceIdeal.nD Cert.HalvesReferenceIdeal.τ).loc Cert.HalvesReferenceIdeal.main_arg0)
          ∧ r.2.mem ((c.tc : Thread Cert.HalvesReferenceIdeal.nD Cert.HalvesReferenceIdeal.τ).loc Cert.HalvesReferenceIdeal.main_arg1) = m' ((c.tc : Thread Cert.HalvesReferenceIdeal.nD Cert.HalvesReferenceIdeal.τ).loc Cert.HalvesReferenceIdeal.main_arg1)
          ∧ r.2.mem ((c.tc : Thread Cert.HalvesReferenceIdeal.nD Cert.HalvesReferenceIdeal.τ).loc Cert.HalvesReferenceIdeal.main_arg2) = m' ((c.tc : Thread Cert.HalvesReferenceIdeal.nD Cert.HalvesReferenceIdeal.τ).loc Cert.HalvesReferenceIdeal.main_arg2)
          ∧ r.2.mem ((c.tc : Thread Cert.HalvesReferenceIdeal.nD Cert.HalvesReferenceIdeal.τ).loc Cert.HalvesReferenceIdeal.main_arg3) = m' ((c.tc : Thread Cert.HalvesReferenceIdeal.nD Cert.HalvesReferenceIdeal.τ).loc Cert.HalvesReferenceIdeal.main_arg3)
          ∧ r.2.mem ((c.tc : Thread Cert.HalvesReferenceIdeal.nD Cert.HalvesReferenceIdeal.τ).loc Cert.HalvesReferenceIdeal.main_arg4) = m' ((c.tc : Thread Cert.HalvesReferenceIdeal.nD Cert.HalvesReferenceIdeal.τ).loc Cert.HalvesReferenceIdeal.main_arg4)
          ∧ r.2.mem ((c.tc : Thread Cert.HalvesReferenceIdeal.nD Cert.HalvesReferenceIdeal.τ).loc Cert.HalvesReferenceIdeal.main_arg5) = m' ((c.tc : Thread Cert.HalvesReferenceIdeal.nD Cert.HalvesReferenceIdeal.τ).loc Cert.HalvesReferenceIdeal.main_arg5))

def preserves_SumKernel_SumKernelIdeal : Prop :=
  True

def algebraic_SumKernelIdeal_SumReferenceIdeal [hSumKernelIdeal : Cert.SumKernelIdeal.Facts] [hSumReferenceIdeal : Cert.SumReferenceIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumKernelIdeal m →
    (∀ c : Dev Cert.SumKernelIdeal.nD,
      m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)) →
    ∃ (v0 : (c : Dev Cert.SumKernelIdeal.nD) → Buf (Elt Ideal) ((c.tc : Thread Cert.SumKernelIdeal.nD Cert.SumKernelIdeal.τ).loc Cert.SumKernelIdeal.main_v0)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v0) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_UpHalvesKernel_UpHalvesKernelIdeal : Prop :=
  IdealRules.named_const.Statement Cert.UpHalvesKernelIdeal.κ "c1" .f32 0x3FC48605#32 ((8388608 / 5463681 : ℝ) : EReal)
  ∧ IdealRules.named_const.Statement Cert.UpHalvesKernelIdeal.κ "c2" .f32 0x42C8E6D3#32 ((268435456 / 2672307 : ℝ) : EReal)

def algebraic_UpHalvesKernelIdeal_UpHalvesReferenceIdeal [hUpHalvesKernelIdeal : Cert.UpHalvesKernelIdeal.Facts] [hUpHalvesReferenceIdeal : Cert.UpHalvesReferenceIdeal.Facts] : Prop :=
  ∀ (m : (ℓ : Loc Cert.UpHalvesKernelIdeal.nD Cert.UpHalvesKernelIdeal.τ Cert.UpHalvesKernelIdeal.sig) → Buf (Elt Ideal) ℓ) (g : Dev Cert.UpHalvesKernelIdeal.nD → PrngReg)
    (m' : (ℓ : Loc Cert.UpHalvesReferenceIdeal.nD Cert.UpHalvesReferenceIdeal.τ Cert.UpHalvesReferenceIdeal.sig) → Buf (Elt Ideal) ℓ) (g' : Dev Cert.UpHalvesReferenceIdeal.nD → PrngReg), Pre_UpHalvesKernelIdeal m →
    (∀ c : Dev Cert.UpHalvesKernelIdeal.nD,
      m' ((c.tc : Thread Cert.UpHalvesReferenceIdeal.nD Cert.UpHalvesReferenceIdeal.τ).loc Cert.UpHalvesReferenceIdeal.main_arg0) = m ((c.tc : Thread Cert.UpHalvesKernelIdeal.nD Cert.UpHalvesKernelIdeal.τ).loc Cert.UpHalvesKernelIdeal.main_arg0)
      ∧ m' ((c.tc : Thread Cert.UpHalvesReferenceIdeal.nD Cert.UpHalvesReferenceIdeal.τ).loc Cert.UpHalvesReferenceIdeal.main_arg1) = m ((c.tc : Thread Cert.UpHalvesKernelIdeal.nD Cert.UpHalvesKernelIdeal.τ).loc Cert.UpHalvesKernelIdeal.main_arg1)
      ∧ m' ((c.tc : Thread Cert.UpHalvesReferenceIdeal.nD Cert.UpHalvesReferenceIdeal.τ).loc Cert.UpHalvesReferenceIdeal.main_arg2) = m ((c.tc : Thread Cert.UpHalvesKernelIdeal.nD Cert.UpHalvesKernelIdeal.τ).loc Cert.UpHalvesKernelIdeal.main_arg2)
      ∧ m' ((c.tc : Thread Cert.UpHalvesReferenceIdeal.nD Cert.UpHalvesReferenceIdeal.τ).loc Cert.UpHalvesReferenceIdeal.main_arg3) = m ((c.tc : Thread Cert.UpHalvesKernelIdeal.nD Cert.UpHalvesKernelIdeal.τ).loc Cert.UpHalvesKernelIdeal.main_arg3)
      ∧ m' ((c.tc : Thread Cert.UpHalvesReferenceIdeal.nD Cert.UpHalvesReferenceIdeal.τ).loc Cert.UpHalvesReferenceIdeal.main_arg4) = m ((c.tc : Thread Cert.UpHalvesKernelIdeal.nD Cert.UpHalvesKernelIdeal.τ).loc Cert.UpHalvesKernelIdeal.main_arg4)
      ∧ m' ((c.tc : Thread Cert.UpHalvesReferenceIdeal.nD Cert.UpHalvesReferenceIdeal.τ).loc Cert.UpHalvesReferenceIdeal.main_arg5) = m ((c.tc : Thread Cert.UpHalvesKernelIdeal.nD Cert.UpHalvesKernelIdeal.τ).loc Cert.UpHalvesKernelIdeal.main_arg5)) →
    ∃ (v0 : (c : Dev Cert.UpHalvesKernelIdeal.nD) → Buf (Elt Ideal) ((c.tc : Thread Cert.UpHalvesKernelIdeal.nD Cert.UpHalvesKernelIdeal.τ).loc Cert.UpHalvesKernelIdeal.main_v0_0)) (v1 : (c : Dev Cert.UpHalvesKernelIdeal.nD) → Buf (Elt Ideal) ((c.tc : Thread Cert.UpHalvesKernelIdeal.nD Cert.UpHalvesKernelIdeal.τ).loc Cert.UpHalvesKernelIdeal.main_v0_1)) (v2 : (c : Dev Cert.UpHalvesKernelIdeal.nD) → Buf (Elt Ideal) ((c.tc : Thread Cert.UpHalvesKernelIdeal.nD Cert.UpHalvesKernelIdeal.τ).loc Cert.UpHalvesKernelIdeal.main_v0_2)) (v3 : (c : Dev Cert.UpHalvesKernelIdeal.nD) → Buf (Elt Ideal) ((c.tc : Thread Cert.UpHalvesKernelIdeal.nD Cert.UpHalvesKernelIdeal.τ).loc Cert.UpHalvesKernelIdeal.main_v0_3)),
      θ_run (Cert.UpHalvesKernelIdeal.defs (F := Ideal)) (onTc (τ := Cert.UpHalvesKernelIdeal.τ) (Cert.UpHalvesKernelIdeal.main (F := Ideal))) ⟨m, fun _ => 0, g⟩ (fun r => ∀ c : Dev Cert.UpHalvesKernelIdeal.nD,
          r.2.mem ((c.tc : Thread Cert.UpHalvesKernelIdeal.nD Cert.UpHalvesKernelIdeal.τ).loc Cert.UpHalvesKernelIdeal.main_v0_0) = v0 c
          ∧ r.2.mem ((c.tc : Thread Cert.UpHalvesKernelIdeal.nD Cert.UpHalvesKernelIdeal.τ).loc Cert.UpHalvesKernelIdeal.main_v0_1) = v1 c
          ∧ r.2.mem ((c.tc : Thread Cert.UpHalvesKernelIdeal.nD Cert.UpHalvesKernelIdeal.τ).loc Cert.UpHalvesKernelIdeal.main_v0_2) = v2 c
          ∧ r.2.mem ((c.tc : Thread Cert.UpHalvesKernelIdeal.nD Cert.UpHalvesKernelIdeal.τ).loc Cert.UpHalvesKernelIdeal.main_v0_3) = v3 c
          ∧ r.2.mem ((c.tc : Thread Cert.UpHalvesKernelIdeal.nD Cert.UpHalvesKernelIdeal.τ).loc Cert.UpHalvesKernelIdeal.main_arg0) = m ((c.tc : Thread Cert.UpHalvesKernelIdeal.nD Cert.UpHalvesKernelIdeal.τ).loc Cert.UpHalvesKernelIdeal.main_arg0)
          ∧ r.2.mem ((c.tc : Thread Cert.UpHalvesKernelIdeal.nD Cert.UpHalvesKernelIdeal.τ).loc Cert.UpHalvesKernelIdeal.main_arg1) = m ((c.tc : Thread Cert.UpHalvesKernelIdeal.nD Cert.UpHalvesKernelIdeal.τ).loc Cert.UpHalvesKernelIdeal.main_arg1)
          ∧ r.2.mem ((c.tc : Thread Cert.UpHalvesKernelIdeal.nD Cert.UpHalvesKernelIdeal.τ).loc Cert.UpHalvesKernelIdeal.main_arg2) = m ((c.tc : Thread Cert.UpHalvesKernelIdeal.nD Cert.UpHalvesKernelIdeal.τ).loc Cert.UpHalvesKernelIdeal.main_arg2)
          ∧ r.2.mem ((c.tc : Thread Cert.UpHalvesKernelIdeal.nD Cert.UpHalvesKernelIdeal.τ).loc Cert.UpHalvesKernelIdeal.main_arg3) = m ((c.tc : Thread Cert.UpHalvesKernelIdeal.nD Cert.UpHalvesKernelIdeal.τ).loc Cert.UpHalvesKernelIdeal.main_arg3)
          ∧ r.2.mem ((c.tc : Thread Cert.UpHalvesKernelIdeal.nD Cert.UpHalvesKernelIdeal.τ).loc Cert.UpHalvesKernelIdeal.main_arg4) = m ((c.tc : Thread Cert.UpHalvesKernelIdeal.nD Cert.UpHalvesKernelIdeal.τ).loc Cert.UpHalvesKernelIdeal.main_arg4)
          ∧ r.2.mem ((c.tc : Thread Cert.UpHalvesKernelIdeal.nD Cert.UpHalvesKernelIdeal.τ).loc Cert.UpHalvesKernelIdeal.main_arg5) = m ((c.tc : Thread Cert.UpHalvesKernelIdeal.nD Cert.UpHalvesKernelIdeal.τ).loc Cert.UpHalvesKernelIdeal.main_arg5))
      ∧ θ_run (Cert.UpHalvesReferenceIdeal.defs (F := Ideal)) (onTc (τ := Cert.UpHalvesReferenceIdeal.τ) (Cert.UpHalvesReferenceIdeal.main (F := Ideal))) ⟨m', fun _ => 0, g'⟩ (fun r => ∀ c : Dev Cert.UpHalvesReferenceIdeal.nD,
          r.2.mem ((c.tc : Thread Cert.UpHalvesReferenceIdeal.nD Cert.UpHalvesReferenceIdeal.τ).loc Cert.UpHalvesReferenceIdeal.main_v6) = v0 c
          ∧ r.2.mem ((c.tc : Thread Cert.UpHalvesReferenceIdeal.nD Cert.UpHalvesReferenceIdeal.τ).loc Cert.UpHalvesReferenceIdeal.main_v30) = v1 c
          ∧ r.2.mem ((c.tc : Thread Cert.UpHalvesReferenceIdeal.nD Cert.UpHalvesReferenceIdeal.τ).loc Cert.UpHalvesReferenceIdeal.main_v11) = v2 c
          ∧ r.2.mem ((c.tc : Thread Cert.UpHalvesReferenceIdeal.nD Cert.UpHalvesReferenceIdeal.τ).loc Cert.UpHalvesReferenceIdeal.main_v17) = v3 c
          ∧ r.2.mem ((c.tc : Thread Cert.UpHalvesReferenceIdeal.nD Cert.UpHalvesReferenceIdeal.τ).loc Cert.UpHalvesReferenceIdeal.main_arg0) = m' ((c.tc : Thread Cert.UpHalvesReferenceIdeal.nD Cert.UpHalvesReferenceIdeal.τ).loc Cert.UpHalvesReferenceIdeal.main_arg0)
          ∧ r.2.mem ((c.tc : Thread Cert.UpHalvesReferenceIdeal.nD Cert.UpHalvesReferenceIdeal.τ).loc Cert.UpHalvesReferenceIdeal.main_arg1) = m' ((c.tc : Thread Cert.UpHalvesReferenceIdeal.nD Cert.UpHalvesReferenceIdeal.τ).loc Cert.UpHalvesReferenceIdeal.main_arg1)
          ∧ r.2.mem ((c.tc : Thread Cert.UpHalvesReferenceIdeal.nD Cert.UpHalvesReferenceIdeal.τ).loc Cert.UpHalvesReferenceIdeal.main_arg2) = m' ((c.tc : Thread Cert.UpHalvesReferenceIdeal.nD Cert.UpHalvesReferenceIdeal.τ).loc Cert.UpHalvesReferenceIdeal.main_arg2)
          ∧ r.2.mem ((c.tc : Thread Cert.UpHalvesReferenceIdeal.nD Cert.UpHalvesReferenceIdeal.τ).loc Cert.UpHalvesReferenceIdeal.main_arg3) = m' ((c.tc : Thread Cert.UpHalvesReferenceIdeal.nD Cert.UpHalvesReferenceIdeal.τ).loc Cert.UpHalvesReferenceIdeal.main_arg3)
          ∧ r.2.mem ((c.tc : Thread Cert.UpHalvesReferenceIdeal.nD Cert.UpHalvesReferenceIdeal.τ).loc Cert.UpHalvesReferenceIdeal.main_arg4) = m' ((c.tc : Thread Cert.UpHalvesReferenceIdeal.nD Cert.UpHalvesReferenceIdeal.τ).loc Cert.UpHalvesReferenceIdeal.main_arg4)
          ∧ r.2.mem ((c.tc : Thread Cert.UpHalvesReferenceIdeal.nD Cert.UpHalvesReferenceIdeal.τ).loc Cert.UpHalvesReferenceIdeal.main_arg5) = m' ((c.tc : Thread Cert.UpHalvesReferenceIdeal.nD Cert.UpHalvesReferenceIdeal.τ).loc Cert.UpHalvesReferenceIdeal.main_arg5))

def preserves_InHalvesKernel_InHalvesKernelIdeal : Prop :=
  IdealRules.named_const.Statement Cert.InHalvesKernelIdeal.κ "c1" .f32 0x3FC48605#32 ((8388608 / 5463681 : ℝ) : EReal)
  ∧ IdealRules.named_const.Statement Cert.InHalvesKernelIdeal.κ "c2" .f32 0x42C8E6D3#32 ((268435456 / 2672307 : ℝ) : EReal)

def algebraic_InHalvesKernelIdeal_InHalvesReferenceIdeal [hInHalvesKernelIdeal : Cert.InHalvesKernelIdeal.Facts] [hInHalvesReferenceIdeal : Cert.InHalvesReferenceIdeal.Facts] : Prop :=
  ∀ (m : (ℓ : Loc Cert.InHalvesKernelIdeal.nD Cert.InHalvesKernelIdeal.τ Cert.InHalvesKernelIdeal.sig) → Buf (Elt Ideal) ℓ) (g : Dev Cert.InHalvesKernelIdeal.nD → PrngReg)
    (m' : (ℓ : Loc Cert.InHalvesReferenceIdeal.nD Cert.InHalvesReferenceIdeal.τ Cert.InHalvesReferenceIdeal.sig) → Buf (Elt Ideal) ℓ) (g' : Dev Cert.InHalvesReferenceIdeal.nD → PrngReg), Pre_InHalvesKernelIdeal m →
    (∀ c : Dev Cert.InHalvesKernelIdeal.nD,
      m' ((c.tc : Thread Cert.InHalvesReferenceIdeal.nD Cert.InHalvesReferenceIdeal.τ).loc Cert.InHalvesReferenceIdeal.main_arg0) = m ((c.tc : Thread Cert.InHalvesKernelIdeal.nD Cert.InHalvesKernelIdeal.τ).loc Cert.InHalvesKernelIdeal.main_arg0)
      ∧ m' ((c.tc : Thread Cert.InHalvesReferenceIdeal.nD Cert.InHalvesReferenceIdeal.τ).loc Cert.InHalvesReferenceIdeal.main_arg1) = m ((c.tc : Thread Cert.InHalvesKernelIdeal.nD Cert.InHalvesKernelIdeal.τ).loc Cert.InHalvesKernelIdeal.main_arg1)
      ∧ m' ((c.tc : Thread Cert.InHalvesReferenceIdeal.nD Cert.InHalvesReferenceIdeal.τ).loc Cert.InHalvesReferenceIdeal.main_arg2) = m ((c.tc : Thread Cert.InHalvesKernelIdeal.nD Cert.InHalvesKernelIdeal.τ).loc Cert.InHalvesKernelIdeal.main_arg2)
      ∧ m' ((c.tc : Thread Cert.InHalvesReferenceIdeal.nD Cert.InHalvesReferenceIdeal.τ).loc Cert.InHalvesReferenceIdeal.main_arg3) = m ((c.tc : Thread Cert.InHalvesKernelIdeal.nD Cert.InHalvesKernelIdeal.τ).loc Cert.InHalvesKernelIdeal.main_arg3)
      ∧ m' ((c.tc : Thread Cert.InHalvesReferenceIdeal.nD Cert.InHalvesReferenceIdeal.τ).loc Cert.InHalvesReferenceIdeal.main_arg4) = m ((c.tc : Thread Cert.InHalvesKernelIdeal.nD Cert.InHalvesKernelIdeal.τ).loc Cert.InHalvesKernelIdeal.main_arg4)
      ∧ m' ((c.tc : Thread Cert.InHalvesReferenceIdeal.nD Cert.InHalvesReferenceIdeal.τ).loc Cert.InHalvesReferenceIdeal.main_arg5) = m ((c.tc : Thread Cert.InHalvesKernelIdeal.nD Cert.InHalvesKernelIdeal.τ).loc Cert.InHalvesKernelIdeal.main_arg5)) →
    ∃ (v0 : (c : Dev Cert.InHalvesKernelIdeal.nD) → Buf (Elt Ideal) ((c.tc : Thread Cert.InHalvesKernelIdeal.nD Cert.InHalvesKernelIdeal.τ).loc Cert.InHalvesKernelIdeal.main_v0_0)) (v1 : (c : Dev Cert.InHalvesKernelIdeal.nD) → Buf (Elt Ideal) ((c.tc : Thread Cert.InHalvesKernelIdeal.nD Cert.InHalvesKernelIdeal.τ).loc Cert.InHalvesKernelIdeal.main_v0_1)) (v2 : (c : Dev Cert.InHalvesKernelIdeal.nD) → Buf (Elt Ideal) ((c.tc : Thread Cert.InHalvesKernelIdeal.nD Cert.InHalvesKernelIdeal.τ).loc Cert.InHalvesKernelIdeal.main_v0_2)) (v3 : (c : Dev Cert.InHalvesKernelIdeal.nD) → Buf (Elt Ideal) ((c.tc : Thread Cert.InHalvesKernelIdeal.nD Cert.InHalvesKernelIdeal.τ).loc Cert.InHalvesKernelIdeal.main_v0_3)),
      θ_run (Cert.InHalvesKernelIdeal.defs (F := Ideal)) (onTc (τ := Cert.InHalvesKernelIdeal.τ) (Cert.InHalvesKernelIdeal.main (F := Ideal))) ⟨m, fun _ => 0, g⟩ (fun r => ∀ c : Dev Cert.InHalvesKernelIdeal.nD,
          r.2.mem ((c.tc : Thread Cert.InHalvesKernelIdeal.nD Cert.InHalvesKernelIdeal.τ).loc Cert.InHalvesKernelIdeal.main_v0_0) = v0 c
          ∧ r.2.mem ((c.tc : Thread Cert.InHalvesKernelIdeal.nD Cert.InHalvesKernelIdeal.τ).loc Cert.InHalvesKernelIdeal.main_v0_1) = v1 c
          ∧ r.2.mem ((c.tc : Thread Cert.InHalvesKernelIdeal.nD Cert.InHalvesKernelIdeal.τ).loc Cert.InHalvesKernelIdeal.main_v0_2) = v2 c
          ∧ r.2.mem ((c.tc : Thread Cert.InHalvesKernelIdeal.nD Cert.InHalvesKernelIdeal.τ).loc Cert.InHalvesKernelIdeal.main_v0_3) = v3 c
          ∧ r.2.mem ((c.tc : Thread Cert.InHalvesKernelIdeal.nD Cert.InHalvesKernelIdeal.τ).loc Cert.InHalvesKernelIdeal.main_arg0) = m ((c.tc : Thread Cert.InHalvesKernelIdeal.nD Cert.InHalvesKernelIdeal.τ).loc Cert.InHalvesKernelIdeal.main_arg0)
          ∧ r.2.mem ((c.tc : Thread Cert.InHalvesKernelIdeal.nD Cert.InHalvesKernelIdeal.τ).loc Cert.InHalvesKernelIdeal.main_arg1) = m ((c.tc : Thread Cert.InHalvesKernelIdeal.nD Cert.InHalvesKernelIdeal.τ).loc Cert.InHalvesKernelIdeal.main_arg1)
          ∧ r.2.mem ((c.tc : Thread Cert.InHalvesKernelIdeal.nD Cert.InHalvesKernelIdeal.τ).loc Cert.InHalvesKernelIdeal.main_arg2) = m ((c.tc : Thread Cert.InHalvesKernelIdeal.nD Cert.InHalvesKernelIdeal.τ).loc Cert.InHalvesKernelIdeal.main_arg2)
          ∧ r.2.mem ((c.tc : Thread Cert.InHalvesKernelIdeal.nD Cert.InHalvesKernelIdeal.τ).loc Cert.InHalvesKernelIdeal.main_arg3) = m ((c.tc : Thread Cert.InHalvesKernelIdeal.nD Cert.InHalvesKernelIdeal.τ).loc Cert.InHalvesKernelIdeal.main_arg3)
          ∧ r.2.mem ((c.tc : Thread Cert.InHalvesKernelIdeal.nD Cert.InHalvesKernelIdeal.τ).loc Cert.InHalvesKernelIdeal.main_arg4) = m ((c.tc : Thread Cert.InHalvesKernelIdeal.nD Cert.InHalvesKernelIdeal.τ).loc Cert.InHalvesKernelIdeal.main_arg4)
          ∧ r.2.mem ((c.tc : Thread Cert.InHalvesKernelIdeal.nD Cert.InHalvesKernelIdeal.τ).loc Cert.InHalvesKernelIdeal.main_arg5) = m ((c.tc : Thread Cert.InHalvesKernelIdeal.nD Cert.InHalvesKernelIdeal.τ).loc Cert.InHalvesKernelIdeal.main_arg5))
      ∧ θ_run (Cert.InHalvesReferenceIdeal.defs (F := Ideal)) (onTc (τ := Cert.InHalvesReferenceIdeal.τ) (Cert.InHalvesReferenceIdeal.main (F := Ideal))) ⟨m', fun _ => 0, g'⟩ (fun r => ∀ c : Dev Cert.InHalvesReferenceIdeal.nD,
          r.2.mem ((c.tc : Thread Cert.InHalvesReferenceIdeal.nD Cert.InHalvesReferenceIdeal.τ).loc Cert.InHalvesReferenceIdeal.main_v6) = v0 c
          ∧ r.2.mem ((c.tc : Thread Cert.InHalvesReferenceIdeal.nD Cert.InHalvesReferenceIdeal.τ).loc Cert.InHalvesReferenceIdeal.main_v30) = v1 c
          ∧ r.2.mem ((c.tc : Thread Cert.InHalvesReferenceIdeal.nD Cert.InHalvesReferenceIdeal.τ).loc Cert.InHalvesReferenceIdeal.main_v11) = v2 c
          ∧ r.2.mem ((c.tc : Thread Cert.InHalvesReferenceIdeal.nD Cert.InHalvesReferenceIdeal.τ).loc Cert.InHalvesReferenceIdeal.main_v17) = v3 c
          ∧ r.2.mem ((c.tc : Thread Cert.InHalvesReferenceIdeal.nD Cert.InHalvesReferenceIdeal.τ).loc Cert.InHalvesReferenceIdeal.main_arg0) = m' ((c.tc : Thread Cert.InHalvesReferenceIdeal.nD Cert.InHalvesReferenceIdeal.τ).loc Cert.InHalvesReferenceIdeal.main_arg0)
          ∧ r.2.mem ((c.tc : Thread Cert.InHalvesReferenceIdeal.nD Cert.InHalvesReferenceIdeal.τ).loc Cert.InHalvesReferenceIdeal.main_arg1) = m' ((c.tc : Thread Cert.InHalvesReferenceIdeal.nD Cert.InHalvesReferenceIdeal.τ).loc Cert.InHalvesReferenceIdeal.main_arg1)
          ∧ r.2.mem ((c.tc : Thread Cert.InHalvesReferenceIdeal.nD Cert.InHalvesReferenceIdeal.τ).loc Cert.InHalvesReferenceIdeal.main_arg2) = m' ((c.tc : Thread Cert.InHalvesReferenceIdeal.nD Cert.InHalvesReferenceIdeal.τ).loc Cert.InHalvesReferenceIdeal.main_arg2)
          ∧ r.2.mem ((c.tc : Thread Cert.InHalvesReferenceIdeal.nD Cert.InHalvesReferenceIdeal.τ).loc Cert.InHalvesReferenceIdeal.main_arg3) = m' ((c.tc : Thread Cert.InHalvesReferenceIdeal.nD Cert.InHalvesReferenceIdeal.τ).loc Cert.InHalvesReferenceIdeal.main_arg3)
          ∧ r.2.mem ((c.tc : Thread Cert.InHalvesReferenceIdeal.nD Cert.InHalvesReferenceIdeal.τ).loc Cert.InHalvesReferenceIdeal.main_arg4) = m' ((c.tc : Thread Cert.InHalvesReferenceIdeal.nD Cert.InHalvesReferenceIdeal.τ).loc Cert.InHalvesReferenceIdeal.main_arg4)
          ∧ r.2.mem ((c.tc : Thread Cert.InHalvesReferenceIdeal.nD Cert.InHalvesReferenceIdeal.τ).loc Cert.InHalvesReferenceIdeal.main_arg5) = m' ((c.tc : Thread Cert.InHalvesReferenceIdeal.nD Cert.InHalvesReferenceIdeal.τ).loc Cert.InHalvesReferenceIdeal.main_arg5))

def preserves_RowHalvesKernel_RowHalvesKernelIdeal : Prop :=
  IdealRules.named_const.Statement Cert.RowHalvesKernelIdeal.κ "c1" .f32 0x3FC48605#32 ((8388608 / 5463681 : ℝ) : EReal)
  ∧ IdealRules.named_const.Statement Cert.RowHalvesKernelIdeal.κ "c2" .f32 0x42C8E6D3#32 ((268435456 / 2672307 : ℝ) : EReal)

def algebraic_RowHalvesKernelIdeal_RowHalvesReferenceIdeal [hRowHalvesKernelIdeal : Cert.RowHalvesKernelIdeal.Facts] [hRowHalvesReferenceIdeal : Cert.RowHalvesReferenceIdeal.Facts] : Prop :=
  ∀ (m : (ℓ : Loc Cert.RowHalvesKernelIdeal.nD Cert.RowHalvesKernelIdeal.τ Cert.RowHalvesKernelIdeal.sig) → Buf (Elt Ideal) ℓ) (g : Dev Cert.RowHalvesKernelIdeal.nD → PrngReg)
    (m' : (ℓ : Loc Cert.RowHalvesReferenceIdeal.nD Cert.RowHalvesReferenceIdeal.τ Cert.RowHalvesReferenceIdeal.sig) → Buf (Elt Ideal) ℓ) (g' : Dev Cert.RowHalvesReferenceIdeal.nD → PrngReg), Pre_RowHalvesKernelIdeal m →
    (∀ c : Dev Cert.RowHalvesKernelIdeal.nD,
      m' ((c.tc : Thread Cert.RowHalvesReferenceIdeal.nD Cert.RowHalvesReferenceIdeal.τ).loc Cert.RowHalvesReferenceIdeal.main_arg0) = m ((c.tc : Thread Cert.RowHalvesKernelIdeal.nD Cert.RowHalvesKernelIdeal.τ).loc Cert.RowHalvesKernelIdeal.main_arg0)
      ∧ m' ((c.tc : Thread Cert.RowHalvesReferenceIdeal.nD Cert.RowHalvesReferenceIdeal.τ).loc Cert.RowHalvesReferenceIdeal.main_arg1) = m ((c.tc : Thread Cert.RowHalvesKernelIdeal.nD Cert.RowHalvesKernelIdeal.τ).loc Cert.RowHalvesKernelIdeal.main_arg1)
      ∧ m' ((c.tc : Thread Cert.RowHalvesReferenceIdeal.nD Cert.RowHalvesReferenceIdeal.τ).loc Cert.RowHalvesReferenceIdeal.main_arg2) = m ((c.tc : Thread Cert.RowHalvesKernelIdeal.nD Cert.RowHalvesKernelIdeal.τ).loc Cert.RowHalvesKernelIdeal.main_arg2)
      ∧ m' ((c.tc : Thread Cert.RowHalvesReferenceIdeal.nD Cert.RowHalvesReferenceIdeal.τ).loc Cert.RowHalvesReferenceIdeal.main_arg3) = m ((c.tc : Thread Cert.RowHalvesKernelIdeal.nD Cert.RowHalvesKernelIdeal.τ).loc Cert.RowHalvesKernelIdeal.main_arg3)
      ∧ m' ((c.tc : Thread Cert.RowHalvesReferenceIdeal.nD Cert.RowHalvesReferenceIdeal.τ).loc Cert.RowHalvesReferenceIdeal.main_arg4) = m ((c.tc : Thread Cert.RowHalvesKernelIdeal.nD Cert.RowHalvesKernelIdeal.τ).loc Cert.RowHalvesKernelIdeal.main_arg4)
      ∧ m' ((c.tc : Thread Cert.RowHalvesReferenceIdeal.nD Cert.RowHalvesReferenceIdeal.τ).loc Cert.RowHalvesReferenceIdeal.main_arg5) = m ((c.tc : Thread Cert.RowHalvesKernelIdeal.nD Cert.RowHalvesKernelIdeal.τ).loc Cert.RowHalvesKernelIdeal.main_arg5)) →
    ∃ (v0 : (c : Dev Cert.RowHalvesKernelIdeal.nD) → Buf (Elt Ideal) ((c.tc : Thread Cert.RowHalvesKernelIdeal.nD Cert.RowHalvesKernelIdeal.τ).loc Cert.RowHalvesKernelIdeal.main_v0_0)) (v1 : (c : Dev Cert.RowHalvesKernelIdeal.nD) → Buf (Elt Ideal) ((c.tc : Thread Cert.RowHalvesKernelIdeal.nD Cert.RowHalvesKernelIdeal.τ).loc Cert.RowHalvesKernelIdeal.main_v0_1)) (v2 : (c : Dev Cert.RowHalvesKernelIdeal.nD) → Buf (Elt Ideal) ((c.tc : Thread Cert.RowHalvesKernelIdeal.nD Cert.RowHalvesKernelIdeal.τ).loc Cert.RowHalvesKernelIdeal.main_v0_2)) (v3 : (c : Dev Cert.RowHalvesKernelIdeal.nD) → Buf (Elt Ideal) ((c.tc : Thread Cert.RowHalvesKernelIdeal.nD Cert.RowHalvesKernelIdeal.τ).loc Cert.RowHalvesKernelIdeal.main_v0_3)),
      θ_run (Cert.RowHalvesKernelIdeal.defs (F := Ideal)) (onTc (τ := Cert.RowHalvesKernelIdeal.τ) (Cert.RowHalvesKernelIdeal.main (F := Ideal))) ⟨m, fun _ => 0, g⟩ (fun r => ∀ c : Dev Cert.RowHalvesKernelIdeal.nD,
          r.2.mem ((c.tc : Thread Cert.RowHalvesKernelIdeal.nD Cert.RowHalvesKernelIdeal.τ).loc Cert.RowHalvesKernelIdeal.main_v0_0) = v0 c
          ∧ r.2.mem ((c.tc : Thread Cert.RowHalvesKernelIdeal.nD Cert.RowHalvesKernelIdeal.τ).loc Cert.RowHalvesKernelIdeal.main_v0_1) = v1 c
          ∧ r.2.mem ((c.tc : Thread Cert.RowHalvesKernelIdeal.nD Cert.RowHalvesKernelIdeal.τ).loc Cert.RowHalvesKernelIdeal.main_v0_2) = v2 c
          ∧ r.2.mem ((c.tc : Thread Cert.RowHalvesKernelIdeal.nD Cert.RowHalvesKernelIdeal.τ).loc Cert.RowHalvesKernelIdeal.main_v0_3) = v3 c
          ∧ r.2.mem ((c.tc : Thread Cert.RowHalvesKernelIdeal.nD Cert.RowHalvesKernelIdeal.τ).loc Cert.RowHalvesKernelIdeal.main_arg0) = m ((c.tc : Thread Cert.RowHalvesKernelIdeal.nD Cert.RowHalvesKernelIdeal.τ).loc Cert.RowHalvesKernelIdeal.main_arg0)
          ∧ r.2.mem ((c.tc : Thread Cert.RowHalvesKernelIdeal.nD Cert.RowHalvesKernelIdeal.τ).loc Cert.RowHalvesKernelIdeal.main_arg1) = m ((c.tc : Thread Cert.RowHalvesKernelIdeal.nD Cert.RowHalvesKernelIdeal.τ).loc Cert.RowHalvesKernelIdeal.main_arg1)
          ∧ r.2.mem ((c.tc : Thread Cert.RowHalvesKernelIdeal.nD Cert.RowHalvesKernelIdeal.τ).loc Cert.RowHalvesKernelIdeal.main_arg2) = m ((c.tc : Thread Cert.RowHalvesKernelIdeal.nD Cert.RowHalvesKernelIdeal.τ).loc Cert.RowHalvesKernelIdeal.main_arg2)
          ∧ r.2.mem ((c.tc : Thread Cert.RowHalvesKernelIdeal.nD Cert.RowHalvesKernelIdeal.τ).loc Cert.RowHalvesKernelIdeal.main_arg3) = m ((c.tc : Thread Cert.RowHalvesKernelIdeal.nD Cert.RowHalvesKernelIdeal.τ).loc Cert.RowHalvesKernelIdeal.main_arg3)
          ∧ r.2.mem ((c.tc : Thread Cert.RowHalvesKernelIdeal.nD Cert.RowHalvesKernelIdeal.τ).loc Cert.RowHalvesKernelIdeal.main_arg4) = m ((c.tc : Thread Cert.RowHalvesKernelIdeal.nD Cert.RowHalvesKernelIdeal.τ).loc Cert.RowHalvesKernelIdeal.main_arg4)
          ∧ r.2.mem ((c.tc : Thread Cert.RowHalvesKernelIdeal.nD Cert.RowHalvesKernelIdeal.τ).loc Cert.RowHalvesKernelIdeal.main_arg5) = m ((c.tc : Thread Cert.RowHalvesKernelIdeal.nD Cert.RowHalvesKernelIdeal.τ).loc Cert.RowHalvesKernelIdeal.main_arg5))
      ∧ θ_run (Cert.RowHalvesReferenceIdeal.defs (F := Ideal)) (onTc (τ := Cert.RowHalvesReferenceIdeal.τ) (Cert.RowHalvesReferenceIdeal.main (F := Ideal))) ⟨m', fun _ => 0, g'⟩ (fun r => ∀ c : Dev Cert.RowHalvesReferenceIdeal.nD,
          r.2.mem ((c.tc : Thread Cert.RowHalvesReferenceIdeal.nD Cert.RowHalvesReferenceIdeal.τ).loc Cert.RowHalvesReferenceIdeal.main_v6) = v0 c
          ∧ r.2.mem ((c.tc : Thread Cert.RowHalvesReferenceIdeal.nD Cert.RowHalvesReferenceIdeal.τ).loc Cert.RowHalvesReferenceIdeal.main_v30) = v1 c
          ∧ r.2.mem ((c.tc : Thread Cert.RowHalvesReferenceIdeal.nD Cert.RowHalvesReferenceIdeal.τ).loc Cert.RowHalvesReferenceIdeal.main_v11) = v2 c
          ∧ r.2.mem ((c.tc : Thread Cert.RowHalvesReferenceIdeal.nD Cert.RowHalvesReferenceIdeal.τ).loc Cert.RowHalvesReferenceIdeal.main_v17) = v3 c
          ∧ r.2.mem ((c.tc : Thread Cert.RowHalvesReferenceIdeal.nD Cert.RowHalvesReferenceIdeal.τ).loc Cert.RowHalvesReferenceIdeal.main_arg0) = m' ((c.tc : Thread Cert.RowHalvesReferenceIdeal.nD Cert.RowHalvesReferenceIdeal.τ).loc Cert.RowHalvesReferenceIdeal.main_arg0)
          ∧ r.2.mem ((c.tc : Thread Cert.RowHalvesReferenceIdeal.nD Cert.RowHalvesReferenceIdeal.τ).loc Cert.RowHalvesReferenceIdeal.main_arg1) = m' ((c.tc : Thread Cert.RowHalvesReferenceIdeal.nD Cert.RowHalvesReferenceIdeal.τ).loc Cert.RowHalvesReferenceIdeal.main_arg1)
          ∧ r.2.mem ((c.tc : Thread Cert.RowHalvesReferenceIdeal.nD Cert.RowHalvesReferenceIdeal.τ).loc Cert.RowHalvesReferenceIdeal.main_arg2) = m' ((c.tc : Thread Cert.RowHalvesReferenceIdeal.nD Cert.RowHalvesReferenceIdeal.τ).loc Cert.RowHalvesReferenceIdeal.main_arg2)
          ∧ r.2.mem ((c.tc : Thread Cert.RowHalvesReferenceIdeal.nD Cert.RowHalvesReferenceIdeal.τ).loc Cert.RowHalvesReferenceIdeal.main_arg3) = m' ((c.tc : Thread Cert.RowHalvesReferenceIdeal.nD Cert.RowHalvesReferenceIdeal.τ).loc Cert.RowHalvesReferenceIdeal.main_arg3)
          ∧ r.2.mem ((c.tc : Thread Cert.RowHalvesReferenceIdeal.nD Cert.RowHalvesReferenceIdeal.τ).loc Cert.RowHalvesReferenceIdeal.main_arg4) = m' ((c.tc : Thread Cert.RowHalvesReferenceIdeal.nD Cert.RowHalvesReferenceIdeal.τ).loc Cert.RowHalvesReferenceIdeal.main_arg4)
          ∧ r.2.mem ((c.tc : Thread Cert.RowHalvesReferenceIdeal.nD Cert.RowHalvesReferenceIdeal.τ).loc Cert.RowHalvesReferenceIdeal.main_arg5) = m' ((c.tc : Thread Cert.RowHalvesReferenceIdeal.nD Cert.RowHalvesReferenceIdeal.τ).loc Cert.RowHalvesReferenceIdeal.main_arg5))

def preserves_SmallHalvesKernel_SmallHalvesKernelIdeal : Prop :=
  IdealRules.named_const.Statement Cert.SmallHalvesKernelIdeal.κ "c1" .f32 0x3FC48605#32 ((8388608 / 5463681 : ℝ) : EReal)
  ∧ IdealRules.named_const.Statement Cert.SmallHalvesKernelIdeal.κ "c2" .f32 0x42C8E6D3#32 ((268435456 / 2672307 : ℝ) : EReal)

def algebraic_SmallHalvesKernelIdeal_SmallHalvesReferenceIdeal [hSmallHalvesKernelIdeal : Cert.SmallHalvesKernelIdeal.Facts] [hSmallHalvesReferenceIdeal : Cert.SmallHalvesReferenceIdeal.Facts] : Prop :=
  ∀ (m : (ℓ : Loc Cert.SmallHalvesKernelIdeal.nD Cert.SmallHalvesKernelIdeal.τ Cert.SmallHalvesKernelIdeal.sig) → Buf (Elt Ideal) ℓ) (g : Dev Cert.SmallHalvesKernelIdeal.nD → PrngReg)
    (m' : (ℓ : Loc Cert.SmallHalvesReferenceIdeal.nD Cert.SmallHalvesReferenceIdeal.τ Cert.SmallHalvesReferenceIdeal.sig) → Buf (Elt Ideal) ℓ) (g' : Dev Cert.SmallHalvesReferenceIdeal.nD → PrngReg), Pre_SmallHalvesKernelIdeal m →
    (∀ c : Dev Cert.SmallHalvesKernelIdeal.nD,
      m' ((c.tc : Thread Cert.SmallHalvesReferenceIdeal.nD Cert.SmallHalvesReferenceIdeal.τ).loc Cert.SmallHalvesReferenceIdeal.main_arg0) = m ((c.tc : Thread Cert.SmallHalvesKernelIdeal.nD Cert.SmallHalvesKernelIdeal.τ).loc Cert.SmallHalvesKernelIdeal.main_arg0)
      ∧ m' ((c.tc : Thread Cert.SmallHalvesReferenceIdeal.nD Cert.SmallHalvesReferenceIdeal.τ).loc Cert.SmallHalvesReferenceIdeal.main_arg1) = m ((c.tc : Thread Cert.SmallHalvesKernelIdeal.nD Cert.SmallHalvesKernelIdeal.τ).loc Cert.SmallHalvesKernelIdeal.main_arg1)
      ∧ m' ((c.tc : Thread Cert.SmallHalvesReferenceIdeal.nD Cert.SmallHalvesReferenceIdeal.τ).loc Cert.SmallHalvesReferenceIdeal.main_arg2) = m ((c.tc : Thread Cert.SmallHalvesKernelIdeal.nD Cert.SmallHalvesKernelIdeal.τ).loc Cert.SmallHalvesKernelIdeal.main_arg2)
      ∧ m' ((c.tc : Thread Cert.SmallHalvesReferenceIdeal.nD Cert.SmallHalvesReferenceIdeal.τ).loc Cert.SmallHalvesReferenceIdeal.main_arg3) = m ((c.tc : Thread Cert.SmallHalvesKernelIdeal.nD Cert.SmallHalvesKernelIdeal.τ).loc Cert.SmallHalvesKernelIdeal.main_arg3)
      ∧ m' ((c.tc : Thread Cert.SmallHalvesReferenceIdeal.nD Cert.SmallHalvesReferenceIdeal.τ).loc Cert.SmallHalvesReferenceIdeal.main_arg4) = m ((c.tc : Thread Cert.SmallHalvesKernelIdeal.nD Cert.SmallHalvesKernelIdeal.τ).loc Cert.SmallHalvesKernelIdeal.main_arg4)
      ∧ m' ((c.tc : Thread Cert.SmallHalvesReferenceIdeal.nD Cert.SmallHalvesReferenceIdeal.τ).loc Cert.SmallHalvesReferenceIdeal.main_arg5) = m ((c.tc : Thread Cert.SmallHalvesKernelIdeal.nD Cert.SmallHalvesKernelIdeal.τ).loc Cert.SmallHalvesKernelIdeal.main_arg5)) →
    ∃ (v0 : (c : Dev Cert.SmallHalvesKernelIdeal.nD) → Buf (Elt Ideal) ((c.tc : Thread Cert.SmallHalvesKernelIdeal.nD Cert.SmallHalvesKernelIdeal.τ).loc Cert.SmallHalvesKernelIdeal.main_v0_0)) (v1 : (c : Dev Cert.SmallHalvesKernelIdeal.nD) → Buf (Elt Ideal) ((c.tc : Thread Cert.SmallHalvesKernelIdeal.nD Cert.SmallHalvesKernelIdeal.τ).loc Cert.SmallHalvesKernelIdeal.main_v0_1)) (v2 : (c : Dev Cert.SmallHalvesKernelIdeal.nD) → Buf (Elt Ideal) ((c.tc : Thread Cert.SmallHalvesKernelIdeal.nD Cert.SmallHalvesKernelIdeal.τ).loc Cert.SmallHalvesKernelIdeal.main_v0_2)) (v3 : (c : Dev Cert.SmallHalvesKernelIdeal.nD) → Buf (Elt Ideal) ((c.tc : Thread Cert.SmallHalvesKernelIdeal.nD Cert.SmallHalvesKernelIdeal.τ).loc Cert.SmallHalvesKernelIdeal.main_v0_3)),
      θ_run (Cert.SmallHalvesKernelIdeal.defs (F := Ideal)) (onTc (τ := Cert.SmallHalvesKernelIdeal.τ) (Cert.SmallHalvesKernelIdeal.main (F := Ideal))) ⟨m, fun _ => 0, g⟩ (fun r => ∀ c : Dev Cert.SmallHalvesKernelIdeal.nD,
          r.2.mem ((c.tc : Thread Cert.SmallHalvesKernelIdeal.nD Cert.SmallHalvesKernelIdeal.τ).loc Cert.SmallHalvesKernelIdeal.main_v0_0) = v0 c
          ∧ r.2.mem ((c.tc : Thread Cert.SmallHalvesKernelIdeal.nD Cert.SmallHalvesKernelIdeal.τ).loc Cert.SmallHalvesKernelIdeal.main_v0_1) = v1 c
          ∧ r.2.mem ((c.tc : Thread Cert.SmallHalvesKernelIdeal.nD Cert.SmallHalvesKernelIdeal.τ).loc Cert.SmallHalvesKernelIdeal.main_v0_2) = v2 c
          ∧ r.2.mem ((c.tc : Thread Cert.SmallHalvesKernelIdeal.nD Cert.SmallHalvesKernelIdeal.τ).loc Cert.SmallHalvesKernelIdeal.main_v0_3) = v3 c
          ∧ r.2.mem ((c.tc : Thread Cert.SmallHalvesKernelIdeal.nD Cert.SmallHalvesKernelIdeal.τ).loc Cert.SmallHalvesKernelIdeal.main_arg0) = m ((c.tc : Thread Cert.SmallHalvesKernelIdeal.nD Cert.SmallHalvesKernelIdeal.τ).loc Cert.SmallHalvesKernelIdeal.main_arg0)
          ∧ r.2.mem ((c.tc : Thread Cert.SmallHalvesKernelIdeal.nD Cert.SmallHalvesKernelIdeal.τ).loc Cert.SmallHalvesKernelIdeal.main_arg1) = m ((c.tc : Thread Cert.SmallHalvesKernelIdeal.nD Cert.SmallHalvesKernelIdeal.τ).loc Cert.SmallHalvesKernelIdeal.main_arg1)
          ∧ r.2.mem ((c.tc : Thread Cert.SmallHalvesKernelIdeal.nD Cert.SmallHalvesKernelIdeal.τ).loc Cert.SmallHalvesKernelIdeal.main_arg2) = m ((c.tc : Thread Cert.SmallHalvesKernelIdeal.nD Cert.SmallHalvesKernelIdeal.τ).loc Cert.SmallHalvesKernelIdeal.main_arg2)
          ∧ r.2.mem ((c.tc : Thread Cert.SmallHalvesKernelIdeal.nD Cert.SmallHalvesKernelIdeal.τ).loc Cert.SmallHalvesKernelIdeal.main_arg3) = m ((c.tc : Thread Cert.SmallHalvesKernelIdeal.nD Cert.SmallHalvesKernelIdeal.τ).loc Cert.SmallHalvesKernelIdeal.main_arg3)
          ∧ r.2.mem ((c.tc : Thread Cert.SmallHalvesKernelIdeal.nD Cert.SmallHalvesKernelIdeal.τ).loc Cert.SmallHalvesKernelIdeal.main_arg4) = m ((c.tc : Thread Cert.SmallHalvesKernelIdeal.nD Cert.SmallHalvesKernelIdeal.τ).loc Cert.SmallHalvesKernelIdeal.main_arg4)
          ∧ r.2.mem ((c.tc : Thread Cert.SmallHalvesKernelIdeal.nD Cert.SmallHalvesKernelIdeal.τ).loc Cert.SmallHalvesKernelIdeal.main_arg5) = m ((c.tc : Thread Cert.SmallHalvesKernelIdeal.nD Cert.SmallHalvesKernelIdeal.τ).loc Cert.SmallHalvesKernelIdeal.main_arg5))
      ∧ θ_run (Cert.SmallHalvesReferenceIdeal.defs (F := Ideal)) (onTc (τ := Cert.SmallHalvesReferenceIdeal.τ) (Cert.SmallHalvesReferenceIdeal.main (F := Ideal))) ⟨m', fun _ => 0, g'⟩ (fun r => ∀ c : Dev Cert.SmallHalvesReferenceIdeal.nD,
          r.2.mem ((c.tc : Thread Cert.SmallHalvesReferenceIdeal.nD Cert.SmallHalvesReferenceIdeal.τ).loc Cert.SmallHalvesReferenceIdeal.main_v6) = v0 c
          ∧ r.2.mem ((c.tc : Thread Cert.SmallHalvesReferenceIdeal.nD Cert.SmallHalvesReferenceIdeal.τ).loc Cert.SmallHalvesReferenceIdeal.main_v30) = v1 c
          ∧ r.2.mem ((c.tc : Thread Cert.SmallHalvesReferenceIdeal.nD Cert.SmallHalvesReferenceIdeal.τ).loc Cert.SmallHalvesReferenceIdeal.main_v11) = v2 c
          ∧ r.2.mem ((c.tc : Thread Cert.SmallHalvesReferenceIdeal.nD Cert.SmallHalvesReferenceIdeal.τ).loc Cert.SmallHalvesReferenceIdeal.main_v17) = v3 c
          ∧ r.2.mem ((c.tc : Thread Cert.SmallHalvesReferenceIdeal.nD Cert.SmallHalvesReferenceIdeal.τ).loc Cert.SmallHalvesReferenceIdeal.main_arg0) = m' ((c.tc : Thread Cert.SmallHalvesReferenceIdeal.nD Cert.SmallHalvesReferenceIdeal.τ).loc Cert.SmallHalvesReferenceIdeal.main_arg0)
          ∧ r.2.mem ((c.tc : Thread Cert.SmallHalvesReferenceIdeal.nD Cert.SmallHalvesReferenceIdeal.τ).loc Cert.SmallHalvesReferenceIdeal.main_arg1) = m' ((c.tc : Thread Cert.SmallHalvesReferenceIdeal.nD Cert.SmallHalvesReferenceIdeal.τ).loc Cert.SmallHalvesReferenceIdeal.main_arg1)
          ∧ r.2.mem ((c.tc : Thread Cert.SmallHalvesReferenceIdeal.nD Cert.SmallHalvesReferenceIdeal.τ).loc Cert.SmallHalvesReferenceIdeal.main_arg2) = m' ((c.tc : Thread Cert.SmallHalvesReferenceIdeal.nD Cert.SmallHalvesReferenceIdeal.τ).loc Cert.SmallHalvesReferenceIdeal.main_arg2)
          ∧ r.2.mem ((c.tc : Thread Cert.SmallHalvesReferenceIdeal.nD Cert.SmallHalvesReferenceIdeal.τ).loc Cert.SmallHalvesReferenceIdeal.main_arg3) = m' ((c.tc : Thread Cert.SmallHalvesReferenceIdeal.nD Cert.SmallHalvesReferenceIdeal.τ).loc Cert.SmallHalvesReferenceIdeal.main_arg3)
          ∧ r.2.mem ((c.tc : Thread Cert.SmallHalvesReferenceIdeal.nD Cert.SmallHalvesReferenceIdeal.τ).loc Cert.SmallHalvesReferenceIdeal.main_arg4) = m' ((c.tc : Thread Cert.SmallHalvesReferenceIdeal.nD Cert.SmallHalvesReferenceIdeal.τ).loc Cert.SmallHalvesReferenceIdeal.main_arg4)
          ∧ r.2.mem ((c.tc : Thread Cert.SmallHalvesReferenceIdeal.nD Cert.SmallHalvesReferenceIdeal.τ).loc Cert.SmallHalvesReferenceIdeal.main_arg5) = m' ((c.tc : Thread Cert.SmallHalvesReferenceIdeal.nD Cert.SmallHalvesReferenceIdeal.τ).loc Cert.SmallHalvesReferenceIdeal.main_arg5))

def preserves_LruBwdKernel_LruBwdKernelIdeal : Prop :=
  IdealRules.named_const.Statement Cert.LruBwdKernelIdeal.κ "k" .f32 0x3D372713#32 ((8943 / 200000 : ℝ) : EReal)

def algebraic_LruBwdKernelIdeal_LruBwdReferenceIdeal [hLruBwdKernelIdeal : Cert.LruBwdKernelIdeal.Facts] [hLruBwdReferenceIdeal : Cert.LruBwdReferenceIdeal.Facts] : Prop :=
  ∀ (m : (ℓ : Loc Cert.LruBwdKernelIdeal.nD Cert.LruBwdKernelIdeal.τ Cert.LruBwdKernelIdeal.sig) → Buf (Elt Ideal) ℓ) (g : Dev Cert.LruBwdKernelIdeal.nD → PrngReg)
    (m' : (ℓ : Loc Cert.LruBwdReferenceIdeal.nD Cert.LruBwdReferenceIdeal.τ Cert.LruBwdReferenceIdeal.sig) → Buf (Elt Ideal) ℓ) (g' : Dev Cert.LruBwdReferenceIdeal.nD → PrngReg), Pre_LruBwdKernelIdeal m →
    (∀ c : Dev Cert.LruBwdKernelIdeal.nD,
      m' ((c.tc : Thread Cert.LruBwdReferenceIdeal.nD Cert.LruBwdReferenceIdeal.τ).loc Cert.LruBwdReferenceIdeal.main_arg0) = m ((c.tc : Thread Cert.LruBwdKernelIdeal.nD Cert.LruBwdKernelIdeal.τ).loc Cert.LruBwdKernelIdeal.main_arg0)
      ∧ m' ((c.tc : Thread Cert.LruBwdReferenceIdeal.nD Cert.LruBwdReferenceIdeal.τ).loc Cert.LruBwdReferenceIdeal.main_arg1) = m ((c.tc : Thread Cert.LruBwdKernelIdeal.nD Cert.LruBwdKernelIdeal.τ).loc Cert.LruBwdKernelIdeal.main_arg1)
      ∧ m' ((c.tc : Thread Cert.LruBwdReferenceIdeal.nD Cert.LruBwdReferenceIdeal.τ).loc Cert.LruBwdReferenceIdeal.main_arg2) = m ((c.tc : Thread Cert.LruBwdKernelIdeal.nD Cert.LruBwdKernelIdeal.τ).loc Cert.LruBwdKernelIdeal.main_arg2)
      ∧ m' ((c.tc : Thread Cert.LruBwdReferenceIdeal.nD Cert.LruBwdReferenceIdeal.τ).loc Cert.LruBwdReferenceIdeal.main_arg3) = m ((c.tc : Thread Cert.LruBwdKernelIdeal.nD Cert.LruBwdKernelIdeal.τ).loc Cert.LruBwdKernelIdeal.main_arg3)
      ∧ m' ((c.tc : Thread Cert.LruBwdReferenceIdeal.nD Cert.LruBwdReferenceIdeal.τ).loc Cert.LruBwdReferenceIdeal.main_arg4) = m ((c.tc : Thread Cert.LruBwdKernelIdeal.nD Cert.LruBwdKernelIdeal.τ).loc Cert.LruBwdKernelIdeal.main_arg4)
      ∧ m' ((c.tc : Thread Cert.LruBwdReferenceIdeal.nD Cert.LruBwdReferenceIdeal.τ).loc Cert.LruBwdReferenceIdeal.main_arg5) = m ((c.tc : Thread Cert.LruBwdKernelIdeal.nD Cert.LruBwdKernelIdeal.τ).loc Cert.LruBwdKernelIdeal.main_arg5)
      ∧ m' ((c.tc : Thread Cert.LruBwdReferenceIdeal.nD Cert.LruBwdReferenceIdeal.τ).loc Cert.LruBwdReferenceIdeal.main_arg6) = m ((c.tc : Thread Cert.LruBwdKernelIdeal.nD Cert.LruBwdKernelIdeal.τ).loc Cert.LruBwdKernelIdeal.main_arg6)
      ∧ m' ((c.tc : Thread Cert.LruBwdReferenceIdeal.nD Cert.LruBwdReferenceIdeal.τ).loc Cert.LruBwdReferenceIdeal.main_arg7) = m ((c.tc : Thread Cert.LruBwdKernelIdeal.nD Cert.LruBwdKernelIdeal.τ).loc Cert.LruBwdKernelIdeal.main_arg7)
      ∧ m' ((c.tc : Thread Cert.LruBwdReferenceIdeal.nD Cert.LruBwdReferenceIdeal.τ).loc Cert.LruBwdReferenceIdeal.main_arg8) = m ((c.tc : Thread Cert.LruBwdKernelIdeal.nD Cert.LruBwdKernelIdeal.τ).loc Cert.LruBwdKernelIdeal.main_arg8)
      ∧ m' ((c.tc : Thread Cert.LruBwdReferenceIdeal.nD Cert.LruBwdReferenceIdeal.τ).loc Cert.LruBwdReferenceIdeal.main_arg9) = m ((c.tc : Thread Cert.LruBwdKernelIdeal.nD Cert.LruBwdKernelIdeal.τ).loc Cert.LruBwdKernelIdeal.main_arg9)
      ∧ m' ((c.tc : Thread Cert.LruBwdReferenceIdeal.nD Cert.LruBwdReferenceIdeal.τ).loc Cert.LruBwdReferenceIdeal.main_arg10) = m ((c.tc : Thread Cert.LruBwdKernelIdeal.nD Cert.LruBwdKernelIdeal.τ).loc Cert.LruBwdKernelIdeal.main_arg10)) →
    ∃ (v0 : (c : Dev Cert.LruBwdKernelIdeal.nD) → Buf (Elt Ideal) ((c.tc : Thread Cert.LruBwdKernelIdeal.nD Cert.LruBwdKernelIdeal.τ).loc Cert.LruBwdKernelIdeal.main_v8_1)),
      θ_run (Cert.LruBwdKernelIdeal.defs (F := Ideal)) (onTc (τ := Cert.LruBwdKernelIdeal.τ) (Cert.LruBwdKernelIdeal.main (F := Ideal))) ⟨m, fun _ => 0, g⟩ (fun r => ∀ c : Dev Cert.LruBwdKernelIdeal.nD,
          r.2.mem ((c.tc : Thread Cert.LruBwdKernelIdeal.nD Cert.LruBwdKernelIdeal.τ).loc Cert.LruBwdKernelIdeal.main_v8_1) = v0 c
          ∧ r.2.mem ((c.tc : Thread Cert.LruBwdKernelIdeal.nD Cert.LruBwdKernelIdeal.τ).loc Cert.LruBwdKernelIdeal.main_arg0) = m ((c.tc : Thread Cert.LruBwdKernelIdeal.nD Cert.LruBwdKernelIdeal.τ).loc Cert.LruBwdKernelIdeal.main_arg0)
          ∧ r.2.mem ((c.tc : Thread Cert.LruBwdKernelIdeal.nD Cert.LruBwdKernelIdeal.τ).loc Cert.LruBwdKernelIdeal.main_arg1) = m ((c.tc : Thread Cert.LruBwdKernelIdeal.nD Cert.LruBwdKernelIdeal.τ).loc Cert.LruBwdKernelIdeal.main_arg1)
          ∧ r.2.mem ((c.tc : Thread Cert.LruBwdKernelIdeal.nD Cert.LruBwdKernelIdeal.τ).loc Cert.LruBwdKernelIdeal.main_arg2) = m ((c.tc : Thread Cert.LruBwdKernelIdeal.nD Cert.LruBwdKernelIdeal.τ).loc Cert.LruBwdKernelIdeal.main_arg2)
          ∧ r.2.mem ((c.tc : Thread Cert.LruBwdKernelIdeal.nD Cert.LruBwdKernelIdeal.τ).loc Cert.LruBwdKernelIdeal.main_arg3) = m ((c.tc : Thread Cert.LruBwdKernelIdeal.nD Cert.LruBwdKernelIdeal.τ).loc Cert.LruBwdKernelIdeal.main_arg3)
          ∧ r.2.mem ((c.tc : Thread Cert.LruBwdKernelIdeal.nD Cert.LruBwdKernelIdeal.τ).loc Cert.LruBwdKernelIdeal.main_arg4) = m ((c.tc : Thread Cert.LruBwdKernelIdeal.nD Cert.LruBwdKernelIdeal.τ).loc Cert.LruBwdKernelIdeal.main_arg4)
          ∧ r.2.mem ((c.tc : Thread Cert.LruBwdKernelIdeal.nD Cert.LruBwdKernelIdeal.τ).loc Cert.LruBwdKernelIdeal.main_arg5) = m ((c.tc : Thread Cert.LruBwdKernelIdeal.nD Cert.LruBwdKernelIdeal.τ).loc Cert.LruBwdKernelIdeal.main_arg5)
          ∧ r.2.mem ((c.tc : Thread Cert.LruBwdKernelIdeal.nD Cert.LruBwdKernelIdeal.τ).loc Cert.LruBwdKernelIdeal.main_arg6) = m ((c.tc : Thread Cert.LruBwdKernelIdeal.nD Cert.LruBwdKernelIdeal.τ).loc Cert.LruBwdKernelIdeal.main_arg6)
          ∧ r.2.mem ((c.tc : Thread Cert.LruBwdKernelIdeal.nD Cert.LruBwdKernelIdeal.τ).loc Cert.LruBwdKernelIdeal.main_arg7) = m ((c.tc : Thread Cert.LruBwdKernelIdeal.nD Cert.LruBwdKernelIdeal.τ).loc Cert.LruBwdKernelIdeal.main_arg7)
          ∧ r.2.mem ((c.tc : Thread Cert.LruBwdKernelIdeal.nD Cert.LruBwdKernelIdeal.τ).loc Cert.LruBwdKernelIdeal.main_arg8) = m ((c.tc : Thread Cert.LruBwdKernelIdeal.nD Cert.LruBwdKernelIdeal.τ).loc Cert.LruBwdKernelIdeal.main_arg8)
          ∧ r.2.mem ((c.tc : Thread Cert.LruBwdKernelIdeal.nD Cert.LruBwdKernelIdeal.τ).loc Cert.LruBwdKernelIdeal.main_arg9) = m ((c.tc : Thread Cert.LruBwdKernelIdeal.nD Cert.LruBwdKernelIdeal.τ).loc Cert.LruBwdKernelIdeal.main_arg9)
          ∧ r.2.mem ((c.tc : Thread Cert.LruBwdKernelIdeal.nD Cert.LruBwdKernelIdeal.τ).loc Cert.LruBwdKernelIdeal.main_arg10) = m ((c.tc : Thread Cert.LruBwdKernelIdeal.nD Cert.LruBwdKernelIdeal.τ).loc Cert.LruBwdKernelIdeal.main_arg10))
      ∧ θ_run (Cert.LruBwdReferenceIdeal.defs (F := Ideal)) (onTc (τ := Cert.LruBwdReferenceIdeal.τ) (Cert.LruBwdReferenceIdeal.main (F := Ideal))) ⟨m', fun _ => 0, g'⟩ (fun r => ∀ c : Dev Cert.LruBwdReferenceIdeal.nD,
          r.2.mem ((c.tc : Thread Cert.LruBwdReferenceIdeal.nD Cert.LruBwdReferenceIdeal.τ).loc Cert.LruBwdReferenceIdeal.main_v19) = v0 c
          ∧ r.2.mem ((c.tc : Thread Cert.LruBwdReferenceIdeal.nD Cert.LruBwdReferenceIdeal.τ).loc Cert.LruBwdReferenceIdeal.main_arg0) = m' ((c.tc : Thread Cert.LruBwdReferenceIdeal.nD Cert.LruBwdReferenceIdeal.τ).loc Cert.LruBwdReferenceIdeal.main_arg0)
          ∧ r.2.mem ((c.tc : Thread Cert.LruBwdReferenceIdeal.nD Cert.LruBwdReferenceIdeal.τ).loc Cert.LruBwdReferenceIdeal.main_arg1) = m' ((c.tc : Thread Cert.LruBwdReferenceIdeal.nD Cert.LruBwdReferenceIdeal.τ).loc Cert.LruBwdReferenceIdeal.main_arg1)
          ∧ r.2.mem ((c.tc : Thread Cert.LruBwdReferenceIdeal.nD Cert.LruBwdReferenceIdeal.τ).loc Cert.LruBwdReferenceIdeal.main_arg2) = m' ((c.tc : Thread Cert.LruBwdReferenceIdeal.nD Cert.LruBwdReferenceIdeal.τ).loc Cert.LruBwdReferenceIdeal.main_arg2)
          ∧ r.2.mem ((c.tc : Thread Cert.LruBwdReferenceIdeal.nD Cert.LruBwdReferenceIdeal.τ).loc Cert.LruBwdReferenceIdeal.main_arg3) = m' ((c.tc : Thread Cert.LruBwdReferenceIdeal.nD Cert.LruBwdReferenceIdeal.τ).loc Cert.LruBwdReferenceIdeal.main_arg3)
          ∧ r.2.mem ((c.tc : Thread Cert.LruBwdReferenceIdeal.nD Cert.LruBwdReferenceIdeal.τ).loc Cert.LruBwdReferenceIdeal.main_arg4) = m' ((c.tc : Thread Cert.LruBwdReferenceIdeal.nD Cert.LruBwdReferenceIdeal.τ).loc Cert.LruBwdReferenceIdeal.main_arg4)
          ∧ r.2.mem ((c.tc : Thread Cert.LruBwdReferenceIdeal.nD Cert.LruBwdReferenceIdeal.τ).loc Cert.LruBwdReferenceIdeal.main_arg5) = m' ((c.tc : Thread Cert.LruBwdReferenceIdeal.nD Cert.LruBwdReferenceIdeal.τ).loc Cert.LruBwdReferenceIdeal.main_arg5)
          ∧ r.2.mem ((c.tc : Thread Cert.LruBwdReferenceIdeal.nD Cert.LruBwdReferenceIdeal.τ).loc Cert.LruBwdReferenceIdeal.main_arg6) = m' ((c.tc : Thread Cert.LruBwdReferenceIdeal.nD Cert.LruBwdReferenceIdeal.τ).loc Cert.LruBwdReferenceIdeal.main_arg6)
          ∧ r.2.mem ((c.tc : Thread Cert.LruBwdReferenceIdeal.nD Cert.LruBwdReferenceIdeal.τ).loc Cert.LruBwdReferenceIdeal.main_arg7) = m' ((c.tc : Thread Cert.LruBwdReferenceIdeal.nD Cert.LruBwdReferenceIdeal.τ).loc Cert.LruBwdReferenceIdeal.main_arg7)
          ∧ r.2.mem ((c.tc : Thread Cert.LruBwdReferenceIdeal.nD Cert.LruBwdReferenceIdeal.τ).loc Cert.LruBwdReferenceIdeal.main_arg8) = m' ((c.tc : Thread Cert.LruBwdReferenceIdeal.nD Cert.LruBwdReferenceIdeal.τ).loc Cert.LruBwdReferenceIdeal.main_arg8)
          ∧ r.2.mem ((c.tc : Thread Cert.LruBwdReferenceIdeal.nD Cert.LruBwdReferenceIdeal.τ).loc Cert.LruBwdReferenceIdeal.main_arg9) = m' ((c.tc : Thread Cert.LruBwdReferenceIdeal.nD Cert.LruBwdReferenceIdeal.τ).loc Cert.LruBwdReferenceIdeal.main_arg9)
          ∧ r.2.mem ((c.tc : Thread Cert.LruBwdReferenceIdeal.nD Cert.LruBwdReferenceIdeal.τ).loc Cert.LruBwdReferenceIdeal.main_arg10) = m' ((c.tc : Thread Cert.LruBwdReferenceIdeal.nD Cert.LruBwdReferenceIdeal.τ).loc Cert.LruBwdReferenceIdeal.main_arg10))

def Claim : Prop :=
  ∃ (hKernel : Cert.Kernel.Facts) (hKernelIdeal : Cert.KernelIdeal.Facts) (hReferenceIdeal : Cert.ReferenceIdeal.Facts) (hConvKernel : Cert.ConvKernel.Facts) (hConvKernelIdeal : Cert.ConvKernelIdeal.Facts) (hConvReferenceIdeal : Cert.ConvReferenceIdeal.Facts) (hWgradKernel : Cert.WgradKernel.Facts) (hWgradKernelIdeal : Cert.WgradKernelIdeal.Facts) (hWgradReferenceIdeal : Cert.WgradReferenceIdeal.Facts) (hDgradKernel : Cert.DgradKernel.Facts) (hDgradKernelIdeal : Cert.DgradKernelIdeal.Facts) (hDgradReferenceIdeal : Cert.DgradReferenceIdeal.Facts) (hProjKernel : Cert.ProjKernel.Facts) (hProjKernelIdeal : Cert.ProjKernelIdeal.Facts) (hProjReferenceIdeal : Cert.ProjReferenceIdeal.Facts) (hUpKernel : Cert.UpKernel.Facts) (hUpKernelIdeal : Cert.UpKernelIdeal.Facts) (hUpReferenceIdeal : Cert.UpReferenceIdeal.Facts) (hConvFwdKernel : Cert.ConvFwdKernel.Facts) (hConvFwdKernelIdeal : Cert.ConvFwdKernelIdeal.Facts) (hConvFwdReferenceIdeal : Cert.ConvFwdReferenceIdeal.Facts) (hMergeKernel : Cert.MergeKernel.Facts) (hMergeKernelIdeal : Cert.MergeKernelIdeal.Facts) (hMergeReferenceIdeal : Cert.MergeReferenceIdeal.Facts) (hNormKernel : Cert.NormKernel.Facts) (hNormKernelIdeal : Cert.NormKernelIdeal.Facts) (hNormReferenceIdeal : Cert.NormReferenceIdeal.Facts) (hOutKernel : Cert.OutKernel.Facts) (hOutKernelIdeal : Cert.OutKernelIdeal.Facts) (hOutReferenceIdeal : Cert.OutReferenceIdeal.Facts) (hMergeBwdKernel : Cert.MergeBwdKernel.Facts) (hMergeBwdKernelIdeal : Cert.MergeBwdKernelIdeal.Facts) (hMergeBwdReferenceIdeal : Cert.MergeBwdReferenceIdeal.Facts) (hAdamKernel : Cert.AdamKernel.Facts) (hAdamKernelIdeal : Cert.AdamKernelIdeal.Facts) (hAdamReferenceIdeal : Cert.AdamReferenceIdeal.Facts) (hNormBwdKernel : Cert.NormBwdKernel.Facts) (hNormBwdKernelIdeal : Cert.NormBwdKernelIdeal.Facts) (hNormBwdReferenceIdeal : Cert.NormBwdReferenceIdeal.Facts) (hMidBwdKernel : Cert.MidBwdKernel.Facts) (hMidBwdKernelIdeal : Cert.MidBwdKernelIdeal.Facts) (hMidBwdReferenceIdeal : Cert.MidBwdReferenceIdeal.Facts) (hLossKernel : Cert.LossKernel.Facts) (hLossKernelIdeal : Cert.LossKernelIdeal.Facts) (hLossReferenceIdeal : Cert.LossReferenceIdeal.Facts) (hHalvesKernel : Cert.HalvesKernel.Facts) (hHalvesKernelIdeal : Cert.HalvesKernelIdeal.Facts) (hHalvesReferenceIdeal : Cert.HalvesReferenceIdeal.Facts) (hSumKernel : Cert.SumKernel.Facts) (hSumKernelIdeal : Cert.SumKernelIdeal.Facts) (hSumReferenceIdeal : Cert.SumReferenceIdeal.Facts) (hUpHalvesKernel : Cert.UpHalvesKernel.Facts) (hUpHalvesKernelIdeal : Cert.UpHalvesKernelIdeal.Facts) (hUpHalvesReferenceIdeal : Cert.UpHalvesReferenceIdeal.Facts) (hInHalvesKernel : Cert.InHalvesKernel.Facts) (hInHalvesKernelIdeal : Cert.InHalvesKernelIdeal.Facts) (hInHalvesReferenceIdeal : Cert.InHalvesReferenceIdeal.Facts) (hRowHalvesKernel : Cert.RowHalvesKernel.Facts) (hRowHalvesKernelIdeal : Cert.RowHalvesKernelIdeal.Facts) (hRowHalvesReferenceIdeal : Cert.RowHalvesReferenceIdeal.Facts) (hSmallHalvesKernel : Cert.SmallHalvesKernel.Facts) (hSmallHalvesKernelIdeal : Cert.SmallHalvesKernelIdeal.Facts) (hSmallHalvesReferenceIdeal : Cert.SmallHalvesReferenceIdeal.Facts) (hLruBwdKernel : Cert.LruBwdKernel.Facts) (hLruBwdKernelIdeal : Cert.LruBwdKernelIdeal.Facts) (hLruBwdReferenceIdeal : Cert.LruBwdReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_WgradKernel (hWgradKernel := hWgradKernel)
    ∧ quiescent_WgradKernelIdeal (hWgradKernelIdeal := hWgradKernelIdeal)
    ∧ quiescent_WgradReferenceIdeal (hWgradReferenceIdeal := hWgradReferenceIdeal)
    ∧ quiescent_DgradKernel (hDgradKernel := hDgradKernel)
    ∧ quiescent_DgradKernelIdeal (hDgradKernelIdeal := hDgradKernelIdeal)
    ∧ quiescent_DgradReferenceIdeal (hDgradReferenceIdeal := hDgradReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_ConvFwdKernel (hConvFwdKernel := hConvFwdKernel)
    ∧ quiescent_ConvFwdKernelIdeal (hConvFwdKernelIdeal := hConvFwdKernelIdeal)
    ∧ quiescent_ConvFwdReferenceIdeal (hConvFwdReferenceIdeal := hConvFwdReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_MergeBwdKernel (hMergeBwdKernel := hMergeBwdKernel)
    ∧ quiescent_MergeBwdKernelIdeal (hMergeBwdKernelIdeal := hMergeBwdKernelIdeal)
    ∧ quiescent_MergeBwdReferenceIdeal (hMergeBwdReferenceIdeal := hMergeBwdReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_NormBwdKernel (hNormBwdKernel := hNormBwdKernel)
    ∧ quiescent_NormBwdKernelIdeal (hNormBwdKernelIdeal := hNormBwdKernelIdeal)
    ∧ quiescent_NormBwdReferenceIdeal (hNormBwdReferenceIdeal := hNormBwdReferenceIdeal)
    ∧ quiescent_MidBwdKernel (hMidBwdKernel := hMidBwdKernel)
    ∧ quiescent_MidBwdKernelIdeal (hMidBwdKernelIdeal := hMidBwdKernelIdeal)
    ∧ quiescent_MidBwdReferenceIdeal (hMidBwdReferenceIdeal := hMidBwdReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_HalvesKernel (hHalvesKernel := hHalvesKernel)
    ∧ quiescent_HalvesKernelIdeal (hHalvesKernelIdeal := hHalvesKernelIdeal)
    ∧ quiescent_HalvesReferenceIdeal (hHalvesReferenceIdeal := hHalvesReferenceIdeal)
    ∧ quiescent_SumKernel (hSumKernel := hSumKernel)
    ∧ quiescent_SumKernelIdeal (hSumKernelIdeal := hSumKernelIdeal)
    ∧ quiescent_SumReferenceIdeal (hSumReferenceIdeal := hSumReferenceIdeal)
    ∧ quiescent_UpHalvesKernel (hUpHalvesKernel := hUpHalvesKernel)
    ∧ quiescent_UpHalvesKernelIdeal (hUpHalvesKernelIdeal := hUpHalvesKernelIdeal)
    ∧ quiescent_UpHalvesReferenceIdeal (hUpHalvesReferenceIdeal := hUpHalvesReferenceIdeal)
    ∧ quiescent_InHalvesKernel (hInHalvesKernel := hInHalvesKernel)
    ∧ quiescent_InHalvesKernelIdeal (hInHalvesKernelIdeal := hInHalvesKernelIdeal)
    ∧ quiescent_InHalvesReferenceIdeal (hInHalvesReferenceIdeal := hInHalvesReferenceIdeal)
    ∧ quiescent_RowHalvesKernel (hRowHalvesKernel := hRowHalvesKernel)
    ∧ quiescent_RowHalvesKernelIdeal (hRowHalvesKernelIdeal := hRowHalvesKernelIdeal)
    ∧ quiescent_RowHalvesReferenceIdeal (hRowHalvesReferenceIdeal := hRowHalvesReferenceIdeal)
    ∧ quiescent_SmallHalvesKernel (hSmallHalvesKernel := hSmallHalvesKernel)
    ∧ quiescent_SmallHalvesKernelIdeal (hSmallHalvesKernelIdeal := hSmallHalvesKernelIdeal)
    ∧ quiescent_SmallHalvesReferenceIdeal (hSmallHalvesReferenceIdeal := hSmallHalvesReferenceIdeal)
    ∧ quiescent_LruBwdKernel (hLruBwdKernel := hLruBwdKernel)
    ∧ quiescent_LruBwdKernelIdeal (hLruBwdKernelIdeal := hLruBwdKernelIdeal)
    ∧ quiescent_LruBwdReferenceIdeal (hLruBwdReferenceIdeal := hLruBwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ConvKernel_ConvKernelIdeal
    ∧ algebraic_ConvKernelIdeal_ConvReferenceIdeal (hConvKernelIdeal := hConvKernelIdeal) (hConvReferenceIdeal := hConvReferenceIdeal)
    ∧ preserves_WgradKernel_WgradKernelIdeal
    ∧ algebraic_WgradKernelIdeal_WgradReferenceIdeal (hWgradKernelIdeal := hWgradKernelIdeal) (hWgradReferenceIdeal := hWgradReferenceIdeal)
    ∧ preserves_DgradKernel_DgradKernelIdeal
    ∧ algebraic_DgradKernelIdeal_DgradReferenceIdeal (hDgradKernelIdeal := hDgradKernelIdeal) (hDgradReferenceIdeal := hDgradReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_UpKernel_UpKernelIdeal
    ∧ algebraic_UpKernelIdeal_UpReferenceIdeal (hUpKernelIdeal := hUpKernelIdeal) (hUpReferenceIdeal := hUpReferenceIdeal)
    ∧ preserves_ConvFwdKernel_ConvFwdKernelIdeal
    ∧ algebraic_ConvFwdKernelIdeal_ConvFwdReferenceIdeal (hConvFwdKernelIdeal := hConvFwdKernelIdeal) (hConvFwdReferenceIdeal := hConvFwdReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_NormKernel_NormKernelIdeal
    ∧ algebraic_NormKernelIdeal_NormReferenceIdeal (hNormKernelIdeal := hNormKernelIdeal) (hNormReferenceIdeal := hNormReferenceIdeal)
    ∧ preserves_OutKernel_OutKernelIdeal
    ∧ algebraic_OutKernelIdeal_OutReferenceIdeal (hOutKernelIdeal := hOutKernelIdeal) (hOutReferenceIdeal := hOutReferenceIdeal)
    ∧ preserves_MergeBwdKernel_MergeBwdKernelIdeal
    ∧ algebraic_MergeBwdKernelIdeal_MergeBwdReferenceIdeal (hMergeBwdKernelIdeal := hMergeBwdKernelIdeal) (hMergeBwdReferenceIdeal := hMergeBwdReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_NormBwdKernel_NormBwdKernelIdeal
    ∧ algebraic_NormBwdKernelIdeal_NormBwdReferenceIdeal (hNormBwdKernelIdeal := hNormBwdKernelIdeal) (hNormBwdReferenceIdeal := hNormBwdReferenceIdeal)
    ∧ preserves_MidBwdKernel_MidBwdKernelIdeal
    ∧ algebraic_MidBwdKernelIdeal_MidBwdReferenceIdeal (hMidBwdKernelIdeal := hMidBwdKernelIdeal) (hMidBwdReferenceIdeal := hMidBwdReferenceIdeal)
    ∧ preserves_LossKernel_LossKernelIdeal
    ∧ algebraic_LossKernelIdeal_LossReferenceIdeal (hLossKernelIdeal := hLossKernelIdeal) (hLossReferenceIdeal := hLossReferenceIdeal)
    ∧ preserves_HalvesKernel_HalvesKernelIdeal
    ∧ algebraic_HalvesKernelIdeal_HalvesReferenceIdeal (hHalvesKernelIdeal := hHalvesKernelIdeal) (hHalvesReferenceIdeal := hHalvesReferenceIdeal)
    ∧ preserves_SumKernel_SumKernelIdeal
    ∧ algebraic_SumKernelIdeal_SumReferenceIdeal (hSumKernelIdeal := hSumKernelIdeal) (hSumReferenceIdeal := hSumReferenceIdeal)
    ∧ preserves_UpHalvesKernel_UpHalvesKernelIdeal
    ∧ algebraic_UpHalvesKernelIdeal_UpHalvesReferenceIdeal (hUpHalvesKernelIdeal := hUpHalvesKernelIdeal) (hUpHalvesReferenceIdeal := hUpHalvesReferenceIdeal)
    ∧ preserves_InHalvesKernel_InHalvesKernelIdeal
    ∧ algebraic_InHalvesKernelIdeal_InHalvesReferenceIdeal (hInHalvesKernelIdeal := hInHalvesKernelIdeal) (hInHalvesReferenceIdeal := hInHalvesReferenceIdeal)
    ∧ preserves_RowHalvesKernel_RowHalvesKernelIdeal
    ∧ algebraic_RowHalvesKernelIdeal_RowHalvesReferenceIdeal (hRowHalvesKernelIdeal := hRowHalvesKernelIdeal) (hRowHalvesReferenceIdeal := hRowHalvesReferenceIdeal)
    ∧ preserves_SmallHalvesKernel_SmallHalvesKernelIdeal
    ∧ algebraic_SmallHalvesKernelIdeal_SmallHalvesReferenceIdeal (hSmallHalvesKernelIdeal := hSmallHalvesKernelIdeal) (hSmallHalvesReferenceIdeal := hSmallHalvesReferenceIdeal)
    ∧ preserves_LruBwdKernel_LruBwdKernelIdeal
    ∧ algebraic_LruBwdKernelIdeal_LruBwdReferenceIdeal (hLruBwdKernelIdeal := hLruBwdKernelIdeal) (hLruBwdReferenceIdeal := hLruBwdReferenceIdeal)
-- ==== Pre_finite.lean ====
abbrev S2048x1024 : Shape := ⟨2, ![2048, 1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S3x6144 : S_.BroadcastsInDim S3x6144 (![] : Fin 0 → Fin S3x6144.rank)
  reducesTo_S3x6144_S_d0_1 : S3x6144.ReducesTo [0, 1] S_
  bcast_S_S6144 : S_.BroadcastsInDim S6144 (![] : Fin 0 → Fin S6144.rank)
  reducesTo_S6144_S_d0 : S6144.ReducesTo [0] S_
  bcast_S_S3072x1024 : S_.BroadcastsInDim S3072x1024 (![] : Fin 0 → Fin S3072x1024.rank)
  reducesTo_S3072x1024_S_d0_1 : S3072x1024.ReducesTo [0, 1] S_

variable [Facts]

def fn_part1 {F : FTy → Type} [FloatOps F] (main_arg4 : FVec F S3072x1024 .f32) (main_arg5 : FVec F S2048x1024 .f32) (main_v13 : IVec S_ 1) (main_v16 : IVec S6144 1) : IVec S_ 1 :=
  let main_c_5 : IVec S_ 1 := constantI S_ 1 1#1
  let main_v17 : IVec S_ 1 := (fun x v => Host.reduce IntOp.andi x v reducesTo_S6144_S_d0 h_S_) main_v16 main_c_5
  let main_v18 : IVec S_ 1 := andi main_v13 main_v17
  let main_v19 : FVec F S3072x1024 .f32 := Host.absf main_arg4
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  main_v28

def fn {F : FTy → Type} [FloatOps F] (main_arg0 : FVec F S2048x1024 .f32) (main_arg1 : FVec F S1024x6144 .f32) (main_arg2 : FVec F S3x6144 .f32) (main_arg3 : FVec F S6144 .f32) (main_arg4 : FVec F S3072x1024 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : IVec S_ 1 := andi main_v3 main_v7
  let main_v9 : FVec F S3x6144 .f32 := Host.absf main_arg2
  let main_cst_2 : FVec F S_ .f32 := constant S_ .f32 0x7F800000#32
  let main_v10 : FVec F S3x6144 .f32 := broadcastInDim S3x6144 ![] bcast_S_S3x6144 main_cst_2
  let main_v11 : IVec S3x6144 1 := cmpf .olt main_v9 main_v10
  let main_c_3 : IVec S_ 1 := constantI S_ 1 1#1
  let main_v12 : IVec S_ 1 := (fun x v => Host.reduce IntOp.andi x v reducesTo_S3x6144_S_d0_1 h_S_) main_v11 main_c_3
  let main_v13 : IVec S_ 1 := andi main_v8 main_v12
  let main_v14 : FVec F S6144 .f32 := Host.absf main_arg3
  let main_cst_4 : FVec F S_ .f32 := constant S_ .f32 0x7F800000#32
  let main_v15 : FVec F S6144 .f32 := broadcastInDim S6144 ![] bcast_S_S6144 main_cst_4
  let main_v16 : IVec S6144 1 := cmpf .olt main_v14 main_v15
  fn_part1 (F := F) main_arg4 main_arg5 main_v13 main_v16
-- ==== Kernel.lean ====
abbrev S2048x1024 : Shape := ⟨2, ![2048, 1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S2048x6144 : Shape := ⟨2, ![2048, 6144]⟩
abbrev S_ : Shape := ⟨0, ![]⟩
abbrev S2x6144 : Shape := ⟨2, ![2, 6144]⟩
abbrev S2050x6144 : Shape := ⟨2, ![2050, 6144]⟩
abbrev S1x6144 : Shape := ⟨2, ![1, 6144]⟩
abbrev S2048x3072 : Shape := ⟨2, ![2048, 3072]⟩
abbrev S1024x4x1536 : Shape := ⟨3, ![1024, 4, 1536]⟩
abbrev S4x1024x1536 : Shape := ⟨3, ![4, 1024, 1536]⟩
abbrev S2048x2x3072 : Shape := ⟨3, ![2048, 2, 3072]⟩
abbrev S2x2048x3072 : Shape := ⟨3, ![2, 2048, 3072]⟩
abbrev S1024x2048 : Shape := ⟨2, ![1024, 2048]⟩
abbrev S2x1024x3072 : Shape := ⟨3, ![2, 1024, 3072]⟩
abbrev S2x3x3072 : Shape := ⟨3, ![2, 3, 3072]⟩
abbrev S2x1x3072 : Shape := ⟨3, ![2, 1, 3072]⟩
abbrev S256x1024 : Shape := ⟨2, ![256, 1024]⟩
abbrev S2x2048x256 : Shape := ⟨3, ![2, 2048, 256]⟩
abbrev S2048x256 : Shape := ⟨2, ![2048, 256]⟩
abbrev S3x256 : Shape := ⟨2, ![3, 256]⟩
abbrev S1x1024x256 : Shape := ⟨3, ![1, 1024, 256]⟩
abbrev S2x1024x256 : Shape := ⟨3, ![2, 1024, 256]⟩
abbrev S2x3x256 : Shape := ⟨3, ![2, 3, 256]⟩
abbrev S2x1x256 : Shape := ⟨3, ![2, 1, 256]⟩
abbrev S1x2048x256 : Shape := ⟨3, ![1, 2048, 256]⟩
abbrev S1024x256 : Shape := ⟨2, ![1024, 256]⟩
abbrev S256 : Shape := ⟨1, ![256]⟩
abbrev S1x256 : Shape := ⟨2, ![1, 256]⟩
abbrev S1x3x256 : Shape := ⟨3, ![1, 3, 256]⟩
abbrev S1x1x256 : Shape := ⟨3, ![1, 1, 256]⟩

abbrev nBuf : Space → Nat
  | .hbm => 67
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S3x6144, .f32⟩
  | .hbm, ⟨3, _⟩ => ⟨S6144, .f32⟩
  | .hbm, ⟨4, _⟩ => ⟨S3072x1024, .f32⟩
  | .hbm, ⟨5, _⟩ => ⟨S2048x1024, .f32⟩
  | .hbm, ⟨6, _⟩ => ⟨S2048x1024, .bf16⟩
  | .hbm, ⟨7, _⟩ => ⟨S1024x6144, .bf16⟩
  | .hbm, ⟨8, _⟩ => ⟨S3072x1024, .bf16⟩
  | .hbm, ⟨9, _⟩ => ⟨S2048x1024, .bf16⟩
  | .hbm, ⟨10, _⟩ => ⟨S2048x6144, .f32⟩
  | .hbm, ⟨11, _⟩ => ⟨S_, .f32⟩
  | .hbm, ⟨12, _⟩ => ⟨S2x6144, .f32⟩
  | .hbm, ⟨13, _⟩ => ⟨S2050x6144, .f32⟩
  | .hbm, ⟨14, _⟩ => ⟨S2048x6144, .f32⟩
  | .hbm, ⟨15, _⟩ => ⟨S1x6144, .f32⟩
  | .hbm, ⟨16, _⟩ => ⟨S2048x6144, .f32⟩
  | .hbm, ⟨17, _⟩ => ⟨S2048x6144, .f32⟩
  | .hbm, ⟨18, _⟩ => ⟨S2048x6144, .f32⟩
  | .hbm, ⟨19, _⟩ => ⟨S1x6144, .f32⟩
  | .hbm, ⟨20, _⟩ => ⟨S2048x6144, .f32⟩
  | .hbm, ⟨21, _⟩ => ⟨S2048x6144, .f32⟩
  | .hbm, ⟨22, _⟩ => ⟨S2048x6144, .f32⟩
  | .hbm, ⟨23, _⟩ => ⟨S2048x6144, .f32⟩
  | .hbm, ⟨24, _⟩ => ⟨S1x6144, .f32⟩
  | .hbm, ⟨25, _⟩ => ⟨S2048x6144, .f32⟩
  | .hbm, ⟨26, _⟩ => ⟨S2048x6144, .f32⟩
  | .hbm, ⟨27, _⟩ => ⟨S2048x6144, .f32⟩
  | .hbm, ⟨28, _⟩ => ⟨S1x6144, .f32⟩
  | .hbm, ⟨29, _⟩ => ⟨S2048x6144, .f32⟩
  | .hbm, ⟨30, _⟩ => ⟨S2048x6144, .f32⟩
  | .hbm, ⟨31, _⟩ => ⟨S2048x3072, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2048x3072, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S2048x3072, .f32⟩
  | .hbm, ⟨40, _⟩ => ⟨S_, .f32⟩
  | .hbm, ⟨41, _⟩ => ⟨S2048x3072, .f32⟩
  | .hbm, ⟨42, _⟩ => ⟨S2048x3072, .f32⟩
  | .hbm, ⟨43, _⟩ => ⟨S2048x3072, .f32⟩
  | .hbm, ⟨44, _⟩ => ⟨S_, .f32⟩
  | .hbm, ⟨45, _⟩ => ⟨S2048x3072, .f32⟩
  | .hbm, ⟨46, _⟩ => ⟨S2048x3072, .f32⟩
  | .hbm, ⟨47, _⟩ => ⟨S_, .f32⟩
  | .hbm, ⟨48, _⟩ => ⟨S2048x3072, .f32⟩
  | .hbm, ⟨49, _⟩ => ⟨S2048x3072, .f32⟩
  | .hbm, ⟨50, _⟩ => ⟨S2048x3072, .f32⟩
  | .hbm, ⟨51, _⟩ => ⟨S2048x3072, .f32⟩
  | .hbm, ⟨52, _⟩ => ⟨S2048x3072, .f32⟩
  | .hbm, ⟨53, _⟩ => ⟨S2048x3072, .bf16⟩
  | .hbm, ⟨54, _⟩ => ⟨S1024x4x1536, .bf16⟩
  | .hbm, ⟨55, _⟩ => ⟨S4x1024x1536, .bf16⟩
  | .hbm, ⟨56, _⟩ => ⟨S2048x2x3072, .f32⟩
  | .hbm, ⟨57, _⟩ => ⟨S2x2048x3072, .f32⟩
  | .hbm, ⟨58, _⟩ => ⟨S2048x2x3072, .f32⟩
  | .hbm, ⟨59, _⟩ => ⟨S2x2048x3072, .f32⟩
  | .hbm, ⟨60, _⟩ => ⟨S2x2048x3072, .bf16⟩
  | .hbm, ⟨61, _⟩ => ⟨S1024x2048, .bf16⟩
  | .hbm, ⟨62, _⟩ => ⟨S2048x1024, .f32⟩
  | .hbm, ⟨63, _⟩ => ⟨S2x1024x3072, .bf16⟩
  | .hbm, ⟨64, _⟩ => ⟨S3072x1024, .bf16⟩
  | .hbm, ⟨65, _⟩ => ⟨S2x3x3072, .f32⟩
  | .hbm, ⟨66, _⟩ => ⟨S2x1x3072, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2x2048x256, .f32⟩
  | .local _ .vmem, ⟨4, _⟩ => ⟨S2x2048x256, .f32⟩
  | .local _ .vmem, ⟨5, _⟩ => ⟨S2x2048x256, .bf16⟩
  | .local _ .vmem, ⟨6, _⟩ => ⟨S2x2048x256, .bf16⟩
  | .local _ .vmem, ⟨7, _⟩ => ⟨S2048x256, .bf16⟩
  | .local _ .vmem, ⟨8, _⟩ => ⟨S2048x256, .bf16⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1024x2048, .bf16⟩
  | .local _ .vmem, ⟨18, _⟩ => ⟨S2048x1024, .f32⟩
  | .local _ .vmem, ⟨19, _⟩ => ⟨S2x1024x256, .bf16⟩
  | .local _ .vmem, ⟨20, _⟩ => ⟨S2x1024x256, .bf16⟩
  | .local _ .vmem, ⟨21, _⟩ => ⟨S256x1024, .bf16⟩
  | .local _ .vmem, ⟨22, _⟩ => ⟨S256x1024, .bf16⟩
  | .local _ .vmem, ⟨23, _⟩ => ⟨S2x3x256, .f32⟩
  | .local _ .vmem, ⟨24, _⟩ => ⟨S2x3x256, .f32⟩
  | .local _ .vmem, ⟨25, _⟩ => ⟨S2x1x256, .f32⟩
  | .local _ .vmem, ⟨26, _⟩ => ⟨S2x1x256, .f32⟩
  | .local _ .vmem, ⟨27, _⟩ => ⟨S2x2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_0 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50_0 : Ref sig .tc := ⟨.hbm, 62, rfl⟩
abbrev main_v50_1 : Ref sig .tc := ⟨.hbm, 63, rfl⟩
abbrev main_v50_2 : Ref sig .tc := ⟨.hbm, 64, rfl⟩
abbrev main_v50_3 : Ref sig .tc := ⟨.hbm, 65, rfl⟩
abbrev main_v50_4 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c11_i32 : BitVec 32 := 11#32
  let v0 : BitVec 32 := Scalar.minsi arg0 c11_i32
  let c12_i32 : BitVec 32 := 12#32
  let v1 : BitVec 32 := Scalar.addi c12_i32 v0
  let c0_i32 : BitVec 32 := 0#32
  let c0_i32_0 : BitVec 32 := 0#32
  ![c0_i32.toNat, v1.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let v2 : BitVec 32 := Scalar.divsi v1 c6_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c6_i32 c0_i32_2
  let v9 : BitVec 32 := Scalar.extui v8
  let c0_i32_3 : BitVec 32 := 0#32
  let v10 : BitVec 1 := Scalar.cmpi .slt c6_i32 c0_i32_3
  let v11 : BitVec 32 := Scalar.extui v10
  let v12 : BitVec 32 := Scalar.subi v9 v11
  let v13 : BitVec 1 := Scalar.cmpi .ne v7 v12
  let v14 : BitVec 32 := Scalar.remsi v1 c6_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 32 := Scalar.addi v18 c0_i32_6
  let c1_i32_7 : BitVec 32 := 1#32
  let v20 : BitVec 32 := Scalar.subi arg0 c1_i32_7
  let c0_i32_8 : BitVec 32 := 0#32
  let v21 : BitVec 32 := Scalar.maxsi v20 c0_i32_8
  let c6_i32_9 : BitVec 32 := 6#32
  let c0_i32_10 : BitVec 32 := 0#32
  let v22 : BitVec 1 := Scalar.cmpi .eq c6_i32_9 c0_i32_10
  let c1_i32_11 : BitVec 32 := 1#32
  let v23 : BitVec 32 := Scalar.select v22 c1_i32_11 c6_i32_9
  let v24 : BitVec 32 := Scalar.remsi v21 v23
  let c0_i32_12 : BitVec 32 := 0#32
  let v25 : BitVec 1 := Scalar.cmpi .ne v24 c0_i32_12
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let v29 : BitVec 1 := Scalar.andi v28 v25
  let v30 : BitVec 32 := Scalar.addi v24 v23
  let v31 : BitVec 32 := Scalar.select v29 v30 v24
  let c0_i32_15 : BitVec 32 := 0#32
  let c0_i32_16 : BitVec 32 := 0#32
  ![v19.toNat, c0_i32_15.toNat, v31.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let v2 : BitVec 32 := Scalar.divsi v1 c6_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c6_i32 c0_i32_2
  let v9 : BitVec 32 := Scalar.extui v8
  let c0_i32_3 : BitVec 32 := 0#32
  let v10 : BitVec 1 := Scalar.cmpi .slt c6_i32 c0_i32_3
  let v11 : BitVec 32 := Scalar.extui v10
  let v12 : BitVec 32 := Scalar.subi v9 v11
  let v13 : BitVec 1 := Scalar.cmpi .ne v7 v12
  let v14 : BitVec 32 := Scalar.remsi v1 c6_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let v19 : BitVec 32 := Scalar.addi v18 c2_i32
  let c1_i32_6 : BitVec 32 := 1#32
  let v20 : BitVec 32 := Scalar.subi arg0 c1_i32_6
  let c0_i32_7 : BitVec 32 := 0#32
  let v21 : BitVec 32 := Scalar.maxsi v20 c0_i32_7
  let c6_i32_8 : BitVec 32 := 6#32
  let c0_i32_9 : BitVec 32 := 0#32
  let v22 : BitVec 1 := Scalar.cmpi .eq c6_i32_8 c0_i32_9
  let c1_i32_10 : BitVec 32 := 1#32
  let v23 : BitVec 32 := Scalar.select v22 c1_i32_10 c6_i32_8
  let v24 : BitVec 32 := Scalar.remsi v21 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let c0_i32_14 : BitVec 32 := 0#32
  let c0_i32_15 : BitVec 32 := 0#32
  ![v19.toNat, c0_i32_14.toNat, v31.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_12 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![c0_i32.toNat, c0_i32_0.toNat, v0.toNat]

def cc0_transform_14 (i : grid0.Coords) : Fin 3 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![c0_i32.toNat, c0_i32_0.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x3x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "k" => some ((8943 / 200000 : ℝ) : EReal)
  | "k3" => some ((26829 / 200000 : ℝ) : EReal)
  | _ => none
-- ==== ReferenceIdeal.lean ====
abbrev S2048x1024 : Shape := ⟨2, ![2048, 1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S2048x6144 : Shape := ⟨2, ![2048, 6144]⟩
abbrev S_ : Shape := ⟨0, ![]⟩
abbrev S2x6144 : Shape := ⟨2, ![2, 6144]⟩
abbrev S2050x6144 : Shape := ⟨2, ![2050, 6144]⟩
abbrev S1x6144 : Shape := ⟨2, ![1, 6144]⟩
abbrev S2048x3072 : Shape := ⟨2, ![2048, 3072]⟩
abbrev S1024x3072 : Shape := ⟨2, ![1024, 3072]⟩
abbrev S6144x1024 : Shape := ⟨2, ![6144, 1024]⟩
abbrev S1024x2x3072 : Shape := ⟨3, ![1024, 2, 3072]⟩
abbrev S2x1024x3072 : Shape := ⟨3, ![2, 1024, 3072]⟩
abbrev S3x2x3072 : Shape := ⟨3, ![3, 2, 3072]⟩
abbrev S2x3x3072 : Shape := ⟨3, ![2, 3, 3072]⟩
abbrev S2x1x3072 : Shape := ⟨3, ![2, 1, 3072]⟩

abbrev nBuf : Space → Nat
  | .hbm => 134
  | .vmem => 0
  | .smem => 0
  | _ => 0

abbrev hbmTy0_0 (i : Nat) : BufTy := match i % 128 with
  | 0 => ⟨S2048x1024, .f32⟩
  | 1 => ⟨S1024x6144, .f32⟩
  | 2 => ⟨S3x6144, .f32⟩
  | 3 => ⟨S6144, .f32⟩
  | 4 => ⟨S3072x1024, .f32⟩
  | 5 => ⟨S2048x1024, .f32⟩
  | 6 => ⟨S2048x6144, .f32⟩
  | 7 => ⟨S_, .f32⟩
  | 8 => ⟨S2x6144, .f32⟩
  | 9 => ⟨S2050x6144, .f32⟩
  | 10 => ⟨S_, .f32⟩
  | 11 => ⟨S2x6144, .f32⟩
  | 12 => ⟨S2048x6144, .f32⟩
  | 13 => ⟨S1x6144, .f32⟩
  | 14 => ⟨S2048x6144, .f32⟩
  | 15 => ⟨S2048x6144, .f32⟩
  | 16 => ⟨S2048x6144, .f32⟩
  | 17 => ⟨S1x6144, .f32⟩
  | 18 => ⟨S2048x6144, .f32⟩
  | 19 => ⟨S2048x6144, .f32⟩
  | 20 => ⟨S2048x6144, .f32⟩
  | 21 => ⟨S2048x6144, .f32⟩
  | 22 => ⟨S1x6144, .f32⟩
  | 23 => ⟨S2048x6144, .f32⟩
  | 24 => ⟨S2048x6144, .f32⟩
  | 25 => ⟨S2048x6144, .f32⟩
  | 26 => ⟨S1x6144, .f32⟩
  | 27 => ⟨S2048x6144, .f32⟩
  | 28 => ⟨S2048x6144, .f32⟩
  | 29 => ⟨S2048x3072, .f32⟩
  | 30 => ⟨S2048x3072, .f32⟩
  | 31 => ⟨S_, .f32⟩
  | 32 => ⟨S_, .f32⟩
  | 33 => ⟨S_, .f32⟩
  | 34 => ⟨S2048x3072, .f32⟩
  | 35 => ⟨S2048x3072, .f32⟩
  | 36 => ⟨S2048x3072, .f32⟩
  | 37 => ⟨S_, .f32⟩
  | 38 => ⟨S2048x3072, .f32⟩
  | 39 => ⟨S2048x3072, .f32⟩
  | 40 => ⟨S2048x3072, .f32⟩
  | 41 => ⟨S2048x3072, .f32⟩
  | 42 => ⟨S2048x3072, .f32⟩
  | 43 => ⟨S_, .f32⟩
  | 44 => ⟨S2048x3072, .f32⟩
  | 45 => ⟨S2048x3072, .f32⟩
  | 46 => ⟨S2048x3072, .f32⟩
  | 47 => ⟨S_, .f32⟩
  | 48 => ⟨S2048x3072, .f32⟩
  | 49 => ⟨S2048x3072, .f32⟩
  | 50 => ⟨S_, .f32⟩
  | 51 => ⟨S2048x3072, .f32⟩
  | 52 => ⟨S2048x3072, .f32⟩
  | 53 => ⟨S2048x3072, .f32⟩
  | 54 => ⟨S_, .f32⟩
  | 55 => ⟨S2048x3072, .f32⟩
  | 56 => ⟨S2048x3072, .f32⟩
  | 57 => ⟨S_, .f32⟩
  | 58 => ⟨S2048x3072, .f32⟩
  | 59 => ⟨S2048x3072, .f32⟩
  | 60 => ⟨S2048x3072, .f32⟩
  | 61 => ⟨S2048x3072, .f32⟩
  | 62 => ⟨S2048x1024, .f32⟩
  | 63 => ⟨S1024x3072, .f32⟩
  | 64 => ⟨S3072x1024, .f32⟩
  | 65 => ⟨S2048x3072, .f32⟩
  | 66 => ⟨S2048x3072, .f32⟩
  | 67 => ⟨S2048x3072, .f32⟩
  | 68 => ⟨S2048x3072, .f32⟩
  | 69 => ⟨S2048x3072, .f32⟩
  | 70 => ⟨S_, .f32⟩
  | 71 => ⟨S2048x3072, .f32⟩
  | 72 => ⟨S2048x3072, .f32⟩
  | 73 => ⟨S2048x3072, .f32⟩
  | 74 => ⟨S_, .f32⟩
  | 75 => ⟨S2048x3072, .f32⟩
  | 76 => ⟨S2048x3072, .f32⟩
  | 77 => ⟨S2048x3072, .f32⟩
  | 78 => ⟨S2048x3072, .f32⟩
  | 79 => ⟨S2048x3072, .f32⟩
  | 80 => ⟨S2048x3072, .f32⟩
  | 81 => ⟨S2048x3072, .f32⟩
  | 82 => ⟨S2048x6144, .f32⟩
  | 83 => ⟨S_, .f32⟩
  | 84 => ⟨S6144, .f32⟩
  | 85 => ⟨S1x6144, .f32⟩
  | 86 => ⟨S_, .f32⟩
  | 87 => ⟨S6144, .f32⟩
  | 88 => ⟨S2048x6144, .f32⟩
  | 89 => ⟨S_, .f32⟩
  | 90 => ⟨S6144, .f32⟩
  | 91 => ⟨S1x6144, .f32⟩
  | 92 => ⟨S2048x6144, .f32⟩
  | 93 => ⟨S2048x6144, .f32⟩
  | 94 => ⟨S_, .f32⟩
  | 95 => ⟨S3x6144, .f32⟩
  | 96 => ⟨S_, .f32⟩
  | 97 => ⟨S2050x6144, .f32⟩
  | 98 => ⟨S2048x6144, .f32⟩
  | 99 => ⟨S_, .f32⟩
  | 100 => ⟨S6144, .f32⟩
  | 101 => ⟨S1x6144, .f32⟩
  | 102 => ⟨S2048x6144, .f32⟩
  | 103 => ⟨S2048x6144, .f32⟩
  | 104 => ⟨S_, .f32⟩
  | 105 => ⟨S3x6144, .f32⟩
  | 106 => ⟨S3x6144, .f32⟩
  | 107 => ⟨S_, .f32⟩
  | 108 => ⟨S2050x6144, .f32⟩
  | 109 => ⟨S2050x6144, .f32⟩
  | 110 => ⟨S2048x6144, .f32⟩
  | 111 => ⟨S_, .f32⟩
  | 112 => ⟨S6144, .f32⟩
  | 113 => ⟨S1x6144, .f32⟩
  | 114 => ⟨S2048x6144, .f32⟩
  | 115 => ⟨S2048x6144, .f32⟩
  | 116 => ⟨S_, .f32⟩
  | 117 => ⟨S3x6144, .f32⟩
  | 118 => ⟨S3x6144, .f32⟩
  | 119 => ⟨S_, .f32⟩
  | 120 => ⟨S2050x6144, .f32⟩
  | 121 => ⟨S2050x6144, .f32⟩
  | 122 => ⟨S2x6144, .f32⟩
  | 123 => ⟨S2048x6144, .f32⟩
  | 124 => ⟨S6144x1024, .f32⟩
  | 125 => ⟨S1024x6144, .f32⟩
  | 126 => ⟨S2048x1024, .f32⟩
  | 127 => ⟨S1024x2x3072, .f32⟩
  | _ => ⟨S2048x1024, .f32⟩

abbrev hbmTy0_1 (i : Nat) : BufTy := match i % 128 with
  | 0 => ⟨S2x1024x3072, .f32⟩
  | 1 => ⟨S2x1024x3072, .bf16⟩
  | 2 => ⟨S3072x1024, .bf16⟩
  | 3 => ⟨S3x2x3072, .f32⟩
  | 4 => ⟨S2x3x3072, .f32⟩
  | 5 => ⟨S2x1x3072, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_11 : Ref sig .tc := ⟨.hbm, 83, rfl⟩
abbrev main_v65 : Ref sig .tc := ⟨.hbm, 84, rfl⟩
abbrev main_v66 : Ref sig .tc := ⟨.hbm, 85, rfl⟩
abbrev main_cst_12 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_cst_16 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_17 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_19 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_20 : Ref sig .tc := ⟨.hbm, 116, rfl⟩
abbrev main_v89 : Ref sig .tc := ⟨.hbm, 117, rfl⟩
abbrev main_v90 : Ref sig .tc := ⟨.hbm, 118, rfl⟩
abbrev main_cst_21 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]
-- ==== ConvKernel.lean ====
abbrev S2048x7168 : Shape := ⟨2, ![2048, 7168]⟩
abbrev S3x1024 : Shape := ⟨2, ![3, 1024]⟩
abbrev S1024x1024 : Shape := ⟨2, ![1024, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S3x2048x1024 : Shape := ⟨3, ![3, 2048, 1024]⟩
abbrev S256x1024 : Shape := ⟨2, ![256, 1024]⟩
abbrev S2048x256 : Shape := ⟨2, ![2048, 256]⟩
abbrev S3x256 : Shape := ⟨2, ![3, 256]⟩
abbrev S3x2048x256 : Shape := ⟨3, ![3, 2048, 256]⟩
abbrev S1x2048x256 : Shape := ⟨3, ![1, 2048, 256]⟩
abbrev S1x256 : Shape := ⟨2, ![1, 256]⟩
abbrev S256 : Shape := ⟨1, ![256]⟩

abbrev nBuf : Space → Nat
  | .hbm => 29
  | .vmem => 19
  | .smem => 0
  | _ => 0

abbrev bufTy : (tb : Table) → Fin (tcTables nBuf tb) → BufTy
  | .hbm, ⟨0, _⟩ => ⟨S2048x7168, .f32⟩
  | .hbm, ⟨1, _⟩ => ⟨S3x1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2x1024, .f32⟩
  | .hbm, ⟨9, _⟩ => ⟨S2050x1024, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | .hbm, ⟨25, _⟩ => ⟨S1024x1024, .bf16⟩
  | .hbm, ⟨26, _⟩ => ⟨S3x2048x1024, .bf16⟩
  | .hbm, ⟨27, _⟩ => ⟨S1024x1024, .bf16⟩
  | .hbm, ⟨28, _⟩ => ⟨S3x1024, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S3x256, .f32⟩
  | .local _ .vmem, ⟨12, _⟩ => ⟨S3x256, .f32⟩
  | .local _ .vmem, ⟨13, _⟩ => ⟨S3x2048x256, .bf16⟩
  | .local _ .vmem, ⟨14, _⟩ => ⟨S3x2048x256, .bf16⟩
  | .local _ .vmem, ⟨15, _⟩ => ⟨S256x1024, .bf16⟩
  | .local _ .vmem, ⟨16, _⟩ => ⟨S256x1024, .bf16⟩
  | .local _ .vmem, ⟨17, _⟩ => ⟨S3x256, .f32⟩
  | .local _ .vmem, ⟨18, _⟩ => ⟨S3x256, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvReferenceIdeal.lean ====
abbrev S2048x7168 : Shape := ⟨2, ![2048, 7168]⟩
abbrev S3x1024 : Shape := ⟨2, ![3, 1024]⟩
abbrev S1024x1024 : Shape := ⟨2, ![1024, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩
abbrev S1x2048x1024 : Shape := ⟨3, ![1, 2048, 1024]⟩
abbrev S3x2048x1024 : Shape := ⟨3, ![3, 2048, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S3x1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2x1024, .f32⟩
  | .hbm, ⟨10, _⟩ => ⟨S2050x1024, .f32⟩
  | .hbm, ⟨11, _⟩ => ⟨S_, .f32⟩
  | .hbm, ⟨12, _⟩ => ⟨S2x1024, .f32⟩
  | .hbm, ⟨13, _⟩ => ⟨S2048x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1024x1024, .f32⟩
  | .hbm, ⟨30, _⟩ => ⟨S1024x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S3x1024, .f32⟩
  | .hbm, ⟨42, _⟩ => ⟨S_, .f32⟩
  | .hbm, ⟨43, _⟩ => ⟨S2050x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S3x1024, .f32⟩
  | .hbm, ⟨52, _⟩ => ⟨S3x1024, .f32⟩
  | .hbm, ⟨53, _⟩ => ⟨S_, .f32⟩
  | .hbm, ⟨54, _⟩ => ⟨S2050x1024, .f32⟩
  | .hbm, ⟨55, _⟩ => ⟨S2050x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S3x1024, .f32⟩
  | .hbm, ⟨64, _⟩ => ⟨S3x1024, .f32⟩
  | .hbm, ⟨65, _⟩ => ⟨S_, .f32⟩
  | .hbm, ⟨66, _⟩ => ⟨S2050x1024, .f32⟩
  | .hbm, ⟨67, _⟩ => ⟨S2050x1024, .f32⟩
  | .hbm, ⟨68, _⟩ => ⟨S2x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S1x2048x1024, .f32⟩
  | .hbm, ⟨73, _⟩ => ⟨S1x2048x1024, .f32⟩
  | .hbm, ⟨74, _⟩ => ⟨S1x2048x1024, .f32⟩
  | .hbm, ⟨75, _⟩ => ⟨S3x2048x1024, .f32⟩
  | .hbm, ⟨76, _⟩ => ⟨S3x2048x1024, .bf16⟩
  | .hbm, ⟨77, _⟩ => ⟨S1024x1024, .bf16⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== WgradKernel.lean ====
abbrev S2048x1024 : Shape := ⟨2, ![2048, 1024]⟩
abbrev S1024x7168 : Shape := ⟨2, ![1024, 7168]⟩
abbrev S2048x7168 : Shape := ⟨2, ![2048, 7168]⟩
abbrev S2048x7x1024 : Shape := ⟨3, ![2048, 7, 1024]⟩
abbrev S7x2048x1024 : Shape := ⟨3, ![7, 2048, 1024]⟩
abbrev S3x2048x1024 : Shape := ⟨3, ![3, 2048, 1024]⟩
abbrev S2x2048x1024 : Shape := ⟨3, ![2, 2048, 1024]⟩
abbrev S1024x2048 : Shape := ⟨2, ![1024, 2048]⟩
abbrev S1x2048x256 : Shape := ⟨3, ![1, 2048, 256]⟩
abbrev S1024x256 : Shape := ⟨2, ![1024, 256]⟩
abbrev S2048x256 : Shape := ⟨2, ![2048, 256]⟩

abbrev nBuf : Space → Nat
  | .hbm => 12
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x7168, .f32⟩
  | .hbm, ⟨2, _⟩ => ⟨S2048x7168, .f32⟩
  | .hbm, ⟨3, _⟩ => ⟨S2048x7x1024, .f32⟩
  | .hbm, ⟨4, _⟩ => ⟨S7x2048x1024, .f32⟩
  | .hbm, ⟨5, _⟩ => ⟨S7x2048x1024, .bf16⟩
  | .hbm, ⟨6, _⟩ => ⟨S3x2048x1024, .bf16⟩
  | .hbm, ⟨7, _⟩ => ⟨S2x2048x1024, .bf16⟩
  | .hbm, ⟨8, _⟩ => ⟨S2x2048x1024, .bf16⟩
  | .hbm, ⟨9, _⟩ => ⟨S2048x1024, .bf16⟩
  | .hbm, ⟨10, _⟩ => ⟨S1024x2048, .bf16⟩
  | .hbm, ⟨11, _⟩ => ⟨S1024x7168, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1024x2048, .bf16⟩
  | .local _ .vmem, ⟨7, _⟩ => ⟨S1024x256, .bf16⟩
  | .local _ .vmem, ⟨8, _⟩ => ⟨S1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 7], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c7_i32_4 : BitVec 32 := 7#32
  let v19 : BitVec 32 := Scalar.muli arg0 c7_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.subi v18 c0_i32_11
  let c0_i32_12 : BitVec 32 := 0#32
  let c2_i32 : BitVec 32 := 2#32
  let v32 : BitVec 32 := Scalar.maxsi c0_i32_12 v31
  let v33 : BitVec 32 := Scalar.minsi c2_i32 v32
  let c0_i32_13 : BitVec 32 := 0#32
  let v34 : BitVec 1 := Scalar.cmpi .slt v31 c0_i32_13
  let c3_i32 : BitVec 32 := 3#32
  let v35 : BitVec 1 := Scalar.cmpi .sge v31 c3_i32
  let c3_i32_14 : BitVec 32 := 3#32
  let v36 : BitVec 32 := Scalar.select v35 c3_i32_14 v30
  let c0_i32_15 : BitVec 32 := 0#32
  let v37 : BitVec 32 := Scalar.select v34 c0_i32_15 v36
  let c0_i32_16 : BitVec 32 := 0#32
  let c0_i32_17 : BitVec 32 := 0#32
  ![v33.toNat, c0_i32_16.toNat, v37.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c7_i32_4 : BitVec 32 := 7#32
  let v19 : BitVec 32 := Scalar.muli arg0 c7_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c3_i32 : BitVec 32 := 3#32
  let v31 : BitVec 32 := Scalar.subi v18 c3_i32
  let c0_i32_11 : BitVec 32 := 0#32
  let c1_i32_12 : BitVec 32 := 1#32
  let v32 : BitVec 32 := Scalar.maxsi c0_i32_11 v31
  let v33 : BitVec 32 := Scalar.minsi c1_i32_12 v32
  let c0_i32_13 : BitVec 32 := 0#32
  let v34 : BitVec 1 := Scalar.cmpi .slt v31 c0_i32_13
  let c2_i32 : BitVec 32 := 2#32
  let v35 : BitVec 1 := Scalar.cmpi .sge v31 c2_i32
  let c3_i32_14 : BitVec 32 := 3#32
  let v36 : BitVec 32 := Scalar.select v35 c3_i32_14 v30
  let c0_i32_15 : BitVec 32 := 0#32
  let v37 : BitVec 32 := Scalar.select v34 c0_i32_15 v36
  let c0_i32_16 : BitVec 32 := 0#32
  let c0_i32_17 : BitVec 32 := 0#32
  ![v33.toNat, c0_i32_16.toNat, v37.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c7_i32_4 : BitVec 32 := 7#32
  let v19 : BitVec 32 := Scalar.muli arg0 c7_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c5_i32 : BitVec 32 := 5#32
  let v31 : BitVec 32 := Scalar.subi v18 c5_i32
  let c0_i32_11 : BitVec 32 := 0#32
  let c1_i32_12 : BitVec 32 := 1#32
  let v32 : BitVec 32 := Scalar.maxsi c0_i32_11 v31
  let v33 : BitVec 32 := Scalar.minsi c1_i32_12 v32
  let c0_i32_13 : BitVec 32 := 0#32
  let v34 : BitVec 1 := Scalar.cmpi .slt v31 c0_i32_13
  let c2_i32 : BitVec 32 := 2#32
  let v35 : BitVec 1 := Scalar.cmpi .sge v31 c2_i32
  let c3_i32 : BitVec 32 := 3#32
  let v36 : BitVec 32 := Scalar.select v35 c3_i32 v30
  let c0_i32_14 : BitVec 32 := 0#32
  let v37 : BitVec 32 := Scalar.select v34 c0_i32_14 v36
  let c0_i32_15 : BitVec 32 := 0#32
  let c0_i32_16 : BitVec 32 := 0#32
  ![v33.toNat, c0_i32_15.toNat, v37.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WgradReferenceIdeal.lean ====
abbrev S2048x1024 : Shape := ⟨2, ![2048, 1024]⟩
abbrev S1024x7168 : Shape := ⟨2, ![1024, 7168]⟩
abbrev S2048x7168 : Shape := ⟨2, ![2048, 7168]⟩
abbrev S7168x1024 : Shape := ⟨2, ![7168, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7168, .f32⟩
  | .hbm, ⟨2, _⟩ => ⟨S2048x7168, .f32⟩
  | .hbm, ⟨3, _⟩ => ⟨S2048x7168, .f32⟩
  | .hbm, ⟨4, _⟩ => ⟨S7168x1024, .f32⟩
  | .hbm, ⟨5, _⟩ => ⟨S1024x7168, .f32⟩
  | .hbm, ⟨6, _⟩ => ⟨S2048x1024, .f32⟩
  | .hbm, ⟨7, _⟩ => ⟨S1024x7168, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DgradKernel.lean ====
abbrev S2048x1024 : Shape := ⟨2, ![2048, 1024]⟩
abbrev S1024x7168 : Shape := ⟨2, ![1024, 7168]⟩
abbrev S2048x7168 : Shape := ⟨2, ![2048, 7168]⟩
abbrev S2048x7x1024 : Shape := ⟨3, ![2048, 7, 1024]⟩
abbrev S7x2048x1024 : Shape := ⟨3, ![7, 2048, 1024]⟩
abbrev S3x2048x1024 : Shape := ⟨3, ![3, 2048, 1024]⟩
abbrev S2x2048x1024 : Shape := ⟨3, ![2, 2048, 1024]⟩
abbrev S1024x4x1792 : Shape := ⟨3, ![1024, 4, 1792]⟩
abbrev S4x1024x1792 : Shape := ⟨3, ![4, 1024, 1792]⟩
abbrev S1x2048x256 : Shape := ⟨3, ![1, 2048, 256]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 13
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x7168, .f32⟩
  | .hbm, ⟨2, _⟩ => ⟨S2048x7168, .f32⟩
  | .hbm, ⟨3, _⟩ => ⟨S2048x7x1024, .f32⟩
  | .hbm, ⟨4, _⟩ => ⟨S7x2048x1024, .f32⟩
  | .hbm, ⟨5, _⟩ => ⟨S7x2048x1024, .bf16⟩
  | .hbm, ⟨6, _⟩ => ⟨S3x2048x1024, .bf16⟩
  | .hbm, ⟨7, _⟩ => ⟨S2x2048x1024, .bf16⟩
  | .hbm, ⟨8, _⟩ => ⟨S2x2048x1024, .bf16⟩
  | .hbm, ⟨9, _⟩ => ⟨S1024x7168, .bf16⟩
  | .hbm, ⟨10, _⟩ => ⟨S1024x4x1792, .bf16⟩
  | .hbm, ⟨11, _⟩ => ⟨S4x1024x1792, .bf16⟩
  | .hbm, ⟨12, _⟩ => ⟨S2048x1024, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![4, 7], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c7_i32_4 : BitVec 32 := 7#32
  let v19 : BitVec 32 := Scalar.muli arg0 c7_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let v31 : BitVec 32 := Scalar.subi v18 c0_i32_11
  let c0_i32_12 : BitVec 32 := 0#32
  let c2_i32 : BitVec 32 := 2#32
  let v32 : BitVec 32 := Scalar.maxsi c0_i32_12 v31
  let v33 : BitVec 32 := Scalar.minsi c2_i32 v32
  let c0_i32_13 : BitVec 32 := 0#32
  let v34 : BitVec 1 := Scalar.cmpi .slt v31 c0_i32_13
  let c3_i32 : BitVec 32 := 3#32
  let v35 : BitVec 1 := Scalar.cmpi .sge v31 c3_i32
  let c3_i32_14 : BitVec 32 := 3#32
  let v36 : BitVec 32 := Scalar.select v35 c3_i32_14 v30
  let c0_i32_15 : BitVec 32 := 0#32
  let v37 : BitVec 32 := Scalar.select v34 c0_i32_15 v36
  let c0_i32_16 : BitVec 32 := 0#32
  let c0_i32_17 : BitVec 32 := 0#32
  ![v33.toNat, c0_i32_16.toNat, v37.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c7_i32_4 : BitVec 32 := 7#32
  let v19 : BitVec 32 := Scalar.muli arg0 c7_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c3_i32 : BitVec 32 := 3#32
  let v31 : BitVec 32 := Scalar.subi v18 c3_i32
  let c0_i32_11 : BitVec 32 := 0#32
  let c1_i32_12 : BitVec 32 := 1#32
  let v32 : BitVec 32 := Scalar.maxsi c0_i32_11 v31
  let v33 : BitVec 32 := Scalar.minsi c1_i32_12 v32
  let c0_i32_13 : BitVec 32 := 0#32
  let v34 : BitVec 1 := Scalar.cmpi .slt v31 c0_i32_13
  let c2_i32 : BitVec 32 := 2#32
  let v35 : BitVec 1 := Scalar.cmpi .sge v31 c2_i32
  let c3_i32_14 : BitVec 32 := 3#32
  let v36 : BitVec 32 := Scalar.select v35 c3_i32_14 v30
  let c0_i32_15 : BitVec 32 := 0#32
  let v37 : BitVec 32 := Scalar.select v34 c0_i32_15 v36
  let c0_i32_16 : BitVec 32 := 0#32
  let c0_i32_17 : BitVec 32 := 0#32
  ![v33.toNat, c0_i32_16.toNat, v37.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c7_i32_4 : BitVec 32 := 7#32
  let v19 : BitVec 32 := Scalar.muli arg0 c7_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c5_i32 : BitVec 32 := 5#32
  let v31 : BitVec 32 := Scalar.subi v18 c5_i32
  let c0_i32_11 : BitVec 32 := 0#32
  let c1_i32_12 : BitVec 32 := 1#32
  let v32 : BitVec 32 := Scalar.maxsi c0_i32_11 v31
  let v33 : BitVec 32 := Scalar.minsi c1_i32_12 v32
  let c0_i32_13 : BitVec 32 := 0#32
  let v34 : BitVec 1 := Scalar.cmpi .slt v31 c0_i32_13
  let c2_i32 : BitVec 32 := 2#32
  let v35 : BitVec 1 := Scalar.cmpi .sge v31 c2_i32
  let c3_i32 : BitVec 32 := 3#32
  let v36 : BitVec 32 := Scalar.select v35 c3_i32 v30
  let c0_i32_14 : BitVec 32 := 0#32
  let v37 : BitVec 32 := Scalar.select v34 c0_i32_14 v36
  let c0_i32_15 : BitVec 32 := 0#32
  let c0_i32_16 : BitVec 32 := 0#32
  ![v33.toNat, c0_i32_15.toNat, v37.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== DgradReferenceIdeal.lean ====
abbrev S2048x1024 : Shape := ⟨2, ![2048, 1024]⟩
abbrev S1024x7168 : Shape := ⟨2, ![1024, 7168]⟩
abbrev S2048x7168 : Shape := ⟨2, ![2048, 7168]⟩
abbrev S7168x1024 : Shape := ⟨2, ![7168, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7168, .f32⟩
  | .hbm, ⟨2, _⟩ => ⟨S2048x7168, .f32⟩
  | .hbm, ⟨3, _⟩ => ⟨S2048x7168, .f32⟩
  | .hbm, ⟨4, _⟩ => ⟨S7168x1024, .f32⟩
  | .hbm, ⟨5, _⟩ => ⟨S1024x7168, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjKernel.lean ====
abbrev S2048x1024 : Shape := ⟨2, ![2048, 1024]⟩
abbrev S1024x7168 : Shape := ⟨2, ![1024, 7168]⟩
abbrev S1024x4x1792 : Shape := ⟨3, ![1024, 4, 1792]⟩
abbrev S4x1024x1792 : Shape := ⟨3, ![4, 1024, 1792]⟩
abbrev S2048x7168 : Shape := ⟨2, ![2048, 7168]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x7168, .f32⟩
  | .hbm, ⟨2, _⟩ => ⟨S2048x1024, .bf16⟩
  | .hbm, ⟨3, _⟩ => ⟨S1024x7168, .bf16⟩
  | .hbm, ⟨4, _⟩ => ⟨S1024x4x1792, .bf16⟩
  | .hbm, ⟨5, _⟩ => ⟨S4x1024x1792, .bf16⟩
  | .hbm, ⟨6, _⟩ => ⟨S2048x7168, .f32⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S2048x256, .f32⟩
  | .local _ .vmem, ⟨4, _⟩ => ⟨S2048x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjReferenceIdeal.lean ====
abbrev S2048x1024 : Shape := ⟨2, ![2048, 1024]⟩
abbrev S1024x7168 : Shape := ⟨2, ![1024, 7168]⟩
abbrev S2048x7168 : Shape := ⟨2, ![2048, 7168]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7168, .f32⟩
  | .hbm, ⟨2, _⟩ => ⟨S2048x7168, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpKernel.lean ====
abbrev S2048x1024 : Shape := ⟨2, ![2048, 1024]⟩
abbrev S1024x6144 : Shape := ⟨2, ![1024, 6144]⟩
abbrev S3x6144 : Shape := ⟨2, ![3, 6144]⟩
abbrev S6144 : Shape := ⟨1, ![6144]⟩
abbrev S1024x4x1536 : Shape := ⟨3, ![1024, 4, 1536]⟩
abbrev S4x1024x1536 : Shape := ⟨3, ![4, 1024, 1536]⟩
abbrev S1x6144 : Shape := ⟨2, ![1, 6144]⟩
abbrev S2x2048x3072 : Shape := ⟨3, ![2, 2048, 3072]⟩
abbrev S2048x3072 : Shape := ⟨2, ![2048, 3072]⟩
abbrev S1x1024x256 : Shape := ⟨3, ![1, 1024, 256]⟩
abbrev S3x256 : Shape := ⟨2, ![3, 256]⟩
abbrev S1x256 : Shape := ⟨2, ![1, 256]⟩
abbrev S2x2048x256 : Shape := ⟨3, ![2, 2048, 256]⟩
abbrev S2048x256 : Shape := ⟨2, ![2048, 256]⟩
abbrev S1024x256 : Shape := ⟨2, ![1024, 256]⟩
abbrev S1x2048x256 : Shape := ⟨3, ![1, 2048, 256]⟩

abbrev nBuf : Space → Nat
  | .hbm => 12
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S3x6144, .f32⟩
  | .hbm, ⟨3, _⟩ => ⟨S6144, .f32⟩
  | .hbm, ⟨4, _⟩ => ⟨S2048x1024, .bf16⟩
  | .hbm, ⟨5, _⟩ => ⟨S1024x6144, .bf16⟩
  | .hbm, ⟨6, _⟩ => ⟨S1024x4x1536, .bf16⟩
  | .hbm, ⟨7, _⟩ => ⟨S4x1024x1536, .bf16⟩
  | .hbm, ⟨8, _⟩ => ⟨S1x6144, .f32⟩
  | .hbm, ⟨9, _⟩ => ⟨S2x2048x3072, .f32⟩
  | .hbm, ⟨10, _⟩ => ⟨S2x2048x3072, .bf16⟩
  | .hbm, ⟨11, _⟩ => ⟨S2048x3072, .bf16⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2x2048x256, .f32⟩
  | .local _ .vmem, ⟨14, _⟩ => ⟨S2x2048x256, .f32⟩
  | .local _ .vmem, ⟨15, _⟩ => ⟨S2x2048x256, .bf16⟩
  | .local _ .vmem, ⟨16, _⟩ => ⟨S2x2048x256, .bf16⟩
  | .local _ .vmem, ⟨17, _⟩ => ⟨S2048x256, .bf16⟩
  | .local _ .vmem, ⟨18, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi v16 c0_i32_4
  let c6_i32_5 : BitVec 32 := 6#32
  let c0_i32_6 : BitVec 32 := 0#32
  let v18 : BitVec 1 := Scalar.cmpi .eq c6_i32_5 c0_i32_6
  let c1_i32_7 : BitVec 32 := 1#32
  let v19 : BitVec 32 := Scalar.select v18 c1_i32_7 c6_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_2 (i : grid0.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi v16 c2_i32
  let c6_i32_4 : BitVec 32 := 6#32
  let c0_i32_5 : BitVec 32 := 0#32
  let v18 : BitVec 1 := Scalar.cmpi .eq c6_i32_4 c0_i32_5
  let c1_i32_6 : BitVec 32 := 1#32
  let v19 : BitVec 32 := Scalar.select v18 c1_i32_6 c6_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== UpKernelIdeal.lean ====
variable {F : FTy → Type} [FloatOps F] [Named F]
def κ : String → Option EReal := fun
  | "k" => some ((8943 / 200000 : ℝ) : EReal)
  | _ => none
-- ==== UpReferenceIdeal.lean ====
abbrev S2048x1024 : Shape := ⟨2, ![2048, 1024]⟩
abbrev S1024x6144 : Shape := ⟨2, ![1024, 6144]⟩
abbrev S3x6144 : Shape := ⟨2, ![3, 6144]⟩
abbrev S6144 : Shape := ⟨1, ![6144]⟩
abbrev S2048x6144 : Shape := ⟨2, ![2048, 6144]⟩
abbrev S_ : Shape := ⟨0, ![]⟩
abbrev S2x6144 : Shape := ⟨2, ![2, 6144]⟩
abbrev S2050x6144 : Shape := ⟨2, ![2050, 6144]⟩
abbrev S1x6144 : Shape := ⟨2, ![1, 6144]⟩
abbrev S2048x3072 : Shape := ⟨2, ![2048, 3072]⟩
abbrev S2048x2x3072 : Shape := ⟨3, ![2048, 2, 3072]⟩
abbrev S2x2048x3072 : Shape := ⟨3, ![2, 2048, 3072]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S3x6144, .f32⟩
  | .hbm, ⟨3, _⟩ => ⟨S6144, .f32⟩
  | .hbm, ⟨4, _⟩ => ⟨S2048x6144, .f32⟩
  | .hbm, ⟨5, _⟩ => ⟨S_, .f32⟩
  | .hbm, ⟨6, _⟩ => ⟨S2x6144, .f32⟩
  | .hbm, ⟨7, _⟩ => ⟨S2050x6144, .f32⟩
  | .hbm, ⟨8, _⟩ => ⟨S2048x6144, .f32⟩
  | .hbm, ⟨9, _⟩ => ⟨S1x6144, .f32⟩
  | .hbm, ⟨10, _⟩ => ⟨S2048x6144, .f32⟩
  | .hbm, ⟨11, _⟩ => ⟨S2048x6144, .f32⟩
  | .hbm, ⟨12, _⟩ => ⟨S2048x6144, .f32⟩
  | .hbm, ⟨13, _⟩ => ⟨S1x6144, .f32⟩
  | .hbm, ⟨14, _⟩ => ⟨S2048x6144, .f32⟩
  | .hbm, ⟨15, _⟩ => ⟨S2048x6144, .f32⟩
  | .hbm, ⟨16, _⟩ => ⟨S2048x6144, .f32⟩
  | .hbm, ⟨17, _⟩ => ⟨S2048x6144, .f32⟩
  | .hbm, ⟨18, _⟩ => ⟨S1x6144, .f32⟩
  | .hbm, ⟨19, _⟩ => ⟨S2048x6144, .f32⟩
  | .hbm, ⟨20, _⟩ => ⟨S2048x6144, .f32⟩
  | .hbm, ⟨21, _⟩ => ⟨S2048x6144, .f32⟩
  | .hbm, ⟨22, _⟩ => ⟨S1x6144, .f32⟩
  | .hbm, ⟨23, _⟩ => ⟨S2048x6144, .f32⟩
  | .hbm, ⟨24, _⟩ => ⟨S2048x6144, .f32⟩
  | .hbm, ⟨25, _⟩ => ⟨S2048x3072, .f32⟩
  | .hbm, ⟨26, _⟩ => ⟨S2048x3072, .f32⟩
  | .hbm, ⟨27, _⟩ => ⟨S2048x2x3072, .f32⟩
  | .hbm, ⟨28, _⟩ => ⟨S2x2048x3072, .f32⟩
  | .hbm, ⟨29, _⟩ => ⟨S2048x2x3072, .f32⟩
  | .hbm, ⟨30, _⟩ => ⟨S2x2048x3072, .f32⟩
  | .hbm, ⟨31, _⟩ => ⟨S2x2048x3072, .bf16⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2048x3072, .f32⟩
  | .hbm, ⟨36, _⟩ => ⟨S2048x3072, .f32⟩
  | .hbm, ⟨37, _⟩ => ⟨S2048x3072, .f32⟩
  | .hbm, ⟨38, _⟩ => ⟨S2048x3072, .f32⟩
  | .hbm, ⟨39, _⟩ => ⟨S2048x3072, .f32⟩
  | .hbm, ⟨40, _⟩ => ⟨S_, .f32⟩
  | .hbm, ⟨41, _⟩ => ⟨S2048x3072, .f32⟩
  | .hbm, ⟨42, _⟩ => ⟨S2048x3072, .f32⟩
  | .hbm, ⟨43, _⟩ => ⟨S2048x3072, .f32⟩
  | .hbm, ⟨44, _⟩ => ⟨S_, .f32⟩
  | .hbm, ⟨45, _⟩ => ⟨S2048x3072, .f32⟩
  | .hbm, ⟨46, _⟩ => ⟨S2048x3072, .f32⟩
  | .hbm, ⟨47, _⟩ => ⟨S_, .f32⟩
  | .hbm, ⟨48, _⟩ => ⟨S2048x3072, .f32⟩
  | .hbm, ⟨49, _⟩ => ⟨S2048x3072, .f32⟩
  | .hbm, ⟨50, _⟩ => ⟨S2048x3072, .f32⟩
  | .hbm, ⟨51, _⟩ => ⟨S2048x3072, .f32⟩
  | .hbm, ⟨52, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== ConvFwdKernel.lean ====
abbrev S2048x7168 : Shape := ⟨2, ![2048, 7168]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 4
  | .vmem => 12
  | .smem => 0
  | _ => 0

abbrev bufTy : (tb : Table) → Fin (tcTables nBuf tb) → BufTy
  | .hbm, ⟨0, _⟩ => ⟨S2048x7168, .f32⟩
  | .hbm, ⟨1, _⟩ => ⟨S3x1024, .f32⟩
  | .hbm, ⟨2, _⟩ => ⟨S2048x1024, .f32⟩
  | .hbm, ⟨3, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvFwdReferenceIdeal.lean ====
abbrev S2048x7168 : Shape := ⟨2, ![2048, 7168]⟩
abbrev S3x1024 : Shape := ⟨2, ![3, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2x1024, .f32⟩
  | .hbm, ⟨8, _⟩ => ⟨S2050x1024, .f32⟩
  | .hbm, ⟨9, _⟩ => ⟨S2048x1024, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== MergeKernel.lean ====
abbrev S2048x1024 : Shape := ⟨2, ![2048, 1024]⟩
abbrev S1024x1024 : Shape := ⟨2, ![1024, 1024]⟩
abbrev S2048x7168 : Shape := ⟨2, ![2048, 7168]⟩
abbrev S1024x256 : Shape := ⟨2, ![1024, 256]⟩
abbrev S2048x256 : Shape := ⟨2, ![2048, 256]⟩

abbrev nBuf : Space → Nat
  | .hbm => 12
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .f32⟩
  | .hbm, ⟨4, _⟩ => ⟨S2048x7168, .f32⟩
  | .hbm, ⟨5, _⟩ => ⟨S2048x1024, .bf16⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S2048x1024, .f32⟩
  | .hbm, ⟨10, _⟩ => ⟨S2048x1024, .f32⟩
  | .hbm, ⟨11, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S2048x1024 : Shape := ⟨2, ![2048, 1024]⟩
abbrev S1024x1024 : Shape := ⟨2, ![1024, 1024]⟩
abbrev S2048x7168 : Shape := ⟨2, ![2048, 7168]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .f32⟩
  | .hbm, ⟨4, _⟩ => ⟨S2048x7168, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== NormKernel.lean ====
abbrev S2048x1024 : Shape := ⟨2, ![2048, 1024]⟩
abbrev S1x1024 : Shape := ⟨2, ![1, 1024]⟩
abbrev S1024x2048 : Shape := ⟨2, ![1024, 2048]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .hbm, ⟨3, _⟩ => ⟨S1024x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | .hbm, ⟨18, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OutKernel.lean ====
abbrev S2048x1024 : Shape := ⟨2, ![2048, 1024]⟩
abbrev S1024x1024 : Shape := ⟨2, ![1024, 1024]⟩
abbrev S1x1024 : Shape := ⟨2, ![1, 1024]⟩
abbrev S1024x2048 : Shape := ⟨2, ![1024, 2048]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .bf16⟩
  | .hbm, ⟨6, _⟩ => ⟨S1024x1024, .bf16⟩
  | .hbm, ⟨7, _⟩ => ⟨S2048x1024, .f32⟩
  | .hbm, ⟨8, _⟩ => ⟨S2048x1024, .f32⟩
  | .hbm, ⟨9, _⟩ => ⟨S2048x1024, .bf16⟩
  | .hbm, ⟨10, _⟩ => ⟨S1024x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1024x512, .bf16⟩
  | .local _ .vmem, ⟨14, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutReferenceIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | .hbm, ⟨38, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== MergeBwdKernel.lean ====
abbrev S2048x1024 : Shape := ⟨2, ![2048, 1024]⟩
abbrev S2048x7168 : Shape := ⟨2, ![2048, 7168]⟩
abbrev S1024x1024 : Shape := ⟨2, ![1024, 1024]⟩
abbrev S_ : Shape := ⟨0, ![]⟩
abbrev S2x2048x1024 : Shape := ⟨3, ![2, 2048, 1024]⟩
abbrev S256x1024 : Shape := ⟨2, ![256, 1024]⟩
abbrev S2048x256 : Shape := ⟨2, ![2048, 256]⟩
abbrev S2x2048x256 : Shape := ⟨3, ![2, 2048, 256]⟩
abbrev S128x256 : Shape := ⟨2, ![128, 256]⟩
abbrev S1x128x256 : Shape := ⟨3, ![1, 128, 256]⟩

abbrev nBuf : Space → Nat
  | .hbm => 33
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x7168, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | .hbm, ⟨27, _⟩ => ⟨S1024x1024, .bf16⟩
  | .hbm, ⟨28, _⟩ => ⟨S2048x1024, .bf16⟩
  | .hbm, ⟨29, _⟩ => ⟨S2048x1024, .bf16⟩
  | .hbm, ⟨30, _⟩ => ⟨S2048x1024, .bf16⟩
  | .hbm, ⟨31, _⟩ => ⟨S1024x1024, .bf16⟩
  | .hbm, ⟨32, _⟩ => ⟨S2x2048x1024, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S256x1024, .bf16⟩
  | .local _ .vmem, ⟨18, _⟩ => ⟨S256x1024, .bf16⟩
  | .local _ .vmem, ⟨19, _⟩ => ⟨S2x2048x256, .bf16⟩
  | .local _ .vmem, ⟨20, _⟩ => ⟨S2x2048x256, .bf16⟩
  | .local _ .vmem, ⟨21, _⟩ => ⟨S2048x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v13 : BitVec 32 := Scalar.addi c0_i32 c16_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v14 : BitVec 32 := Scalar.muli arg13 c128_i32
  v14
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v14 : BitVec 32 := Scalar.muli arg13 c128_i32
  let v15 : BitVec 32 := v14
  let v16 : Index := Scalar.indexCast v15
  let c0_11 : Index := 0#32
  ![v16.toNat, 0]
def k0_off2 (k0_t1 : Fin k0_t1_loop.trips) : Fin 3 → Nat :=
  let c0_24 : Index := 0#32
  let c0_i32 : BitVec 32 := 0#32
  let c1_i32 : BitVec 32 := 1#32
  let arg13 : BitVec 32 := Scf.iv c0_i32 c1_i32 k0_t1
  let c128_i32 : BitVec 32 := 128#32
  let v14 : BitVec 32 := Scalar.muli arg13 c128_i32
  let v15 : BitVec 32 := v14
  let v52 : Index := Scalar.indexCast v15
  let c0_25 : Index := 0#32
  ![0, v52.toNat, 0]
def k0_off3 (k0_t1 : Fin k0_t1_loop.trips) : Fin 3 → Nat :=
  let c1 : Index := 1#32
  let c0_i32 : BitVec 32 := 0#32
  let c1_i32 : BitVec 32 := 1#32
  let arg13 : BitVec 32 := Scf.iv c0_i32 c1_i32 k0_t1
  let c128_i32 : BitVec 32 := 128#32
  let v14 : BitVec 32 := Scalar.muli arg13 c128_i32
  let v15 : BitVec 32 := v14
  let v64 : Index := Scalar.indexCast v15
  let c0_28 : Index := 0#32
  ![1, v64.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeBwdReferenceIdeal.lean ====
abbrev S2048x1024 : Shape := ⟨2, ![2048, 1024]⟩
abbrev S2048x7168 : Shape := ⟨2, ![2048, 7168]⟩
abbrev S1024x1024 : Shape := ⟨2, ![1024, 1024]⟩
abbrev S_ : Shape := ⟨0, ![]⟩
abbrev S1x2048x1024 : Shape := ⟨3, ![1, 2048, 1024]⟩
abbrev S2x2048x1024 : Shape := ⟨3, ![2, 2048, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x7168, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S1024x1024, .f32⟩
  | .hbm, ⟨36, _⟩ => ⟨S1024x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .bf16⟩
  | .hbm, ⟨45, _⟩ => ⟨S2048x1024, .bf16⟩
  | .hbm, ⟨46, _⟩ => ⟨S1024x1024, .bf16⟩
  | .hbm, ⟨47, _⟩ => ⟨S1x2048x1024, .f32⟩
  | .hbm, ⟨48, _⟩ => ⟨S1x2048x1024, .f32⟩
  | .hbm, ⟨49, _⟩ => ⟨S2x2048x1024, .f32⟩
  | .hbm, ⟨50, _⟩ => ⟨S2x2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== AdamKernel.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKernelIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamReferenceIdeal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormBwdKernel.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== MidBwdKernel.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 26
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | .hbm, ⟨24, _⟩ => ⟨S1x1024, .f32⟩
  | .hbm, ⟨25, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MidBwdReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== LossKernel.lean ====
abbrev S2048x3072 : Shape := ⟨2, ![2048, 3072]⟩
abbrev S3072x1024 : Shape := ⟨2, ![3072, 1024]⟩
abbrev S2048x1024 : Shape := ⟨2, ![2048, 1024]⟩
abbrev S1x1024 : Shape := ⟨2, ![1, 1024]⟩
abbrev S1x128 : Shape := ⟨2, ![1, 128]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S3072x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x3072, .bf16⟩
  | .hbm, ⟨6, _⟩ => ⟨S3072x1024, .bf16⟩
  | .hbm, ⟨7, _⟩ => ⟨S2048x1024, .f32⟩
  | .hbm, ⟨8, _⟩ => ⟨S2048x1024, .bf16⟩
  | .hbm, ⟨9, _⟩ => ⟨S1x128, .f32⟩
  | .hbm, ⟨10, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossReferenceIdeal.lean ====
abbrev S2048x3072 : Shape := ⟨2, ![2048, 3072]⟩
abbrev S3072x1024 : Shape := ⟨2, ![3072, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S3072x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .bf16⟩
  | .hbm, ⟨73, _⟩ => ⟨S1x128, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== HalvesKernel.lean ====
abbrev S1 : Shape := ⟨1, ![1]⟩
abbrev S768x1024 : Shape := ⟨2, ![768, 1024]⟩
abbrev S384x1024 : Shape := ⟨2, ![384, 1024]⟩
abbrev S192x1024 : Shape := ⟨2, ![192, 1024]⟩

abbrev nBuf : Space → Nat
  | .hbm => 9
  | .vmem => 18
  | .smem => 1
  | _ => 0

abbrev bufTy : (tb : Table) → Fin (tcTables nBuf tb) → BufTy
  | .hbm, ⟨0, _⟩ => ⟨S768x1024, .f32⟩
  | .hbm, ⟨1, _⟩ => ⟨S384x1024, .f32⟩
  | .hbm, ⟨2, _⟩ => ⟨S384x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .hbm, ⟨7, _⟩ => ⟨S768x1024, .f32⟩
  | .hbm, ⟨8, _⟩ => ⟨S768x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | .local _ .vmem, ⟨16, _⟩ => ⟨S192x1024, .f32⟩
  | .local _ .vmem, ⟨17, _⟩ => ⟨S192x1024, .f32⟩
  | .local _ .smem, ⟨0, _⟩ => ⟨S1, .i32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HalvesKernelIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== HalvesReferenceIdeal.lean ====
abbrev S1 : Shape := ⟨1, ![1]⟩
abbrev S768x1024 : Shape := ⟨2, ![768, 1024]⟩
abbrev S384x1024 : Shape := ⟨2, ![384, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S768x1024, .f32⟩
  | .hbm, ⟨2, _⟩ => ⟨S384x1024, .f32⟩
  | .hbm, ⟨3, _⟩ => ⟨S384x1024, .f32⟩
  | .hbm, ⟨4, _⟩ => ⟨S768x1024, .f32⟩
  | .hbm, ⟨5, _⟩ => ⟨S768x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S384x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S384x1024, .f32⟩
  | .hbm, ⟨14, _⟩ => ⟨S768x1024, .f32⟩
  | .hbm, ⟨15, _⟩ => ⟨S_, .f32⟩
  | .hbm, ⟨16, _⟩ => ⟨S768x1024, .f32⟩
  | .hbm, ⟨17, _⟩ => ⟨S768x1024, .f32⟩
  | .hbm, ⟨18, _⟩ => ⟨S_, .f32⟩
  | .hbm, ⟨19, _⟩ => ⟨S768x1024, .f32⟩
  | .hbm, ⟨20, _⟩ => ⟨S768x1024, .f32⟩
  | .hbm, ⟨21, _⟩ => ⟨S768x1024, .f32⟩
  | .hbm, ⟨22, _⟩ => ⟨S_, .f32⟩
  | .hbm, ⟨23, _⟩ => ⟨S768x1024, .f32⟩
  | .hbm, ⟨24, _⟩ => ⟨S768x1024, .f32⟩
  | .hbm, ⟨25, _⟩ => ⟨S768x1024, .f32⟩
  | .hbm, ⟨26, _⟩ => ⟨S_, .f32⟩
  | .hbm, ⟨27, _⟩ => ⟨S768x1024, .f32⟩
  | .hbm, ⟨28, _⟩ => ⟨S768x1024, .f32⟩
  | .hbm, ⟨29, _⟩ => ⟨S768x1024, .f32⟩
  | .hbm, ⟨30, _⟩ => ⟨S_, .f32⟩
  | .hbm, ⟨31, _⟩ => ⟨S768x1024, .f32⟩
  | .hbm, ⟨32, _⟩ => ⟨S768x1024, .f32⟩
  | .hbm, ⟨33, _⟩ => ⟨S_, .f32⟩
  | .hbm, ⟨34, _⟩ => ⟨S768x1024, .f32⟩
  | .hbm, ⟨35, _⟩ => ⟨S768x1024, .f32⟩
  | .hbm, ⟨36, _⟩ => ⟨S768x1024, .f32⟩
  | .hbm, ⟨37, _⟩ => ⟨S_, .f32⟩
  | .hbm, ⟨38, _⟩ => ⟨S768x1024, .f32⟩
  | .hbm, ⟨39, _⟩ => ⟨S768x1024, .f32⟩
  | .hbm, ⟨40, _⟩ => ⟨S768x1024, .f32⟩
  | .hbm, ⟨41, _⟩ => ⟨S_, .f32⟩
  | .hbm, ⟨42, _⟩ => ⟨S768x1024, .f32⟩
  | .hbm, ⟨43, _⟩ => ⟨S768x1024, .f32⟩
  | .hbm, ⟨44, _⟩ => ⟨S768x1024, .f32⟩
  | .hbm, ⟨45, _⟩ => ⟨S_, .f32⟩
  | .hbm, ⟨46, _⟩ => ⟨S768x1024, .f32⟩
  | .hbm, ⟨47, _⟩ => ⟨S768x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== SumKernel.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumReferenceIdeal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpHalvesKernel.lean ====
abbrev S1 : Shape := ⟨1, ![1]⟩
abbrev S1024x1536 : Shape := ⟨2, ![1024, 1536]⟩
abbrev S512x1536 : Shape := ⟨2, ![512, 1536]⟩
abbrev S128x1536 : Shape := ⟨2, ![128, 1536]⟩

abbrev nBuf : Space → Nat
  | .hbm => 9
  | .vmem => 18
  | .smem => 1
  | _ => 0

abbrev bufTy : (tb : Table) → Fin (tcTables nBuf tb) → BufTy
  | .hbm, ⟨0, _⟩ => ⟨S1024x1536, .f32⟩
  | .hbm, ⟨1, _⟩ => ⟨S512x1536, .f32⟩
  | .hbm, ⟨2, _⟩ => ⟨S512x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .hbm, ⟨8, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | .local _ .vmem, ⟨17, _⟩ => ⟨S128x1536, .f32⟩
  | .local _ .smem, ⟨0, _⟩ => ⟨S1, .i32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpHalvesKernelIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== UpHalvesReferenceIdeal.lean ====
abbrev S1 : Shape := ⟨1, ![1]⟩
abbrev S1024x1536 : Shape := ⟨2, ![1024, 1536]⟩
abbrev S512x1536 : Shape := ⟨2, ![512, 1536]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1536, .f32⟩
  | .hbm, ⟨2, _⟩ => ⟨S512x1536, .f32⟩
  | .hbm, ⟨3, _⟩ => ⟨S512x1536, .f32⟩
  | .hbm, ⟨4, _⟩ => ⟨S1024x1536, .f32⟩
  | .hbm, ⟨5, _⟩ => ⟨S1024x1536, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1536, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S_, .f32⟩
  | .hbm, ⟨19, _⟩ => ⟨S1024x1536, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S_, .f32⟩
  | .hbm, ⟨34, _⟩ => ⟨S1024x1536, .f32⟩
  | .hbm, ⟨35, _⟩ => ⟨S1024x1536, .f32⟩
  | .hbm, ⟨36, _⟩ => ⟨S1024x1536, .f32⟩
  | .hbm, ⟨37, _⟩ => ⟨S_, .f32⟩
  | .hbm, ⟨38, _⟩ => ⟨S1024x1536, .f32⟩
  | .hbm, ⟨39, _⟩ => ⟨S1024x1536, .f32⟩
  | .hbm, ⟨40, _⟩ => ⟨S1024x1536, .f32⟩
  | .hbm, ⟨41, _⟩ => ⟨S_, .f32⟩
  | .hbm, ⟨42, _⟩ => ⟨S1024x1536, .f32⟩
  | .hbm, ⟨43, _⟩ => ⟨S1024x1536, .f32⟩
  | .hbm, ⟨44, _⟩ => ⟨S1024x1536, .f32⟩
  | .hbm, ⟨45, _⟩ => ⟨S_, .f32⟩
  | .hbm, ⟨46, _⟩ => ⟨S1024x1536, .f32⟩
  | .hbm, ⟨47, _⟩ => ⟨S1024x1536, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== InHalvesKernel.lean ====
abbrev S1 : Shape := ⟨1, ![1]⟩
abbrev S1024x1792 : Shape := ⟨2, ![1024, 1792]⟩
abbrev S512x1792 : Shape := ⟨2, ![512, 1792]⟩
abbrev S128x1792 : Shape := ⟨2, ![128, 1792]⟩

abbrev nBuf : Space → Nat
  | .hbm => 9
  | .vmem => 18
  | .smem => 1
  | _ => 0

abbrev bufTy : (tb : Table) → Fin (tcTables nBuf tb) → BufTy
  | .hbm, ⟨0, _⟩ => ⟨S1024x1792, .f32⟩
  | .hbm, ⟨1, _⟩ => ⟨S512x1792, .f32⟩
  | .hbm, ⟨2, _⟩ => ⟨S512x1792, .f32⟩
  | .hbm, ⟨3, _⟩ => ⟨S1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .hbm, ⟨8, _⟩ => ⟨S1024x1792, .f32⟩
  | .local _ .vmem, ⟨0, _⟩ => ⟨S128x1792, .f32⟩
  | .local _ .vmem, ⟨1, _⟩ => ⟨S128x1792, .f32⟩
  | .local _ .vmem, ⟨2, _⟩ => ⟨S128x1792, .f32⟩
  | .local _ .vmem, ⟨3, _⟩ => ⟨S128x1792, .f32⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | .local _ .vmem, ⟨14, _⟩ => ⟨S128x1792, .f32⟩
  | .local _ .vmem, ⟨15, _⟩ => ⟨S128x1792, .f32⟩
  | .local _ .vmem, ⟨16, _⟩ => ⟨S128x1792, .f32⟩
  | .local _ .vmem, ⟨17, _⟩ => ⟨S128x1792, .f32⟩
  | .local _ .smem, ⟨0, _⟩ => ⟨S1, .i32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InHalvesKernelIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== InHalvesReferenceIdeal.lean ====
abbrev S1 : Shape := ⟨1, ![1]⟩
abbrev S1024x1792 : Shape := ⟨2, ![1024, 1792]⟩
abbrev S512x1792 : Shape := ⟨2, ![512, 1792]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1792, .f32⟩
  | .hbm, ⟨2, _⟩ => ⟨S512x1792, .f32⟩
  | .hbm, ⟨3, _⟩ => ⟨S512x1792, .f32⟩
  | .hbm, ⟨4, _⟩ => ⟨S1024x1792, .f32⟩
  | .hbm, ⟨5, _⟩ => ⟨S1024x1792, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1792, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1792, .f32⟩
  | .hbm, ⟨14, _⟩ => ⟨S1024x1792, .f32⟩
  | .hbm, ⟨15, _⟩ => ⟨S_, .f32⟩
  | .hbm, ⟨16, _⟩ => ⟨S1024x1792, .f32⟩
  | .hbm, ⟨17, _⟩ => ⟨S1024x1792, .f32⟩
  | .hbm, ⟨18, _⟩ => ⟨S_, .f32⟩
  | .hbm, ⟨19, _⟩ => ⟨S1024x1792, .f32⟩
  | .hbm, ⟨20, _⟩ => ⟨S1024x1792, .f32⟩
  | .hbm, ⟨21, _⟩ => ⟨S1024x1792, .f32⟩
  | .hbm, ⟨22, _⟩ => ⟨S_, .f32⟩
  | .hbm, ⟨23, _⟩ => ⟨S1024x1792, .f32⟩
  | .hbm, ⟨24, _⟩ => ⟨S1024x1792, .f32⟩
  | .hbm, ⟨25, _⟩ => ⟨S1024x1792, .f32⟩
  | .hbm, ⟨26, _⟩ => ⟨S_, .f32⟩
  | .hbm, ⟨27, _⟩ => ⟨S1024x1792, .f32⟩
  | .hbm, ⟨28, _⟩ => ⟨S1024x1792, .f32⟩
  | .hbm, ⟨29, _⟩ => ⟨S1024x1792, .f32⟩
  | .hbm, ⟨30, _⟩ => ⟨S_, .f32⟩
  | .hbm, ⟨31, _⟩ => ⟨S1024x1792, .f32⟩
  | .hbm, ⟨32, _⟩ => ⟨S1024x1792, .f32⟩
  | .hbm, ⟨33, _⟩ => ⟨S_, .f32⟩
  | .hbm, ⟨34, _⟩ => ⟨S1024x1792, .f32⟩
  | .hbm, ⟨35, _⟩ => ⟨S1024x1792, .f32⟩
  | .hbm, ⟨36, _⟩ => ⟨S1024x1792, .f32⟩
  | .hbm, ⟨37, _⟩ => ⟨S_, .f32⟩
  | .hbm, ⟨38, _⟩ => ⟨S1024x1792, .f32⟩
  | .hbm, ⟨39, _⟩ => ⟨S1024x1792, .f32⟩
  | .hbm, ⟨40, _⟩ => ⟨S1024x1792, .f32⟩
  | .hbm, ⟨41, _⟩ => ⟨S_, .f32⟩
  | .hbm, ⟨42, _⟩ => ⟨S1024x1792, .f32⟩
  | .hbm, ⟨43, _⟩ => ⟨S1024x1792, .f32⟩
  | .hbm, ⟨44, _⟩ => ⟨S1024x1792, .f32⟩
  | .hbm, ⟨45, _⟩ => ⟨S_, .f32⟩
  | .hbm, ⟨46, _⟩ => ⟨S1024x1792, .f32⟩
  | .hbm, ⟨47, _⟩ => ⟨S1024x1792, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== RowHalvesKernel.lean ====
abbrev S1 : Shape := ⟨1, ![1]⟩
abbrev S256x1024 : Shape := ⟨2, ![256, 1024]⟩
abbrev S128x1024 : Shape := ⟨2, ![128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RowHalvesKernelIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== RowHalvesReferenceIdeal.lean ====
abbrev S1 : Shape := ⟨1, ![1]⟩
abbrev S256x1024 : Shape := ⟨2, ![256, 1024]⟩
abbrev S128x1024 : Shape := ⟨2, ![128, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S256x1024, .f32⟩
  | .hbm, ⟨2, _⟩ => ⟨S128x1024, .f32⟩
  | .hbm, ⟨3, _⟩ => ⟨S128x1024, .f32⟩
  | .hbm, ⟨4, _⟩ => ⟨S256x1024, .f32⟩
  | .hbm, ⟨5, _⟩ => ⟨S256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== SmallHalvesKernel.lean ====
abbrev S1 : Shape := ⟨1, ![1]⟩
abbrev S576x256 : Shape := ⟨2, ![576, 256]⟩
abbrev S288x256 : Shape := ⟨2, ![288, 256]⟩

abbrev nBuf : Space → Nat
  | .hbm => 9
  | .vmem => 16
  | .smem => 1
  | _ => 0

abbrev bufTy : (tb : Table) → Fin (tcTables nBuf tb) → BufTy
  | .hbm, ⟨0, _⟩ => ⟨S576x256, .f32⟩
  | .hbm, ⟨1, _⟩ => ⟨S288x256, .f32⟩
  | .hbm, ⟨2, _⟩ => ⟨S288x256, .f32⟩
  | .hbm, ⟨3, _⟩ => ⟨S576x256, .f32⟩
  | .hbm, ⟨4, _⟩ => ⟨S576x256, .f32⟩
  | .hbm, ⟨5, _⟩ => ⟨S576x256, .f32⟩
  | .hbm, ⟨6, _⟩ => ⟨S576x256, .f32⟩
  | .hbm, ⟨7, _⟩ => ⟨S576x256, .f32⟩
  | .hbm, ⟨8, _⟩ => ⟨S576x256, .f32⟩
  | .local _ .vmem, ⟨0, _⟩ => ⟨S288x256, .f32⟩
  | .local _ .vmem, ⟨1, _⟩ => ⟨S288x256, .f32⟩
  | .local _ .vmem, ⟨2, _⟩ => ⟨S288x256, .f32⟩
  | .local _ .vmem, ⟨3, _⟩ => ⟨S288x256, .f32⟩
  | .local _ .vmem, ⟨4, _⟩ => ⟨S288x256, .f32⟩
  | .local _ .vmem, ⟨5, _⟩ => ⟨S288x256, .f32⟩
  | .local _ .vmem, ⟨6, _⟩ => ⟨S288x256, .f32⟩
  | .local _ .vmem, ⟨7, _⟩ => ⟨S288x256, .f32⟩
  | .local _ .vmem, ⟨8, _⟩ => ⟨S288x256, .f32⟩
  | .local _ .vmem, ⟨9, _⟩ => ⟨S288x256, .f32⟩
  | .local _ .vmem, ⟨10, _⟩ => ⟨S288x256, .f32⟩
  | .local _ .vmem, ⟨11, _⟩ => ⟨S288x256, .f32⟩
  | .local _ .vmem, ⟨12, _⟩ => ⟨S288x256, .f32⟩
  | .local _ .vmem, ⟨13, _⟩ => ⟨S288x256, .f32⟩
  | .local _ .vmem, ⟨14, _⟩ => ⟨S288x256, .f32⟩
  | .local _ .vmem, ⟨15, _⟩ => ⟨S288x256, .f32⟩
  | .local _ .smem, ⟨0, _⟩ => ⟨S1, .i32⟩
  | _, _ => ⟨S576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S288x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S288x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S288x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S288x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S288x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S288x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S288x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S288x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SmallHalvesKernelIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== SmallHalvesReferenceIdeal.lean ====
abbrev S1 : Shape := ⟨1, ![1]⟩
abbrev S576x256 : Shape := ⟨2, ![576, 256]⟩
abbrev S288x256 : Shape := ⟨2, ![288, 256]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S576x256, .f32⟩
  | .hbm, ⟨2, _⟩ => ⟨S288x256, .f32⟩
  | .hbm, ⟨3, _⟩ => ⟨S288x256, .f32⟩
  | .hbm, ⟨4, _⟩ => ⟨S576x256, .f32⟩
  | .hbm, ⟨5, _⟩ => ⟨S576x256, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S288x256, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S288x256, .f32⟩
  | .hbm, ⟨14, _⟩ => ⟨S576x256, .f32⟩
  | .hbm, ⟨15, _⟩ => ⟨S_, .f32⟩
  | .hbm, ⟨16, _⟩ => ⟨S576x256, .f32⟩
  | .hbm, ⟨17, _⟩ => ⟨S576x256, .f32⟩
  | .hbm, ⟨18, _⟩ => ⟨S_, .f32⟩
  | .hbm, ⟨19, _⟩ => ⟨S576x256, .f32⟩
  | .hbm, ⟨20, _⟩ => ⟨S576x256, .f32⟩
  | .hbm, ⟨21, _⟩ => ⟨S576x256, .f32⟩
  | .hbm, ⟨22, _⟩ => ⟨S_, .f32⟩
  | .hbm, ⟨23, _⟩ => ⟨S576x256, .f32⟩
  | .hbm, ⟨24, _⟩ => ⟨S576x256, .f32⟩
  | .hbm, ⟨25, _⟩ => ⟨S576x256, .f32⟩
  | .hbm, ⟨26, _⟩ => ⟨S_, .f32⟩
  | .hbm, ⟨27, _⟩ => ⟨S576x256, .f32⟩
  | .hbm, ⟨28, _⟩ => ⟨S576x256, .f32⟩
  | .hbm, ⟨29, _⟩ => ⟨S576x256, .f32⟩
  | .hbm, ⟨30, _⟩ => ⟨S_, .f32⟩
  | .hbm, ⟨31, _⟩ => ⟨S576x256, .f32⟩
  | .hbm, ⟨32, _⟩ => ⟨S576x256, .f32⟩
  | .hbm, ⟨33, _⟩ => ⟨S_, .f32⟩
  | .hbm, ⟨34, _⟩ => ⟨S576x256, .f32⟩
  | .hbm, ⟨35, _⟩ => ⟨S576x256, .f32⟩
  | .hbm, ⟨36, _⟩ => ⟨S576x256, .f32⟩
  | .hbm, ⟨37, _⟩ => ⟨S_, .f32⟩
  | .hbm, ⟨38, _⟩ => ⟨S576x256, .f32⟩
  | .hbm, ⟨39, _⟩ => ⟨S576x256, .f32⟩
  | .hbm, ⟨40, _⟩ => ⟨S576x256, .f32⟩
  | .hbm, ⟨41, _⟩ => ⟨S_, .f32⟩
  | .hbm, ⟨42, _⟩ => ⟨S576x256, .f32⟩
  | .hbm, ⟨43, _⟩ => ⟨S576x256, .f32⟩
  | .hbm, ⟨44, _⟩ => ⟨S576x256, .f32⟩
  | .hbm, ⟨45, _⟩ => ⟨S_, .f32⟩
  | .hbm, ⟨46, _⟩ => ⟨S576x256, .f32⟩
  | .hbm, ⟨47, _⟩ => ⟨S576x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== LruBwdKernel.lean ====
abbrev S2048x1024 : Shape := ⟨2, ![2048, 1024]⟩
abbrev S1024x1024 : Shape := ⟨2, ![1024, 1024]⟩
abbrev S2048x7168 : Shape := ⟨2, ![2048, 7168]⟩
abbrev S4x1024 : Shape := ⟨2, ![4, 1024]⟩
abbrev S4x256x256 : Shape := ⟨3, ![4, 256, 256]⟩
abbrev S1024 : Shape := ⟨1, ![1024]⟩
abbrev S1x1024 : Shape := ⟨2, ![1, 1024]⟩
abbrev S2x2048x1024 : Shape := ⟨3, ![2, 2048, 1024]⟩
abbrev S256x1024 : Shape := ⟨2, ![256, 1024]⟩
abbrev S2048x256 : Shape := ⟨2, ![2048, 256]⟩
abbrev S4x256 : Shape := ⟨2, ![4, 256]⟩
abbrev S1x256x256 : Shape := ⟨3, ![1, 256, 256]⟩
abbrev S1x256 : Shape := ⟨2, ![1, 256]⟩
abbrev S2x2048x256 : Shape := ⟨3, ![2, 2048, 256]⟩
abbrev S1x2048x256 : Shape := ⟨3, ![1, 2048, 256]⟩
abbrev S8x256 : Shape := ⟨2, ![8, 256]⟩
abbrev S256 : Shape := ⟨1, ![256]⟩
abbrev S256x256 : Shape := ⟨2, ![256, 256]⟩

abbrev nBuf : Space → Nat
  | .hbm => 28
  | .vmem => 43
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x7168, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S4x1024, .f32⟩
  | .hbm, ⟨8, _⟩ => ⟨S4x256x256, .f32⟩
  | .hbm, ⟨9, _⟩ => ⟨S4x256x256, .f32⟩
  | .hbm, ⟨10, _⟩ => ⟨S1024, .f32⟩
  | .hbm, ⟨11, _⟩ => ⟨S2048x1024, .bf16⟩
  | .hbm, ⟨12, _⟩ => ⟨S1024x1024, .bf16⟩
  | .hbm, ⟨13, _⟩ => ⟨S2048x1024, .bf16⟩
  | .hbm, ⟨14, _⟩ => ⟨S2048x1024, .bf16⟩
  | .hbm, ⟨15, _⟩ => ⟨S2048x1024, .bf16⟩
  | .hbm, ⟨16, _⟩ => ⟨S4x256x256, .bf16⟩
  | .hbm, ⟨17, _⟩ => ⟨S4x256x256, .bf16⟩
  | .hbm, ⟨18, _⟩ => ⟨S1x1024, .f32⟩
  | .hbm, ⟨19, _⟩ => ⟨S2x2048x1024, .bf16⟩
  | .hbm, ⟨20, _⟩ => ⟨S1024x1024, .bf16⟩
  | .hbm, ⟨21, _⟩ => ⟨S4x256x256, .f32⟩
  | .hbm, ⟨22, _⟩ => ⟨S4x256x256, .f32⟩
  | .hbm, ⟨23, _⟩ => ⟨S1x1024, .f32⟩
  | .hbm, ⟨24, _⟩ => ⟨S1x1024, .f32⟩
  | .hbm, ⟨25, _⟩ => ⟨S4x1024, .f32⟩
  | .hbm, ⟨26, _⟩ => ⟨S1x1024, .f32⟩
  | .hbm, ⟨27, _⟩ => ⟨S1x1024, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .f32⟩
  | .local _ .vmem, ⟨14, _⟩ => ⟨S2048x256, .f32⟩
  | .local _ .vmem, ⟨15, _⟩ => ⟨S4x256, .f32⟩
  | .local _ .vmem, ⟨16, _⟩ => ⟨S4x256, .f32⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x256, .f32⟩
  | .local _ .vmem, ⟨22, _⟩ => ⟨S1x256, .f32⟩
  | .local _ .vmem, ⟨23, _⟩ => ⟨S2x2048x256, .bf16⟩
  | .local _ .vmem, ⟨24, _⟩ => ⟨S2x2048x256, .bf16⟩
  | .local _ .vmem, ⟨25, _⟩ => ⟨S256x1024, .bf16⟩
  | .local _ .vmem, ⟨26, _⟩ => ⟨S256x1024, .bf16⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S1x256x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S4x256, .f32⟩
  | .local _ .vmem, ⟨36, _⟩ => ⟨S4x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S2048x256, .f32⟩
  | .local _ .vmem, ⟨42, _⟩ => ⟨S2048x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev main_v8_7 : Ref sig .tc := ⟨.hbm, 26, rfl⟩
abbrev main_v8_8 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_scratch0 : Ref sig .tc := ⟨.vmem, 41, rfl⟩
abbrev cc0_scratch1 : Ref sig .tc := ⟨.vmem, 42, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_55 : BitVec 32 := 0#32
  let c32_i32 : BitVec 32 := 32#32
  let v130 : BitVec 32 := Scalar.addi c0_i32_55 c32_i32
  let c1_i32 : BitVec 32 := 1#32
  ⟨c0_i32_55, v130, c1_i32⟩
def k0_mult1 (k0_t1 : Fin k0_t1_loop.trips) : BitVec 32 :=
  let c31_i32 : BitVec 32 := 31#32
  let c0_i32_55 : BitVec 32 := 0#32
  let c1_i32 : BitVec 32 := 1#32
  let arg24 : BitVec 32 := Scf.iv c0_i32_55 c1_i32 k0_t1
  let v263 : BitVec 32 := Scalar.subi c31_i32 arg24
  let c64_i32 : BitVec 32 := 64#32
  let v264 : BitVec 32 := Scalar.muli v263 c64_i32
  v264
def k0_off1 (k0_t1 : Fin k0_t1_loop.trips) (c56_i32 : BitVec 32) : Fin 2 → Nat :=
  let c31_i32 : BitVec 32 := 31#32
  let c0_i32_55 : BitVec 32 := 0#32
  let c1_i32 : BitVec 32 := 1#32
  let arg24 : BitVec 32 := Scf.iv c0_i32_55 c1_i32 k0_t1
  let v263 : BitVec 32 := Scalar.subi c31_i32 arg24
  let c64_i32 : BitVec 32 := 64#32
  let v264 : BitVec 32 := Scalar.muli v263 c64_i32
  let v265 : BitVec 32 := v264
  let v266 : BitVec 32 := Scalar.addi v265 c56_i32
  let v267 : Index := Scalar.indexCast v266
  let c0_124 : Index := 0#32
  ![v267.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== LruBwdKernelIdeal.lean ====
variable {F : FTy → Type} [FloatOps F] [Named F]
def κ : String → Option EReal := fun
  | "k" => some ((8943 / 200000 : ℝ) : EReal)
  | _ => none
-- ==== LruBwdReferenceIdeal.lean ====
abbrev S2048x1024 : Shape := ⟨2, ![2048, 1024]⟩
abbrev S1024x1024 : Shape := ⟨2, ![1024, 1024]⟩
abbrev S2048x7168 : Shape := ⟨2, ![2048, 7168]⟩
abbrev S4x1024 : Shape := ⟨2, ![4, 1024]⟩
abbrev S4x256x256 : Shape := ⟨3, ![4, 256, 256]⟩
abbrev S1024 : Shape := ⟨1, ![1024]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x7168, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S4x1024, .f32⟩
  | .hbm, ⟨8, _⟩ => ⟨S4x256x256, .f32⟩
  | .hbm, ⟨9, _⟩ => ⟨S4x256x256, .f32⟩
  | .hbm, ⟨10, _⟩ => ⟨S1024, .f32⟩
  | .hbm, ⟨11, _⟩ => ⟨S2048x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S1024x1024, .f32⟩
  | .hbm, ⟨34, _⟩ => ⟨S1024x1024, .f32⟩
  | .hbm, ⟨35, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Proof.Model.lean ====
/- The feed-forward layer's backward pass over the reals: the up projection `u = h·W`, the causal three-tap convolution
   `y`, the gated product `f = gelu(gate) · val` and, for a cotangent `g` of the layer's result `f·V`, the gradients of
   the loss in `h`, `W`, `V`, the taps and the bias. Both programs are shown to compute these sums. -/
module

public import Idealize.ShloMosaic.PureOps.Ideal.Laws
public import Mathlib.Analysis.SpecialFunctions.Trigonometric.DerivHyp

@[expose] public section

noncomputable section

namespace Cert.Ffn

/-- The arguments as real arrays: the layer's input, the up projection, the taps, the bias, the down projection and the
    cotangent of the layer's result. -/
structure Inp where
  h : Fin 2048 → Fin 1024 → ℝ
  wu : Fin 1024 → Fin 6144 → ℝ
  cw : Fin 3 → Fin 6144 → ℝ
  cb : Fin 6144 → ℝ
  wd : Fin 3072 → Fin 1024 → ℝ
  g : Fin 2048 → Fin 1024 → ℝ

/-- A column of positions delayed by `k`: position `s` reads `s - k`, and zero before the first position. -/
def back (k : ℕ) (f : Fin 2048 → ℝ) (s : Fin 2048) : ℝ :=
  if h : k ≤ s.val then f ⟨s.val - k, by omega⟩ else 0

/-- A column of positions advanced by `k`: position `s` reads `s + k`, and zero past the last position. -/
def ahead (k : ℕ) (f : Fin 2048 → ℝ) (s : Fin 2048) : ℝ :=
  if h : s.val + k < 2048 then f ⟨s.val + k, h⟩ else 0

/-- The factor `√(2/π)` as both programs write it: the rational of its 32-bit float. -/
def cc : ℝ := 13386282 / 16777216

/-- The hyperbolic tangent inside the activation. -/
def th (x : ℝ) : ℝ := Real.tanh (cc * (x + 8943 / 200000 * x * (x * x)))

/-- The activation. -/
def gelu (x : ℝ) : ℝ := 1 / 2 * x * (1 + th x)

/-- The activation's derivative. -/
def gelu' (x : ℝ) : ℝ :=
  1 / 2 * (1 + th x) + 1 / 2 * x * (1 - th x * th x) * cc * (1 + 26829 / 200000 * (x * x))

/-- Column `f` of the gate half of the layer's 6144 columns. -/
def gcol (f : Fin 3072) : Fin 6144 := ⟨f.val, by omega⟩
/-- Column `f` of the value half. -/
def vcol (f : Fin 3072) : Fin 6144 := ⟨3072 + f.val, by omega⟩

/-- Column `f` of half `z`: the gate half is 0, the value half 1. -/
def col (z : Fin 2) (f : Fin 3072) : Fin 6144 := ⟨z.val * 3072 + f.val, by omega⟩

theorem col_zero (f : Fin 3072) : col 0 f = gcol f := by simp [col, gcol]
theorem col_one (f : Fin 3072) : col 1 f = vcol f := by simp [col, vcol]

namespace Inp
variable (a : Inp)

/-- The up projection, column `j`. -/
def up (j : Fin 6144) (s : Fin 2048) : ℝ := ∑ d : Fin 1024, a.h s d * a.wu d j

/-- The causal convolution of the up projection, column `j`. -/
def act (j : Fin 6144) (s : Fin 2048) : ℝ :=
  back 2 (a.up j) s * a.cw 0 j + back 1 (a.up j) s * a.cw 1 j + a.up j s * a.cw 2 j + a.cb j

/-- The gated product, column `f`. -/
def ff (f : Fin 3072) (s : Fin 2048) : ℝ := gelu (a.act (gcol f) s) * a.act (vcol f) s

/-- The gradient in the gated product. -/
def df (f : Fin 3072) (s : Fin 2048) : ℝ := ∑ d : Fin 1024, a.g s d * a.wd f d

/-- The gradient in the gate half of the convolution's result. -/
def dgate (f : Fin 3072) (s : Fin 2048) : ℝ := a.df f s * a.act (vcol f) s * gelu' (a.act (gcol f) s)

/-- The gradient in the value half. -/
def dval (f : Fin 3072) (s : Fin 2048) : ℝ := a.df f s * gelu (a.act (gcol f) s)

/-- The gradient in the convolution's result, both halves side by side. -/
def dact (j : Fin 6144) (s : Fin 2048) : ℝ :=
  if h : j.val < 3072 then a.dgate ⟨j.val, h⟩ s else a.dval ⟨j.val - 3072, by omega⟩ s

/-- The gradient in the up projection: the convolution's transpose. -/
def dup (j : Fin 6144) (s : Fin 2048) : ℝ :=
  a.cw 2 j * a.dact j s + a.cw 1 j * ahead 1 (a.dact j) s + a.cw 0 j * ahead 2 (a.dact j) s

/-- The gradient in the layer's input. -/
def dh (s : Fin 2048) (d : Fin 1024) : ℝ := ∑ j : Fin 6144, a.dup j s * a.wu d j
/-- The gradient in the up projection's matrix. -/
def dwu (d : Fin 1024) (j : Fin 6144) : ℝ := ∑ s : Fin 2048, a.h s d * a.dup j s
/-- The gradient in the down projection's matrix. -/
def dwd (f : Fin 3072) (d : Fin 1024) : ℝ := ∑ s : Fin 2048, a.ff f s * a.g s d
/-- The gradient in tap `k`. -/
def dcw (k : Fin 3) (j : Fin 6144) : ℝ := ∑ s : Fin 2048, ahead (2 - k.val) (a.dact j) s * a.up j s
/-- The gradient in the bias. -/
def dcb (j : Fin 6144) : ℝ := ∑ s : Fin 2048, a.dact j s

theorem dact_gcol (f : Fin 3072) : a.dact (gcol f) = a.dgate f := by
  funext s; simp [dact, gcol]

theorem dact_vcol (f : Fin 3072) : a.dact (vcol f) = a.dval f := by
  funext s; simp [dact, vcol]

end Inp

/-- A sum of products with a delayed column is the sum with the other column advanced. -/
theorem sum_ahead_mul (k : ℕ) (p q : Fin 2048 → ℝ) :
    ∑ s, ahead k p s * q s = ∑ s, p s * back k q s := by
  simp only [ahead, back, dite_mul, zero_mul, mul_dite, mul_zero]
  rw [← Finset.sum_filter_add_sum_filter_not Finset.univ (fun s : Fin 2048 => s.val + k < 2048),
    ← Finset.sum_filter_add_sum_filter_not (s := Finset.univ) (f := fun s : Fin 2048 => if h : k ≤ s.val then p s * q ⟨s.val - k, by omega⟩ else 0)
      (fun s : Fin 2048 => k ≤ s.val)]
  rw [Finset.sum_eq_zero (s := Finset.univ.filter fun s : Fin 2048 => ¬ s.val + k < 2048)
      (fun s hs => by rw [dif_neg (Finset.mem_filter.mp hs).2]),
    Finset.sum_eq_zero (s := Finset.univ.filter fun s : Fin 2048 => ¬ k ≤ s.val)
      (fun s hs => by rw [dif_neg (Finset.mem_filter.mp hs).2])]
  congr 1
  refine Finset.sum_bij' (fun s hs => ⟨s.val + k, (Finset.mem_filter.mp hs).2⟩)
    (fun s hs => ⟨s.val - k, by omega⟩) ?_ ?_ ?_ ?_ ?_
  · intro s hs; simp
  · intro s hs
    have := (Finset.mem_filter.mp hs).2
    simp only [Finset.mem_filter, Finset.mem_univ, true_and]; omega
  · intro s hs; simp
  · intro s hs
    have := (Finset.mem_filter.mp hs).2
    apply Fin.ext; simp only []; omega
  · intro s hs
    have h := (Finset.mem_filter.mp hs).2
    rw [dif_pos h, dif_pos (by simp)]
    simp

/-- The finite sum of extended reals that are reals is the real sum. -/
theorem coe_sum {ι : Type} (t : Finset ι) (f : ι → ℝ) : ((∑ i ∈ t, f i : ℝ) : EReal) = ∑ i ∈ t, ((f i : ℝ) : EReal) := by
  classical
  induction t using Finset.induction_on with
  | empty => simp
  | insert i t hi ih => rw [Finset.sum_insert hi, Finset.sum_insert hi, EReal.coe_add, ih]

end Cert.Ffn

end
-- ==== Proof.Consts.lean ====
/- The literals of the two programs as real numbers. -/
module

public import proofs.«01_k».proof.KernelIdeal
public import Idealize.ShloMosaic.PureOps.Ideal.Laws
public import Idealize.ShloMosaic.PureOps.IdealRules

@[expose] public section

noncomputable section

namespace Cert.Ffn

open Idealize.ShloMosaic

/-- The word of `√(2/π)`. -/
theorem lit_cc : Ideal.ofBits .f32 0x3F4C422A#32 = ((13386282 / 16777216 : ℝ) : EReal) := by
  simp [Ideal.ofBits, Ideal.ieee, -EReal.coe_mul]; norm_num

/-- The word of one half. -/
theorem lit_half : Ideal.ofBits .f32 0x3F000000#32 = ((1 / 2 : ℝ) : EReal) := by
  simp [Ideal.ofBits, Ideal.ieee, -EReal.coe_mul]; norm_num

/-- The word of one. -/
theorem lit_one : Ideal.ofBits .f32 0x3F800000#32 = ((1 : ℝ) : EReal) := by
  simp [Ideal.ofBits, Ideal.ieee, -EReal.coe_mul]; norm_num

/-- The word of three. -/
theorem lit_three : Ideal.ofBits .f32 0x40400000#32 = ((3 : ℝ) : EReal) := by
  simp [Ideal.ofBits, Ideal.ieee, -EReal.coe_mul]; norm_num

/-- The word of the numerator of the activation's cubic coefficient. -/
theorem lit_num : Ideal.ofBits .f32 0x472EAB00#32 = ((44715 : ℝ) : EReal) := by
  simp [Ideal.ofBits, Ideal.ieee, -EReal.coe_mul]; norm_num

/-- The word of its denominator. -/
theorem lit_den : Ideal.ofBits .f32 0x49742400#32 = ((1000000 : ℝ) : EReal) := by
  simp [Ideal.ofBits, Ideal.ieee, -EReal.coe_mul]; norm_num

/-- The idealized kernel's cubic coefficient. -/
theorem named_k : Named.named (F := Ideal) (φ := .f32) Cert.KernelIdeal.κ "k" 0x3D372713#32 = ((8943 / 200000 : ℝ) : EReal) :=
  IdealRules.named_const.ideal_named_scalar _ _ _ _ rfl

/-- The idealized kernel's coefficient of the derivative, three times the cubic one. -/
theorem named_k3 : Named.named (F := Ideal) (φ := .f32) Cert.KernelIdeal.κ "k3" 0x3E095D4F#32 = ((26829 / 200000 : ℝ) : EReal) :=
  IdealRules.named_const.ideal_named_scalar _ _ _ _ rfl

end Cert.Ffn

end
-- ==== Proof.Payload.lean ====
/- What the kernel's body computes at one grid point, entry by entry over the reals: each result of the body's
   straight-line code on blocks that hold reals, as a real. -/
module

public import proofs.«01_k».proof.Proof.Model
public import proofs.«01_k».proof.Proof.Consts
public import proofs.«01_k».proof.Proof.Gen.KernelIdeal.Skeleton
public import Idealize.ShloMosaic.Lib.Pointwise
public import Idealize.ShloMosaic.Lib.WordCmp

@[expose] public section

set_option maxRecDepth 16384

noncomputable section

namespace Cert.Ffn

open Idealize.ShloMosaic Cert.KernelIdeal Cert.KernelIdeal.Gen

variable [Cert.KernelIdeal.Facts]

/-- The product of the cotangent's rows with the rows of the down projection's block. -/
theorem pay5_real {x : Vec Ideal S2048x1024 .bf16} {w : Vec Ideal S256x1024 .bf16} {p : Fin 2048 → Fin 1024 → ℝ}
    {q : Fin 256 → Fin 1024 → ℝ} (hx : ∀ i j, x (ix2 i j) = (p i j : EReal)) (hw : ∀ i j, w (ix2 i j) = (q i j : EReal))
    (i : Fin 2048) (f : Fin 256) : k0_pay5 x w (ix2 i f) = ((∑ d, p i d * q f d : ℝ) : EReal) := by
  pointwise [k0_pay5, k0_pay4]
  simp only [hx, hw, coe_sum, EReal.coe_mul]

/-- A point's addition to the gradient in the input: both halves of the stored block against their columns of the up
    projection. -/
theorem pay9_real {a b : Vec Ideal S1x2048x256 .bf16} {o : Vec Ideal S2048x1024 .f32} {u v : Vec Ideal S1x1024x256 .bf16}
    {pa pb : Fin 2048 → Fin 256 → ℝ} {po : Fin 2048 → Fin 1024 → ℝ} {pu pv : Fin 1024 → Fin 256 → ℝ}
    (ha : ∀ z i j, a (ix3 z i j) = (pa i j : EReal)) (hb : ∀ z i j, b (ix3 z i j) = (pb i j : EReal))
    (ho : ∀ i j, o (ix2 i j) = (po i j : EReal))
    (hu : ∀ z i j, u (ix3 z i j) = (pu i j : EReal)) (hv : ∀ z i j, v (ix3 z i j) = (pv i j : EReal))
    (i : Fin 2048) (d : Fin 1024) :
    k0_pay9 a b o u v (ix2 i d) = ((po i d + (∑ f, pa i f * pu d f + ∑ f, pb i f * pv d f) : ℝ) : EReal) := by
  pointwise [k0_pay9, k0_pay6, k0_pay7]
  simp only [ha, hb, ho, hu, hv, coe_sum, EReal.coe_mul, EReal.coe_add]

/-- The gate half of a block of the up projection's gradient. -/
theorem pay11_real {a : Vec Ideal S1x2048x256 .bf16} {h : Vec Ideal S1024x2048 .bf16}
    {pa : Fin 2048 → Fin 256 → ℝ} {ph : Fin 1024 → Fin 2048 → ℝ}
    (ha : ∀ z i j, a (ix3 z i j) = (pa i j : EReal)) (hh : ∀ i j, h (ix2 i j) = (ph i j : EReal))
    (z : Fin 1) (d : Fin 1024) (f : Fin 256) :
    k0_pay11 (k0_pay10 a h) (ix3 z d f) = ((∑ s, ph d s * pa s f : ℝ) : EReal) := by
  pointwise [k0_pay11, k0_pay10, k0_pay8, k0_pay6]
  simp only [ha, hh, coe_sum, EReal.coe_mul]

/-- The value half. -/
theorem pay12_real {b : Vec Ideal S1x2048x256 .bf16} {h : Vec Ideal S1024x2048 .bf16}
    {pb : Fin 2048 → Fin 256 → ℝ} {ph : Fin 1024 → Fin 2048 → ℝ}
    (hb : ∀ z i j, b (ix3 z i j) = (pb i j : EReal)) (hh : ∀ i j, h (ix2 i j) = (ph i j : EReal))
    (z : Fin 1) (d : Fin 1024) (f : Fin 256) :
    k0_pay12 (k0_pay7 b) (k0_pay8 h) (ix3 z d f) = ((∑ s, ph d s * pb s f : ℝ) : EReal) := by
  pointwise [k0_pay12, k0_pay8, k0_pay7]
  simp only [hb, hh, coe_sum, EReal.coe_mul]

/-- A block of the down projection's gradient. -/
theorem pay13_real {x : Vec Ideal S2048x1024 .bf16} {w : Vec Ideal S2048x256 .bf16} {p : Fin 2048 → Fin 1024 → ℝ}
    {q : Fin 2048 → Fin 256 → ℝ} (hx : ∀ i j, x (ix2 i j) = (p i j : EReal)) (hw : ∀ i j, w (ix2 i j) = (q i j : EReal))
    (f : Fin 256) (d : Fin 1024) : k0_pay13 (k0_pay4 x) w (ix2 f d) = ((∑ s, q s f * p s d : ℝ) : EReal) := by
  pointwise [k0_pay13, k0_pay4]
  simp only [hx, hw, coe_sum, EReal.coe_mul]

theorem pay14_real {a : Vec Ideal S1x2048x256 .bf16} {p : Fin 2048 → Fin 256 → ℝ}
    (ha : ∀ z i j, a (ix3 z i j) = (p i j : EReal)) (i : Fin 2048) (f : Fin 256) :
    k0_pay14 a (ix2 i f) = (p i f : EReal) := by
  pointwise [k0_pay14]
  simp only [ha]

theorem pay15_real {a : Vec Ideal S1x2048x256 .bf16} {p : Fin 2048 → Fin 256 → ℝ}
    (ha : ∀ z i j, a (ix3 z i j) = (p i j : EReal)) (i : Fin 2048) (f : Fin 256) :
    k0_pay15 a (ix2 i f) = (p i f : EReal) := by
  pointwise [k0_pay15]
  simp only [ha]

theorem pay16_real {a : Vec Ideal S1x2048x256 .bf16} {p : Fin 2048 → Fin 256 → ℝ}
    (ha : ∀ z i j, a (ix3 z i j) = (p i j : EReal)) (i : Fin 2048) (f : Fin 256) :
    k0_pay16 a (ix2 i f) = ((p i f * p i f : ℝ) : EReal) := by
  pointwise [k0_pay16]
  simp only [pay15_real ha, EReal.coe_mul]

theorem pay17_real {a : Vec Ideal S1x2048x256 .bf16} {p : Fin 2048 → Fin 256 → ℝ}
    (ha : ∀ z i j, a (ix3 z i j) = (p i j : EReal)) (i : Fin 2048) (f : Fin 256) :
    k0_pay17 a (ix2 i f) = (th (p i f) : EReal) := by
  pointwise [k0_pay17]
  simp only [pay15_real ha, pay16_real ha, named_k, lit_cc, ← EReal.coe_mul, ← EReal.coe_add, Ideal.tanh_coe]
  rfl

/-- The activation of the block's gate half. -/
theorem pay18_real {a : Vec Ideal S1x2048x256 .bf16} {p : Fin 2048 → Fin 256 → ℝ}
    (ha : ∀ z i j, a (ix3 z i j) = (p i j : EReal)) (i : Fin 2048) (f : Fin 256) :
    k0_pay18 a (ix2 i f) = (gelu (p i f) : EReal) := by
  pointwise [k0_pay18]
  simp only [pay15_real ha, pay17_real ha, lit_half, ← EReal.coe_one, ← EReal.coe_mul, ← EReal.coe_add, gelu]

theorem pay19_real {a : Vec Ideal S1x2048x256 .bf16} {p : Fin 2048 → Fin 256 → ℝ}
    (ha : ∀ z i j, a (ix3 z i j) = (p i j : EReal)) (i : Fin 2048) (f : Fin 256) :
    k0_pay19 a (ix2 i f) = ((1 + th (p i f) : ℝ) : EReal) := by
  pointwise [k0_pay19]
  simp only [pay17_real ha, ← EReal.coe_one, ← EReal.coe_add]

/-- The gradient in the gate half of the convolution's result, from the gated product's. -/
theorem pay21_real {x : FVec Ideal S2048x256 .f32} {a b : Vec Ideal S1x2048x256 .bf16} {q p r : Fin 2048 → Fin 256 → ℝ}
    (hx : ∀ i j, x (ix2 i j) = (q i j : EReal))
    (ha : ∀ z i j, a (ix3 z i j) = (p i j : EReal)) (hb : ∀ z i j, b (ix3 z i j) = (r i j : EReal))
    (i : Fin 2048) (f : Fin 256) :
    k0_pay21 x (k0_pay14 b) (k0_pay15 a) (k0_pay16 a) (k0_pay17 a) (k0_pay19 a) k0_pay20 (ix2 i f)
      = ((q i f * r i f * gelu' (p i f) : ℝ) : EReal) := by
  pointwise [k0_pay21, k0_pay20]
  simp only [hx, pay14_real hb, pay15_real ha, pay16_real ha, pay17_real ha, pay19_real ha, named_k3, lit_half, ← EReal.coe_one,
    lit_cc, ← EReal.coe_mul, ← EReal.coe_add, ← EReal.coe_sub, gelu', cc]

/-- The gradient in the value half. -/
theorem pay24_real {x : FVec Ideal S2048x256 .f32} {a : Vec Ideal S1x2048x256 .bf16} {q p : Fin 2048 → Fin 256 → ℝ}
    (hx : ∀ i j, x (ix2 i j) = (q i j : EReal)) (ha : ∀ z i j, a (ix3 z i j) = (p i j : EReal))
    (i : Fin 2048) (f : Fin 256) : k0_pay24 x (k0_pay18 a) (ix2 i f) = ((q i f * gelu (p i f) : ℝ) : EReal) := by
  pointwise [k0_pay24]
  simp only [hx, pay18_real ha, ← EReal.coe_mul]

/-- A rotation by `2048 - k` masked to the rows that have a `k`-th successor is the column advanced by `k`. -/
theorem mask_rotate {x : FVec Ideal S2048x256 .f32} {p : Fin 2048 → Fin 256 → ℝ} (h : ∀ i j, x (ix2 i j) = (p i j : EReal))
    (k : ℕ) (hk : k ≤ 2048) (i : Fin 2048) (f : Fin 256) (hi : (i.val + 2048 - (2048 - k)) % 2048 < 2048) :
    Scalar.select (IntOp.cmpi .slt (BitVec.ofNat 32 i.val) (BitVec.ofNat 32 (2048 - k)))
      (x (ix2 ⟨(i.val + 2048 - (2048 - k)) % 2048, hi⟩ f)) 0 = (ahead k (fun s => p s f) i : EReal) := by
  rw [WordCmp.cmpi_slt_ofNat (by have := i.isLt; omega) (by omega), Scalar.select_decide, ahead, h]
  by_cases hc : i.val + k < 2048
  · rw [if_pos (by omega), dif_pos hc]
    congr 3
    rw [Nat.mod_eq_of_lt (by omega)]; omega
  · rw [if_neg (by omega), dif_neg hc, EReal.coe_zero]

/-- The block's gate gradient advanced by one position. -/
theorem pay22_real {v7 v42 v45 v46 v53 v60 v61 : FVec Ideal S2048x256 .f32} {p : Fin 2048 → Fin 256 → ℝ}
    (h : ∀ i j, k0_pay21 v7 v42 v45 v46 v53 v60 v61 (ix2 i j) = (p i j : EReal)) (i : Fin 2048) (f : Fin 256) :
    k0_pay22 v7 v42 v45 v46 v53 v60 v61 (ix2 i f) = (ahead 1 (fun s => p s f) i : EReal) := by
  pointwise [k0_pay22]
  exact mask_rotate h 1 (by omega) i f _

/-- The block's gate gradient advanced by two positions. -/
theorem pay23_real {v7 v42 v45 v46 v53 v60 v61 : FVec Ideal S2048x256 .f32} {p : Fin 2048 → Fin 256 → ℝ}
    (h : ∀ i j, k0_pay21 v7 v42 v45 v46 v53 v60 v61 (ix2 i j) = (p i j : EReal)) (i : Fin 2048) (f : Fin 256) :
    k0_pay23 v7 v42 v45 v46 v53 v60 v61 (ix2 i f) = (ahead 2 (fun s => p s f) i : EReal) := by
  pointwise [k0_pay23]
  exact mask_rotate h 2 (by omega) i f _

/-- The block's value gradient advanced by one position. -/
theorem pay25_real {v7 v58 : FVec Ideal S2048x256 .f32} {p : Fin 2048 → Fin 256 → ℝ}
    (h : ∀ i j, k0_pay24 v7 v58 (ix2 i j) = (p i j : EReal)) (i : Fin 2048) (f : Fin 256) :
    k0_pay25 v7 v58 (ix2 i f) = (ahead 1 (fun s => p s f) i : EReal) := by
  pointwise [k0_pay25]
  exact mask_rotate h 1 (by omega) i f _

/-- The block's value gradient advanced by two positions. -/
theorem pay26_real {v7 v58 : FVec Ideal S2048x256 .f32} {p : Fin 2048 → Fin 256 → ℝ}
    (h : ∀ i j, k0_pay24 v7 v58 (ix2 i j) = (p i j : EReal)) (i : Fin 2048) (f : Fin 256) :
    k0_pay26 v7 v58 (ix2 i f) = (ahead 2 (fun s => p s f) i : EReal) := by
  pointwise [k0_pay26]
  exact mask_rotate h 2 (by omega) i f _

/-- A block's gradients of the three taps, oldest position first. -/
theorem pay27_real {a b c : FVec Ideal S2048x256 .f32} {u : Vec Ideal S1x2048x256 .f32} {pa pb pc pu : Fin 2048 → Fin 256 → ℝ}
    (ha : ∀ i j, a (ix2 i j) = (pa i j : EReal)) (hb : ∀ i j, b (ix2 i j) = (pb i j : EReal))
    (hc : ∀ i j, c (ix2 i j) = (pc i j : EReal)) (hu : ∀ z i j, u (ix3 z i j) = (pu i j : EReal))
    (z : Fin 1) (k : Fin 3) (f : Fin 256) :
    k0_pay27 a b c u (ix3 z k f)
      = ((∑ s, (if k.val = 0 then pc s f else if k.val = 1 then pb s f else pa s f) * pu s f : ℝ) : EReal) := by
  pointwise [k0_pay27]
  simp only [ha, hb, hc, hu, ← EReal.coe_mul, ← coe_sum]
  fin_cases k <;> rfl

/-- The value half runs the gate half's operations on its own blocks: the taps' gradients, the bias's and the up
    projection's. -/
theorem pay28_eq : @k0_pay28 = @k0_pay27 := rfl
theorem pay30_eq : @k0_pay30 = @k0_pay29 := rfl
theorem pay1_pay32_eq {F : FTy → Type} [FloatOps F] (a b c : FVec F S2048x256 .f32) (u v w : Vec F S1x256 .f32) :
    k0_pay1 (k0_pay32 a b c u v w) = k0_pay31 a b c u v w := rfl

/-- A block's gradient of the bias, gate half. -/
theorem pay29_real {a : FVec Ideal S2048x256 .f32} {pa : Fin 2048 → Fin 256 → ℝ}
    (ha : ∀ i j, a (ix2 i j) = (pa i j : EReal)) (z z' : Fin 1) (f : Fin 256) :
    k0_pay29 a (ix3 z z' f) = ((∑ s, pa s f : ℝ) : EReal) := by
  pointwise [k0_pay29]
  simp only [ha, coe_sum]

/-- A block's gradient in the up projection, gate half. -/
theorem pay31_real {a b c : FVec Ideal S2048x256 .f32} {u v w : Vec Ideal S1x256 .f32} {pa pb pc : Fin 2048 → Fin 256 → ℝ}
    {pu pv pw : Fin 256 → ℝ}
    (ha : ∀ i j, a (ix2 i j) = (pa i j : EReal)) (hb : ∀ i j, b (ix2 i j) = (pb i j : EReal))
    (hc : ∀ i j, c (ix2 i j) = (pc i j : EReal)) (hu : ∀ z j, u (ix2 z j) = (pu j : EReal))
    (hv : ∀ z j, v (ix2 z j) = (pv j : EReal)) (hw : ∀ z j, w (ix2 z j) = (pw j : EReal))
    (z : Fin 1) (i : Fin 2048) (f : Fin 256) :
    k0_pay31 a b c u v w (ix3 z i f) = ((pu f * pa i f + pv f * pb i f + pw f * pc i f : ℝ) : EReal) := by
  pointwise [k0_pay31]
  simp only [ha, hb, hc, hu, hv, hw, EReal.coe_mul, EReal.coe_add]

end Cert.Ffn

end
-- ==== Proof.Host.lean ====
/- The operands of the call, as the host code prepares them from the arguments: casts, transposes and reshapes of the
   arguments, the saved up projection, the saved convolution and the saved gated product, as reals. -/
module

public import proofs.«01_k».proof.Proof.Model
public import proofs.«01_k».proof.Proof.Consts
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Ffn

open Idealize.ShloMosaic Idealize.ShloMosaic.TcCoe Idealize.SL.Sem Cert.KernelIdeal Cert.KernelIdeal.Gen

variable (m : (ℓ : Loc nD τ sig) → Buf (Elt Ideal) ℓ)

/-- The kernel's arguments on device `c` are the real arrays `a`. -/
structure Held (c : Dev nD) (a : Inp) : Prop where
  h : ∀ (i : Fin 2048) (j : Fin 1024), m (c, Proc.tc.devRef main_arg0) (ix2 i j) = ((a.h i j : ℝ) : EReal)
  wu : ∀ (i : Fin 1024) (j : Fin 6144), m (c, Proc.tc.devRef main_arg1) (ix2 i j) = ((a.wu i j : ℝ) : EReal)
  cw : ∀ (i : Fin 3) (j : Fin 6144), m (c, Proc.tc.devRef main_arg2) (ix2 i j) = ((a.cw i j : ℝ) : EReal)
  cb : ∀ (j : Fin 6144), m (c, Proc.tc.devRef main_arg3) (ix1 j) = ((a.cb j : ℝ) : EReal)
  wd : ∀ (i : Fin 3072) (j : Fin 1024), m (c, Proc.tc.devRef main_arg4) (ix2 i j) = ((a.wd i j : ℝ) : EReal)
  g : ∀ (i : Fin 2048) (j : Fin 1024), m (c, Proc.tc.devRef main_arg5) (ix2 i j) = ((a.g i j : ℝ) : EReal)

variable {m} {c : Dev nD} {a : Inp}

/-- The cotangent. -/
theorem host_g (H : Held m c a) (i : Fin 2048) (j : Fin 1024) : V m c main_v3 (ix2 i j) = ((a.g i j : ℝ) : EReal) := by
  entry_read
  pointwise
  exact H.g i j

/-- The down projection. -/
theorem host_wd (H : Held m c a) (i : Fin 3072) (j : Fin 1024) : V m c main_v2 (ix2 i j) = ((a.wd i j : ℝ) : EReal) := by
  entry_read
  pointwise
  exact H.wd i j

/-- The layer's input, transposed. -/
theorem host_h (H : Held m c a) (i : Fin 1024) (j : Fin 2048) : V m c main_v49 (ix2 i j) = ((a.h j i : ℝ) : EReal) := by
  entry_read
  pointwise
  exact H.h j i

/-- The up projection's matrix, its columns cut in four. -/
theorem host_wu (H : Held m c a) (z : Fin 4) (i : Fin 1024) (j : Fin 1536) :
    V m c main_v43 (ix3 z i j) = ((a.wu i ⟨z.val * 1536 + j.val, by omega⟩ : ℝ) : EReal) := by
  entry_read
  pointwise
  exact H.wu i _

/-- The taps. -/
theorem host_cw (H : Held m c a) (i : Fin 3) (j : Fin 6144) : V m c main_arg2 (ix2 i j) = ((a.cw i j : ℝ) : EReal) := by
  rw [V_main_arg2]
  exact H.cw i j

/-- The saved up projection, its two halves stacked. -/
theorem host_up (H : Held m c a) (z : Fin 2) (i : Fin 2048) (j : Fin 3072) :
    V m c main_v45 (ix3 z i j) = ((a.up (col z j) i : ℝ) : EReal) := by
  entry_read
  pointwise
  simp only [H.h, H.wu, ← EReal.coe_mul, ← coe_sum]
  rfl

/-- The convolution at a position whose predecessors are read as zero before the first position. -/
theorem act_eq (a : Inp) (j : Fin 6144) (i : Fin 2048) :
    a.act j i = (if h : i.val < 2 then 0 else a.up j ⟨i.val - 2, by omega⟩) * a.cw 0 j
      + (if h : 1 + i.val < 2 then 0 else a.up j ⟨1 + i.val - 2, by omega⟩) * a.cw 1 j + a.up j i * a.cw 2 j + a.cb j := by
  unfold Inp.act back
  congr 4
  · by_cases h : i.val < 2
    · rw [dif_pos h, dif_neg (by omega)]
    · rw [dif_neg h, dif_pos (by omega)]
  · by_cases h : 1 + i.val < 2
    · rw [dif_pos h, dif_neg (by omega)]
    · rw [dif_neg h, dif_pos (by omega)]
      congr 2; omega

/-- A real chosen by a condition, as an extended real. -/
theorem coe_dite (p : Prop) [Decidable p] (x : p → ℝ) (y : ¬p → ℝ) :
    ((dite p x y : ℝ) : EReal) = dite p (fun h => ((x h : ℝ) : EReal)) (fun h => ((y h : ℝ) : EReal)) := by
  split <;> rfl

/-- The same, as the host's operations spell it. -/
theorem act_coe (a : Inp) (i : Fin 2048) (j : Fin 6144) :
    (if h : i.val < 2 then 0 else ((∑ x, a.h ⟨i.val - 2, by omega⟩ x * a.wu x j : ℝ) : EReal)) * ((a.cw 0 j : ℝ) : EReal)
      + (if h : 1 + i.val < 2 then 0 else ((∑ x, a.h ⟨1 + i.val - 2, by omega⟩ x * a.wu x j : ℝ) : EReal)) * ((a.cw 1 j : ℝ) : EReal)
      + (((∑ x, a.h i x * a.wu x j) * a.cw 2 j : ℝ) : EReal) + ((a.cb j : ℝ) : EReal) = ((a.act j i : ℝ) : EReal) := by
  rw [act_eq]
  simp only [EReal.coe_add, EReal.coe_mul, coe_dite, EReal.coe_zero]
  rfl

/-- The cubic coefficient, a quotient in the host's code. -/
theorem lit_quot : Ideal.div (Ideal.ofBits .f32 0x472EAB00#32) (Ideal.ofBits .f32 0x49742400#32)
    = ((8943 / 200000 : ℝ) : EReal) := by
  rw [lit_num, lit_den, Ideal.div_coe (by norm_num), ← EReal.coe_mul]
  norm_num

/-- The saved convolution, its two halves stacked. -/
theorem host_act (H : Held m c a) (z : Fin 2) (i : Fin 2048) (j : Fin 3072) :
    V m c main_v48 (ix3 z i j) = ((a.act (col z j) i : ℝ) : EReal) := by
  entry_read
  pointwise
  simp only [H.h, H.wu, H.cw, H.cb, ← EReal.coe_mul, ← coe_sum]
  exact act_coe a i (col z j)

/-- The gated product of two reals, as the host's operations spell it. -/
theorem gated_coe {X Y : EReal} {x y : ℝ} (hX : X = (x : EReal)) (hY : Y = (y : EReal)) :
    X * (Ideal.ofBits .f32 0x3F000000#32 * (1 + Ideal.tanh (Ideal.ofBits .f32 0x3F4C422A#32
      * (X + Ideal.div (Ideal.ofBits .f32 0x472EAB00#32) (Ideal.ofBits .f32 0x49742400#32) * (X * X * X))))) * Y
      = ((gelu x * y : ℝ) : EReal) := by
  simp only [hX, hY, lit_half, lit_cc, lit_quot, ← EReal.coe_one, ← EReal.coe_mul, ← EReal.coe_add, Ideal.tanh_coe]
  congr 1
  unfold gelu th cc
  ring_nf

/-- The saved gated product. -/
theorem host_ff (H : Held m c a) (i : Fin 2048) (j : Fin 3072) :
    V m c main_v41 (ix2 i j) = ((a.ff j i : ℝ) : EReal) := by
  entry_read
  pointwise
  simp only [H.h, H.wu, H.cw, H.cb, ← EReal.coe_mul, ← coe_sum]
  exact gated_coe (act_coe a i (gcol j)) (act_coe a i (vcol j))

end Cert.Ffn

end
-- ==== Proof.Blocks.lean ====
/- What the call's windows show the body at each grid point: the operands' blocks, as reals. -/
module

public import proofs.«01_k».proof.Proof.Host
public import proofs.«01_k».proof.Proof.Gen.KernelIdeal.Value
public import Idealize.ShloMosaic.Lib.Pipeline.ValueKit

@[expose] public section

set_option maxRecDepth 16384

noncomputable section

namespace Cert.Ffn

open Idealize.ShloMosaic Idealize.ShloMosaic.TcCoe Idealize.SL.Sem Cert.KernelIdeal Cert.KernelIdeal.Gen

/-- The block a point computes: its own number, the last block again at the extra point. -/
def cur (t : Fin cfg0.N) : Fin 12 := ⟨min t.val 11, by omega⟩
/-- The block whose gradient a point multiplies out: the one before, the first at the first point. -/
def prev (t : Fin cfg0.N) : Fin 12 := ⟨t.val - 1, by have h := lt_of_lt_of_eq t.isLt (show cfg0.N = 13 from N_0); omega⟩
/-- Column `f` of block `b` of a half. -/
def bcol (b : Fin 12) (f : Fin 256) : Fin 3072 := ⟨b.val * 256 + f.val, by omega⟩

variable {m : (ℓ : Loc nD τ sig) → Buf (Elt Ideal) ℓ} {c : Dev nD} {a : Inp}

theorem blk0 (H : Held m c a) (t : Fin cfg0.N) (i : Fin 2048) (j : Fin 1024) :
    iblk m c 0 t (ix2 i j) = ((a.g i j : ℝ) : EReal) := by
  rw [← host_g H]
  have e0 : (cfg0.win 0).index t 0 = 0 := by decide +revert
  have e1 : (cfg0.win 0).index t 1 = 0 := by decide +revert
  blk_ext [iblk, e0, e1]

theorem blk1 (H : Held m c a) (t : Fin cfg0.N) (f : Fin 256) (d : Fin 1024) :
    iblk m c 1 t (ix2 f d) = ((a.wd (bcol (cur t) f) d : ℝ) : EReal) := by
  rw [← host_wd H]
  have e0 : (cfg0.win 1).index t 0 = (cur t).val := by decide +revert
  have e1 : (cfg0.win 1).index t 1 = 0 := by decide +revert
  blk_ext [iblk, e0, e1, bcol]

theorem blk2 (H : Held m c a) (t : Fin cfg0.N) (z : Fin 2) (i : Fin 2048) (f : Fin 256) :
    iblk m c 2 t (ix3 z i f) = ((a.up (col z (bcol (cur t) f)) i : ℝ) : EReal) := by
  rw [← host_up H]
  have e0 : (cfg0.win 2).index t 0 = 0 := by decide +revert
  have e1 : (cfg0.win 2).index t 1 = 0 := by decide +revert
  have e2 : (cfg0.win 2).index t 2 = (cur t).val := by decide +revert
  blk_ext [iblk, e0, e1, e2, bcol]

theorem blk3 (H : Held m c a) (t : Fin cfg0.N) (z : Fin 2) (i : Fin 2048) (f : Fin 256) :
    iblk m c 3 t (ix3 z i f) = ((a.act (col z (bcol (cur t) f)) i : ℝ) : EReal) := by
  rw [← host_act H]
  have e0 : (cfg0.win 3).index t 0 = 0 := by decide +revert
  have e1 : (cfg0.win 3).index t 1 = 0 := by decide +revert
  have e2 : (cfg0.win 3).index t 2 = (cur t).val := by decide +revert
  blk_ext [iblk, e0, e1, e2, bcol]

theorem blk4 (H : Held m c a) (t : Fin cfg0.N) (i : Fin 2048) (f : Fin 256) :
    iblk m c 4 t (ix2 i f) = ((a.ff (bcol (cur t) f) i : ℝ) : EReal) := by
  rw [← host_ff H]
  have e0 : (cfg0.win 4).index t 0 = 0 := by decide +revert
  have e1 : (cfg0.win 4).index t 1 = (cur t).val := by decide +revert
  blk_ext [iblk, e0, e1, bcol]

theorem blk5 (H : Held m c a) (t : Fin cfg0.N) (k : Fin 3) (f : Fin 256) :
    iblk m c 5 t (ix2 k f) = ((a.cw k (col 0 (bcol (cur t) f)) : ℝ) : EReal) := by
  rw [← host_cw H]
  have e0 : (cfg0.win 5).index t 0 = 0 := by decide +revert
  have e1 : (cfg0.win 5).index t 1 = (cur t).val := by decide +revert
  blk_ext [iblk, e0, e1, bcol, col]

theorem blk6 (H : Held m c a) (t : Fin cfg0.N) (k : Fin 3) (f : Fin 256) :
    iblk m c 6 t (ix2 k f) = ((a.cw k (col 1 (bcol (cur t) f)) : ℝ) : EReal) := by
  rw [← host_cw H]
  have e0 : (cfg0.win 6).index t 0 = 0 := by decide +revert
  have e1 : (cfg0.win 6).index t 1 = 12 + (cur t).val := by decide +revert
  blk_ext [iblk, e0, e1, bcol, col]

theorem blk7 (H : Held m c a) (t : Fin cfg0.N) (z : Fin 1) (d : Fin 1024) (f : Fin 256) :
    iblk m c 7 t (ix3 z d f) = ((a.wu d (col 0 (bcol (prev t) f)) : ℝ) : EReal) := by
  have hz : (prev t).val / 6 < 4 := by omega
  have e0 : (cfg0.win 7).index t 0 = (prev t).val / 6 := by decide +revert
  have e1 : (cfg0.win 7).index t 1 = 0 := by decide +revert
  have e2 : (cfg0.win 7).index t 2 = (prev t).val % 6 := by decide +revert
  rw [show col 0 (bcol (prev t) f) = ⟨(⟨(prev t).val / 6, hz⟩ : Fin 4).val * 1536 + (⟨(prev t).val % 6 * 256 + f.val, by omega⟩ : Fin 1536).val,
      by simp only []; omega⟩ from by apply Fin.ext; simp [col, bcol]; omega, ← host_wu H]
  blk_ext [iblk, e0, e1, e2]

theorem blk8 (H : Held m c a) (t : Fin cfg0.N) (z : Fin 1) (d : Fin 1024) (f : Fin 256) :
    iblk m c 8 t (ix3 z d f) = ((a.wu d (col 1 (bcol (prev t) f)) : ℝ) : EReal) := by
  have hz : (prev t).val / 6 + 2 < 4 := by omega
  have e0 : (cfg0.win 8).index t 0 = (prev t).val / 6 + 2 := by decide +revert
  have e1 : (cfg0.win 8).index t 1 = 0 := by decide +revert
  have e2 : (cfg0.win 8).index t 2 = (prev t).val % 6 := by decide +revert
  rw [show col 1 (bcol (prev t) f) = ⟨(⟨(prev t).val / 6 + 2, hz⟩ : Fin 4).val * 1536 + (⟨(prev t).val % 6 * 256 + f.val, by omega⟩ : Fin 1536).val,
      by simp only []; omega⟩ from by apply Fin.ext; simp [col, bcol]; omega, ← host_wu H]
  blk_ext [iblk, e0, e1, e2]

theorem blk9 (H : Held m c a) (t : Fin cfg0.N) (d : Fin 1024) (i : Fin 2048) :
    iblk m c 9 t (ix2 d i) = ((a.h i d : ℝ) : EReal) := by
  rw [← host_h H]
  have e0 : (cfg0.win 9).index t 0 = 0 := by decide +revert
  have e1 : (cfg0.win 9).index t 1 = 0 := by decide +revert
  blk_ext [iblk, e0, e1]

end Cert.Ffn

end
-- ==== Proof.Point.lean ====
/- One grid point's straight-line code on the blocks it is shown: the gradients in the convolution's result, advanced by
   one and two positions, as reals. -/
module

public import proofs.«01_k».proof.Proof.Payload
public import proofs.«01_k».proof.Proof.Blocks

@[expose] public section

set_option maxRecDepth 16384

noncomputable section

namespace Cert.Ffn

open Idealize.ShloMosaic Idealize.ShloMosaic.TcCoe Idealize.SL.Sem Cert.KernelIdeal Cert.KernelIdeal.Gen

variable {m : (ℓ : Loc nD τ sig) → Buf (Elt Ideal) ℓ} {c : Dev nD} {a : Inp}

/-- Half `z` of a two-half block. -/
theorem ld_half {e : EltTy} (X : Vec Ideal S2x2048x256 e) (k : ℕ) (z : Fin 2) (hk : z.val = k) (inb) (z' : Fin 1) (i : Fin 2048) (f : Fin 256) :
    View.ld X (Rect.unit ![k, 0, 0] ![1, 2048, 256] inb) (ix3 z' i f) = X (ix3 z i f) := by
  refine View.ld_unit_apply_of X _ _ inb _ _ fun b => ?_
  fin_cases b <;> simp <;> omega

/-- Row `k` of a block of taps. -/
theorem ld_tap {e : EltTy} (X : Vec Ideal S3x256 e) (k : ℕ) (z : Fin 3) (hk : z.val = k) (inb) (z' : Fin 1) (f : Fin 256) :
    View.ld X (Rect.unit ![k, 0] ![1, 256] inb) (ix2 z' f) = X (ix2 z f) := by
  refine View.ld_unit_apply_of X _ _ inb _ _ fun b => ?_
  fin_cases b <;> simp <;> omega

/-- The block of saved convolution, a half of it. -/
abbrev actHalf (m : (ℓ : Loc nD τ sig) → Buf (Elt Ideal) ℓ) (c : Dev nD) (t : Fin cfg0.N) (k : ℕ)
    (inb : ∀ b : Fin 3, (![k, 0, 0] : Fin 3 → ℕ) b + (![1, 2048, 256] : Fin 3 → ℕ) b ≤ S2x2048x256.size b) : Vec Ideal S1x2048x256 .bf16 :=
  View.ld (iblk m c 3 t) (Rect.unit ![k, 0, 0] ![1, 2048, 256] inb)

theorem act_gate (H : Held m c a) (t : Fin cfg0.N) (inb) (z : Fin 1) (i : Fin 2048) (f : Fin 256) :
    actHalf m c t 0 inb (ix3 z i f) = ((a.act (gcol (bcol (cur t) f)) i : ℝ) : EReal) := by
  rw [actHalf, ld_half _ 0 0 rfl, blk3 H, col_zero]

theorem act_val (H : Held m c a) (t : Fin cfg0.N) (inb) (z : Fin 1) (i : Fin 2048) (f : Fin 256) :
    actHalf m c t 1 inb (ix3 z i f) = ((a.act (vcol (bcol (cur t) f)) i : ℝ) : EReal) := by
  rw [actHalf, ld_half _ 1 1 rfl, blk3 H, col_one]

/-- The point's gradient in the gated product. -/
theorem df_blk (H : Held m c a) (t : Fin cfg0.N) (i : Fin 2048) (f : Fin 256) :
    k0_pay5 (iblk m c 0 t) (iblk m c 1 t) (ix2 i f) = ((a.df (bcol (cur t) f) i : ℝ) : EReal) :=
  pay5_real (blk0 H t) (blk1 H t) i f

/-- The point's gradient in the gate half of the convolution's result. -/
theorem dgate_blk (H : Held m c a) (t : Fin cfg0.N) (inb0 inb1) (i : Fin 2048) (f : Fin 256) :
    k0_pay21 (k0_pay5 (iblk m c 0 t) (iblk m c 1 t)) (k0_pay14 (actHalf m c t 1 inb1)) (k0_pay15 (actHalf m c t 0 inb0))
        (k0_pay16 (actHalf m c t 0 inb0)) (k0_pay17 (actHalf m c t 0 inb0)) (k0_pay19 (actHalf m c t 0 inb0)) k0_pay20 (ix2 i f)
      = ((a.dact (col 0 (bcol (cur t) f)) i : ℝ) : EReal) := by
  rw [pay21_real (q := fun i f => a.df (bcol (cur t) f) i) (p := fun i f => a.act (gcol (bcol (cur t) f)) i)
    (r := fun i f => a.act (vcol (bcol (cur t) f)) i) (df_blk H t) (act_gate H t inb0) (act_val H t inb1), col_zero, Inp.dact_gcol]
  rfl

/-- The point's gradient in the value half. -/
theorem dval_blk (H : Held m c a) (t : Fin cfg0.N) (inb0) (i : Fin 2048) (f : Fin 256) :
    k0_pay24 (k0_pay5 (iblk m c 0 t) (iblk m c 1 t)) (k0_pay18 (actHalf m c t 0 inb0)) (ix2 i f)
      = ((a.dact (col 1 (bcol (cur t) f)) i : ℝ) : EReal) := by
  rw [pay24_real (q := fun i f => a.df (bcol (cur t) f) i) (p := fun i f => a.act (gcol (bcol (cur t) f)) i)
    (df_blk H t) (act_gate H t inb0), col_one, Inp.dact_vcol]
  rfl

/-- The point's gradient in the up projection, gate half: what the point leaves in the first half of its scratch. -/
theorem dup_gate (H : Held m c a) (t : Fin cfg0.N) (inb0 inb1 i2 i1 i0) (z : Fin 1) (i : Fin 2048) (f : Fin 256) :
    k0_pay31
      (k0_pay21 (k0_pay5 (iblk m c 0 t) (iblk m c 1 t)) (k0_pay14 (actHalf m c t 1 inb1)) (k0_pay15 (actHalf m c t 0 inb0))
        (k0_pay16 (actHalf m c t 0 inb0)) (k0_pay17 (actHalf m c t 0 inb0)) (k0_pay19 (actHalf m c t 0 inb0)) k0_pay20)
      (k0_pay22 (k0_pay5 (iblk m c 0 t) (iblk m c 1 t)) (k0_pay14 (actHalf m c t 1 inb1)) (k0_pay15 (actHalf m c t 0 inb0))
        (k0_pay16 (actHalf m c t 0 inb0)) (k0_pay17 (actHalf m c t 0 inb0)) (k0_pay19 (actHalf m c t 0 inb0)) k0_pay20)
      (k0_pay23 (k0_pay5 (iblk m c 0 t) (iblk m c 1 t)) (k0_pay14 (actHalf m c t 1 inb1)) (k0_pay15 (actHalf m c t 0 inb0))
        (k0_pay16 (actHalf m c t 0 inb0)) (k0_pay17 (actHalf m c t 0 inb0)) (k0_pay19 (actHalf m c t 0 inb0)) k0_pay20)
      (View.ld (iblk m c 5 t) (Rect.unit ![2, 0] ![1, 256] i2)) (View.ld (iblk m c 5 t) (Rect.unit ![1, 0] ![1, 256] i1))
      (View.ld (iblk m c 5 t) (Rect.unit ![0, 0] ![1, 256] i0)) (ix3 z i f)
      = ((a.dup (col 0 (bcol (cur t) f)) i : ℝ) : EReal) := by
  have hd := dgate_blk H t inb0 inb1
  refine (pay31_real (pa := fun i f => a.dact (col 0 (bcol (cur t) f)) i)
    (pb := fun i f => ahead 1 (a.dact (col 0 (bcol (cur t) f))) i) (pc := fun i f => ahead 2 (a.dact (col 0 (bcol (cur t) f))) i)
    (pu := fun f => a.cw 2 (col 0 (bcol (cur t) f))) (pv := fun f => a.cw 1 (col 0 (bcol (cur t) f)))
    (pw := fun f => a.cw 0 (col 0 (bcol (cur t) f)))
    hd (pay22_real hd) (pay23_real hd)
    (fun z j => (ld_tap _ 2 2 rfl i2 z j).trans (blk5 H t 2 j)) (fun z j => (ld_tap _ 1 1 rfl i1 z j).trans (blk5 H t 1 j))
    (fun z j => (ld_tap _ 0 0 rfl i0 z j).trans (blk5 H t 0 j)) z i f).trans ?_
  rfl

/-- The same for the value half. -/
theorem dup_val (H : Held m c a) (t : Fin cfg0.N) (inb0 i2 i1 i0) (z : Fin 1) (i : Fin 2048) (f : Fin 256) :
    k0_pay1 (k0_pay32
      (k0_pay24 (k0_pay5 (iblk m c 0 t) (iblk m c 1 t)) (k0_pay18 (actHalf m c t 0 inb0)))
      (k0_pay25 (k0_pay5 (iblk m c 0 t) (iblk m c 1 t)) (k0_pay18 (actHalf m c t 0 inb0)))
      (k0_pay26 (k0_pay5 (iblk m c 0 t) (iblk m c 1 t)) (k0_pay18 (actHalf m c t 0 inb0)))
      (View.ld (iblk m c 6 t) (Rect.unit ![2, 0] ![1, 256] i2)) (View.ld (iblk m c 6 t) (Rect.unit ![1, 0] ![1, 256] i1))
      (View.ld (iblk m c 6 t) (Rect.unit ![0, 0] ![1, 256] i0))) (ix3 z i f)
      = ((a.dup (col 1 (bcol (cur t) f)) i : ℝ) : EReal) := by
  have hd := dval_blk H t inb0
  rw [pay1_pay32_eq]
  refine (pay31_real (pa := fun i f => a.dact (col 1 (bcol (cur t) f)) i)
    (pb := fun i f => ahead 1 (a.dact (col 1 (bcol (cur t) f))) i) (pc := fun i f => ahead 2 (a.dact (col 1 (bcol (cur t) f))) i)
    (pu := fun f => a.cw 2 (col 1 (bcol (cur t) f))) (pv := fun f => a.cw 1 (col 1 (bcol (cur t) f)))
    (pw := fun f => a.cw 0 (col 1 (bcol (cur t) f)))
    hd (pay25_real hd) (pay26_real hd)
    (fun z j => (ld_tap _ 2 2 rfl i2 z j).trans (blk6 H t 2 j)) (fun z j => (ld_tap _ 1 1 rfl i1 z j).trans (blk6 H t 1 j))
    (fun z j => (ld_tap _ 0 0 rfl i0 z j).trans (blk6 H t 0 j)) z i f).trans ?_
  rfl

/-- The point's taps' gradients, as the sums of products that the program writes: tap `k` pairs the gradient advanced by
    `2 - k` positions with the saved up projection. -/
theorem dcw_sum (b : Inp) (j : Fin 6144) (k : Fin 3) :
    (∑ s, (if k.val = 0 then ahead 2 (b.dact j) s else if k.val = 1 then ahead 1 (b.dact j) s else b.dact j s) * b.up j s) = b.dcw k j := by
  have h0 : ahead 0 (b.dact j) = b.dact j := by funext s; simp [ahead]
  fin_cases k
  · rfl
  · rfl
  · simp [Inp.dcw, h0]

/-- The point's taps' gradients, gate half. -/
theorem dcw_gate (H : Held m c a) (t : Fin cfg0.N) (inb0 inb1 i2) (z : Fin 1) (k : Fin 3) (f : Fin 256) :
    k0_pay27
      (k0_pay21 (k0_pay5 (iblk m c 0 t) (iblk m c 1 t)) (k0_pay14 (actHalf m c t 1 inb1)) (k0_pay15 (actHalf m c t 0 inb0))
        (k0_pay16 (actHalf m c t 0 inb0)) (k0_pay17 (actHalf m c t 0 inb0)) (k0_pay19 (actHalf m c t 0 inb0)) k0_pay20)
      (k0_pay22 (k0_pay5 (iblk m c 0 t) (iblk m c 1 t)) (k0_pay14 (actHalf m c t 1 inb1)) (k0_pay15 (actHalf m c t 0 inb0))
        (k0_pay16 (actHalf m c t 0 inb0)) (k0_pay17 (actHalf m c t 0 inb0)) (k0_pay19 (actHalf m c t 0 inb0)) k0_pay20)
      (k0_pay23 (k0_pay5 (iblk m c 0 t) (iblk m c 1 t)) (k0_pay14 (actHalf m c t 1 inb1)) (k0_pay15 (actHalf m c t 0 inb0))
        (k0_pay16 (actHalf m c t 0 inb0)) (k0_pay17 (actHalf m c t 0 inb0)) (k0_pay19 (actHalf m c t 0 inb0)) k0_pay20)
      (View.ld (iblk m c 2 t) (Rect.unit ![0, 0, 0] ![1, 2048, 256] i2)) (ix3 z k f)
      = ((a.dcw k (col 0 (bcol (cur t) f)) : ℝ) : EReal) := by
  have hd := dgate_blk H t inb0 inb1
  refine (pay27_real (pa := fun i f => a.dact (col 0 (bcol (cur t) f)) i)
    (pb := fun i f => ahead 1 (a.dact (col 0 (bcol (cur t) f))) i) (pc := fun i f => ahead 2 (a.dact (col 0 (bcol (cur t) f))) i)
    (pu := fun i f => a.up (col 0 (bcol (cur t) f)) i)
    hd (pay22_real hd) (pay23_real hd) (fun z i f => (ld_half _ 0 0 rfl i2 z i f).trans (blk2 H t 0 i f)) z k f).trans ?_
  rw [← dcw_sum]

/-- The point's taps' gradients, value half. -/
theorem dcw_val (H : Held m c a) (t : Fin cfg0.N) (inb0 i2) (z : Fin 1) (k : Fin 3) (f : Fin 256) :
    k0_pay28
      (k0_pay24 (k0_pay5 (iblk m c 0 t) (iblk m c 1 t)) (k0_pay18 (actHalf m c t 0 inb0)))
      (k0_pay25 (k0_pay5 (iblk m c 0 t) (iblk m c 1 t)) (k0_pay18 (actHalf m c t 0 inb0)))
      (k0_pay26 (k0_pay5 (iblk m c 0 t) (iblk m c 1 t)) (k0_pay18 (actHalf m c t 0 inb0)))
      (View.ld (iblk m c 2 t) (Rect.unit ![1, 0, 0] ![1, 2048, 256] i2)) (ix3 z k f)
      = ((a.dcw k (col 1 (bcol (cur t) f)) : ℝ) : EReal) := by
  have hd := dval_blk H t inb0
  rw [pay28_eq]
  refine (pay27_real (pa := fun i f => a.dact (col 1 (bcol (cur t) f)) i)
    (pb := fun i f => ahead 1 (a.dact (col 1 (bcol (cur t) f))) i) (pc := fun i f => ahead 2 (a.dact (col 1 (bcol (cur t) f))) i)
    (pu := fun i f => a.up (col 1 (bcol (cur t) f)) i)
    hd (pay25_real hd) (pay26_real hd) (fun z i f => (ld_half _ 1 1 rfl i2 z i f).trans (blk2 H t 1 i f)) z k f).trans ?_
  rw [← dcw_sum]

/-- The point's gradient of the bias, gate half. -/
theorem dcb_gate (H : Held m c a) (t : Fin cfg0.N) (inb0 inb1) (z z' : Fin 1) (f : Fin 256) :
    k0_pay29
      (k0_pay21 (k0_pay5 (iblk m c 0 t) (iblk m c 1 t)) (k0_pay14 (actHalf m c t 1 inb1)) (k0_pay15 (actHalf m c t 0 inb0))
        (k0_pay16 (actHalf m c t 0 inb0)) (k0_pay17 (actHalf m c t 0 inb0)) (k0_pay19 (actHalf m c t 0 inb0)) k0_pay20) (ix3 z z' f)
      = ((a.dcb (col 0 (bcol (cur t) f)) : ℝ) : EReal) :=
  pay29_real (pa := fun i f => a.dact (col 0 (bcol (cur t) f)) i) (dgate_blk H t inb0 inb1) z z' f

/-- The point's gradient of the bias, value half. -/
theorem dcb_val (H : Held m c a) (t : Fin cfg0.N) (inb0) (z z' : Fin 1) (f : Fin 256) :
    k0_pay30 (k0_pay24 (k0_pay5 (iblk m c 0 t) (iblk m c 1 t)) (k0_pay18 (actHalf m c t 0 inb0))) (ix3 z z' f)
      = ((a.dcb (col 1 (bcol (cur t) f)) : ℝ) : EReal) := by
  rw [pay30_eq]
  exact pay29_real (pa := fun i f => a.dact (col 1 (bcol (cur t) f)) i) (dval_blk H t inb0) z z' f

end Cert.Ffn

end
-- ==== Proof.Halves.lean ====
/- Two stores that fill the two halves of a buffer, read back: whatever was stored before them. -/
module

public import Idealize.ShloMosaic.Lib.Pipeline.ValueKit
public import Idealize.ShloMosaic.Lib.Pipeline.ReadBack
public import Idealize.ShloMosaic.Lib.Pointwise

@[expose] public section

noncomputable section

namespace Cert.Ffn

open Idealize.ShloMosaic

/-- Reading at half `z`: the second half's store where `z` is one, else the first half's. -/
theorem canon_halves {Val : EltTy → Type} [∀ e, Nonempty (Val e)] {e : EltTy} {n k : ℕ}
    (p1 p0 : (⟨3, ![1, n, k]⟩ : Shape).Idx → Val e) (L : List (View.Piece Val ⟨3, ![2, n, k]⟩ e)) (inb1 inb0)
    (z : Fin 2) (i : Fin n) (f : Fin k) {v : Val e} (h1 : z = 1 → p1 (ix3 0 i f) = v) (h0 : z = 0 → p0 (ix3 0 i f) = v) :
    View.canon ((⟨Rect.unit (s := ⟨3, ![2, n, k]⟩) ![1, 0, 0] ![1, n, k] inb1, p1⟩ : View.Piece Val ⟨3, ![2, n, k]⟩ e)
      :: (⟨Rect.unit (s := ⟨3, ![2, n, k]⟩) ![0, 0, 0] ![1, n, k] inb0, p0⟩ : View.Piece Val ⟨3, ![2, n, k]⟩ e) :: L) (ix3 z i f) = v := by
  by_cases hz : z = 1
  · rw [← h1 hz]
    have hi : ix3 z i f = (Rect.unit (s := ⟨3, ![2, n, k]⟩) ![1, 0, 0] ![1, n, k] inb1).emb (ix3 (0 : Fin 1) i f) := by
      subst hz
      refine (funext fun b => Fin.ext ((Rect.idx_unit_val _ _ inb1 (ix3 (0 : Fin 1) i f) b).trans ?_)).symm
      fin_cases b <;> simp
    rw [hi, View.canon_cons_emb]
  · have hz0 : z = 0 := by omega
    rw [← h0 hz0]
    have hi : ix3 z i f = (Rect.unit (s := ⟨3, ![2, n, k]⟩) ![0, 0, 0] ![1, n, k] inb0).emb (ix3 (0 : Fin 1) i f) := by
      subst hz0
      refine (funext fun b => Fin.ext ((Rect.idx_unit_val _ _ inb0 (ix3 (0 : Fin 1) i f) b).trans ?_)).symm
      fin_cases b <;> simp
    rw [View.canon_cons_of_not_mem, hi, View.canon_cons_emb]
    rw [Rect.mem_set_unit]
    intro h
    have := (h 0).1
    subst hz0
    simp at this

end Cert.Ffn

end
-- ==== Proof.State.lean ====
/- What each grid point leaves in the output windows and in the scratch: the down projection's gradient, the taps' and the
   bias's of the point's own block, and the up projection's gradient and the addition to the input's from the block that the
   point before left in the scratch. -/
module

public import proofs.«01_k».proof.Proof.Point
public import proofs.«01_k».proof.Proof.Halves

@[expose] public section

set_option maxRecDepth 16384

noncomputable section

namespace Cert.Ffn

open Idealize.ShloMosaic Idealize.ShloMosaic.TcCoe Idealize.SL.Sem Cert.KernelIdeal Cert.KernelIdeal.Gen

variable {m : (ℓ : Loc nD τ sig) → Buf (Elt Ideal) ℓ} {c : Dev nD} {a : Inp}

/-- An index of a buffer of one half is given by its two later coordinates. -/
theorem half_idx {n k : ℕ} (x : (⟨3, ![1, n, k]⟩ : Shape).Idx) (i : Fin n) (f : Fin k) (h1 : i.val = (x 1).val) (h2 : f.val = (x 2).val) :
    x = ix3 (0 : Fin 1) i f := by
  funext b
  fin_cases b
  · exact Fin.ext (by have := (x 0).isLt; simp at this ⊢)
  · exact Fin.ext h1.symm
  · exact Fin.ext h2.symm

/-- The scratch after a point: the point's block of the gradient in the up projection, both halves. -/
theorem scr_at (H : Held m c a) (t : Fin cfg0.N) (z : Fin 2) (i : Fin 2048) (f : Fin 256) :
    (outsAt0 m c t.val t.isLt).2.2.2.2.2 (ix3 z i f) = ((a.dup (col z (bcol (cur t) f)) i : ℝ) : EReal) := by
  by_cases h0 : t.val % 13 = 0
  · rw [outsAt0_A m c t h0]
    frame_out
    refine canon_halves _ _ _ _ _ z i f (fun hz => ?_) (fun hz => ?_) <;> rw [hz]
    · exact dup_val H t _ _ _ _ 0 i f
    · exact dup_gate H t _ _ _ _ _ 0 i f
  · rw [outsAt0_B m c t h0]
    frame_out
    refine canon_halves _ _ _ _ _ z i f (fun hz => ?_) (fun hz => ?_) <;> rw [hz]
    · exact dup_val H t _ _ _ _ 0 i f
    · exact dup_gate H t _ _ _ _ _ 0 i f

/-- The down projection's gradient after a point. -/
theorem dwd_at (H : Held m c a) (t : Fin cfg0.N) (f : Fin 256) (d : Fin 1024) :
    (outsAt0 m c t.val t.isLt).2.2.1 (ix2 f d) = ((a.dwd (bcol (cur t) f) d : ℝ) : EReal) := by
  have e : (outsAt0 m c t.val t.isLt).2.2.1 = k0_pay13 (k0_pay4 (iblk m c 0 t)) (iblk m c 4 t) := by
    by_cases h0 : t.val % 13 = 0
    · rw [outsAt0_A m c t h0]
      frame_out
      rfl
    · rw [outsAt0_B m c t h0]
      frame_out
      rfl
  rw [e]
  exact pay13_real (q := fun s f => a.ff (bcol (cur t) f) s) (blk0 H t) (blk4 H t) f d

/-- The taps' gradients after a point. -/
theorem dcw_at (H : Held m c a) (t : Fin cfg0.N) (z : Fin 2) (k : Fin 3) (f : Fin 256) :
    (outsAt0 m c t.val t.isLt).2.2.2.1 (ix3 z k f) = ((a.dcw k (col z (bcol (cur t) f)) : ℝ) : EReal) := by
  by_cases h0 : t.val % 13 = 0
  · rw [outsAt0_A m c t h0]
    frame_open
    rw [View.read_writes_junk_eq_canon]
    canon_tiles x h
    · rw [half_idx x k f h1 h2, show z = 1 by simp at *; omega]
      refine Eq.trans (b := k0_pay28 (k0_pay24 _ _) (k0_pay25 _ _) (k0_pay26 _ _) _ _) (by exact rfl) ?_
      simp (disch := decide) only [View.readAt_eq_ld, Memref.IsWhole.read_unread, View.ld_unit_lit']
      exact dcw_val H t _ _ 0 k f
    · rw [half_idx x k f h1 h2, show z = 0 by simp at *; omega]
      refine Eq.trans (b := k0_pay27 (k0_pay21 _ _ _ _ _ _ _) (k0_pay22 _ _ _ _ _ _ _) (k0_pay23 _ _ _ _ _ _ _) _ _) (by exact rfl) ?_
      simp (disch := decide) only [View.readAt_eq_ld, Memref.IsWhole.read_unread, View.ld_unit_lit']
      exact dcw_gate H t _ _ _ 0 k f
  · rw [outsAt0_B m c t h0]
    frame_open
    rw [View.read_writes_junk_eq_canon]
    canon_tiles x h
    · rw [half_idx x k f h1 h2, show z = 1 by simp at *; omega]
      refine Eq.trans (b := k0_pay28 (k0_pay24 _ _) (k0_pay25 _ _) (k0_pay26 _ _) _ _) (by exact rfl) ?_
      simp (disch := decide) only [View.readAt_eq_ld, Memref.IsWhole.read_unread, View.ld_unit_lit']
      exact dcw_val H t _ _ 0 k f
    · rw [half_idx x k f h1 h2, show z = 0 by simp at *; omega]
      refine Eq.trans (b := k0_pay27 (k0_pay21 _ _ _ _ _ _ _) (k0_pay22 _ _ _ _ _ _ _) (k0_pay23 _ _ _ _ _ _ _) _ _) (by exact rfl) ?_
      simp (disch := decide) only [View.readAt_eq_ld, Memref.IsWhole.read_unread, View.ld_unit_lit']
      exact dcw_gate H t _ _ _ 0 k f

/-- The bias's gradient after a point. -/
theorem dcb_at (H : Held m c a) (t : Fin cfg0.N) (z : Fin 2) (z' : Fin 1) (f : Fin 256) :
    (outsAt0 m c t.val t.isLt).2.2.2.2.1 (ix3 z z' f) = ((a.dcb (col z (bcol (cur t) f)) : ℝ) : EReal) := by
  by_cases h0 : t.val % 13 = 0
  · rw [outsAt0_A m c t h0]
    frame_open
    rw [View.read_writes_junk_eq_canon]
    canon_tiles x h
    · rw [half_idx x z' f h1 h2, show z = 1 by simp at *; omega]
      refine Eq.trans (b := k0_pay30 (k0_pay24 _ _) _) (by exact rfl) ?_
      simp (disch := decide) only [View.readAt_eq_ld, Memref.IsWhole.read_unread, View.ld_unit_lit']
      exact dcb_val H t _ 0 z' f
    · rw [half_idx x z' f h1 h2, show z = 0 by simp at *; omega]
      refine Eq.trans (b := k0_pay29 (k0_pay21 _ _ _ _ _ _ _) _) (by exact rfl) ?_
      simp (disch := decide) only [View.readAt_eq_ld, Memref.IsWhole.read_unread, View.ld_unit_lit']
      exact dcb_gate H t _ _ 0 z' f
  · rw [outsAt0_B m c t h0]
    frame_open
    rw [View.read_writes_junk_eq_canon]
    canon_tiles x h
    · rw [half_idx x z' f h1 h2, show z = 1 by simp at *; omega]
      refine Eq.trans (b := k0_pay30 (k0_pay24 _ _) _) (by exact rfl) ?_
      simp (disch := decide) only [View.readAt_eq_ld, Memref.IsWhole.read_unread, View.ld_unit_lit']
      exact dcb_val H t _ 0 z' f
    · rw [half_idx x z' f h1 h2, show z = 0 by simp at *; omega]
      refine Eq.trans (b := k0_pay29 (k0_pay21 _ _ _ _ _ _ _) _) (by exact rfl) ?_
      simp (disch := decide) only [View.readAt_eq_ld, Memref.IsWhole.read_unread, View.ld_unit_lit']
      exact dcb_gate H t _ _ 0 z' f

end Cert.Ffn

end
-- ==== Proof.Carry.lean ====
/- What a grid point makes of the block that the point before left in the scratch: its block of the up projection's gradient
   and its addition to the gradient in the input. -/
module

public import proofs.«01_k».proof.Proof.State

@[expose] public section

set_option maxRecDepth 16384

noncomputable section

namespace Cert.Ffn

open Idealize.ShloMosaic Idealize.ShloMosaic.TcCoe Idealize.SL.Sem Cert.KernelIdeal Cert.KernelIdeal.Gen

variable {m : (ℓ : Loc nD τ sig) → Buf (Elt Ideal) ℓ} {c : Dev nD} {a : Inp}

/-- The scratch that a later point finds: the previous block's gradient in the up projection. -/
theorem scr_before (H : Held m c a) (t : Fin cfg0.N) (h0 : ¬t.val % 13 = 0) (z : Fin 2) (i : Fin 2048) (f : Fin 256) :
    (outsAt0 m c (t.val - 1) (Nat.lt_of_le_of_lt (Nat.sub_le _ _) t.isLt)).2.2.2.2.2 (ix3 z i f)
      = ((a.dup (col z (bcol (prev t) f)) i : ℝ) : EReal) := by
  have hc : cur ⟨t.val - 1, Nat.lt_of_le_of_lt (Nat.sub_le _ _) t.isLt⟩ = prev t := by
    have := lt_of_lt_of_eq t.isLt (show cfg0.N = 13 from N_0)
    apply Fin.ext
    simp only [cur, prev]
    omega
  rw [← hc]
  exact scr_at H ⟨t.val - 1, _⟩ z i f

/-- One block's addition to the gradient in the input. -/
def dhBlk (a : Inp) (b : Fin 12) (s : Fin 2048) (d : Fin 1024) : ℝ :=
  ∑ f : Fin 256, a.dup (col 0 (bcol b f)) s * a.wu d (col 0 (bcol b f))
    + ∑ f : Fin 256, a.dup (col 1 (bcol b f)) s * a.wu d (col 1 (bcol b f))

/-- The gradient in the input after a later point: the previous block's addition to what the point before left. -/
theorem dh_next (H : Held m c a) (t : Fin cfg0.N) (h0 : ¬t.val % 13 = 0) {p : Fin 2048 → Fin 1024 → ℝ}
    (hp : ∀ i d, (outsAt0 m c (t.val - 1) (Nat.lt_of_le_of_lt (Nat.sub_le _ _) t.isLt)).1 (ix2 i d) = ((p i d : ℝ) : EReal))
    (i : Fin 2048) (d : Fin 1024) :
    (outsAt0 m c t.val t.isLt).1 (ix2 i d) = ((p i d + dhBlk a (prev t) i d : ℝ) : EReal) := by
  have hs := scr_before H t h0
  rw [outsAt0_B m c t h0]
  frame_out
  simp only [read_unread_whole]
  generalize (outsAt0 m c (t.val - 1) (Nat.lt_of_le_of_lt (Nat.sub_le _ _) t.isLt)) = o at hs hp ⊢
  obtain ⟨o1, o2, o3, o4, o5, o6⟩ := o
  dsimp only at hs hp ⊢
  have h7 := blk7 H t
  have h8 := blk8 H t
  generalize iblk m c 7 t = x7 at h7 ⊢
  generalize iblk m c 8 t = x8 at h8 ⊢
  exact pay9_real (pa := fun i f => a.dup (col 0 (bcol (prev t) f)) i) (pb := fun i f => a.dup (col 1 (bcol (prev t) f)) i)
    (pu := fun d f => a.wu d (col 0 (bcol (prev t) f))) (pv := fun d f => a.wu d (col 1 (bcol (prev t) f)))
    (fun z i f => (ld_half o6 0 0 rfl _ z i f).trans (hs 0 i f)) (fun z i f => (ld_half o6 1 1 rfl _ z i f).trans (hs 1 i f))
    hp h7 h8 i d

/-- A zero scratch adds nothing to a zero gradient. -/
theorem dh_zero {Z : Vec Ideal S2x2048x256 .bf16} {O : Vec Ideal S2048x1024 .f32} {u v : Vec Ideal S1x1024x256 .bf16} {pu pv : Fin 1024 → Fin 256 → ℝ}
    (hz : ∀ z i f, Z (ix3 z i f) = ((0 : ℝ) : EReal)) (ho : ∀ i d, O (ix2 i d) = ((0 : ℝ) : EReal))
    (hu : ∀ z i j, u (ix3 z i j) = (pu i j : EReal)) (hv : ∀ z i j, v (ix3 z i j) = (pv i j : EReal)) (inb0 inb1)
    (i : Fin 2048) (d : Fin 1024) :
    k0_pay9 (View.ld Z (Rect.unit ![0, 0, 0] ![1, 2048, 256] inb0)) (View.ld Z (Rect.unit ![1, 0, 0] ![1, 2048, 256] inb1)) O u v (ix2 i d)
      = ((0 : ℝ) : EReal) := by
  refine (pay9_real (pa := fun _ _ => 0) (pb := fun _ _ => 0) (po := fun _ _ => 0)
    (fun z i f => (ld_half Z 0 0 rfl inb0 z i f).trans (hz 0 i f)) (fun z i f => (ld_half Z 1 1 rfl inb1 z i f).trans (hz 1 i f))
    ho hu hv i d).trans ?_
  simp

/-- The zero block that the first point stores into the scratch. -/
theorem fill_scr (z : Fin 2) (i : Fin 2048) (f : Fin 256) : k0_pay2 (F := Ideal) (ix3 z i f) = ((0 : ℝ) : EReal) := by
  pointwise [k0_pay2]
  rfl

/-- The zero block that it stores into the gradient in the input. -/
theorem fill_dh (i : Fin 2048) (d : Fin 1024) : k0_pay3 (F := Ideal) (ix2 i d) = ((0 : ℝ) : EReal) := by
  pointwise [k0_pay3]
  rfl

/-- After the first point it is zero: the scratch that the point multiplies out is zero. -/
theorem dh_first (H : Held m c a) (t : Fin cfg0.N) (h0 : t.val % 13 = 0) (i : Fin 2048) (d : Fin 1024) :
    (outsAt0 m c t.val t.isLt).1 (ix2 i d) = ((0 : ℝ) : EReal) := by
  rw [outsAt0_A m c t h0]
  frame_out
  simp (disch := decide) only [↓ View.readCov_skip, ↓ View.readCov_cons_toLoadRect, ↓ View.readCov_fill]
  have h7 := blk7 H t
  have h8 := blk8 H t
  generalize iblk m c 7 t = x7 at h7 ⊢
  generalize iblk m c 8 t = x8 at h8 ⊢
  exact dh_zero (pu := fun d f => a.wu d (col 0 (bcol (prev t) f))) (pv := fun d f => a.wu d (col 1 (bcol (prev t) f)))
    fill_scr fill_dh h7 h8 inb_S2x2048x256_S1x2048x256_0_0_0 inb_S2x2048x256_S1x2048x256_1_0_0 i d

/-- The up projection's gradient after a later point: the previous block's. -/
theorem dwu_at (H : Held m c a) (t : Fin cfg0.N) (h0 : ¬t.val % 13 = 0) (z : Fin 2) (d : Fin 1024) (f : Fin 256) :
    (outsAt0 m c t.val t.isLt).2.1 (ix3 z d f) = ((a.dwu d (col z (bcol (prev t) f)) : ℝ) : EReal) := by
  have hs := scr_before H t h0
  have h9 := blk9 H t
  rw [outsAt0_B m c t h0]
  frame_out
  simp only [read_unread_whole]
  generalize (outsAt0 m c (t.val - 1) (Nat.lt_of_le_of_lt (Nat.sub_le _ _) t.isLt)) = o at hs ⊢
  obtain ⟨o1, o2, o3, o4, o5, o6⟩ := o
  dsimp only at hs ⊢
  generalize iblk m c 9 t = x9 at h9 ⊢
  refine canon_halves _ _ _ _ _ z d f (fun hz => ?_) (fun hz => ?_) <;> rw [hz]
  · exact pay12_real (pb := fun i f => a.dup (col 1 (bcol (prev t) f)) i)
      (fun z i f => (ld_half o6 1 1 rfl _ z i f).trans (hs 1 i f)) h9 0 d f
  · exact pay11_real (pa := fun i f => a.dup (col 0 (bcol (prev t) f)) i)
      (fun z i f => (ld_half o6 0 0 rfl _ z i f).trans (hs 0 i f)) h9 0 d f

end Cert.Ffn

end
-- ==== Proof.Arrays.lean ====
/- The five arrays that the call leaves: the gradients of the layer, over the reals. -/
module

public import proofs.«01_k».proof.Proof.Carry

@[expose] public section

set_option maxRecDepth 16384

noncomputable section

namespace Cert.Ffn

open Idealize.ShloMosaic Idealize.ShloMosaic.TcCoe Idealize.SL.Sem Cert.KernelIdeal Cert.KernelIdeal.Gen

variable {m : (ℓ : Loc nD τ sig) → Buf (Elt Ideal) ℓ} {c : Dev nD} {a : Inp}

/-- A sum over the 6144 columns, half by half and block by block. -/
theorem sum_cols (q : Fin 6144 → ℝ) :
    ∑ j, q j = ∑ b : Fin 12, (∑ f : Fin 256, q (col 0 (bcol b f)) + ∑ f : Fin 256, q (col 1 (bcol b f))) := by
  have hb : ∀ r : Fin 3072 → ℝ, ∑ f, r f = ∑ b : Fin 12, ∑ f : Fin 256, r (bcol b f) := fun r => by
    rw [← Fintype.sum_prod_type']
    refine (Fintype.sum_equiv (finProdFinEquiv (m := 12) (n := 256)) _ r fun x => ?_).symm
    congr 1
    apply Fin.ext
    simp only [bcol, finProdFinEquiv_apply_val]
    omega
  have hz : ∑ j, q j = ∑ z : Fin 2, ∑ f : Fin 3072, q (col z f) := by
    rw [← Fintype.sum_prod_type']
    refine (Fintype.sum_equiv (finProdFinEquiv (m := 2) (n := 3072)) _ q fun x => ?_).symm
    congr 1
    apply Fin.ext
    simp only [col, finProdFinEquiv_apply_val]
    omega
  rw [hz, Fin.sum_univ_two, hb, hb, Finset.sum_add_distrib]

/-- The gradient in the input is the sum of the blocks' additions. -/
theorem dh_blocks (s : Fin 2048) (d : Fin 1024) : a.dh s d = ∑ b : Fin 12, dhBlk a b s d :=
  sum_cols fun j => a.dup j s * a.wu d j

/-- The gradient in the input after point `n`: the additions of the first `n` blocks. -/
theorem dh_upto (H : Held m c a) (n : ℕ) (hn : n < cfg0.N) (i : Fin 2048) (d : Fin 1024) :
    (outsAt0 m c n hn).1 (ix2 i d)
      = ((∑ b ∈ Finset.range n, dhBlk a ⟨min b 11, by omega⟩ i d : ℝ) : EReal) := by
  induction n generalizing i d with
  | zero => exact (dh_first H ⟨0, hn⟩ (Nat.zero_mod 13) i d).trans (by simp)
  | succ n ih =>
    have hlt := lt_of_lt_of_eq hn (show cfg0.N = 13 from N_0)
    refine (dh_next H ⟨n + 1, hn⟩ (by show ¬(n + 1) % 13 = 0; omega) (fun i d => ih (by omega) i d) i d).trans ?_
    rw [Finset.sum_range_succ]
    congr 4
    apply Fin.ext
    simp only [prev]
    omega

/-- After the last point it is the whole gradient. -/
theorem dh_last (H : Held m c a) (h : 12 < cfg0.N) (i : Fin 2048) (d : Fin 1024) :
    (outsAt0 m c 12 h).1 (ix2 i d) = ((a.dh i d : ℝ) : EReal) := by
  rw [dh_upto H 12 h, Finset.sum_range, dh_blocks]
  congr 2
  funext b
  congr 1
  apply Fin.ext
  simp only []
  omega

/-- The first array: the gradient in the input. -/
theorem arr_dh (H : Held m c a) : (dats m 0 c).arrAt 10 cfg0.N = fun x => ((a.dh (x 0) (x 1) : ℝ) : EReal) := by
  refine (dats m 0 c).arrAt_eq_of_after_last 10 (⟨12, by decide⟩ : Fin grid0.N) (by decide +kernel) _ fun j => ?_
  blk_simp
  refine (congrFun (after0_10 m c (⟨12, by decide⟩ : Fin cfg0.N)) _).trans ?_
  have hj : (fun b => ⟨(j b).val, (j b).isLt⟩ : (cfg0.win 10).shape.Idx) = ix2 (j 0) (j 1) := by
    funext b
    fin_cases b <;> rfl
  exact (congrArg _ hj).trans (dh_last H (by decide) (j 0) (j 1))

/-- A gradient at equal coordinates. -/
theorem coe_congr2 {n k : ℕ} (p : Fin n → Fin k → ℝ) {i i' : Fin n} {j j' : Fin k} (hi : i.val = i'.val) (hj : j.val = j'.val) :
    ((p i j : ℝ) : EReal) = ((p i' j' : ℝ) : EReal) := by
  rw [Fin.ext hi, Fin.ext hj]

/-- The second array: the gradient in the up projection's matrix, in its two halves. -/
theorem arr_dwu (H : Held m c a) :
    (dats m 0 c).arrAt 11 cfg0.N = fun x => ((a.dwu (x 1) (col (x 0) (x 2)) : ℝ) : EReal) := by
  refine (dats m 0 c).arrAt_eq_of_covers 11 _ (by decide +kernel) fun t hf y => ?_
  have h0 : ¬t.val % 13 = 0 := by revert hf; decide +revert
  have e0 : (cfg0.win 11).index t 0 = 0 := by decide +revert
  have e1 : (cfg0.win 11).index t 1 = 0 := by decide +revert
  have e2 : (cfg0.win 11).index t 2 = (prev t).val := by decide +revert
  have x0 : (((cfg0.win 11).blk t).view.emb y 0).val = (y 0).val := by blk_simp [e0]
  have x1 : (((cfg0.win 11).blk t).view.emb y 1).val = (y 1).val := by blk_simp [e1]
  have x2 : (((cfg0.win 11).blk t).view.emb y 2).val = (prev t).val * 256 + (y 2).val := by blk_simp [e2]
  blk_simp
  rw [after0_11]
  have hy : y = ix3 (y 0) (y 1) (y 2) := by funext b; fin_cases b <;> rfl
  refine (congrArg _ hy).trans ((dwu_at H t h0 (y 0) (y 1) (y 2)).trans (coe_congr2 a.dwu x1.symm ?_))
  simp only [col, bcol]
  rw [← x2, ← x0]

/-- The third array: the gradient in the down projection's matrix. -/
theorem arr_dwd (H : Held m c a) : (dats m 0 c).arrAt 12 cfg0.N = fun x => ((a.dwd (x 0) (x 1) : ℝ) : EReal) := by
  refine (dats m 0 c).arrAt_eq_of_covers 12 _ (by decide +kernel) fun t hf y => ?_
  have e0 : (cfg0.win 12).index t 0 = (cur t).val := by decide +revert
  have e1 : (cfg0.win 12).index t 1 = 0 := by decide +revert
  have x0 : (((cfg0.win 12).blk t).view.emb y 0).val = (cur t).val * 256 + (y 0).val := by blk_simp [e0]
  have x1 : (((cfg0.win 12).blk t).view.emb y 1).val = (y 1).val := by blk_simp [e1]
  blk_simp
  rw [after0_12]
  have hy : y = ix2 (y 0) (y 1) := by funext b; fin_cases b <;> rfl
  refine (congrArg _ hy).trans ((dwd_at H t (y 0) (y 1)).trans (coe_congr2 a.dwd ?_ x1.symm))
  simp only [bcol]
  rw [← x0]

/-- The fourth array: the gradients in the taps, in two halves. -/
theorem arr_dcw (H : Held m c a) : (dats m 0 c).arrAt 13 cfg0.N = fun x => ((a.dcw (x 1) (col (x 0) (x 2)) : ℝ) : EReal) := by
  refine (dats m 0 c).arrAt_eq_of_covers 13 _ (by decide +kernel) fun t hf y => ?_
  have e0 : (cfg0.win 13).index t 0 = 0 := by decide +revert
  have e1 : (cfg0.win 13).index t 1 = 0 := by decide +revert
  have e2 : (cfg0.win 13).index t 2 = (cur t).val := by decide +revert
  have x0 : (((cfg0.win 13).blk t).view.emb y 0).val = (y 0).val := by blk_simp [e0]
  have x1 : (((cfg0.win 13).blk t).view.emb y 1).val = (y 1).val := by blk_simp [e1]
  have x2 : (((cfg0.win 13).blk t).view.emb y 2).val = (cur t).val * 256 + (y 2).val := by blk_simp [e2]
  blk_simp
  rw [after0_13]
  have hy : y = ix3 (y 0) (y 1) (y 2) := by funext b; fin_cases b <;> rfl
  refine (congrArg _ hy).trans ((dcw_at H t (y 0) (y 1) (y 2)).trans (coe_congr2 a.dcw x1.symm ?_))
  simp only [col, bcol]
  rw [← x2, ← x0]

/-- The fifth array: the gradient in the bias, in two halves. -/
theorem arr_dcb (H : Held m c a) : (dats m 0 c).arrAt 14 cfg0.N = fun x => ((a.dcb (col (x 0) (x 2)) : ℝ) : EReal) := by
  refine (dats m 0 c).arrAt_eq_of_covers 14 _ (by decide +kernel) fun t hf y => ?_
  have e0 : (cfg0.win 14).index t 0 = 0 := by decide +revert
  have e1 : (cfg0.win 14).index t 1 = 0 := by decide +revert
  have e2 : (cfg0.win 14).index t 2 = (cur t).val := by decide +revert
  have x0 : (((cfg0.win 14).blk t).view.emb y 0).val = (y 0).val := by blk_simp [e0]
  have x1 : (((cfg0.win 14).blk t).view.emb y 1).val = (y 1).val := by blk_simp [e1]
  have x2 : (((cfg0.win 14).blk t).view.emb y 2).val = (cur t).val * 256 + (y 2).val := by blk_simp [e2]
  blk_simp
  rw [after0_14]
  have hy : y = ix3 (y 0) (y 1) (y 2) := by funext b; fin_cases b <;> rfl
  refine (congrArg _ hy).trans ((dcb_at H t (y 0) (y 1) (y 2)).trans
    (coe_congr2 (fun _ : Fin 1 => a.dcb) (i := 0) (i' := 0) rfl ?_))
  simp only [col, bcol]
  rw [← x2, ← x0]

end Cert.Ffn

end
-- ==== Proof.RefAct.lean ====
/- The reference's forward pass as reals: the up projection, its delayed columns, the convolution and the gated product. -/
module

public import proofs.«01_k».proof.Proof.Host
public import proofs.«01_k».proof.Proof.Gen.ReferenceIdeal.Read

@[expose] public section

set_option maxRecDepth 16384

noncomputable section

namespace Cert.Ffn

open Idealize.ShloMosaic Idealize.ShloMosaic.TcCoe Idealize.SL.Sem Cert.ReferenceIdeal Cert.ReferenceIdeal.Gen Cert.ReferenceIdeal.Read

/-- The reference's arguments are the real arrays `a`. -/
structure Given (x0 : FVec Ideal S2048x1024 .f32) (x1 : FVec Ideal S1024x6144 .f32) (x2 : FVec Ideal S3x6144 .f32)
    (x3 : FVec Ideal S6144 .f32) (x4 : FVec Ideal S3072x1024 .f32) (x5 : FVec Ideal S2048x1024 .f32) (a : Inp) : Prop where
  h : ∀ i j, x0 (ix2 i j) = ((a.h i j : ℝ) : EReal)
  wu : ∀ i j, x1 (ix2 i j) = ((a.wu i j : ℝ) : EReal)
  cw : ∀ i j, x2 (ix2 i j) = ((a.cw i j : ℝ) : EReal)
  cb : ∀ j, x3 (ix1 j) = ((a.cb j : ℝ) : EReal)
  wd : ∀ i j, x4 (ix2 i j) = ((a.wd i j : ℝ) : EReal)
  g : ∀ i j, x5 (ix2 i j) = ((a.g i j : ℝ) : EReal)

variable {x0 : FVec Ideal S2048x1024 .f32} {x1 : FVec Ideal S1024x6144 .f32} {x2 : FVec Ideal S3x6144 .f32}
  {x3 : FVec Ideal S6144 .f32} {x4 : FVec Ideal S3072x1024 .f32} {x5 : FVec Ideal S2048x1024 .f32} {a : Inp}

/-- The up projection. -/
theorem ref_up (H : Given x0 x1 x2 x3 x4 x5 a) (s : Fin 2048) (j : Fin 6144) :
    val_main_v0 (F := Ideal) x0 x1 (ix2 s j) = ((a.up j s : ℝ) : EReal) := by
  pointwise [val_main_v0]
  simp only [H.h, H.wu, ← EReal.coe_mul, ← coe_sum]
  rfl

/-- The columns delayed by two, by one and not at all. -/
theorem ref_back2 (H : Given x0 x1 x2 x3 x4 x5 a) (s : Fin 2048) (j : Fin 6144) :
    val_main_v4 (F := Ideal) x0 x1 (ix2 s j) = ((back 2 (a.up j) s : ℝ) : EReal) := by
  pointwise [val_main_v4, val_main_v2, val_main_v1, val_main_cst]
  simp only [ref_up H]
  unfold back
  by_cases h : s.val < 2
  · rw [dif_pos h, dif_neg (by omega)]
    rfl
  · rw [dif_neg h, dif_pos (by omega)]

theorem ref_back1 (H : Given x0 x1 x2 x3 x4 x5 a) (s : Fin 2048) (j : Fin 6144) :
    val_main_v8 (F := Ideal) x0 x1 (ix2 s j) = ((back 1 (a.up j) s : ℝ) : EReal) := by
  pointwise [val_main_v8, val_main_v2, val_main_v1, val_main_cst]
  simp only [ref_up H]
  unfold back
  by_cases h : 1 + s.val < 2
  · rw [dif_pos h, dif_neg (by omega)]
    rfl
  · rw [dif_neg h, dif_pos (by omega)]
    congr 3
    omega

theorem ref_back0 (H : Given x0 x1 x2 x3 x4 x5 a) (s : Fin 2048) (j : Fin 6144) :
    val_main_v13 (F := Ideal) x0 x1 (ix2 s j) = ((a.up j s : ℝ) : EReal) := by
  pointwise [val_main_v13, val_main_v2, val_main_v1, val_main_cst]
  exact ref_up H s j

/-- The convolution. -/
theorem ref_act (H : Given x0 x1 x2 x3 x4 x5 a) (s : Fin 2048) (j : Fin 6144) :
    val_main_v20 (F := Ideal) x0 x1 x2 x3 (ix2 s j) = ((a.act j s : ℝ) : EReal) := by
  pointwise [val_main_v20, val_main_v19, val_main_v18, val_main_v17, val_main_v16, val_main_v15, val_main_v14, val_main_v12,
    val_main_v11, val_main_v10, val_main_v9, val_main_v7, val_main_v6, val_main_v5]
  simp only [ref_back0 H, ref_back1 H, ref_back2 H, H.cw, H.cb, ← EReal.coe_mul, ← EReal.coe_add]
  rfl

/-- Its two halves. -/
theorem ref_gate (H : Given x0 x1 x2 x3 x4 x5 a) (s : Fin 2048) (f : Fin 3072) :
    val_main_v21 (F := Ideal) x0 x1 x2 x3 (ix2 s f) = ((a.act (gcol f) s : ℝ) : EReal) := by
  pointwise [val_main_v21]
  exact ref_act H s (gcol f)

theorem ref_val (H : Given x0 x1 x2 x3 x4 x5 a) (s : Fin 2048) (f : Fin 3072) :
    val_main_v22 (F := Ideal) x0 x1 x2 x3 (ix2 s f) = ((a.act (vcol f) s : ℝ) : EReal) := by
  pointwise [val_main_v22]
  exact ref_act H s (vcol f)

/-- The tangent of the gate. -/
theorem ref_th (H : Given x0 x1 x2 x3 x4 x5 a) (s : Fin 2048) (f : Fin 3072) :
    val_main_v34 (F := Ideal) x0 x1 x2 x3 (ix2 s f) = ((th (a.act (gcol f) s) : ℝ) : EReal) := by
  pointwise [val_main_v34, val_main_v33, val_main_v32, val_main_v31, val_main_v30, val_main_v29, val_main_v25, val_main_v24,
    val_main_v23, val_main_cst_1, val_main_cst_2, val_main_cst_4]
  simp only [ref_gate H, lit_cc, lit_quot, ← EReal.coe_mul, ← EReal.coe_add]
  rw [Ideal.tanh_coe]
  congr 1
  unfold th cc
  ring_nf

/-- The gated product. -/
theorem ref_ff (H : Given x0 x1 x2 x3 x4 x5 a) (s : Fin 2048) (f : Fin 3072) :
    val_main_v45 (F := Ideal) x0 x1 x2 x3 (ix2 s f) = ((a.ff f s : ℝ) : EReal) := by
  pointwise [val_main_v45, val_main_v44, val_main_v43, val_main_v42, val_main_v41, val_main_v40, val_main_cst_7, val_main_cst_8]
  simp only [ref_gate H, ref_val H, ref_th H, lit_half, ← EReal.coe_one, ← EReal.coe_mul, ← EReal.coe_add]
  congr 1
  unfold Inp.ff gelu
  ring

end Cert.Ffn

end
-- ==== Proof.RefGrad.lean ====
/- The reference's backward pass as reals: each of its five results is the gradient of the real layer. -/
module

public import proofs.«01_k».proof.Proof.RefAct

@[expose] public section

set_option maxRecDepth 16384

noncomputable section

namespace Cert.Ffn

open Idealize.ShloMosaic Idealize.ShloMosaic.TcCoe Idealize.SL.Sem Cert.ReferenceIdeal Cert.ReferenceIdeal.Gen Cert.ReferenceIdeal.Read

variable {x0 : FVec Ideal S2048x1024 .f32} {x1 : FVec Ideal S1024x6144 .f32} {x2 : FVec Ideal S3x6144 .f32}
  {x3 : FVec Ideal S6144 .f32} {x4 : FVec Ideal S3072x1024 .f32} {x5 : FVec Ideal S2048x1024 .f32} {a : Inp}

/-- The gradient in the gated product. -/
theorem ref_df (H : Given x0 x1 x2 x3 x4 x5 a) (s : Fin 2048) (f : Fin 3072) :
    val_main_v49 (F := Ideal) x4 x5 (ix2 s f) = ((a.df f s : ℝ) : EReal) := by
  pointwise [val_main_v49]
  simp only [H.g, H.wd, ← EReal.coe_mul, ← coe_sum]
  rfl

/-- The gradient in the value half of the convolution. -/
theorem ref_dval (H : Given x0 x1 x2 x3 x4 x5 a) (s : Fin 2048) (f : Fin 3072) :
    val_main_v50 (F := Ideal) x0 x1 x2 x3 x4 x5 (ix2 s f) = ((a.dval f s : ℝ) : EReal) := by
  pointwise [val_main_v50, val_main_v44, val_main_v43, val_main_v42, val_main_v41, val_main_v40, val_main_cst_7, val_main_cst_8]
  simp only [ref_gate H, ref_df H, ref_th H, lit_half, ← EReal.coe_one, ← EReal.coe_mul, ← EReal.coe_add]
  congr 1
  unfold Inp.dval gelu
  ring

/-- The gradient in the gate half: the derivative of the gelu's formula, term by term, is the closed form. -/
theorem ref_dgate (H : Given x0 x1 x2 x3 x4 x5 a) (s : Fin 2048) (f : Fin 3072) :
    val_main_v63 (F := Ideal) x0 x1 x2 x3 x4 x5 (ix2 s f) = ((a.dgate f s : ℝ) : EReal) := by
  pointwise [val_main_v63, val_main_v62, val_main_v61, val_main_v60, val_main_v59, val_main_v58, val_main_v57, val_main_v56,
    val_main_v55, val_main_v54, val_main_v53, val_main_v52, val_main_v51, val_main_v43, val_main_v42, val_main_v41, val_main_v40,
    val_main_v39, val_main_v38, val_main_v37, val_main_v36, val_main_v35, val_main_v28, val_main_v27, val_main_v26, val_main_v23,
    val_main_cst_1, val_main_cst_2, val_main_cst_3, val_main_cst_5, val_main_cst_6, val_main_cst_7, val_main_cst_8,
    val_main_cst_9, val_main_cst_10]
  simp only [ref_gate H, ref_val H, ref_df H, ref_th H, lit_half, lit_cc, lit_quot, lit_three, ← EReal.coe_one, ← EReal.coe_mul,
    ← EReal.coe_add, ← EReal.coe_sub]
  congr 1
  unfold Inp.dgate gelu' cc
  ring

/-- The gradient in the convolution, both halves. -/
theorem ref_dact (H : Given x0 x1 x2 x3 x4 x5 a) (s : Fin 2048) (j : Fin 6144) :
    val_main_v64 (F := Ideal) x0 x1 x2 x3 x4 x5 (ix2 s j) = ((a.dact j s : ℝ) : EReal) := by
  pointwise [val_main_v64]
  simp only [ref_dgate H, ref_dval H]
  unfold Inp.dact
  by_cases h : j.val < 3072
  · rw [dif_pos h, dif_pos h]
  · rw [dif_neg h, dif_neg h]

/-- The gradient in the up projection. -/
theorem ref_dup (H : Given x0 x1 x2 x3 x4 x5 a) (s : Fin 2048) (j : Fin 6144) :
    val_main_v94 (F := Ideal) x0 x1 x2 x3 x4 x5 (ix2 s j) = ((a.dup j s : ℝ) : EReal) := by
  pointwise [val_main_v94, val_main_v92, val_main_v91, val_main_v88, val_main_v87, val_main_v83, val_main_v82, val_main_v79,
    val_main_v78, val_main_v74, val_main_v72, val_main_v71, val_main_v14, val_main_v9, val_main_v5,
    val_main_cst_15, val_main_cst_18, val_main_cst_21]
  simp only [ref_dact H, H.cw]
  unfold Inp.dup
  rw [EReal.coe_add, EReal.coe_add]
  refine congrArg₂ _ (congrArg₂ _ ?_ ?_) ?_
  · rw [← EReal.coe_mul, mul_comm]
  · unfold ahead
    by_cases h : s.val + 1 < 2048
    · rw [dif_pos (by omega), dif_pos h, ← EReal.coe_mul, mul_comm]
      congr 4
      omega
    · rw [dif_neg (by omega), dif_neg h, mul_zero]
      rfl
  · unfold ahead
    by_cases h : s.val + 2 < 2048
    · rw [dif_pos (by omega), dif_pos h, ← EReal.coe_mul, mul_comm]
      congr 4
      omega
    · rw [dif_neg (by omega), dif_neg h, mul_zero]
      rfl

/-- The gradient in a tap, the delayed columns in place of the advanced ones. -/
theorem dcw_back (n : ℕ) (j : Fin 6144) :
    ∑ i, ahead n (a.dact j) i * a.up j i = ∑ i, back n (a.up j) i * a.dact j i := by
  rw [sum_ahead_mul]
  exact Finset.sum_congr rfl fun i _ => mul_comm _ _

theorem dcw_zero (j : Fin 6144) : a.dcw 0 j = ∑ i, back 2 (a.up j) i * a.dact j i := dcw_back 2 j

theorem dcw_one (j : Fin 6144) : a.dcw 1 j = ∑ i, back 1 (a.up j) i * a.dact j i := dcw_back 1 j

theorem dcw_two (j : Fin 6144) : a.dcw 2 j = ∑ i, a.up j i * a.dact j i :=
  (dcw_back 0 j).trans (Finset.sum_congr rfl fun i _ => by simp [back])

/-- The taps' gradients. -/
theorem ref_dcw (H : Given x0 x1 x2 x3 x4 x5 a) (z : Fin 2) (k : Fin 3) (f : Fin 3072) :
    val_main_v103 (F := Ideal) x0 x1 x2 x3 x4 x5 (ix3 z k f) = ((a.dcw k (col z f) : ℝ) : EReal) := by
  pointwise [val_main_v103, val_main_v102, val_main_v90, val_main_v89, val_main_v86, val_main_v85, val_main_v84, val_main_v81,
    val_main_v80, val_main_v77, val_main_v76, val_main_v75, val_main_v73, val_main_v70, val_main_v69, val_main_v68,
    val_main_cst_13, val_main_cst_14, val_main_cst_16, val_main_cst_17, val_main_cst_19, val_main_cst_20]
  simp only [ref_dact H, ref_back0 H, ref_back1 H, ref_back2 H, ← EReal.coe_mul, ← coe_sum]
  have hj : z.val * 3072 + f.val < 6144 := by omega
  simp only [show ∀ h, (⟨z.val * 3072 + f.val, h⟩ : Fin 6144) = col z f from fun _ => rfl]
  have zl : ∀ x : EReal, 0 + x = x := zero_add
  have zr : ∀ x : EReal, x + 0 = x := add_zero
  obtain rfl | rfl | rfl : k = 0 ∨ k = 1 ∨ k = 2 := by decide +revert
  · rw [dif_neg (by simp), dif_neg (by simp), dif_pos ⟨by simp, hj⟩, dcw_zero]
    simp only [zl, zr]
  · rw [dif_neg (by simp), dif_pos ⟨by simp, hj⟩, dif_neg (by simp), dcw_one]
    simp only [zl, zr]
  · rw [dif_pos ⟨by simp, hj⟩, dif_neg (by simp), dif_neg (by simp), dcw_two]
    simp only [zl, zr]

/-- The bias's gradient. -/
theorem ref_dcb (H : Given x0 x1 x2 x3 x4 x5 a) (z : Fin 2) (z' : Fin 1) (f : Fin 3072) :
    val_main_v104 (F := Ideal) x0 x1 x2 x3 x4 x5 (ix3 z z' f) = ((a.dcb (col z f) : ℝ) : EReal) := by
  pointwise [val_main_v104, val_main_v67, val_main_v66, val_main_v65, val_main_cst_11, val_main_cst_12]
  simp only [ref_dact H, ← EReal.coe_mul, ← coe_sum]
  rw [Fin.sum_univ_one]
  rfl

/-- The gradient in the input. -/
theorem ref_dh (H : Given x0 x1 x2 x3 x4 x5 a) (s : Fin 2048) (d : Fin 1024) :
    val_main_v97 (F := Ideal) x0 x1 x2 x3 x4 x5 (ix2 s d) = ((a.dh s d : ℝ) : EReal) := by
  pointwise [val_main_v97]
  simp only [ref_dup H, H.wu, ← EReal.coe_mul, ← coe_sum]
  rfl

/-- The up projection's gradient. -/
theorem ref_dwu (H : Given x0 x1 x2 x3 x4 x5 a) (z : Fin 2) (d : Fin 1024) (f : Fin 3072) :
    val_main_v100 (F := Ideal) x0 x1 x2 x3 x4 x5 (ix3 z d f) = ((a.dwu d (col z f) : ℝ) : EReal) := by
  pointwise [val_main_v100, val_main_v99, val_main_v98, val_main_v96, val_main_v95]
  simp only [ref_dup H, H.h, ← EReal.coe_mul, ← coe_sum]
  exact congrArg _ (Finset.sum_congr rfl fun i _ => mul_comm _ _)

/-- The down projection's gradient. -/
theorem ref_dwd (H : Given x0 x1 x2 x3 x4 x5 a) (f : Fin 3072) (d : Fin 1024) :
    val_main_v101 (F := Ideal) x0 x1 x2 x3 x5 (ix2 f d) = ((a.dwd f d : ℝ) : EReal) := by
  pointwise [val_main_v101, val_main_v48, val_main_v47]
  simp only [ref_ff H, H.g, ← EReal.coe_mul, ← coe_sum]
  exact congrArg _ (Finset.sum_congr rfl fun i _ => mul_comm _ _)

end Cert.Ffn

end
-- ==== Proof.Equal.lean ====
/- The two programs' results, array by array: both are the gradients of the real layer. -/
module

public import proofs.«01_k».proof.Proof.Arrays
public import proofs.«01_k».proof.Proof.RefGrad

@[expose] public section

set_option maxRecDepth 16384

noncomputable section

namespace Cert.Ffn

open Idealize.ShloMosaic Idealize.ShloMosaic.TcCoe Idealize.SL.Sem

variable {x0 : FVec Ideal Cert.ReferenceIdeal.S2048x1024 .f32} {x1 : FVec Ideal Cert.ReferenceIdeal.S1024x6144 .f32}
  {x2 : FVec Ideal Cert.ReferenceIdeal.S3x6144 .f32} {x3 : FVec Ideal Cert.ReferenceIdeal.S6144 .f32}
  {x4 : FVec Ideal Cert.ReferenceIdeal.S3072x1024 .f32} {x5 : FVec Ideal Cert.ReferenceIdeal.S2048x1024 .f32} {a : Inp}

/-- An index of a matrix is its two coordinates. -/
theorem idx2 {n k : ℕ} (x : (⟨2, ![n, k]⟩ : Shape).Idx) : x = ix2 (x 0 : Fin n) (x 1 : Fin k) := by
  funext b
  fin_cases b <;> rfl

/-- An index of a stack of matrices is its three coordinates. -/
theorem idx3 {l n k : ℕ} (x : (⟨3, ![l, n, k]⟩ : Shape).Idx) : x = ix3 (x 0 : Fin l) (x 1 : Fin n) (x 2 : Fin k) := by
  funext b
  fin_cases b <;> rfl

/-- The reference's gradient in the input. -/
theorem ref_arr_dh (H : Given x0 x1 x2 x3 x4 x5 a) :
    Cert.ReferenceIdeal.Read.val_main_v97 (F := Ideal) x0 x1 x2 x3 x4 x5 = fun x => ((a.dh (x 0) (x 1) : ℝ) : EReal) :=
  funext fun x => (congrArg _ (idx2 x)).trans (ref_dh H (x 0) (x 1))

/-- Its gradient in the up projection's matrix. -/
theorem ref_arr_dwu (H : Given x0 x1 x2 x3 x4 x5 a) :
    Cert.ReferenceIdeal.Read.val_main_v100 (F := Ideal) x0 x1 x2 x3 x4 x5
      = fun x => ((a.dwu (x 1) (col (x 0) (x 2)) : ℝ) : EReal) :=
  funext fun x => (congrArg _ (idx3 x)).trans (ref_dwu H (x 0) (x 1) (x 2))

/-- Its gradient in the down projection's matrix. -/
theorem ref_arr_dwd (H : Given x0 x1 x2 x3 x4 x5 a) :
    Cert.ReferenceIdeal.Read.val_main_v101 (F := Ideal) x0 x1 x2 x3 x5 = fun x => ((a.dwd (x 0) (x 1) : ℝ) : EReal) :=
  funext fun x => (congrArg _ (idx2 x)).trans (ref_dwd H (x 0) (x 1))

/-- Its gradients in the taps. -/
theorem ref_arr_dcw (H : Given x0 x1 x2 x3 x4 x5 a) :
    Cert.ReferenceIdeal.Read.val_main_v103 (F := Ideal) x0 x1 x2 x3 x4 x5
      = fun x => ((a.dcw (x 1) (col (x 0) (x 2)) : ℝ) : EReal) :=
  funext fun x => (congrArg _ (idx3 x)).trans (ref_dcw H (x 0) (x 1) (x 2))

/-- Its gradient in the bias. -/
theorem ref_arr_dcb (H : Given x0 x1 x2 x3 x4 x5 a) :
    Cert.ReferenceIdeal.Read.val_main_v104 (F := Ideal) x0 x1 x2 x3 x4 x5
      = fun x => ((a.dcb (col (x 0) (x 2)) : ℝ) : EReal) :=
  funext fun x => (congrArg _ (idx3 x)).trans (ref_dcb H (x 0) (x 1) (x 2))

end Cert.Ffn

end
-- ==== Proof.Finite.lean ====
/- The precondition read back: every element of every argument is a real number. -/
module

public import proofs.«01_k».proof.Proof.Model
public import proofs.«01_k».proof.Proof.Gen.Pre_finite
public import Idealize.ShloMosaic.Lib.ReduceAll
public import Idealize.ShloMosaic.Lib.Pointwise
public import Idealize.ShloMosaic.PureOps.Ideal.Laws

@[expose] public section

noncomputable section

namespace Cert.Ffn

open Idealize.ShloMosaic Cert.Pre_finite Cert.Pre_finite.Gen

/-- The bound that the precondition compares with is infinity. -/
theorem lit_inf : Ideal.ofBits .f32 0x7F800000#32 = ⊤ := by
  simp [Ideal.ofBits, Ideal.ieee]

/-- An extended real of magnitude below infinity is a real. -/
theorem real_of_abs {x : EReal} (h : max x (-x) < ⊤) : ∃ r : ℝ, x = (r : EReal) := by
  induction x using EReal.rec with
  | bot => exact absurd h (by simp)
  | coe r => exact ⟨r, rfl⟩
  | top => exact absurd h (by simp)

/-- An array whose every element passes the test holds reals. -/
theorem reals_of_all {s : Shape} {axes : List (Fin s.rank)} (x : FVec Ideal s .f32) (hb : S_.BroadcastsInDim s (![] : Fin 0 → Fin s.rank))
    (hr : s.ReducesTo axes S_) (j : S_.Idx)
    (h : Host.reduce IntOp.andi (cmpf .olt (Host.absf x) (broadcastInDim s ![] hb (constant S_ .f32 0x7F800000#32)))
      (constantI S_ 1 1#1) hr h_S_ j = 1#1) (i : s.Idx) : ∃ r : ℝ, x i = (r : EReal) := by
  have : Subsingleton S_.Idx := ⟨fun a b => funext fun k => k.elim0⟩
  have hi := Host.reduce_andi_all _ _ _ _ _ h i
  revert hi
  pointwise
  rw [lit_inf, Ideal.absf_def]
  intro hi
  refine real_of_abs ?_
  by_contra hn
  rw [decide_eq_false hn] at hi
  exact absurd hi (by decide)

/-- The precondition gives real arrays that the arguments hold. -/
theorem reals_of_finite {x0 : FVec Ideal S2048x1024 .f32} {x1 : FVec Ideal S1024x6144 .f32} {x2 : FVec Ideal S3x6144 .f32}
    {x3 : FVec Ideal S6144 .f32} {x4 : FVec Ideal S3072x1024 .f32} {x5 : FVec Ideal S2048x1024 .f32}
    (h : Cert.Pre_finite.fn (F := Ideal) x0 x1 x2 x3 x4 x5 = fun _ => 1#1) :
    ∃ a : Inp, (∀ i j, x0 (ix2 i j) = ((a.h i j : ℝ) : EReal)) ∧ (∀ i j, x1 (ix2 i j) = ((a.wu i j : ℝ) : EReal))
      ∧ (∀ i j, x2 (ix2 i j) = ((a.cw i j : ℝ) : EReal)) ∧ (∀ j, x3 (ix1 j) = ((a.cb j : ℝ) : EReal))
      ∧ (∀ i j, x4 (ix2 i j) = ((a.wd i j : ℝ) : EReal)) ∧ ∀ i j, x5 (ix2 i j) = ((a.g i j : ℝ) : EReal) := by
  have h0 := congrFun h (Shape.Idx.first h_S_)
  simp only [fn, fn_part1, andi, IntOp.andi_eq_one] at h0
  obtain ⟨⟨⟨⟨⟨t0, t1⟩, t2⟩, t3⟩, t4⟩, t5⟩ := h0
  choose a0 e0 using reals_of_all x0 _ _ _ t0
  choose a1 e1 using reals_of_all x1 _ _ _ t1
  choose a2 e2 using reals_of_all x2 _ _ _ t2
  choose a3 e3 using reals_of_all x3 _ _ _ t3
  choose a4 e4 using reals_of_all x4 _ _ _ t4
  choose a5 e5 using reals_of_all x5 _ _ _ t5
  exact ⟨⟨fun i j => a0 (ix2 i j), fun i j => a1 (ix2 i j), fun i j => a2 (ix2 i j), fun j => a3 (ix1 j),
      fun i j => a4 (ix2 i j), fun i j => a5 (ix2 i j)⟩,
    fun _ _ => e0 _, fun _ _ => e1 _, fun _ _ => e2 _, fun _ => e3 _, fun _ _ => e4 _, fun _ _ => e5 _⟩

end Cert.Ffn

end
-- ==== Proof.UpPoint.lean ====
/- The layer's forward call — the up projection, its causal convolution and the gated product — over the extended reals: the
   formulas, the operands, and what the body computes at one grid point. -/
module

public import proofs.«01_k».proof.Proof.Model
public import proofs.«01_k».proof.Proof.Consts
public import proofs.«01_k».proof.Proof.Gen.UpKernelIdeal.Frame
public import Idealize.ShloMosaic.Lib.Pipeline.ValueKit
public import Idealize.ShloMosaic.Lib.Pointwise
public import Idealize.ShloMosaic.Lib.WordCmp

@[expose] public section

set_option maxRecDepth 16384

noncomputable section

namespace Cert.UpFwd

open Idealize.ShloMosaic Idealize.ShloMosaic.TcCoe Idealize.SL.Sem Cert.UpKernelIdeal Cert.UpKernelIdeal.Gen
open Cert.Ffn (col)

/-! ## The formulas -/

/-- A column of positions delayed by `k`: position `s` reads `s - k`, and zero before the first position. -/
def back (k : ℕ) (p : Fin 2048 → EReal) (s : Fin 2048) : EReal :=
  if h : k ≤ s.val then p ⟨s.val - k, by omega⟩ else 0

/-- The causal convolution of a column with three taps and a bias. -/
def conv (p : Fin 2048 → EReal) (w0 w1 w2 b : EReal) (s : Fin 2048) : EReal :=
  w2 * p s + w1 * back 1 p s + w0 * back 2 p s + b

/-- The activation of the gate, with the tangent's argument `√(2/π) · (x + 0.044715 · x³)`. -/
def act (x : EReal) : EReal :=
  Ideal.ofBits .f32 0x3F000000#32 * x * (1 + Ideal.tanh (Ideal.ofBits .f32 0x3F4C422A#32
    * (x + ((8943 / 200000 : ℝ) : EReal) * x * x * x)))

/-- The up projection at column `j` and position `s`. -/
def up (x : FVec Ideal S2048x1024 .f32) (w : FVec Ideal S1024x6144 .f32) (j : Fin 6144) (s : Fin 2048) : EReal :=
  ∑ d : Fin 1024, x (ix2 s d) * w (ix2 d j)

/-- Its convolution. -/
def cv (x : FVec Ideal S2048x1024 .f32) (w : FVec Ideal S1024x6144 .f32) (u : FVec Ideal S3x6144 .f32) (b : FVec Ideal S6144 .f32)
    (j : Fin 6144) (s : Fin 2048) : EReal :=
  conv (up x w j) (u (ix2 0 j)) (u (ix2 1 j)) (u (ix2 2 j)) (b (ix1 j)) s

/-- The gated product. -/
def ff (x : FVec Ideal S2048x1024 .f32) (w : FVec Ideal S1024x6144 .f32) (u : FVec Ideal S3x6144 .f32) (b : FVec Ideal S6144 .f32)
    (f : Fin 3072) (s : Fin 2048) : EReal :=
  act (cv x w u b (col 0 f) s) * cv x w u b (col 1 f) s

/-! ## The operands -/

variable (m : (ℓ : Loc nD τ sig) → Buf (Elt Ideal) ℓ) (c : Dev nD)

/-- The arguments on a device: the layer's input, the matrix, the taps and the bias. -/
abbrev inp : FVec Ideal S2048x1024 .f32 := m (c, Proc.tc.devRef main_arg0)
abbrev mat : FVec Ideal S1024x6144 .f32 := m (c, Proc.tc.devRef main_arg1)
abbrev taps : FVec Ideal S3x6144 .f32 := m (c, Proc.tc.devRef main_arg2)
abbrev bias : FVec Ideal S6144 .f32 := m (c, Proc.tc.devRef main_arg3)

/-- The input. -/
theorem host_inp (i : Fin 2048) (j : Fin 1024) : V m c main_v0 (ix2 i j) = inp m c (ix2 i j) := by
  entry_read
  pointwise

/-- The matrix, its columns cut in four. -/
theorem host_mat (z : Fin 4) (i : Fin 1024) (j : Fin 1536) :
    V m c main_v3 (ix3 z i j) = mat m c (ix2 i ⟨z.val * 1536 + j.val, by omega⟩) := by
  entry_read
  pointwise

/-- The bias as a row. -/
theorem host_bias (i : Fin 1) (j : Fin 6144) : V m c main_v4 (ix2 i j) = bias m c (ix1 j) := by
  entry_read
  pointwise

/-- The grid's point as the number of its block of 256 columns, one block of each half. -/
def num (t : Fin cfg0.N) : Fin 12 := ⟨t.val, lt_of_lt_of_eq t.isLt (show cfg0.N = 12 from N_0)⟩
/-- Column `f` of block `b` of half `z`. -/
def bcol (z : Fin 2) (b : Fin 12) (f : Fin 256) : Fin 6144 := col z ⟨b.val * 256 + f.val, by omega⟩

/-- The windows at a point: the input whole, and the point's block of each half of the matrix, the taps and the bias. -/
theorem blk0 (t : Fin cfg0.N) (i : Fin 2048) (j : Fin 1024) : iblk m c 0 t (ix2 i j) = inp m c (ix2 i j) := by
  rw [← host_inp]
  have e0 : (cfg0.win 0).index t 0 = 0 := by decide +revert
  have e1 : (cfg0.win 0).index t 1 = 0 := by decide +revert
  blk_ext [iblk, e0, e1]

theorem blk1 (t : Fin cfg0.N) (z : Fin 1) (d : Fin 1024) (f : Fin 256) :
    iblk m c 1 t (ix3 z d f) = mat m c (ix2 d (bcol 0 (num t) f)) := by
  have hz : (num t).val / 6 < 4 := by omega
  have e0 : (cfg0.win 1).index t 0 = (num t).val / 6 := by decide +revert
  have e1 : (cfg0.win 1).index t 1 = 0 := by decide +revert
  have e2 : (cfg0.win 1).index t 2 = (num t).val % 6 := by decide +revert
  rw [show bcol 0 (num t) f = ⟨(⟨(num t).val / 6, hz⟩ : Fin 4).val * 1536 + (⟨(num t).val % 6 * 256 + f.val, by omega⟩ : Fin 1536).val,
      by simp only []; omega⟩ from by apply Fin.ext; simp [col, bcol]; omega, ← host_mat]
  blk_ext [iblk, e0, e1, e2]

theorem blk2 (t : Fin cfg0.N) (z : Fin 1) (d : Fin 1024) (f : Fin 256) :
    iblk m c 2 t (ix3 z d f) = mat m c (ix2 d (bcol 1 (num t) f)) := by
  have hz : (num t).val / 6 + 2 < 4 := by omega
  have e0 : (cfg0.win 2).index t 0 = (num t).val / 6 + 2 := by decide +revert
  have e1 : (cfg0.win 2).index t 1 = 0 := by decide +revert
  have e2 : (cfg0.win 2).index t 2 = (num t).val % 6 := by decide +revert
  rw [show bcol 1 (num t) f = ⟨(⟨(num t).val / 6 + 2, hz⟩ : Fin 4).val * 1536 + (⟨(num t).val % 6 * 256 + f.val, by omega⟩ : Fin 1536).val,
      by simp only []; omega⟩ from by apply Fin.ext; simp [col, bcol]; omega, ← host_mat]
  blk_ext [iblk, e0, e1, e2]

theorem blk3 (t : Fin cfg0.N) (k : Fin 3) (f : Fin 256) : iblk m c 3 t (ix2 k f) = taps m c (ix2 k (bcol 0 (num t) f)) := by
  rw [taps, ← V_main_arg2 m c]
  have e0 : (cfg0.win 3).index t 0 = 0 := by decide +revert
  have e1 : (cfg0.win 3).index t 1 = t.val := by decide +revert
  blk_ext [iblk, e0, e1, bcol, num, col]

theorem blk4 (t : Fin cfg0.N) (k : Fin 3) (f : Fin 256) : iblk m c 4 t (ix2 k f) = taps m c (ix2 k (bcol 1 (num t) f)) := by
  rw [taps, ← V_main_arg2 m c]
  have e0 : (cfg0.win 4).index t 0 = 0 := by decide +revert
  have e1 : (cfg0.win 4).index t 1 = 12 + t.val := by decide +revert
  blk_ext [iblk, e0, e1, bcol, num, col]

theorem blk5 (t : Fin cfg0.N) (k : Fin 1) (f : Fin 256) : iblk m c 5 t (ix2 k f) = bias m c (ix1 (bcol 0 (num t) f)) := by
  rw [← host_bias m c k]
  have e0 : (cfg0.win 5).index t 0 = 0 := by decide +revert
  have e1 : (cfg0.win 5).index t 1 = t.val := by decide +revert
  blk_ext [iblk, e0, e1, bcol, num, col]

theorem blk6 (t : Fin cfg0.N) (k : Fin 1) (f : Fin 256) : iblk m c 6 t (ix2 k f) = bias m c (ix1 (bcol 1 (num t) f)) := by
  rw [← host_bias m c k]
  have e0 : (cfg0.win 6).index t 0 = 0 := by decide +revert
  have e1 : (cfg0.win 6).index t 1 = 12 + t.val := by decide +revert
  blk_ext [iblk, e0, e1, bcol, num, col]

/-! ## The body -/

/-- The projection of the gate's block and the value's. -/
theorem pay_gate {x : Vec Ideal S2048x1024 .bf16} {w : Vec Ideal S1x1024x256 .bf16} (i : Fin 2048) (f : Fin 256) :
    k0_pay5 x w (ix2 i f) = ∑ d : Fin 1024, x (ix2 i d) * w (ix3 0 d f) := by
  pointwise [k0_pay5, k0_pay4]

theorem pay_val {x : Vec Ideal S2048x1024 .bf16} {w : Vec Ideal S1x1024x256 .bf16} (i : Fin 2048) (f : Fin 256) :
    k0_pay6 x w (ix2 i f) = ∑ d : Fin 1024, x (ix2 i d) * w (ix3 0 d f) := by
  pointwise [k0_pay6, k0_pay4]

/-- A rotation by `k` masked to the rows that have a `k`-th predecessor is the column delayed by `k`. -/
theorem mask_rotate {x : FVec Ideal S2048x256 .f32} {p : Fin 2048 → Fin 256 → EReal} (h : ∀ i j, x (ix2 i j) = p i j)
    (k : ℕ) (hk : k ≤ 2048) (i : Fin 2048) (f : Fin 256) (hi : (i.val + 2048 - k) % 2048 < 2048) :
    Scalar.select (IntOp.cmpi .sge (BitVec.ofNat 32 i.val) (BitVec.ofNat 32 k)) (x (ix2 ⟨(i.val + 2048 - k) % 2048, hi⟩ f)) 0
      = back k (fun s => p s f) i := by
  rw [WordCmp.cmpi_sge_ofNat (by have := i.isLt; omega) (by omega), Scalar.select_decide, back, h]
  by_cases hc : k ≤ i.val
  · rw [if_pos hc, dif_pos hc]
    congr 2
    rw [show i.val + 2048 - k = i.val - k + 2048 by omega, Nat.add_mod_right, Nat.mod_eq_of_lt (by omega)]
  · rw [if_neg hc, dif_neg hc]

/-- The same of a block scaled by a factor. -/
theorem mask_scaled {x : FVec Ideal S2048x256 .f32} {p : Fin 2048 → Fin 256 → EReal} (h : ∀ i j, x (ix2 i j) = p i j)
    (w : EReal) (k : ℕ) (hk : k ≤ 2048) (i : Fin 2048) (f : Fin 256) (hi : (i.val + 2048 - k) % 2048 < 2048) :
    Scalar.select (IntOp.cmpi .sge (BitVec.ofNat 32 i.val) (BitVec.ofNat 32 k)) (w * x (ix2 ⟨(i.val + 2048 - k) % 2048, hi⟩ f)) 0
      = w * back k (fun s => p s f) i := by
  rw [← mask_rotate h k hk i f hi, WordCmp.cmpi_sge_ofNat (by have := i.isLt; omega) (by omega), Scalar.select_decide,
    Scalar.select_decide]
  by_cases hc : k ≤ i.val
  · rw [if_pos hc, if_pos hc]
  · rw [if_neg hc, if_neg hc, mul_zero]

/-- The gate's block delayed by one position and by two. -/
theorem pay_gate1 {x : Vec Ideal S2048x1024 .bf16} {w : Vec Ideal S1x1024x256 .bf16} {p : Fin 2048 → Fin 256 → EReal}
    (h : ∀ i j, k0_pay5 x w (ix2 i j) = p i j) (i : Fin 2048) (f : Fin 256) :
    k0_pay10 x w (ix2 i f) = back 1 (fun s => p s f) i := by
  pointwise [k0_pay10]
  exact mask_rotate h 1 (by omega) i f _

theorem pay_gate2 {x : Vec Ideal S2048x1024 .bf16} {w : Vec Ideal S1x1024x256 .bf16} {p : Fin 2048 → Fin 256 → EReal}
    (h : ∀ i j, k0_pay5 x w (ix2 i j) = p i j) (i : Fin 2048) (f : Fin 256) :
    k0_pay11 x w (ix2 i f) = back 2 (fun s => p s f) i := by
  pointwise [k0_pay11]
  exact mask_rotate h 2 (by omega) i f _

/-- The gate's convolution. -/
theorem gate_conv (x0 : Vec Ideal S2048x1024 .bf16) (x1 x2 : Vec Ideal S1x1024x256 .bf16) (x3 x4 : Vec Ideal S3x256 .f32)
    (x5 x6 : Vec Ideal S1x256 .f32) {p : Fin 2048 → Fin 256 → EReal}
    (h : ∀ i j, ∑ d : Fin 1024, x0 (ix2 i d) * x1 (ix3 0 d j) = p i j) (i : Fin 2048) (f : Fin 256) :
    k0_pay13 (k0_pay16 x0 x1 x2 x3 x4 x5 x6) (k0_pay17 x0 x1 x2 x3 x4 x5 x6) (k0_pay18 x0 x1 x2 x3 x4 x5 x6)
        (k0_pay19 x0 x1 x2 x3 x4 x5 x6) (View.ld x3 r0_6) (View.ld x3 r0_7) (ix2 i f)
      = conv (fun s => p s f) (x3 (ix2 0 f)) (x3 (ix2 1 f)) (x3 (ix2 2 f)) (x5 (ix2 0 f)) i := by
  have hp : ∀ i j, k0_pay5 (View.ld x0 r0_0) (View.ld x1 r0_1) (ix2 i j) = p i j := fun i j => by
    rw [← h i j]
    pointwise [k0_pay5, k0_pay4]
  pointwise [k0_pay13, k0_pay16, k0_pay17, k0_pay18, k0_pay19, k0_pay9, k0_pay12]
  rw [pay_gate1 hp, pay_gate2 hp, hp]
  rfl

/-- The value's convolution. -/
theorem val_conv (x0 : Vec Ideal S2048x1024 .bf16) (x1 x2 : Vec Ideal S1x1024x256 .bf16) (x3 x4 : Vec Ideal S3x256 .f32)
    (x5 x6 : Vec Ideal S1x256 .f32) {p : Fin 2048 → Fin 256 → EReal}
    (h : ∀ i j, ∑ d : Fin 1024, x0 (ix2 i d) * x2 (ix3 0 d j) = p i j) (i : Fin 2048) (f : Fin 256) :
    k0_pay20 x0 x1 x2 x3 x4 x5 x6 (ix2 i f)
      = conv (fun s => p s f) (x4 (ix2 0 f)) (x4 (ix2 1 f)) (x4 (ix2 2 f)) (x6 (ix2 0 f)) i := by
  have hp : ∀ i j, k0_pay6 (View.ld x0 r0_0) (View.ld x2 r0_1) (ix2 i j) = p i j := fun i j => by
    rw [← h i j]
    pointwise [k0_pay6, k0_pay4]
  pointwise [k0_pay20, k0_pay14]
  rw [conv, ← hp]
  exact congrArg₂ _ (congrArg₂ _ (congrArg₂ _ rfl (mask_scaled hp _ 1 (by omega) i f _)) (mask_scaled hp _ 2 (by omega) i f _)) rfl

/-- The idealized call's cubic coefficient. -/
theorem named_k : Named.named (F := Ideal) (φ := .f32) Cert.UpKernelIdeal.κ "k" 0x3D372713#32 = ((8943 / 200000 : ℝ) : EReal) :=
  IdealRules.named_const.ideal_named_scalar _ _ _ _ rfl

/-- The gated product of a gate and a value. -/
theorem pay_ff (a b : FVec Ideal S2048x256 .f32) (i : Fin 2048) (f : Fin 256) :
    k0_pay3 a b (ix2 i f) = act (a (ix2 i f)) * b (ix2 i f) := by
  pointwise [k0_pay3]
  rw [named_k]
  rfl

end Cert.UpFwd

end
-- ==== Proof.ConvPoint.lean ====
/- The convolution mixer's backward call over the extended reals: the formulas, the operands, and what the body computes at one
   grid point. -/
module

public import proofs.«01_k».proof.Proof.UpPoint
public import proofs.«01_k».proof.Proof.Gen.ConvKernelIdeal.Frame
public import Idealize.ShloMosaic.Lib.Pipeline.ValueKit
public import Idealize.ShloMosaic.Lib.Pointwise
public import Idealize.ShloMosaic.Lib.WordCmp

@[expose] public section

set_option maxRecDepth 16384

noncomputable section

namespace Cert.Conv

open Idealize.ShloMosaic Idealize.ShloMosaic.TcCoe Idealize.SL.Sem Cert.ConvKernelIdeal Cert.ConvKernelIdeal.Gen
open Cert.UpFwd (back)

/-! ## The formulas -/

/-- A column of positions advanced by `k`: position `s` reads `s + k`, and zero after the last position. -/
def ahead (k : ℕ) (p : Fin 2048 → EReal) (s : Fin 2048) : EReal :=
  if h : s.val + k < 2048 then p ⟨s.val + k, h⟩ else 0

theorem ahead_zero (p : Fin 2048 → EReal) (s : Fin 2048) : ahead 0 p s = p s := by
  simp [ahead]

/-- Advancing one factor of a sum over the positions is delaying the other. -/
theorem sum_lead (k : ℕ) (p r : Fin 2048 → EReal) : ∑ s, ahead k p s * r s = ∑ s, p s * back k r s := by
  simp only [ahead, back, dite_mul, zero_mul, mul_dite, mul_zero]
  rw [← Finset.sum_filter_add_sum_filter_not Finset.univ (fun s : Fin 2048 => s.val + k < 2048),
    ← Finset.sum_filter_add_sum_filter_not (s := Finset.univ)
      (f := fun s : Fin 2048 => if h : k ≤ s.val then p s * r ⟨s.val - k, by omega⟩ else 0) (fun s : Fin 2048 => k ≤ s.val),
    Finset.sum_eq_zero (s := Finset.univ.filter fun s : Fin 2048 => ¬ s.val + k < 2048)
      (fun s hs => by rw [dif_neg (Finset.mem_filter.mp hs).2]),
    Finset.sum_eq_zero (s := Finset.univ.filter fun s : Fin 2048 => ¬ k ≤ s.val)
      (fun s hs => by rw [dif_neg (Finset.mem_filter.mp hs).2])]
  congr 1
  refine Finset.sum_bij' (fun s hs => ⟨s.val + k, (Finset.mem_filter.mp hs).2⟩) (fun s hs => ⟨s.val - k, by omega⟩) ?_ ?_ ?_ ?_ ?_
  · intro s hs
    simp
  · intro s hs
    have := (Finset.mem_filter.mp hs).2
    simp only [Finset.mem_filter, Finset.mem_univ, true_and]
    omega
  · intro s hs
    simp
  · intro s hs
    have := (Finset.mem_filter.mp hs).2
    apply Fin.ext
    simp only []
    omega
  · intro s hs
    have h := (Finset.mem_filter.mp hs).2
    rw [dif_pos h, dif_pos (by simp)]
    simp

/-- Column `j` of segment `z` of the input projection: the gate `B`, the gate `C` and the signal. -/
def seg (z : Fin 3) (j : Fin 1024) : Fin 7168 := ⟨z.val * 1024 + j.val, by omega⟩

section
variable (x : FVec Ideal S2048x7168 .f32) (w : FVec Ideal S3x1024 .f32) (b : FVec Ideal S1024x1024 .f32) (g : FVec Ideal S2048x1024 .f32)

/-- The convolved column before its taps: `C` times the signal. -/
def pr (j : Fin 1024) (s : Fin 2048) : EReal := x (ix2 s (seg 1 j)) * x (ix2 s (seg 2 j))
/-- The convolution. -/
def q (j : Fin 1024) (s : Fin 2048) : EReal :=
  back 2 (pr x j) s * w (ix2 0 j) + back 1 (pr x j) s * w (ix2 1 j) + pr x j s * w (ix2 2 j)
/-- The gradient in the mixer's product `B · q`. -/
def dya (j : Fin 1024) (s : Fin 2048) : EReal := ∑ d : Fin 1024, g (ix2 s d) * b (ix2 j d)
/-- The gradient in the convolution. -/
def dq (j : Fin 1024) (s : Fin 2048) : EReal := dya b g j s * x (ix2 s (seg 0 j))
/-- The gradient in the convolved column. -/
def dp (j : Fin 1024) (s : Fin 2048) : EReal :=
  w (ix2 2 j) * dq x b g j s + w (ix2 1 j) * ahead 1 (dq x b g j) s + w (ix2 0 j) * ahead 2 (dq x b g j) s
/-- The gradients in the three segments of the projection. -/
def dseg (z : Fin 3) (j : Fin 1024) (s : Fin 2048) : EReal :=
  if z = 0 then dya b g j s * q x w j s else if z = 1 then dp x w b g j s * x (ix2 s (seg 2 j)) else dp x w b g j s * x (ix2 s (seg 1 j))
/-- The gradient in the branch's matrix. -/
def dbr (j d : Fin 1024) : EReal := ∑ s : Fin 2048, x (ix2 s (seg 0 j)) * q x w j s * g (ix2 s d)
/-- The gradients in the taps. -/
def dtap (k : Fin 3) (j : Fin 1024) : EReal := ∑ s : Fin 2048, ahead (2 - k.val) (dq x b g j) s * pr x j s

end

/-! ## The operands -/

variable (m : (ℓ : Loc nD τ sig) → Buf (Elt Ideal) ℓ) (c : Dev nD)

/-- The arguments on a device: the input projection, the taps, the branch's matrix and the cotangent. -/
abbrev prj : FVec Ideal S2048x7168 .f32 := m (c, Proc.tc.devRef main_arg0)
abbrev taps : FVec Ideal S3x1024 .f32 := m (c, Proc.tc.devRef main_arg1)
abbrev mat : FVec Ideal S1024x1024 .f32 := m (c, Proc.tc.devRef main_arg2)
abbrev cot : FVec Ideal S2048x1024 .f32 := m (c, Proc.tc.devRef main_arg3)

/-- The cotangent and the matrix. -/
theorem host_cot (i : Fin 2048) (j : Fin 1024) : V m c main_v19 (ix2 i j) = cot m c (ix2 i j) := by
  entry_read
  pointwise

theorem host_mat (i : Fin 1024) (j : Fin 1024) : V m c main_v20 (ix2 i j) = mat m c (ix2 i j) := by
  entry_read
  pointwise

/-- The convolution that the host's lines prepare. -/
theorem host_q (i : Fin 2048) (j : Fin 1024) : V m c main_v18 (ix2 i j) = q (prj m c) (taps m c) j i := by
  entry_read
  pointwise
  have e1 : ∀ h, (⟨1024 + j.val, h⟩ : Fin 7168) = seg 1 j := fun _ => Fin.ext (by simp [seg])
  have e2 : ∀ h, (⟨2048 + j.val, h⟩ : Fin 7168) = seg 2 j := fun _ => Fin.ext (by simp [seg])
  simp only [e1, e2]
  refine congrArg₂ _ (congrArg₂ _ (congrArg₂ _ ?_ rfl) (congrArg₂ _ ?_ rfl)) rfl
  · unfold back pr
    by_cases h : i.val < 2
    · rw [dif_pos h, dif_neg (by omega)]
    · rw [dif_neg h, dif_pos (by omega)]
  · unfold back pr
    by_cases h : 1 + i.val < 2
    · rw [dif_pos h, dif_neg (by omega)]
    · rw [dif_neg h, dif_pos (by omega)]
      have e : ∀ h h', (⟨1 + i.val - 2, h⟩ : Fin 2048) = ⟨i.val - 1, h'⟩ := fun _ _ => Fin.ext (by simp; omega)
      rw [e]

/-- The grid's point as the number of its block of 256 columns. -/
def num (t : Fin cfg0.N) : Fin 4 := ⟨t.val, lt_of_lt_of_eq t.isLt (show cfg0.N = 4 from N_0)⟩
/-- Column `f` of block `b`. -/
def bcol (b : Fin 4) (f : Fin 256) : Fin 1024 := ⟨b.val * 256 + f.val, by omega⟩

/-- The windows at a point: the cotangent whole, and the point's block of the matrix's rows, of the three segments' columns, of
    the convolution's and of the taps'. -/
theorem blk0 (t : Fin cfg0.N) (i : Fin 2048) (j : Fin 1024) : iblk m c 0 t (ix2 i j) = cot m c (ix2 i j) := by
  rw [← host_cot]
  have e0 : (cfg0.win 0).index t 0 = 0 := by decide +revert
  have e1 : (cfg0.win 0).index t 1 = 0 := by decide +revert
  blk_ext [iblk, e0, e1]

theorem blk1 (t : Fin cfg0.N) (f : Fin 256) (d : Fin 1024) : iblk m c 1 t (ix2 f d) = mat m c (ix2 (bcol (num t) f) d) := by
  rw [← host_mat]
  have e0 : (cfg0.win 1).index t 0 = t.val := by decide +revert
  have e1 : (cfg0.win 1).index t 1 = 0 := by decide +revert
  blk_ext [iblk, e0, e1, bcol, num]

theorem blk2 (t : Fin cfg0.N) (i : Fin 2048) (f : Fin 256) : iblk m c 2 t (ix2 i f) = prj m c (ix2 i (seg 0 (bcol (num t) f))) := by
  rw [prj, ← V_main_arg0 m c]
  have e0 : (cfg0.win 2).index t 0 = 0 := by decide +revert
  have e1 : (cfg0.win 2).index t 1 = t.val := by decide +revert
  blk_ext [iblk, e0, e1, bcol, num, seg]

theorem blk3 (t : Fin cfg0.N) (i : Fin 2048) (f : Fin 256) : iblk m c 3 t (ix2 i f) = prj m c (ix2 i (seg 1 (bcol (num t) f))) := by
  rw [prj, ← V_main_arg0 m c]
  have e0 : (cfg0.win 3).index t 0 = 0 := by decide +revert
  have e1 : (cfg0.win 3).index t 1 = 4 + t.val := by decide +revert
  blk_ext [iblk, e0, e1, bcol, num, seg]

theorem blk4 (t : Fin cfg0.N) (i : Fin 2048) (f : Fin 256) : iblk m c 4 t (ix2 i f) = prj m c (ix2 i (seg 2 (bcol (num t) f))) := by
  rw [prj, ← V_main_arg0 m c]
  have e0 : (cfg0.win 4).index t 0 = 0 := by decide +revert
  have e1 : (cfg0.win 4).index t 1 = 8 + t.val := by decide +revert
  blk_ext [iblk, e0, e1, bcol, num, seg]

theorem blk5 (t : Fin cfg0.N) (i : Fin 2048) (f : Fin 256) : iblk m c 5 t (ix2 i f) = q (prj m c) (taps m c) (bcol (num t) f) i := by
  rw [← host_q]
  have e0 : (cfg0.win 5).index t 0 = 0 := by decide +revert
  have e1 : (cfg0.win 5).index t 1 = t.val := by decide +revert
  blk_ext [iblk, e0, e1, bcol, num]

theorem blk6 (t : Fin cfg0.N) (k : Fin 3) (f : Fin 256) : iblk m c 6 t (ix2 k f) = taps m c (ix2 k (bcol (num t) f)) := by
  rw [taps, ← V_main_arg1 m c]
  have e0 : (cfg0.win 6).index t 0 = 0 := by decide +revert
  have e1 : (cfg0.win 6).index t 1 = t.val := by decide +revert
  blk_ext [iblk, e0, e1, bcol, num]

/-! ## The body -/

/-- The gradient in the convolution. -/
theorem pay_dq (x0 : Vec Ideal S2048x1024 .bf16) (x1 : Vec Ideal S256x1024 .bf16) (x2 : Vec Ideal S2048x256 .f32) (i : Fin 2048)
    (f : Fin 256) : k0_pay11 (View.ld x0 r0_0) (View.ld x1 r0_1) (View.ld x2 r0_2) (ix2 i f)
      = (∑ d : Fin 1024, x0 (ix2 i d) * x1 (ix2 f d)) * x2 (ix2 i f) := by
  pointwise [k0_pay11, k0_pay7, k0_pay6]

/-- A rotation by `2048 - k` masked to the rows that have a `k`-th successor is the column advanced by `k`. -/
theorem mask_lead {x : FVec Ideal S2048x256 .f32} {p : Fin 2048 → Fin 256 → EReal} (h : ∀ i j, x (ix2 i j) = p i j)
    (k r : ℕ) (hk : r + k = 2048) (hr : k ≠ 0) (i : Fin 2048) (f : Fin 256) (hi : (i.val + 2048 - r) % 2048 < 2048) :
    Scalar.select (IntOp.cmpi .slt (BitVec.ofNat 32 i.val) (BitVec.ofNat 32 r)) (x (ix2 ⟨(i.val + 2048 - r) % 2048, hi⟩ f)) 0
      = ahead k (fun s => p s f) i := by
  rw [WordCmp.cmpi_slt_ofNat (by have := i.isLt; omega) (by omega), Scalar.select_decide, ahead, h]
  by_cases hc : i.val < r
  · rw [if_pos hc, dif_pos (by omega)]
    congr 2
    rw [show i.val + 2048 - r = i.val + k by omega, Nat.mod_eq_of_lt (by omega)]
  · rw [if_neg hc, dif_neg (by omega)]

section
variable (x0 : Vec Ideal S2048x1024 .bf16) (x1 : Vec Ideal S256x1024 .bf16) (x2 x3 x4 x5 : Vec Ideal S2048x256 .f32)
  (x6 : Vec Ideal S3x256 .f32) {p : Fin 2048 → Fin 256 → EReal}
  (h : ∀ i f, (∑ d : Fin 1024, x0 (ix2 i d) * x1 (ix2 f d)) * x2 (ix2 i f) = p i f)
include h

/-- The gradient in the convolution, and advanced by one position and by two. -/
theorem pay_dq0 (i : Fin 2048) (f : Fin 256) : k0_pay16 x0 x1 x2 x3 x4 x5 x6 (ix2 i f) = p i f := by
  rw [← h, ← pay_dq]
  rfl

theorem pay_dq1 (i : Fin 2048) (f : Fin 256) : k0_pay17 x0 x1 x2 x3 x4 x5 x6 (ix2 i f) = ahead 1 (fun s => p s f) i := by
  pointwise [k0_pay17, k0_pay12]
  exact mask_lead (fun i f => (pay_dq x0 x1 x2 i f).trans (h i f)) 1 2047 rfl (by decide) i f _

theorem pay_dq2 (i : Fin 2048) (f : Fin 256) :
    k0_pay1 (k0_pay18 x0 x1 x2 x3 x4 x5 x6) (k0_pay19 x0 x1 x2 x3 x4 x5 x6) (k0_pay20 x0 x1 x2 x3 x4 x5 x6) (ix2 i f)
      = ahead 2 (fun s => p s f) i := by
  pointwise [k0_pay1, k0_pay18, k0_pay19, k0_pay20, k0_pay13, k0_pay14, k0_pay15]
  exact mask_lead (fun i f => (pay_dq x0 x1 x2 i f).trans (h i f)) 2 2046 rfl (by decide) i f _

/-- The gradient in the convolved column. -/
theorem pay_dp (i : Fin 2048) (f : Fin 256) :
    k0_pay2 (k0_pay16 x0 x1 x2 x3 x4 x5 x6) (k0_pay17 x0 x1 x2 x3 x4 x5 x6) (k0_pay18 x0 x1 x2 x3 x4 x5 x6)
        (k0_pay19 x0 x1 x2 x3 x4 x5 x6) (k0_pay20 x0 x1 x2 x3 x4 x5 x6) (View.ld x6 r0_4) (View.ld x6 r0_5) (View.ld x6 r0_6) (ix2 i f)
      = x6 (ix2 2 f) * p i f + x6 (ix2 1 f) * ahead 1 (fun s => p s f) i + x6 (ix2 0 f) * ahead 2 (fun s => p s f) i := by
  pointwise [k0_pay2]
  rw [pay_dq0 x0 x1 x2 x3 x4 x5 x6 h, pay_dq1 x0 x1 x2 x3 x4 x5 x6 h, pay_dq2 x0 x1 x2 x3 x4 x5 x6 h]

/-- The two stored gradients that come from it. -/
theorem pay_dx (z : Fin 1) (i : Fin 2048) (f : Fin 256) :
    k0_pay4 (View.ld x4 r0_2) (k0_pay16 x0 x1 x2 x3 x4 x5 x6) (k0_pay17 x0 x1 x2 x3 x4 x5 x6) (k0_pay18 x0 x1 x2 x3 x4 x5 x6)
        (k0_pay19 x0 x1 x2 x3 x4 x5 x6) (k0_pay20 x0 x1 x2 x3 x4 x5 x6) (View.ld x6 r0_4) (View.ld x6 r0_5) (View.ld x6 r0_6) (ix3 z i f)
      = (x6 (ix2 2 f) * p i f + x6 (ix2 1 f) * ahead 1 (fun s => p s f) i + x6 (ix2 0 f) * ahead 2 (fun s => p s f) i) * x4 (ix2 i f) := by
  pointwise [k0_pay4]
  rw [pay_dp x0 x1 x2 x3 x4 x5 x6 h]

theorem pay_dc (z : Fin 1) (i : Fin 2048) (f : Fin 256) :
    k0_pay5 (View.ld x3 r0_2) (k0_pay16 x0 x1 x2 x3 x4 x5 x6) (k0_pay17 x0 x1 x2 x3 x4 x5 x6) (k0_pay18 x0 x1 x2 x3 x4 x5 x6)
        (k0_pay19 x0 x1 x2 x3 x4 x5 x6) (k0_pay20 x0 x1 x2 x3 x4 x5 x6) (View.ld x6 r0_4) (View.ld x6 r0_5) (View.ld x6 r0_6) (ix3 z i f)
      = (x6 (ix2 2 f) * p i f + x6 (ix2 1 f) * ahead 1 (fun s => p s f) i + x6 (ix2 0 f) * ahead 2 (fun s => p s f) i) * x3 (ix2 i f) := by
  pointwise [k0_pay5]
  rw [pay_dp x0 x1 x2 x3 x4 x5 x6 h]

/-- The taps' gradients. -/
theorem pay_tap (k : Fin 3) (f : Fin 256) :
    k0_pay3 (View.ld x3 r0_2) (View.ld x4 r0_2) (k0_pay16 x0 x1 x2 x3 x4 x5 x6) (k0_pay17 x0 x1 x2 x3 x4 x5 x6)
        (k0_pay18 x0 x1 x2 x3 x4 x5 x6) (k0_pay19 x0 x1 x2 x3 x4 x5 x6) (k0_pay20 x0 x1 x2 x3 x4 x5 x6) (ix2 k f)
      = ∑ s : Fin 2048, ahead (2 - k.val) (fun s => p s f) s * (x3 (ix2 s f) * x4 (ix2 s f)) := by
  pointwise [k0_pay3]
  simp only [pay_dq0 x0 x1 x2 x3 x4 x5 x6 h, pay_dq1 x0 x1 x2 x3 x4 x5 x6 h, pay_dq2 x0 x1 x2 x3 x4 x5 x6 h]
  obtain rfl | rfl | rfl : k = 0 ∨ k = 1 ∨ k = 2 := by decide +revert
  · rw [dif_pos (by simp)]
    rfl
  · rw [dif_neg (by simp), dif_pos (by simp)]
    rfl
  · rw [dif_neg (by simp), dif_neg (by simp)]
    exact Finset.sum_congr rfl fun s _ => by rw [show 2 - (2 : Fin 3).val = 0 from rfl, ahead_zero]

end

/-- The stored gradient in the gate `B`. -/
theorem pay_db (x0 : Vec Ideal S2048x1024 .bf16) (x1 : Vec Ideal S256x1024 .bf16) (x5 : Vec Ideal S2048x256 .f32) (z : Fin 1)
    (i : Fin 2048) (f : Fin 256) : k0_pay10 (View.ld x0 r0_0) (View.ld x1 r0_1) (View.ld x5 r0_2) (ix3 z i f)
      = (∑ d : Fin 1024, x0 (ix2 i d) * x1 (ix2 f d)) * x5 (ix2 i f) := by
  pointwise [k0_pay10, k0_pay8, k0_pay7, k0_pay6]

/-- The stored gradient in the branch's matrix. -/
theorem pay_br (x0 : Vec Ideal S2048x1024 .bf16) (x2 x5 : Vec Ideal S2048x256 .f32) (f : Fin 256) (d : Fin 1024) :
    k0_pay9 (View.ld x0 r0_0) (View.ld x2 r0_2) (View.ld x5 r0_2) (ix2 f d)
      = ∑ s : Fin 2048, x2 (ix2 s f) * x5 (ix2 s f) * x0 (ix2 s d) := by
  pointwise [k0_pay9, k0_pay8, k0_pay6]

end Cert.Conv

end
-- ==== Proof.ConvArrays.lean ====
/- The convolution mixer's backward call: what each grid point leaves, and the three arrays of the call. -/
module

public import proofs.«01_k».proof.Proof.ConvPoint
public import proofs.«01_k».proof.Proof.State

@[expose] public section

set_option maxRecDepth 16384

noncomputable section

namespace Cert.Conv

open Idealize.ShloMosaic Idealize.ShloMosaic.TcCoe Idealize.SL.Sem Cert.ConvKernelIdeal Cert.ConvKernelIdeal.Gen
open Cert.Ffn (half_idx)

variable (m : (ℓ : Loc nD τ sig) → Buf (Elt Ideal) ℓ) (c : Dev nD)

/-- The windows by their shapes. -/
abbrev gb (t : Fin cfg0.N) : Vec Ideal S2048x1024 .bf16 := iblk m c 0 t
abbrev wb (t : Fin cfg0.N) : Vec Ideal S256x1024 .bf16 := iblk m c 1 t
abbrev bb (t : Fin cfg0.N) : Vec Ideal S2048x256 .f32 := iblk m c 2 t
abbrev cb (t : Fin cfg0.N) : Vec Ideal S2048x256 .f32 := iblk m c 3 t
abbrev sb (t : Fin cfg0.N) : Vec Ideal S2048x256 .f32 := iblk m c 4 t
abbrev tb (t : Fin cfg0.N) : Vec Ideal S3x256 .f32 := iblk m c 6 t
abbrev qb (t : Fin cfg0.N) : Vec Ideal S2048x256 .f32 := iblk m c 5 t

/-- The point's block of the gradient in the product, and in the convolution. -/
theorem sum_dya (t : Fin cfg0.N) (i : Fin 2048) (f : Fin 256) :
    ∑ d : Fin 1024, gb m c t (ix2 i d) * wb m c t (ix2 f d) = dya (mat m c) (cot m c) (bcol (num t) f) i :=
  Finset.sum_congr rfl fun d _ => congrArg₂ _ (blk0 m c t i d) (blk1 m c t f d)

theorem sum_dq (t : Fin cfg0.N) (i : Fin 2048) (f : Fin 256) :
    (∑ d : Fin 1024, gb m c t (ix2 i d) * wb m c t (ix2 f d)) * bb m c t (ix2 i f)
      = dq (prj m c) (mat m c) (cot m c) (bcol (num t) f) i :=
  congrArg₂ _ (sum_dya m c t i f) (blk2 m c t i f)

/-- The gradient in the convolved column at a point. -/
theorem dp_at (t : Fin cfg0.N) (i : Fin 2048) (f : Fin 256) :
    tb m c t (ix2 2 f) * dq (prj m c) (mat m c) (cot m c) (bcol (num t) f) i
        + tb m c t (ix2 1 f) * ahead 1 (fun s => dq (prj m c) (mat m c) (cot m c) (bcol (num t) f) s) i
        + tb m c t (ix2 0 f) * ahead 2 (fun s => dq (prj m c) (mat m c) (cot m c) (bcol (num t) f) s) i
      = dp (prj m c) (taps m c) (mat m c) (cot m c) (bcol (num t) f) i := by
  rw [tb, blk6, blk6, blk6]
  rfl

/-- The gradients in the projection's segments at a point. -/
theorem seg_at (t : Fin cfg0.N) (z : Fin 3) (i : Fin 2048) (f : Fin 256) :
    out0_7 (iblk m c 0 t) (iblk m c 1 t) (iblk m c 2 t) (iblk m c 3 t) (iblk m c 4 t) (iblk m c 5 t) (iblk m c 6 t) (ix3 z i f)
      = dseg (prj m c) (taps m c) (mat m c) (cot m c) z (bcol (num t) f) i := by
  unfold out0_7
  canon_tiles x h
  · rw [half_idx x i f h1 h2, show z = 2 by simp at *; omega, pay_dc _ _ _ _ _ _ _ (sum_dq m c t), dp_at, blk3]
    rfl
  · rw [half_idx x i f h1 h2, show z = 1 by simp at *; omega, pay_dx _ _ _ _ _ _ _ (sum_dq m c t), dp_at, blk4]
    rfl
  · rw [half_idx x i f h1 h2, show z = 0 by simp at *; omega, pay_db]
    exact congrArg₂ _ (sum_dya m c t i f) (blk5 m c t i f)

/-- The gradient in the branch's matrix at a point. -/
theorem br_at (t : Fin cfg0.N) (f : Fin 256) (d : Fin 1024) :
    out0_8 (iblk m c 0 t) (iblk m c 1 t) (iblk m c 2 t) (iblk m c 3 t) (iblk m c 4 t) (iblk m c 5 t) (iblk m c 6 t) (ix2 f d)
      = dbr (prj m c) (taps m c) (cot m c) (bcol (num t) f) d := by
  unfold out0_8
  canon_tiles x h
  have hx : x = ix2 f d := by
    funext b
    fin_cases b
    · exact Fin.ext h0.symm
    · exact Fin.ext h1.symm
  rw [hx, pay_br]
  exact Finset.sum_congr rfl fun s _ => congrArg₂ _ (congrArg₂ _ (blk2 m c t s f) (blk5 m c t s f)) (blk0 m c t s d)

/-- The gradients in the taps at a point. -/
theorem tap_at (t : Fin cfg0.N) (k : Fin 3) (f : Fin 256) :
    out0_9 (iblk m c 0 t) (iblk m c 1 t) (iblk m c 2 t) (iblk m c 3 t) (iblk m c 4 t) (iblk m c 5 t) (iblk m c 6 t) (ix2 k f)
      = dtap (prj m c) (mat m c) (cot m c) k (bcol (num t) f) := by
  unfold out0_9
  canon_tiles x h
  have hx : x = ix2 k f := by
    funext b
    fin_cases b
    · exact Fin.ext h0.symm
    · exact Fin.ext h1.symm
  rw [hx, pay_tap _ _ _ _ _ _ _ (sum_dq m c t)]
  exact Finset.sum_congr rfl fun s _ => congrArg₂ _ rfl (congrArg₂ _ (blk3 m c t s f) (blk4 m c t s f))

/-- An entry of the block and of the array at equal coordinates. -/
theorem at_congr (r : Fin 3 → Fin 1024 → Fin 2048 → EReal) {t : Fin cfg0.N} {z z' : Fin 3} {i i' : Fin 2048} {f : Fin 256}
    {f' : Fin 1024} (hz : z'.val = z.val) (hi : i'.val = i.val) (hf : f'.val = t.val * 256 + f.val) :
    r z (bcol (num t) f) i = r z' f' i' := by
  rw [Fin.ext hz, Fin.ext hi, show f' = bcol (num t) f from Fin.ext hf]

/-- The first array: the gradients in the three segments of the projection. -/
theorem arr_seg : (dats m 0 c).arrAt 7 cfg0.N
    = fun x => dseg (prj m c) (taps m c) (mat m c) (cot m c) (x 0) (x 2) (x 1) := by
  refine (dats m 0 c).arrAt_eq_of_covers 7 _ (by decide +kernel) fun t hf y => ?_
  have e0 : (cfg0.win 7).index t 0 = 0 := by decide +revert
  have e1 : (cfg0.win 7).index t 1 = 0 := by decide +revert
  have e2 : (cfg0.win 7).index t 2 = t.val := by decide +revert
  have x0 : (((cfg0.win 7).blk t).view.emb y 0).val = (y 0).val := by blk_simp [e0]
  have x1 : (((cfg0.win 7).blk t).view.emb y 1).val = (y 1).val := by blk_simp [e1]
  have x2 : (((cfg0.win 7).blk t).view.emb y 2).val = t.val * 256 + (y 2).val := by blk_simp [e2]
  blk_simp
  rw [after0_7]
  have hy : y = ix3 (y 0) (y 1) (y 2) := by funext b; fin_cases b <;> rfl
  exact (congrArg _ hy).trans ((seg_at m c t (y 0) (y 1) (y 2)).trans
    (at_congr (dseg (prj m c) (taps m c) (mat m c) (cot m c)) x0 x1 x2))

/-- The second: the gradient in the branch's matrix. -/
theorem arr_br : (dats m 0 c).arrAt 8 cfg0.N = fun x => dbr (prj m c) (taps m c) (cot m c) (x 0) (x 1) := by
  refine (dats m 0 c).arrAt_eq_of_covers 8 _ (by decide +kernel) fun t hf y => ?_
  have e0 : (cfg0.win 8).index t 0 = t.val := by decide +revert
  have e1 : (cfg0.win 8).index t 1 = 0 := by decide +revert
  have x0 : (((cfg0.win 8).blk t).view.emb y 0).val = t.val * 256 + (y 0).val := by blk_simp [e0]
  have x1 : (((cfg0.win 8).blk t).view.emb y 1).val = (y 1).val := by blk_simp [e1]
  blk_simp
  rw [after0_8]
  have hy : y = ix2 (y 0) (y 1) := by funext b; fin_cases b <;> rfl
  refine (congrArg _ hy).trans ((br_at m c t (y 0) (y 1)).trans ?_)
  exact congrArg₂ _ (Fin.ext x0.symm) (Fin.ext x1.symm)

/-- The third: the gradients in the taps. -/
theorem arr_tap : (dats m 0 c).arrAt 9 cfg0.N = fun x => dtap (prj m c) (mat m c) (cot m c) (x 0) (x 1) := by
  refine (dats m 0 c).arrAt_eq_of_covers 9 _ (by decide +kernel) fun t hf y => ?_
  have e0 : (cfg0.win 9).index t 0 = 0 := by decide +revert
  have e1 : (cfg0.win 9).index t 1 = t.val := by decide +revert
  have x0 : (((cfg0.win 9).blk t).view.emb y 0).val = (y 0).val := by blk_simp [e0]
  have x1 : (((cfg0.win 9).blk t).view.emb y 1).val = t.val * 256 + (y 1).val := by blk_simp [e1]
  blk_simp
  rw [after0_9]
  have hy : y = ix2 (y 0) (y 1) := by funext b; fin_cases b <;> rfl
  refine (congrArg _ hy).trans ((tap_at m c t (y 0) (y 1)).trans ?_)
  exact congrArg₂ _ (Fin.ext x0.symm) (Fin.ext x1.symm)

end Cert.Conv

end
-- ==== Proof.ConvRef.lean ====
/- The convolution mixer's backward pass: the reference's three results by the same formulas. -/
module

public import proofs.«01_k».proof.Proof.ConvPoint
public import proofs.«01_k».proof.Proof.Gen.ConvReferenceIdeal.Read

@[expose] public section

set_option maxRecDepth 16384

noncomputable section

namespace Cert.Conv

open Idealize.ShloMosaic Idealize.ShloMosaic.TcCoe Idealize.SL.Sem Cert.ConvReferenceIdeal Cert.ConvReferenceIdeal.Gen
open Cert.ConvReferenceIdeal.Read
open Cert.UpFwd (back)

variable (x0 : FVec Ideal S2048x7168 .f32) (x1 : FVec Ideal S3x1024 .f32) (x2 : FVec Ideal S1024x1024 .f32) (x3 : FVec Ideal S2048x1024 .f32)

/-- The three segments. -/
theorem ref_b (s : Fin 2048) (j : Fin 1024) : val_main_v0 (F := Ideal) x0 (ix2 s j) = x0 (ix2 s (seg 0 j)) := by
  pointwise [val_main_v0]
  exact congrArg (fun k => x0 (ix2 s k)) (Fin.ext (by simp [seg]))

theorem ref_c (s : Fin 2048) (j : Fin 1024) : val_main_v1 (F := Ideal) x0 (ix2 s j) = x0 (ix2 s (seg 1 j)) := by
  pointwise [val_main_v1]
  exact congrArg (fun k => x0 (ix2 s k)) (Fin.ext (by simp [seg]))

theorem ref_s (s : Fin 2048) (j : Fin 1024) : val_main_v2 (F := Ideal) x0 (ix2 s j) = x0 (ix2 s (seg 2 j)) := by
  pointwise [val_main_v2]
  exact congrArg (fun k => x0 (ix2 s k)) (Fin.ext (by simp [seg]))

/-- The convolved column. -/
theorem ref_pr (s : Fin 2048) (j : Fin 1024) : val_main_v3 (F := Ideal) x0 (ix2 s j) = pr x0 j s := by
  pointwise [val_main_v3]
  rw [ref_c, ref_s, pr]

/-- The column delayed by two, by one and not at all. -/
theorem ref_back2 (s : Fin 2048) (j : Fin 1024) : val_main_v7 (F := Ideal) x0 (ix2 s j) = back 2 (pr x0 j) s := by
  pointwise [val_main_v7, val_main_v5, val_main_v4, val_main_cst]
  simp only [ref_pr]
  unfold back
  by_cases h : s.val < 2
  · rw [dif_pos h, dif_neg (by omega)]
  · rw [dif_neg h, dif_pos (by omega)]

theorem ref_back1 (s : Fin 2048) (j : Fin 1024) : val_main_v11 (F := Ideal) x0 (ix2 s j) = back 1 (pr x0 j) s := by
  pointwise [val_main_v11, val_main_v5, val_main_v4, val_main_cst]
  simp only [ref_pr]
  unfold back
  by_cases h : 1 + s.val < 2
  · rw [dif_pos h, dif_neg (by omega)]
  · rw [dif_neg h, dif_pos (by omega)]
    congr 2
    omega

theorem ref_back0 (s : Fin 2048) (j : Fin 1024) : val_main_v16 (F := Ideal) x0 (ix2 s j) = pr x0 j s := by
  pointwise [val_main_v16, val_main_v5, val_main_v4, val_main_cst]
  exact ref_pr x0 s j

/-- The convolution. -/
theorem ref_q (s : Fin 2048) (j : Fin 1024) : val_main_v20 (F := Ideal) x0 x1 (ix2 s j) = q x0 x1 j s := by
  pointwise [val_main_v20, val_main_v19, val_main_v18, val_main_v17, val_main_v15, val_main_v14, val_main_v13, val_main_v12,
    val_main_v10, val_main_v9, val_main_v8, val_main_v6]
  rw [ref_back0, ref_back1, ref_back2, q]

/-- The gradients in the product and in the convolution. -/
theorem ref_dya (s : Fin 2048) (j : Fin 1024) : val_main_v25 (F := Ideal) x2 x3 (ix2 s j) = dya x2 x3 j s := by
  pointwise [val_main_v25]
  rfl

theorem ref_dq (s : Fin 2048) (j : Fin 1024) : val_main_v26 (F := Ideal) x0 x2 x3 (ix2 s j) = dq x0 x2 x3 j s := by
  pointwise [val_main_v26]
  rw [ref_b, ref_dya, dq, mul_comm]

/-- The gradient in the convolved column. -/
theorem ref_dp (s : Fin 2048) (j : Fin 1024) : val_main_v54 (F := Ideal) x0 x1 x2 x3 (ix2 s j) = dp x0 x1 x2 x3 j s := by
  pointwise [val_main_v54, val_main_v52, val_main_v51, val_main_v48, val_main_v47, val_main_v43, val_main_v42, val_main_v39,
    val_main_v38, val_main_v34, val_main_v32, val_main_v31, val_main_v17, val_main_v12, val_main_v8, val_main_cst_6, val_main_cst_9]
  simp only [ref_dq]
  unfold dp
  refine congrArg₂ _ (congrArg₂ _ (mul_comm _ _) ?_) ?_
  · unfold ahead
    by_cases h : s.val + 1 < 2048
    · have e : ∀ h', (⟨2 + s.val - 1, h'⟩ : Fin 2048) = ⟨s.val + 1, h⟩ := fun _ => Fin.ext (by simp only []; omega)
      rw [dif_pos (by omega), dif_pos h, mul_comm, e]
    · rw [dif_neg (by omega), dif_neg h, mul_zero]
  · unfold ahead
    by_cases h : s.val + 2 < 2048
    · have e : ∀ h', (⟨2 + s.val, h'⟩ : Fin 2048) = ⟨s.val + 2, h⟩ := fun _ => Fin.ext (by simp only []; omega)
      rw [dif_pos (by omega), dif_pos h, mul_comm, e]
    · rw [dif_neg (by omega), dif_neg h, mul_zero]

/-- The taps' gradients. -/
theorem ref_tap (k : Fin 3) (j : Fin 1024) : val_main_v50 (F := Ideal) x0 x2 x3 (ix2 k j) = dtap x0 x2 x3 k j := by
  pointwise [val_main_v50, val_main_v49, val_main_v46, val_main_v45, val_main_v44, val_main_v41, val_main_v40, val_main_v37,
    val_main_v36, val_main_v35, val_main_v33, val_main_v30, val_main_v29, val_main_v28, val_main_cst_1, val_main_cst_2, val_main_cst_4, val_main_cst_5, val_main_cst_7, val_main_cst_8]
  simp only [ref_dq, ref_back0, ref_back1, ref_back2]
  unfold dtap
  rw [sum_lead]
  have zl : ∀ x : EReal, 0 + x = x := zero_add
  have zr : ∀ x : EReal, x + 0 = x := add_zero
  have hz : ∀ p s, back 0 p s = p s := fun p s => by simp [back]
  simp only [mul_comm (dq x0 x2 x3 j _)]
  obtain rfl | rfl | rfl : k = 0 ∨ k = 1 ∨ k = 2 := by decide +revert
  · rw [dif_neg (by simp), dif_neg (by simp), dif_pos (by simp)]
    simp only [zl, zr]
    rfl
  · rw [dif_neg (by simp), dif_pos (by simp), dif_neg (by simp)]
    simp only [zl, zr]
    rfl
  · rw [dif_pos (by simp), dif_neg (by simp), dif_neg (by simp)]
    simp only [zl, zr]
    exact Finset.sum_congr rfl fun s _ => by rw [show 2 - (2 : Fin 3).val = 0 from rfl, hz]

/-- The branch's matrix's gradient. -/
theorem ref_br (j d : Fin 1024) : val_main_v62 (F := Ideal) x0 x1 x3 (ix2 j d) = dbr x0 x1 x3 j d := by
  pointwise [val_main_v62, val_main_v24, val_main_v23, val_main_v21]
  simp only [ref_b, ref_q]
  exact Finset.sum_congr rfl fun s _ => mul_comm _ _

/-- The segments' gradients. -/
theorem ref_seg (z : Fin 3) (s : Fin 2048) (j : Fin 1024) :
    val_main_v61 (F := Ideal) x0 x1 x2 x3 (ix3 z s j) = dseg x0 x1 x2 x3 z j s := by
  pointwise [val_main_v61, val_main_v60, val_main_v59, val_main_v58, val_main_v57, val_main_v56, val_main_v55, val_main_v27]
  simp only [ref_dp, ref_dya, ref_q, ref_c, ref_s]
  obtain rfl | rfl | rfl : z = 0 ∨ z = 1 ∨ z = 2 := by decide +revert
  · rw [dif_pos (by simp)]
    rfl
  · rw [dif_neg (by simp), dif_pos (by simp)]
    rfl
  · rw [dif_neg (by simp), dif_neg (by simp), mul_comm]
    rfl

end Cert.Conv

end
-- ==== Proof.ConvEqual.lean ====
/- The claims about the convolution mixer's backward call. -/
module

public import proofs.«01_k».proof.Defs
public import proofs.«01_k».proof.Proof.ConvArrays
public import proofs.«01_k».proof.Proof.ConvRef
public import proofs.«01_k».proof.Proof.Gen.ConvKernel.Frame
public import proofs.«01_k».proof.Proof.Gen.ConvKernelIdeal.Value
public import proofs.«01_k».proof.Proof.Gen.ConvReferenceIdeal.Run
public import Idealize.ShloMosaic.Lib.Quiescent

@[expose] public section

noncomputable section

namespace Cert.Conv

open Idealize.ShloMosaic Idealize.ShloMosaic.TcCoe Idealize.SL.Sem

/-- The reference is host operations alone: it ends with its arguments as they were and every counter at zero. -/
theorem frame_ri : Cert.quiescent_ConvReferenceIdeal := fun m ρ _ =>
  (θ_run Cert.ConvReferenceIdeal.defs _ _).mono
    (fun r h => ⟨fun c => (h c).2.2.2, sem_eq_zero_of_no_sems (by decide) r.2⟩)
    (Cert.ConvReferenceIdeal.Value.run (F := Ideal) m ρ)

/-- The reference's whole results: the gradients in the projection's segments, in the branch's matrix and in the taps. -/
theorem res_seg (x0 : FVec Ideal Cert.ConvReferenceIdeal.S2048x7168 .f32) (x1 : FVec Ideal Cert.ConvReferenceIdeal.S3x1024 .f32)
    (x2 : FVec Ideal Cert.ConvReferenceIdeal.S1024x1024 .f32) (x3 : FVec Ideal Cert.ConvReferenceIdeal.S2048x1024 .f32) :
    Cert.ConvReferenceIdeal.Read.val_main_v61 (F := Ideal) x0 x1 x2 x3 = fun y => dseg x0 x1 x2 x3 (y 0) (y 2) (y 1) := by
  funext y
  have hy : y = ix3 (y 0) (y 1) (y 2) := by funext b; fin_cases b <;> rfl
  exact (congrArg _ hy).trans (ref_seg x0 x1 x2 x3 (y 0) (y 1) (y 2))

theorem res_br (x0 : FVec Ideal Cert.ConvReferenceIdeal.S2048x7168 .f32) (x1 : FVec Ideal Cert.ConvReferenceIdeal.S3x1024 .f32)
    (x3 : FVec Ideal Cert.ConvReferenceIdeal.S2048x1024 .f32) :
    Cert.ConvReferenceIdeal.Read.val_main_v62 (F := Ideal) x0 x1 x3 = fun y => dbr x0 x1 x3 (y 0) (y 1) := by
  funext y
  have hy : y = ix2 (y 0) (y 1) := by funext b; fin_cases b <;> rfl
  exact (congrArg _ hy).trans (ref_br x0 x1 x3 (y 0) (y 1))

theorem res_tap (x0 : FVec Ideal Cert.ConvReferenceIdeal.S2048x7168 .f32) (x2 : FVec Ideal Cert.ConvReferenceIdeal.S1024x1024 .f32)
    (x3 : FVec Ideal Cert.ConvReferenceIdeal.S2048x1024 .f32) :
    Cert.ConvReferenceIdeal.Read.val_main_v50 (F := Ideal) x0 x2 x3 = fun y => dtap x0 x2 x3 (y 0) (y 1) := by
  funext y
  have hy : y = ix2 (y 0) (y 1) := by funext b; fin_cases b <;> rfl
  exact (congrArg _ hy).trans (ref_tap x0 x2 x3 (y 0) (y 1))

/-- From equal arguments the call's three arrays and the reference's three results are the same gradients. -/
theorem equal : Cert.algebraic_ConvKernelIdeal_ConvReferenceIdeal := by
  intro m ρ m' ρ' _ hargs
  refine ⟨fun c => fun x => dseg (prj m c) (taps m c) (mat m c) (cot m c) (x 0) (x 2) (x 1),
    fun c => fun x => dbr (prj m c) (taps m c) (cot m c) (x 0) (x 1),
    fun c => fun x => dtap (prj m c) (mat m c) (cot m c) (x 0) (x 1), ?_, ?_⟩
  · refine (θ_run Cert.ConvKernelIdeal.defs _ _).mono (fun r h c => ?_) (Cert.ConvKernelIdeal.Value.run_blocks (F := Ideal) m ρ)
    obtain ⟨e0, e1, e2, k⟩ := h c
    exact ⟨e0.trans (arr_seg m c), e1.trans (arr_br m c), e2.trans (arr_tap m c), k⟩
  · refine (θ_run Cert.ConvReferenceIdeal.defs _ _).mono (fun r h c => ?_) (Cert.ConvReferenceIdeal.Value.run (F := Ideal) m' ρ')
    obtain ⟨e0, e1, e2, k⟩ := h c
    obtain ⟨a0, a1, a2, a3⟩ := hargs c
    refine ⟨(e0.trans (Cert.ConvReferenceIdeal.Read.val_main_v61_eq _ _)).trans ((res_seg _ _ _ _).trans ?_),
      (e1.trans (Cert.ConvReferenceIdeal.Read.val_main_v62_eq _ _ _)).trans ((res_br _ _ _).trans ?_),
      (e2.trans (Cert.ConvReferenceIdeal.Read.val_main_v50_eq _ _ _)).trans ((res_tap _ _ _).trans ?_), k⟩
    · rw [a0, a1, a2, a3]
      rfl
    · rw [a0, a1, a3]
      rfl
    · rw [a0, a2, a3]
      rfl

end Cert.Conv

end
-- ==== Proof.WgradPoint.lean ====
/- The gradient in the input projection's matrix: the operands of the call, and what its body computes at one grid point. -/
module

public import proofs.«01_k».proof.Proof.Gen.WgradKernelIdeal.Value
public import proofs.«01_k».proof.Proof.Gen.WgradReferenceIdeal.Read
public import Idealize.ShloMosaic.Lib.Pipeline.ValueKit
public import Idealize.ShloMosaic.Lib.Pointwise

@[expose] public section

set_option maxRecDepth 16384

noncomputable section

namespace Cert.Wgrad

open Idealize.ShloMosaic Idealize.ShloMosaic.TcCoe Idealize.SL.Sem Cert.WgradKernelIdeal Cert.WgradKernelIdeal.Gen

/-- Column `f` of the `n`-th block of 256 of the projection's 7168 columns. -/
def pcol (n : Fin 28) (f : Fin 256) : Fin 7168 := ⟨n.val * 256 + f.val, by omega⟩

/-- The point's number as a block's. -/
def num (t : Fin cfg0.N) : Fin 28 := ⟨t.val, lt_of_lt_of_eq t.isLt (show cfg0.N = 28 from N_0)⟩

variable (m : (ℓ : Loc nD τ sig) → Buf (Elt Ideal) ℓ) (c : Dev nD)

/-- The input argument on a device. -/
abbrev inp : FVec Ideal S2048x1024 .f32 := m (c, Proc.tc.devRef main_arg0)
/-- The cotangent argument on a device. -/
abbrev cot : FVec Ideal S2048x7168 .f32 := m (c, Proc.tc.devRef main_arg2)

/-- The cotangent's first three segments. -/
theorem host_conv (z : Fin 3) (i : Fin 2048) (j : Fin 1024) :
    V m c main_v3 (ix3 z i j) = cot m c (ix2 i ⟨z.val * 1024 + j.val, by omega⟩) := by
  entry_read
  pointwise

/-- The next two. -/
theorem host_lru (z : Fin 2) (i : Fin 2048) (j : Fin 1024) :
    V m c main_v4 (ix3 z i j) = cot m c (ix2 i ⟨(3 + z.val) * 1024 + j.val, by omega⟩) := by
  entry_read
  pointwise

/-- The last two. -/
theorem host_gates (z : Fin 2) (i : Fin 2048) (j : Fin 1024) :
    V m c main_v5 (ix3 z i j) = cot m c (ix2 i ⟨(5 + z.val) * 1024 + j.val, by omega⟩) := by
  entry_read
  pointwise

/-- The input, transposed. -/
theorem host_inp (i : Fin 1024) (j : Fin 2048) : V m c main_v7 (ix2 i j) = inp m c (ix2 j i) := by
  entry_read
  pointwise

/-- The segment's number as the body computes it, in words, from a point's two coordinates: the block's number divided by 4. -/
def segw (x y : ℕ) : BitVec 32 :=
  let n : BitVec 32 := Scalar.addi (Scalar.muli (BitVec.ofNat 32 x) 7#32) (BitVec.ofNat 32 y)
  Scalar.select
    (Scalar.andi
      (Scalar.cmpi .ne (Scalar.subi (Scalar.extui (Scalar.cmpi .sgt n 0#32)) (Scalar.extui (Scalar.cmpi .slt n 0#32)))
        (Scalar.subi (Scalar.extui (Scalar.cmpi .sgt 4#32 0#32)) (Scalar.extui (Scalar.cmpi .slt 4#32 0#32))))
      (Scalar.cmpi .ne (Scalar.remsi n 4#32) 0#32))
    (Scalar.subi (Scalar.divsi n 4#32) 1#32) (Scalar.divsi n 4#32)

/-- The first three segments are the first twelve blocks. -/
theorem seg_lt3 : ∀ t : Fin cfg0.N,
    Scalar.cmpi .slt (segw (grid0.coords t 0).val (grid0.coords t 1).val) 3#32 = if t.val < 12 then 1#1 else 0#1 :=
  (by decide +kernel : ∀ t : Fin grid0.N, _)

/-- The first five are the first twenty. -/
theorem seg_lt5 : ∀ t : Fin cfg0.N,
    Scalar.cmpi .slt (segw (grid0.coords t 0).val (grid0.coords t 1).val) 5#32 = if t.val < 20 then 1#1 else 0#1 :=
  (by decide +kernel : ∀ t : Fin grid0.N, _)

/-- A choice by a condition's word. -/
theorem select_if {p : Prop} [Decidable p] {α : Type} (x y : α) :
    Scalar.select (if p then 1#1 else 0#1) x y = if p then x else y := by
  by_cases h : p
  · rw [if_pos h, if_pos h]
    rfl
  · rw [if_neg h, if_neg h]
    rfl

/-- What the body stores at a point: the transposed input against the block of the segment that the point's number
    selects. -/
theorem pay (t : Fin cfg0.N) (g l k : Vec Ideal S1x2048x256 .bf16) (h : Vec Ideal S1024x2048 .bf16) (d : Fin 1024) (f : Fin 256) :
    k0_pay1 (grid0.coords t) g l k h (ix2 d f)
      = ∑ s : Fin 2048, h (ix2 d s) * (if t.val < 12 then k (ix3 0 s f) else if t.val < 20 then l (ix3 0 s f) else g (ix3 0 s f)) := by
  pointwise [k0_pay1]
  refine Finset.sum_congr rfl fun s _ => ?_
  show h (ix2 d s) * Scalar.select (Scalar.cmpi .slt (segw (grid0.coords t 0).val (grid0.coords t 1).val) 3#32) (k (ix3 0 s f))
    (Scalar.select (Scalar.cmpi .slt (segw (grid0.coords t 0).val (grid0.coords t 1).val) 5#32)
      (l (ix3 0 s f)) (g (ix3 0 s f))) = _
  rw [seg_lt3, seg_lt5, select_if, select_if]

/-- The segments' windows at a point: the block the body selects is the point's own block of the cotangent's columns. -/
theorem blk_cot (t : Fin cfg0.N) (s : Fin 2048) (f : Fin 256) :
    (if t.val < 12 then iblk m c 0 t (ix3 0 s f) else if t.val < 20 then iblk m c 1 t (ix3 0 s f) else iblk m c 2 t (ix3 0 s f))
      = cot m c (ix2 s (pcol (num t) f)) := by
  split
  · rename_i h
    have e0 : (cfg0.win 0).index t 0 = t.val / 4 := by revert h; decide +revert
    have e1 : (cfg0.win 0).index t 1 = 0 := by decide +revert
    have e2 : (cfg0.win 0).index t 2 = t.val % 4 := by revert h; decide +revert
    rw [← show V m c main_v3 (ix3 ⟨t.val / 4, by omega⟩ s ⟨t.val % 4 * 256 + f.val, by omega⟩) = cot m c (ix2 s (pcol (num t) f)) from by
      rw [host_conv]; congr 2; apply Fin.ext; simp only [pcol, num]; omega]
    blk_ext [iblk, e0, e1, e2]
  split
  · rename_i h h'
    have e0 : (cfg0.win 1).index t 0 = t.val / 4 - 3 := by revert h h'; decide +revert
    have e1 : (cfg0.win 1).index t 1 = 0 := by decide +revert
    have e2 : (cfg0.win 1).index t 2 = t.val % 4 := by revert h h'; decide +revert
    rw [← show V m c main_v4 (ix3 ⟨t.val / 4 - 3, by omega⟩ s ⟨t.val % 4 * 256 + f.val, by omega⟩) = cot m c (ix2 s (pcol (num t) f)) from by
      rw [host_lru]; congr 2; apply Fin.ext; simp only [pcol, num]; omega]
    blk_ext [iblk, e0, e1, e2]
  · rename_i h h'
    have hl := (num t).isLt
    have e0 : (cfg0.win 2).index t 0 = t.val / 4 - 5 := by revert h h'; decide +revert
    have e1 : (cfg0.win 2).index t 1 = 0 := by decide +revert
    have e2 : (cfg0.win 2).index t 2 = t.val % 4 := by revert h h'; decide +revert
    rw [← show V m c main_v5 (ix3 ⟨t.val / 4 - 5, by simp only [num] at hl; omega⟩ s ⟨t.val % 4 * 256 + f.val, by omega⟩) = cot m c (ix2 s (pcol (num t) f)) from by
      rw [host_gates]; congr 2; apply Fin.ext; simp only [pcol, num]; omega]
    blk_ext [iblk, e0, e1, e2]

/-- The input's window. -/
theorem blk_inp (t : Fin cfg0.N) (i : Fin 1024) (j : Fin 2048) : iblk m c 3 t (ix2 i j) = inp m c (ix2 j i) := by
  rw [← host_inp]
  have e0 : (cfg0.win 3).index t 0 = 0 := by decide +revert
  have e1 : (cfg0.win 3).index t 1 = 0 := by decide +revert
  blk_ext [iblk, e0, e1]

/-- The output block after a point. -/
theorem out_at (t : Fin cfg0.N) (d : Fin 1024) (f : Fin 256) :
    out0_4 (grid0.coords t) (iblk m c 0 t) (iblk m c 1 t) (iblk m c 2 t) (iblk m c 3 t) (ix2 d f)
      = ∑ s : Fin 2048, inp m c (ix2 s d) * cot m c (ix2 s (pcol (num t) f)) := by
  frame_out
  rw [pay]
  refine Finset.sum_congr rfl fun s _ => ?_
  rw [blk_cot, blk_inp]

/-- The gradient in the input projection's matrix: at row `d` and column `j`, the sum over the positions of the input's entry
    times the cotangent's. -/
def grad (x : FVec Ideal S2048x1024 .f32) (g : FVec Ideal S2048x7168 .f32) (d : Fin 1024) (j : Fin 7168) : EReal :=
  ∑ s : Fin 2048, x (ix2 s d) * g (ix2 s j)

/-- The array the call leaves. -/
theorem arr : (dats m 0 c).arrAt 4 cfg0.N = fun x => grad (inp m c) (cot m c) (x 0) (x 1) := by
  refine (dats m 0 c).arrAt_eq_of_covers 4 _ (by decide +kernel) fun t hf y => ?_
  have e0 : (cfg0.win 4).index t 0 = 0 := by decide +revert
  have e1 : (cfg0.win 4).index t 1 = t.val := by decide +revert
  have x0 : (((cfg0.win 4).blk t).view.emb y 0).val = (y 0).val := by blk_simp [e0]
  have x1 : (((cfg0.win 4).blk t).view.emb y 1).val = t.val * 256 + (y 1).val := by blk_simp [e1]
  blk_simp
  rw [after0_4]
  have hy : y = ix2 (y 0) (y 1) := by funext b; fin_cases b <;> rfl
  refine (congrArg _ hy).trans ((out_at m c t (y 0) (y 1)).trans ?_)
  show grad (inp m c) (cot m c) (y 0) (pcol (num t) (y 1)) = grad (inp m c) (cot m c) _ _
  exact congrArg₂ _ (Fin.ext x0.symm) (Fin.ext x1.symm)

/-- The reference's result is the same gradient. -/
theorem ref (x : FVec Ideal S2048x1024 .f32) (g : FVec Ideal S2048x7168 .f32) :
    Cert.WgradReferenceIdeal.Read.val_main_v4 (F := Ideal) x g = fun y => grad x g (y 0) (y 1) := by
  funext y
  rw [Cert.WgradReferenceIdeal.Read.val_main_v4_apply, Cert.WgradReferenceIdeal.Read.val_main_v2_apply,
    Cert.WgradReferenceIdeal.Read.val_main_v1_apply]
  refine Finset.sum_congr rfl fun s _ => ?_
  rw [mul_comm]
  congr 2 <;> funext b <;> fin_cases b <;> rfl

end Cert.Wgrad

end
-- ==== Proof.WgradEqual.lean ====
/- The claims about the call that makes the gradient in the input projection's matrix. -/
module

public import proofs.«01_k».proof.Defs
public import proofs.«01_k».proof.Proof.WgradPoint
public import proofs.«01_k».proof.Proof.Gen.WgradKernel.Frame
public import proofs.«01_k».proof.Proof.Gen.WgradReferenceIdeal.Run
public import Idealize.ShloMosaic.Lib.Quiescent

@[expose] public section

noncomputable section

namespace Cert.Wgrad

open Idealize.ShloMosaic Idealize.ShloMosaic.TcCoe Idealize.SL.Sem

/-- The reference is host operations alone: it ends with its arguments as they were and every counter at zero. -/
theorem frame_ri : Cert.quiescent_WgradReferenceIdeal := fun m ρ _ =>
  (θ_run Cert.WgradReferenceIdeal.defs _ _).mono
    (fun r h => ⟨fun c => (h c).2, sem_eq_zero_of_no_sems (by decide) r.2⟩)
    (Cert.WgradReferenceIdeal.Value.run (F := Ideal) m ρ)

/-- From equal arguments the call's array and the reference's result are the same gradient. -/
theorem equal : Cert.algebraic_WgradKernelIdeal_WgradReferenceIdeal := by
  intro m ρ m' ρ' _ hargs
  refine ⟨fun c => fun x => grad (inp m c) (cot m c) (x 0) (x 1), ?_, ?_⟩
  · refine (θ_run Cert.WgradKernelIdeal.defs _ _).mono (fun r h c => ?_) (Cert.WgradKernelIdeal.Value.run_blocks (F := Ideal) m ρ)
    obtain ⟨e, k⟩ := h c
    exact ⟨e.trans (arr m c), k⟩
  · refine (θ_run Cert.WgradReferenceIdeal.defs _ _).mono (fun r h c => ?_) (Cert.WgradReferenceIdeal.Value.run (F := Ideal) m' ρ')
    obtain ⟨e, k⟩ := h c
    refine ⟨(e.trans (Cert.WgradReferenceIdeal.Read.val_main_v4_eq _ _)).trans ((ref _ _).trans ?_), k⟩
    rw [(hargs c).1, (hargs c).2.2]
    rfl

end Cert.Wgrad

end
-- ==== Proof.DgradPoint.lean ====
/- The gradient that the input projection sends back to its input: the operands of the call, what its body computes at one
   grid point, and the array that it leaves. -/
module

public import proofs.«01_k».proof.Proof.WgradPoint
public import proofs.«01_k».proof.Proof.Gen.DgradKernelIdeal.Value
public import proofs.«01_k».proof.Proof.Gen.DgradReferenceIdeal.Read
public import Idealize.ShloMosaic.Lib.Pipeline.ValueKit
public import Idealize.ShloMosaic.Lib.Pointwise

@[expose] public section

set_option maxRecDepth 16384

noncomputable section

namespace Cert.Dgrad

open Idealize.ShloMosaic Idealize.ShloMosaic.TcCoe Idealize.SL.Sem Cert.DgradKernelIdeal Cert.DgradKernelIdeal.Gen
open Cert.Wgrad (pcol segw select_if)

/-- The point's number as a block's. -/
def num (t : Fin cfg0.N) : Fin 28 := ⟨t.val, lt_of_lt_of_eq t.isLt (show cfg0.N = 28 from N_0)⟩

variable (m : (ℓ : Loc nD τ sig) → Buf (Elt Ideal) ℓ) (c : Dev nD)

/-- The matrix argument on a device. -/
abbrev mat : FVec Ideal S1024x7168 .f32 := m (c, Proc.tc.devRef main_arg1)
/-- The cotangent argument on a device. -/
abbrev cot : FVec Ideal S2048x7168 .f32 := m (c, Proc.tc.devRef main_arg2)

/-- The cotangent's first three segments. -/
theorem host_conv (z : Fin 3) (i : Fin 2048) (j : Fin 1024) :
    V m c main_v3 (ix3 z i j) = cot m c (ix2 i ⟨z.val * 1024 + j.val, by omega⟩) := by
  entry_read
  pointwise

/-- The next two. -/
theorem host_lru (z : Fin 2) (i : Fin 2048) (j : Fin 1024) :
    V m c main_v4 (ix3 z i j) = cot m c (ix2 i ⟨(3 + z.val) * 1024 + j.val, by omega⟩) := by
  entry_read
  pointwise

/-- The last two. -/
theorem host_gates (z : Fin 2) (i : Fin 2048) (j : Fin 1024) :
    V m c main_v5 (ix3 z i j) = cot m c (ix2 i ⟨(5 + z.val) * 1024 + j.val, by omega⟩) := by
  entry_read
  pointwise

/-- The matrix, its columns cut in four. -/
theorem host_mat (z : Fin 4) (i : Fin 1024) (j : Fin 1792) :
    V m c main_v8 (ix3 z i j) = mat m c (ix2 i ⟨z.val * 1792 + j.val, by omega⟩) := by
  entry_read
  pointwise

/-- The first three segments are the first twelve blocks. -/
theorem seg_lt3 : ∀ t : Fin cfg0.N,
    Scalar.cmpi .slt (segw (grid0.coords t 0).val (grid0.coords t 1).val) 3#32 = if t.val < 12 then 1#1 else 0#1 :=
  (by decide +kernel : ∀ t : Fin grid0.N, _)

/-- The first five are the first twenty. -/
theorem seg_lt5 : ∀ t : Fin cfg0.N,
    Scalar.cmpi .slt (segw (grid0.coords t 0).val (grid0.coords t 1).val) 5#32 = if t.val < 20 then 1#1 else 0#1 :=
  (by decide +kernel : ∀ t : Fin grid0.N, _)

/-- The block of the cotangent that the body selects by the point's number. -/
theorem pay_sel (t : Fin cfg0.N) (g l k : Vec Ideal S1x2048x256 .bf16) (s : Fin 2048) (f : Fin 256) :
    k0_pay2 (grid0.coords t) g l k (ix2 s f)
      = if t.val < 12 then k (ix3 0 s f) else if t.val < 20 then l (ix3 0 s f) else g (ix3 0 s f) := by
  pointwise [k0_pay2]
  show Scalar.select (Scalar.cmpi .slt (segw (grid0.coords t 0).val (grid0.coords t 1).val) 3#32) (k (ix3 0 s f))
    (Scalar.select (Scalar.cmpi .slt (segw (grid0.coords t 0).val (grid0.coords t 1).val) 5#32)
      (l (ix3 0 s f)) (g (ix3 0 s f))) = _
  rw [seg_lt3, seg_lt5, select_if, select_if]

/-- A point's addition: the selected block against the same columns of the matrix. -/
theorem pay_add (b : FVec Ideal S2048x256 .bf16) (o : Vec Ideal S2048x1024 .f32) (w : Vec Ideal S1x1024x256 .bf16)
    (i : Fin 2048) (d : Fin 1024) :
    k0_pay1 b o w (ix2 i d) = o (ix2 i d) + ∑ f : Fin 256, b (ix2 i f) * w (ix3 0 d f) := by
  pointwise [k0_pay1]

/-- The first point's accumulator starts at zero. -/
theorem pay_zero (i : Fin 2048) (d : Fin 1024) : k0_pay3 (F := Ideal) (ix2 i d) = (0 : EReal) := by
  pointwise [k0_pay3]

/-- The segments' windows at a point: the block the body selects is the point's own block of the cotangent's columns. -/
theorem blk_cot (t : Fin cfg0.N) (s : Fin 2048) (f : Fin 256) :
    (if t.val < 12 then iblk m c 0 t (ix3 0 s f) else if t.val < 20 then iblk m c 1 t (ix3 0 s f) else iblk m c 2 t (ix3 0 s f))
      = cot m c (ix2 s (pcol (num t) f)) := by
  split
  · rename_i h
    have e0 : (cfg0.win 0).index t 0 = t.val / 4 := by revert h; decide +revert
    have e1 : (cfg0.win 0).index t 1 = 0 := by decide +revert
    have e2 : (cfg0.win 0).index t 2 = t.val % 4 := by revert h; decide +revert
    rw [← show V m c main_v3 (ix3 ⟨t.val / 4, by omega⟩ s ⟨t.val % 4 * 256 + f.val, by omega⟩) = cot m c (ix2 s (pcol (num t) f)) from by
      rw [host_conv]; congr 2; apply Fin.ext; simp only [pcol, num]; omega]
    blk_ext [iblk, e0, e1, e2]
  split
  · rename_i h h'
    have e0 : (cfg0.win 1).index t 0 = t.val / 4 - 3 := by revert h h'; decide +revert
    have e1 : (cfg0.win 1).index t 1 = 0 := by decide +revert
    have e2 : (cfg0.win 1).index t 2 = t.val % 4 := by revert h h'; decide +revert
    rw [← show V m c main_v4 (ix3 ⟨t.val / 4 - 3, by omega⟩ s ⟨t.val % 4 * 256 + f.val, by omega⟩) = cot m c (ix2 s (pcol (num t) f)) from by
      rw [host_lru]; congr 2; apply Fin.ext; simp only [pcol, num]; omega]
    blk_ext [iblk, e0, e1, e2]
  · rename_i h h'
    have hl := (num t).isLt
    have e0 : (cfg0.win 2).index t 0 = t.val / 4 - 5 := by revert h h'; decide +revert
    have e1 : (cfg0.win 2).index t 1 = 0 := by decide +revert
    have e2 : (cfg0.win 2).index t 2 = t.val % 4 := by revert h h'; decide +revert
    rw [← show V m c main_v5 (ix3 ⟨t.val / 4 - 5, by simp only [num] at hl; omega⟩ s ⟨t.val % 4 * 256 + f.val, by omega⟩) = cot m c (ix2 s (pcol (num t) f)) from by
      rw [host_gates]; congr 2; apply Fin.ext; simp only [pcol, num]; omega]
    blk_ext [iblk, e0, e1, e2]

/-- The matrix's window at a point: the point's own block of its columns. -/
theorem blk_mat (t : Fin cfg0.N) (z : Fin 1) (d : Fin 1024) (f : Fin 256) :
    iblk m c 3 t (ix3 z d f) = mat m c (ix2 d (pcol (num t) f)) := by
  have hl := (num t).isLt
  rw [← show V m c main_v8 (ix3 ⟨t.val / 7, by simp only [num] at hl; omega⟩ d ⟨t.val % 7 * 256 + f.val, by omega⟩) = mat m c (ix2 d (pcol (num t) f)) from by
    rw [host_mat]; congr 2; apply Fin.ext; simp only [pcol, num]; omega]
  have e0 : (cfg0.win 3).index t 0 = t.val / 7 := by decide +revert
  have e1 : (cfg0.win 3).index t 1 = 0 := by decide +revert
  have e2 : (cfg0.win 3).index t 2 = t.val % 7 := by decide +revert
  blk_ext [iblk, e0, e1, e2]

/-- What one block of columns adds to the gradient in the input. -/
def part (w : FVec Ideal S1024x7168 .f32) (g : FVec Ideal S2048x7168 .f32) (b : Fin 28) (i : Fin 2048) (d : Fin 1024) : EReal :=
  ∑ f : Fin 256, g (ix2 i (pcol b f)) * w (ix2 d (pcol b f))

/-- The gradient in the input: at position `i` and entry `d`, the sum over the columns of the cotangent's entry times the
    matrix's. -/
def grad (w : FVec Ideal S1024x7168 .f32) (g : FVec Ideal S2048x7168 .f32) (i : Fin 2048) (d : Fin 1024) : EReal :=
  ∑ j : Fin 7168, g (ix2 i j) * w (ix2 d j)

/-- The gradient is the sum of the blocks' parts. -/
theorem grad_parts (w : FVec Ideal S1024x7168 .f32) (g : FVec Ideal S2048x7168 .f32) (i : Fin 2048) (d : Fin 1024) :
    grad w g i d = ∑ b : Fin 28, part w g b i d := by
  unfold grad part
  rw [← Fintype.sum_prod_type']
  refine (Fintype.sum_equiv (finProdFinEquiv (m := 28) (n := 256)) _ _ fun x => ?_).symm
  have e : pcol x.1 x.2 = finProdFinEquiv x := by
    apply Fin.ext
    simp only [pcol, finProdFinEquiv_apply_val]
    omega
  rw [e]

/-- A point's step, from what the accumulator held. -/
theorem step_at (t : Fin cfg0.N) (o : Vec Ideal S2048x1024 .f32) (i : Fin 2048) (d : Fin 1024) :
    k0_pay1 (k0_pay2 (grid0.coords t) (iblk m c 2 t) (iblk m c 1 t) (iblk m c 0 t)) o (iblk m c 3 t) (ix2 i d)
      = o (ix2 i d) + part (mat m c) (cot m c) (num t) i d := by
  rw [pay_add]
  congr 1
  refine Finset.sum_congr rfl fun f _ => ?_
  rw [pay_sel, blk_cot, blk_mat]

/-- The accumulator after point `n`: the parts of the blocks up to `n`. -/
theorem acc_upto (n : ℕ) (hn : n < cfg0.N) (i : Fin 2048) (d : Fin 1024) :
    outsAt0 m c n hn (ix2 i d) = ∑ b ∈ Finset.range (n + 1), part (mat m c) (cot m c) ⟨min b 27, by omega⟩ i d := by
  induction n generalizing i d with
  | zero =>
    rw [outsAt0_A m c ⟨0, hn⟩ (Nat.zero_mod 28), Value.out_A_4_eq]
    refine (step_at m c ⟨0, hn⟩ _ i d).trans ?_
    rw [pay_zero, zero_add, Finset.sum_range_one]
    rfl
  | succ n ih =>
    have hlt := lt_of_lt_of_eq hn (show cfg0.N = 28 from N_0)
    rw [outsAt0_B m c ⟨n + 1, hn⟩ (by show ¬(n + 1) % 28 = 0; omega), Value.out_B_4_eq]
    refine (step_at m c ⟨n + 1, hn⟩ _ i d).trans ?_
    rw [Finset.sum_range_succ]
    refine congrArg₂ (· + ·) (ih (by omega) i d) ?_
    congr 1
    apply Fin.ext
    simp only [num]
    omega

/-- After the last point it is the whole gradient. -/
theorem acc_last (h : 27 < cfg0.N) (i : Fin 2048) (d : Fin 1024) :
    outsAt0 m c 27 h (ix2 i d) = grad (mat m c) (cot m c) i d := by
  rw [acc_upto m c 27 h, Finset.sum_range, grad_parts]
  refine Finset.sum_congr rfl fun b _ => ?_
  congr 1
  apply Fin.ext
  show min b.val 27 = b.val
  omega

/-- The array the call leaves. -/
theorem arr : (dats m 0 c).arrAt 4 cfg0.N = fun x => grad (mat m c) (cot m c) (x 0) (x 1) := by
  refine (dats m 0 c).arrAt_eq_of_after_last 4 (⟨27, by decide⟩ : Fin grid0.N) (by decide +kernel) _ fun j => ?_
  blk_simp
  refine (congrFun (after0_4 m c (⟨27, by decide⟩ : Fin cfg0.N)) _).trans ?_
  have hj : (fun b => ⟨(j b).val, (j b).isLt⟩ : (cfg0.win 4).shape.Idx) = ix2 (j 0) (j 1) := by
    funext b
    fin_cases b <;> rfl
  exact (congrArg _ hj).trans (acc_last m c (by decide) (j 0) (j 1))

/-- The reference's result is the same gradient. -/
theorem ref (w : FVec Ideal S1024x7168 .f32) (g : FVec Ideal S2048x7168 .f32) :
    Cert.DgradReferenceIdeal.Read.val_main_v3 (F := Ideal) w g = fun y => grad w g (y 0) (y 1) := by
  funext y
  rw [Cert.DgradReferenceIdeal.Read.val_main_v3_apply]
  refine Finset.sum_congr rfl fun s _ => ?_
  congr 2 <;> funext b <;> fin_cases b <;> rfl

end Cert.Dgrad

end
-- ==== Proof.DgradEqual.lean ====
/- The claims about the call that makes the gradient that the input projection sends back. -/
module

public import proofs.«01_k».proof.Defs
public import proofs.«01_k».proof.Proof.DgradPoint
public import proofs.«01_k».proof.Proof.Gen.DgradKernel.Frame
public import proofs.«01_k».proof.Proof.Gen.DgradReferenceIdeal.Run
public import Idealize.ShloMosaic.Lib.Quiescent

@[expose] public section

noncomputable section

namespace Cert.Dgrad

open Idealize.ShloMosaic Idealize.ShloMosaic.TcCoe Idealize.SL.Sem

/-- The reference is host operations alone: it ends with its arguments as they were and every counter at zero. -/
theorem frame_ri : Cert.quiescent_DgradReferenceIdeal := fun m ρ _ =>
  (θ_run Cert.DgradReferenceIdeal.defs _ _).mono
    (fun r h => ⟨fun c => (h c).2, sem_eq_zero_of_no_sems (by decide) r.2⟩)
    (Cert.DgradReferenceIdeal.Value.run (F := Ideal) m ρ)

/-- From equal arguments the call's array and the reference's result are the same gradient. -/
theorem equal : Cert.algebraic_DgradKernelIdeal_DgradReferenceIdeal := by
  intro m ρ m' ρ' _ hargs
  refine ⟨fun c => fun x => grad (mat m c) (cot m c) (x 0) (x 1), ?_, ?_⟩
  · refine (θ_run Cert.DgradKernelIdeal.defs _ _).mono (fun r h c => ?_) (Cert.DgradKernelIdeal.Value.run_blocks (F := Ideal) m ρ)
    obtain ⟨e, k⟩ := h c
    exact ⟨e.trans (arr m c), k⟩
  · refine (θ_run Cert.DgradReferenceIdeal.defs _ _).mono (fun r h c => ?_) (Cert.DgradReferenceIdeal.Value.run (F := Ideal) m' ρ')
    obtain ⟨e, k⟩ := h c
    refine ⟨(e.trans (Cert.DgradReferenceIdeal.Read.val_main_v3_eq _ _)).trans ((ref _ _).trans ?_), k⟩
    rw [(hargs c).2.1, (hargs c).2.2]
    rfl

end Cert.Dgrad

end
-- ==== Proof.ProjPoint.lean ====
/- The input projection: the operands of the call, what its body computes at one grid point, and the array that it leaves. -/
module

public import proofs.«01_k».proof.Proof.WgradPoint
public import proofs.«01_k».proof.Proof.Gen.ProjKernelIdeal.Value
public import proofs.«01_k».proof.Proof.Gen.ProjReferenceIdeal.Read
public import Idealize.ShloMosaic.Lib.Pipeline.ValueKit
public import Idealize.ShloMosaic.Lib.Pointwise

@[expose] public section

set_option maxRecDepth 16384

noncomputable section

namespace Cert.Proj

open Idealize.ShloMosaic Idealize.ShloMosaic.TcCoe Idealize.SL.Sem Cert.ProjKernelIdeal Cert.ProjKernelIdeal.Gen
open Cert.Wgrad (pcol)

/-- The point's number as a block's. -/
def num (t : Fin cfg0.N) : Fin 28 := ⟨t.val, lt_of_lt_of_eq t.isLt (show cfg0.N = 28 from N_0)⟩

variable (m : (ℓ : Loc nD τ sig) → Buf (Elt Ideal) ℓ) (c : Dev nD)

/-- The input argument on a device. -/
abbrev inp : FVec Ideal S2048x1024 .f32 := m (c, Proc.tc.devRef main_arg0)
/-- The matrix argument on a device. -/
abbrev mat : FVec Ideal S1024x7168 .f32 := m (c, Proc.tc.devRef main_arg1)

/-- The input. -/
theorem host_inp (i : Fin 2048) (j : Fin 1024) : V m c main_v0 (ix2 i j) = inp m c (ix2 i j) := by
  entry_read
  pointwise

/-- The matrix, its columns cut in four. -/
theorem host_mat (z : Fin 4) (i : Fin 1024) (j : Fin 1792) :
    V m c main_v3 (ix3 z i j) = mat m c (ix2 i ⟨z.val * 1792 + j.val, by omega⟩) := by
  entry_read
  pointwise

/-- What the body stores at a point: the input against the point's block of the matrix. -/
theorem pay (x : Vec Ideal S2048x1024 .bf16) (w : Vec Ideal S1x1024x256 .bf16) (i : Fin 2048) (f : Fin 256) :
    k0_pay1 x w (ix2 i f) = ∑ d : Fin 1024, x (ix2 i d) * w (ix3 0 d f) := by
  pointwise [k0_pay1]

/-- The input's window. -/
theorem blk_inp (t : Fin cfg0.N) (i : Fin 2048) (j : Fin 1024) : iblk m c 0 t (ix2 i j) = inp m c (ix2 i j) := by
  rw [← host_inp]
  have e0 : (cfg0.win 0).index t 0 = 0 := by decide +revert
  have e1 : (cfg0.win 0).index t 1 = 0 := by decide +revert
  blk_ext [iblk, e0, e1]

/-- The matrix's window at a point: the point's own block of its columns. -/
theorem blk_mat (t : Fin cfg0.N) (z : Fin 1) (d : Fin 1024) (f : Fin 256) :
    iblk m c 1 t (ix3 z d f) = mat m c (ix2 d (pcol (num t) f)) := by
  have hl := (num t).isLt
  rw [← show V m c main_v3 (ix3 ⟨t.val / 7, by simp only [num] at hl; omega⟩ d ⟨t.val % 7 * 256 + f.val, by omega⟩) = mat m c (ix2 d (pcol (num t) f)) from by
    rw [host_mat]; congr 2; apply Fin.ext; simp only [pcol, num]; omega]
  have e0 : (cfg0.win 1).index t 0 = t.val / 7 := by decide +revert
  have e1 : (cfg0.win 1).index t 1 = 0 := by decide +revert
  have e2 : (cfg0.win 1).index t 2 = t.val % 7 := by decide +revert
  blk_ext [iblk, e0, e1, e2]

/-- The projection: at position `i` and column `j`, the input's row against the matrix's column. -/
def prod (x : FVec Ideal S2048x1024 .f32) (w : FVec Ideal S1024x7168 .f32) (i : Fin 2048) (j : Fin 7168) : EReal :=
  ∑ d : Fin 1024, x (ix2 i d) * w (ix2 d j)

/-- The output block after a point. -/
theorem out_at (t : Fin cfg0.N) (i : Fin 2048) (f : Fin 256) :
    out0_2 (iblk m c 0 t) (iblk m c 1 t) (ix2 i f) = prod (inp m c) (mat m c) i (pcol (num t) f) := by
  frame_out
  rw [pay]
  refine Finset.sum_congr rfl fun d _ => ?_
  rw [blk_inp, blk_mat]

/-- The array the call leaves. -/
theorem arr : (dats m 0 c).arrAt 2 cfg0.N = fun x => prod (inp m c) (mat m c) (x 0) (x 1) := by
  refine (dats m 0 c).arrAt_eq_of_covers 2 _ (by decide +kernel) fun t hf y => ?_
  have e0 : (cfg0.win 2).index t 0 = 0 := by decide +revert
  have e1 : (cfg0.win 2).index t 1 = t.val := by decide +revert
  have x0 : (((cfg0.win 2).blk t).view.emb y 0).val = (y 0).val := by blk_simp [e0]
  have x1 : (((cfg0.win 2).blk t).view.emb y 1).val = t.val * 256 + (y 1).val := by blk_simp [e1]
  blk_simp
  rw [after0_2]
  have hy : y = ix2 (y 0) (y 1) := by funext b; fin_cases b <;> rfl
  refine (congrArg _ hy).trans ((out_at m c t (y 0) (y 1)).trans ?_)
  exact congrArg₂ _ (Fin.ext x0.symm) (Fin.ext x1.symm)

/-- The reference's result is the same product. -/
theorem ref (x : FVec Ideal S2048x1024 .f32) (w : FVec Ideal S1024x7168 .f32) :
    Cert.ProjReferenceIdeal.Read.val_main_v0 (F := Ideal) x w = fun y => prod x w (y 0) (y 1) := by
  funext y
  rw [Cert.ProjReferenceIdeal.Read.val_main_v0_apply]
  refine Finset.sum_congr rfl fun s _ => ?_
  congr 2 <;> funext b <;> fin_cases b <;> rfl

end Cert.Proj

end
-- ==== Proof.ProjEqual.lean ====
/- The claims about the input projection's call. -/
module

public import proofs.«01_k».proof.Defs
public import proofs.«01_k».proof.Proof.ProjPoint
public import proofs.«01_k».proof.Proof.Gen.ProjKernel.Frame
public import proofs.«01_k».proof.Proof.Gen.ProjReferenceIdeal.Run
public import Idealize.ShloMosaic.Lib.Quiescent

@[expose] public section

noncomputable section

namespace Cert.Proj

open Idealize.ShloMosaic Idealize.ShloMosaic.TcCoe Idealize.SL.Sem

/-- The reference is host operations alone: it ends with its arguments as they were and every counter at zero. -/
theorem frame_ri : Cert.quiescent_ProjReferenceIdeal := fun m ρ _ =>
  (θ_run Cert.ProjReferenceIdeal.defs _ _).mono
    (fun r h => ⟨fun c => (h c).2, sem_eq_zero_of_no_sems (by decide) r.2⟩)
    (Cert.ProjReferenceIdeal.Value.run (F := Ideal) m ρ)

/-- From equal arguments the call's array and the reference's result are the same product. -/
theorem equal : Cert.algebraic_ProjKernelIdeal_ProjReferenceIdeal := by
  intro m ρ m' ρ' _ hargs
  refine ⟨fun c => fun x => prod (inp m c) (mat m c) (x 0) (x 1), ?_, ?_⟩
  · refine (θ_run Cert.ProjKernelIdeal.defs _ _).mono (fun r h c => ?_) (Cert.ProjKernelIdeal.Value.run_blocks (F := Ideal) m ρ)
    obtain ⟨e, k⟩ := h c
    exact ⟨e.trans (arr m c), k⟩
  · refine (θ_run Cert.ProjReferenceIdeal.defs _ _).mono (fun r h c => ?_) (Cert.ProjReferenceIdeal.Value.run (F := Ideal) m' ρ')
    obtain ⟨e, k⟩ := h c
    refine ⟨(e.trans (Cert.ProjReferenceIdeal.Read.val_main_v0_eq _ _)).trans ((ref _ _).trans ?_), k⟩
    rw [(hargs c).1, (hargs c).2]
    rfl

end Cert.Proj

end
-- ==== Proof.UpArrays.lean ====
/- The layer's forward call: what each grid point leaves, and the three arrays of the call. -/
module

public import proofs.«01_k».proof.Proof.UpPoint
public import proofs.«01_k».proof.Proof.State

@[expose] public section

set_option maxRecDepth 16384

noncomputable section

namespace Cert.UpFwd

open Idealize.ShloMosaic Idealize.ShloMosaic.TcCoe Idealize.SL.Sem Cert.UpKernelIdeal Cert.UpKernelIdeal.Gen
open Cert.Ffn (col half_idx)

variable (m : (ℓ : Loc nD τ sig) → Buf (Elt Ideal) ℓ) (c : Dev nD)

/-- The windows of the input and of the matrix's two blocks, by their shapes. -/
abbrev xb (t : Fin cfg0.N) : Vec Ideal S2048x1024 .bf16 := iblk m c 0 t
abbrev gb (t : Fin cfg0.N) : Vec Ideal S1x1024x256 .bf16 := iblk m c 1 t
abbrev vb (t : Fin cfg0.N) : Vec Ideal S1x1024x256 .bf16 := iblk m c 2 t

/-- The point's block of the gate's projection, and of the value's. -/
theorem sum_gate (t : Fin cfg0.N) (i : Fin 2048) (f : Fin 256) :
    ∑ d : Fin 1024, xb m c t (ix2 i d) * gb m c t (ix3 0 d f) = up (inp m c) (mat m c) (bcol 0 (num t) f) i :=
  Finset.sum_congr rfl fun d _ => congrArg₂ _ (blk0 m c t i d) (blk1 m c t 0 d f)

theorem sum_val (t : Fin cfg0.N) (i : Fin 2048) (f : Fin 256) :
    ∑ d : Fin 1024, xb m c t (ix2 i d) * vb m c t (ix3 0 d f) = up (inp m c) (mat m c) (bcol 1 (num t) f) i :=
  Finset.sum_congr rfl fun d _ => congrArg₂ _ (blk0 m c t i d) (blk2 m c t 0 d f)

/-- The stored blocks of the projection are the projected blocks. -/
theorem pay_up_gate {x : Vec Ideal S2048x1024 .bf16} {w : Vec Ideal S1x1024x256 .bf16} (z : Fin 1) (i : Fin 2048) (f : Fin 256) :
    k0_pay7 (View.ld x r0_0) (View.ld w r0_1) (ix3 z i f) = ∑ d : Fin 1024, x (ix2 i d) * w (ix3 0 d f) := by
  pointwise [k0_pay7, k0_pay5, k0_pay4]

theorem pay_up_val {x : Vec Ideal S2048x1024 .bf16} {w : Vec Ideal S1x1024x256 .bf16} (z : Fin 1) (i : Fin 2048) (f : Fin 256) :
    k0_pay8 (View.ld x r0_0) (View.ld w r0_1) (ix3 z i f) = ∑ d : Fin 1024, x (ix2 i d) * w (ix3 0 d f) := by
  pointwise [k0_pay8, k0_pay6, k0_pay4]

/-- The projection at a point: the block's columns of each half. -/
theorem up_at (t : Fin cfg0.N) (z : Fin 2) (i : Fin 2048) (f : Fin 256) :
    out0_7 (iblk m c 0 t) (iblk m c 1 t) (iblk m c 2 t) (iblk m c 3 t) (iblk m c 4 t) (iblk m c 5 t) (iblk m c 6 t) (ix3 z i f)
      = up (inp m c) (mat m c) (bcol z (num t) f) i := by
  unfold out0_7
  canon_tiles x h
  · rw [half_idx x i f h1 h2, show z = 1 by simp at *; omega, pay_up_val]
    exact sum_val m c t i f
  · rw [half_idx x i f h1 h2, show z = 0 by simp at *; omega, pay_up_gate]
    exact sum_gate m c t i f

/-- The stored blocks of the convolution are the convolved blocks. -/
theorem pay_act_gate (a : FVec Ideal S1x256 .f32) (b d e : FVec Ideal S2048x256 .f32) (x y : Vec Ideal S1x256 .f32) (z : Fin 1) (i : Fin 2048) (f : Fin 256) :
    k0_pay1 (k0_pay15 a b d e x y) (ix3 z i f) = k0_pay13 a b d e x y (ix2 i f) := by
  pointwise [k0_pay1, k0_pay15]

theorem pay_act_val (a : FVec Ideal S2048x256 .f32) (z : Fin 1) (i : Fin 2048) (f : Fin 256) : k0_pay2 a (ix3 z i f) = a (ix2 i f) := by
  pointwise [k0_pay2]

/-- The two convolutions at a point. -/
theorem gate_at (t : Fin cfg0.N) (i : Fin 2048) (f : Fin 256) :
    conv (fun s => up (inp m c) (mat m c) (bcol 0 (num t) f) s) (iblk m c 3 t (ix2 0 f)) (iblk m c 3 t (ix2 1 f)) (iblk m c 3 t (ix2 2 f))
        (iblk m c 5 t (ix2 0 f)) i
      = cv (inp m c) (mat m c) (taps m c) (bias m c) (bcol 0 (num t) f) i := by
  rw [blk3, blk3, blk3, blk5]
  rfl

theorem val_at (t : Fin cfg0.N) (i : Fin 2048) (f : Fin 256) :
    conv (fun s => up (inp m c) (mat m c) (bcol 1 (num t) f) s) (iblk m c 4 t (ix2 0 f)) (iblk m c 4 t (ix2 1 f)) (iblk m c 4 t (ix2 2 f))
        (iblk m c 6 t (ix2 0 f)) i
      = cv (inp m c) (mat m c) (taps m c) (bias m c) (bcol 1 (num t) f) i := by
  rw [blk4, blk4, blk4, blk6]
  rfl

/-- The convolution at a point. -/
theorem act_at (t : Fin cfg0.N) (z : Fin 2) (i : Fin 2048) (f : Fin 256) :
    out0_8 (iblk m c 0 t) (iblk m c 1 t) (iblk m c 2 t) (iblk m c 3 t) (iblk m c 4 t) (iblk m c 5 t) (iblk m c 6 t) (ix3 z i f)
      = cv (inp m c) (mat m c) (taps m c) (bias m c) (bcol z (num t) f) i := by
  unfold out0_8
  canon_tiles x h
  · rw [half_idx x i f h1 h2, show z = 1 by simp at *; omega, pay_act_val, val_conv _ _ _ _ _ _ _ (sum_val m c t), val_at]
  · rw [half_idx x i f h1 h2, show z = 0 by simp at *; omega, pay_act_gate, gate_conv _ _ _ _ _ _ _ (sum_gate m c t), gate_at]

/-- The gated product at a point. -/
theorem ff_at (t : Fin cfg0.N) (i : Fin 2048) (f : Fin 256) :
    out0_9 (iblk m c 0 t) (iblk m c 1 t) (iblk m c 2 t) (iblk m c 3 t) (iblk m c 4 t) (iblk m c 5 t) (iblk m c 6 t) (ix2 i f)
      = ff (inp m c) (mat m c) (taps m c) (bias m c) ⟨(num t).val * 256 + f.val, by omega⟩ i := by
  unfold out0_9
  canon_tiles x h
  have hx : x = ix2 i f := by
    funext b
    fin_cases b
    · exact Fin.ext h0.symm
    · exact Fin.ext h1.symm
  rw [hx, pay_ff, val_conv _ _ _ _ _ _ _ (sum_val m c t), val_at, gate_conv _ _ _ _ _ _ _ (sum_gate m c t), gate_at]
  rfl

/-- An entry of the block and of the array at equal coordinates. -/
theorem at_congr (q : Fin 6144 → Fin 2048 → EReal) {t : Fin cfg0.N} {z z' : Fin 2} {i i' : Fin 2048} {f : Fin 256} {f' : Fin 3072}
    (hz : z'.val = z.val) (hi : i'.val = i.val) (hf : f'.val = t.val * 256 + f.val) : q (bcol z (num t) f) i = q (col z' f') i' := by
  rw [Fin.ext hz, Fin.ext hi, bcol, show f' = ⟨(num t).val * 256 + f.val, by omega⟩ from Fin.ext hf]

/-- The first array: the projection, its columns in two halves. -/
theorem arr_up : (dats m 0 c).arrAt 7 cfg0.N = fun x => up (inp m c) (mat m c) (col (x 0) (x 2)) (x 1) := by
  refine (dats m 0 c).arrAt_eq_of_covers 7 _ (by decide +kernel) fun t hf y => ?_
  have e0 : (cfg0.win 7).index t 0 = 0 := by decide +revert
  have e1 : (cfg0.win 7).index t 1 = 0 := by decide +revert
  have e2 : (cfg0.win 7).index t 2 = t.val := by decide +revert
  have x0 : (((cfg0.win 7).blk t).view.emb y 0).val = (y 0).val := by blk_simp [e0]
  have x1 : (((cfg0.win 7).blk t).view.emb y 1).val = (y 1).val := by blk_simp [e1]
  have x2 : (((cfg0.win 7).blk t).view.emb y 2).val = t.val * 256 + (y 2).val := by blk_simp [e2]
  blk_simp
  rw [after0_7]
  have hy : y = ix3 (y 0) (y 1) (y 2) := by funext b; fin_cases b <;> rfl
  exact (congrArg _ hy).trans ((up_at m c t (y 0) (y 1) (y 2)).trans (at_congr (up (inp m c) (mat m c)) x0 x1 x2))

/-- The second: the convolution, its columns in two halves. -/
theorem arr_act : (dats m 0 c).arrAt 8 cfg0.N = fun x => cv (inp m c) (mat m c) (taps m c) (bias m c) (col (x 0) (x 2)) (x 1) := by
  refine (dats m 0 c).arrAt_eq_of_covers 8 _ (by decide +kernel) fun t hf y => ?_
  have e0 : (cfg0.win 8).index t 0 = 0 := by decide +revert
  have e1 : (cfg0.win 8).index t 1 = 0 := by decide +revert
  have e2 : (cfg0.win 8).index t 2 = t.val := by decide +revert
  have x0 : (((cfg0.win 8).blk t).view.emb y 0).val = (y 0).val := by blk_simp [e0]
  have x1 : (((cfg0.win 8).blk t).view.emb y 1).val = (y 1).val := by blk_simp [e1]
  have x2 : (((cfg0.win 8).blk t).view.emb y 2).val = t.val * 256 + (y 2).val := by blk_simp [e2]
  blk_simp
  rw [after0_8]
  have hy : y = ix3 (y 0) (y 1) (y 2) := by funext b; fin_cases b <;> rfl
  exact (congrArg _ hy).trans ((act_at m c t (y 0) (y 1) (y 2)).trans
    (at_congr (cv (inp m c) (mat m c) (taps m c) (bias m c)) x0 x1 x2))

/-- The third: the gated product. -/
theorem arr_ff : (dats m 0 c).arrAt 9 cfg0.N = fun x => ff (inp m c) (mat m c) (taps m c) (bias m c) (x 1) (x 0) := by
  refine (dats m 0 c).arrAt_eq_of_covers 9 _ (by decide +kernel) fun t hf y => ?_
  have e0 : (cfg0.win 9).index t 0 = 0 := by decide +revert
  have e1 : (cfg0.win 9).index t 1 = t.val := by decide +revert
  have x0 : (((cfg0.win 9).blk t).view.emb y 0).val = (y 0).val := by blk_simp [e0]
  have x1 : (((cfg0.win 9).blk t).view.emb y 1).val = t.val * 256 + (y 1).val := by blk_simp [e1]
  blk_simp
  rw [after0_9]
  have hy : y = ix2 (y 0) (y 1) := by funext b; fin_cases b <;> rfl
  refine (congrArg _ hy).trans ((ff_at m c t (y 0) (y 1)).trans ?_)
  exact congrArg₂ _ (Fin.ext x1.symm) (Fin.ext x0.symm)

end Cert.UpFwd

end
-- ==== Proof.UpRef.lean ====
/- The layer's forward call: the reference's three results by the same formulas. -/
module

public import proofs.«01_k».proof.Proof.UpPoint
public import proofs.«01_k».proof.Proof.Host
public import proofs.«01_k».proof.Proof.Gen.UpReferenceIdeal.Read

@[expose] public section

set_option maxRecDepth 16384

noncomputable section

namespace Cert.UpFwd

open Idealize.ShloMosaic Idealize.ShloMosaic.TcCoe Idealize.SL.Sem Cert.UpReferenceIdeal Cert.UpReferenceIdeal.Gen
open Cert.UpReferenceIdeal.Read
open Cert.Ffn (col lit_quot)

variable (x0 : FVec Ideal S2048x1024 .f32) (x1 : FVec Ideal S1024x6144 .f32) (x2 : FVec Ideal S3x6144 .f32) (x3 : FVec Ideal S6144 .f32)

/-- The up projection. -/
theorem ref_up (s : Fin 2048) (j : Fin 6144) : val_main_v0 (F := Ideal) x0 x1 (ix2 s j) = up x0 x1 j s := by
  pointwise [val_main_v0]
  rfl

/-- The columns delayed by two, by one and not at all. -/
theorem ref_back2 (s : Fin 2048) (j : Fin 6144) : val_main_v3 (F := Ideal) x0 x1 (ix2 s j) = back 2 (up x0 x1 j) s := by
  pointwise [val_main_v3, val_main_v2, val_main_v1, val_main_cst]
  simp only [ref_up]
  unfold back
  by_cases h : s.val < 2
  · rw [dif_pos h, dif_neg (by omega)]
  · rw [dif_neg h, dif_pos (by omega)]

theorem ref_back1 (s : Fin 2048) (j : Fin 6144) : val_main_v7 (F := Ideal) x0 x1 (ix2 s j) = back 1 (up x0 x1 j) s := by
  pointwise [val_main_v7, val_main_v2, val_main_v1, val_main_cst]
  simp only [ref_up]
  unfold back
  by_cases h : 1 + s.val < 2
  · rw [dif_pos h, dif_neg (by omega)]
  · rw [dif_neg h, dif_pos (by omega)]
    congr 2
    omega

theorem ref_back0 (s : Fin 2048) (j : Fin 6144) : val_main_v12 (F := Ideal) x0 x1 (ix2 s j) = up x0 x1 j s := by
  pointwise [val_main_v12, val_main_v2, val_main_v1, val_main_cst]
  exact ref_up x0 x1 s j

/-- The convolution. -/
theorem ref_cv (s : Fin 2048) (j : Fin 6144) : val_main_v19 (F := Ideal) x0 x1 x2 x3 (ix2 s j) = cv x0 x1 x2 x3 j s := by
  pointwise [val_main_v19, val_main_v18, val_main_v17, val_main_v16, val_main_v15, val_main_v14, val_main_v13, val_main_v11,
    val_main_v10, val_main_v9, val_main_v8, val_main_v6, val_main_v5, val_main_v4]
  rw [ref_back0, ref_back1, ref_back2, cv, conv, mul_comm (up x0 x1 j s), mul_comm (back 1 _ s), mul_comm (back 2 _ s),
    add_comm (_ + _) (_ * up x0 x1 j s), add_comm (_ * back 2 _ s), ← add_assoc]

/-- Its two halves. -/
theorem ref_gate (s : Fin 2048) (f : Fin 3072) : val_main_v20 (F := Ideal) x0 x1 x2 x3 (ix2 s f) = cv x0 x1 x2 x3 (col 0 f) s := by
  pointwise [val_main_v20]
  refine (ref_cv x0 x1 x2 x3 s _).trans ?_
  congr 1
  apply Fin.ext
  simp [col]

theorem ref_val (s : Fin 2048) (f : Fin 3072) : val_main_v21 (F := Ideal) x0 x1 x2 x3 (ix2 s f) = cv x0 x1 x2 x3 (col 1 f) s := by
  pointwise [val_main_v21]
  refine (ref_cv x0 x1 x2 x3 s _).trans ?_
  congr 1

/-- The first result. -/
theorem res_up : val_main_v23 (F := Ideal) x0 x1 = fun y => up x0 x1 (col (y 0) (y 2)) (y 1) := by
  funext y
  rw [show y = ix3 (y 0) (y 1) (y 2) by funext b; fin_cases b <;> rfl]
  pointwise [val_main_v23, val_main_v22]
  refine (ref_up x0 x1 _ _).trans ?_
  congr 1

/-- The second. -/
theorem res_act : val_main_v26 (F := Ideal) x0 x1 x2 x3 = fun y => cv x0 x1 x2 x3 (col (y 0) (y 2)) (y 1) := by
  funext y
  rw [show y = ix3 (y 0) (y 1) (y 2) by funext b; fin_cases b <;> rfl]
  pointwise [val_main_v26, val_main_v25, val_main_v24]
  refine (ref_cv x0 x1 x2 x3 _ _).trans ?_
  congr 1

/-- The gated product. -/
theorem ref_ff (s : Fin 2048) (f : Fin 3072) : val_main_v42 (F := Ideal) x0 x1 x2 x3 (ix2 s f) = ff x0 x1 x2 x3 f s := by
  pointwise [val_main_v42, val_main_v41, val_main_v40, val_main_v39, val_main_v38, val_main_v37, val_main_v36, val_main_v35,
    val_main_v34, val_main_v33, val_main_v32, val_main_v31, val_main_v30, val_main_v29, val_main_v28, val_main_v27, val_main_cst_0,
    val_main_cst_1, val_main_cst_2, val_main_cst_3, val_main_cst_4]
  rw [ref_gate, ref_val, lit_quot, ff, act]
  simp only [mul_assoc, mul_comm, mul_left_comm]

/-- The third. -/
theorem res_ff : val_main_v42 (F := Ideal) x0 x1 x2 x3 = fun y => ff x0 x1 x2 x3 (y 1) (y 0) := by
  funext y
  have hy : y = ix2 (y 0) (y 1) := by funext b; fin_cases b <;> rfl
  exact (congrArg _ hy).trans (ref_ff x0 x1 x2 x3 (y 0) (y 1))

end Cert.UpFwd

end
-- ==== Proof.UpEqual.lean ====
/- The claims about the layer's forward call. -/
module

public import proofs.«01_k».proof.Defs
public import proofs.«01_k».proof.Proof.UpArrays
public import proofs.«01_k».proof.Proof.UpRef
public import proofs.«01_k».proof.Proof.Gen.UpKernel.Frame
public import proofs.«01_k».proof.Proof.Gen.UpKernelIdeal.Value
public import proofs.«01_k».proof.Proof.Gen.UpReferenceIdeal.Run
public import Idealize.ShloMosaic.Lib.Quiescent

@[expose] public section

noncomputable section

namespace Cert.UpFwd

open Idealize.ShloMosaic Idealize.ShloMosaic.TcCoe Idealize.SL.Sem

/-- The reference is host operations alone: it ends with its arguments as they were and every counter at zero. -/
theorem frame_ri : Cert.quiescent_UpReferenceIdeal := fun m ρ _ =>
  (θ_run Cert.UpReferenceIdeal.defs _ _).mono
    (fun r h => ⟨fun c => (h c).2.2.2, sem_eq_zero_of_no_sems (by decide) r.2⟩)
    (Cert.UpReferenceIdeal.Value.run (F := Ideal) m ρ)

/-- The one named constant of the idealized call is 0.044715. -/
theorem named : Cert.preserves_UpKernel_UpKernelIdeal :=
  IdealRules.named_const.statement Cert.UpKernelIdeal.κ _ _ _ _ rfl

/-- From equal arguments the call's three arrays and the reference's three results are the same: the projection, its convolution
    and the gated product. -/
theorem equal : Cert.algebraic_UpKernelIdeal_UpReferenceIdeal := by
  intro m ρ m' ρ' _ hargs
  refine ⟨fun c => fun x => up (inp m c) (mat m c) (Cert.Ffn.col (x 0) (x 2)) (x 1),
    fun c => fun x => cv (inp m c) (mat m c) (taps m c) (bias m c) (Cert.Ffn.col (x 0) (x 2)) (x 1),
    fun c => fun x => ff (inp m c) (mat m c) (taps m c) (bias m c) (x 1) (x 0), ?_, ?_⟩
  · refine (θ_run Cert.UpKernelIdeal.defs _ _).mono (fun r h c => ?_) (Cert.UpKernelIdeal.Value.run_blocks (F := Ideal) m ρ)
    obtain ⟨e0, e1, e2, k⟩ := h c
    exact ⟨e0.trans (arr_up m c), e1.trans (arr_act m c), e2.trans (arr_ff m c), k⟩
  · refine (θ_run Cert.UpReferenceIdeal.defs _ _).mono (fun r h c => ?_) (Cert.UpReferenceIdeal.Value.run (F := Ideal) m' ρ')
    obtain ⟨e0, e1, e2, k⟩ := h c
    obtain ⟨a0, a1, a2, a3⟩ := hargs c
    refine ⟨(e0.trans (Cert.UpReferenceIdeal.Read.val_main_v23_eq _ _)).trans ((res_up _ _).trans ?_),
      (e1.trans (Cert.UpReferenceIdeal.Read.val_main_v26_eq _ _ _ _)).trans ((res_act _ _ _ _).trans ?_),
      (e2.trans (Cert.UpReferenceIdeal.Read.val_main_v42_eq _ _)).trans ((res_ff _ _ _ _).trans ?_), k⟩
    · rw [a0, a1]
      rfl
    · rw [a0, a1, a2, a3]
      rfl
    · rw [a0, a1, a2, a3]
      rfl

end Cert.UpFwd

end
-- ==== Proof.ConvFwdEqual.lean ====
/- The convolution mixer's forward call: the operands, what each grid point leaves, the two arrays, and the claims. -/
module

public import proofs.«01_k».proof.Defs
public import proofs.«01_k».proof.Proof.ConvRef
public import proofs.«01_k».proof.Proof.Gen.ConvFwdKernel.Frame
public import proofs.«01_k».proof.Proof.Gen.ConvFwdKernelIdeal.Value
public import proofs.«01_k».proof.Proof.Gen.ConvFwdReferenceIdeal.Read
public import Idealize.ShloMosaic.Lib.Quiescent

@[expose] public section

set_option maxRecDepth 16384

noncomputable section

namespace Cert.ConvFwd

open Idealize.ShloMosaic Idealize.ShloMosaic.TcCoe Idealize.SL.Sem Cert.ConvFwdKernelIdeal Cert.ConvFwdKernelIdeal.Gen
open Cert.UpFwd (back mask_scaled)
open Cert.Conv (seg pr q bcol)

variable (m : (ℓ : Loc nD τ sig) → Buf (Elt Ideal) ℓ) (c : Dev nD)

/-- The arguments on a device: the input projection and the taps. -/
abbrev prj : FVec Ideal S2048x7168 .f32 := m (c, Proc.tc.devRef main_arg0)
abbrev taps : FVec Ideal S3x1024 .f32 := m (c, Proc.tc.devRef main_arg1)

/-- The grid's point as the number of its block of 256 columns. -/
def num (t : Fin cfg0.N) : Fin 4 := ⟨t.val, lt_of_lt_of_eq t.isLt (show cfg0.N = 4 from N_0)⟩

/-- The windows at a point: the point's block of the three segments' columns and of the taps'. -/
theorem blk0 (t : Fin cfg0.N) (i : Fin 2048) (f : Fin 256) : iblk m c 0 t (ix2 i f) = prj m c (ix2 i (seg 0 (bcol (num t) f))) := by
  rw [prj, ← V_main_arg0 m c]
  have e0 : (cfg0.win 0).index t 0 = 0 := by decide +revert
  have e1 : (cfg0.win 0).index t 1 = t.val := by decide +revert
  blk_ext [iblk, e0, e1, bcol, num, seg]

theorem blk1 (t : Fin cfg0.N) (i : Fin 2048) (f : Fin 256) : iblk m c 1 t (ix2 i f) = prj m c (ix2 i (seg 1 (bcol (num t) f))) := by
  rw [prj, ← V_main_arg0 m c]
  have e0 : (cfg0.win 1).index t 0 = 0 := by decide +revert
  have e1 : (cfg0.win 1).index t 1 = 4 + t.val := by decide +revert
  blk_ext [iblk, e0, e1, bcol, num, seg]

theorem blk2 (t : Fin cfg0.N) (i : Fin 2048) (f : Fin 256) : iblk m c 2 t (ix2 i f) = prj m c (ix2 i (seg 2 (bcol (num t) f))) := by
  rw [prj, ← V_main_arg0 m c]
  have e0 : (cfg0.win 2).index t 0 = 0 := by decide +revert
  have e1 : (cfg0.win 2).index t 1 = 8 + t.val := by decide +revert
  blk_ext [iblk, e0, e1, bcol, num, seg]

theorem blk3 (t : Fin cfg0.N) (k : Fin 3) (f : Fin 256) : iblk m c 3 t (ix2 k f) = taps m c (ix2 k (bcol (num t) f)) := by
  rw [taps, ← V_main_arg1 m c]
  have e0 : (cfg0.win 3).index t 0 = 0 := by decide +revert
  have e1 : (cfg0.win 3).index t 1 = t.val := by decide +revert
  blk_ext [iblk, e0, e1, bcol, num]

/-- The stored convolution. -/
theorem pay_q (x1 x2 : Vec Ideal S2048x256 .f32) (x3 : Vec Ideal S3x256 .f32) {p : Fin 2048 → Fin 256 → EReal}
    (h : ∀ i f, x1 (ix2 i f) * x2 (ix2 i f) = p i f) (i : Fin 2048) (f : Fin 256) :
    k0_pay1 (View.ld x1 r0_0) (View.ld x2 r0_0) (View.ld x3 r0_1) (View.ld x3 r0_2) (View.ld x3 r0_3) (ix2 i f)
      = x3 (ix2 2 f) * p i f + x3 (ix2 1 f) * back 1 (fun s => p s f) i + x3 (ix2 0 f) * back 2 (fun s => p s f) i := by
  pointwise [k0_pay1]
  rw [h]
  exact congrArg₂ (· + ·) (congrArg₂ (· + ·) rfl (mask_scaled (x := fun y => x1 y * x2 y) h _ 1 (by omega) i f _)) (mask_scaled (x := fun y => x1 y * x2 y) h _ 2 (by omega) i f _)

/-- The stored product of the gate and the convolution. -/
theorem pay_ya (x0 x1 x2 : Vec Ideal S2048x256 .f32) (x3 : Vec Ideal S3x256 .f32) (i : Fin 2048) (f : Fin 256) :
    k0_pay2 (View.ld x1 r0_0) (View.ld x2 r0_0) (View.ld x3 r0_1) (View.ld x3 r0_2) (View.ld x3 r0_3) (View.ld x0 r0_0) (ix2 i f)
      = x0 (ix2 i f) * k0_pay1 (View.ld x1 r0_0) (View.ld x2 r0_0) (View.ld x3 r0_1) (View.ld x3 r0_2) (View.ld x3 r0_3) (ix2 i f) := by
  pointwise [k0_pay2]

/-- The windows of the two factors, by their shapes. -/
abbrev bb (t : Fin cfg0.N) : Vec Ideal S2048x256 .f32 := iblk m c 0 t
abbrev cb (t : Fin cfg0.N) : Vec Ideal S2048x256 .f32 := iblk m c 1 t
abbrev sb (t : Fin cfg0.N) : Vec Ideal S2048x256 .f32 := iblk m c 2 t
abbrev tb (t : Fin cfg0.N) : Vec Ideal S3x256 .f32 := iblk m c 3 t

/-- The convolution at a point. -/
theorem q_pay (t : Fin cfg0.N) (i : Fin 2048) (f : Fin 256) :
    k0_pay1 (View.ld (cb m c t) r0_0) (View.ld (sb m c t) r0_0) (View.ld (tb m c t) r0_1) (View.ld (tb m c t) r0_2)
        (View.ld (tb m c t) r0_3) (ix2 i f)
      = q (prj m c) (taps m c) (bcol (num t) f) i := by
  rw [pay_q (cb m c t) (sb m c t) (tb m c t) (p := fun i f => pr (prj m c) (bcol (num t) f) i)
    (fun i f => congrArg₂ _ (blk1 m c t i f) (blk2 m c t i f)), tb, blk3, blk3, blk3, q, mul_comm (taps m c (ix2 2 _)),
    mul_comm (taps m c (ix2 1 _)), mul_comm (taps m c (ix2 0 _)), add_comm (_ * _) (back 1 _ _ * _), add_comm (_ + _) (back 2 _ _ * _),
    ← add_assoc]

theorem q_at (t : Fin cfg0.N) (i : Fin 2048) (f : Fin 256) :
    out0_4 (iblk m c 0 t) (iblk m c 1 t) (iblk m c 2 t) (iblk m c 3 t) (ix2 i f) = q (prj m c) (taps m c) (bcol (num t) f) i := by
  unfold out0_4
  canon_tiles x h
  have hx : x = ix2 i f := by
    funext b
    fin_cases b
    · exact Fin.ext h0.symm
    · exact Fin.ext h1.symm
  rw [hx]
  exact q_pay m c t i f

/-- The product at a point. -/
theorem ya_at (t : Fin cfg0.N) (i : Fin 2048) (f : Fin 256) :
    out0_5 (iblk m c 0 t) (iblk m c 1 t) (iblk m c 2 t) (iblk m c 3 t) (ix2 i f)
      = prj m c (ix2 i (seg 0 (bcol (num t) f))) * q (prj m c) (taps m c) (bcol (num t) f) i := by
  unfold out0_5
  canon_tiles x h
  have hx : x = ix2 i f := by
    funext b
    fin_cases b
    · exact Fin.ext h0.symm
    · exact Fin.ext h1.symm
  rw [hx, pay_ya]
  exact congrArg₂ _ (blk0 m c t i f) (q_pay m c t i f)

/-- The call's first array: the convolution. -/
theorem arr_q : (dats m 0 c).arrAt 4 cfg0.N = fun x => q (prj m c) (taps m c) (x 1) (x 0) := by
  refine (dats m 0 c).arrAt_eq_of_covers 4 _ (by decide +kernel) fun t hf y => ?_
  have e0 : (cfg0.win 4).index t 0 = 0 := by decide +revert
  have e1 : (cfg0.win 4).index t 1 = t.val := by decide +revert
  have x0 : (((cfg0.win 4).blk t).view.emb y 0).val = (y 0).val := by blk_simp [e0]
  have x1 : (((cfg0.win 4).blk t).view.emb y 1).val = t.val * 256 + (y 1).val := by blk_simp [e1]
  blk_simp
  rw [after0_4]
  have hy : y = ix2 (y 0) (y 1) := by funext b; fin_cases b <;> rfl
  refine (congrArg _ hy).trans ((q_at m c t (y 0) (y 1)).trans ?_)
  exact congrArg₂ _ (Fin.ext x1.symm) (Fin.ext x0.symm)

/-- The second: its product with the gate. -/
theorem arr_ya : (dats m 0 c).arrAt 5 cfg0.N = fun x => prj m c (ix2 (x 0) (seg 0 (x 1))) * q (prj m c) (taps m c) (x 1) (x 0) := by
  refine (dats m 0 c).arrAt_eq_of_covers 5 _ (by decide +kernel) fun t hf y => ?_
  have e0 : (cfg0.win 5).index t 0 = 0 := by decide +revert
  have e1 : (cfg0.win 5).index t 1 = t.val := by decide +revert
  have x0 : (((cfg0.win 5).blk t).view.emb y 0).val = (y 0).val := by blk_simp [e0]
  have x1 : (((cfg0.win 5).blk t).view.emb y 1).val = t.val * 256 + (y 1).val := by blk_simp [e1]
  blk_simp
  rw [after0_5]
  have hy : y = ix2 (y 0) (y 1) := by funext b; fin_cases b <;> rfl
  refine (congrArg _ hy).trans ((ya_at m c t (y 0) (y 1)).trans ?_)
  exact congrArg₂ (fun i j => prj m c (ix2 i (seg 0 j)) * q (prj m c) (taps m c) j i) (Fin.ext x0.symm) (Fin.ext x1.symm)

section
open Cert.ConvFwdReferenceIdeal.Read
variable (x0 : FVec Ideal S2048x7168 .f32) (x1 : FVec Ideal S3x1024 .f32)

/-- The reference's two results. -/
theorem res_q : val_main_v19 (F := Ideal) x0 x1 = fun y => q x0 x1 (y 1) (y 0) := by
  funext y
  have hy : y = ix2 (y 0) (y 1) := by funext b; fin_cases b <;> rfl
  exact (congrArg _ hy).trans (Cert.Conv.ref_q x0 x1 (y 0) (y 1))

theorem res_ya : val_main_v21 (F := Ideal) x0 x1 = fun y => x0 (ix2 (y 0) (seg 0 (y 1))) * q x0 x1 (y 1) (y 0) := by
  funext y
  have hy : y = ix2 (y 0) (y 1) := by funext b; fin_cases b <;> rfl
  exact (congrArg _ hy).trans
    (congrArg₂ (fun a b : EReal => a * b) (Cert.Conv.ref_b x0 (y 0) (y 1)) (Cert.Conv.ref_q x0 x1 (y 0) (y 1)))

end

/-- The reference is host operations alone: it ends with its arguments as they were and every counter at zero. -/
theorem frame_ri : Cert.quiescent_ConvFwdReferenceIdeal := fun m ρ _ =>
  (θ_run Cert.ConvFwdReferenceIdeal.defs _ _).mono
    (fun r h => ⟨fun c => (h c).2.2, sem_eq_zero_of_no_sems (by decide) r.2⟩)
    (Cert.ConvFwdReferenceIdeal.Value.run (F := Ideal) m ρ)

/-- From equal arguments the call's two arrays and the reference's two results are the same: the convolution and its product
    with the gate. -/
theorem equal : Cert.algebraic_ConvFwdKernelIdeal_ConvFwdReferenceIdeal := by
  intro m ρ m' ρ' _ hargs
  refine ⟨fun c => fun x => q (prj m c) (taps m c) (x 1) (x 0),
    fun c => fun x => prj m c (ix2 (x 0) (seg 0 (x 1))) * q (prj m c) (taps m c) (x 1) (x 0), ?_, ?_⟩
  · refine (θ_run Cert.ConvFwdKernelIdeal.defs _ _).mono (fun r h c => ?_) (Cert.ConvFwdKernelIdeal.Value.run_blocks (F := Ideal) m ρ)
    obtain ⟨e0, e1, k⟩ := h c
    exact ⟨e0.trans (arr_q m c), e1.trans (arr_ya m c), k⟩
  · refine (θ_run Cert.ConvFwdReferenceIdeal.defs _ _).mono (fun r h c => ?_) (Cert.ConvFwdReferenceIdeal.Value.run (F := Ideal) m' ρ')
    obtain ⟨e0, e1, k⟩ := h c
    obtain ⟨a0, a1⟩ := hargs c
    refine ⟨(e0.trans (Cert.ConvFwdReferenceIdeal.Read.val_main_v19_eq _ _)).trans ((res_q _ _).trans ?_),
      (e1.trans (Cert.ConvFwdReferenceIdeal.Read.val_main_v21_eq _ _)).trans ((res_ya _ _).trans ?_), k⟩
    · rw [a0, a1]
      rfl
    · rw [a0, a1]
      rfl

end Cert.ConvFwd

end
-- ==== Proof.SigPoint.lean ====
/- The logistic function of the branch merge's gates, over the extended reals, and the columns of its two gates. -/
module

public import Idealize.ShloMosaic.PureOps.Ideal.Laws

@[expose] public section

noncomputable section

namespace Cert.Merge

open Idealize.ShloMosaic

/-- The logistic function. -/
def sg (x : EReal) : EReal := Ideal.div 1 (1 + Ideal.exp (-x))

/-- Column `j` of gate `z` in the input projection: the gate of the convolution branch, and of the recurrent one. -/
def gcol (z : Fin 2) (j : Fin 1024) : Fin 7168 := ⟨5120 + z.val * 1024 + j.val, by omega⟩

end Cert.Merge

end
-- ==== Proof.MergeEqual.lean ====
/- The branch merge's forward call: the operands, what each grid point leaves, the three arrays, and the claims. -/
module

public import proofs.«01_k».proof.Defs
public import proofs.«01_k».proof.Proof.SigPoint
public import proofs.«01_k».proof.Proof.Gen.MergeKernel.Frame
public import proofs.«01_k».proof.Proof.Gen.MergeKernelIdeal.Value
public import proofs.«01_k».proof.Proof.Gen.MergeReferenceIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.Merge

open Idealize.ShloMosaic Idealize.ShloMosaic.TcCoe Idealize.SL.Sem Cert.MergeKernelIdeal Cert.MergeKernelIdeal.Gen

/-! ## The formulas -/

/-- A branch through its matrix. -/
def br (y : FVec Ideal S2048x1024 .f32) (w : FVec Ideal S1024x1024 .f32) (i : Fin 2048) (j : Fin 1024) : EReal :=
  ∑ d : Fin 1024, y (ix2 i d) * w (ix2 d j)

/-- The gated sum of the two branches. -/
def mg (ya yb : FVec Ideal S2048x1024 .f32) (wa wb : FVec Ideal S1024x1024 .f32) (p : FVec Ideal S2048x7168 .f32) (i : Fin 2048)
    (j : Fin 1024) : EReal :=
  sg (p (ix2 i (gcol 0 j))) * br ya wa i j + sg (p (ix2 i (gcol 1 j))) * br yb wb i j

/-! ## The operands -/

variable (m : (ℓ : Loc nD τ sig) → Buf (Elt Ideal) ℓ) (c : Dev nD)

/-- The arguments on a device: the two branches, their matrices and the input projection. -/
abbrev ya : FVec Ideal S2048x1024 .f32 := m (c, Proc.tc.devRef main_arg0)
abbrev yb : FVec Ideal S2048x1024 .f32 := m (c, Proc.tc.devRef main_arg1)
abbrev wa : FVec Ideal S1024x1024 .f32 := m (c, Proc.tc.devRef main_arg2)
abbrev wb : FVec Ideal S1024x1024 .f32 := m (c, Proc.tc.devRef main_arg3)
abbrev prj : FVec Ideal S2048x7168 .f32 := m (c, Proc.tc.devRef main_arg4)

/-- The two branches and their matrices. -/
theorem host_ya (i : Fin 2048) (j : Fin 1024) : V m c main_v0 (ix2 i j) = ya m c (ix2 i j) := by
  entry_read
  pointwise

theorem host_yb (i : Fin 2048) (j : Fin 1024) : V m c main_v1 (ix2 i j) = yb m c (ix2 i j) := by
  entry_read
  pointwise

theorem host_wa (i : Fin 1024) (j : Fin 1024) : V m c main_v2 (ix2 i j) = wa m c (ix2 i j) := by
  entry_read
  pointwise

theorem host_wb (i : Fin 1024) (j : Fin 1024) : V m c main_v3 (ix2 i j) = wb m c (ix2 i j) := by
  entry_read
  pointwise

/-- The grid's point as the number of its block of 256 columns. -/
def num (t : Fin cfg0.N) : Fin 4 := ⟨t.val, lt_of_lt_of_eq t.isLt (show cfg0.N = 4 from N_0)⟩
/-- Column `f` of block `b`. -/
def bcol (b : Fin 4) (f : Fin 256) : Fin 1024 := ⟨b.val * 256 + f.val, by omega⟩

/-- The windows at a point: the branches whole, and the point's block of the matrices' columns and of the gates'. -/
theorem blk0 (t : Fin cfg0.N) (i : Fin 2048) (j : Fin 1024) : iblk m c 0 t (ix2 i j) = ya m c (ix2 i j) := by
  rw [← host_ya]
  have e0 : (cfg0.win 0).index t 0 = 0 := by decide +revert
  have e1 : (cfg0.win 0).index t 1 = 0 := by decide +revert
  blk_ext [iblk, e0, e1]

theorem blk1 (t : Fin cfg0.N) (i : Fin 2048) (j : Fin 1024) : iblk m c 1 t (ix2 i j) = yb m c (ix2 i j) := by
  rw [← host_yb]
  have e0 : (cfg0.win 1).index t 0 = 0 := by decide +revert
  have e1 : (cfg0.win 1).index t 1 = 0 := by decide +revert
  blk_ext [iblk, e0, e1]

theorem blk2 (t : Fin cfg0.N) (d : Fin 1024) (f : Fin 256) : iblk m c 2 t (ix2 d f) = wa m c (ix2 d (bcol (num t) f)) := by
  rw [← host_wa]
  have e0 : (cfg0.win 2).index t 0 = 0 := by decide +revert
  have e1 : (cfg0.win 2).index t 1 = t.val := by decide +revert
  blk_ext [iblk, e0, e1, bcol, num]

theorem blk3 (t : Fin cfg0.N) (d : Fin 1024) (f : Fin 256) : iblk m c 3 t (ix2 d f) = wb m c (ix2 d (bcol (num t) f)) := by
  rw [← host_wb]
  have e0 : (cfg0.win 3).index t 0 = 0 := by decide +revert
  have e1 : (cfg0.win 3).index t 1 = t.val := by decide +revert
  blk_ext [iblk, e0, e1, bcol, num]

theorem blk4 (t : Fin cfg0.N) (i : Fin 2048) (f : Fin 256) : iblk m c 4 t (ix2 i f) = prj m c (ix2 i (gcol 0 (bcol (num t) f))) := by
  rw [prj, ← V_main_arg4 m c]
  have e0 : (cfg0.win 4).index t 0 = 0 := by decide +revert
  have e1 : (cfg0.win 4).index t 1 = 20 + t.val := by decide +revert
  blk_ext [iblk, e0, e1, bcol, num, gcol]

theorem blk5 (t : Fin cfg0.N) (i : Fin 2048) (f : Fin 256) : iblk m c 5 t (ix2 i f) = prj m c (ix2 i (gcol 1 (bcol (num t) f))) := by
  rw [prj, ← V_main_arg4 m c]
  have e0 : (cfg0.win 5).index t 0 = 0 := by decide +revert
  have e1 : (cfg0.win 5).index t 1 = 24 + t.val := by decide +revert
  blk_ext [iblk, e0, e1, bcol, num, gcol]

/-! ## The body -/

section
variable (x0 x1 : Vec Ideal S2048x1024 .bf16) (x2 x3 : Vec Ideal S1024x256 .bf16) (x4 x5 : Vec Ideal S2048x256 .f32)

/-- The two products. -/
theorem pay_a (i : Fin 2048) (f : Fin 256) :
    k0_pay1 (View.ld x0 r0_0) (View.ld x2 r0_1) (ix2 i f) = ∑ d : Fin 1024, x0 (ix2 i d) * x2 (ix2 d f) := by
  pointwise [k0_pay1]

theorem pay_b (i : Fin 2048) (f : Fin 256) :
    k0_pay2 (View.ld x1 r0_0) (View.ld x3 r0_1) (ix2 i f) = ∑ d : Fin 1024, x1 (ix2 i d) * x3 (ix2 d f) := by
  pointwise [k0_pay2]

/-- The gated sum. -/
theorem pay_m (i : Fin 2048) (f : Fin 256) :
    k0_pay3 (View.ld x0 r0_0) (View.ld x2 r0_1) (View.ld x1 r0_0) (View.ld x3 r0_1) (View.ld x4 r0_2) (View.ld x5 r0_2) (ix2 i f)
      = sg (x4 (ix2 i f)) * (∑ d : Fin 1024, x0 (ix2 i d) * x2 (ix2 d f))
        + sg (x5 (ix2 i f)) * (∑ d : Fin 1024, x1 (ix2 i d) * x3 (ix2 d f)) := by
  rw [← pay_a, ← pay_b]
  pointwise [k0_pay3]
  rw [zero_sub, zero_sub]
  rfl

end

/-- The windows of the branches and of the matrices' blocks, by their shapes. -/
abbrev ab (t : Fin cfg0.N) : Vec Ideal S2048x1024 .bf16 := iblk m c 0 t
abbrev lb (t : Fin cfg0.N) : Vec Ideal S2048x1024 .bf16 := iblk m c 1 t
abbrev ub (t : Fin cfg0.N) : Vec Ideal S1024x256 .bf16 := iblk m c 2 t
abbrev vb (t : Fin cfg0.N) : Vec Ideal S1024x256 .bf16 := iblk m c 3 t

theorem sum_a (t : Fin cfg0.N) (i : Fin 2048) (f : Fin 256) :
    ∑ d : Fin 1024, ab m c t (ix2 i d) * ub m c t (ix2 d f) = br (ya m c) (wa m c) i (bcol (num t) f) :=
  Finset.sum_congr rfl fun d _ => congrArg₂ _ (blk0 m c t i d) (blk2 m c t d f)

theorem sum_b (t : Fin cfg0.N) (i : Fin 2048) (f : Fin 256) :
    ∑ d : Fin 1024, lb m c t (ix2 i d) * vb m c t (ix2 d f) = br (yb m c) (wb m c) i (bcol (num t) f) :=
  Finset.sum_congr rfl fun d _ => congrArg₂ _ (blk1 m c t i d) (blk3 m c t d f)

/-- The two branches at a point, and their gated sum. -/
theorem a_at (t : Fin cfg0.N) (i : Fin 2048) (f : Fin 256) :
    out0_6 (iblk m c 0 t) (iblk m c 1 t) (iblk m c 2 t) (iblk m c 3 t) (iblk m c 4 t) (iblk m c 5 t) (ix2 i f)
      = br (ya m c) (wa m c) i (bcol (num t) f) := by
  unfold out0_6
  canon_tiles x h
  have hx : x = ix2 i f := by
    funext b
    fin_cases b
    · exact Fin.ext h0.symm
    · exact Fin.ext h1.symm
  rw [hx, pay_a]
  exact sum_a m c t i f

theorem b_at (t : Fin cfg0.N) (i : Fin 2048) (f : Fin 256) :
    out0_7 (iblk m c 0 t) (iblk m c 1 t) (iblk m c 2 t) (iblk m c 3 t) (iblk m c 4 t) (iblk m c 5 t) (ix2 i f)
      = br (yb m c) (wb m c) i (bcol (num t) f) := by
  unfold out0_7
  canon_tiles x h
  have hx : x = ix2 i f := by
    funext b
    fin_cases b
    · exact Fin.ext h0.symm
    · exact Fin.ext h1.symm
  rw [hx, pay_b]
  exact sum_b m c t i f

theorem m_at (t : Fin cfg0.N) (i : Fin 2048) (f : Fin 256) :
    out0_8 (iblk m c 0 t) (iblk m c 1 t) (iblk m c 2 t) (iblk m c 3 t) (iblk m c 4 t) (iblk m c 5 t) (ix2 i f)
      = mg (ya m c) (yb m c) (wa m c) (wb m c) (prj m c) i (bcol (num t) f) := by
  unfold out0_8
  canon_tiles x h
  have hx : x = ix2 i f := by
    funext b
    fin_cases b
    · exact Fin.ext h0.symm
    · exact Fin.ext h1.symm
  rw [hx, pay_m, blk4, blk5]
  exact congrArg₂ _ (congrArg₂ _ rfl (sum_a m c t i f)) (congrArg₂ _ rfl (sum_b m c t i f))

/-- The call's three arrays. -/
theorem arr_a : (dats m 0 c).arrAt 6 cfg0.N = fun x => br (ya m c) (wa m c) (x 0) (x 1) := by
  refine (dats m 0 c).arrAt_eq_of_covers 6 _ (by decide +kernel) fun t hf y => ?_
  have e0 : (cfg0.win 6).index t 0 = 0 := by decide +revert
  have e1 : (cfg0.win 6).index t 1 = t.val := by decide +revert
  have x0 : (((cfg0.win 6).blk t).view.emb y 0).val = (y 0).val := by blk_simp [e0]
  have x1 : (((cfg0.win 6).blk t).view.emb y 1).val = t.val * 256 + (y 1).val := by blk_simp [e1]
  blk_simp
  rw [after0_6]
  have hy : y = ix2 (y 0) (y 1) := by funext b; fin_cases b <;> rfl
  refine (congrArg _ hy).trans ((a_at m c t (y 0) (y 1)).trans ?_)
  exact congrArg₂ _ (Fin.ext x0.symm) (Fin.ext x1.symm)

theorem arr_b : (dats m 0 c).arrAt 7 cfg0.N = fun x => br (yb m c) (wb m c) (x 0) (x 1) := by
  refine (dats m 0 c).arrAt_eq_of_covers 7 _ (by decide +kernel) fun t hf y => ?_
  have e0 : (cfg0.win 7).index t 0 = 0 := by decide +revert
  have e1 : (cfg0.win 7).index t 1 = t.val := by decide +revert
  have x0 : (((cfg0.win 7).blk t).view.emb y 0).val = (y 0).val := by blk_simp [e0]
  have x1 : (((cfg0.win 7).blk t).view.emb y 1).val = t.val * 256 + (y 1).val := by blk_simp [e1]
  blk_simp
  rw [after0_7]
  have hy : y = ix2 (y 0) (y 1) := by funext b; fin_cases b <;> rfl
  refine (congrArg _ hy).trans ((b_at m c t (y 0) (y 1)).trans ?_)
  exact congrArg₂ _ (Fin.ext x0.symm) (Fin.ext x1.symm)

theorem arr_m : (dats m 0 c).arrAt 8 cfg0.N = fun x => mg (ya m c) (yb m c) (wa m c) (wb m c) (prj m c) (x 0) (x 1) := by
  refine (dats m 0 c).arrAt_eq_of_covers 8 _ (by decide +kernel) fun t hf y => ?_
  have e0 : (cfg0.win 8).index t 0 = 0 := by decide +revert
  have e1 : (cfg0.win 8).index t 1 = t.val := by decide +revert
  have x0 : (((cfg0.win 8).blk t).view.emb y 0).val = (y 0).val := by blk_simp [e0]
  have x1 : (((cfg0.win 8).blk t).view.emb y 1).val = t.val * 256 + (y 1).val := by blk_simp [e1]
  blk_simp
  rw [after0_8]
  have hy : y = ix2 (y 0) (y 1) := by funext b; fin_cases b <;> rfl
  refine (congrArg _ hy).trans ((m_at m c t (y 0) (y 1)).trans ?_)
  exact congrArg₂ _ (Fin.ext x0.symm) (Fin.ext x1.symm)

/-! ## The reference -/

section
open Cert.MergeReferenceIdeal.Read
variable (x0 x1 : FVec Ideal S2048x1024 .f32) (x2 x3 : FVec Ideal S1024x1024 .f32) (x4 : FVec Ideal S2048x7168 .f32)

theorem ref_a (i : Fin 2048) (j : Fin 1024) : val_main_v2 (F := Ideal) x0 x2 (ix2 i j) = br x0 x2 i j := by
  pointwise [val_main_v2]
  rfl

theorem ref_b (i : Fin 2048) (j : Fin 1024) : val_main_v3 (F := Ideal) x1 x3 (ix2 i j) = br x1 x3 i j := by
  pointwise [val_main_v3]
  rfl

theorem ref_m (i : Fin 2048) (j : Fin 1024) : val_main_v19 (F := Ideal) x0 x1 x2 x3 x4 (ix2 i j) = mg x0 x1 x2 x3 x4 i j := by
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v1, val_main_v0,
    val_main_cst, val_main_cst_0, val_main_cst_1, val_main_cst_2]
  rw [ref_a, ref_b]
  rfl

/-- The reference's three results. -/
theorem res_a : val_main_v2 (F := Ideal) x0 x2 = fun y => br x0 x2 (y 0) (y 1) := by
  funext y
  have hy : y = ix2 (y 0) (y 1) := by funext b; fin_cases b <;> rfl
  exact (congrArg _ hy).trans (ref_a x0 x2 (y 0) (y 1))

theorem res_b : val_main_v3 (F := Ideal) x1 x3 = fun y => br x1 x3 (y 0) (y 1) := by
  funext y
  have hy : y = ix2 (y 0) (y 1) := by funext b; fin_cases b <;> rfl
  exact (congrArg _ hy).trans (ref_b x1 x3 (y 0) (y 1))

theorem res_m : val_main_v19 (F := Ideal) x0 x1 x2 x3 x4 = fun y => mg x0 x1 x2 x3 x4 (y 0) (y 1) := by
  funext y
  have hy : y = ix2 (y 0) (y 1) := by funext b; fin_cases b <;> rfl
  exact (congrArg _ hy).trans (ref_m x0 x1 x2 x3 x4 (y 0) (y 1))

end

/-! ## The claims -/

/-- The reference is host operations alone: it ends with its arguments as they were and every counter at zero. -/
theorem frame_ri : Cert.quiescent_MergeReferenceIdeal := fun m ρ _ =>
  (θ_run Cert.MergeReferenceIdeal.defs _ _).mono
    (fun r h => ⟨fun c => (h c).2.2.2, sem_eq_zero_of_no_sems (by decide) r.2⟩)
    (Cert.MergeReferenceIdeal.Value.run (F := Ideal) m ρ)

/-- From equal arguments the call's three arrays and the reference's three results are the same: the two branches through their
    matrices, and their gated sum. -/
theorem equal : Cert.algebraic_MergeKernelIdeal_MergeReferenceIdeal := by
  intro m ρ m' ρ' _ hargs
  refine ⟨fun c => fun x => br (ya m c) (wa m c) (x 0) (x 1), fun c => fun x => br (yb m c) (wb m c) (x 0) (x 1),
    fun c => fun x => mg (ya m c) (yb m c) (wa m c) (wb m c) (prj m c) (x 0) (x 1), ?_, ?_⟩
  · refine (θ_run Cert.MergeKernelIdeal.defs _ _).mono (fun r h c => ?_) (Cert.MergeKernelIdeal.Value.run_blocks (F := Ideal) m ρ)
    obtain ⟨e0, e1, e2, k⟩ := h c
    exact ⟨e0.trans (arr_a m c), e1.trans (arr_b m c), e2.trans (arr_m m c), k⟩
  · refine (θ_run Cert.MergeReferenceIdeal.defs _ _).mono (fun r h c => ?_) (Cert.MergeReferenceIdeal.Value.run (F := Ideal) m' ρ')
    obtain ⟨e0, e1, e2, k⟩ := h c
    obtain ⟨a0, a1, a2, a3, a4⟩ := hargs c
    refine ⟨(e0.trans (Cert.MergeReferenceIdeal.Read.val_main_v2_eq _ _)).trans ((res_a _ _).trans ?_),
      (e1.trans (Cert.MergeReferenceIdeal.Read.val_main_v3_eq _ _)).trans ((res_b _ _).trans ?_),
      (e2.trans (Cert.MergeReferenceIdeal.Read.val_main_v19_eq _ _ _ _ _)).trans ((res_m _ _ _ _ _).trans ?_), k⟩
    · rw [a0, a2]
      rfl
    · rw [a1, a3]
      rfl
    · rw [a0, a1, a2, a3, a4]
      rfl

end Cert.Merge

end
-- ==== Proof.NormPoint.lean ====
/- The root-mean-square norm of a row, over the extended reals. -/
module

public import Idealize.ShloMosaic.PureOps.Ideal.Laws

@[expose] public section

noncomputable section

namespace Cert.Norm

open Idealize.ShloMosaic

/-- The reciprocal root of a row's mean square plus epsilon: both constants are the values of their words. -/
def inv (x : Fin 1024 → EReal) : EReal :=
  Ideal.rsqrt (Ideal.div (∑ k, x k * x k) (Ideal.ofBits .f32 0x44800000#32) + Ideal.ofBits .f32 0x358637BD#32)

/-- Element `j` of the normed row under gain `g`. -/
def nrm (x g : Fin 1024 → EReal) (j : Fin 1024) : EReal := x j * inv x * g j

end Cert.Norm

end
-- ==== Proof.NormEqual.lean ====
/- The input norm: the operands, what each grid point leaves, the two arrays, and the claims. -/
module

public import proofs.«01_k».proof.Defs
public import proofs.«01_k».proof.Proof.Gen.NormKernel.Frame
public import proofs.«01_k».proof.Proof.Gen.NormKernelIdeal.Value
public import proofs.«01_k».proof.Proof.Gen.NormReferenceIdeal.Read
public import Idealize.ShloMosaic.Lib.Pipeline.ValueKit
public import Idealize.ShloMosaic.Lib.Pointwise
public import Idealize.ShloMosaic.Lib.Quiescent
public import proofs.«01_k».proof.Proof.NormPoint

@[expose] public section

set_option maxRecDepth 16384

noncomputable section

namespace Cert.Norm

open Idealize.ShloMosaic Idealize.ShloMosaic.TcCoe Idealize.SL.Sem Cert.NormKernelIdeal Cert.NormKernelIdeal.Gen

/-- The norm of row `i` of the residual. -/
def h (x : FVec Ideal S2048x1024 .f32) (g : FVec Ideal S1x1024 .f32) (i : Fin 2048) (j : Fin 1024) : EReal :=
  nrm (fun k => x (ix2 i k)) (fun k => g (ix2 0 k)) j

/-! ## The operands -/

variable (m : (ℓ : Loc nD τ sig) → Buf (Elt Ideal) ℓ) (c : Dev nD)

/-- The arguments on a device: the residual and the gain. -/
abbrev xa : FVec Ideal S2048x1024 .f32 := m (c, Proc.tc.devRef main_arg0)
abbrev ga : FVec Ideal S1x1024 .f32 := m (c, Proc.tc.devRef main_arg1)

/-- The grid's point as the number of its block of 512 rows. -/
def num (t : Fin cfg0.N) : Fin 4 := ⟨t.val, lt_of_lt_of_eq t.isLt (show cfg0.N = 4 from N_0)⟩
/-- Row `f` of block `b`. -/
def brow (b : Fin 4) (f : Fin 512) : Fin 2048 := ⟨b.val * 512 + f.val, by omega⟩

/-- The windows at a point: the point's rows, and the gain. -/
theorem blk0 (t : Fin cfg0.N) (i : Fin 512) (j : Fin 1024) : iblk m c 0 t (ix2 i j) = xa m c (ix2 (brow (num t) i) j) := by
  rw [xa, ← V_main_arg0 m c]
  have e0 : (cfg0.win 0).index t 0 = t.val := by decide +revert
  have e1 : (cfg0.win 0).index t 1 = 0 := by decide +revert
  blk_ext [iblk, e0, e1, brow, num]

theorem blk1 (t : Fin cfg0.N) (i : Fin 1) (j : Fin 1024) : iblk m c 1 t (ix2 i j) = ga m c (ix2 i j) := by
  rw [ga, ← V_main_arg1 m c]
  have e0 : (cfg0.win 1).index t 0 = 0 := by decide +revert
  have e1 : (cfg0.win 1).index t 1 = 0 := by decide +revert
  blk_ext [iblk, e0, e1]

/-! ## The body -/

section
variable (x0 : Vec Ideal S512x1024 .f32) (x1 : Vec Ideal S1x1024 .f32)

/-- The norm. -/
theorem pay_n (i : Fin 512) (j : Fin 1024) :
    k0_pay1 (View.ld x0 r0_0) (View.ld x1 r0_1) (ix2 i j) = nrm (fun k => x0 (ix2 i k)) (fun k => x1 (ix2 0 k)) j := by
  pointwise [k0_pay1]
  rfl

/-- The norm, as it is stored, and its transpose. -/
theorem pay_h (i : Fin 512) (j : Fin 1024) :
    k0_pay2 (View.ld x0 r0_0) (View.ld x1 r0_1) (ix2 i j) = nrm (fun k => x0 (ix2 i k)) (fun k => x1 (ix2 0 k)) j := by
  rw [← pay_n]
  pointwise [k0_pay2]

theorem pay_t (i : Fin 512) (j : Fin 1024) :
    k0_pay3 (View.ld x0 r0_0) (View.ld x1 r0_1) (ix2 j i) = nrm (fun k => x0 (ix2 i k)) (fun k => x1 (ix2 0 k)) j := by
  rw [← pay_n]
  pointwise [k0_pay3]

end

/-- A point's windows, by their shapes. -/
abbrev xb (t : Fin cfg0.N) : Vec Ideal S512x1024 .f32 := iblk m c 0 t
abbrev gb (t : Fin cfg0.N) : Vec Ideal S1x1024 .f32 := iblk m c 1 t

/-- The norm of a point's row is the norm of the array's row. -/
theorem nrm_at (t : Fin cfg0.N) (i : Fin 512) (j : Fin 1024) :
    nrm (fun k => xb m c t (ix2 i k)) (fun k => gb m c t (ix2 0 k)) j = h (xa m c) (ga m c) (brow (num t) i) j := by
  have hx : (fun k => xb m c t (ix2 i k)) = fun k => xa m c (ix2 (brow (num t) i) k) := funext fun k => blk0 m c t i k
  have hg : (fun k => gb m c t (ix2 0 k)) = fun k => ga m c (ix2 0 k) := funext fun k => blk1 m c t 0 k
  rw [hx, hg, h]

/-- What a point leaves. -/
theorem h_at (t : Fin cfg0.N) (i : Fin 512) (f : Fin 1024) :
    out0_2 (iblk m c 0 t) (iblk m c 1 t) (ix2 i f) = h (xa m c) (ga m c) (brow (num t) i) f := by
  unfold out0_2
  canon_tiles x h
  have hx : x = ix2 i f := by
    funext b
    fin_cases b
    · exact Fin.ext h0.symm
    · exact Fin.ext h1.symm
  rw [hx, pay_h]
  exact nrm_at m c t i f

theorem t_at (t : Fin cfg0.N) (i : Fin 1024) (f : Fin 512) :
    out0_3 (iblk m c 0 t) (iblk m c 1 t) (ix2 i f) = h (xa m c) (ga m c) (brow (num t) f) i := by
  unfold out0_3
  canon_tiles x h
  have hx : x = ix2 i f := by
    funext b
    fin_cases b
    · exact Fin.ext h0.symm
    · exact Fin.ext h1.symm
  rw [hx, pay_t]
  exact nrm_at m c t f i

/-- The call's two arrays. -/
theorem arr_h : (dats m 0 c).arrAt 2 cfg0.N = fun x => h (xa m c) (ga m c) (x 0) (x 1) := by
  refine (dats m 0 c).arrAt_eq_of_covers 2 _ (by decide +kernel) fun t hf y => ?_
  have e0 : (cfg0.win 2).index t 0 = t.val := by decide +revert
  have e1 : (cfg0.win 2).index t 1 = 0 := by decide +revert
  have x0 : (((cfg0.win 2).blk t).view.emb y 0).val = t.val * 512 + (y 0).val := by blk_simp [e0]
  have x1 : (((cfg0.win 2).blk t).view.emb y 1).val = (y 1).val := by blk_simp [e1]
  blk_simp
  rw [after0_2]
  have hy : y = ix2 (y 0) (y 1) := by funext b; fin_cases b <;> rfl
  refine (congrArg _ hy).trans ((h_at m c t (y 0) (y 1)).trans ?_)
  exact congrArg₂ _ (Fin.ext x0.symm) (Fin.ext x1.symm)

theorem arr_t : (dats m 0 c).arrAt 3 cfg0.N = fun x => h (xa m c) (ga m c) (x 1) (x 0) := by
  refine (dats m 0 c).arrAt_eq_of_covers 3 _ (by decide +kernel) fun t hf y => ?_
  have e0 : (cfg0.win 3).index t 0 = 0 := by decide +revert
  have e1 : (cfg0.win 3).index t 1 = t.val := by decide +revert
  have x0 : (((cfg0.win 3).blk t).view.emb y 0).val = (y 0).val := by blk_simp [e0]
  have x1 : (((cfg0.win 3).blk t).view.emb y 1).val = t.val * 512 + (y 1).val := by blk_simp [e1]
  blk_simp
  rw [after0_3]
  have hy : y = ix2 (y 0) (y 1) := by funext b; fin_cases b <;> rfl
  refine (congrArg _ hy).trans ((t_at m c t (y 0) (y 1)).trans ?_)
  exact congrArg₂ (h (xa m c) (ga m c)) (Fin.ext x1.symm) (Fin.ext x0.symm)

/-! ## The reference -/

section
open Cert.NormReferenceIdeal.Read
variable (x0 : FVec Ideal S2048x1024 .f32) (x1 : FVec Ideal S1x1024 .f32)

theorem ref_h (i : Fin 2048) (j : Fin 1024) : val_main_v12 (F := Ideal) x0 x1 (ix2 i j) = h x0 x1 i j := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem ref_t (i : Fin 1024) (j : Fin 2048) : val_main_v13 (F := Ideal) x0 x1 (ix2 i j) = h x0 x1 j i := by
  rw [← ref_h]
  pointwise [val_main_v13]

/-- The reference's two results. -/
theorem res_h : val_main_v12 (F := Ideal) x0 x1 = fun y => h x0 x1 (y 0) (y 1) := by
  funext y
  have hy : y = ix2 (y 0) (y 1) := by funext b; fin_cases b <;> rfl
  exact (congrArg _ hy).trans (ref_h x0 x1 (y 0) (y 1))

theorem res_t : val_main_v13 (F := Ideal) x0 x1 = fun y => h x0 x1 (y 1) (y 0) := by
  funext y
  have hy : y = ix2 (y 0) (y 1) := by funext b; fin_cases b <;> rfl
  exact (congrArg _ hy).trans (ref_t x0 x1 (y 0) (y 1))

end

/-! ## The claims -/

/-- The reference is host operations alone: it ends with its arguments as they were and every counter at zero. -/
theorem frame_ri : Cert.quiescent_NormReferenceIdeal := fun m ρ _ =>
  (θ_run Cert.NormReferenceIdeal.defs _ _).mono
    (fun r h => ⟨fun c => (h c).2.2, sem_eq_zero_of_no_sems (by decide) r.2⟩)
    (Cert.NormReferenceIdeal.Value.run (F := Ideal) m ρ)

/-- From equal arguments the call's two arrays and the reference's two results are the same: the norm, and its transpose. -/
theorem equal : Cert.algebraic_NormKernelIdeal_NormReferenceIdeal := by
  intro m ρ m' ρ' _ hargs
  refine ⟨fun c => fun x => h (xa m c) (ga m c) (x 0) (x 1), fun c => fun x => h (xa m c) (ga m c) (x 1) (x 0), ?_, ?_⟩
  · refine (θ_run Cert.NormKernelIdeal.defs _ _).mono (fun r h c => ?_) (Cert.NormKernelIdeal.Value.run_blocks (F := Ideal) m ρ)
    obtain ⟨e0, e1, k⟩ := h c
    exact ⟨e0.trans (arr_h m c), e1.trans (arr_t m c), k⟩
  · refine (θ_run Cert.NormReferenceIdeal.defs _ _).mono (fun r h c => ?_) (Cert.NormReferenceIdeal.Value.run (F := Ideal) m' ρ')
    obtain ⟨e0, e1, k⟩ := h c
    obtain ⟨a0, a1⟩ := hargs c
    refine ⟨(e0.trans (Cert.NormReferenceIdeal.Read.val_main_v12_eq _ _)).trans ((res_h _ _).trans ?_),
      (e1.trans (Cert.NormReferenceIdeal.Read.val_main_v13_eq _ _)).trans ((res_t _ _).trans ?_), k⟩ <;>
    · rw [a0, a1]
      rfl

end Cert.Norm

end
-- ==== Proof.OutEqual.lean ====
/- The output projection of the mixer, its residual and the next norm: the operands, what each grid point leaves, the four arrays, and
   the claims. -/
module

public import proofs.«01_k».proof.Defs
public import proofs.«01_k».proof.Proof.Gen.OutKernel.Frame
public import proofs.«01_k».proof.Proof.Gen.OutKernelIdeal.Value
public import proofs.«01_k».proof.Proof.Gen.OutReferenceIdeal.Read
public import Idealize.ShloMosaic.Lib.Pipeline.ValueKit
public import Idealize.ShloMosaic.Lib.Pointwise
public import Idealize.ShloMosaic.Lib.Quiescent
public import proofs.«01_k».proof.Proof.NormPoint

@[expose] public section

set_option maxRecDepth 16384

noncomputable section

namespace Cert.Out

open Idealize.ShloMosaic Idealize.ShloMosaic.TcCoe Idealize.SL.Sem Cert.OutKernelIdeal Cert.OutKernelIdeal.Gen
open Cert.Norm (nrm inv)

/-! ## The formulas -/

/-- The product. -/
def mx (a : FVec Ideal S2048x1024 .f32) (w : FVec Ideal S1024x1024 .f32) (i : Fin 2048) (j : Fin 1024) : EReal :=
  ∑ d : Fin 1024, a (ix2 i d) * w (ix2 d j)

/-- The residual with the normed product added. -/
def x2 (a : FVec Ideal S2048x1024 .f32) (w : FVec Ideal S1024x1024 .f32) (x : FVec Ideal S2048x1024 .f32) (g : FVec Ideal S1x1024 .f32)
    (i : Fin 2048) (j : Fin 1024) : EReal :=
  x (ix2 i j) + nrm (mx a w i) (fun k => g (ix2 0 k)) j

/-- The norm of the residual. -/
def hd (a : FVec Ideal S2048x1024 .f32) (w : FVec Ideal S1024x1024 .f32) (x : FVec Ideal S2048x1024 .f32) (g g' : FVec Ideal S1x1024 .f32)
    (i : Fin 2048) (j : Fin 1024) : EReal :=
  nrm (x2 a w x g i) (fun k => g' (ix2 0 k)) j

/-! ## The operands -/

variable (m : (ℓ : Loc nD τ sig) → Buf (Elt Ideal) ℓ) (c : Dev nD)

/-- The arguments on a device: the merged branches, the matrix, the residual and the two gains. -/
abbrev mg : FVec Ideal S2048x1024 .f32 := m (c, Proc.tc.devRef main_arg0)
abbrev wo : FVec Ideal S1024x1024 .f32 := m (c, Proc.tc.devRef main_arg1)
abbrev xa : FVec Ideal S2048x1024 .f32 := m (c, Proc.tc.devRef main_arg2)
abbrev g1 : FVec Ideal S1x1024 .f32 := m (c, Proc.tc.devRef main_arg3)
abbrev g2 : FVec Ideal S1x1024 .f32 := m (c, Proc.tc.devRef main_arg4)

/-- The merged branches and the matrix. -/
theorem host_mg (i : Fin 2048) (j : Fin 1024) : V m c main_v0 (ix2 i j) = mg m c (ix2 i j) := by
  entry_read
  pointwise

theorem host_wo (i : Fin 1024) (j : Fin 1024) : V m c main_v1 (ix2 i j) = wo m c (ix2 i j) := by
  entry_read
  pointwise

/-- The grid's point as the number of its block of 512 rows. -/
def num (t : Fin cfg0.N) : Fin 4 := ⟨t.val, lt_of_lt_of_eq t.isLt (show cfg0.N = 4 from N_0)⟩
/-- Row `f` of block `b`. -/
def brow (b : Fin 4) (f : Fin 512) : Fin 2048 := ⟨b.val * 512 + f.val, by omega⟩

/-- The windows at a point: the point's rows of the merged branches and of the residual; the matrix and the gains whole. -/
theorem blk0 (t : Fin cfg0.N) (i : Fin 512) (j : Fin 1024) : iblk m c 0 t (ix2 i j) = mg m c (ix2 (brow (num t) i) j) := by
  rw [← host_mg]
  have e0 : (cfg0.win 0).index t 0 = t.val := by decide +revert
  have e1 : (cfg0.win 0).index t 1 = 0 := by decide +revert
  blk_ext [iblk, e0, e1, brow, num]

theorem blk1 (t : Fin cfg0.N) (i : Fin 1024) (j : Fin 1024) : iblk m c 1 t (ix2 i j) = wo m c (ix2 i j) := by
  rw [← host_wo]
  have e0 : (cfg0.win 1).index t 0 = 0 := by decide +revert
  have e1 : (cfg0.win 1).index t 1 = 0 := by decide +revert
  blk_ext [iblk, e0, e1]

theorem blk2 (t : Fin cfg0.N) (i : Fin 512) (j : Fin 1024) : iblk m c 2 t (ix2 i j) = xa m c (ix2 (brow (num t) i) j) := by
  rw [xa, ← V_main_arg2 m c]
  have e0 : (cfg0.win 2).index t 0 = t.val := by decide +revert
  have e1 : (cfg0.win 2).index t 1 = 0 := by decide +revert
  blk_ext [iblk, e0, e1, brow, num]

theorem blk3 (t : Fin cfg0.N) (i : Fin 1) (j : Fin 1024) : iblk m c 3 t (ix2 i j) = g1 m c (ix2 i j) := by
  rw [g1, ← V_main_arg3 m c]
  have e0 : (cfg0.win 3).index t 0 = 0 := by decide +revert
  have e1 : (cfg0.win 3).index t 1 = 0 := by decide +revert
  blk_ext [iblk, e0, e1]

theorem blk4 (t : Fin cfg0.N) (i : Fin 1) (j : Fin 1024) : iblk m c 4 t (ix2 i j) = g2 m c (ix2 i j) := by
  rw [g2, ← V_main_arg4 m c]
  have e0 : (cfg0.win 4).index t 0 = 0 := by decide +revert
  have e1 : (cfg0.win 4).index t 1 = 0 := by decide +revert
  blk_ext [iblk, e0, e1]

/-! ## The body -/

section
variable (x0 : Vec Ideal S512x1024 .bf16) (x1 : Vec Ideal S1024x1024 .bf16) (x2 : Vec Ideal S512x1024 .f32) (x3 x4 : Vec Ideal S1x1024 .f32)
variable {a : FVec Ideal S2048x1024 .f32} {w : FVec Ideal S1024x1024 .f32} {x : FVec Ideal S2048x1024 .f32} {g g' : FVec Ideal S1x1024 .f32}
variable {b : Fin 512 → Fin 2048} (h0 : ∀ i j, x0 (ix2 i j) = a (ix2 (b i) j)) (h1 : ∀ i j, x1 (ix2 i j) = w (ix2 i j))
  (h2 : ∀ i j, x2 (ix2 i j) = x (ix2 (b i) j)) (h3 : ∀ i j, x3 (ix2 i j) = g (ix2 i j)) (h4 : ∀ i j, x4 (ix2 i j) = g' (ix2 i j))

include h0 h1 in
/-- The product. -/
theorem pay_p (i : Fin 512) (j : Fin 1024) : k0_pay2 (View.ld x0 r0_0) (View.ld x1 r0_1) (ix2 i j) = mx a w (b i) j := by
  pointwise [k0_pay2]
  exact Finset.sum_congr rfl fun d _ => congrArg₂ _ (h0 i d) (h1 d j)

include h0 h1 h2 h3 in
/-- The residual. -/
theorem pay_x (i : Fin 512) (j : Fin 1024) :
    k0_pay3 (View.ld x0 r0_0) (View.ld x1 r0_1) (View.ld x2 r0_0) (View.ld x3 r0_2) (ix2 i j) = Out.x2 a w x g (b i) j := by
  pointwise [k0_pay3]
  simp only [pay_p x0 x1 h0 h1, h2, h3]
  rfl

include h0 h1 h2 h3 h4 in
/-- Its norm, before it is stored, as it is stored, and transposed. -/
theorem pay_n (i : Fin 512) (j : Fin 1024) :
    k0_pay4 (View.ld x0 r0_0) (View.ld x1 r0_1) (View.ld x2 r0_0) (View.ld x3 r0_2) (View.ld x4 r0_2) (ix2 i j) = hd a w x g g' (b i) j := by
  pointwise [k0_pay4]
  simp only [pay_x x0 x1 x2 x3 h0 h1 h2 h3, h4]
  rfl

include h0 h1 h2 h3 h4 in
theorem pay_h (i : Fin 512) (j : Fin 1024) :
    k0_pay5 (View.ld x0 r0_0) (View.ld x1 r0_1) (View.ld x2 r0_0) (View.ld x3 r0_2) (View.ld x4 r0_2) (ix2 i j) = hd a w x g g' (b i) j := by
  rw [← pay_n x0 x1 x2 x3 x4 h0 h1 h2 h3 h4]
  pointwise [k0_pay5]

include h0 h1 h2 h3 h4 in
theorem pay_t (i : Fin 512) (j : Fin 1024) :
    k0_pay1 (k0_pay4 (View.ld x0 r0_0) (View.ld x1 r0_1) (View.ld x2 r0_0) (View.ld x3 r0_2) (View.ld x4 r0_2)) (ix2 j i)
      = hd a w x g g' (b i) j := by
  rw [← pay_n x0 x1 x2 x3 x4 h0 h1 h2 h3 h4]
  pointwise [k0_pay1]

end

/-- What a point leaves. -/
theorem p_at (t : Fin cfg0.N) (i : Fin 512) (f : Fin 1024) :
    out0_5 (iblk m c 0 t) (iblk m c 1 t) (iblk m c 2 t) (iblk m c 3 t) (iblk m c 4 t) (ix2 i f) = mx (mg m c) (wo m c) (brow (num t) i) f := by
  unfold out0_5
  canon_tiles x h
  have hx : x = ix2 i f := by
    funext b
    fin_cases b
    · exact Fin.ext h0.symm
    · exact Fin.ext h1.symm
  rw [hx, pay_p _ _ (blk0 m c t) (blk1 m c t)]

theorem x_at (t : Fin cfg0.N) (i : Fin 512) (f : Fin 1024) :
    out0_6 (iblk m c 0 t) (iblk m c 1 t) (iblk m c 2 t) (iblk m c 3 t) (iblk m c 4 t) (ix2 i f) = x2 (mg m c) (wo m c) (xa m c) (g1 m c) (brow (num t) i) f := by
  unfold out0_6
  canon_tiles x h
  have hx : x = ix2 i f := by
    funext b
    fin_cases b
    · exact Fin.ext h0.symm
    · exact Fin.ext h1.symm
  rw [hx, pay_x _ _ _ _ (blk0 m c t) (blk1 m c t) (blk2 m c t) (blk3 m c t)]

theorem h_at (t : Fin cfg0.N) (i : Fin 512) (f : Fin 1024) :
    out0_7 (iblk m c 0 t) (iblk m c 1 t) (iblk m c 2 t) (iblk m c 3 t) (iblk m c 4 t) (ix2 i f) = hd (mg m c) (wo m c) (xa m c) (g1 m c) (g2 m c) (brow (num t) i) f := by
  unfold out0_7
  canon_tiles x h
  have hx : x = ix2 i f := by
    funext b
    fin_cases b
    · exact Fin.ext h0.symm
    · exact Fin.ext h1.symm
  rw [hx, pay_h _ _ _ _ _ (blk0 m c t) (blk1 m c t) (blk2 m c t) (blk3 m c t) (blk4 m c t)]

theorem t_at (t : Fin cfg0.N) (i : Fin 1024) (f : Fin 512) :
    out0_8 (iblk m c 0 t) (iblk m c 1 t) (iblk m c 2 t) (iblk m c 3 t) (iblk m c 4 t) (ix2 i f) = hd (mg m c) (wo m c) (xa m c) (g1 m c) (g2 m c) (brow (num t) f) i := by
  unfold out0_8
  canon_tiles x h
  have hx : x = ix2 i f := by
    funext b
    fin_cases b
    · exact Fin.ext h0.symm
    · exact Fin.ext h1.symm
  rw [hx, pay_t _ _ _ _ _ (blk0 m c t) (blk1 m c t) (blk2 m c t) (blk3 m c t) (blk4 m c t)]

/-- The call's four arrays. -/
theorem arr_p : (dats m 0 c).arrAt 5 cfg0.N = fun x => mx (mg m c) (wo m c) (x 0) (x 1) := by
  refine (dats m 0 c).arrAt_eq_of_covers 5 _ (by decide +kernel) fun t hf y => ?_
  have e0 : (cfg0.win 5).index t 0 = t.val := by decide +revert
  have e1 : (cfg0.win 5).index t 1 = 0 := by decide +revert
  have x0 : (((cfg0.win 5).blk t).view.emb y 0).val = t.val * 512 + (y 0).val := by blk_simp [e0]
  have x1 : (((cfg0.win 5).blk t).view.emb y 1).val = (y 1).val := by blk_simp [e1]
  blk_simp
  rw [after0_5]
  have hy : y = ix2 (y 0) (y 1) := by funext b; fin_cases b <;> rfl
  refine (congrArg _ hy).trans ((p_at m c t (y 0) (y 1)).trans ?_)
  exact congrArg₂ _ (Fin.ext x0.symm) (Fin.ext x1.symm)

theorem arr_x : (dats m 0 c).arrAt 6 cfg0.N = fun x => x2 (mg m c) (wo m c) (xa m c) (g1 m c) (x 0) (x 1) := by
  refine (dats m 0 c).arrAt_eq_of_covers 6 _ (by decide +kernel) fun t hf y => ?_
  have e0 : (cfg0.win 6).index t 0 = t.val := by decide +revert
  have e1 : (cfg0.win 6).index t 1 = 0 := by decide +revert
  have x0 : (((cfg0.win 6).blk t).view.emb y 0).val = t.val * 512 + (y 0).val := by blk_simp [e0]
  have x1 : (((cfg0.win 6).blk t).view.emb y 1).val = (y 1).val := by blk_simp [e1]
  blk_simp
  rw [after0_6]
  have hy : y = ix2 (y 0) (y 1) := by funext b; fin_cases b <;> rfl
  refine (congrArg _ hy).trans ((x_at m c t (y 0) (y 1)).trans ?_)
  exact congrArg₂ _ (Fin.ext x0.symm) (Fin.ext x1.symm)

theorem arr_h : (dats m 0 c).arrAt 7 cfg0.N = fun x => hd (mg m c) (wo m c) (xa m c) (g1 m c) (g2 m c) (x 0) (x 1) := by
  refine (dats m 0 c).arrAt_eq_of_covers 7 _ (by decide +kernel) fun t hf y => ?_
  have e0 : (cfg0.win 7).index t 0 = t.val := by decide +revert
  have e1 : (cfg0.win 7).index t 1 = 0 := by decide +revert
  have x0 : (((cfg0.win 7).blk t).view.emb y 0).val = t.val * 512 + (y 0).val := by blk_simp [e0]
  have x1 : (((cfg0.win 7).blk t).view.emb y 1).val = (y 1).val := by blk_simp [e1]
  blk_simp
  rw [after0_7]
  have hy : y = ix2 (y 0) (y 1) := by funext b; fin_cases b <;> rfl
  refine (congrArg _ hy).trans ((h_at m c t (y 0) (y 1)).trans ?_)
  exact congrArg₂ _ (Fin.ext x0.symm) (Fin.ext x1.symm)

theorem arr_t : (dats m 0 c).arrAt 8 cfg0.N = fun x => hd (mg m c) (wo m c) (xa m c) (g1 m c) (g2 m c) (x 1) (x 0) := by
  refine (dats m 0 c).arrAt_eq_of_covers 8 _ (by decide +kernel) fun t hf y => ?_
  have e0 : (cfg0.win 8).index t 0 = 0 := by decide +revert
  have e1 : (cfg0.win 8).index t 1 = t.val := by decide +revert
  have x0 : (((cfg0.win 8).blk t).view.emb y 0).val = (y 0).val := by blk_simp [e0]
  have x1 : (((cfg0.win 8).blk t).view.emb y 1).val = t.val * 512 + (y 1).val := by blk_simp [e1]
  blk_simp
  rw [after0_8]
  have hy : y = ix2 (y 0) (y 1) := by funext b; fin_cases b <;> rfl
  refine (congrArg _ hy).trans ((t_at m c t (y 0) (y 1)).trans ?_)
  exact congrArg₂ (hd (mg m c) (wo m c) (xa m c) (g1 m c) (g2 m c)) (Fin.ext x1.symm) (Fin.ext x0.symm)

/-! ## The reference -/

section
open Cert.OutReferenceIdeal.Read
variable (x0 : FVec Ideal S2048x1024 .f32) (x1 : FVec Ideal S1024x1024 .f32) (x2 : FVec Ideal S2048x1024 .f32) (x3 x4 : FVec Ideal S1x1024 .f32)

theorem ref_p (i : Fin 2048) (j : Fin 1024) : val_main_v0 (F := Ideal) x0 x1 (ix2 i j) = mx x0 x1 i j := by
  pointwise [val_main_v0]
  rfl

theorem ref_x (i : Fin 2048) (j : Fin 1024) : val_main_v13 (F := Ideal) x0 x1 x2 x3 (ix2 i j) = Out.x2 x0 x1 x2 x3 i j := by
  pointwise [val_main_v13, val_main_v12, val_main_v11, val_main_v10, val_main_v9, val_main_v8, val_main_v7, val_main_v6, val_main_v5,
    val_main_v4, val_main_v3, val_main_v2, val_main_v1, val_main_cst, val_main_cst_0, val_main_cst_1]
  simp only [ref_p]
  rfl

theorem ref_h (i : Fin 2048) (j : Fin 1024) : val_main_v26 (F := Ideal) x0 x1 x2 x3 x4 (ix2 i j) = hd x0 x1 x2 x3 x4 i j := by
  pointwise [val_main_v26, val_main_v25, val_main_v24, val_main_v23, val_main_v22, val_main_v21, val_main_v20, val_main_v19, val_main_v18,
    val_main_v17, val_main_v16, val_main_v15, val_main_v14, val_main_cst_2, val_main_cst_3, val_main_cst_4]
  simp only [ref_x]
  rfl

theorem ref_t (i : Fin 1024) (j : Fin 2048) : val_main_v27 (F := Ideal) x0 x1 x2 x3 x4 (ix2 i j) = hd x0 x1 x2 x3 x4 j i := by
  rw [← ref_h]
  pointwise [val_main_v27]

/-- The reference's four results. -/
theorem res_p : val_main_v0 (F := Ideal) x0 x1 = fun y => mx x0 x1 (y 0) (y 1) := by
  funext y
  have hy : y = ix2 (y 0) (y 1) := by funext b; fin_cases b <;> rfl
  exact (congrArg _ hy).trans (ref_p x0 x1 (y 0) (y 1))

theorem res_x : val_main_v13 (F := Ideal) x0 x1 x2 x3 = fun y => Out.x2 x0 x1 x2 x3 (y 0) (y 1) := by
  funext y
  have hy : y = ix2 (y 0) (y 1) := by funext b; fin_cases b <;> rfl
  exact (congrArg _ hy).trans (ref_x x0 x1 x2 x3 (y 0) (y 1))

theorem res_h : val_main_v26 (F := Ideal) x0 x1 x2 x3 x4 = fun y => hd x0 x1 x2 x3 x4 (y 0) (y 1) := by
  funext y
  have hy : y = ix2 (y 0) (y 1) := by funext b; fin_cases b <;> rfl
  exact (congrArg _ hy).trans (ref_h x0 x1 x2 x3 x4 (y 0) (y 1))

theorem res_t : val_main_v27 (F := Ideal) x0 x1 x2 x3 x4 = fun y => hd x0 x1 x2 x3 x4 (y 1) (y 0) := by
  funext y
  have hy : y = ix2 (y 0) (y 1) := by funext b; fin_cases b <;> rfl
  exact (congrArg _ hy).trans (ref_t x0 x1 x2 x3 x4 (y 0) (y 1))

end

/-! ## The claims -/

/-- The reference is host operations alone: it ends with its arguments as they were and every counter at zero. -/
theorem frame_ri : Cert.quiescent_OutReferenceIdeal := fun m ρ _ =>
  (θ_run Cert.OutReferenceIdeal.defs _ _).mono
    (fun r h => ⟨fun c => (h c).2.2.2.2, sem_eq_zero_of_no_sems (by decide) r.2⟩)
    (Cert.OutReferenceIdeal.Value.run (F := Ideal) m ρ)

/-- From equal arguments the call's four arrays and the reference's four results are the same: the product, the residual, its norm and
    the transpose of that. -/
theorem equal : Cert.algebraic_OutKernelIdeal_OutReferenceIdeal := by
  intro m ρ m' ρ' _ hargs
  refine ⟨fun c => fun x => mx (mg m c) (wo m c) (x 0) (x 1), fun c => fun x => x2 (mg m c) (wo m c) (xa m c) (g1 m c) (x 0) (x 1),
    fun c => fun x => hd (mg m c) (wo m c) (xa m c) (g1 m c) (g2 m c) (x 0) (x 1),
    fun c => fun x => hd (mg m c) (wo m c) (xa m c) (g1 m c) (g2 m c) (x 1) (x 0), ?_, ?_⟩
  · refine (θ_run Cert.OutKernelIdeal.defs _ _).mono (fun r h c => ?_) (Cert.OutKernelIdeal.Value.run_blocks (F := Ideal) m ρ)
    obtain ⟨e0, e1, e2, e3, k⟩ := h c
    exact ⟨e0.trans (arr_p m c), e1.trans (arr_x m c), e2.trans (arr_h m c), e3.trans (arr_t m c), k⟩
  · refine (θ_run Cert.OutReferenceIdeal.defs _ _).mono (fun r h c => ?_) (Cert.OutReferenceIdeal.Value.run (F := Ideal) m' ρ')
    obtain ⟨e0, e1, e2, e3, k⟩ := h c
    obtain ⟨a0, a1, a2, a3, a4⟩ := hargs c
    refine ⟨(e0.trans (Cert.OutReferenceIdeal.Read.val_main_v0_eq _ _)).trans ((res_p _ _).trans ?_),
      (e1.trans (Cert.OutReferenceIdeal.Read.val_main_v13_eq _ _ _ _)).trans ((res_x _ _ _ _).trans ?_),
      (e2.trans (Cert.OutReferenceIdeal.Read.val_main_v26_eq _ _ _ _ _)).trans ((res_h _ _ _ _ _).trans ?_),
      (e3.trans (Cert.OutReferenceIdeal.Read.val_main_v27_eq _ _ _ _ _)).trans ((res_t _ _ _ _ _).trans ?_), k⟩
    · rw [a0, a1]
      rfl
    · rw [a0, a1, a2, a3]
      rfl
    · rw [a0, a1, a2, a3, a4]
      rfl
    · rw [a0, a1, a2, a3, a4]
      rfl

end Cert.Out

end
-- ==== Proof.MergeBwdPoint.lean ====
/- The gradient of the gated sum, inside a grid point: the pieces that the body's loop over strips of 128 rows writes into the two
   branches' gradients and into the gates', and what the windows hold after the body. -/
module

public import proofs.«01_k».proof.Proof.SigPoint
public import proofs.«01_k».proof.Proof.Gen.MergeBwdKernelIdeal.Frame
public import Idealize.ShloMosaic.Lib.Pipeline.ValueKit
public import Idealize.ShloMosaic.Lib.Pointwise

@[expose] public section

set_option maxRecDepth 16384

noncomputable section

namespace Cert.MergeBwd

open Idealize.ShloMosaic Idealize.ShloMosaic.TcCoe Idealize.SL.Sem Cert.MergeBwdKernelIdeal Cert.MergeBwdKernelIdeal.Gen
open Cert.Merge (sg gcol)

/-! ## The payloads -/

section
variable (v a w : Vec Ideal S128x256 .f32) (r : Fin 128) (f : Fin 256)

theorem pay8 : k0_pay8 v w (ix2 r f) = v (ix2 r f) * sg (w (ix2 r f)) := by
  pointwise [k0_pay8, k0_pay6]
  rw [zero_sub]
  rfl

theorem pay9 : k0_pay9 v w (ix2 r f) = v (ix2 r f) * sg (w (ix2 r f)) := by
  pointwise [k0_pay9, k0_pay7]
  rw [zero_sub]
  rfl

/-- The gradient of the convolution branch's gate. -/
theorem pay_gc : k0_pay4 (k0_pay10 v w a) (ix3 (0 : Fin 1) r f)
    = v (ix2 r f) * a (ix2 r f) * sg (w (ix2 r f)) * (1 - sg (w (ix2 r f))) := by
  pointwise [k0_pay4, k0_pay10, k0_pay6]
  rw [zero_sub]
  rfl

/-- The gradient of the recurrent branch's gate. -/
theorem pay_gl : k0_pay5 v (k0_pay7 w) a (ix3 (0 : Fin 1) r f)
    = v (ix2 r f) * a (ix2 r f) * sg (w (ix2 r f)) * (1 - sg (w (ix2 r f))) := by
  pointwise [k0_pay5, k0_pay7]
  rw [zero_sub]
  rfl

end

/-! ## The strips -/

/-- Row `r` of strip `k`. -/
def row (k : Fin k0_t1_loop.trips) (r : Fin 128) : Fin 2048 :=
  ⟨128 * k.val + r.val, by have := Nat.lt_of_lt_of_le k.isLt k0_t1_abs.2.1; omega⟩

/-- A strip lies inside its block, in the branches' gradients and in either half of the gates'. -/
theorem fit (k : Fin k0_t1_loop.trips) (b) : k0_off1 k b + (![128, 256] : Fin 2 → ℕ) b ≤ S2048x256.size b := by
  have := Nat.lt_of_lt_of_le k.isLt k0_t1_abs.2.1
  refine (congrArg (· + _) (congrFun (k0_off1_eq k) b)).trans_le ?_
  fin_cases b <;> simp [S2048x256] <;> omega

theorem fit0 (k : Fin k0_t1_loop.trips) (b) : k0_off2 k b + (![1, 128, 256] : Fin 3 → ℕ) b ≤ S2x2048x256.size b := by
  have := Nat.lt_of_lt_of_le k.isLt k0_t1_abs.2.1
  refine (congrArg (· + _) (congrFun (k0_off2_eq k) b)).trans_le ?_
  fin_cases b <;> simp [S2x2048x256] <;> omega

theorem fit1 (k : Fin k0_t1_loop.trips) (b) : k0_off3 k b + (![1, 128, 256] : Fin 3 → ℕ) b ≤ S2x2048x256.size b := by
  have := Nat.lt_of_lt_of_le k.isLt k0_t1_abs.2.1
  refine (congrArg (· + _) (congrFun (k0_off3_eq k) b)).trans_le ?_
  fin_cases b <;> simp [S2x2048x256] <;> omega

/-- A strip of a block, read at an index of the strip. -/
theorem ld_strip (X : Vec Ideal S2048x256 .f32) (k : Fin k0_t1_loop.trips) (h) (r : Fin 128) (f : Fin 256) :
    View.ld X (Rect.unit (s := S2048x256) (k0_off1 k) ![128, 256] h) (ix2 r f) = X (ix2 (row k r) f) := by
  refine View.ld_unit_apply_of X _ _ h _ _ fun b => Eq.symm ?_
  refine (congrArg (· + _) (congrFun (k0_off1_eq k) b)).trans ?_
  fin_cases b
  · rfl
  · exact Nat.zero_add _

theorem emb_strip (k : Fin k0_t1_loop.trips) (h) (r : Fin 128) (f : Fin 256) :
    (Rect.unit (s := S2048x256) (k0_off1 k) ![128, 256] h).emb (ix2 r f) = ix2 (row k r) f := by
  refine funext fun b => Fin.ext ((Rect.idx_unit_val _ _ h _ b).trans ?_)
  refine (congrArg (· + _) (congrFun (k0_off1_eq k) b)).trans ?_
  fin_cases b
  · rfl
  · exact Nat.zero_add _

theorem emb_half0 (k : Fin k0_t1_loop.trips) (h) (r : Fin 128) (f : Fin 256) :
    (Rect.unit (s := S2x2048x256) (k0_off2 k) ![1, 128, 256] h).emb (ix3 (0 : Fin 1) r f) = ix3 (0 : Fin 2) (row k r) f := by
  refine funext fun b => Fin.ext ((Rect.idx_unit_val _ _ h _ b).trans ?_)
  refine (congrArg (· + _) (congrFun (k0_off2_eq k) b)).trans ?_
  fin_cases b
  · rfl
  · rfl
  · exact Nat.zero_add _

theorem emb_half1 (k : Fin k0_t1_loop.trips) (h) (r : Fin 128) (f : Fin 256) :
    (Rect.unit (s := S2x2048x256) (k0_off3 k) ![1, 128, 256] h).emb (ix3 (0 : Fin 1) r f) = ix3 (1 : Fin 2) (row k r) f := by
  refine funext fun b => Fin.ext ((Rect.idx_unit_val _ _ h _ b).trans ?_)
  refine (congrArg (· + _) (congrFun (k0_off3_eq k) b)).trans ?_
  fin_cases b
  · rfl
  · rfl
  · exact Nat.zero_add _

/-- A branch's gradient from the merged gradient and the gate. -/
def gb (D x : Vec Ideal S2048x256 .f32) (y : S2048x256.Idx) : EReal := D y * sg (x y)

/-- A gate's gradient from the merged gradient, the branch and the gate. -/
def gg (D a x : Vec Ideal S2048x256 .f32) (y : S2048x256.Idx) : EReal := D y * a y * sg (x y) * (1 - sg (x y))

/-- The two gates' gradients. -/
def gs (D a b x x' : Vec Ideal S2048x256 .f32) (y : S2x2048x256.Idx) : EReal :=
  if (y 0).val = 0 then gg D a x (ix2 (y 1) (y 2)) else gg D b x' (ix2 (y 1) (y 2))

section
variable (𝒱 : Variants) (c : Dev nD) (bd : Option 𝒱.V) (i : grid0.Coords)
  (arg1 : Memref sig .tc .vmem S2048x1024 .bf16) (harg1 : arg1.IsWhole)
  (arg2 : Memref sig .tc .vmem S256x1024 .bf16) (harg2 : arg2.IsWhole)
  (arg3 : Memref sig .tc .vmem S2048x256 .bf16) (harg3 : arg3.IsWhole)
  (arg4 : Memref sig .tc .vmem S2048x256 .f32) (harg4 : arg4.IsWhole)
  (arg5 : Memref sig .tc .vmem S2048x256 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S256x1024 .bf16) (harg10 : arg10.IsWhole)
  (arg11 : Memref sig .tc .vmem S2x2048x256 .bf16) (harg11 : arg11.IsWhole)
  (arg12 : Memref sig .tc .vmem S2048x256 .f32) (harg12 : arg12.IsWhole)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (X12 : BufTy.Contents (Elt Ideal) arg12.view.ty)

/-- Every piece that a strip writes holds, at its place, the branch's or the gate's gradient. -/
theorem strip (k : Fin k0_t1_loop.trips) :
    (∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X4 X5 X6 X7 X12 k).1, ∀ x,
      p.2 x = gb (arg12.view.read (Elt Ideal) X12) (arg6.view.read (Elt Ideal) X6) (p.1.emb x))
    ∧ (∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X4 X5 X6 X7 X12 k).2.1, ∀ x,
      p.2 x = gb (arg12.view.read (Elt Ideal) X12) (arg7.view.read (Elt Ideal) X7) (p.1.emb x))
    ∧ (∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X4 X5 X6 X7 X12 k).2.2, ∀ x,
      p.2 x = gs (arg12.view.read (Elt Ideal) X12) (arg4.view.read (Elt Ideal) X4) (arg5.view.read (Elt Ideal) X5)
        (arg6.view.read (Elt Ideal) X6) (arg7.view.read (Elt Ideal) X7) (p.1.emb x)) := by
  unfold tripL_k0_t1 trip_k0_t1
  dsimp only
  refine ⟨fun p hp x => ?_, fun p hp x => ?_, fun p hp x => ?_⟩
  · obtain rfl := List.mem_singleton.1 hp
    obtain ⟨r, f, rfl⟩ : ∃ (r : Fin 128) (f : Fin 256), x = ix2 r f := ⟨x 0, x 1, by funext b; fin_cases b <;> rfl⟩
    refine Eq.trans (b := k0_pay8 (View.ld (arg12.view.read (Elt Ideal) X12) (Rect.unit (s := S2048x256) (k0_off1 k) ![128, 256] (fit k)))
      (View.ld (arg6.view.read (Elt Ideal) X6) (Rect.unit (s := S2048x256) (k0_off1 k) ![128, 256] (fit k))) (ix2 r f)) (by exact rfl) ?_
    rw [pay8, ld_strip, ld_strip]
    exact congrArg (gb _ _) (emb_strip k (fit k) r f).symm
  · obtain rfl := List.mem_singleton.1 hp
    obtain ⟨r, f, rfl⟩ : ∃ (r : Fin 128) (f : Fin 256), x = ix2 r f := ⟨x 0, x 1, by funext b; fin_cases b <;> rfl⟩
    refine Eq.trans (b := k0_pay9 (View.ld (arg12.view.read (Elt Ideal) X12) (Rect.unit (s := S2048x256) (k0_off1 k) ![128, 256] (fit k)))
      (View.ld (arg7.view.read (Elt Ideal) X7) (Rect.unit (s := S2048x256) (k0_off1 k) ![128, 256] (fit k))) (ix2 r f)) (by exact rfl) ?_
    rw [pay9, ld_strip, ld_strip]
    exact congrArg (gb _ _) (emb_strip k (fit k) r f).symm
  · rcases List.mem_cons.1 hp with rfl | hp
    · obtain ⟨r, f, rfl⟩ : ∃ (r : Fin 128) (f : Fin 256), x = ix3 (0 : Fin 1) r f :=
        ⟨x 1, x 2, by funext b; fin_cases b; · exact Subsingleton.elim (α := Fin 1) _ _
                      · rfl
                      · rfl⟩
      refine Eq.trans (b := k0_pay5 (View.ld (arg12.view.read (Elt Ideal) X12) (Rect.unit (s := S2048x256) (k0_off1 k) ![128, 256] (fit k)))
        (k0_pay7 (View.ld (arg7.view.read (Elt Ideal) X7) (Rect.unit (s := S2048x256) (k0_off1 k) ![128, 256] (fit k))))
        (View.ld (arg5.view.read (Elt Ideal) X5) (Rect.unit (s := S2048x256) (k0_off1 k) ![128, 256] (fit k))) (ix3 (0 : Fin 1) r f)) (by exact rfl) ?_
      rw [pay_gl, ld_strip, ld_strip, ld_strip]
      exact congrArg (gs _ _ _ _ _) (emb_half1 k (fit1 k) r f).symm
    · obtain rfl := List.mem_singleton.1 hp
      obtain ⟨r, f, rfl⟩ : ∃ (r : Fin 128) (f : Fin 256), x = ix3 (0 : Fin 1) r f :=
        ⟨x 1, x 2, by funext b; fin_cases b; · exact Subsingleton.elim (α := Fin 1) _ _
                      · rfl
                      · rfl⟩
      refine Eq.trans (b := k0_pay4 (k0_pay10 (View.ld (arg12.view.read (Elt Ideal) X12) (Rect.unit (s := S2048x256) (k0_off1 k) ![128, 256] (fit k)))
        (View.ld (arg6.view.read (Elt Ideal) X6) (Rect.unit (s := S2048x256) (k0_off1 k) ![128, 256] (fit k)))
        (View.ld (arg4.view.read (Elt Ideal) X4) (Rect.unit (s := S2048x256) (k0_off1 k) ![128, 256] (fit k)))) (ix3 (0 : Fin 1) r f)) (by exact rfl) ?_
      rw [pay_gc, ld_strip, ld_strip, ld_strip]
      exact congrArg (gs _ _ _ _ _) (emb_half0 k (fit0 k) r f).symm

/-- The same of the pieces of all the strips before the `n`-th. -/
theorem strips : ∀ n : ℕ,
    (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X4 X5 X6 X7 X12 n).1, ∀ x,
      p.2 x = gb (arg12.view.read (Elt Ideal) X12) (arg6.view.read (Elt Ideal) X6) (p.1.emb x))
    ∧ (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X4 X5 X6 X7 X12 n).2.1, ∀ x,
      p.2 x = gb (arg12.view.read (Elt Ideal) X12) (arg7.view.read (Elt Ideal) X7) (p.1.emb x))
    ∧ (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X4 X5 X6 X7 X12 n).2.2, ∀ x,
      p.2 x = gs (arg12.view.read (Elt Ideal) X12) (arg4.view.read (Elt Ideal) X4) (arg5.view.read (Elt Ideal) X5)
        (arg6.view.read (Elt Ideal) X6) (arg7.view.read (Elt Ideal) X7) (p.1.emb x))
  | 0 => by
    rw [pb_k0_t1.eq_1]
    exact ⟨fun p hp => absurd hp List.not_mem_nil, fun p hp => absurd hp List.not_mem_nil, fun p hp => absurd hp List.not_mem_nil⟩
  | n + 1 => by
    obtain ⟨i1, i2, i3⟩ := strips n
    by_cases h : n < k0_t1_loop.trips
    · obtain ⟨s1, s2, s3⟩ := strip 𝒱 c bd i arg1 harg1 arg2 harg2 arg3 harg3 arg4 harg4 arg5 harg5 arg6 harg6 arg7 harg7 arg8 harg8 arg9 harg9 arg10 harg10 arg11 harg11 arg12 harg12 X4 X5 X6 X7 X12 ⟨n, h⟩
      rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 X4 X5 X6 X7 X12 ⟨n, h⟩]
      exact ⟨fun p hp => (List.mem_append.1 hp).elim (s1 p) (i1 p), fun p hp => (List.mem_append.1 hp).elim (s2 p) (i2 p),
        fun p hp => (List.mem_append.1 hp).elim (s3 p) (i3 p)⟩
    · rw [pb_k0_t1.eq_2]
      unfold pb_k0_t1Step
      rw [dif_neg h]
      exact ⟨i1, i2, i3⟩

/-- The same with what the loop reads under other names. -/
theorem strips_of {D a b x x' : Vec Ideal S2048x256 .f32} (e12 : arg12.view.read (Elt Ideal) X12 = D)
    (e4 : arg4.view.read (Elt Ideal) X4 = a) (e5 : arg5.view.read (Elt Ideal) X5 = b) (e6 : arg6.view.read (Elt Ideal) X6 = x)
    (e7 : arg7.view.read (Elt Ideal) X7 = x') (n : ℕ) :
    (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X4 X5 X6 X7 X12 n).1, ∀ z, p.2 z = gb D x (p.1.emb z))
    ∧ (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X4 X5 X6 X7 X12 n).2.1, ∀ z, p.2 z = gb D x' (p.1.emb z))
    ∧ (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X4 X5 X6 X7 X12 n).2.2, ∀ z, p.2 z = gs D a b x x' (p.1.emb z)) := by
  subst e12 e4 e5 e6 e7
  exact strips 𝒱 c bd i arg1 harg1 arg2 harg2 arg3 harg3 arg4 harg4 arg5 harg5 arg6 harg6 arg7 harg7 arg8 harg8 arg9 harg9 arg10 harg10 arg11 harg11 arg12 harg12 X4 X5 X6 X7 X12 n

end

/-! ## The windows after the body -/

/-- The gradient in the merged branches: the incoming gradient through the output matrix's rows. -/
def dm (x0 : Vec Ideal S2048x1024 .bf16) (x1 : Vec Ideal S256x1024 .bf16) (y : S2048x256.Idx) : EReal :=
  ∑ d : Fin 1024, x0 (ix2 (y 0) d) * x1 (ix2 (y 1) d)

theorem pay2 (x0 : Vec Ideal S2048x1024 .bf16) (x1 : Vec Ideal S256x1024 .bf16) : k0_pay2 x0 x1 = dm x0 x1 := by
  funext y
  obtain ⟨r, f, rfl⟩ : ∃ (r : Fin 2048) (f : Fin 256), y = ix2 r f := ⟨y 0, y 1, by funext b; fin_cases b <;> rfl⟩
  pointwise [k0_pay2, k0_pay1]
  rfl

/-- The output matrix's gradient, a block of rows. -/
theorem pay3 (x0 : Vec Ideal S2048x1024 .bf16) (x2 : Vec Ideal S2048x256 .bf16) (f : Fin 256) (d : Fin 1024) :
    k0_pay3 x0 x2 (ix2 f d) = ∑ s : Fin 2048, x2 (ix2 s f) * x0 (ix2 s d) := by
  pointwise [k0_pay3, k0_pay1]

section
variable (c : Dev nD) (i : grid0.Coords)
  (arg1 : Memref sig .tc .vmem S2048x1024 .bf16) (harg1 : arg1.IsWhole)
  (arg2 : Memref sig .tc .vmem S256x1024 .bf16) (harg2 : arg2.IsWhole)
  (arg3 : Memref sig .tc .vmem S2048x256 .bf16) (harg3 : arg3.IsWhole)
  (arg4 : Memref sig .tc .vmem S2048x256 .f32) (harg4 : arg4.IsWhole)
  (arg5 : Memref sig .tc .vmem S2048x256 .f32) (harg5 : arg5.IsWhole)
  (arg6 : Memref sig .tc .vmem S2048x256 .f32) (harg6 : arg6.IsWhole)
  (arg7 : Memref sig .tc .vmem S2048x256 .f32) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S256x1024 .bf16) (harg10 : arg10.IsWhole)
  (arg11 : Memref sig .tc .vmem S2x2048x256 .bf16) (harg11 : arg11.IsWhole)
  (arg12 : Memref sig .tc .vmem S2048x256 .f32) (harg12 : arg12.IsWhole)
  (x0 : Vec Ideal S2048x1024 .bf16) (x1 : Vec Ideal S256x1024 .bf16) (x2 : Vec Ideal S2048x256 .bf16)
  (x3 x4 x5 x6 : Vec Ideal S2048x256 .f32)

/-- The scratch, after the merged branches' gradient is stored, read back. -/
theorem scratch (f) (h) (D : Vec Ideal S2048x256 .f32) :
    arg12.view.read (Elt Ideal) (arg12.view.writes (Elt Ideal) f [⟨Rect.unit (s := S2048x256) ![0, 0] S2048x256.size h, D⟩]) = D := by
  funext y
  refine View.read_writes_apply_of_pieces _ _ D _ (fun p hp x => ?_) y ?_
  · obtain rfl := List.mem_singleton.1 hp
    refine congrArg D (funext fun b => Fin.ext ?_)
    refine Eq.symm ((Rect.idx_unit_val _ _ h _ b).trans ?_)
    fin_cases b <;> exact Nat.zero_add _
  · exact View.cover_of_tiledL _ S2048x256.size (by sl_kernel_rfl) y

/-- The whole windows, read back. -/
theorem read_ct (h) : View.readAt (Elt Ideal) arg1.view (Rect.unit ![0, 0] S2048x1024.size h).toLoadRect (harg1.unread x0) = x0 := by
  simp (disch := decide) only [View.readAt_eq_ld, Memref.IsWhole.read_unread, View.ld_unit_lit']

theorem read_w (h) : View.readAt (Elt Ideal) arg2.view (Rect.unit ![0, 0] S256x1024.size h).toLoadRect (harg2.unread x1) = x1 := by
  simp (disch := decide) only [View.readAt_eq_ld, Memref.IsWhole.read_unread, View.ld_unit_lit']

/-- The convolution branch's gradient. -/
theorem da_at (y) : out0_A_7 c i arg1 harg1 arg2 harg2 arg3 harg3 arg4 harg4 arg5 harg5 arg6 harg6 arg7 harg7 arg8 harg8 arg9 harg9 arg10 harg10 arg11 harg11 arg12 harg12 x0 x1 x2 x3 x4 x5 x6 y = gb (dm x0 x1) x5 y := by
  have hc := cover0_A_7 c i arg1 harg1 arg2 harg2 arg3 harg3 arg4 harg4 arg5 harg5 arg6 harg6 arg7 harg7 arg8 harg8 arg9 harg9 arg10 harg10 arg11 harg11 arg12 harg12 x0 x1 x2 x3 x4 x5 x6 y
  frame_open
  frame_open at hc
  refine View.read_writes_apply_of_pieces _ _ _ _ (strips_of Variants.none c none i arg1 harg1 arg2 harg2 arg3 harg3 arg4 harg4 arg5 harg5 arg6 harg6 arg7 harg7 arg8 harg8 arg9 harg9 arg10 harg10 arg11 harg11 arg12 harg12 _ _ _ _ _ ?_ (harg4.read_unread x3)
    (harg5.read_unread x4) (harg6.read_unread x5) (harg7.read_unread x6) _).1 y hc
  rw [scratch, read_ct, read_w, pay2]

/-- The recurrent branch's gradient. -/
theorem db_at (y) : out0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 y = gb (dm x0 x1) x6 y := by
  have hc := cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 y
  frame_open
  frame_open at hc
  refine View.read_writes_apply_of_pieces _ _ _ _ (strips_of Variants.none c none i arg1 harg1 arg2 harg2 arg3 harg3 arg4 harg4 arg5 harg5 arg6 harg6 arg7 harg7 arg8 harg8 arg9 harg9 arg10 harg10 arg11 harg11 arg12 harg12 _ _ _ _ _ ?_ (harg4.read_unread x3)
    (harg5.read_unread x4) (harg6.read_unread x5) (harg7.read_unread x6) _).2.1 y hc
  rw [scratch, read_ct, read_w, pay2]

/-- The gates' gradients. -/
theorem dg_at (y) : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 y = gs (dm x0 x1) x3 x4 x5 x6 y := by
  have hc := cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 y
  frame_open
  frame_open at hc
  refine View.read_writes_apply_of_pieces _ _ _ _ (strips_of Variants.none c none i arg1 harg1 arg2 harg2 arg3 harg3 arg4 harg4 arg5 harg5 arg6 harg6 arg7 harg7 arg8 harg8 arg9 harg9 arg10 harg10 arg11 harg11 arg12 harg12 _ _ _ _ _ ?_ (harg4.read_unread x3)
    (harg5.read_unread x4) (harg6.read_unread x5) (harg7.read_unread x6) _).2.2 y hc
  rw [scratch, read_ct, read_w, pay2]

/-- The output matrix's gradient. -/
theorem dw_at (f : Fin 256) (d : Fin 1024) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 (ix2 f d) = ∑ s : Fin 2048, x2 (ix2 s f) * x0 (ix2 s d) := by
  rw [← pay3]
  frame_out

end

end Cert.MergeBwd

end
-- ==== Proof.MergeBwdEqual.lean ====
/- The gradient of the gated sum and of the output projection: the operands, what each grid point leaves, the four arrays, and
   the claims. -/
module

public import proofs.«01_k».proof.Defs
public import proofs.«01_k».proof.Proof.MergeBwdPoint
public import proofs.«01_k».proof.Proof.Gen.MergeBwdKernel.Frame
public import proofs.«01_k».proof.Proof.Gen.MergeBwdKernelIdeal.Value
public import proofs.«01_k».proof.Proof.Gen.MergeBwdReferenceIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.MergeBwd

open Idealize.ShloMosaic Idealize.ShloMosaic.TcCoe Idealize.SL.Sem Cert.MergeBwdKernelIdeal Cert.MergeBwdKernelIdeal.Gen
open Cert.Merge (sg gcol)

/-! ## The formulas, of the branches `a`, `b`, the input projection `p`, the output matrix `w` and the incoming gradient `ct` -/

section
variable (a b : FVec Ideal S2048x1024 .f32) (p : FVec Ideal S2048x7168 .f32) (w : FVec Ideal S1024x1024 .f32)
  (ct : FVec Ideal S2048x1024 .f32)

/-- The gradient in the merged branches. -/
def dmg (i : Fin 2048) (j : Fin 1024) : EReal := ∑ d : Fin 1024, ct (ix2 i d) * w (ix2 j d)

/-- The gradient in a branch, through gate `z`. -/
def dbr (z : Fin 2) (i : Fin 2048) (j : Fin 1024) : EReal := dmg w ct i j * sg (p (ix2 i (gcol z j)))

/-- The gradient in gate `z`, whose branch is `y`. -/
def dgt (y : FVec Ideal S2048x1024 .f32) (z : Fin 2) (i : Fin 2048) (j : Fin 1024) : EReal :=
  dmg w ct i j * y (ix2 i j) * sg (p (ix2 i (gcol z j))) * (1 - sg (p (ix2 i (gcol z j))))

/-- The gradient in the two gates. -/
def dgs (z : Fin 2) (i : Fin 2048) (j : Fin 1024) : EReal := if z.val = 0 then dgt p w ct a 0 i j else dgt p w ct b 1 i j

/-- The merged branches. -/
def mrg (i : Fin 2048) (j : Fin 1024) : EReal := sg (p (ix2 i (gcol 0 j))) * a (ix2 i j) + sg (p (ix2 i (gcol 1 j))) * b (ix2 i j)

/-- The gradient in the output matrix. -/
def dwo (j : Fin 1024) (d : Fin 1024) : EReal := ∑ s : Fin 2048, mrg a b p s j * ct (ix2 s d)

end

/-! ## The operands -/

variable (m : (ℓ : Loc nD τ sig) → Buf (Elt Ideal) ℓ) (c : Dev nD)

/-- The arguments on a device: the two branches, the input projection, the output matrix and the incoming gradient. -/
abbrev ya : FVec Ideal S2048x1024 .f32 := m (c, Proc.tc.devRef main_arg0)
abbrev yb : FVec Ideal S2048x1024 .f32 := m (c, Proc.tc.devRef main_arg1)
abbrev prj : FVec Ideal S2048x7168 .f32 := m (c, Proc.tc.devRef main_arg2)
abbrev wo : FVec Ideal S1024x1024 .f32 := m (c, Proc.tc.devRef main_arg3)
abbrev ctg : FVec Ideal S2048x1024 .f32 := m (c, Proc.tc.devRef main_arg4)

/-- The incoming gradient, the output matrix and the merged branches, as the host hands them over. -/
theorem host_ct (i : Fin 2048) (j : Fin 1024) : V m c main_v17 (ix2 i j) = ctg m c (ix2 i j) := by
  entry_read
  pointwise

theorem host_wo (i : Fin 1024) (j : Fin 1024) : V m c main_v18 (ix2 i j) = wo m c (ix2 i j) := by
  entry_read
  pointwise

theorem host_mg (i : Fin 2048) (j : Fin 1024) : V m c main_v19 (ix2 i j) = mrg (ya m c) (yb m c) (prj m c) i j := by
  entry_read
  pointwise
  rfl

/-- The grid's point as the number of its block of 256 columns. -/
def num (t : Fin cfg0.N) : Fin 4 := ⟨t.val, lt_of_lt_of_eq t.isLt (show cfg0.N = 4 from N_0)⟩
/-- Column `f` of block `b`. -/
def bcol (b : Fin 4) (f : Fin 256) : Fin 1024 := ⟨b.val * 256 + f.val, by omega⟩

/-- The windows at a point: the incoming gradient whole, and the point's block of the matrix's rows and of the others' columns. -/
theorem blk0 (t : Fin cfg0.N) (i : Fin 2048) (j : Fin 1024) : iblk m c 0 t (ix2 i j) = ctg m c (ix2 i j) := by
  rw [← host_ct]
  have e0 : (cfg0.win 0).index t 0 = 0 := by decide +revert
  have e1 : (cfg0.win 0).index t 1 = 0 := by decide +revert
  blk_ext [iblk, e0, e1]

theorem blk1 (t : Fin cfg0.N) (f : Fin 256) (d : Fin 1024) : iblk m c 1 t (ix2 f d) = wo m c (ix2 (bcol (num t) f) d) := by
  rw [← host_wo]
  have e0 : (cfg0.win 1).index t 0 = t.val := by decide +revert
  have e1 : (cfg0.win 1).index t 1 = 0 := by decide +revert
  blk_ext [iblk, e0, e1, bcol, num]

theorem blk2 (t : Fin cfg0.N) (i : Fin 2048) (f : Fin 256) :
    iblk m c 2 t (ix2 i f) = mrg (ya m c) (yb m c) (prj m c) i (bcol (num t) f) := by
  rw [← host_mg]
  have e0 : (cfg0.win 2).index t 0 = 0 := by decide +revert
  have e1 : (cfg0.win 2).index t 1 = t.val := by decide +revert
  blk_ext [iblk, e0, e1, bcol, num]

theorem blk3 (t : Fin cfg0.N) (i : Fin 2048) (f : Fin 256) : iblk m c 3 t (ix2 i f) = ya m c (ix2 i (bcol (num t) f)) := by
  rw [ya, ← V_main_arg0 m c]
  have e0 : (cfg0.win 3).index t 0 = 0 := by decide +revert
  have e1 : (cfg0.win 3).index t 1 = t.val := by decide +revert
  blk_ext [iblk, e0, e1, bcol, num]

theorem blk4 (t : Fin cfg0.N) (i : Fin 2048) (f : Fin 256) : iblk m c 4 t (ix2 i f) = yb m c (ix2 i (bcol (num t) f)) := by
  rw [yb, ← V_main_arg1 m c]
  have e0 : (cfg0.win 4).index t 0 = 0 := by decide +revert
  have e1 : (cfg0.win 4).index t 1 = t.val := by decide +revert
  blk_ext [iblk, e0, e1, bcol, num]

theorem blk5 (t : Fin cfg0.N) (i : Fin 2048) (f : Fin 256) : iblk m c 5 t (ix2 i f) = prj m c (ix2 i (gcol 0 (bcol (num t) f))) := by
  rw [prj, ← V_main_arg2 m c]
  have e0 : (cfg0.win 5).index t 0 = 0 := by decide +revert
  have e1 : (cfg0.win 5).index t 1 = 20 + t.val := by decide +revert
  blk_ext [iblk, e0, e1, bcol, num, gcol]

theorem blk6 (t : Fin cfg0.N) (i : Fin 2048) (f : Fin 256) : iblk m c 6 t (ix2 i f) = prj m c (ix2 i (gcol 1 (bcol (num t) f))) := by
  rw [prj, ← V_main_arg2 m c]
  have e0 : (cfg0.win 6).index t 0 = 0 := by decide +revert
  have e1 : (cfg0.win 6).index t 1 = 24 + t.val := by decide +revert
  blk_ext [iblk, e0, e1, bcol, num, gcol]

/-- The merged branches' gradient at a point. -/
theorem dm_at (t : Fin cfg0.N) (i : Fin 2048) (f : Fin 256) :
    dm (iblk m c 0 t) (iblk m c 1 t) (ix2 i f) = dmg (wo m c) (ctg m c) i (bcol (num t) f) :=
  Finset.sum_congr rfl fun d _ => congrArg₂ (fun x y : EReal => x * y) (blk0 m c t i d) (blk1 m c t f d)

/-! ## The points -/

theorem a_at (t : Fin cfg0.N) (i : Fin 2048) (f : Fin 256) :
    (outsAt0 m c t).1 (ix2 i f) = dbr (prj m c) (wo m c) (ctg m c) 0 i (bcol (num t) f) := by
  unfold outsAt0
  dsimp only
  rw [da_at, gb, dm_at, blk5]
  rfl

theorem b_at (t : Fin cfg0.N) (i : Fin 2048) (f : Fin 256) :
    (outsAt0 m c t).2.1 (ix2 i f) = dbr (prj m c) (wo m c) (ctg m c) 1 i (bcol (num t) f) := by
  unfold outsAt0
  dsimp only
  rw [db_at, gb, dm_at, blk6]
  rfl

theorem w_at (t : Fin cfg0.N) (f : Fin 256) (d : Fin 1024) :
    (outsAt0 m c t).2.2.1 (ix2 f d) = dwo (ya m c) (yb m c) (prj m c) (ctg m c) (bcol (num t) f) d := by
  unfold outsAt0
  dsimp only
  rw [dw_at]
  exact Finset.sum_congr rfl fun s _ => congrArg₂ (fun x y : EReal => x * y) (blk2 m c t s f) (blk0 m c t s d)

theorem g_at (t : Fin cfg0.N) (z : Fin 2) (i : Fin 2048) (f : Fin 256) :
    (outsAt0 m c t).2.2.2 (ix3 z i f) = dgs (ya m c) (yb m c) (prj m c) (wo m c) (ctg m c) z i (bcol (num t) f) := by
  unfold outsAt0
  dsimp only
  rw [dg_at, gs, dgs]
  refine if_congr Iff.rfl ?_ ?_
  · refine Eq.trans (b := gg (dm (iblk m c 0 t) (iblk m c 1 t)) (iblk m c 3 t) (iblk m c 5 t) (ix2 i f)) rfl ?_
    rw [gg, dm_at, blk3, blk5]
    rfl
  · refine Eq.trans (b := gg (dm (iblk m c 0 t) (iblk m c 1 t)) (iblk m c 4 t) (iblk m c 6 t) (ix2 i f)) rfl ?_
    rw [gg, dm_at, blk4, blk6]
    rfl

/-! ## The arrays -/

theorem arr_a : (dats m 0 c).arrAt 7 cfg0.N = fun x => dbr (prj m c) (wo m c) (ctg m c) 0 (x 0) (x 1) := by
  refine (dats m 0 c).arrAt_eq_of_covers 7 _ (by decide +kernel) fun t hf y => ?_
  have e0 : (cfg0.win 7).index t 0 = 0 := by decide +revert
  have e1 : (cfg0.win 7).index t 1 = t.val := by decide +revert
  have x0 : (((cfg0.win 7).blk t).view.emb y 0).val = (y 0).val := by blk_simp [e0]
  have x1 : (((cfg0.win 7).blk t).view.emb y 1).val = t.val * 256 + (y 1).val := by blk_simp [e1]
  blk_simp
  rw [after0_7]
  have hy : y = ix2 (y 0) (y 1) := by funext b; fin_cases b <;> rfl
  refine (congrArg _ hy).trans ((a_at m c t (y 0) (y 1)).trans ?_)
  exact congrArg₂ _ (Fin.ext x0.symm) (Fin.ext x1.symm)

theorem arr_b : (dats m 0 c).arrAt 8 cfg0.N = fun x => dbr (prj m c) (wo m c) (ctg m c) 1 (x 0) (x 1) := by
  refine (dats m 0 c).arrAt_eq_of_covers 8 _ (by decide +kernel) fun t hf y => ?_
  have e0 : (cfg0.win 8).index t 0 = 0 := by decide +revert
  have e1 : (cfg0.win 8).index t 1 = t.val := by decide +revert
  have x0 : (((cfg0.win 8).blk t).view.emb y 0).val = (y 0).val := by blk_simp [e0]
  have x1 : (((cfg0.win 8).blk t).view.emb y 1).val = t.val * 256 + (y 1).val := by blk_simp [e1]
  blk_simp
  rw [after0_8]
  have hy : y = ix2 (y 0) (y 1) := by funext b; fin_cases b <;> rfl
  refine (congrArg _ hy).trans ((b_at m c t (y 0) (y 1)).trans ?_)
  exact congrArg₂ _ (Fin.ext x0.symm) (Fin.ext x1.symm)

theorem arr_w : (dats m 0 c).arrAt 9 cfg0.N = fun x => dwo (ya m c) (yb m c) (prj m c) (ctg m c) (x 0) (x 1) := by
  refine (dats m 0 c).arrAt_eq_of_covers 9 _ (by decide +kernel) fun t hf y => ?_
  have e0 : (cfg0.win 9).index t 0 = t.val := by decide +revert
  have e1 : (cfg0.win 9).index t 1 = 0 := by decide +revert
  have x0 : (((cfg0.win 9).blk t).view.emb y 0).val = t.val * 256 + (y 0).val := by blk_simp [e0]
  have x1 : (((cfg0.win 9).blk t).view.emb y 1).val = (y 1).val := by blk_simp [e1]
  blk_simp
  rw [after0_9]
  have hy : y = ix2 (y 0) (y 1) := by funext b; fin_cases b <;> rfl
  refine (congrArg _ hy).trans ((w_at m c t (y 0) (y 1)).trans ?_)
  exact congrArg₂ _ (Fin.ext x0.symm) (Fin.ext x1.symm)

theorem arr_g : (dats m 0 c).arrAt 10 cfg0.N
    = fun x => dgs (ya m c) (yb m c) (prj m c) (wo m c) (ctg m c) (x 0) (x 1) (x 2) := by
  refine (dats m 0 c).arrAt_eq_of_covers 10 _ (by decide +kernel) fun t hf y => ?_
  have e0 : (cfg0.win 10).index t 0 = 0 := by decide +revert
  have e1 : (cfg0.win 10).index t 1 = 0 := by decide +revert
  have e2 : (cfg0.win 10).index t 2 = t.val := by decide +revert
  have x0 : (((cfg0.win 10).blk t).view.emb y 0).val = (y 0).val := by blk_simp [e0]
  have x1 : (((cfg0.win 10).blk t).view.emb y 1).val = (y 1).val := by blk_simp [e1]
  have x2 : (((cfg0.win 10).blk t).view.emb y 2).val = t.val * 256 + (y 2).val := by blk_simp [e2]
  blk_simp
  rw [after0_10]
  have hy : y = ix3 (y 0) (y 1) (y 2) := by funext b; fin_cases b <;> rfl
  refine (congrArg _ hy).trans ((g_at m c t (y 0) (y 1) (y 2)).trans ?_)
  rw [show (y 0 : Fin 2) = ((cfg0.win 10).blk t).view.emb y 0 from Fin.ext x0.symm,
    show (y 1 : Fin 2048) = ((cfg0.win 10).blk t).view.emb y 1 from Fin.ext x1.symm,
    show bcol (num t) (y 2) = ((cfg0.win 10).blk t).view.emb y 2 from Fin.ext x2.symm]

/-! ## The reference -/

section
open Cert.MergeBwdReferenceIdeal.Read
variable (x0 x1 : FVec Ideal S2048x1024 .f32) (x2 : FVec Ideal S2048x7168 .f32) (x3 : FVec Ideal S1024x1024 .f32)
  (x4 : FVec Ideal S2048x1024 .f32)

/-- The reference's gates, the merged branches and their gradient. -/
theorem ref_gc (i : Fin 2048) (j : Fin 1024) : val_main_v7 (F := Ideal) x2 (ix2 i j) = sg (x2 (ix2 i (gcol 0 j))) := by
  pointwise [val_main_v7, val_main_v6, val_main_v5, val_main_v4, val_main_v3, val_main_v2, val_main_v0, val_main_cst, val_main_cst_0]
  rfl

theorem ref_gl (i : Fin 2048) (j : Fin 1024) : val_main_v17 (F := Ideal) x2 (ix2 i j) = sg (x2 (ix2 i (gcol 1 j))) := by
  pointwise [val_main_v17, val_main_v16, val_main_v15, val_main_v14, val_main_v13, val_main_v12, val_main_v1, val_main_cst_2,
    val_main_cst_3]
  rfl

theorem ref_mg (i : Fin 2048) (j : Fin 1024) : val_main_v22 (F := Ideal) x0 x1 x2 (ix2 i j) = mrg x0 x1 x2 i j := by
  pointwise [val_main_v22, val_main_v21, val_main_v11]
  rw [ref_gc, ref_gl]
  rfl

theorem ref_dm (i : Fin 2048) (j : Fin 1024) : val_main_v26 (F := Ideal) x3 x4 (ix2 i j) = dmg x3 x4 i j := by
  pointwise [val_main_v26]
  rfl

theorem ref_a (i : Fin 2048) (j : Fin 1024) : val_main_v33 (F := Ideal) x2 x3 x4 (ix2 i j) = dbr x2 x3 x4 0 i j := by
  pointwise [val_main_v33, val_main_v30]
  rw [ref_gc, ref_dm]
  exact mul_comm (G := EReal) _ _

theorem ref_b (i : Fin 2048) (j : Fin 1024) : val_main_v34 (F := Ideal) x2 x3 x4 (ix2 i j) = dbr x2 x3 x4 1 i j := by
  pointwise [val_main_v34, val_main_v27]
  rw [ref_gl, ref_dm]
  exact mul_comm (G := EReal) _ _

theorem ref_w (j : Fin 1024) (d : Fin 1024) : val_main_v35 (F := Ideal) x0 x1 x2 x4 (ix2 j d) = dwo x0 x1 x2 x4 j d := by
  pointwise [val_main_v35, val_main_v25, val_main_v24]
  refine Finset.sum_congr rfl fun s _ => ?_
  rw [ref_mg]
  exact mul_comm (G := EReal) _ _

theorem ref_dgc (i : Fin 2048) (j : Fin 1024) : val_main_v32 (F := Ideal) x0 x2 x3 x4 (ix2 i j) = dgt x2 x3 x4 x0 0 i j := by
  pointwise [val_main_v32, val_main_v31, val_main_v10, val_main_v9, val_main_v8, val_main_cst_1]
  rw [ref_gc, ref_dm]
  exact (mul_assoc (G := EReal) _ _ _).symm

theorem ref_dgl (i : Fin 2048) (j : Fin 1024) : val_main_v29 (F := Ideal) x1 x2 x3 x4 (ix2 i j) = dgt x2 x3 x4 x1 1 i j := by
  pointwise [val_main_v29, val_main_v28, val_main_v20, val_main_v19, val_main_v18, val_main_cst_4]
  rw [ref_gl, ref_dm]
  exact (mul_assoc (G := EReal) _ _ _).symm

theorem ref_g (z : Fin 2) (i : Fin 2048) (j : Fin 1024) :
    val_main_v39 (F := Ideal) x0 x1 x2 x3 x4 (ix3 z i j) = dgs x0 x1 x2 x3 x4 z i j := by
  rw [dgs, ← ref_dgc, ← ref_dgl]
  fin_cases z
  · pointwise [val_main_v39, val_main_v38, val_main_v36, val_main_v37]
  · pointwise [val_main_v39, val_main_v38, val_main_v36, val_main_v37]

/-- The reference's four results. -/
theorem res_a : val_main_v33 (F := Ideal) x2 x3 x4 = fun y => dbr x2 x3 x4 0 (y 0) (y 1) := by
  funext y
  have hy : y = ix2 (y 0) (y 1) := by funext b; fin_cases b <;> rfl
  exact (congrArg _ hy).trans (ref_a x2 x3 x4 (y 0) (y 1))

theorem res_b : val_main_v34 (F := Ideal) x2 x3 x4 = fun y => dbr x2 x3 x4 1 (y 0) (y 1) := by
  funext y
  have hy : y = ix2 (y 0) (y 1) := by funext b; fin_cases b <;> rfl
  exact (congrArg _ hy).trans (ref_b x2 x3 x4 (y 0) (y 1))

theorem res_w : val_main_v35 (F := Ideal) x0 x1 x2 x4 = fun y => dwo x0 x1 x2 x4 (y 0) (y 1) := by
  funext y
  have hy : y = ix2 (y 0) (y 1) := by funext b; fin_cases b <;> rfl
  exact (congrArg _ hy).trans (ref_w x0 x1 x2 x4 (y 0) (y 1))

theorem res_g : val_main_v39 (F := Ideal) x0 x1 x2 x3 x4 = fun y => dgs x0 x1 x2 x3 x4 (y 0) (y 1) (y 2) := by
  funext y
  have hy : y = ix3 (y 0) (y 1) (y 2) := by funext b; fin_cases b <;> rfl
  exact (congrArg _ hy).trans (ref_g x0 x1 x2 x3 x4 (y 0) (y 1) (y 2))

end

/-! ## The claims -/

/-- The reference is host operations alone: it ends with its arguments as they were and every counter at zero. -/
theorem frame_ri : Cert.quiescent_MergeBwdReferenceIdeal := fun m ρ _ =>
  (θ_run Cert.MergeBwdReferenceIdeal.defs _ _).mono
    (fun r h => ⟨fun c => (h c).2.2.2.2, sem_eq_zero_of_no_sems (by decide) r.2⟩)
    (Cert.MergeBwdReferenceIdeal.Value.run (F := Ideal) m ρ)

/-- From equal arguments the call's four arrays and the reference's four results are the same: the gradients in the two branches,
    in the output matrix and in the two gates. -/
theorem equal : Cert.algebraic_MergeBwdKernelIdeal_MergeBwdReferenceIdeal := by
  intro m ρ m' ρ' _ hargs
  refine ⟨fun c => fun x => dbr (prj m c) (wo m c) (ctg m c) 0 (x 0) (x 1), fun c => fun x => dbr (prj m c) (wo m c) (ctg m c) 1 (x 0) (x 1),
    fun c => fun x => dwo (ya m c) (yb m c) (prj m c) (ctg m c) (x 0) (x 1),
    fun c => fun x => dgs (ya m c) (yb m c) (prj m c) (wo m c) (ctg m c) (x 0) (x 1) (x 2), ?_, ?_⟩
  · refine (θ_run Cert.MergeBwdKernelIdeal.defs _ _).mono (fun r h c => ?_) (Cert.MergeBwdKernelIdeal.Value.run_blocks (F := Ideal) m ρ)
    obtain ⟨e0, e1, e2, e3, k⟩ := h c
    exact ⟨e0.trans (arr_a m c), e1.trans (arr_b m c), e2.trans (arr_w m c), e3.trans (arr_g m c), k⟩
  · refine (θ_run Cert.MergeBwdReferenceIdeal.defs _ _).mono (fun r h c => ?_) (Cert.MergeBwdReferenceIdeal.Value.run (F := Ideal) m' ρ')
    obtain ⟨e0, e1, e2, e3, k⟩ := h c
    obtain ⟨a0, a1, a2, a3, a4⟩ := hargs c
    refine ⟨(e0.trans (Cert.MergeBwdReferenceIdeal.Read.val_main_v33_eq _ _ _)).trans ((res_a _ _ _).trans ?_),
      (e1.trans (Cert.MergeBwdReferenceIdeal.Read.val_main_v34_eq _ _ _)).trans ((res_b _ _ _).trans ?_),
      (e2.trans (Cert.MergeBwdReferenceIdeal.Read.val_main_v35_eq _ _ _ _)).trans ((res_w _ _ _ _).trans ?_),
      (e3.trans (Cert.MergeBwdReferenceIdeal.Read.val_main_v39_eq _ _ _ _ _)).trans ((res_g _ _ _ _ _).trans ?_), k⟩
    · rw [a2, a3, a4]
      rfl
    · rw [a2, a3, a4]
      rfl
    · rw [a0, a1, a2, a4]
      rfl
    · rw [a0, a1, a2, a3, a4]
      rfl

end Cert.MergeBwd

end
-- ==== Proof.AdamEqual.lean ====
/- The optimiser's call for the replicated parameters: the two bias corrections, and the claims. -/
module

public import proofs.«01_k».proof.Defs
public import proofs.«01_k».proof.Proof.Gen.AdamKernel.Frame
public import proofs.«01_k».proof.Proof.Gen.AdamKernelIdeal.Value
public import proofs.«01_k».proof.Proof.Gen.AdamReferenceIdeal.Read
public import Idealize.ShloMosaic.PureOps.Ideal.Laws
public import Idealize.ShloMosaic.Lib.Quiescent

@[expose] public section

set_option maxRecDepth 16384

noncomputable section

namespace Cert.Adam

open Idealize.ShloMosaic Idealize.ShloMosaic.TcCoe Idealize.SL.Sem Cert.AdamKernelIdeal Cert.AdamKernelIdeal.Value
open Cert.AdamReferenceIdeal.Read

/-! ## The bias corrections -/

/-- The reference's two divisors, as it stores them. -/
theorem lit_d1 : Ideal.ofBits .f32 0x3F26BD02#32 = ((5463681 / 8388608 : ℝ) : EReal) := by
  simp [Ideal.ofBits, Ideal.ieee, -EReal.coe_mul]; norm_num

theorem lit_d2 : Ideal.ofBits .f32 0x3C231ACC#32 = ((2672307 / 268435456 : ℝ) : EReal) := by
  simp [Ideal.ofBits, Ideal.ieee, -EReal.coe_mul]; norm_num

/-- The idealized call's two factors: their reciprocals. -/
theorem named_c1 : Named.named (F := Ideal) (φ := .f32) Cert.AdamKernelIdeal.κ "c1" 0x3FC48605#32 = ((8388608 / 5463681 : ℝ) : EReal) :=
  IdealRules.named_const.ideal_named_scalar _ _ _ _ rfl

theorem named_c2 : Named.named (F := Ideal) (φ := .f32) Cert.AdamKernelIdeal.κ "c2" 0x42C8E6D3#32 = ((268435456 / 2672307 : ℝ) : EReal) :=
  IdealRules.named_const.ideal_named_scalar _ _ _ _ rfl

/-- Dividing by a divisor is multiplying by its factor. -/
theorem by_c1 (x : EReal) : Ideal.div x (Ideal.ofBits .f32 0x3F26BD02#32)
    = x * Named.named (F := Ideal) (φ := .f32) Cert.AdamKernelIdeal.κ "c1" 0x3FC48605#32 := by
  rw [lit_d1, named_c1, Ideal.div_coe (by norm_num)]
  norm_num

theorem by_c2 (x : EReal) : Ideal.div x (Ideal.ofBits .f32 0x3C231ACC#32)
    = x * Named.named (F := Ideal) (φ := .f32) Cert.AdamKernelIdeal.κ "c2" 0x42C8E6D3#32 := by
  rw [lit_d2, named_c2, Ideal.div_coe (by norm_num)]
  norm_num

/-! ## The reference -/

section
variable (x0 x1 x2 x3 : FVec Ideal S16x1024 .f32)

/-- The moments are the call's. -/
theorem res_m : val_main_v4 (F := Ideal) x1 x2 = G5 (F := Ideal) x1 x2 := by
  funext y
  rfl

theorem res_v : val_main_v10 (F := Ideal) x1 x3 = G6 (F := Ideal) x1 x3 := by
  funext y
  rfl

/-- The corrected moments. -/
theorem ref_m (y : S16x1024.Idx) : val_main_v12 (F := Ideal) x1 x2 y
    = G5 (F := Ideal) x1 x2 y * Named.named (F := Ideal) (φ := .f32) Cert.AdamKernelIdeal.κ "c1" 0x3FC48605#32 :=
  Eq.trans (b := Ideal.div (val_main_v4 (F := Ideal) x1 x2 y) (Ideal.ofBits .f32 0x3F26BD02#32)) rfl
    ((by_c1 _).trans (by rw [res_m]))

theorem ref_v (y : S16x1024.Idx) : val_main_v14 (F := Ideal) x1 x3 y
    = G6 (F := Ideal) x1 x3 y * Named.named (F := Ideal) (φ := .f32) Cert.AdamKernelIdeal.κ "c2" 0x42C8E6D3#32 :=
  Eq.trans (b := Ideal.div (val_main_v10 (F := Ideal) x1 x3 y) (Ideal.ofBits .f32 0x3C231ACC#32)) rfl
    ((by_c2 _).trans (by rw [res_v]))

/-- The update is the call's. -/
theorem res_d : val_main_v23 (F := Ideal) x0 x1 x2 x3 = G4 (F := Ideal) x0 x1 x2 x3 := by
  funext y
  refine Eq.trans (b := Ideal.ofBits .f32 0xBA83126F#32 * (Ideal.div (val_main_v12 (F := Ideal) x1 x2 y)
    (Ideal.sqrt (val_main_v14 (F := Ideal) x1 x3 y) + Ideal.ofBits .f32 0x322BCC77#32) + Ideal.ofBits .f32 0x3C23D70A#32 * x0 y)) rfl ?_
  rw [ref_m, ref_v]
  rfl

end

/-! ## The claims -/

/-- The two named constants of the idealized call are the reciprocals of the reference's divisors. -/
theorem named : Cert.preserves_AdamKernel_AdamKernelIdeal :=
  ⟨IdealRules.named_const.statement Cert.AdamKernelIdeal.κ _ _ _ _ rfl, IdealRules.named_const.statement Cert.AdamKernelIdeal.κ _ _ _ _ rfl⟩

/-- The reference is host operations alone: it ends with its arguments as they were and every counter at zero. -/
theorem frame_ri : Cert.quiescent_AdamReferenceIdeal := fun m ρ _ =>
  (θ_run Cert.AdamReferenceIdeal.defs _ _).mono
    (fun r h => ⟨fun c => (h c).2.2.2, sem_eq_zero_of_no_sems (by decide) r.2⟩)
    (Cert.AdamReferenceIdeal.Value.run (F := Ideal) m ρ)

variable (m : (ℓ : Loc nD τ sig) → Buf (Elt Ideal) ℓ) (c : Dev nD)

/-- The arguments on a device: the parameters, their gradients and the two moments. -/
abbrev w : FVec Ideal S16x1024 .f32 := m (c, Proc.tc.devRef main_arg0)
abbrev g : FVec Ideal S16x1024 .f32 := m (c, Proc.tc.devRef main_arg1)
abbrev mu : FVec Ideal S16x1024 .f32 := m (c, Proc.tc.devRef main_arg2)
abbrev nu : FVec Ideal S16x1024 .f32 := m (c, Proc.tc.devRef main_arg3)

/-- From equal arguments the call's three arrays and the reference's three results are the same: the update and the two moments. -/
theorem equal : Cert.algebraic_AdamKernelIdeal_AdamReferenceIdeal := by
  intro m ρ m' ρ' _ hargs
  refine ⟨fun c => G4 (F := Ideal) (w m c) (g m c) (mu m c) (nu m c), fun c => G5 (F := Ideal) (g m c) (mu m c),
    fun c => G6 (F := Ideal) (g m c) (nu m c), ?_, ?_⟩
  · exact Cert.AdamKernelIdeal.Value.run (F := Ideal) m ρ
  · refine (θ_run Cert.AdamReferenceIdeal.defs _ _).mono (fun r h c => ?_) (Cert.AdamReferenceIdeal.Value.run (F := Ideal) m' ρ')
    obtain ⟨e0, e1, e2, k⟩ := h c
    obtain ⟨a0, a1, a2, a3⟩ := hargs c
    refine ⟨(e0.trans (Cert.AdamReferenceIdeal.Read.val_main_v23_eq _ _ _ _)).trans ((res_d _ _ _ _).trans ?_),
      (e1.trans (Cert.AdamReferenceIdeal.Read.val_main_v4_eq _ _)).trans ((res_m _ _).trans ?_),
      (e2.trans (Cert.AdamReferenceIdeal.Read.val_main_v10_eq _ _)).trans ((res_v _ _).trans ?_), k⟩
    · rw [a0, a1, a2, a3]
    · rw [a1, a2]
    · rw [a1, a3]

end Cert.Adam

end
-- ==== Proof.RmsBwd.lean ====
/- The gradient of the root-mean-square norm of a row, over the extended reals: the kernels' formula and the chain rule's are
   the same for every row and cotangent. -/
module

public import proofs.«01_k».proof.Proof.NormPoint

@[expose] public section

noncomputable section

namespace Cert.RmsBwd

open Idealize.ShloMosaic Cert.Norm

/-- The kernels' gradient at entry `j`, from the row `x` and the cotangent times the gain, `d`. -/
def ker (x d : Fin 1024 → EReal) (j : Fin 1024) : EReal :=
  inv x * (d j - x j * inv x * Ideal.div (∑ k, d k * (x k * inv x)) (Ideal.ofBits .f32 0x44800000#32))

/-- What the chain rule sends through the row's mean square. -/
def through (x d : Fin 1024 → EReal) : EReal :=
  Ideal.div ((∑ k, x k * d k) * (Ideal.ofBits .f32 0xBF000000#32
    * Ideal.div (inv x) (Ideal.div (∑ k, x k * x k) (Ideal.ofBits .f32 0x44800000#32) + Ideal.ofBits .f32 0x358637BD#32)))
    (Ideal.ofBits .f32 0x44800000#32)

/-- The chain rule's gradient: directly, and twice through the square. -/
def chain (x d : Fin 1024 → EReal) (j : Fin 1024) : EReal :=
  d j * inv x + x j * through x d + through x d * x j

theorem w1024 : Ideal.ofBits .f32 0x44800000#32 = ((1024 : ℝ) : EReal) := by
  simp [Ideal.ofBits, Ideal.ieee, -EReal.coe_mul]; norm_num

theorem whalf : Ideal.ofBits .f32 0xBF000000#32 = ((-(1 / 2) : ℝ) : EReal) := by
  simp [Ideal.ofBits, Ideal.ieee, -EReal.coe_mul]; norm_num

/-- The epsilon is a positive real. -/
theorem weps : ∃ e : ℝ, 0 < e ∧ Ideal.ofBits .f32 0x358637BD#32 = (e : EReal) := by
  refine ⟨_, ?_, by simp [Ideal.ofBits, Ideal.ieee, -EReal.coe_mul]; rfl⟩
  norm_num

/-- A real factor may be moved into a sum when it is not negative. -/
theorem mul_sum {n : ℕ} (r : ℝ) (hr : 0 ≤ r) (f : Fin n → EReal) : (r : EReal) * ∑ k, f k = ∑ k, (r : EReal) * f k := by
  induction n with
  | zero => simp
  | succ n ih => rw [Fin.sum_univ_succ, Fin.sum_univ_succ, EReal.left_distrib_of_nonneg_of_ne_top (by exact_mod_cast hr) (EReal.coe_ne_top r), ih]

/-- Twice a real multiple. -/
theorem twice (s : ℝ) (t : EReal) : (s : EReal) * t + (s : EReal) * t = ((s + s : ℝ) : EReal) * t := by
  rcases lt_trichotomy s 0 with h | rfl | h
  · induction t with
    | bot => rw [EReal.coe_mul_bot_of_neg h, EReal.coe_mul_bot_of_neg (by linarith)]; rfl
    | top => rw [EReal.coe_mul_top_of_neg h, EReal.coe_mul_top_of_neg (by linarith)]; rfl
    | coe t => norm_cast; ring_nf
  · simp
  · induction t with
    | bot => rw [EReal.coe_mul_bot_of_pos h, EReal.coe_mul_bot_of_pos (by linarith)]; rfl
    | top => rw [EReal.coe_mul_top_of_pos h, EReal.coe_mul_top_of_pos (by linarith)]; rfl
    | coe t => norm_cast; ring_nf

/-- A row with an infinite entry has an infinite sum of squares. -/
theorem sq_top (x : Fin 1024 → EReal) (k : Fin 1024) (h : x k * x k = ⊤) : ∑ k, x k * x k = ⊤ := by
  refine top_le_iff.mp (h ▸ Finset.single_le_sum (f := fun k => x k * x k) (fun i _ => ?_) (Finset.mem_univ k))
  induction x i with
  | bot => simp
  | top => simp
  | coe r => exact_mod_cast mul_self_nonneg r

/-- Either all entries are real or the sum of squares is infinite. -/
theorem real_or_top (x : Fin 1024 → EReal) : (∃ y : Fin 1024 → ℝ, x = fun k => (y k : EReal)) ∨ ∑ k, x k * x k = ⊤ := by
  by_cases h : ∃ k, x k * x k = ⊤
  · obtain ⟨k, hk⟩ := h
    exact .inr (sq_top x k hk)
  · refine .inl ⟨fun k => (x k).toReal, funext fun k => (EReal.coe_toReal (fun e => h ⟨k, ?_⟩) (fun e => h ⟨k, ?_⟩)).symm⟩ <;>
    simp [e]

/-- Over a real row the two are the same. -/
theorem chain_coe (y : Fin 1024 → ℝ) (d : Fin 1024 → EReal) (j : Fin 1024) :
    chain (fun k => (y k : EReal)) d j = ker (fun k => (y k : EReal)) d j := by
  obtain ⟨e, he, hw⟩ := weps
  have hs : ∑ k, (y k : EReal) * (y k : EReal) = ((∑ k, y k * y k : ℝ) : EReal) := by
    simp only [← EReal.coe_mul]
    exact (map_sum (⟨⟨Real.toEReal, rfl⟩, EReal.coe_add⟩ : ℝ →+ EReal) _ _).symm
  have h0 : 0 ≤ ∑ k, y k * y k := Finset.sum_nonneg fun k _ => mul_self_nonneg _
  obtain ⟨v, hv, hvw⟩ : ∃ v : ℝ, 0 < v ∧ Ideal.div (∑ k, (y k : EReal) * (y k : EReal)) (Ideal.ofBits .f32 0x44800000#32)
      + Ideal.ofBits .f32 0x358637BD#32 = (v : EReal) := by
    refine ⟨(∑ k, y k * y k) * (1 / 1024) + e, by positivity, ?_⟩
    rw [hw, hs, w1024, Ideal.div_coe (by norm_num), ← EReal.coe_mul, ← EReal.coe_add]
  have hr : inv (fun k => (y k : EReal)) = (((Real.sqrt v)⁻¹ : ℝ) : EReal) := by
    rw [inv, hvw, Ideal.rsqrt_coe, if_neg (by linarith), if_neg hv.ne']
  have hr0 : 0 < (Real.sqrt v)⁻¹ := inv_pos.mpr (Real.sqrt_pos.mpr hv)
  have hrv : (Real.sqrt v)⁻¹ * (Real.sqrt v)⁻¹ = 1 / v := by
    rw [← mul_inv, Real.mul_self_sqrt hv.le, one_div]
  generalize (Real.sqrt v)⁻¹ = r at hr hr0 hrv
  set T : EReal := ∑ k, (y k : EReal) * d k with hT
  have hk : ∑ k, d k * ((y k : EReal) * (r : EReal)) = (r : EReal) * T := by
    rw [hT, mul_sum r hr0.le]
    exact Finset.sum_congr rfl fun k _ => by
      rw [← mul_assoc (G := EReal), mul_comm (G := EReal) (d k), mul_comm (G := EReal)]
  have ht : through (fun k => (y k : EReal)) d = T * ((-(1 / 2) * (r * (1 / v)) * (1 / 1024) : ℝ) : EReal) := by
    rw [through, hvw, hr, whalf, w1024, Ideal.div_coe hv.ne', Ideal.div_coe (by norm_num), ← hT, ← EReal.coe_mul, ← EReal.coe_mul,
      mul_assoc (G := EReal), ← EReal.coe_mul]
  rw [chain, ht, ker, hr, w1024, hk, Ideal.div_coe (by norm_num), ← hrv]
  generalize T = t
  generalize d j = a
  generalize y j = b
  have hx : (b : EReal) * r * (r * t * ((1 / 1024 : ℝ) : EReal)) = ((b * r * (r * (1 / 1024)) : ℝ) : EReal) * t := by
    simp only [EReal.coe_mul]
    ac_rfl
  have hc (s : ℝ) : (b : EReal) * (t * (s : EReal)) = ((b * s : ℝ) : EReal) * t := by
    simp only [EReal.coe_mul]
    ac_rfl
  rw [mul_comm (G := EReal) (t * _) (b : EReal), add_assoc, hc, twice, hx, sub_eq_add_neg, ← EReal.neg_mul, ← EReal.coe_neg,
    EReal.left_distrib_of_nonneg_of_ne_top (by exact_mod_cast hr0.le) (EReal.coe_ne_top r), ← mul_assoc (G := EReal),
    ← EReal.coe_mul, mul_comm (G := EReal) a]
  refine congrArg (fun s : ℝ => (r : EReal) * a + (s : EReal) * t) ?_
  ring

/-- They are the same for every row. -/
theorem chain_eq (x d : Fin 1024 → EReal) (j : Fin 1024) : chain x d j = ker x d j := by
  rcases real_or_top x with ⟨y, rfl⟩ | h
  · exact chain_coe y d j
  · obtain ⟨e, -, hw⟩ := weps
    have hv : Ideal.div (∑ k, x k * x k) (Ideal.ofBits .f32 0x44800000#32) + Ideal.ofBits .f32 0x358637BD#32 = ⊤ := by
      rw [h, hw, w1024, Ideal.div_coe (by norm_num), EReal.top_mul_coe_of_pos (by norm_num), EReal.top_add_coe]
    have hr : inv x = 0 := by rw [inv, hv, Ideal.rsqrt_top]
    have ht : through x d = 0 := by
      rw [through, hv, hr, w1024, Ideal.div_coe (by norm_num)]
      simp [Ideal.div]
    rw [chain, ker, ht, hr]
    simp

/-- A sum over the rows, by blocks of 512. -/
theorem sum_rows (f : Fin 2048 → EReal) : ∑ i, f i = ∑ b : Fin 4, ∑ k : Fin 512, f ⟨b.val * 512 + k.val, by omega⟩ := by
  rw [← Fintype.sum_prod_type' fun (b : Fin 4) (k : Fin 512) => f ⟨b.val * 512 + k.val, by omega⟩]
  refine (Fintype.sum_equiv (finProdFinEquiv (m := 4) (n := 512)) _ _ fun x => ?_).symm
  congr 1
  apply Fin.ext
  simp only [finProdFinEquiv_apply_val]
  omega

/-- What four additions make. -/
theorem four {N : ℕ} (o : (n : ℕ) → n < N → EReal) (p : Fin 4 → EReal) (hN : N = 4) (first : ∀ h, o 0 h = p 0)
    (next : ∀ (n : ℕ) (h : n + 1 < N), o (n + 1) h = o n (by omega) + p ⟨n + 1, by omega⟩) (h : 3 < N) : o 3 h = ∑ b, p b := by
  rw [next 2, next 1, next 0, first, Fin.sum_univ_four]
  rfl

end Cert.RmsBwd

end
-- ==== Proof.NormBwdPoint.lean ====
/- The input norm's backward call: its operands, and what its body computes at one grid point. -/
module

public import proofs.«01_k».proof.Proof.Gen.NormBwdKernelIdeal.Value
public import Idealize.ShloMosaic.Lib.Pipeline.ValueKit
public import Idealize.ShloMosaic.Lib.Pointwise
public import proofs.«01_k».proof.Proof.RmsBwd

@[expose] public section

set_option maxRecDepth 16384

noncomputable section

namespace Cert.NormBwd

open Idealize.ShloMosaic Idealize.ShloMosaic.TcCoe Idealize.SL.Sem Cert.NormBwdKernelIdeal Cert.NormBwdKernelIdeal.Gen
open Cert.Norm (inv)
open Cert.RmsBwd (ker)

variable (m : (ℓ : Loc nD τ sig) → Buf (Elt Ideal) ℓ) (c : Dev nD)

/-- The arguments on a device: the residual, the gain, the gradient that skips the norm, and the norm's cotangent. -/
abbrev xa : FVec Ideal S2048x1024 .f32 := m (c, Proc.tc.devRef main_arg0)
abbrev ga : FVec Ideal S1x1024 .f32 := m (c, Proc.tc.devRef main_arg1)
abbrev ea : FVec Ideal S2048x1024 .f32 := m (c, Proc.tc.devRef main_arg2)
abbrev va : FVec Ideal S2048x1024 .f32 := m (c, Proc.tc.devRef main_arg3)

/-- The grid's point as the number of its block of 512 rows. -/
def num (t : Fin cfg0.N) : Fin 4 := ⟨t.val, lt_of_lt_of_eq t.isLt (show cfg0.N = 4 from N_0)⟩
/-- Row `f` of block `b`. -/
def brow (b : Fin 4) (f : Fin 512) : Fin 2048 := ⟨b.val * 512 + f.val, by omega⟩

/-- The windows by their shapes. -/
abbrev vb (t : Fin cfg0.N) : Vec Ideal S512x1024 .f32 := iblk m c 0 t
abbrev xb (t : Fin cfg0.N) : Vec Ideal S512x1024 .f32 := iblk m c 1 t
abbrev eb (t : Fin cfg0.N) : Vec Ideal S512x1024 .f32 := iblk m c 2 t
abbrev gb (t : Fin cfg0.N) : Vec Ideal S1x1024 .f32 := iblk m c 3 t

/-- The windows at a point: the point's rows, and the gain. -/
theorem blk0 (t : Fin cfg0.N) (i : Fin 512) (j : Fin 1024) : vb m c t (ix2 i j) = va m c (ix2 (brow (num t) i) j) := by
  rw [va, ← V_main_arg3 m c]
  have e0 : (cfg0.win 0).index t 0 = t.val := by decide +revert
  have e1 : (cfg0.win 0).index t 1 = 0 := by decide +revert
  blk_ext [iblk, e0, e1, brow, num]

theorem blk1 (t : Fin cfg0.N) (i : Fin 512) (j : Fin 1024) : xb m c t (ix2 i j) = xa m c (ix2 (brow (num t) i) j) := by
  rw [xa, ← V_main_arg0 m c]
  have e0 : (cfg0.win 1).index t 0 = t.val := by decide +revert
  have e1 : (cfg0.win 1).index t 1 = 0 := by decide +revert
  blk_ext [iblk, e0, e1, brow, num]

theorem blk2 (t : Fin cfg0.N) (i : Fin 512) (j : Fin 1024) : eb m c t (ix2 i j) = ea m c (ix2 (brow (num t) i) j) := by
  rw [ea, ← V_main_arg2 m c]
  have e0 : (cfg0.win 2).index t 0 = t.val := by decide +revert
  have e1 : (cfg0.win 2).index t 1 = 0 := by decide +revert
  blk_ext [iblk, e0, e1, brow, num]

theorem blk3 (t : Fin cfg0.N) (i : Fin 1) (j : Fin 1024) : gb m c t (ix2 i j) = ga m c (ix2 i j) := by
  rw [ga, ← V_main_arg1 m c]
  have e0 : (cfg0.win 3).index t 0 = 0 := by decide +revert
  have e1 : (cfg0.win 3).index t 1 = 0 := by decide +revert
  blk_ext [iblk, e0, e1]

/-! ## The body -/

section
variable (x : Vec Ideal S512x1024 .f32) (g : Vec Ideal S1x1024 .f32) (v e : Vec Ideal S512x1024 .f32) (o : Vec Ideal S1x1024 .f32)

/-- The reciprocal root of a row. -/
theorem pay_inv (i : Fin 512) : k0_pay2 x (ix2 i 0) = inv (fun k => x (ix2 i k)) := by
  pointwise [k0_pay2]
  rfl

/-- The normed row. -/
theorem pay_n (i : Fin 512) (j : Fin 1024) : k0_pay3 x (ix2 i j) = x (ix2 i j) * inv (fun k => x (ix2 i k)) := by
  rw [← pay_inv]
  pointwise [k0_pay3]

/-- The row's gradient, added to the gradient that skips the norm. -/
theorem pay_dx (i : Fin 512) (j : Fin 1024) : k0_pay4 x g v e (ix2 i j)
    = e (ix2 i j) + ker (fun k => x (ix2 i k)) (fun k => v (ix2 i k) * g (ix2 0 k)) j := by
  pointwise [k0_pay4]
  simp only [pay_n, pay_inv]
  rfl

/-- The block's addition to the gain's gradient. -/
theorem pay_dg (j : Fin 1024) : k0_pay5 x v o (ix2 0 j)
    = o (ix2 0 j) + ∑ i : Fin 512, v (ix2 i j) * (x (ix2 i j) * inv (fun k => x (ix2 i k))) := by
  pointwise [k0_pay5]
  simp only [pay_n]

/-- The gain's gradient starts at zero. -/
theorem pay_zero (j : Fin 1024) : k0_pay1 (F := Ideal) (ix2 0 j) = (0 : EReal) := by
  pointwise [k0_pay1]

end

end Cert.NormBwd

end
-- ==== Proof.NormBwdEqual.lean ====
/- The input norm's backward call: what each grid point leaves, the two arrays, the reference, and the claims. -/
module

public import proofs.«01_k».proof.Defs
public import proofs.«01_k».proof.Proof.Gen.NormBwdKernel.Frame
public import proofs.«01_k».proof.Proof.Gen.NormBwdReferenceIdeal.Read
public import Idealize.ShloMosaic.Lib.Quiescent
public import proofs.«01_k».proof.Proof.NormBwdPoint

@[expose] public section

set_option maxRecDepth 16384

noncomputable section

namespace Cert.NormBwd

open Idealize.ShloMosaic Idealize.ShloMosaic.TcCoe Idealize.SL.Sem Cert.NormBwdKernelIdeal Cert.NormBwdKernelIdeal.Gen
open Cert.Norm (inv)
open Cert.RmsBwd (ker chain chain_eq)

/-- The gradient in the residual: the gradient that skips the norm, and the one through it. -/
def dx (x : FVec Ideal S2048x1024 .f32) (g : FVec Ideal S1x1024 .f32) (e v : FVec Ideal S2048x1024 .f32) (i : Fin 2048) (j : Fin 1024) : EReal :=
  e (ix2 i j) + ker (fun k => x (ix2 i k)) (fun k => v (ix2 i k) * g (ix2 0 k)) j

/-- What one row adds to the gain's gradient. -/
def row (x v : FVec Ideal S2048x1024 .f32) (i : Fin 2048) (j : Fin 1024) : EReal :=
  v (ix2 i j) * (x (ix2 i j) * inv (fun k => x (ix2 i k)))

/-- The gain's gradient. -/
def dg (x v : FVec Ideal S2048x1024 .f32) (j : Fin 1024) : EReal := ∑ i, row x v i j

variable (m : (ℓ : Loc nD τ sig) → Buf (Elt Ideal) ℓ) (c : Dev nD)

/-- A point's rows are the array's. -/
theorem dx_at (t : Fin cfg0.N) (i : Fin 512) (j : Fin 1024) :
    k0_pay4 (xb m c t) (gb m c t) (vb m c t) (eb m c t) (ix2 i j) = dx (xa m c) (ga m c) (ea m c) (va m c) (brow (num t) i) j := by
  rw [pay_dx, dx, blk2]
  simp only [blk0, blk1, blk3]

theorem dg_at (t : Fin cfg0.N) (o : Vec Ideal S1x1024 .f32) (j : Fin 1024) :
    k0_pay5 (xb m c t) (vb m c t) o (ix2 0 j) = o (ix2 0 j) + ∑ f : Fin 512, row (xa m c) (va m c) (brow (num t) f) j := by
  rw [pay_dg]
  simp only [blk0, blk1, row]

/-- What a point leaves of the residual's gradient. -/
theorem dx_out (t : Fin cfg0.N) (i : Fin 512) (j : Fin 1024) :
    (outsAt0 m c t.val t.isLt).1 (ix2 i j) = dx (xa m c) (ga m c) (ea m c) (va m c) (brow (num t) i) j := by
  by_cases h0 : t.val % 4 = 0
  · rw [outsAt0_A m c t h0]
    frame_out
    exact dx_at m c t i j
  · rw [outsAt0_B m c t h0]
    frame_out
    exact dx_at m c t i j

/-- The gain's gradient after the first point, and after a later one. -/
theorem dg_first (t : Fin cfg0.N) (h0 : t.val % 4 = 0) (j : Fin 1024) :
    (outsAt0 m c t.val t.isLt).2 (ix2 0 j) = ∑ f : Fin 512, row (xa m c) (va m c) (brow (num t) f) j := by
  rw [outsAt0_A m c t h0]
  frame_out
  refine (dg_at m c t _ j).trans ?_
  rw [pay_zero, zero_add]

theorem dg_next (t : Fin cfg0.N) (h0 : ¬t.val % 4 = 0) (j : Fin 1024) :
    (outsAt0 m c t.val t.isLt).2 (ix2 0 j)
      = (outsAt0 m c (t.val - 1) (Nat.lt_of_le_of_lt (Nat.sub_le _ _) t.isLt)).2 (ix2 0 j)
        + ∑ f : Fin 512, row (xa m c) (va m c) (brow (num t) f) j := by
  rw [outsAt0_B m c t h0]
  frame_out
  exact dg_at m c t _ j

/-- After the last point it is the whole gradient. -/
theorem dg_last (h : 3 < cfg0.N) (j : Fin 1024) : (outsAt0 m c 3 h).2 (ix2 0 j) = dg (xa m c) (va m c) j := by
  rw [dg, Cert.RmsBwd.sum_rows]
  exact Cert.RmsBwd.four (fun n hn => (outsAt0 m c n hn).2 (ix2 0 j)) (fun b => ∑ f, row (xa m c) (va m c) (brow b f) j) N_0
    (fun h => dg_first m c ⟨0, h⟩ (Nat.zero_mod 4) j)
    (fun n h => dg_next m c ⟨n + 1, h⟩ (by have := lt_of_lt_of_eq h (show cfg0.N = 4 from N_0); show ¬(n + 1) % 4 = 0; omega) j) h

/-- The call's two arrays. -/
theorem arr_dx : (dats m 0 c).arrAt 4 cfg0.N = fun x => dx (xa m c) (ga m c) (ea m c) (va m c) (x 0) (x 1) := by
  refine (dats m 0 c).arrAt_eq_of_covers 4 _ (by decide +kernel) fun t hf y => ?_
  have e0 : (cfg0.win 4).index t 0 = t.val := by decide +revert
  have e1 : (cfg0.win 4).index t 1 = 0 := by decide +revert
  have x0 : (((cfg0.win 4).blk t).view.emb y 0).val = t.val * 512 + (y 0).val := by blk_simp [e0]
  have x1 : (((cfg0.win 4).blk t).view.emb y 1).val = (y 1).val := by blk_simp [e1]
  blk_simp
  rw [after0_4]
  have hy : y = ix2 (y 0) (y 1) := by funext b; fin_cases b <;> rfl
  refine (congrArg _ hy).trans ((dx_out m c t (y 0) (y 1)).trans ?_)
  exact congrArg₂ _ (Fin.ext x0.symm) (Fin.ext x1.symm)

theorem arr_dg : (dats m 0 c).arrAt 5 cfg0.N = fun x => dg (xa m c) (va m c) (x 1) := by
  refine (dats m 0 c).arrAt_eq_of_after_last 5 (⟨3, by decide⟩ : Fin grid0.N) (by decide +kernel) _ fun j => ?_
  blk_simp
  refine (congrFun (after0_5 m c (⟨3, by decide⟩ : Fin cfg0.N)) _).trans ?_
  have hj : (fun b => ⟨(j b).val, (j b).isLt⟩ : (cfg0.win 5).shape.Idx) = ix2 0 (j 1) := by
    funext b
    fin_cases b
    · exact Fin.ext (Nat.lt_one_iff.mp (j 0).isLt)
    · rfl
  exact (congrArg _ hj).trans (dg_last m c (by decide) (j 1))

/-! ## The reference -/

section
open Cert.NormBwdReferenceIdeal.Read
variable (x : FVec Ideal S2048x1024 .f32) (g : FVec Ideal S1x1024 .f32) (e v : FVec Ideal S2048x1024 .f32)

/-- The row's reciprocal root. -/
theorem ref_inv (i : Fin 2048) : val_main_v7 (F := Ideal) x (ix2 i 0) = inv (fun k => x (ix2 i k)) := by
  pointwise [val_main_v7, val_main_v6, val_main_v5, val_main_v4, val_main_v3, val_main_v2, val_main_v1, val_main_v0, val_main_cst,
    val_main_cst_0, val_main_cst_1]
  rfl

/-- The gradient that the row's mean square sends back. -/
theorem ref_through (i : Fin 2048) (j : Fin 1024) : val_main_v29 (F := Ideal) x g v (ix2 i j)
    = Cert.RmsBwd.through (fun k => x (ix2 i k)) (fun k => v (ix2 i k) * g (ix2 0 k)) := by
  pointwise [val_main_v29, val_main_v28, val_main_v27, val_main_v26, val_main_v25, val_main_v22, val_main_v21, val_main_v20, val_main_v19,
    val_main_v18, val_main_v10, val_main_v9, val_main_v8, val_main_v7, val_main_v6, val_main_v5, val_main_v4, val_main_v3, val_main_v2,
    val_main_v1, val_main_v0, val_main_cst, val_main_cst_0, val_main_cst_1, val_main_cst_2, val_main_cst_4, val_main_cst_5, val_main_cst_6]
  exact Fin.sum_univ_one _

/-- The chain rule's gradient in the residual is the call's. -/
theorem ref_dx (i : Fin 2048) (j : Fin 1024) : val_main_v34 (F := Ideal) x g e v (ix2 i j) = dx x g e v i j := by
  rw [dx, ← chain_eq, chain, ← ref_through x g v i j, ← ref_inv]
  pointwise [val_main_v34, val_main_v33, val_main_v32, val_main_v31, val_main_v30, val_main_v24, val_main_v23, val_main_v19, val_main_v18]

/-- The gain's gradient. -/
theorem ref_dg (j : Fin 1024) : val_main_v17 (F := Ideal) x v (ix2 0 j) = dg x v j := by
  simp only [dg, row, ← ref_inv]
  pointwise [val_main_v17, val_main_v16, val_main_v15, val_main_v12, val_main_v11, val_main_cst_3]
  exact Finset.sum_congr rfl fun i _ => mul_comm (G := EReal) _ _

/-- The reference's two results. -/
theorem res_dx : val_main_v34 (F := Ideal) x g e v = fun y => dx x g e v (y 0) (y 1) := by
  funext y
  have hy : y = ix2 (y 0) (y 1) := by funext b; fin_cases b <;> rfl
  exact (congrArg _ hy).trans (ref_dx x g e v (y 0) (y 1))

theorem res_dg : val_main_v17 (F := Ideal) x v = fun y => dg x v (y 1) := by
  funext y
  have hy : y = ix2 0 (y 1) := by
    funext b
    fin_cases b
    · exact Fin.ext (Nat.lt_one_iff.mp (y 0).isLt)
    · rfl
  exact (congrArg _ hy).trans (ref_dg x v (y 1))

end

/-! ## The claims -/

/-- The reference is host operations alone: it ends with its arguments as they were and every counter at zero. -/
theorem frame_ri : Cert.quiescent_NormBwdReferenceIdeal := fun m ρ _ =>
  (θ_run Cert.NormBwdReferenceIdeal.defs _ _).mono
    (fun r h => ⟨fun c => (h c).2.2, sem_eq_zero_of_no_sems (by decide) r.2⟩)
    (Cert.NormBwdReferenceIdeal.Value.run (F := Ideal) m ρ)

/-- From equal arguments the call's two arrays and the reference's two results are the same gradients. -/
theorem equal : Cert.algebraic_NormBwdKernelIdeal_NormBwdReferenceIdeal := by
  intro m ρ m' ρ' _ hargs
  refine ⟨fun c => fun x => dx (xa m c) (ga m c) (ea m c) (va m c) (x 0) (x 1), fun c => fun x => dg (xa m c) (va m c) (x 1), ?_, ?_⟩
  · refine (θ_run Cert.NormBwdKernelIdeal.defs _ _).mono (fun r h c => ?_) (Cert.NormBwdKernelIdeal.Value.run_blocks (F := Ideal) m ρ)
    obtain ⟨e0, e1, k⟩ := h c
    exact ⟨e0.trans (arr_dx m c), e1.trans (arr_dg m c), k⟩
  · refine (θ_run Cert.NormBwdReferenceIdeal.defs _ _).mono (fun r h c => ?_) (Cert.NormBwdReferenceIdeal.Value.run (F := Ideal) m' ρ')
    obtain ⟨e0, e1, k⟩ := h c
    obtain ⟨a0, a1, a2, a3⟩ := hargs c
    refine ⟨(e0.trans (Cert.NormBwdReferenceIdeal.Read.val_main_v34_eq _ _ _ _)).trans ((res_dx _ _ _ _).trans ?_),
      (e1.trans (Cert.NormBwdReferenceIdeal.Read.val_main_v17_eq _ _)).trans ((res_dg _ _).trans ?_), k⟩
    · rw [a0, a1, a2, a3]
      rfl
    · rw [a0, a3]
      rfl

end Cert.NormBwd

end
-- ==== Proof.MidBwdPoint.lean ====
/- The backward call of the residual and the norms on its two sides: its operands, and what its body computes at one grid
   point. -/
module

public import proofs.«01_k».proof.Proof.Gen.MidBwdKernelIdeal.Value
public import Idealize.ShloMosaic.Lib.Pipeline.ValueKit
public import Idealize.ShloMosaic.Lib.Pointwise
public import proofs.«01_k».proof.Proof.RmsBwd

@[expose] public section

set_option maxRecDepth 16384

noncomputable section

namespace Cert.MidBwd

open Idealize.ShloMosaic Idealize.ShloMosaic.TcCoe Idealize.SL.Sem Cert.MidBwdKernelIdeal Cert.MidBwdKernelIdeal.Gen
open Cert.Norm (inv)
open Cert.RmsBwd (ker)

variable (m : (ℓ : Loc nD τ sig) → Buf (Elt Ideal) ℓ) (c : Dev nD)

/-- The arguments on a device: the block's input, the mixers' sum, the gains after and before, and the two cotangents. -/
abbrev xa : FVec Ideal S2048x1024 .f32 := m (c, Proc.tc.devRef main_arg0)
abbrev ma : FVec Ideal S2048x1024 .f32 := m (c, Proc.tc.devRef main_arg1)
abbrev qa : FVec Ideal S1x1024 .f32 := m (c, Proc.tc.devRef main_arg2)
abbrev ga : FVec Ideal S1x1024 .f32 := m (c, Proc.tc.devRef main_arg3)
abbrev ea : FVec Ideal S2048x1024 .f32 := m (c, Proc.tc.devRef main_arg4)
abbrev va : FVec Ideal S2048x1024 .f32 := m (c, Proc.tc.devRef main_arg5)

/-- The residual between the two norms. -/
def res (x u : FVec Ideal S2048x1024 .f32) (q : FVec Ideal S1x1024 .f32) (i : Fin 2048) (j : Fin 1024) : EReal :=
  x (ix2 i j) + u (ix2 i j) * inv (fun k => u (ix2 i k)) * q (ix2 0 j)

/-- The saved residual, as the host leaves it. -/
theorem host_res (i : Fin 2048) (j : Fin 1024) : V m c main_v12 (ix2 i j) = res (xa m c) (ma m c) (qa m c) i j := by
  entry_read
  pointwise
  rfl

/-- The grid's point as the number of its block of 512 rows. -/
def num (t : Fin cfg0.N) : Fin 4 := ⟨t.val, lt_of_lt_of_eq t.isLt (show cfg0.N = 4 from N_0)⟩
/-- Row `f` of block `b`. -/
def brow (b : Fin 4) (f : Fin 512) : Fin 2048 := ⟨b.val * 512 + f.val, by omega⟩

/-- The windows by their shapes. -/
abbrev vb (t : Fin cfg0.N) : Vec Ideal S512x1024 .f32 := iblk m c 0 t
abbrev yb (t : Fin cfg0.N) : Vec Ideal S512x1024 .f32 := iblk m c 1 t
abbrev eb (t : Fin cfg0.N) : Vec Ideal S512x1024 .f32 := iblk m c 2 t
abbrev mb (t : Fin cfg0.N) : Vec Ideal S512x1024 .f32 := iblk m c 3 t
abbrev gb (t : Fin cfg0.N) : Vec Ideal S1x1024 .f32 := iblk m c 4 t
abbrev qb (t : Fin cfg0.N) : Vec Ideal S1x1024 .f32 := iblk m c 5 t

/-- The windows at a point: the point's rows, and the gains. -/
theorem blk0 (t : Fin cfg0.N) (i : Fin 512) (j : Fin 1024) : vb m c t (ix2 i j) = va m c (ix2 (brow (num t) i) j) := by
  rw [va, ← V_main_arg5 m c]
  have e0 : (cfg0.win 0).index t 0 = t.val := by decide +revert
  have e1 : (cfg0.win 0).index t 1 = 0 := by decide +revert
  blk_ext [iblk, e0, e1, brow, num]

theorem blk2 (t : Fin cfg0.N) (i : Fin 512) (j : Fin 1024) : eb m c t (ix2 i j) = ea m c (ix2 (brow (num t) i) j) := by
  rw [ea, ← V_main_arg4 m c]
  have e0 : (cfg0.win 2).index t 0 = t.val := by decide +revert
  have e1 : (cfg0.win 2).index t 1 = 0 := by decide +revert
  blk_ext [iblk, e0, e1, brow, num]

theorem blk3 (t : Fin cfg0.N) (i : Fin 512) (j : Fin 1024) : mb m c t (ix2 i j) = ma m c (ix2 (brow (num t) i) j) := by
  rw [ma, ← V_main_arg1 m c]
  have e0 : (cfg0.win 3).index t 0 = t.val := by decide +revert
  have e1 : (cfg0.win 3).index t 1 = 0 := by decide +revert
  blk_ext [iblk, e0, e1, brow, num]

theorem blk1 (t : Fin cfg0.N) (i : Fin 512) (j : Fin 1024) : yb m c t (ix2 i j) = res (xa m c) (ma m c) (qa m c) (brow (num t) i) j := by
  rw [← host_res]
  have e0 : (cfg0.win 1).index t 0 = t.val := by decide +revert
  have e1 : (cfg0.win 1).index t 1 = 0 := by decide +revert
  blk_ext [iblk, e0, e1, brow, num]

theorem blk4 (t : Fin cfg0.N) (i : Fin 1) (j : Fin 1024) : gb m c t (ix2 i j) = ga m c (ix2 i j) := by
  rw [ga, ← V_main_arg3 m c]
  have e0 : (cfg0.win 4).index t 0 = 0 := by decide +revert
  have e1 : (cfg0.win 4).index t 1 = 0 := by decide +revert
  blk_ext [iblk, e0, e1]

theorem blk5 (t : Fin cfg0.N) (i : Fin 1) (j : Fin 1024) : qb m c t (ix2 i j) = qa m c (ix2 i j) := by
  rw [qa, ← V_main_arg2 m c]
  have e0 : (cfg0.win 5).index t 0 = 0 := by decide +revert
  have e1 : (cfg0.win 5).index t 1 = 0 := by decide +revert
  blk_ext [iblk, e0, e1]

/-! ## The body -/

section
variable (x u : Vec Ideal S512x1024 .f32) (g q : Vec Ideal S1x1024 .f32) (v e : Vec Ideal S512x1024 .f32) (d : FVec Ideal S512x1024 .f32)
  (o : Vec Ideal S1x1024 .f32)

/-- The reciprocal root of a row, at each of the two norms. -/
theorem pay_inv (i : Fin 512) : k0_pay9 x (ix2 i 0) = inv (fun k => x (ix2 i k)) := by
  pointwise [k0_pay9, k0_pay8]
  rfl

theorem post_inv (i : Fin 512) : k0_pay2 u (ix2 i 0) = inv (fun k => u (ix2 i k)) := by
  pointwise [k0_pay2]
  rfl

/-- The normed row, at each of the two. -/
theorem pay_n (i : Fin 512) (j : Fin 1024) : k0_pay10 x (ix2 i j) = x (ix2 i j) * inv (fun k => x (ix2 i k)) := by
  rw [← pay_inv]
  pointwise [k0_pay10, k0_pay8]

theorem post_n (i : Fin 512) (j : Fin 1024) : k0_pay3 u (ix2 i j) = u (ix2 i j) * inv (fun k => u (ix2 i k)) := by
  rw [← post_inv]
  pointwise [k0_pay3]

/-- The gradient in the residual: the one that skips the norm, and the one through it. -/
theorem pay_dx (i : Fin 512) (j : Fin 1024) : k0_pay11 x g v e (ix2 i j)
    = e (ix2 i j) + ker (fun k => x (ix2 i k)) (fun k => v (ix2 i k) * g (ix2 0 k)) j := by
  pointwise [k0_pay11]
  simp only [pay_n, pay_inv]
  rfl

/-- The gradient in the mixers' sum, from the gradient `d` in the residual. -/
theorem pay_du (i : Fin 512) (j : Fin 1024) : k0_pay4 d u q (ix2 i j)
    = ker (fun k => u (ix2 i k)) (fun k => d (ix2 i k) * q (ix2 0 k)) j := by
  pointwise [k0_pay4]
  simp only [post_n, post_inv]
  rfl

/-- The block's addition to the first gain's gradient, and to the second's. -/
theorem pay_dg (j : Fin 1024) : k0_pay1 (k0_pay12 o) (k0_pay13 x v) (ix2 0 j)
    = o (ix2 0 j) + ∑ i : Fin 512, v (ix2 i j) * (x (ix2 i j) * inv (fun k => x (ix2 i k))) := by
  pointwise [k0_pay1, k0_pay12, k0_pay13]
  simp only [pay_n]

theorem pay_dq (j : Fin 1024) : k0_pay5 d u o (ix2 0 j)
    = o (ix2 0 j) + ∑ i : Fin 512, d (ix2 i j) * (u (ix2 i j) * inv (fun k => u (ix2 i k))) := by
  pointwise [k0_pay5]
  simp only [post_n]

/-- The gains' gradients start at zero. -/
theorem pay_zero (j : Fin 1024) : k0_pay6 (F := Ideal) (ix2 0 j) = (0 : EReal) := by
  pointwise [k0_pay6]

theorem post_zero (j : Fin 1024) : k0_pay7 (F := Ideal) (ix2 0 j) = (0 : EReal) := by
  pointwise [k0_pay7]

end

end Cert.MidBwd

end
-- ==== Proof.MidBwdEqual.lean ====
/- The backward call of the residual and the norms on its two sides: what each grid point leaves, the four arrays, the
   reference, and the claims. -/
module

public import proofs.«01_k».proof.Defs
public import proofs.«01_k».proof.Proof.Gen.MidBwdKernel.Frame
public import proofs.«01_k».proof.Proof.Gen.MidBwdReferenceIdeal.Read
public import Idealize.ShloMosaic.Lib.Quiescent
public import proofs.«01_k».proof.Proof.MidBwdPoint

@[expose] public section

set_option maxRecDepth 16384

noncomputable section

namespace Cert.MidBwd

open Idealize.ShloMosaic Idealize.ShloMosaic.TcCoe Idealize.SL.Sem Cert.MidBwdKernelIdeal Cert.MidBwdKernelIdeal.Gen
open Cert.Norm (inv)
open Cert.RmsBwd (ker chain chain_eq through)

/-! ## The gradients -/

section
variable (x u : FVec Ideal S2048x1024 .f32) (q g : FVec Ideal S1x1024 .f32) (e v : FVec Ideal S2048x1024 .f32)

/-- The gradient in the residual, which is also the block's input's: what skips the second norm, and what goes through it. -/
def dx (i : Fin 2048) (j : Fin 1024) : EReal :=
  e (ix2 i j) + ker (fun k => res x u q i k) (fun k => v (ix2 i k) * g (ix2 0 k)) j

/-- The gradient in the mixers' sum, through the first norm. -/
def du (i : Fin 2048) (j : Fin 1024) : EReal := ker (fun k => u (ix2 i k)) (fun k => dx x u q g e v i k * q (ix2 0 k)) j

/-- What one row adds to the second norm's gain's gradient, and to the first's. -/
def grow (i : Fin 2048) (j : Fin 1024) : EReal := v (ix2 i j) * (res x u q i j * inv (fun k => res x u q i k))
def qrow (i : Fin 2048) (j : Fin 1024) : EReal := dx x u q g e v i j * (u (ix2 i j) * inv (fun k => u (ix2 i k)))

/-- The two gains' gradients. -/
def dg (j : Fin 1024) : EReal := ∑ i, grow x u q v i j
def dq (j : Fin 1024) : EReal := ∑ i, qrow x u q g e v i j

end

/-! ## The arrays -/

variable (m : (ℓ : Loc nD τ sig) → Buf (Elt Ideal) ℓ) (c : Dev nD)

/-- The gradients at the device's arguments. -/
abbrev dxa : Fin 2048 → Fin 1024 → EReal := dx (xa m c) (ma m c) (qa m c) (ga m c) (ea m c) (va m c)
abbrev dua : Fin 2048 → Fin 1024 → EReal := du (xa m c) (ma m c) (qa m c) (ga m c) (ea m c) (va m c)
abbrev growa : Fin 2048 → Fin 1024 → EReal := grow (xa m c) (ma m c) (qa m c) (va m c)
abbrev qrowa : Fin 2048 → Fin 1024 → EReal := qrow (xa m c) (ma m c) (qa m c) (ga m c) (ea m c) (va m c)

/-- A point's rows are the array's. -/
theorem dx_at (t : Fin cfg0.N) (i : Fin 512) (j : Fin 1024) :
    k0_pay11 (yb m c t) (gb m c t) (vb m c t) (eb m c t) (ix2 i j) = dxa m c (brow (num t) i) j := by
  rw [pay_dx, dxa, dx, blk2]
  simp only [blk0, blk1, blk4]

theorem du_at (t : Fin cfg0.N) (i : Fin 512) (j : Fin 1024) :
    k0_pay4 (k0_pay11 (yb m c t) (gb m c t) (vb m c t) (eb m c t)) (mb m c t) (qb m c t) (ix2 i j) = dua m c (brow (num t) i) j := by
  rw [pay_du, dua, du]
  simp only [dx_at, blk3, blk5]

theorem dg_at (t : Fin cfg0.N) (o : Vec Ideal S1x1024 .f32) (j : Fin 1024) :
    k0_pay1 (k0_pay12 o) (k0_pay13 (yb m c t) (vb m c t)) (ix2 0 j) = o (ix2 0 j) + ∑ f : Fin 512, growa m c (brow (num t) f) j := by
  rw [pay_dg]
  simp only [blk0, blk1, growa, grow]

theorem dq_at (t : Fin cfg0.N) (o : Vec Ideal S1x1024 .f32) (j : Fin 1024) :
    k0_pay5 (k0_pay11 (yb m c t) (gb m c t) (vb m c t) (eb m c t)) (mb m c t) o (ix2 0 j)
      = o (ix2 0 j) + ∑ f : Fin 512, qrowa m c (brow (num t) f) j := by
  rw [pay_dq]
  simp only [dx_at, blk3, qrowa, qrow]

/-- What a point leaves of the residual's gradient, and of the mixers' sum's. -/
theorem dx_out (t : Fin cfg0.N) (i : Fin 512) (j : Fin 1024) :
    (outsAt0 m c t.val t.isLt).1 (ix2 i j) = dxa m c (brow (num t) i) j := by
  by_cases h0 : t.val % 4 = 0
  · rw [outsAt0_A m c t h0]
    frame_out
    exact dx_at m c t i j
  · rw [outsAt0_B m c t h0]
    frame_out
    exact dx_at m c t i j

theorem du_out (t : Fin cfg0.N) (i : Fin 512) (j : Fin 1024) :
    (outsAt0 m c t.val t.isLt).2.1 (ix2 i j) = dua m c (brow (num t) i) j := by
  by_cases h0 : t.val % 4 = 0
  · rw [outsAt0_A m c t h0]
    frame_out
    exact du_at m c t i j
  · rw [outsAt0_B m c t h0]
    frame_out
    exact du_at m c t i j

/-- The gains' gradients after the first point, and after a later one. -/
theorem dg_first (t : Fin cfg0.N) (h0 : t.val % 4 = 0) (j : Fin 1024) :
    (outsAt0 m c t.val t.isLt).2.2.1 (ix2 0 j) = ∑ f : Fin 512, growa m c (brow (num t) f) j := by
  rw [outsAt0_A m c t h0]
  frame_out
  refine (dg_at m c t _ j).trans ?_
  rw [pay_zero, zero_add]

theorem dg_next (t : Fin cfg0.N) (h0 : ¬t.val % 4 = 0) (j : Fin 1024) :
    (outsAt0 m c t.val t.isLt).2.2.1 (ix2 0 j)
      = (outsAt0 m c (t.val - 1) (Nat.lt_of_le_of_lt (Nat.sub_le _ _) t.isLt)).2.2.1 (ix2 0 j)
        + ∑ f : Fin 512, growa m c (brow (num t) f) j := by
  rw [outsAt0_B m c t h0]
  frame_out
  exact dg_at m c t _ j

theorem dq_first (t : Fin cfg0.N) (h0 : t.val % 4 = 0) (j : Fin 1024) :
    (outsAt0 m c t.val t.isLt).2.2.2 (ix2 0 j) = ∑ f : Fin 512, qrowa m c (brow (num t) f) j := by
  rw [outsAt0_A m c t h0]
  frame_out
  refine (dq_at m c t _ j).trans ?_
  rw [post_zero, zero_add]

theorem dq_next (t : Fin cfg0.N) (h0 : ¬t.val % 4 = 0) (j : Fin 1024) :
    (outsAt0 m c t.val t.isLt).2.2.2 (ix2 0 j)
      = (outsAt0 m c (t.val - 1) (Nat.lt_of_le_of_lt (Nat.sub_le _ _) t.isLt)).2.2.2 (ix2 0 j)
        + ∑ f : Fin 512, qrowa m c (brow (num t) f) j := by
  rw [outsAt0_B m c t h0]
  frame_out
  exact dq_at m c t _ j

/-- A point after the first is not the start of a run of four. -/
theorem later {n : ℕ} (h : n + 1 < cfg0.N) : ¬(n + 1) % 4 = 0 := by
  have := lt_of_lt_of_eq h (show cfg0.N = 4 from N_0)
  omega

/-- After the last point they are the whole gradients. -/
theorem dg_last (h : 3 < cfg0.N) (j : Fin 1024) :
    (outsAt0 m c 3 h).2.2.1 (ix2 0 j) = dg (xa m c) (ma m c) (qa m c) (va m c) j := by
  rw [dg, Cert.RmsBwd.sum_rows]
  exact Cert.RmsBwd.four (fun n hn => (outsAt0 m c n hn).2.2.1 (ix2 0 j)) (fun b => ∑ f, growa m c (brow b f) j) N_0
    (fun h => dg_first m c ⟨0, h⟩ (Nat.zero_mod 4) j) (fun n h => dg_next m c ⟨n + 1, h⟩ (later h) j) h

theorem dq_last (h : 3 < cfg0.N) (j : Fin 1024) :
    (outsAt0 m c 3 h).2.2.2 (ix2 0 j) = dq (xa m c) (ma m c) (qa m c) (ga m c) (ea m c) (va m c) j := by
  rw [dq, Cert.RmsBwd.sum_rows]
  exact Cert.RmsBwd.four (fun n hn => (outsAt0 m c n hn).2.2.2 (ix2 0 j)) (fun b => ∑ f, qrowa m c (brow b f) j) N_0
    (fun h => dq_first m c ⟨0, h⟩ (Nat.zero_mod 4) j) (fun n h => dq_next m c ⟨n + 1, h⟩ (later h) j) h

/-- The call's four arrays. -/
theorem arr_dx : (dats m 0 c).arrAt 6 cfg0.N = fun x => dxa m c (x 0) (x 1) := by
  refine (dats m 0 c).arrAt_eq_of_covers 6 _ (by decide +kernel) fun t hf y => ?_
  have e0 : (cfg0.win 6).index t 0 = t.val := by decide +revert
  have e1 : (cfg0.win 6).index t 1 = 0 := by decide +revert
  have x0 : (((cfg0.win 6).blk t).view.emb y 0).val = t.val * 512 + (y 0).val := by blk_simp [e0]
  have x1 : (((cfg0.win 6).blk t).view.emb y 1).val = (y 1).val := by blk_simp [e1]
  blk_simp
  rw [after0_6]
  have hy : y = ix2 (y 0) (y 1) := by funext b; fin_cases b <;> rfl
  refine (congrArg _ hy).trans ((dx_out m c t (y 0) (y 1)).trans ?_)
  exact congrArg₂ _ (Fin.ext x0.symm) (Fin.ext x1.symm)

theorem arr_du : (dats m 0 c).arrAt 7 cfg0.N = fun x => dua m c (x 0) (x 1) := by
  refine (dats m 0 c).arrAt_eq_of_covers 7 _ (by decide +kernel) fun t hf y => ?_
  have e0 : (cfg0.win 7).index t 0 = t.val := by decide +revert
  have e1 : (cfg0.win 7).index t 1 = 0 := by decide +revert
  have x0 : (((cfg0.win 7).blk t).view.emb y 0).val = t.val * 512 + (y 0).val := by blk_simp [e0]
  have x1 : (((cfg0.win 7).blk t).view.emb y 1).val = (y 1).val := by blk_simp [e1]
  blk_simp
  rw [after0_7]
  have hy : y = ix2 (y 0) (y 1) := by funext b; fin_cases b <;> rfl
  refine (congrArg _ hy).trans ((du_out m c t (y 0) (y 1)).trans ?_)
  exact congrArg₂ _ (Fin.ext x0.symm) (Fin.ext x1.symm)

theorem arr_dg : (dats m 0 c).arrAt 8 cfg0.N = fun x => dg (xa m c) (ma m c) (qa m c) (va m c) (x 1) := by
  refine (dats m 0 c).arrAt_eq_of_after_last 8 (⟨3, by decide⟩ : Fin grid0.N) (by decide +kernel) _ fun j => ?_
  blk_simp
  refine (congrFun (after0_8 m c (⟨3, by decide⟩ : Fin cfg0.N)) _).trans ?_
  have hj : (fun b => ⟨(j b).val, (j b).isLt⟩ : (cfg0.win 8).shape.Idx) = ix2 0 (j 1) := by
    funext b
    fin_cases b
    · exact Fin.ext (Nat.lt_one_iff.mp (j 0).isLt)
    · rfl
  exact (congrArg _ hj).trans (dg_last m c (by decide) (j 1))

theorem arr_dq : (dats m 0 c).arrAt 9 cfg0.N = fun x => dq (xa m c) (ma m c) (qa m c) (ga m c) (ea m c) (va m c) (x 1) := by
  refine (dats m 0 c).arrAt_eq_of_after_last 9 (⟨3, by decide⟩ : Fin grid0.N) (by decide +kernel) _ fun j => ?_
  blk_simp
  refine (congrFun (after0_9 m c (⟨3, by decide⟩ : Fin cfg0.N)) _).trans ?_
  have hj : (fun b => ⟨(j b).val, (j b).isLt⟩ : (cfg0.win 9).shape.Idx) = ix2 0 (j 1) := by
    funext b
    fin_cases b
    · exact Fin.ext (Nat.lt_one_iff.mp (j 0).isLt)
    · rfl
  exact (congrArg _ hj).trans (dq_last m c (by decide) (j 1))

/-! ## The reference -/

section
open Cert.MidBwdReferenceIdeal.Read
variable (x u : FVec Ideal S2048x1024 .f32) (q g : FVec Ideal S1x1024 .f32) (e v : FVec Ideal S2048x1024 .f32)

/-- The first norm's reciprocal root, the residual, and the second norm's reciprocal root. -/
theorem ref_uinv (i : Fin 2048) : val_main_v7 (F := Ideal) u (ix2 i 0) = inv (fun k => u (ix2 i k)) := by
  pointwise [val_main_v7, val_main_v6, val_main_v5, val_main_v4, val_main_v3, val_main_v2, val_main_v1, val_main_v0, val_main_cst,
    val_main_cst_0, val_main_cst_1]
  rfl

theorem ref_res (i : Fin 2048) (j : Fin 1024) : val_main_v15 (F := Ideal) x u q (ix2 i j) = res x u q i j := by
  rw [res, ← ref_uinv]
  pointwise [val_main_v15, val_main_v14, val_main_v13, val_main_v12, val_main_v11]

theorem ref_inv (i : Fin 2048) : val_main_v23 (F := Ideal) x u q (ix2 i 0) = inv (fun k => res x u q i k) := by
  simp only [← ref_res]
  pointwise [val_main_v23, val_main_v22, val_main_v21, val_main_v20, val_main_v19, val_main_v18, val_main_v17, val_main_v16,
    val_main_cst_3, val_main_cst_4, val_main_cst_5]
  rfl

/-- The gradient that the second norm's mean square sends back. -/
theorem ref_through (i : Fin 2048) (j : Fin 1024) : val_main_v46 (F := Ideal) x u q g v (ix2 i j)
    = through (fun k => res x u q i k) (fun k => v (ix2 i k) * g (ix2 0 k)) := by
  simp only [← ref_res]
  pointwise [val_main_v46, val_main_v45, val_main_v44, val_main_v43, val_main_v42, val_main_v38, val_main_v37, val_main_v36, val_main_v35,
    val_main_v34, val_main_v26, val_main_v25, val_main_v24, val_main_v23, val_main_v22, val_main_v21, val_main_v20, val_main_v19,
    val_main_v18, val_main_v17, val_main_v16, val_main_cst_3, val_main_cst_4, val_main_cst_5, val_main_cst_6, val_main_cst_8,
    val_main_cst_9, val_main_cst_10]
  exact Fin.sum_univ_one _

/-- The chain rule's gradient in the residual is the call's. -/
theorem ref_dx (i : Fin 2048) (j : Fin 1024) : val_main_v50 (F := Ideal) x u q g e v (ix2 i j) = dx x u q g e v i j := by
  rw [dx, ← chain_eq, chain, ← ref_through x u q g v i j, ← ref_inv, ← ref_res, ← add_assoc, ← add_assoc]
  pointwise [val_main_v50, val_main_v49, val_main_v48, val_main_v47, val_main_v41, val_main_v40, val_main_v39, val_main_v35, val_main_v34]

theorem ref_dx' (i : Fin 2048) (j : Fin 1024) : val_main_v51 (F := Ideal) x u q g e v (ix2 i j) = dx x u q g e v i j := by
  rw [← ref_dx]
  pointwise [val_main_v51]

/-- The gradient that the first norm's mean square sends back. -/
theorem ref_uthrough (i : Fin 2048) (j : Fin 1024) : val_main_v66 (F := Ideal) x u q g e v (ix2 i j)
    = through (fun k => u (ix2 i k)) (fun k => dx x u q g e v i k * q (ix2 0 k)) := by
  simp only [← ref_dx']
  pointwise [val_main_v66, val_main_v65, val_main_v64, val_main_v63, val_main_v62, val_main_v59, val_main_v58, val_main_v57, val_main_v56,
    val_main_v55, val_main_v10, val_main_v9, val_main_v8, val_main_v7, val_main_v6, val_main_v5, val_main_v4, val_main_v3, val_main_v2,
    val_main_v1, val_main_v0, val_main_cst, val_main_cst_0, val_main_cst_1, val_main_cst_2, val_main_cst_12, val_main_cst_13,
    val_main_cst_14]
  exact Fin.sum_univ_one _

/-- The chain rule's gradient in the mixers' sum is the call's. -/
theorem ref_du (i : Fin 2048) (j : Fin 1024) : val_main_v71 (F := Ideal) x u q g e v (ix2 i j) = du x u q g e v i j := by
  rw [du, ← chain_eq, chain, ← ref_uthrough x u q g e v i j, ← ref_uinv, ← ref_dx']
  pointwise [val_main_v71, val_main_v70, val_main_v69, val_main_v68, val_main_v67, val_main_v61, val_main_v60, val_main_v56, val_main_v55]

/-- The gains' gradients. -/
theorem ref_dg (j : Fin 1024) : val_main_v33 (F := Ideal) x u q v (ix2 0 j) = dg x u q v j := by
  simp only [dg, grow, ← ref_inv]
  simp only [← ref_res]
  pointwise [val_main_v33, val_main_v32, val_main_v31, val_main_v28, val_main_v27, val_main_cst_7]
  exact Finset.sum_congr rfl fun i _ => mul_comm (G := EReal) _ _

theorem ref_dq (j : Fin 1024) : val_main_v54 (F := Ideal) x u q g e v (ix2 0 j) = dq x u q g e v j := by
  simp only [dq, qrow, ← ref_uinv, ← ref_dx']
  pointwise [val_main_v54, val_main_v53, val_main_v52, val_main_v12, val_main_v11, val_main_cst_11]
  exact Finset.sum_congr rfl fun i _ => mul_comm (G := EReal) _ _

/-- The reference's four results. -/
theorem res_dx : val_main_v50 (F := Ideal) x u q g e v = fun y => dx x u q g e v (y 0) (y 1) := by
  funext y
  have hy : y = ix2 (y 0) (y 1) := by funext b; fin_cases b <;> rfl
  exact (congrArg _ hy).trans (ref_dx x u q g e v (y 0) (y 1))

theorem res_du : val_main_v71 (F := Ideal) x u q g e v = fun y => du x u q g e v (y 0) (y 1) := by
  funext y
  have hy : y = ix2 (y 0) (y 1) := by funext b; fin_cases b <;> rfl
  exact (congrArg _ hy).trans (ref_du x u q g e v (y 0) (y 1))

/-- An index of a row vector. -/
theorem idx_row (y : S1x1024.Idx) : y = ix2 0 (y 1) := by
  funext b
  fin_cases b
  · exact Fin.ext (Nat.lt_one_iff.mp (y 0).isLt)
  · rfl

theorem res_dg : val_main_v33 (F := Ideal) x u q v = fun y => dg x u q v (y 1) :=
  funext fun y => (congrArg _ (idx_row y)).trans (ref_dg x u q v (y 1))

theorem res_dq : val_main_v54 (F := Ideal) x u q g e v = fun y => dq x u q g e v (y 1) :=
  funext fun y => (congrArg _ (idx_row y)).trans (ref_dq x u q g e v (y 1))

end

/-! ## The claims -/

/-- The reference is host operations alone: it ends with its arguments as they were and every counter at zero. -/
theorem frame_ri : Cert.quiescent_MidBwdReferenceIdeal := fun m ρ _ =>
  (θ_run Cert.MidBwdReferenceIdeal.defs _ _).mono
    (fun r h => ⟨fun c => (h c).2.2.2.2, sem_eq_zero_of_no_sems (by decide) r.2⟩)
    (Cert.MidBwdReferenceIdeal.Value.run (F := Ideal) m ρ)

/-- From equal arguments the call's four arrays and the reference's four results are the same gradients. -/
theorem equal : Cert.algebraic_MidBwdKernelIdeal_MidBwdReferenceIdeal := by
  intro m ρ m' ρ' _ hargs
  refine ⟨fun c => fun x => dxa m c (x 0) (x 1), fun c => fun x => dua m c (x 0) (x 1),
    fun c => fun x => dg (xa m c) (ma m c) (qa m c) (va m c) (x 1),
    fun c => fun x => dq (xa m c) (ma m c) (qa m c) (ga m c) (ea m c) (va m c) (x 1), ?_, ?_⟩
  · refine (θ_run Cert.MidBwdKernelIdeal.defs _ _).mono (fun r h c => ?_) (Cert.MidBwdKernelIdeal.Value.run_blocks (F := Ideal) m ρ)
    obtain ⟨e0, e1, e2, e3, k⟩ := h c
    exact ⟨e0.trans (arr_dx m c), e1.trans (arr_du m c), e2.trans (arr_dg m c), e3.trans (arr_dq m c), k⟩
  · refine (θ_run Cert.MidBwdReferenceIdeal.defs _ _).mono (fun r h c => ?_) (Cert.MidBwdReferenceIdeal.Value.run (F := Ideal) m' ρ')
    obtain ⟨e0, e1, e2, e3, k⟩ := h c
    obtain ⟨a0, a1, a2, a3, a4, a5⟩ := hargs c
    refine ⟨(e0.trans (Cert.MidBwdReferenceIdeal.Read.val_main_v50_eq _ _)).trans ((res_dx _ _ _ _ _ _).trans ?_),
      (e1.trans (Cert.MidBwdReferenceIdeal.Read.val_main_v71_eq _ _)).trans ((res_du _ _ _ _ _ _).trans ?_),
      (e2.trans (Cert.MidBwdReferenceIdeal.Read.val_main_v33_eq _ _ _ _)).trans ((res_dg _ _ _ _).trans ?_),
      (e3.trans (Cert.MidBwdReferenceIdeal.Read.val_main_v54_eq _ _)).trans ((res_dq _ _ _ _ _ _).trans ?_), k⟩
    · rw [a0, a1, a2, a3, a4, a5]
      rfl
    · rw [a0, a1, a2, a3, a4, a5]
      rfl
    · rw [a0, a1, a2, a5]
      rfl
    · rw [a0, a1, a2, a3, a4, a5]
      rfl

end Cert.MidBwd

end
-- ==== Proof.LossPoint.lean ====
/- The last layer's down projection with the norm, the residual, the loss and its gradient: the operands of the call, and what
   its body computes at one grid point. -/
module

public import proofs.«01_k».proof.Proof.Gen.LossKernelIdeal.Value
public import Idealize.ShloMosaic.Lib.Pipeline.ValueKit
public import Idealize.ShloMosaic.Lib.Pointwise
public import proofs.«01_k».proof.Proof.RmsBwd

@[expose] public section

set_option maxRecDepth 16384

noncomputable section

namespace Cert.Loss

open Idealize.ShloMosaic Idealize.ShloMosaic.TcCoe Idealize.SL.Sem Cert.LossKernelIdeal Cert.LossKernelIdeal.Gen
open Cert.Norm (inv)
open Cert.RmsBwd (ker)

variable (m : (ℓ : Loc nD τ sig) → Buf (Elt Ideal) ℓ) (c : Dev nD)

/-- The arguments on a device: the gated product, the matrix, the residual stream, the target and the gain. -/
abbrev fa : FVec Ideal S2048x3072 .f32 := m (c, Proc.tc.devRef main_arg0)
abbrev wa : FVec Ideal S3072x1024 .f32 := m (c, Proc.tc.devRef main_arg1)
abbrev xa : FVec Ideal S2048x1024 .f32 := m (c, Proc.tc.devRef main_arg2)
abbrev za : FVec Ideal S2048x1024 .f32 := m (c, Proc.tc.devRef main_arg3)
abbrev ga : FVec Ideal S1x1024 .f32 := m (c, Proc.tc.devRef main_arg4)

/-- The gated product and the matrix, as the host leaves them. -/
theorem host_f (i : Fin 2048) (k : Fin 3072) : V m c main_v0 (ix2 i k) = fa m c (ix2 i k) := by
  entry_read
  pointwise

theorem host_w (k : Fin 3072) (j : Fin 1024) : V m c main_v1 (ix2 k j) = wa m c (ix2 k j) := by
  entry_read
  pointwise

/-- The grid's point as the number of its block of 512 rows. -/
def num (t : Fin cfg0.N) : Fin 4 := ⟨t.val, lt_of_lt_of_eq t.isLt (show cfg0.N = 4 from N_0)⟩
/-- Row `f` of block `b`. -/
def brow (b : Fin 4) (f : Fin 512) : Fin 2048 := ⟨b.val * 512 + f.val, by omega⟩

/-- The windows by their shapes. -/
abbrev fb (t : Fin cfg0.N) : Vec Ideal S512x3072 .bf16 := iblk m c 0 t
abbrev wb (t : Fin cfg0.N) : Vec Ideal S3072x1024 .bf16 := iblk m c 1 t
abbrev xb (t : Fin cfg0.N) : Vec Ideal S512x1024 .f32 := iblk m c 2 t
abbrev zb (t : Fin cfg0.N) : Vec Ideal S512x1024 .f32 := iblk m c 3 t
abbrev gb (t : Fin cfg0.N) : Vec Ideal S1x1024 .f32 := iblk m c 4 t

/-- The windows at a point: the point's rows, the whole matrix and the gain. -/
theorem blk0 (t : Fin cfg0.N) (i : Fin 512) (k : Fin 3072) : fb m c t (ix2 i k) = fa m c (ix2 (brow (num t) i) k) := by
  rw [← host_f]
  have e0 : (cfg0.win 0).index t 0 = t.val := by decide +revert
  have e1 : (cfg0.win 0).index t 1 = 0 := by decide +revert
  blk_ext [iblk, e0, e1, brow, num]

theorem blk1 (t : Fin cfg0.N) (k : Fin 3072) (j : Fin 1024) : wb m c t (ix2 k j) = wa m c (ix2 k j) := by
  rw [← host_w]
  have e0 : (cfg0.win 1).index t 0 = 0 := by decide +revert
  have e1 : (cfg0.win 1).index t 1 = 0 := by decide +revert
  blk_ext [iblk, e0, e1]

theorem blk2 (t : Fin cfg0.N) (i : Fin 512) (j : Fin 1024) : xb m c t (ix2 i j) = xa m c (ix2 (brow (num t) i) j) := by
  rw [xa, ← V_main_arg2 m c]
  have e0 : (cfg0.win 2).index t 0 = t.val := by decide +revert
  have e1 : (cfg0.win 2).index t 1 = 0 := by decide +revert
  blk_ext [iblk, e0, e1, brow, num]

theorem blk3 (t : Fin cfg0.N) (i : Fin 512) (j : Fin 1024) : zb m c t (ix2 i j) = za m c (ix2 (brow (num t) i) j) := by
  rw [za, ← V_main_arg3 m c]
  have e0 : (cfg0.win 3).index t 0 = t.val := by decide +revert
  have e1 : (cfg0.win 3).index t 1 = 0 := by decide +revert
  blk_ext [iblk, e0, e1, brow, num]

theorem blk4 (t : Fin cfg0.N) (i : Fin 1) (j : Fin 1024) : gb m c t (ix2 i j) = ga m c (ix2 i j) := by
  rw [ga, ← V_main_arg4 m c]
  have e0 : (cfg0.win 4).index t 0 = 0 := by decide +revert
  have e1 : (cfg0.win 4).index t 1 = 0 := by decide +revert
  blk_ext [iblk, e0, e1]

/-! ## The body -/

section
variable (f : Vec Ideal S512x3072 .bf16) (w : Vec Ideal S3072x1024 .bf16) (x : Vec Ideal S512x1024 .f32) (g : Vec Ideal S1x1024 .f32)
  (z : Vec Ideal S512x1024 .f32) (r : FVec Ideal S512x1 .f32) (n e : FVec Ideal S512x1024 .f32) (o : Vec Ideal S1x1024 .f32)
  (a : Vec Ideal S1x128 .f32)

/-- The projection of a row. -/
def prow (i : Fin 512) (j : Fin 1024) : EReal := ∑ k : Fin 3072, f (ix2 i k) * w (ix2 k j)

theorem pay_out (i : Fin 512) (j : Fin 1024) : k0_pay6 f w (ix2 i j) = prow f w i j := by
  pointwise [k0_pay6]
  rfl

/-- The reciprocal root of a projected row. -/
theorem pay_inv (i : Fin 512) : k0_pay7 f w (ix2 i 0) = inv (prow f w i) := by
  pointwise [k0_pay7]
  simp only [pay_out]
  rfl

/-- The normed row. -/
theorem pay_n (i : Fin 512) (j : Fin 1024) : k0_pay8 f w (ix2 i j) = prow f w i j * inv (prow f w i) := by
  pointwise [k0_pay8]
  rw [pay_out, pay_inv]

/-- The distance of the layer's output from the target. -/
theorem pay_err (i : Fin 512) (j : Fin 1024) : k0_pay9 f w x g z (ix2 i j)
    = x (ix2 i j) + prow f w i j * inv (prow f w i) * g (ix2 0 j) - z (ix2 i j) := by
  pointwise [k0_pay9]
  rw [pay_n]

/-- The gradient in the layer's output. -/
theorem pay_dx (i : Fin 512) (j : Fin 1024) : k0_pay1 e (ix2 i j) = e (ix2 i j) * Ideal.ofBits .f32 0x3A800000#32 := by
  pointwise [k0_pay1]

/-- The gradient in the projection, from the normed row `n`. -/
theorem pay_dout (i : Fin 512) (j : Fin 1024) : k0_pay2 (k0_pay7 f w) (k0_pay8 f w) e g (ix2 i j)
    = ker (prow f w i) (fun k => e (ix2 i k) * Ideal.ofBits .f32 0x3A800000#32 * g (ix2 0 k)) j := by
  pointwise [k0_pay2]
  simp only [pay_n, pay_inv, pay_dx]
  rfl

/-- The block's addition to the gain's gradient, and to the loss. -/
theorem pay_dg (j : Fin 1024) : k0_pay3 n e o (ix2 0 j)
    = o (ix2 0 j) + ∑ i : Fin 512, e (ix2 i j) * Ideal.ofBits .f32 0x3A800000#32 * n (ix2 i j) := by
  pointwise [k0_pay3]
  simp only [pay_dx]

theorem pay_loss (l : Fin 128) : k0_pay10 f w x g z a (ix2 0 l)
    = a (ix2 0 l) + Ideal.ofBits .f32 0x3A000000#32
      * ∑ i : Fin 512, ∑ j : Fin 1024, k0_pay9 f w x g z (ix2 i j) * k0_pay9 f w x g z (ix2 i j) := by
  pointwise [k0_pay10]

/-- The loss and the gain's gradient start at zero. -/
theorem loss_zero (l : Fin 128) : k0_pay4 (F := Ideal) (ix2 0 l) = (0 : EReal) := by
  pointwise [k0_pay4]

theorem pay_zero (j : Fin 1024) : k0_pay5 (F := Ideal) (ix2 0 j) = (0 : EReal) := by
  pointwise [k0_pay5]

end

end Cert.Loss

end
-- ==== Proof.LossEqual.lean ====
/- The last layer's down projection with the norm, the residual, the loss and its gradient: what each grid point leaves, the
   four arrays, the reference, and the claims. -/
module

public import proofs.«01_k».proof.Defs
public import proofs.«01_k».proof.Proof.Gen.LossKernel.Frame
public import proofs.«01_k».proof.Proof.Gen.LossReferenceIdeal.Read
public import Idealize.ShloMosaic.Lib.Quiescent
public import proofs.«01_k».proof.Proof.LossPoint

@[expose] public section

set_option maxRecDepth 16384

noncomputable section

namespace Cert.Loss

open Idealize.ShloMosaic Idealize.ShloMosaic.TcCoe Idealize.SL.Sem Cert.LossKernelIdeal Cert.LossKernelIdeal.Gen
open Cert.Norm (inv)
open Cert.RmsBwd (ker chain chain_eq through)

/-! ## The layer, the loss and the gradients -/

section
variable (f : FVec Ideal S2048x3072 .f32) (w : FVec Ideal S3072x1024 .f32) (x z : FVec Ideal S2048x1024 .f32) (g : FVec Ideal S1x1024 .f32)

/-- The down projection. -/
def out (i : Fin 2048) (j : Fin 1024) : EReal := ∑ k : Fin 3072, f (ix2 i k) * w (ix2 k j)

/-- The distance of the layer's output from the target. -/
def err (i : Fin 2048) (j : Fin 1024) : EReal := x (ix2 i j) + out f w i j * inv (out f w i) * g (ix2 0 j) - z (ix2 i j)

/-- The gradient of the loss in the layer's output, and in the projection. -/
def dx (i : Fin 2048) (j : Fin 1024) : EReal := err f w x z g i j * Ideal.ofBits .f32 0x3A800000#32
def dout (i : Fin 2048) (j : Fin 1024) : EReal := ker (out f w i) (fun k => dx f w x z g i k * g (ix2 0 k)) j

/-- A row's loss, and what the row adds to the gain's gradient. -/
def lrow (i : Fin 2048) : EReal := Ideal.ofBits .f32 0x3A000000#32 * ∑ j, err f w x z g i j * err f w x z g i j
def grow (i : Fin 2048) (j : Fin 1024) : EReal := dx f w x z g i j * (out f w i j * inv (out f w i))

/-- The loss, and the gain's gradient. -/
def loss : EReal := ∑ i, lrow f w x z g i
def dg (j : Fin 1024) : EReal := ∑ i, grow f w x z g i j

end

/-! ## The constants -/

theorem whalf : Ideal.ofBits .f32 0x3F000000#32 = ((1 / 2 : ℝ) : EReal) := by
  simp [Ideal.ofBits, Ideal.ieee, -EReal.coe_mul]; norm_num

theorem wone : Ideal.ofBits .f32 0x3F800000#32 = ((1 : ℝ) : EReal) := by
  simp [Ideal.ofBits, Ideal.ieee, -EReal.coe_mul]; norm_num

theorem wtwo : Ideal.ofBits .f32 0x40000000#32 = ((2 : ℝ) : EReal) := by
  simp [Ideal.ofBits, Ideal.ieee, -EReal.coe_mul]; norm_num

theorem w1024th : Ideal.ofBits .f32 0x3A800000#32 = ((1 / 1024 : ℝ) : EReal) := by
  simp [Ideal.ofBits, Ideal.ieee, -EReal.coe_mul]; norm_num

theorem w2048th : Ideal.ofBits .f32 0x3A000000#32 = ((1 / 2048 : ℝ) : EReal) := by
  simp [Ideal.ofBits, Ideal.ieee, -EReal.coe_mul]; norm_num

/-- Half of the gradient of a square, over the row's length. -/
theorem grad_const (e : EReal) : Ideal.div (Ideal.ofBits .f32 0x3F000000#32 * Ideal.ofBits .f32 0x3F800000#32)
    (Ideal.ofBits .f32 0x44800000#32) * (Ideal.ofBits .f32 0x40000000#32 * e) = e * Ideal.ofBits .f32 0x3A800000#32 := by
  rw [whalf, wone, wtwo, w1024th, Cert.RmsBwd.w1024, Ideal.div_coe (by norm_num), ← EReal.coe_mul, ← EReal.coe_mul, ← mul_assoc (G := EReal),
    ← EReal.coe_mul, mul_comm (G := EReal)]
  norm_num

/-- Half of a sum of means. -/
theorem loss_const (s : Fin 2048 → EReal) : Ideal.ofBits .f32 0x3F000000#32 * ∑ i, Ideal.div (s i) (Ideal.ofBits .f32 0x44800000#32)
    = ∑ i, Ideal.ofBits .f32 0x3A000000#32 * s i := by
  rw [whalf, Cert.RmsBwd.mul_sum _ (by norm_num)]
  refine Finset.sum_congr rfl fun i _ => ?_
  rw [w2048th, Cert.RmsBwd.w1024, Ideal.div_coe (by norm_num), mul_comm (G := EReal) (s i), ← mul_assoc (G := EReal), ← EReal.coe_mul]
  norm_num

/-! ## The arrays -/

variable (m : (ℓ : Loc nD τ sig) → Buf (Elt Ideal) ℓ) (c : Dev nD)

/-- The functions at the device's arguments. -/
abbrev dxa : Fin 2048 → Fin 1024 → EReal := dx (fa m c) (wa m c) (xa m c) (za m c) (ga m c)
abbrev douta : Fin 2048 → Fin 1024 → EReal := dout (fa m c) (wa m c) (xa m c) (za m c) (ga m c)
abbrev lrowa : Fin 2048 → EReal := lrow (fa m c) (wa m c) (xa m c) (za m c) (ga m c)
abbrev growa : Fin 2048 → Fin 1024 → EReal := grow (fa m c) (wa m c) (xa m c) (za m c) (ga m c)

/-- A point's rows are the array's. -/
theorem out_at (t : Fin cfg0.N) (i : Fin 512) : prow (fb m c t) (wb m c t) i = out (fa m c) (wa m c) (brow (num t) i) := by
  funext j
  simp only [prow, out, blk0, blk1]

theorem err_at (t : Fin cfg0.N) (i : Fin 512) (j : Fin 1024) : k0_pay9 (fb m c t) (wb m c t) (xb m c t) (gb m c t) (zb m c t) (ix2 i j)
    = err (fa m c) (wa m c) (xa m c) (za m c) (ga m c) (brow (num t) i) j := by
  rw [pay_err, err, out_at, blk2, blk3, blk4]

theorem dx_at (t : Fin cfg0.N) (i : Fin 512) (j : Fin 1024) :
    k0_pay1 (k0_pay9 (fb m c t) (wb m c t) (xb m c t) (gb m c t) (zb m c t)) (ix2 i j) = dxa m c (brow (num t) i) j := by
  rw [pay_dx, err_at, dxa, dx]

theorem dout_at (t : Fin cfg0.N) (i : Fin 512) (j : Fin 1024) :
    k0_pay2 (k0_pay7 (fb m c t) (wb m c t)) (k0_pay8 (fb m c t) (wb m c t))
      (k0_pay9 (fb m c t) (wb m c t) (xb m c t) (gb m c t) (zb m c t)) (gb m c t) (ix2 i j) = douta m c (brow (num t) i) j := by
  rw [pay_dout, douta, dout, out_at]
  simp only [err_at, blk4, dx]

theorem loss_at (t : Fin cfg0.N) (o : Vec Ideal S1x128 .f32) (l : Fin 128) :
    k0_pay10 (fb m c t) (wb m c t) (xb m c t) (gb m c t) (zb m c t) o (ix2 0 l) = o (ix2 0 l) + ∑ r : Fin 512, lrowa m c (brow (num t) r) := by
  rw [pay_loss]
  simp only [err_at, lrowa, lrow]
  rw [w2048th, Cert.RmsBwd.mul_sum _ (by norm_num)]

theorem dg_at (t : Fin cfg0.N) (o : Vec Ideal S1x1024 .f32) (j : Fin 1024) :
    k0_pay3 (k0_pay8 (fb m c t) (wb m c t)) (k0_pay9 (fb m c t) (wb m c t) (xb m c t) (gb m c t) (zb m c t)) o (ix2 0 j)
      = o (ix2 0 j) + ∑ r : Fin 512, growa m c (brow (num t) r) j := by
  rw [pay_dg]
  simp only [err_at, pay_n, out_at, growa, grow, dx]

/-- What a point leaves of the two gradients by rows. -/
theorem dx_out (t : Fin cfg0.N) (i : Fin 512) (j : Fin 1024) :
    (outsAt0 m c t.val t.isLt).1 (ix2 i j) = dxa m c (brow (num t) i) j := by
  by_cases h0 : t.val % 4 = 0
  · rw [outsAt0_A m c t h0]
    frame_out
    exact dx_at m c t i j
  · rw [outsAt0_B m c t h0]
    frame_out
    exact dx_at m c t i j

theorem dout_out (t : Fin cfg0.N) (i : Fin 512) (j : Fin 1024) :
    (outsAt0 m c t.val t.isLt).2.1 (ix2 i j) = douta m c (brow (num t) i) j := by
  by_cases h0 : t.val % 4 = 0
  · rw [outsAt0_A m c t h0]
    frame_out
    exact dout_at m c t i j
  · rw [outsAt0_B m c t h0]
    frame_out
    exact dout_at m c t i j

/-- The loss and the gain's gradient after the first point, and after a later one. -/
theorem loss_first (t : Fin cfg0.N) (h0 : t.val % 4 = 0) (l : Fin 128) :
    (outsAt0 m c t.val t.isLt).2.2.1 (ix2 0 l) = ∑ r : Fin 512, lrowa m c (brow (num t) r) := by
  rw [outsAt0_A m c t h0]
  frame_out
  refine (loss_at m c t _ l).trans ?_
  rw [loss_zero, zero_add]

theorem loss_next (t : Fin cfg0.N) (h0 : ¬t.val % 4 = 0) (l : Fin 128) :
    (outsAt0 m c t.val t.isLt).2.2.1 (ix2 0 l)
      = (outsAt0 m c (t.val - 1) (Nat.lt_of_le_of_lt (Nat.sub_le _ _) t.isLt)).2.2.1 (ix2 0 l)
        + ∑ r : Fin 512, lrowa m c (brow (num t) r) := by
  rw [outsAt0_B m c t h0]
  frame_out
  exact loss_at m c t _ l

theorem dg_first (t : Fin cfg0.N) (h0 : t.val % 4 = 0) (j : Fin 1024) :
    (outsAt0 m c t.val t.isLt).2.2.2 (ix2 0 j) = ∑ r : Fin 512, growa m c (brow (num t) r) j := by
  rw [outsAt0_A m c t h0]
  frame_out
  refine (dg_at m c t _ j).trans ?_
  rw [pay_zero, zero_add]

theorem dg_next (t : Fin cfg0.N) (h0 : ¬t.val % 4 = 0) (j : Fin 1024) :
    (outsAt0 m c t.val t.isLt).2.2.2 (ix2 0 j)
      = (outsAt0 m c (t.val - 1) (Nat.lt_of_le_of_lt (Nat.sub_le _ _) t.isLt)).2.2.2 (ix2 0 j)
        + ∑ r : Fin 512, growa m c (brow (num t) r) j := by
  rw [outsAt0_B m c t h0]
  frame_out
  exact dg_at m c t _ j

/-- A point after the first is not the start of a run of four. -/
theorem later {n : ℕ} (h : n + 1 < cfg0.N) : ¬(n + 1) % 4 = 0 := by
  have := lt_of_lt_of_eq h (show cfg0.N = 4 from N_0)
  omega

/-- After the last point they are the whole sums. -/
theorem loss_last (h : 3 < cfg0.N) (l : Fin 128) :
    (outsAt0 m c 3 h).2.2.1 (ix2 0 l) = loss (fa m c) (wa m c) (xa m c) (za m c) (ga m c) := by
  rw [loss, Cert.RmsBwd.sum_rows]
  exact Cert.RmsBwd.four (fun n hn => (outsAt0 m c n hn).2.2.1 (ix2 0 l)) (fun b => ∑ r, lrowa m c (brow b r)) N_0
    (fun h => loss_first m c ⟨0, h⟩ (Nat.zero_mod 4) l) (fun n h => loss_next m c ⟨n + 1, h⟩ (later h) l) h

theorem dg_last (h : 3 < cfg0.N) (j : Fin 1024) :
    (outsAt0 m c 3 h).2.2.2 (ix2 0 j) = dg (fa m c) (wa m c) (xa m c) (za m c) (ga m c) j := by
  rw [dg, Cert.RmsBwd.sum_rows]
  exact Cert.RmsBwd.four (fun n hn => (outsAt0 m c n hn).2.2.2 (ix2 0 j)) (fun b => ∑ r, growa m c (brow b r) j) N_0
    (fun h => dg_first m c ⟨0, h⟩ (Nat.zero_mod 4) j) (fun n h => dg_next m c ⟨n + 1, h⟩ (later h) j) h

/-- The call's four arrays. -/
theorem arr_dx : (dats m 0 c).arrAt 5 cfg0.N = fun y => dxa m c (y 0) (y 1) := by
  refine (dats m 0 c).arrAt_eq_of_covers 5 _ (by decide +kernel) fun t hf y => ?_
  have e0 : (cfg0.win 5).index t 0 = t.val := by decide +revert
  have e1 : (cfg0.win 5).index t 1 = 0 := by decide +revert
  have x0 : (((cfg0.win 5).blk t).view.emb y 0).val = t.val * 512 + (y 0).val := by blk_simp [e0]
  have x1 : (((cfg0.win 5).blk t).view.emb y 1).val = (y 1).val := by blk_simp [e1]
  blk_simp
  rw [after0_5]
  have hy : y = ix2 (y 0) (y 1) := by funext b; fin_cases b <;> rfl
  refine (congrArg _ hy).trans ((dx_out m c t (y 0) (y 1)).trans ?_)
  exact congrArg₂ _ (Fin.ext x0.symm) (Fin.ext x1.symm)

theorem arr_dout : (dats m 0 c).arrAt 6 cfg0.N = fun y => douta m c (y 0) (y 1) := by
  refine (dats m 0 c).arrAt_eq_of_covers 6 _ (by decide +kernel) fun t hf y => ?_
  have e0 : (cfg0.win 6).index t 0 = t.val := by decide +revert
  have e1 : (cfg0.win 6).index t 1 = 0 := by decide +revert
  have x0 : (((cfg0.win 6).blk t).view.emb y 0).val = t.val * 512 + (y 0).val := by blk_simp [e0]
  have x1 : (((cfg0.win 6).blk t).view.emb y 1).val = (y 1).val := by blk_simp [e1]
  blk_simp
  rw [after0_6]
  have hy : y = ix2 (y 0) (y 1) := by funext b; fin_cases b <;> rfl
  refine (congrArg _ hy).trans ((dout_out m c t (y 0) (y 1)).trans ?_)
  exact congrArg₂ _ (Fin.ext x0.symm) (Fin.ext x1.symm)

theorem arr_loss : (dats m 0 c).arrAt 7 cfg0.N = fun _ => loss (fa m c) (wa m c) (xa m c) (za m c) (ga m c) := by
  refine (dats m 0 c).arrAt_eq_of_after_last 7 (⟨3, by decide⟩ : Fin grid0.N) (by decide +kernel) _ fun j => ?_
  blk_simp
  refine (congrFun (after0_7 m c (⟨3, by decide⟩ : Fin cfg0.N)) _).trans ?_
  have hj : (fun b => ⟨(j b).val, (j b).isLt⟩ : (cfg0.win 7).shape.Idx) = ix2 0 (j 1) := by
    funext b
    fin_cases b
    · exact Fin.ext (Nat.lt_one_iff.mp (j 0).isLt)
    · rfl
  exact (congrArg _ hj).trans (loss_last m c (by decide) (j 1))

theorem arr_dg : (dats m 0 c).arrAt 8 cfg0.N = fun y => dg (fa m c) (wa m c) (xa m c) (za m c) (ga m c) (y 1) := by
  refine (dats m 0 c).arrAt_eq_of_after_last 8 (⟨3, by decide⟩ : Fin grid0.N) (by decide +kernel) _ fun j => ?_
  blk_simp
  refine (congrFun (after0_8 m c (⟨3, by decide⟩ : Fin cfg0.N)) _).trans ?_
  have hj : (fun b => ⟨(j b).val, (j b).isLt⟩ : (cfg0.win 8).shape.Idx) = ix2 0 (j 1) := by
    funext b
    fin_cases b
    · exact Fin.ext (Nat.lt_one_iff.mp (j 0).isLt)
    · rfl
  exact (congrArg _ hj).trans (dg_last m c (by decide) (j 1))

/-! ## The reference -/

section
open Cert.LossReferenceIdeal.Read
variable (f : FVec Ideal S2048x3072 .f32) (w : FVec Ideal S3072x1024 .f32) (x z : FVec Ideal S2048x1024 .f32) (g : FVec Ideal S1x1024 .f32)

/-- The projection and its reciprocal root. -/
theorem ref_out (i : Fin 2048) (j : Fin 1024) : val_main_v0 (F := Ideal) f w (ix2 i j) = out f w i j := by
  pointwise [val_main_v0]
  rfl

theorem ref_inv (i : Fin 2048) : val_main_v8 (F := Ideal) f w (ix2 i 0) = inv (out f w i) := by
  have h : out f w i = fun j => val_main_v0 (F := Ideal) f w (ix2 i j) := funext fun j => (ref_out f w i j).symm
  rw [h]
  pointwise [val_main_v8, val_main_v7, val_main_v6, val_main_v5, val_main_v4, val_main_v3, val_main_v2, val_main_v1, val_main_cst,
    val_main_cst_0, val_main_cst_1]
  rfl

/-- The normed projection. -/
theorem ref_n (i : Fin 2048) (j : Fin 1024) : val_main_v13 (F := Ideal) f w (ix2 i j) = out f w i j * inv (out f w i) := by
  rw [← ref_inv, ← ref_out]
  pointwise [val_main_v13, val_main_v12]

/-- The distance from the target. -/
theorem ref_err (i : Fin 2048) (j : Fin 1024) : val_main_v17 (F := Ideal) f w x z g (ix2 i j) = err f w x z g i j := by
  rw [err, ← ref_n]
  pointwise [val_main_v17, val_main_v16, val_main_v15, val_main_v14]

/-- The loss. -/
theorem ref_loss (l : Fin 128) : val_main_v52 (F := Ideal) f w x z g (ix2 0 l) = loss f w x z g := by
  simp only [loss, lrow, ← ref_err]
  refine Eq.trans ?_ (loss_const fun i => ∑ j, val_main_v17 (F := Ideal) f w x z g (ix2 i j) * val_main_v17 (F := Ideal) f w x z g (ix2 i j))
  pointwise [val_main_v52, val_main_v25, val_main_v24, val_main_v23, val_main_v22, val_main_v21, val_main_v18, val_main_cst_4,
    val_main_cst_5, val_main_cst_6, val_main_cst_7]

/-- The gradient in the layer's output. -/
theorem ref_dx (i : Fin 2048) (j : Fin 1024) : val_main_v31 (F := Ideal) f w x z g (ix2 i j) = dx f w x z g i j := by
  rw [dx, ← ref_err, ← grad_const]
  pointwise [val_main_v31, val_main_v30, val_main_v29, val_main_v28, val_main_v27, val_main_v26, val_main_v20, val_main_v19,
    val_main_cst_3, val_main_cst_8, val_main_cst_9, val_main_cst_10]

/-- The gain's gradient. -/
theorem ref_dg (j : Fin 1024) : val_main_v34 (F := Ideal) f w x z g (ix2 0 j) = dg f w x z g j := by
  simp only [dg, grow, ← ref_n, ← ref_dx]
  pointwise [val_main_v34, val_main_v33, val_main_v32, val_main_cst_11]
  exact Finset.sum_congr rfl fun i _ => mul_comm (G := EReal) _ _

/-- The gradient that the norm's mean square sends back. -/
theorem ref_through (i : Fin 2048) (j : Fin 1024) : val_main_v46 (F := Ideal) f w x z g (ix2 i j)
    = through (out f w i) (fun k => dx f w x z g i k * g (ix2 0 k)) := by
  have h : out f w i = fun j => val_main_v0 (F := Ideal) f w (ix2 i j) := funext fun j => (ref_out f w i j).symm
  rw [h]
  simp only [← ref_dx]
  pointwise [val_main_v46, val_main_v45, val_main_v44, val_main_v43, val_main_v42, val_main_v39, val_main_v38, val_main_v37, val_main_v36,
    val_main_v35, val_main_v11, val_main_v10, val_main_v9, val_main_v8, val_main_v7, val_main_v6, val_main_v5, val_main_v4, val_main_v3,
    val_main_v2, val_main_v1, val_main_cst, val_main_cst_0, val_main_cst_1, val_main_cst_2, val_main_cst_12, val_main_cst_13,
    val_main_cst_14]
  exact Fin.sum_univ_one _

/-- The chain rule's gradient in the projection is the call's. -/
theorem ref_dout (i : Fin 2048) (j : Fin 1024) : val_main_v51 (F := Ideal) f w x z g (ix2 i j) = dout f w x z g i j := by
  rw [dout, ← chain_eq, chain, ← ref_through f w x z g i j, ← ref_inv, ← ref_out, ← ref_dx]
  pointwise [val_main_v51, val_main_v50, val_main_v49, val_main_v48, val_main_v47, val_main_v41, val_main_v40, val_main_v36, val_main_v35]

/-- An index of a matrix, and of a row vector. -/
theorem idx_mat (y : S2048x1024.Idx) : y = ix2 (y 0) (y 1) := by
  funext b
  fin_cases b <;> rfl

theorem idx_row {n : ℕ} (y : (⟨2, ![1, n]⟩ : Shape).Idx) : y = ix2 0 (y 1) := by
  funext b
  fin_cases b
  · exact Fin.ext (Nat.lt_one_iff.mp (y 0).isLt)
  · rfl

/-- The reference's four results. -/
theorem res_dx : val_main_v31 (F := Ideal) f w x z g = fun y => dx f w x z g (y 0) (y 1) :=
  funext fun y => (congrArg _ (idx_mat y)).trans (ref_dx f w x z g (y 0) (y 1))

theorem res_dout : val_main_v51 (F := Ideal) f w x z g = fun y => dout f w x z g (y 0) (y 1) :=
  funext fun y => (congrArg _ (idx_mat y)).trans (ref_dout f w x z g (y 0) (y 1))

theorem res_loss : val_main_v52 (F := Ideal) f w x z g = fun _ => loss f w x z g :=
  funext fun y => (congrArg _ (idx_row y)).trans (ref_loss f w x z g (y 1))

theorem res_dg : val_main_v34 (F := Ideal) f w x z g = fun y => dg f w x z g (y 1) :=
  funext fun y => (congrArg _ (idx_row y)).trans (ref_dg f w x z g (y 1))

end

/-! ## The claims -/

/-- The reference is host operations alone: it ends with its arguments as they were and every counter at zero. -/
theorem frame_ri : Cert.quiescent_LossReferenceIdeal := fun m ρ _ =>
  (θ_run Cert.LossReferenceIdeal.defs _ _).mono
    (fun r h => ⟨fun c => (h c).2.2.2.2, sem_eq_zero_of_no_sems (by decide) r.2⟩)
    (Cert.LossReferenceIdeal.Value.run (F := Ideal) m ρ)

/-- From equal arguments the call's four arrays and the reference's four results are the same gradients and loss. -/
theorem equal : Cert.algebraic_LossKernelIdeal_LossReferenceIdeal := by
  intro m ρ m' ρ' _ hargs
  refine ⟨fun c => fun y => dxa m c (y 0) (y 1), fun c => fun y => douta m c (y 0) (y 1),
    fun c => fun _ => loss (fa m c) (wa m c) (xa m c) (za m c) (ga m c),
    fun c => fun y => dg (fa m c) (wa m c) (xa m c) (za m c) (ga m c) (y 1), ?_, ?_⟩
  · refine (θ_run Cert.LossKernelIdeal.defs _ _).mono (fun r h c => ?_) (Cert.LossKernelIdeal.Value.run_blocks (F := Ideal) m ρ)
    obtain ⟨e0, e1, e2, e3, k⟩ := h c
    exact ⟨e0.trans (arr_dx m c), e1.trans (arr_dout m c), e2.trans (arr_loss m c), e3.trans (arr_dg m c), k⟩
  · refine (θ_run Cert.LossReferenceIdeal.defs _ _).mono (fun r h c => ?_) (Cert.LossReferenceIdeal.Value.run (F := Ideal) m' ρ')
    obtain ⟨e0, e1, e2, e3, k⟩ := h c
    obtain ⟨a0, a1, a2, a3, a4⟩ := hargs c
    refine ⟨(e0.trans (Cert.LossReferenceIdeal.Read.val_main_v31_eq _ _ _ _ _)).trans ((res_dx _ _ _ _ _).trans ?_),
      (e1.trans (Cert.LossReferenceIdeal.Read.val_main_v51_eq _ _)).trans ((res_dout _ _ _ _ _).trans ?_),
      (e2.trans (Cert.LossReferenceIdeal.Read.val_main_v52_eq _ _ _ _ _)).trans ((res_loss _ _ _ _ _).trans ?_),
      (e3.trans (Cert.LossReferenceIdeal.Read.val_main_v34_eq _ _ _ _ _)).trans ((res_dg _ _ _ _ _).trans ?_), k⟩
    all_goals
      rw [a0, a1, a2, a3, a4]
      rfl

end Cert.Loss

end
-- ==== Proof.HalvesPoint.lean ====
/- The optimiser's call for a sharded parameter: its operands, and what its body computes at one grid point. -/
module

public import proofs.«01_k».proof.Proof.Gen.HalvesKernelIdeal.Frame
public import Idealize.ShloMosaic.Lib.Pipeline.Value
public import Idealize.ShloMosaic.Lib.Pipeline.ValueKit
public import Idealize.ShloMosaic.Lib.Pointwise

@[expose] public section

set_option maxRecDepth 16384

noncomputable section

namespace Cert.Halves

open Idealize.ShloMosaic Idealize.ShloMosaic.TcCoe Idealize.SL.Sem Cert.HalvesKernelIdeal Cert.HalvesKernelIdeal.Gen

variable (m : (ℓ : Loc nD τ sig) → Buf (Elt Ideal) ℓ) (c : Dev nD)

/-- The arguments on a device: the core's number, the parameter, the two halves of its gradient, and the two moments. -/
abbrev ka : IVec S1 32 := m (c, Proc.tc.devRef main_arg0)
abbrev wa : FVec Ideal S768x1024 .f32 := m (c, Proc.tc.devRef main_arg1)
abbrev ga : FVec Ideal S384x1024 .f32 := m (c, Proc.tc.devRef main_arg2)
abbrev ha : FVec Ideal S384x1024 .f32 := m (c, Proc.tc.devRef main_arg3)
abbrev ma : FVec Ideal S768x1024 .f32 := m (c, Proc.tc.devRef main_arg4)
abbrev va : FVec Ideal S768x1024 .f32 := m (c, Proc.tc.devRef main_arg5)

/-- No window's place depends on the core's number. -/
theorem ok : Ok m := by
  unfold Ok ok0
  trivial

/-- The grid's point as the number of its block of 192 rows. -/
def num (t : Fin grid0.N) : Fin 4 := ⟨t.val, lt_of_lt_of_eq t.isLt (by decide)⟩
/-- Row `f` of block `b`, of the parameter and of the gradient's halves. -/
def brow (b : Fin 4) (f : Fin 192) : Fin 768 := ⟨b.val * 192 + f.val, by omega⟩
def hrow (b : Fin 4) (f : Fin 192) : Fin 384 := ⟨b.val % 2 * 192 + f.val, by omega⟩

/-- The windows by their shapes. -/
abbrev wb (t : Fin grid0.N) : Vec Ideal S192x1024 .f32 := iblk m (ok m) c 0 t
abbrev gb (t : Fin grid0.N) : Vec Ideal S192x1024 .f32 := iblk m (ok m) c 1 t
abbrev hb (t : Fin grid0.N) : Vec Ideal S192x1024 .f32 := iblk m (ok m) c 2 t
abbrev mb (t : Fin grid0.N) : Vec Ideal S192x1024 .f32 := iblk m (ok m) c 3 t
abbrev vb (t : Fin grid0.N) : Vec Ideal S192x1024 .f32 := iblk m (ok m) c 4 t

/-- The windows' places: the point's block of rows, and for the halves its place in the half. -/
theorem place (t : Fin grid0.N) : cc0_transform_0 (grid0.coords t) = ![t.val, 0] := by decide +revert
theorem half_place (t : Fin grid0.N) : cc0_transform_1 (grid0.coords t) = ![t.val % 2, 0] := by decide +revert

/-- The windows at a point. -/
theorem blk0 (t : Fin grid0.N) (i : Fin 192) (j : Fin 1024) : wb m c t (ix2 i j) = wa m c (ix2 (brow (num t) i) j) := by
  rw [wa, ← V_main_arg1 m c]
  have e0 : (pcfg0.win (adm m (ok m)) 0).index t (0 : Fin 2) = t.val := congrFun (place t) 0
  have e1 : (pcfg0.win (adm m (ok m)) 0).index t (1 : Fin 2) = 0 := congrFun (place t) 1
  blk_ext [iblk, e0, e1, brow, num]
  · exact congrArg (· * 192 + i.val) e0
  · exact (congrArg (· * 1024 + j.val) e1).trans (by simp)

theorem blk1 (t : Fin grid0.N) (i : Fin 192) (j : Fin 1024) : gb m c t (ix2 i j) = ga m c (ix2 (hrow (num t) i) j) := by
  rw [ga, ← V_main_arg2 m c]
  have e0 : (pcfg0.win (adm m (ok m)) 1).index t (0 : Fin 2) = t.val % 2 := congrFun (half_place t) 0
  have e1 : (pcfg0.win (adm m (ok m)) 1).index t (1 : Fin 2) = 0 := congrFun (half_place t) 1
  blk_ext [iblk, e0, e1, hrow, num]
  · exact congrArg (· * 192 + i.val) e0
  · exact (congrArg (· * 1024 + j.val) e1).trans (by simp)

theorem blk2 (t : Fin grid0.N) (i : Fin 192) (j : Fin 1024) : hb m c t (ix2 i j) = ha m c (ix2 (hrow (num t) i) j) := by
  rw [ha, ← V_main_arg3 m c]
  have e0 : (pcfg0.win (adm m (ok m)) 2).index t (0 : Fin 2) = t.val % 2 := congrFun (half_place t) 0
  have e1 : (pcfg0.win (adm m (ok m)) 2).index t (1 : Fin 2) = 0 := congrFun (half_place t) 1
  blk_ext [iblk, e0, e1, hrow, num]
  · exact congrArg (· * 192 + i.val) e0
  · exact (congrArg (· * 1024 + j.val) e1).trans (by simp)

theorem blk3 (t : Fin grid0.N) (i : Fin 192) (j : Fin 1024) : mb m c t (ix2 i j) = ma m c (ix2 (brow (num t) i) j) := by
  rw [ma, ← V_main_arg4 m c]
  have e0 : (pcfg0.win (adm m (ok m)) 3).index t (0 : Fin 2) = t.val := congrFun (place t) 0
  have e1 : (pcfg0.win (adm m (ok m)) 3).index t (1 : Fin 2) = 0 := congrFun (place t) 1
  blk_ext [iblk, e0, e1, brow, num]
  · exact congrArg (· * 192 + i.val) e0
  · exact (congrArg (· * 1024 + j.val) e1).trans (by simp)

theorem blk4 (t : Fin grid0.N) (i : Fin 192) (j : Fin 1024) : vb m c t (ix2 i j) = va m c (ix2 (brow (num t) i) j) := by
  rw [va, ← V_main_arg5 m c]
  have e0 : (pcfg0.win (adm m (ok m)) 4).index t (0 : Fin 2) = t.val := congrFun (place t) 0
  have e1 : (pcfg0.win (adm m (ok m)) 4).index t (1 : Fin 2) = 0 := congrFun (place t) 1
  blk_ext [iblk, e0, e1, brow, num]
  · exact congrArg (· * 192 + i.val) e0
  · exact (congrArg (· * 1024 + j.val) e1).trans (by simp)

/-- The core's number. -/
abbrev core : BitVec 32 := ka m c (ix1 0)

/-! ## One entry -/

/-- The first moment, the second, and the update, of an entry `w` of the parameter with gradient `g` and moments `u`, `v`. -/
def mom (g u : EReal) : EReal := Ideal.ofBits .f32 0x3F666666#32 * u + Ideal.ofBits .f32 0x3DCCCCCD#32 * g
def sqm (g v : EReal) : EReal := Ideal.ofBits .f32 0x3F7FBE77#32 * v + Ideal.ofBits .f32 0x3A83126F#32 * (g * g)
def upd (w g u v : EReal) : EReal :=
  Ideal.ofBits .f32 0xBA83126F#32
    * (Ideal.div (mom g u * Named.named (F := Ideal) (φ := .f32) κ "c1" 0x3FC48605#32)
        (Ideal.sqrt (sqm g v * Named.named (F := Ideal) (φ := .f32) κ "c2" 0x42C8E6D3#32) + Ideal.ofBits .f32 0x322BCC77#32)
      + Ideal.ofBits .f32 0x3C23D70A#32 * w)

/-! ## The body -/

/-- A selection by an equation of words. -/
theorem pick {α : Type} (x k : BitVec 32) (a b : α) : Scalar.select (Scalar.cmpi .eq x k) a b = if x = k then a else b := by
  by_cases h : x = k
  · simp [Scalar.select, Scalar.cmpi, IntOp.cmpi, h]
  · have hb : (x == k) = false := beq_false_of_ne h
    simp [Scalar.select, Scalar.cmpi, IntOp.cmpi, h, hb]

/-- The half of the gradient that a grid point takes: this core's where its number is the half's, else the other's. -/
theorem pay_g (i : grid0.Coords) (k : BitVec 32) (a b : Vec Ideal S192x1024 .f32) :
    k0_pay3 i k a b = if BitVec.ofNat 32 ((i 0).val / 2) = k then a else b := by
  unfold k0_pay3
  have hn : (i 0).val < 4 := (i 0).isLt
  generalize (i 0).val = n at hn ⊢
  interval_cases n
  · exact pick 0#32 k a b
  · exact pick 0#32 k a b
  · exact pick 1#32 k a b
  · exact pick 1#32 k a b

theorem pay_m (i : grid0.Coords) (k : BitVec 32) (a b u : Vec Ideal S192x1024 .f32) (y : S192x1024.Idx) :
    k0_pay4 i k a b u y = mom (k0_pay3 i k a b y) (u y) := rfl

theorem pay_v (i : grid0.Coords) (k : BitVec 32) (a b v : Vec Ideal S192x1024 .f32) (y : S192x1024.Idx) :
    k0_pay1 (k0_pay5 v) (k0_pay6 i k a b) (FloatOps.ofBits .f32 0x3A83126F#32) y = sqm (k0_pay3 i k a b y) (v y) := rfl

theorem pay_d (i : grid0.Coords) (k : BitVec 32) (w a b u v : Vec Ideal S192x1024 .f32) (y : S192x1024.Idx) :
    k0_pay2 w (k0_pay4 i k a b u) (k0_pay5 v) (k0_pay6 i k a b) (FloatOps.ofBits .f32 0x3A83126F#32) y
      = upd (w y) (k0_pay3 i k a b y) (u y) (v y) := rfl

/-- The point's coordinate is its number. -/
theorem coord (t : Fin grid0.N) : (grid0.coords t 0).val = t.val := by decide +revert

/-! ## The arrays' entries -/

/-- The whole gradient, of a core number and of the two halves: the half of the core's number is the first array. -/
def whole (k : BitVec 32) (a b : FVec Ideal S384x1024 .f32) (i : Fin 768) (j : Fin 1024) : EReal :=
  if BitVec.ofNat 32 (i.val / 384) = k then a (ix2 ⟨i.val % 384, Nat.mod_lt _ (by norm_num)⟩ j)
  else b (ix2 ⟨i.val % 384, Nat.mod_lt _ (by norm_num)⟩ j)

/-- The whole gradient at the device's arguments. -/
abbrev grad : Fin 768 → Fin 1024 → EReal := whole (core m c) (ga m c) (ha m c)

/-- What a point takes is its rows of the whole gradient. -/
theorem grad_at (t : Fin grid0.N) (i : Fin 192) (j : Fin 1024) :
    k0_pay3 (grid0.coords t) (core m c) (gb m c t) (hb m c t) (ix2 i j) = grad m c (brow (num t) i) j := by
  have h1 : (brow (num t) i).val / 384 = t.val / 2 := by simp only [brow, num]; omega
  have h2 : (⟨(brow (num t) i).val % 384, Nat.mod_lt _ (by norm_num)⟩ : Fin 384) = hrow (num t) i := by
    apply Fin.ext; simp only [brow, hrow, num]; omega
  rw [pay_g, coord, grad, whole, h1, h2]
  split
  · exact blk1 m c t i j
  · exact blk2 m c t i j

/-- The table of one word has one index. -/
theorem one (x : S1.Idx) : x = ix1 0 := by
  funext b
  fin_cases b
  exact Fin.ext (Nat.lt_one_iff.mp (x 0).isLt)

/-- What the table holds there is the core's number. -/
theorem word (x : S1.Idx) : ka m 0 x = core m 0 := congrArg (ka m 0) (one x)

/-- What the body leaves in its four outputs, of blocks as they are read and of the word as it is read. -/
theorem g_body (t : Fin grid0.N) (i : Fin 192) (j : Fin 1024) (k : BitVec 32) (hk : k = core m c)
    (a b : Vec Ideal S192x1024 .f32) (ea : a = gb m c t) (eb : b = hb m c t) :
    k0_pay3 (grid0.coords t) k a b (ix2 i j) = grad m c (brow (num t) i) j := by
  subst hk ea eb
  exact grad_at m c t i j

theorem m_body (t : Fin grid0.N) (i : Fin 192) (j : Fin 1024) (k : BitVec 32) (hk : k = core m c)
    (a b u : Vec Ideal S192x1024 .f32) (ea : a = gb m c t) (eb : b = hb m c t) (eu : u = mb m c t) :
    k0_pay4 (grid0.coords t) k a b u (ix2 i j)
      = mom (grad m c (brow (num t) i) j) (ma m c (ix2 (brow (num t) i) j)) := by
  subst hk ea eb eu
  rw [pay_m, grad_at, blk3]

theorem v_body (t : Fin grid0.N) (i : Fin 192) (j : Fin 1024) (k : BitVec 32) (hk : k = core m c)
    (a b v : Vec Ideal S192x1024 .f32) (ea : a = gb m c t) (eb : b = hb m c t) (ev : v = vb m c t) :
    k0_pay1 (k0_pay5 v) (k0_pay6 (grid0.coords t) k a b) (FloatOps.ofBits .f32 0x3A83126F#32) (ix2 i j)
      = sqm (grad m c (brow (num t) i) j) (va m c (ix2 (brow (num t) i) j)) := by
  subst hk ea eb ev
  rw [pay_v, grad_at, blk4]

theorem d_body (t : Fin grid0.N) (i : Fin 192) (j : Fin 1024) (k : BitVec 32) (hk : k = core m c)
    (w a b u v : Vec Ideal S192x1024 .f32) (ew : w = wb m c t) (ea : a = gb m c t) (eb : b = hb m c t)
    (eu : u = mb m c t) (ev : v = vb m c t) :
    k0_pay2 w (k0_pay4 (grid0.coords t) k a b u) (k0_pay5 v) (k0_pay6 (grid0.coords t) k a b)
        (FloatOps.ofBits .f32 0x3A83126F#32) (ix2 i j)
      = upd (wa m c (ix2 (brow (num t) i) j)) (grad m c (brow (num t) i) j)
          (ma m c (ix2 (brow (num t) i) j)) (va m c (ix2 (brow (num t) i) j)) := by
  subst hk ew ea eb eu ev
  rw [pay_d, grad_at, blk0, blk3, blk4]

/-- What a point leaves in its block of the gradient, of the first moment, of the second, and of the update. -/
theorem g_out (t : Fin grid0.N) (i : Fin 192) (j : Fin 1024) :
    (outsAt0 m (ok m) c t).1 (ix2 i j) = grad m c (brow (num t) i) j := by
  obtain rfl : c = 0 := Subsingleton.elim _ _
  unfold outsAt0
  frame_out
  refine g_body m 0 t i j _ ?_ _ _ ((hs0_1 m (ok m) t).read_unread _) ((hs0_2 m (ok m) t).read_unread _)
  exact word m _

theorem m_out (t : Fin grid0.N) (i : Fin 192) (j : Fin 1024) :
    (outsAt0 m (ok m) c t).2.2.1 (ix2 i j) = mom (grad m c (brow (num t) i) j) (ma m c (ix2 (brow (num t) i) j)) := by
  obtain rfl : c = 0 := Subsingleton.elim _ _
  unfold outsAt0
  frame_out
  refine m_body m 0 t i j _ ?_ _ _ _ ((hs0_1 m (ok m) t).read_unread _) ((hs0_2 m (ok m) t).read_unread _)
    ((hs0_3 m (ok m) t).read_unread _)
  exact word m _

theorem v_out (t : Fin grid0.N) (i : Fin 192) (j : Fin 1024) :
    (outsAt0 m (ok m) c t).2.2.2 (ix2 i j) = sqm (grad m c (brow (num t) i) j) (va m c (ix2 (brow (num t) i) j)) := by
  obtain rfl : c = 0 := Subsingleton.elim _ _
  unfold outsAt0
  frame_out
  refine v_body m 0 t i j _ ?_ _ _ _ ((hs0_1 m (ok m) t).read_unread _) ((hs0_2 m (ok m) t).read_unread _)
    ((hs0_4 m (ok m) t).read_unread _)
  exact word m _

theorem d_out (t : Fin grid0.N) (i : Fin 192) (j : Fin 1024) :
    (outsAt0 m (ok m) c t).2.1 (ix2 i j) = upd (wa m c (ix2 (brow (num t) i) j)) (grad m c (brow (num t) i) j)
      (ma m c (ix2 (brow (num t) i) j)) (va m c (ix2 (brow (num t) i) j)) := by
  obtain rfl : c = 0 := Subsingleton.elim _ _
  unfold outsAt0
  frame_out
  refine d_body m 0 t i j _ ?_ _ _ _ _ _ ((hs0_0 m (ok m) t).read_unread _) ((hs0_1 m (ok m) t).read_unread _)
    ((hs0_2 m (ok m) t).read_unread _) ((hs0_3 m (ok m) t).read_unread _) ((hs0_4 m (ok m) t).read_unread _)
  exact word m _

end Cert.Halves

end
-- ==== Proof.HalvesEqual.lean ====
/- The optimiser's call for a sharded parameter: the four arrays, the reference, and the claims. -/
module

public import proofs.«01_k».proof.Defs
public import proofs.«01_k».proof.Proof.Gen.HalvesKernel.Frame
public import proofs.«01_k».proof.Proof.Gen.HalvesReferenceIdeal.Read
public import Idealize.ShloMosaic.Lib.Pipeline.Covers
public import Idealize.ShloMosaic.Lib.Quiescent
public import proofs.«01_k».proof.Proof.AdamEqual
public import proofs.«01_k».proof.Proof.HalvesPoint

@[expose] public section

set_option maxRecDepth 16384

noncomputable section

namespace Cert.Halves

open Idealize.ShloMosaic Idealize.ShloMosaic.TcCoe Idealize.SL.Sem Cert.HalvesKernelIdeal Cert.HalvesKernelIdeal.Gen

/-! ## The results -/

section
variable (k : BitVec 32) (w : FVec Ideal S768x1024 .f32) (a b : FVec Ideal S384x1024 .f32) (u v : FVec Ideal S768x1024 .f32)

/-- The whole gradient, the update, and the two moments. -/
def gres : FVec Ideal S768x1024 .f32 := fun y => whole k a b (y 0) (y 1)
def dres : FVec Ideal S768x1024 .f32 := fun y => upd (w y) (whole k a b (y 0) (y 1)) (u y) (v y)
def mres : FVec Ideal S768x1024 .f32 := fun y => mom (whole k a b (y 0) (y 1)) (u y)
def vres : FVec Ideal S768x1024 .f32 := fun y => sqm (whole k a b (y 0) (y 1)) (v y)

end

/-! ## The arrays -/

variable (m : (ℓ : Loc nD τ sig) → Buf (Elt Ideal) ℓ) (c : Dev nD)

/-- Each block of 192 rows is one point's. -/
theorem surj : ∀ β : (a : Fin S768x1024.rank) → Fin ((S768x1024.size a + S192x1024.size a - 1) / S192x1024.size a),
    ∃ t : Fin grid0.N, ∀ a, cc0_transform_0 (grid0.coords t) a = β a := by decide +kernel

theorem size_pos : ∀ a, 0 < S192x1024.size a := by decide

/-- An index of a block. -/
theorem idx (y : S192x1024.Idx) : ∃ (i : Fin 192) (j : Fin 1024), y = ix2 i j :=
  ⟨y 0, y 1, by funext b; fin_cases b <;> rfl⟩

/-- The call's four arrays. -/
theorem arr_g : (dats m (ok m) 0 c).arrAt 5 grid0.N = gres (core m c) (ga m c) (ha m c) := by
  refine (dats m (ok m) 0 c).arrAt_eq_of_covers 5 _ (Pipeline.Window.covers_of_index_surj _ rfl size_pos surj) fun t hf y => ?_
  obtain ⟨i, j, rfl⟩ := idx y
  have e0 : (pcfg0.win (adm m (ok m)) 5).index t (0 : Fin 2) = t.val := congrFun (place t) 0
  have e1 : (pcfg0.win (adm m (ok m)) 5).index t (1 : Fin 2) = 0 := congrFun (place t) 1
  have hx : (((cfgM m (ok m)).win 5).blk t).view.emb (ix2 i j) = ix2 (brow (num t) i) j := by
    blk_ext [e0, e1]
    · exact congrArg (· * 192 + i.val) e0
    · exact (congrArg (· * 1024 + j.val) e1).trans (by simp)
  refine Eq.trans ?_ (congrArg (gres (core m c) (ga m c) (ha m c)) hx.symm)
  blk_simp
  rw [after0_5]
  exact g_out m c t i j

theorem arr_d : (dats m (ok m) 0 c).arrAt 6 grid0.N = dres (core m c) (wa m c) (ga m c) (ha m c) (ma m c) (va m c) := by
  refine (dats m (ok m) 0 c).arrAt_eq_of_covers 6 _ (Pipeline.Window.covers_of_index_surj _ rfl size_pos surj) fun t hf y => ?_
  obtain ⟨i, j, rfl⟩ := idx y
  have e0 : (pcfg0.win (adm m (ok m)) 6).index t (0 : Fin 2) = t.val := congrFun (place t) 0
  have e1 : (pcfg0.win (adm m (ok m)) 6).index t (1 : Fin 2) = 0 := congrFun (place t) 1
  have hx : (((cfgM m (ok m)).win 6).blk t).view.emb (ix2 i j) = ix2 (brow (num t) i) j := by
    blk_ext [e0, e1]
    · exact congrArg (· * 192 + i.val) e0
    · exact (congrArg (· * 1024 + j.val) e1).trans (by simp)
  refine Eq.trans ?_ (congrArg (dres (core m c) (wa m c) (ga m c) (ha m c) (ma m c) (va m c)) hx.symm)
  blk_simp
  rw [after0_6]
  exact d_out m c t i j

theorem arr_m : (dats m (ok m) 0 c).arrAt 7 grid0.N = mres (core m c) (ga m c) (ha m c) (ma m c) := by
  refine (dats m (ok m) 0 c).arrAt_eq_of_covers 7 _ (Pipeline.Window.covers_of_index_surj _ rfl size_pos surj) fun t hf y => ?_
  obtain ⟨i, j, rfl⟩ := idx y
  have e0 : (pcfg0.win (adm m (ok m)) 7).index t (0 : Fin 2) = t.val := congrFun (place t) 0
  have e1 : (pcfg0.win (adm m (ok m)) 7).index t (1 : Fin 2) = 0 := congrFun (place t) 1
  have hx : (((cfgM m (ok m)).win 7).blk t).view.emb (ix2 i j) = ix2 (brow (num t) i) j := by
    blk_ext [e0, e1]
    · exact congrArg (· * 192 + i.val) e0
    · exact (congrArg (· * 1024 + j.val) e1).trans (by simp)
  refine Eq.trans ?_ (congrArg (mres (core m c) (ga m c) (ha m c) (ma m c)) hx.symm)
  blk_simp
  rw [after0_7]
  exact m_out m c t i j

theorem arr_v : (dats m (ok m) 0 c).arrAt 8 grid0.N = vres (core m c) (ga m c) (ha m c) (va m c) := by
  refine (dats m (ok m) 0 c).arrAt_eq_of_covers 8 _ (Pipeline.Window.covers_of_index_surj _ rfl size_pos surj) fun t hf y => ?_
  obtain ⟨i, j, rfl⟩ := idx y
  have e0 : (pcfg0.win (adm m (ok m)) 8).index t (0 : Fin 2) = t.val := congrFun (place t) 0
  have e1 : (pcfg0.win (adm m (ok m)) 8).index t (1 : Fin 2) = 0 := congrFun (place t) 1
  have hx : (((cfgM m (ok m)).win 8).blk t).view.emb (ix2 i j) = ix2 (brow (num t) i) j := by
    blk_ext [e0, e1]
    · exact congrArg (· * 192 + i.val) e0
    · exact (congrArg (· * 1024 + j.val) e1).trans (by simp)
  refine Eq.trans ?_ (congrArg (vres (core m c) (ga m c) (ha m c) (va m c)) hx.symm)
  blk_simp
  rw [after0_8]
  exact v_out m c t i j

/-! ## The reference -/

section
open Cert.HalvesReferenceIdeal.Read
variable (x0 : IVec S1 32) (w : FVec Ideal S768x1024 .f32) (a b : FVec Ideal S384x1024 .f32) (u v : FVec Ideal S768x1024 .f32)

/-- The reference's two halves. -/
theorem ref_first (y : S384x1024.Idx) : val_main_v2 (F := Ideal) x0 a b y = if 0#32 = x0 (ix1 0) then a y else b y := by
  refine Eq.trans (b := Scalar.select (Scalar.cmpi .eq (val_main_v0 (F := Ideal) x0 (fun i => i.elim0)) 0#32) (a y) (b y)) ?_ ?_
  · rfl
  · rw [pick, show val_main_v0 (F := Ideal) x0 (fun i => i.elim0) = x0 (ix1 0) from congrArg x0 (one _)]
    exact if_congr eq_comm rfl rfl

theorem ref_second (y : S384x1024.Idx) : val_main_v5 (F := Ideal) x0 a b y = if 1#32 = x0 (ix1 0) then a y else b y := by
  refine Eq.trans (b := Scalar.select (Scalar.cmpi .eq (val_main_v3 (F := Ideal) x0 (fun i => i.elim0)) 1#32) (a y) (b y)) ?_ ?_
  · rfl
  · rw [pick, show val_main_v3 (F := Ideal) x0 (fun i => i.elim0) = x0 (ix1 0) from congrArg x0 (one _)]
    exact if_congr eq_comm rfl rfl

/-- Joined, they are the whole gradient. -/
theorem ref_g (i : Fin 768) (j : Fin 1024) : val_main_v6 (F := Ideal) x0 a b (ix2 i j) = whole (x0 (ix1 0)) a b i j := by
  unfold val_main_v6 whole
  by_cases h : i.val < 384
  · have hd : i.val / 384 = 0 := Nat.div_eq_of_lt h
    have hm : i.val % 384 = i.val := Nat.mod_eq_of_lt h
    rw [hd]
    refine (concatenate_pair_apply_left (t := Cert.HalvesReferenceIdeal.S768x1024)
      (s₁ := Cert.HalvesReferenceIdeal.S384x1024) (s₂ := Cert.HalvesReferenceIdeal.S384x1024) 0 (val_main_v2 (F := Ideal) x0 a b)
      (val_main_v5 (F := Ideal) x0 a b) _ (ix2 i j) rfl (ix2 (⟨i.val % 384, Nat.mod_lt _ (by norm_num)⟩ : Fin 384) j) ?_).trans (ref_first x0 a b _)
    intro b
    fin_cases b
    · exact hm
    · rfl
  · have hd : i.val / 384 = 1 := by omega
    have hm : i.val % 384 + 384 = i.val := by omega
    rw [hd]
    refine (concatenate_pair_apply_right (t := Cert.HalvesReferenceIdeal.S768x1024)
      (s₁ := Cert.HalvesReferenceIdeal.S384x1024) (s₂ := Cert.HalvesReferenceIdeal.S384x1024) 0 (val_main_v2 (F := Ideal) x0 a b)
      (val_main_v5 (F := Ideal) x0 a b) _ (ix2 i j) rfl rfl (ix2 (⟨i.val % 384, Nat.mod_lt _ (by norm_num)⟩ : Fin 384) j) ?_ ?_).trans (ref_second x0 a b _)
    · intro b hb
      fin_cases b
      · exact absurd rfl hb
      · rfl
    · exact hm

/-- The gradient and the moments are the call's. -/
theorem res_g : val_main_v6 (F := Ideal) x0 a b = gres (x0 (ix1 0)) a b := by
  funext y
  have hy : y = ix2 (y 0) (y 1) := by funext b; fin_cases b <;> rfl
  exact (congrArg _ hy).trans (ref_g x0 a b (y 0) (y 1))

theorem res_m : val_main_v11 (F := Ideal) x0 a b u = mres (x0 (ix1 0)) a b u := by
  funext y
  exact Eq.trans (b := mom (val_main_v6 (F := Ideal) x0 a b y) (u y)) rfl (congrArg (mom · (u y)) (congrFun (res_g x0 a b) y))

theorem res_v : val_main_v17 (F := Ideal) x0 a b v = vres (x0 (ix1 0)) a b v := by
  funext y
  exact Eq.trans (b := sqm (val_main_v6 (F := Ideal) x0 a b y) (v y)) rfl (congrArg (sqm · (v y)) (congrFun (res_g x0 a b) y))

/-- Dividing by the reference's divisors is multiplying by the call's factors. -/
theorem by_c1 (x : EReal) : Ideal.div x (Ideal.ofBits .f32 0x3F26BD02#32)
    = x * Named.named (F := Ideal) (φ := .f32) Cert.HalvesKernelIdeal.κ "c1" 0x3FC48605#32 := by
  rw [Cert.Adam.lit_d1, show Named.named (F := Ideal) (φ := .f32) Cert.HalvesKernelIdeal.κ "c1" 0x3FC48605#32
    = ((8388608 / 5463681 : ℝ) : EReal) from IdealRules.named_const.ideal_named_scalar _ _ _ _ rfl, Ideal.div_coe (by norm_num)]
  norm_num

theorem by_c2 (x : EReal) : Ideal.div x (Ideal.ofBits .f32 0x3C231ACC#32)
    = x * Named.named (F := Ideal) (φ := .f32) Cert.HalvesKernelIdeal.κ "c2" 0x42C8E6D3#32 := by
  rw [Cert.Adam.lit_d2, show Named.named (F := Ideal) (φ := .f32) Cert.HalvesKernelIdeal.κ "c2" 0x42C8E6D3#32
    = ((268435456 / 2672307 : ℝ) : EReal) from IdealRules.named_const.ideal_named_scalar _ _ _ _ rfl, Ideal.div_coe (by norm_num)]
  norm_num

/-- The update is the call's. -/
theorem res_d : val_main_v30 (F := Ideal) x0 w a b u v = dres (x0 (ix1 0)) w a b u v := by
  funext y
  refine Eq.trans (b := Ideal.ofBits .f32 0xBA83126F#32 * (Ideal.div
    (Ideal.div (val_main_v11 (F := Ideal) x0 a b u y) (Ideal.ofBits .f32 0x3F26BD02#32))
    (Ideal.sqrt (Ideal.div (val_main_v17 (F := Ideal) x0 a b v y) (Ideal.ofBits .f32 0x3C231ACC#32)) + Ideal.ofBits .f32 0x322BCC77#32)
    + Ideal.ofBits .f32 0x3C23D70A#32 * w y)) rfl ?_
  rw [by_c1, by_c2, res_m, res_v]
  rfl

end

/-! ## The claims -/

/-- The two named constants of the idealized call are the reciprocals of the reference's divisors. -/
theorem named : Cert.preserves_HalvesKernel_HalvesKernelIdeal :=
  ⟨IdealRules.named_const.statement Cert.HalvesKernelIdeal.κ _ _ _ _ rfl, IdealRules.named_const.statement Cert.HalvesKernelIdeal.κ _ _ _ _ rfl⟩

/-- The call as printed, and idealized: it ends with its arguments as they were, whatever the core's number. -/
theorem frame_k : Cert.quiescent_HalvesKernel := fun m ρ _ =>
  Cert.HalvesKernel.Gen.frame m ρ (by unfold Cert.HalvesKernel.Gen.Ok Cert.HalvesKernel.ok0; trivial)

theorem frame_ki : Cert.quiescent_HalvesKernelIdeal := fun m ρ _ => frame m ρ (ok m)

/-- The reference is host operations alone: it ends with its arguments as they were and every counter at zero. -/
theorem frame_ri : Cert.quiescent_HalvesReferenceIdeal := fun m ρ _ =>
  (θ_run Cert.HalvesReferenceIdeal.defs _ _).mono
    (fun r h => ⟨fun c => (h c).2.2.2.2, sem_eq_zero_of_no_sems (by decide) r.2⟩)
    (Cert.HalvesReferenceIdeal.Value.run (F := Ideal) m ρ)

/-- From equal arguments the call's four arrays and the reference's four results are the same: the whole gradient, the
    update and the two moments. -/
theorem equal : Cert.algebraic_HalvesKernelIdeal_HalvesReferenceIdeal := by
  intro m ρ m' ρ' _ hargs
  refine ⟨fun c => gres (core m c) (ga m c) (ha m c), fun c => dres (core m c) (wa m c) (ga m c) (ha m c) (ma m c) (va m c),
    fun c => mres (core m c) (ga m c) (ha m c) (ma m c), fun c => vres (core m c) (ga m c) (ha m c) (va m c), ?_, ?_⟩
  · refine (θ_run Cert.HalvesKernelIdeal.defs _ _).mono (fun r h c => ?_) (run_main (F := Ideal) m ρ (ok m))
    have k (n : Fin 9) (hn : ((cfgM m (ok m)).win n).isOut = false) := ((h c).1 n).trans (((dats m (ok m) 0 c).arrAt_in n hn _).trans (A_eq m (ok m) c n))
    exact ⟨((h c).1 5).trans (arr_g m c), ((h c).1 6).trans (arr_d m c), ((h c).1 7).trans (arr_m m c), ((h c).1 8).trans (arr_v m c),
      ((h c).2 main_arg0 (by decide : main_arg0 ∈ Pipeline.restRefs sig spec0)).trans (V_main_arg0 m c),
      (k 0 rfl).trans (V_main_arg1 m c), (k 1 rfl).trans (V_main_arg2 m c), (k 2 rfl).trans (V_main_arg3 m c),
      (k 3 rfl).trans (V_main_arg4 m c), (k 4 rfl).trans (V_main_arg5 m c)⟩
  · refine (θ_run Cert.HalvesReferenceIdeal.defs _ _).mono (fun r h c => ?_) (Cert.HalvesReferenceIdeal.Value.run (F := Ideal) m' ρ')
    obtain ⟨e0, e1, e2, e3, k⟩ := h c
    obtain ⟨a0, a1, a2, a3, a4, a5⟩ := hargs c
    refine ⟨(e0.trans (Cert.HalvesReferenceIdeal.Read.val_main_v6_eq _ _ _)).trans ((res_g _ _ _).trans ?_),
      (e1.trans (Cert.HalvesReferenceIdeal.Read.val_main_v30_eq _ _ _ _ _ _)).trans ((res_d _ _ _ _ _ _).trans ?_),
      (e2.trans (Cert.HalvesReferenceIdeal.Read.val_main_v11_eq _ _ _ _)).trans ((res_m _ _ _ _).trans ?_),
      (e3.trans (Cert.HalvesReferenceIdeal.Read.val_main_v17_eq _ _ _ _)).trans ((res_v _ _ _ _).trans ?_), k⟩
    · rw [a0, a2, a3]
    · rw [a0, a1, a2, a3, a4, a5]
    · rw [a0, a2, a3, a4]
    · rw [a0, a2, a3, a5]

end Cert.Halves

end
-- ==== Proof.SumEqual.lean ====
/- The sum over the eight devices: the call's array, the reference, and the claims. -/
module

public import proofs.«01_k».proof.Defs
public import proofs.«01_k».proof.Proof.Gen.SumKernel.Frame
public import proofs.«01_k».proof.Proof.Gen.SumKernelIdeal.Value
public import proofs.«01_k».proof.Proof.Gen.SumReferenceIdeal.Read
public import Idealize.ShloMosaic.PureOps.Ideal.Laws
public import Idealize.ShloMosaic.Lib.Quiescent

@[expose] public section

set_option maxRecDepth 16384

noncomputable section

namespace Cert.DevSum

open Idealize.ShloMosaic Idealize.ShloMosaic.TcCoe Idealize.SL.Sem Cert.SumKernelIdeal Cert.SumKernelIdeal.Gen Cert.SumKernelIdeal.Value
open Cert.SumReferenceIdeal.Read

/-! ## The sum at one index -/

/-- The stored rectangle is the whole array. -/
theorem stored (y : S16x1024.Idx) : r0_8.idx y = y := by
  funext b
  fin_cases b <;> exact Fin.ext (by simp [LoadRect.idx])

/-- The call adds the eight devices' parts from left to right: at an index, their sum. -/
theorem entry (a : FVec Ideal S8x16x1024 .f32) (y : S16x1024.Idx) :
    G1 (F := Ideal) a y = ∑ k : Fin 8, a (idx_main_v0 y k) := by
  rw [Fin.sum_univ_eight]
  refine (piece1_0 _ _ _ _ _ _ _ _ y).trans ?_
  rw [stored]
  have e0 : View.ld (Val := Elt Ideal) (e' := .f32) a r0_0 (ix1_0 y) = a (idx_main_v0 y 0) :=
    congrArg a (a₁ := r0_0.toLoadRect.idx (ix1_0 y)) (a₂ := idx_main_v0 y 0) (funext fun b => by fin_cases b <;> exact Fin.ext (by simp [LoadRect.idx]))
  have e1 : View.ld (Val := Elt Ideal) (e' := .f32) a r0_1 (ix1_1 y) = a (idx_main_v0 y 1) :=
    congrArg a (a₁ := r0_1.toLoadRect.idx (ix1_1 y)) (a₂ := idx_main_v0 y 1) (funext fun b => by fin_cases b <;> exact Fin.ext (by simp [LoadRect.idx]))
  have e2 : View.ld (Val := Elt Ideal) (e' := .f32) a r0_2 (ix1_2 y) = a (idx_main_v0 y 2) :=
    congrArg a (a₁ := r0_2.toLoadRect.idx (ix1_2 y)) (a₂ := idx_main_v0 y 2) (funext fun b => by fin_cases b <;> exact Fin.ext (by simp [LoadRect.idx]))
  have e3 : View.ld (Val := Elt Ideal) (e' := .f32) a r0_3 (ix1_3 y) = a (idx_main_v0 y 3) :=
    congrArg a (a₁ := r0_3.toLoadRect.idx (ix1_3 y)) (a₂ := idx_main_v0 y 3) (funext fun b => by fin_cases b <;> exact Fin.ext (by simp [LoadRect.idx]))
  have e4 : View.ld (Val := Elt Ideal) (e' := .f32) a r0_4 (ix1_4 y) = a (idx_main_v0 y 4) :=
    congrArg a (a₁ := r0_4.toLoadRect.idx (ix1_4 y)) (a₂ := idx_main_v0 y 4) (funext fun b => by fin_cases b <;> exact Fin.ext (by simp [LoadRect.idx]))
  have e5 : View.ld (Val := Elt Ideal) (e' := .f32) a r0_5 (ix1_5 y) = a (idx_main_v0 y 5) :=
    congrArg a (a₁ := r0_5.toLoadRect.idx (ix1_5 y)) (a₂ := idx_main_v0 y 5) (funext fun b => by fin_cases b <;> exact Fin.ext (by simp [LoadRect.idx]))
  have e6 : View.ld (Val := Elt Ideal) (e' := .f32) a r0_6 (ix1_6 y) = a (idx_main_v0 y 6) :=
    congrArg a (a₁ := r0_6.toLoadRect.idx (ix1_6 y)) (a₂ := idx_main_v0 y 6) (funext fun b => by fin_cases b <;> exact Fin.ext (by simp [LoadRect.idx]))
  have e7 : View.ld (Val := Elt Ideal) (e' := .f32) a r0_7 (ix1_7 y) = a (idx_main_v0 y 7) :=
    congrArg a (a₁ := r0_7.toLoadRect.idx (ix1_7 y)) (a₂ := idx_main_v0 y 7) (funext fun b => by fin_cases b <;> exact Fin.ext (by simp [LoadRect.idx]))
  unfold E1
  rw [e0, e1, e2, e3, e4, e5, e6, e7]
  rfl

/-- The reference's sum starts from zero. -/
theorem start (i : Cert.SumReferenceIdeal.S_.Idx) : val_main_cst (F := Ideal) i = 0 := by
  show Ideal.ofBits .f32 0x00000000#32 = 0
  simp [Ideal.ofBits, Ideal.ieee]

/-- The reference's array is the call's. -/
theorem res (a : FVec Ideal S8x16x1024 .f32) : val_main_v0 (F := Ideal) a = G1 (F := Ideal) a := by
  funext y
  rw [entry]
  exact (val_main_v0_apply a y).trans (by rw [start, zero_add])

/-! ## The claims -/

/-- The reference is host operations alone: it ends with its argument as it was and every counter at zero. -/
theorem frame_ri : Cert.quiescent_SumReferenceIdeal := fun m ρ _ =>
  (θ_run Cert.SumReferenceIdeal.defs _ _).mono
    (fun r h => ⟨fun c => (h c).2, sem_eq_zero_of_no_sems (by decide) r.2⟩)
    (Cert.SumReferenceIdeal.Value.run (F := Ideal) m ρ)

/-- From equal arguments the call's array and the reference's are the same: the sum of the eight devices' parts. -/
theorem equal : Cert.algebraic_SumKernelIdeal_SumReferenceIdeal := by
  intro m ρ m' ρ' _ hargs
  refine ⟨fun c => G1 (F := Ideal) (m (c, Proc.tc.devRef main_arg0)), ?_, ?_⟩
  · exact Cert.SumKernelIdeal.Value.run (F := Ideal) m ρ
  · refine (θ_run Cert.SumReferenceIdeal.defs _ _).mono (fun r h c => ?_) (Cert.SumReferenceIdeal.Value.run (F := Ideal) m' ρ')
    refine ⟨((h c).1.trans (Cert.SumReferenceIdeal.Read.val_main_v0_eq _)).trans ((res _).trans ?_), (h c).2⟩
    exact congrArg (G1 (F := Ideal)) (hargs c)

end Cert.DevSum

end
-- ==== Proof.HalvesShape.lean ====
/- The optimiser's call for the other shapes of parameter: what does not depend on the shape. -/
module

public import proofs.«01_k».proof.Proof.HalvesEqual

@[expose] public section

set_option maxRecDepth 16384

noncomputable section

namespace Cert.Halves

open Idealize.ShloMosaic

variable {R H C : Nat}

/-! ## The results, of a parameter of `R` rows and `C` columns whose gradient comes in halves of `H` rows -/

section
variable (h0 : 0 < H) (k : BitVec 32) (w : FVec Ideal ⟨2, ![R, C]⟩ .f32) (a b : FVec Ideal ⟨2, ![H, C]⟩ .f32)
  (u v : FVec Ideal ⟨2, ![R, C]⟩ .f32)

/-- The whole gradient: the half of the core's number is the first array. -/
def joined (i : Fin R) (j : Fin C) : EReal :=
  if BitVec.ofNat 32 (i.val / H) = k then a (ix2 ⟨i.val % H, Nat.mod_lt _ h0⟩ j) else b (ix2 ⟨i.val % H, Nat.mod_lt _ h0⟩ j)

/-- The whole gradient, the update, and the two moments, as arrays. -/
def gAll : FVec Ideal ⟨2, ![R, C]⟩ .f32 := fun y => joined h0 k a b (y 0) (y 1)
def dAll : FVec Ideal ⟨2, ![R, C]⟩ .f32 := fun y => upd (w y) (joined h0 k a b (y 0) (y 1)) (u y) (v y)
def mAll : FVec Ideal ⟨2, ![R, C]⟩ .f32 := fun y => mom (joined h0 k a b (y 0) (y 1)) (u y)
def vAll : FVec Ideal ⟨2, ![R, C]⟩ .f32 := fun y => sqm (joined h0 k a b (y 0) (y 1)) (v y)

/-- A row of the whole gradient is the row `r` of the half `n`. -/
theorem joined_at (i : Fin R) (r : Fin H) (n : Nat) (hn : i.val / H = n) (hr : i.val % H = r.val) (j : Fin C) :
    joined h0 k a b i j = if BitVec.ofNat 32 n = k then a (ix2 r j) else b (ix2 r j) := by
  have e : (⟨i.val % H, Nat.mod_lt _ h0⟩ : Fin H) = r := Fin.ext hr
  rw [joined, hn, e]

/-- Two halves selected by the core's number and joined are the whole gradient. -/
theorem joined_pair (hR : R = H + H) (x y : FVec Ideal ⟨2, ![H, C]⟩ .f32)
    (hx : ∀ z, x z = if 0#32 = k then a z else b z) (hy : ∀ z, y z = if 1#32 = k then a z else b z)
    (e : Shape.Concatenates [⟨2, ![H, C]⟩, ⟨2, ![H, C]⟩] ⟨2, ![R, C]⟩ 0) :
    concatenate ⟨2, ![R, C]⟩ 0 [⟨⟨2, ![H, C]⟩, x⟩, ⟨⟨2, ![H, C]⟩, y⟩] e = gAll h0 k a b := by
  funext z
  obtain ⟨i, j, rfl⟩ : ∃ (i : Fin R) (j : Fin C), z = ix2 i j := ⟨z 0, z 1, by funext b; fin_cases b <;> rfl⟩
  show _ = joined h0 k a b i j
  have hi := i.isLt
  by_cases h : i.val < H
  · rw [joined_at h0 k a b i ⟨i.val, h⟩ 0 (Nat.div_eq_of_lt h) (Nat.mod_eq_of_lt h) j]
    refine (concatenate_pair_apply_left (t := ⟨2, ![R, C]⟩) (s₁ := ⟨2, ![H, C]⟩) (s₂ := ⟨2, ![H, C]⟩) 0 x y e (ix2 i j) rfl
      (ix2 (⟨i.val, h⟩ : Fin H) j) ?_).trans (hx _)
    intro b
    fin_cases b <;> rfl
  · have hd : i.val / H = 1 := Nat.div_eq_of_lt_le (by omega) (by omega)
    have hs : i.val - H < H := by omega
    have hm : i.val % H = i.val - H := by rw [Nat.mod_eq_sub_mod (by omega), Nat.mod_eq_of_lt hs]
    rw [joined_at h0 k a b i ⟨i.val - H, hs⟩ 1 hd hm j]
    refine (concatenate_pair_apply_right (t := ⟨2, ![R, C]⟩) (s₁ := ⟨2, ![H, C]⟩) (s₂ := ⟨2, ![H, C]⟩) 0 x y e (ix2 i j) rfl rfl
      (ix2 (⟨i.val - H, hs⟩ : Fin H) j) ?_ ?_).trans (hy _)
    · intro b hb
      fin_cases b
      · exact absurd rfl hb
      · rfl
    · show i.val - H + H = i.val
      omega

end

/-! ## One entry -/

/-- The update as the reference writes it, of the two moments and the parameter. -/
def byDiv (p q w : EReal) : EReal :=
  Ideal.ofBits .f32 0xBA83126F#32 * (Ideal.div (Ideal.div p (Ideal.ofBits .f32 0x3F26BD02#32))
    (Ideal.sqrt (Ideal.div q (Ideal.ofBits .f32 0x3C231ACC#32)) + Ideal.ofBits .f32 0x322BCC77#32)
    + Ideal.ofBits .f32 0x3C23D70A#32 * w)

/-- It is the call's. -/
theorem byDiv_eq (w g u v : EReal) : byDiv (mom g u) (sqm g v) w = upd w g u v := by
  rw [byDiv, by_c1, by_c2, upd]

/-- The reference's test of the core's number: its selection, of the word it reads. -/
theorem half_of {α : Type} (x k n : BitVec 32) (hx : x = k) (a b : α) :
    Scalar.select (Scalar.cmpi .eq x n) a b = if n = k then a else b := by
  rw [pick, hx]
  exact if_congr eq_comm rfl rfl

end Cert.Halves

end
-- ==== Proof.UpHalves.lean ====
/- The optimiser's call for the shard of `w_ffn_up`, 1024 rows of 1536: eight points, four to a half. -/
module

public import proofs.«01_k».proof.Proof.Gen.UpHalvesKernel.Frame
public import proofs.«01_k».proof.Proof.Gen.UpHalvesKernelIdeal.Frame
public import proofs.«01_k».proof.Proof.Gen.UpHalvesReferenceIdeal.Read
public import Idealize.ShloMosaic.Lib.Pipeline.Covers
public import proofs.«01_k».proof.Proof.HalvesShape

@[expose] public section

set_option maxRecDepth 16384

noncomputable section

namespace Cert.UpHalves

open Idealize.ShloMosaic Idealize.ShloMosaic.TcCoe Idealize.SL.Sem Cert.UpHalvesKernelIdeal Cert.UpHalvesKernelIdeal.Gen
open Cert.Halves (mom sqm upd pick joined gAll dAll mAll vAll joined_at joined_pair byDiv byDiv_eq half_of)

variable (m : (ℓ : Loc nD τ sig) → Buf (Elt Ideal) ℓ) (c : Dev nD)

/-- The arguments on a device: the core's number, the parameter, the two halves of its gradient, and the two moments. -/
abbrev ka : IVec S1 32 := m (c, Proc.tc.devRef main_arg0)
abbrev wa : FVec Ideal S1024x1536 .f32 := m (c, Proc.tc.devRef main_arg1)
abbrev ga : FVec Ideal S512x1536 .f32 := m (c, Proc.tc.devRef main_arg2)
abbrev ha : FVec Ideal S512x1536 .f32 := m (c, Proc.tc.devRef main_arg3)
abbrev ma : FVec Ideal S1024x1536 .f32 := m (c, Proc.tc.devRef main_arg4)
abbrev va : FVec Ideal S1024x1536 .f32 := m (c, Proc.tc.devRef main_arg5)

/-- The core's number. -/
abbrev core : BitVec 32 := ka m c (ix1 0)

/-- What the table of one word holds at its one index is the core's number. -/
theorem word (x : S1.Idx) : ka m 0 x = core m 0 := congrArg (ka m 0) (Cert.Halves.one x)

/-- No window's place depends on the core's number. -/
theorem ok : Ok m := by
  unfold Ok ok0
  trivial

/-! ## The windows -/

/-- The row of the parameter, and of a half, that a point's row `f` is. -/
def brow (t : Fin grid0.N) (f : Fin 128) : Fin 1024 := ⟨t.val * 128 + f.val, by have h : t.val < 8 := t.isLt; omega⟩
def hrow (t : Fin grid0.N) (f : Fin 128) : Fin 512 := ⟨t.val % 4 * 128 + f.val, by omega⟩

/-- The windows by their shapes. -/
abbrev wb (t : Fin grid0.N) : Vec Ideal S128x1536 .f32 := iblk m (ok m) c 0 t
abbrev gb (t : Fin grid0.N) : Vec Ideal S128x1536 .f32 := iblk m (ok m) c 1 t
abbrev hb (t : Fin grid0.N) : Vec Ideal S128x1536 .f32 := iblk m (ok m) c 2 t
abbrev mb (t : Fin grid0.N) : Vec Ideal S128x1536 .f32 := iblk m (ok m) c 3 t
abbrev vb (t : Fin grid0.N) : Vec Ideal S128x1536 .f32 := iblk m (ok m) c 4 t

/-- The point's coordinate is its number; the windows' places are its block of rows, and its place in the half. -/
theorem coord (t : Fin grid0.N) : (grid0.coords t 0).val = t.val := by decide +revert
theorem place (t : Fin grid0.N) : cc0_transform_0 (grid0.coords t) = ![t.val, 0] := by decide +revert
theorem half_place (t : Fin grid0.N) : cc0_transform_1 (grid0.coords t) = ![t.val % 4, 0] := by decide +revert

/-- The windows at a point. -/
theorem blk0 (t : Fin grid0.N) (i : Fin 128) (j : Fin 1536) : wb m c t (ix2 i j) = wa m c (ix2 (brow t i) j) := by
  rw [wa, ← V_main_arg1 m c]
  have e0 : (pcfg0.win (adm m (ok m)) 0).index t (0 : Fin 2) = t.val := congrFun (place t) 0
  have e1 : (pcfg0.win (adm m (ok m)) 0).index t (1 : Fin 2) = 0 := congrFun (place t) 1
  blk_ext [iblk, e0, e1, brow]
  · exact congrArg (· * 128 + i.val) e0
  · exact (congrArg (· * 1536 + j.val) e1).trans (by simp)

theorem blk1 (t : Fin grid0.N) (i : Fin 128) (j : Fin 1536) : gb m c t (ix2 i j) = ga m c (ix2 (hrow t i) j) := by
  rw [ga, ← V_main_arg2 m c]
  have e0 : (pcfg0.win (adm m (ok m)) 1).index t (0 : Fin 2) = t.val % 4 := congrFun (half_place t) 0
  have e1 : (pcfg0.win (adm m (ok m)) 1).index t (1 : Fin 2) = 0 := congrFun (half_place t) 1
  blk_ext [iblk, e0, e1, hrow]
  · exact congrArg (· * 128 + i.val) e0
  · exact (congrArg (· * 1536 + j.val) e1).trans (by simp)

theorem blk2 (t : Fin grid0.N) (i : Fin 128) (j : Fin 1536) : hb m c t (ix2 i j) = ha m c (ix2 (hrow t i) j) := by
  rw [ha, ← V_main_arg3 m c]
  have e0 : (pcfg0.win (adm m (ok m)) 2).index t (0 : Fin 2) = t.val % 4 := congrFun (half_place t) 0
  have e1 : (pcfg0.win (adm m (ok m)) 2).index t (1 : Fin 2) = 0 := congrFun (half_place t) 1
  blk_ext [iblk, e0, e1, hrow]
  · exact congrArg (· * 128 + i.val) e0
  · exact (congrArg (· * 1536 + j.val) e1).trans (by simp)

theorem blk3 (t : Fin grid0.N) (i : Fin 128) (j : Fin 1536) : mb m c t (ix2 i j) = ma m c (ix2 (brow t i) j) := by
  rw [ma, ← V_main_arg4 m c]
  have e0 : (pcfg0.win (adm m (ok m)) 3).index t (0 : Fin 2) = t.val := congrFun (place t) 0
  have e1 : (pcfg0.win (adm m (ok m)) 3).index t (1 : Fin 2) = 0 := congrFun (place t) 1
  blk_ext [iblk, e0, e1, brow]
  · exact congrArg (· * 128 + i.val) e0
  · exact (congrArg (· * 1536 + j.val) e1).trans (by simp)

theorem blk4 (t : Fin grid0.N) (i : Fin 128) (j : Fin 1536) : vb m c t (ix2 i j) = va m c (ix2 (brow t i) j) := by
  rw [va, ← V_main_arg5 m c]
  have e0 : (pcfg0.win (adm m (ok m)) 4).index t (0 : Fin 2) = t.val := congrFun (place t) 0
  have e1 : (pcfg0.win (adm m (ok m)) 4).index t (1 : Fin 2) = 0 := congrFun (place t) 1
  blk_ext [iblk, e0, e1, brow]
  · exact congrArg (· * 128 + i.val) e0
  · exact (congrArg (· * 1536 + j.val) e1).trans (by simp)

/-! ## The body -/

/-- The half of the gradient that a grid point takes: this core's where its number is the half's, else the other's. -/
theorem pay_g (i : grid0.Coords) (k : BitVec 32) (a b : Vec Ideal S128x1536 .f32) :
    k0_pay3 i k a b = if BitVec.ofNat 32 ((i 0).val / 4) = k then a else b := by
  unfold k0_pay3
  have hn : (i 0).val < 8 := (i 0).isLt
  generalize (i 0).val = n at hn ⊢
  interval_cases n
  iterate 4 exact pick 0#32 k a b
  iterate 4 exact pick 1#32 k a b

/-- The first moment, the second and the update, as functions of the gradient's entry. -/
theorem pay_m (i : grid0.Coords) (k : BitVec 32) (a b u : Vec Ideal S128x1536 .f32) (y : S128x1536.Idx) :
    k0_pay4 i k a b u y = mom (k0_pay3 i k a b y) (u y) := rfl

theorem pay_v (i : grid0.Coords) (k : BitVec 32) (a b v : Vec Ideal S128x1536 .f32) (y : S128x1536.Idx) :
    k0_pay1 (k0_pay5 v) (k0_pay6 i k a b) (FloatOps.ofBits .f32 0x3A83126F#32) y = sqm (k0_pay3 i k a b y) (v y) := rfl

theorem pay_d (i : grid0.Coords) (k : BitVec 32) (w a b u v : Vec Ideal S128x1536 .f32) (y : S128x1536.Idx) :
    k0_pay2 w (k0_pay4 i k a b u) (k0_pay5 v) (k0_pay6 i k a b) (FloatOps.ofBits .f32 0x3A83126F#32) y
      = upd (w y) (k0_pay3 i k a b y) (u y) (v y) := rfl

/-- The whole gradient at the device's arguments. -/
abbrev grad : Fin 1024 → Fin 1536 → EReal := joined (by norm_num) (core m c) (ga m c) (ha m c)

/-- What a point takes is its rows of the whole gradient. -/
theorem grad_at (t : Fin grid0.N) (i : Fin 128) (j : Fin 1536) :
    k0_pay3 (grid0.coords t) (core m c) (gb m c t) (hb m c t) (ix2 i j) = grad m c (brow t i) j := by
  have ht : t.val < 8 := t.isLt
  rw [pay_g, coord, grad, joined_at (by norm_num) _ _ _ (brow t i) (hrow t i) (t.val / 4) (by simp only [brow]; omega)
    (by simp only [brow, hrow]; omega)]
  split
  · exact blk1 m c t i j
  · exact blk2 m c t i j

/-- What the body leaves in its four outputs, of blocks as they are read and of the word as it is read. -/
theorem g_body (t : Fin grid0.N) (i : Fin 128) (j : Fin 1536) (k : BitVec 32) (hk : k = core m c)
    (a b : Vec Ideal S128x1536 .f32) (ea : a = gb m c t) (eb : b = hb m c t) :
    k0_pay3 (grid0.coords t) k a b (ix2 i j) = grad m c (brow t i) j := by
  subst hk ea eb
  exact grad_at m c t i j

theorem m_body (t : Fin grid0.N) (i : Fin 128) (j : Fin 1536) (k : BitVec 32) (hk : k = core m c)
    (a b u : Vec Ideal S128x1536 .f32) (ea : a = gb m c t) (eb : b = hb m c t) (eu : u = mb m c t) :
    k0_pay4 (grid0.coords t) k a b u (ix2 i j) = mom (grad m c (brow t i) j) (ma m c (ix2 (brow t i) j)) := by
  subst hk ea eb eu
  rw [pay_m, grad_at, blk3]

theorem v_body (t : Fin grid0.N) (i : Fin 128) (j : Fin 1536) (k : BitVec 32) (hk : k = core m c)
    (a b v : Vec Ideal S128x1536 .f32) (ea : a = gb m c t) (eb : b = hb m c t) (ev : v = vb m c t) :
    k0_pay1 (k0_pay5 v) (k0_pay6 (grid0.coords t) k a b) (FloatOps.ofBits .f32 0x3A83126F#32) (ix2 i j)
      = sqm (grad m c (brow t i) j) (va m c (ix2 (brow t i) j)) := by
  subst hk ea eb ev
  rw [pay_v, grad_at, blk4]

theorem d_body (t : Fin grid0.N) (i : Fin 128) (j : Fin 1536) (k : BitVec 32) (hk : k = core m c)
    (w a b u v : Vec Ideal S128x1536 .f32) (ew : w = wb m c t) (ea : a = gb m c t) (eb : b = hb m c t)
    (eu : u = mb m c t) (ev : v = vb m c t) :
    k0_pay2 w (k0_pay4 (grid0.coords t) k a b u) (k0_pay5 v) (k0_pay6 (grid0.coords t) k a b)
        (FloatOps.ofBits .f32 0x3A83126F#32) (ix2 i j)
      = upd (wa m c (ix2 (brow t i) j)) (grad m c (brow t i) j) (ma m c (ix2 (brow t i) j)) (va m c (ix2 (brow t i) j)) := by
  subst hk ew ea eb eu ev
  rw [pay_d, grad_at, blk0, blk3, blk4]

/-- What a point leaves in its block of the gradient, of the first moment, of the second, and of the update. -/
theorem g_out (t : Fin grid0.N) (i : Fin 128) (j : Fin 1536) :
    (outsAt0 m (ok m) c t).1 (ix2 i j) = grad m c (brow t i) j := by
  obtain rfl : c = 0 := Subsingleton.elim _ _
  unfold outsAt0
  frame_out
  refine g_body m 0 t i j _ ?_ _ _ ((hs0_1 m (ok m) t).read_unread _) ((hs0_2 m (ok m) t).read_unread _)
  exact word m _

theorem m_out (t : Fin grid0.N) (i : Fin 128) (j : Fin 1536) :
    (outsAt0 m (ok m) c t).2.2.1 (ix2 i j) = mom (grad m c (brow t i) j) (ma m c (ix2 (brow t i) j)) := by
  obtain rfl : c = 0 := Subsingleton.elim _ _
  unfold outsAt0
  frame_out
  refine m_body m 0 t i j _ ?_ _ _ _ ((hs0_1 m (ok m) t).read_unread _) ((hs0_2 m (ok m) t).read_unread _)
    ((hs0_3 m (ok m) t).read_unread _)
  exact word m _

theorem v_out (t : Fin grid0.N) (i : Fin 128) (j : Fin 1536) :
    (outsAt0 m (ok m) c t).2.2.2 (ix2 i j) = sqm (grad m c (brow t i) j) (va m c (ix2 (brow t i) j)) := by
  obtain rfl : c = 0 := Subsingleton.elim _ _
  unfold outsAt0
  frame_out
  refine v_body m 0 t i j _ ?_ _ _ _ ((hs0_1 m (ok m) t).read_unread _) ((hs0_2 m (ok m) t).read_unread _)
    ((hs0_4 m (ok m) t).read_unread _)
  exact word m _

theorem d_out (t : Fin grid0.N) (i : Fin 128) (j : Fin 1536) :
    (outsAt0 m (ok m) c t).2.1 (ix2 i j) = upd (wa m c (ix2 (brow t i) j)) (grad m c (brow t i) j)
      (ma m c (ix2 (brow t i) j)) (va m c (ix2 (brow t i) j)) := by
  obtain rfl : c = 0 := Subsingleton.elim _ _
  unfold outsAt0
  frame_out
  refine d_body m 0 t i j _ ?_ _ _ _ _ _ ((hs0_0 m (ok m) t).read_unread _) ((hs0_1 m (ok m) t).read_unread _)
    ((hs0_2 m (ok m) t).read_unread _) ((hs0_3 m (ok m) t).read_unread _) ((hs0_4 m (ok m) t).read_unread _)
  exact word m _

/-! ## The arrays -/

/-- Each block of rows is one point's. -/
theorem surj : ∀ β : (a : Fin S1024x1536.rank) → Fin ((S1024x1536.size a + S128x1536.size a - 1) / S128x1536.size a),
    ∃ t : Fin grid0.N, ∀ a, cc0_transform_0 (grid0.coords t) a = β a := by decide +kernel

theorem size_pos : ∀ a, 0 < S128x1536.size a := by decide

/-- An index of a block. -/
theorem idx (y : S128x1536.Idx) : ∃ (i : Fin 128) (j : Fin 1536), y = ix2 i j :=
  ⟨y 0, y 1, by funext b; fin_cases b <;> rfl⟩

/-- The call's four results, at the device's arguments. -/
abbrev gv : FVec Ideal S1024x1536 .f32 := gAll (by norm_num) (core m c) (ga m c) (ha m c)
abbrev dv : FVec Ideal S1024x1536 .f32 := dAll (by norm_num) (core m c) (wa m c) (ga m c) (ha m c) (ma m c) (va m c)
abbrev mv : FVec Ideal S1024x1536 .f32 := mAll (by norm_num) (core m c) (ga m c) (ha m c) (ma m c)
abbrev vv : FVec Ideal S1024x1536 .f32 := vAll (by norm_num) (core m c) (ga m c) (ha m c) (va m c)

/-- They are its four arrays. -/
theorem arr_g : (dats m (ok m) 0 c).arrAt 5 grid0.N = gv m c := by
  refine (dats m (ok m) 0 c).arrAt_eq_of_covers 5 _ (Pipeline.Window.covers_of_index_surj _ rfl size_pos surj) fun t hf y => ?_
  obtain ⟨i, j, rfl⟩ := idx y
  have e0 : (pcfg0.win (adm m (ok m)) 5).index t (0 : Fin 2) = t.val := congrFun (place t) 0
  have e1 : (pcfg0.win (adm m (ok m)) 5).index t (1 : Fin 2) = 0 := congrFun (place t) 1
  have hx : (((cfgM m (ok m)).win 5).blk t).view.emb (ix2 i j) = ix2 (brow t i) j := by
    blk_ext [e0, e1]
    · exact congrArg (· * 128 + i.val) e0
    · exact (congrArg (· * 1536 + j.val) e1).trans (by simp)
  refine Eq.trans ?_ (congrArg (gv m c) hx.symm)
  blk_simp
  rw [after0_5]
  exact g_out m c t i j

theorem arr_d : (dats m (ok m) 0 c).arrAt 6 grid0.N = dv m c := by
  refine (dats m (ok m) 0 c).arrAt_eq_of_covers 6 _ (Pipeline.Window.covers_of_index_surj _ rfl size_pos surj) fun t hf y => ?_
  obtain ⟨i, j, rfl⟩ := idx y
  have e0 : (pcfg0.win (adm m (ok m)) 6).index t (0 : Fin 2) = t.val := congrFun (place t) 0
  have e1 : (pcfg0.win (adm m (ok m)) 6).index t (1 : Fin 2) = 0 := congrFun (place t) 1
  have hx : (((cfgM m (ok m)).win 6).blk t).view.emb (ix2 i j) = ix2 (brow t i) j := by
    blk_ext [e0, e1]
    · exact congrArg (· * 128 + i.val) e0
    · exact (congrArg (· * 1536 + j.val) e1).trans (by simp)
  refine Eq.trans ?_ (congrArg (dv m c) hx.symm)
  blk_simp
  rw [after0_6]
  exact d_out m c t i j

theorem arr_m : (dats m (ok m) 0 c).arrAt 7 grid0.N = mv m c := by
  refine (dats m (ok m) 0 c).arrAt_eq_of_covers 7 _ (Pipeline.Window.covers_of_index_surj _ rfl size_pos surj) fun t hf y => ?_
  obtain ⟨i, j, rfl⟩ := idx y
  have e0 : (pcfg0.win (adm m (ok m)) 7).index t (0 : Fin 2) = t.val := congrFun (place t) 0
  have e1 : (pcfg0.win (adm m (ok m)) 7).index t (1 : Fin 2) = 0 := congrFun (place t) 1
  have hx : (((cfgM m (ok m)).win 7).blk t).view.emb (ix2 i j) = ix2 (brow t i) j := by
    blk_ext [e0, e1]
    · exact congrArg (· * 128 + i.val) e0
    · exact (congrArg (· * 1536 + j.val) e1).trans (by simp)
  refine Eq.trans ?_ (congrArg (mv m c) hx.symm)
  blk_simp
  rw [after0_7]
  exact m_out m c t i j

theorem arr_v : (dats m (ok m) 0 c).arrAt 8 grid0.N = vv m c := by
  refine (dats m (ok m) 0 c).arrAt_eq_of_covers 8 _ (Pipeline.Window.covers_of_index_surj _ rfl size_pos surj) fun t hf y => ?_
  obtain ⟨i, j, rfl⟩ := idx y
  have e0 : (pcfg0.win (adm m (ok m)) 8).index t (0 : Fin 2) = t.val := congrFun (place t) 0
  have e1 : (pcfg0.win (adm m (ok m)) 8).index t (1 : Fin 2) = 0 := congrFun (place t) 1
  have hx : (((cfgM m (ok m)).win 8).blk t).view.emb (ix2 i j) = ix2 (brow t i) j := by
    blk_ext [e0, e1]
    · exact congrArg (· * 128 + i.val) e0
    · exact (congrArg (· * 1536 + j.val) e1).trans (by simp)
  refine Eq.trans ?_ (congrArg (vv m c) hx.symm)
  blk_simp
  rw [after0_8]
  exact v_out m c t i j

/-! ## The reference -/

section
open Cert.UpHalvesReferenceIdeal.Read
variable (x0 : IVec S1 32) (w : FVec Ideal S1024x1536 .f32) (a b : FVec Ideal S512x1536 .f32) (u v : FVec Ideal S1024x1536 .f32)

/-- Its four results are the call's, at its arguments. -/
theorem res_g : val_main_v6 (F := Ideal) x0 a b = gAll (by norm_num) (x0 (ix1 0)) a b :=
  joined_pair (by norm_num) (x0 (ix1 0)) a b rfl _ _
    (fun z => half_of (val_main_v0 (F := Ideal) x0 (fun i => i.elim0)) _ 0#32 (congrArg x0 (Cert.Halves.one _)) (a z) (b z))
    (fun z => half_of (val_main_v3 (F := Ideal) x0 (fun i => i.elim0)) _ 1#32 (congrArg x0 (Cert.Halves.one _)) (a z) (b z)) _

theorem res_m : val_main_v11 (F := Ideal) x0 a b u = mAll (by norm_num) (x0 (ix1 0)) a b u := by
  funext y
  exact Eq.trans (b := mom (val_main_v6 (F := Ideal) x0 a b y) (u y)) rfl (congrArg (mom · (u y)) (congrFun (res_g x0 a b) y))

theorem res_v : val_main_v17 (F := Ideal) x0 a b v = vAll (by norm_num) (x0 (ix1 0)) a b v := by
  funext y
  exact Eq.trans (b := sqm (val_main_v6 (F := Ideal) x0 a b y) (v y)) rfl (congrArg (sqm · (v y)) (congrFun (res_g x0 a b) y))

theorem res_d : val_main_v30 (F := Ideal) x0 w a b u v = dAll (by norm_num) (x0 (ix1 0)) w a b u v := by
  funext y
  refine Eq.trans (b := byDiv (val_main_v11 (F := Ideal) x0 a b u y) (val_main_v17 (F := Ideal) x0 a b v y) (w y)) rfl ?_
  rw [res_m, res_v]
  exact byDiv_eq _ _ _ _

end

/-! ## The claims -/

/-- The two named constants of the idealized call are the reciprocals of the reference's divisors. -/
theorem named : Cert.preserves_UpHalvesKernel_UpHalvesKernelIdeal :=
  ⟨IdealRules.named_const.statement Cert.UpHalvesKernelIdeal.κ _ _ _ _ rfl,
    IdealRules.named_const.statement Cert.UpHalvesKernelIdeal.κ _ _ _ _ rfl⟩

/-- The call as printed, and idealized: it ends with its arguments as they were, whatever the core's number. -/
theorem frame_k : Cert.quiescent_UpHalvesKernel := fun m ρ _ =>
  Cert.UpHalvesKernel.Gen.frame m ρ (by unfold Cert.UpHalvesKernel.Gen.Ok Cert.UpHalvesKernel.ok0; trivial)

theorem frame_ki : Cert.quiescent_UpHalvesKernelIdeal := fun m ρ _ => frame m ρ (ok m)

/-- The reference is host operations alone: it ends with its arguments as they were and every counter at zero. -/
theorem frame_ri : Cert.quiescent_UpHalvesReferenceIdeal := fun m ρ _ =>
  (θ_run Cert.UpHalvesReferenceIdeal.defs _ _).mono
    (fun r h => ⟨fun c => (h c).2.2.2.2, sem_eq_zero_of_no_sems (by decide) r.2⟩)
    (Cert.UpHalvesReferenceIdeal.Value.run (F := Ideal) m ρ)

/-- From equal arguments the call's four arrays and the reference's four results are the same: the whole gradient, the
    update and the two moments. -/
theorem equal : Cert.algebraic_UpHalvesKernelIdeal_UpHalvesReferenceIdeal := by
  intro m ρ m' ρ' _ hargs
  refine ⟨fun c => gv m c, fun c => dv m c, fun c => mv m c, fun c => vv m c, ?_, ?_⟩
  · refine (θ_run Cert.UpHalvesKernelIdeal.defs _ _).mono (fun r h c => ?_) (run_main (F := Ideal) m ρ (ok m))
    have k (n : Fin 9) (hn : ((cfgM m (ok m)).win n).isOut = false) :=
      ((h c).1 n).trans (((dats m (ok m) 0 c).arrAt_in n hn _).trans (A_eq m (ok m) c n))
    exact ⟨((h c).1 5).trans (arr_g m c), ((h c).1 6).trans (arr_d m c), ((h c).1 7).trans (arr_m m c), ((h c).1 8).trans (arr_v m c),
      ((h c).2 main_arg0 (by decide : main_arg0 ∈ Pipeline.restRefs sig spec0)).trans (V_main_arg0 m c),
      (k 0 rfl).trans (V_main_arg1 m c), (k 1 rfl).trans (V_main_arg2 m c), (k 2 rfl).trans (V_main_arg3 m c),
      (k 3 rfl).trans (V_main_arg4 m c), (k 4 rfl).trans (V_main_arg5 m c)⟩
  · refine (θ_run Cert.UpHalvesReferenceIdeal.defs _ _).mono (fun r h c => ?_)
      (Cert.UpHalvesReferenceIdeal.Value.run (F := Ideal) m' ρ')
    obtain ⟨e0, e1, e2, e3, k⟩ := h c
    obtain ⟨a0, a1, a2, a3, a4, a5⟩ := hargs c
    refine ⟨(e0.trans (Cert.UpHalvesReferenceIdeal.Read.val_main_v6_eq _ _ _)).trans ((res_g _ _ _).trans ?_),
      (e1.trans (Cert.UpHalvesReferenceIdeal.Read.val_main_v30_eq _ _ _ _ _ _)).trans ((res_d _ _ _ _ _ _).trans ?_),
      (e2.trans (Cert.UpHalvesReferenceIdeal.Read.val_main_v11_eq _ _ _ _)).trans ((res_m _ _ _ _).trans ?_),
      (e3.trans (Cert.UpHalvesReferenceIdeal.Read.val_main_v17_eq _ _ _ _)).trans ((res_v _ _ _ _).trans ?_), k⟩
    · rw [a0, a2, a3]
    · rw [a0, a1, a2, a3, a4, a5]
    · rw [a0, a2, a3, a4]
    · rw [a0, a2, a3, a5]

end Cert.UpHalves

end
-- ==== Proof.InHalves.lean ====
/- The optimiser's call for the shard of `w_in`, 1024 rows of 1792: eight points, four to a half. -/
module

public import proofs.«01_k».proof.Proof.Gen.InHalvesKernel.Frame
public import proofs.«01_k».proof.Proof.Gen.InHalvesKernelIdeal.Frame
public import proofs.«01_k».proof.Proof.Gen.InHalvesReferenceIdeal.Read
public import Idealize.ShloMosaic.Lib.Pipeline.Covers
public import proofs.«01_k».proof.Proof.HalvesShape

@[expose] public section

set_option maxRecDepth 16384

noncomputable section

namespace Cert.InHalves

open Idealize.ShloMosaic Idealize.ShloMosaic.TcCoe Idealize.SL.Sem Cert.InHalvesKernelIdeal Cert.InHalvesKernelIdeal.Gen
open Cert.Halves (mom sqm upd pick joined gAll dAll mAll vAll joined_at joined_pair byDiv byDiv_eq half_of)

variable (m : (ℓ : Loc nD τ sig) → Buf (Elt Ideal) ℓ) (c : Dev nD)

/-- The arguments on a device: the core's number, the parameter, the two halves of its gradient, and the two moments. -/
abbrev ka : IVec S1 32 := m (c, Proc.tc.devRef main_arg0)
abbrev wa : FVec Ideal S1024x1792 .f32 := m (c, Proc.tc.devRef main_arg1)
abbrev ga : FVec Ideal S512x1792 .f32 := m (c, Proc.tc.devRef main_arg2)
abbrev ha : FVec Ideal S512x1792 .f32 := m (c, Proc.tc.devRef main_arg3)
abbrev ma : FVec Ideal S1024x1792 .f32 := m (c, Proc.tc.devRef main_arg4)
abbrev va : FVec Ideal S1024x1792 .f32 := m (c, Proc.tc.devRef main_arg5)

/-- The core's number. -/
abbrev core : BitVec 32 := ka m c (ix1 0)

/-- What the table of one word holds at its one index is the core's number. -/
theorem word (x : S1.Idx) : ka m 0 x = core m 0 := congrArg (ka m 0) (Cert.Halves.one x)

/-- No window's place depends on the core's number. -/
theorem ok : Ok m := by
  unfold Ok ok0
  trivial

/-! ## The windows -/

/-- The row of the parameter, and of a half, that a point's row `f` is. -/
def brow (t : Fin grid0.N) (f : Fin 128) : Fin 1024 := ⟨t.val * 128 + f.val, by have h : t.val < 8 := t.isLt; omega⟩
def hrow (t : Fin grid0.N) (f : Fin 128) : Fin 512 := ⟨t.val % 4 * 128 + f.val, by omega⟩

/-- The windows by their shapes. -/
abbrev wb (t : Fin grid0.N) : Vec Ideal S128x1792 .f32 := iblk m (ok m) c 0 t
abbrev gb (t : Fin grid0.N) : Vec Ideal S128x1792 .f32 := iblk m (ok m) c 1 t
abbrev hb (t : Fin grid0.N) : Vec Ideal S128x1792 .f32 := iblk m (ok m) c 2 t
abbrev mb (t : Fin grid0.N) : Vec Ideal S128x1792 .f32 := iblk m (ok m) c 3 t
abbrev vb (t : Fin grid0.N) : Vec Ideal S128x1792 .f32 := iblk m (ok m) c 4 t

/-- The point's coordinate is its number; the windows' places are its block of rows, and its place in the half. -/
theorem coord (t : Fin grid0.N) : (grid0.coords t 0).val = t.val := by decide +revert
theorem place (t : Fin grid0.N) : cc0_transform_0 (grid0.coords t) = ![t.val, 0] := by decide +revert
theorem half_place (t : Fin grid0.N) : cc0_transform_1 (grid0.coords t) = ![t.val % 4, 0] := by decide +revert

/-- The windows at a point. -/
theorem blk0 (t : Fin grid0.N) (i : Fin 128) (j : Fin 1792) : wb m c t (ix2 i j) = wa m c (ix2 (brow t i) j) := by
  rw [wa, ← V_main_arg1 m c]
  have e0 : (pcfg0.win (adm m (ok m)) 0).index t (0 : Fin 2) = t.val := congrFun (place t) 0
  have e1 : (pcfg0.win (adm m (ok m)) 0).index t (1 : Fin 2) = 0 := congrFun (place t) 1
  blk_ext [iblk, e0, e1, brow]
  · exact congrArg (· * 128 + i.val) e0
  · exact (congrArg (· * 1792 + j.val) e1).trans (by simp)

theorem blk1 (t : Fin grid0.N) (i : Fin 128) (j : Fin 1792) : gb m c t (ix2 i j) = ga m c (ix2 (hrow t i) j) := by
  rw [ga, ← V_main_arg2 m c]
  have e0 : (pcfg0.win (adm m (ok m)) 1).index t (0 : Fin 2) = t.val % 4 := congrFun (half_place t) 0
  have e1 : (pcfg0.win (adm m (ok m)) 1).index t (1 : Fin 2) = 0 := congrFun (half_place t) 1
  blk_ext [iblk, e0, e1, hrow]
  · exact congrArg (· * 128 + i.val) e0
  · exact (congrArg (· * 1792 + j.val) e1).trans (by simp)

theorem blk2 (t : Fin grid0.N) (i : Fin 128) (j : Fin 1792) : hb m c t (ix2 i j) = ha m c (ix2 (hrow t i) j) := by
  rw [ha, ← V_main_arg3 m c]
  have e0 : (pcfg0.win (adm m (ok m)) 2).index t (0 : Fin 2) = t.val % 4 := congrFun (half_place t) 0
  have e1 : (pcfg0.win (adm m (ok m)) 2).index t (1 : Fin 2) = 0 := congrFun (half_place t) 1
  blk_ext [iblk, e0, e1, hrow]
  · exact congrArg (· * 128 + i.val) e0
  · exact (congrArg (· * 1792 + j.val) e1).trans (by simp)

theorem blk3 (t : Fin grid0.N) (i : Fin 128) (j : Fin 1792) : mb m c t (ix2 i j) = ma m c (ix2 (brow t i) j) := by
  rw [ma, ← V_main_arg4 m c]
  have e0 : (pcfg0.win (adm m (ok m)) 3).index t (0 : Fin 2) = t.val := congrFun (place t) 0
  have e1 : (pcfg0.win (adm m (ok m)) 3).index t (1 : Fin 2) = 0 := congrFun (place t) 1
  blk_ext [iblk, e0, e1, brow]
  · exact congrArg (· * 128 + i.val) e0
  · exact (congrArg (· * 1792 + j.val) e1).trans (by simp)

theorem blk4 (t : Fin grid0.N) (i : Fin 128) (j : Fin 1792) : vb m c t (ix2 i j) = va m c (ix2 (brow t i) j) := by
  rw [va, ← V_main_arg5 m c]
  have e0 : (pcfg0.win (adm m (ok m)) 4).index t (0 : Fin 2) = t.val := congrFun (place t) 0
  have e1 : (pcfg0.win (adm m (ok m)) 4).index t (1 : Fin 2) = 0 := congrFun (place t) 1
  blk_ext [iblk, e0, e1, brow]
  · exact congrArg (· * 128 + i.val) e0
  · exact (congrArg (· * 1792 + j.val) e1).trans (by simp)

/-! ## The body -/

/-- The half of the gradient that a grid point takes: this core's where its number is the half's, else the other's. -/
theorem pay_g (i : grid0.Coords) (k : BitVec 32) (a b : Vec Ideal S128x1792 .f32) :
    k0_pay3 i k a b = if BitVec.ofNat 32 ((i 0).val / 4) = k then a else b := by
  unfold k0_pay3
  have hn : (i 0).val < 8 := (i 0).isLt
  generalize (i 0).val = n at hn ⊢
  interval_cases n
  iterate 4 exact pick 0#32 k a b
  iterate 4 exact pick 1#32 k a b

/-- The first moment, the second and the update, as functions of the gradient's entry. -/
theorem pay_m (i : grid0.Coords) (k : BitVec 32) (a b u : Vec Ideal S128x1792 .f32) (y : S128x1792.Idx) :
    k0_pay4 i k a b u y = mom (k0_pay3 i k a b y) (u y) := rfl

theorem pay_v (i : grid0.Coords) (k : BitVec 32) (a b v : Vec Ideal S128x1792 .f32) (y : S128x1792.Idx) :
    k0_pay1 (k0_pay5 v) (k0_pay6 i k a b) (FloatOps.ofBits .f32 0x3A83126F#32) y = sqm (k0_pay3 i k a b y) (v y) := rfl

theorem pay_d (i : grid0.Coords) (k : BitVec 32) (w a b u v : Vec Ideal S128x1792 .f32) (y : S128x1792.Idx) :
    k0_pay2 w (k0_pay4 i k a b u) (k0_pay5 v) (k0_pay6 i k a b) (FloatOps.ofBits .f32 0x3A83126F#32) y
      = upd (w y) (k0_pay3 i k a b y) (u y) (v y) := rfl

/-- The whole gradient at the device's arguments. -/
abbrev grad : Fin 1024 → Fin 1792 → EReal := joined (by norm_num) (core m c) (ga m c) (ha m c)

/-- What a point takes is its rows of the whole gradient. -/
theorem grad_at (t : Fin grid0.N) (i : Fin 128) (j : Fin 1792) :
    k0_pay3 (grid0.coords t) (core m c) (gb m c t) (hb m c t) (ix2 i j) = grad m c (brow t i) j := by
  have ht : t.val < 8 := t.isLt
  rw [pay_g, coord, grad, joined_at (by norm_num) _ _ _ (brow t i) (hrow t i) (t.val / 4) (by simp only [brow]; omega)
    (by simp only [brow, hrow]; omega)]
  split
  · exact blk1 m c t i j
  · exact blk2 m c t i j

/-- What the body leaves in its four outputs, of blocks as they are read and of the word as it is read. -/
theorem g_body (t : Fin grid0.N) (i : Fin 128) (j : Fin 1792) (k : BitVec 32) (hk : k = core m c)
    (a b : Vec Ideal S128x1792 .f32) (ea : a = gb m c t) (eb : b = hb m c t) :
    k0_pay3 (grid0.coords t) k a b (ix2 i j) = grad m c (brow t i) j := by
  subst hk ea eb
  exact grad_at m c t i j

theorem m_body (t : Fin grid0.N) (i : Fin 128) (j : Fin 1792) (k : BitVec 32) (hk : k = core m c)
    (a b u : Vec Ideal S128x1792 .f32) (ea : a = gb m c t) (eb : b = hb m c t) (eu : u = mb m c t) :
    k0_pay4 (grid0.coords t) k a b u (ix2 i j) = mom (grad m c (brow t i) j) (ma m c (ix2 (brow t i) j)) := by
  subst hk ea eb eu
  rw [pay_m, grad_at, blk3]

theorem v_body (t : Fin grid0.N) (i : Fin 128) (j : Fin 1792) (k : BitVec 32) (hk : k = core m c)
    (a b v : Vec Ideal S128x1792 .f32) (ea : a = gb m c t) (eb : b = hb m c t) (ev : v = vb m c t) :
    k0_pay1 (k0_pay5 v) (k0_pay6 (grid0.coords t) k a b) (FloatOps.ofBits .f32 0x3A83126F#32) (ix2 i j)
      = sqm (grad m c (brow t i) j) (va m c (ix2 (brow t i) j)) := by
  subst hk ea eb ev
  rw [pay_v, grad_at, blk4]

theorem d_body (t : Fin grid0.N) (i : Fin 128) (j : Fin 1792) (k : BitVec 32) (hk : k = core m c)
    (w a b u v : Vec Ideal S128x1792 .f32) (ew : w = wb m c t) (ea : a = gb m c t) (eb : b = hb m c t)
    (eu : u = mb m c t) (ev : v = vb m c t) :
    k0_pay2 w (k0_pay4 (grid0.coords t) k a b u) (k0_pay5 v) (k0_pay6 (grid0.coords t) k a b)
        (FloatOps.ofBits .f32 0x3A83126F#32) (ix2 i j)
      = upd (wa m c (ix2 (brow t i) j)) (grad m c (brow t i) j) (ma m c (ix2 (brow t i) j)) (va m c (ix2 (brow t i) j)) := by
  subst hk ew ea eb eu ev
  rw [pay_d, grad_at, blk0, blk3, blk4]

/-- What a point leaves in its block of the gradient, of the first moment, of the second, and of the update. -/
theorem g_out (t : Fin grid0.N) (i : Fin 128) (j : Fin 1792) :
    (outsAt0 m (ok m) c t).1 (ix2 i j) = grad m c (brow t i) j := by
  obtain rfl : c = 0 := Subsingleton.elim _ _
  unfold outsAt0
  frame_out
  refine g_body m 0 t i j _ ?_ _ _ ((hs0_1 m (ok m) t).read_unread _) ((hs0_2 m (ok m) t).read_unread _)
  exact word m _

theorem m_out (t : Fin grid0.N) (i : Fin 128) (j : Fin 1792) :
    (outsAt0 m (ok m) c t).2.2.1 (ix2 i j) = mom (grad m c (brow t i) j) (ma m c (ix2 (brow t i) j)) := by
  obtain rfl : c = 0 := Subsingleton.elim _ _
  unfold outsAt0
  frame_out
  refine m_body m 0 t i j _ ?_ _ _ _ ((hs0_1 m (ok m) t).read_unread _) ((hs0_2 m (ok m) t).read_unread _)
    ((hs0_3 m (ok m) t).read_unread _)
  exact word m _

theorem v_out (t : Fin grid0.N) (i : Fin 128) (j : Fin 1792) :
    (outsAt0 m (ok m) c t).2.2.2 (ix2 i j) = sqm (grad m c (brow t i) j) (va m c (ix2 (brow t i) j)) := by
  obtain rfl : c = 0 := Subsingleton.elim _ _
  unfold outsAt0
  frame_out
  refine v_body m 0 t i j _ ?_ _ _ _ ((hs0_1 m (ok m) t).read_unread _) ((hs0_2 m (ok m) t).read_unread _)
    ((hs0_4 m (ok m) t).read_unread _)
  exact word m _

theorem d_out (t : Fin grid0.N) (i : Fin 128) (j : Fin 1792) :
    (outsAt0 m (ok m) c t).2.1 (ix2 i j) = upd (wa m c (ix2 (brow t i) j)) (grad m c (brow t i) j)
      (ma m c (ix2 (brow t i) j)) (va m c (ix2 (brow t i) j)) := by
  obtain rfl : c = 0 := Subsingleton.elim _ _
  unfold outsAt0
  frame_out
  refine d_body m 0 t i j _ ?_ _ _ _ _ _ ((hs0_0 m (ok m) t).read_unread _) ((hs0_1 m (ok m) t).read_unread _)
    ((hs0_2 m (ok m) t).read_unread _) ((hs0_3 m (ok m) t).read_unread _) ((hs0_4 m (ok m) t).read_unread _)
  exact word m _

/-! ## The arrays -/

/-- Each block of rows is one point's. -/
theorem surj : ∀ β : (a : Fin S1024x1792.rank) → Fin ((S1024x1792.size a + S128x1792.size a - 1) / S128x1792.size a),
    ∃ t : Fin grid0.N, ∀ a, cc0_transform_0 (grid0.coords t) a = β a := by decide +kernel

theorem size_pos : ∀ a, 0 < S128x1792.size a := by decide

/-- An index of a block. -/
theorem idx (y : S128x1792.Idx) : ∃ (i : Fin 128) (j : Fin 1792), y = ix2 i j :=
  ⟨y 0, y 1, by funext b; fin_cases b <;> rfl⟩

/-- The call's four results, at the device's arguments. -/
abbrev gv : FVec Ideal S1024x1792 .f32 := gAll (by norm_num) (core m c) (ga m c) (ha m c)
abbrev dv : FVec Ideal S1024x1792 .f32 := dAll (by norm_num) (core m c) (wa m c) (ga m c) (ha m c) (ma m c) (va m c)
abbrev mv : FVec Ideal S1024x1792 .f32 := mAll (by norm_num) (core m c) (ga m c) (ha m c) (ma m c)
abbrev vv : FVec Ideal S1024x1792 .f32 := vAll (by norm_num) (core m c) (ga m c) (ha m c) (va m c)

/-- They are its four arrays. -/
theorem arr_g : (dats m (ok m) 0 c).arrAt 5 grid0.N = gv m c := by
  refine (dats m (ok m) 0 c).arrAt_eq_of_covers 5 _ (Pipeline.Window.covers_of_index_surj _ rfl size_pos surj) fun t hf y => ?_
  obtain ⟨i, j, rfl⟩ := idx y
  have e0 : (pcfg0.win (adm m (ok m)) 5).index t (0 : Fin 2) = t.val := congrFun (place t) 0
  have e1 : (pcfg0.win (adm m (ok m)) 5).index t (1 : Fin 2) = 0 := congrFun (place t) 1
  have hx : (((cfgM m (ok m)).win 5).blk t).view.emb (ix2 i j) = ix2 (brow t i) j := by
    blk_ext [e0, e1]
    · exact congrArg (· * 128 + i.val) e0
    · exact (congrArg (· * 1792 + j.val) e1).trans (by simp)
  refine Eq.trans ?_ (congrArg (gv m c) hx.symm)
  blk_simp
  rw [after0_5]
  exact g_out m c t i j

theorem arr_d : (dats m (ok m) 0 c).arrAt 6 grid0.N = dv m c := by
  refine (dats m (ok m) 0 c).arrAt_eq_of_covers 6 _ (Pipeline.Window.covers_of_index_surj _ rfl size_pos surj) fun t hf y => ?_
  obtain ⟨i, j, rfl⟩ := idx y
  have e0 : (pcfg0.win (adm m (ok m)) 6).index t (0 : Fin 2) = t.val := congrFun (place t) 0
  have e1 : (pcfg0.win (adm m (ok m)) 6).index t (1 : Fin 2) = 0 := congrFun (place t) 1
  have hx : (((cfgM m (ok m)).win 6).blk t).view.emb (ix2 i j) = ix2 (brow t i) j := by
    blk_ext [e0, e1]
    · exact congrArg (· * 128 + i.val) e0
    · exact (congrArg (· * 1792 + j.val) e1).trans (by simp)
  refine Eq.trans ?_ (congrArg (dv m c) hx.symm)
  blk_simp
  rw [after0_6]
  exact d_out m c t i j

theorem arr_m : (dats m (ok m) 0 c).arrAt 7 grid0.N = mv m c := by
  refine (dats m (ok m) 0 c).arrAt_eq_of_covers 7 _ (Pipeline.Window.covers_of_index_surj _ rfl size_pos surj) fun t hf y => ?_
  obtain ⟨i, j, rfl⟩ := idx y
  have e0 : (pcfg0.win (adm m (ok m)) 7).index t (0 : Fin 2) = t.val := congrFun (place t) 0
  have e1 : (pcfg0.win (adm m (ok m)) 7).index t (1 : Fin 2) = 0 := congrFun (place t) 1
  have hx : (((cfgM m (ok m)).win 7).blk t).view.emb (ix2 i j) = ix2 (brow t i) j := by
    blk_ext [e0, e1]
    · exact congrArg (· * 128 + i.val) e0
    · exact (congrArg (· * 1792 + j.val) e1).trans (by simp)
  refine Eq.trans ?_ (congrArg (mv m c) hx.symm)
  blk_simp
  rw [after0_7]
  exact m_out m c t i j

theorem arr_v : (dats m (ok m) 0 c).arrAt 8 grid0.N = vv m c := by
  refine (dats m (ok m) 0 c).arrAt_eq_of_covers 8 _ (Pipeline.Window.covers_of_index_surj _ rfl size_pos surj) fun t hf y => ?_
  obtain ⟨i, j, rfl⟩ := idx y
  have e0 : (pcfg0.win (adm m (ok m)) 8).index t (0 : Fin 2) = t.val := congrFun (place t) 0
  have e1 : (pcfg0.win (adm m (ok m)) 8).index t (1 : Fin 2) = 0 := congrFun (place t) 1
  have hx : (((cfgM m (ok m)).win 8).blk t).view.emb (ix2 i j) = ix2 (brow t i) j := by
    blk_ext [e0, e1]
    · exact congrArg (· * 128 + i.val) e0
    · exact (congrArg (· * 1792 + j.val) e1).trans (by simp)
  refine Eq.trans ?_ (congrArg (vv m c) hx.symm)
  blk_simp
  rw [after0_8]
  exact v_out m c t i j

/-! ## The reference -/

section
open Cert.InHalvesReferenceIdeal.Read
variable (x0 : IVec S1 32) (w : FVec Ideal S1024x1792 .f32) (a b : FVec Ideal S512x1792 .f32) (u v : FVec Ideal S1024x1792 .f32)

/-- Its four results are the call's, at its arguments. -/
theorem res_g : val_main_v6 (F := Ideal) x0 a b = gAll (by norm_num) (x0 (ix1 0)) a b :=
  joined_pair (by norm_num) (x0 (ix1 0)) a b rfl _ _
    (fun z => half_of (val_main_v0 (F := Ideal) x0 (fun i => i.elim0)) _ 0#32 (congrArg x0 (Cert.Halves.one _)) (a z) (b z))
    (fun z => half_of (val_main_v3 (F := Ideal) x0 (fun i => i.elim0)) _ 1#32 (congrArg x0 (Cert.Halves.one _)) (a z) (b z)) _

theorem res_m : val_main_v11 (F := Ideal) x0 a b u = mAll (by norm_num) (x0 (ix1 0)) a b u := by
  funext y
  exact Eq.trans (b := mom (val_main_v6 (F := Ideal) x0 a b y) (u y)) rfl (congrArg (mom · (u y)) (congrFun (res_g x0 a b) y))

theorem res_v : val_main_v17 (F := Ideal) x0 a b v = vAll (by norm_num) (x0 (ix1 0)) a b v := by
  funext y
  exact Eq.trans (b := sqm (val_main_v6 (F := Ideal) x0 a b y) (v y)) rfl (congrArg (sqm · (v y)) (congrFun (res_g x0 a b) y))

theorem res_d : val_main_v30 (F := Ideal) x0 w a b u v = dAll (by norm_num) (x0 (ix1 0)) w a b u v := by
  funext y
  refine Eq.trans (b := byDiv (val_main_v11 (F := Ideal) x0 a b u y) (val_main_v17 (F := Ideal) x0 a b v y) (w y)) rfl ?_
  rw [res_m, res_v]
  exact byDiv_eq _ _ _ _

end

/-! ## The claims -/

/-- The two named constants of the idealized call are the reciprocals of the reference's divisors. -/
theorem named : Cert.preserves_InHalvesKernel_InHalvesKernelIdeal :=
  ⟨IdealRules.named_const.statement Cert.InHalvesKernelIdeal.κ _ _ _ _ rfl,
    IdealRules.named_const.statement Cert.InHalvesKernelIdeal.κ _ _ _ _ rfl⟩

/-- The call as printed, and idealized: it ends with its arguments as they were, whatever the core's number. -/
theorem frame_k : Cert.quiescent_InHalvesKernel := fun m ρ _ =>
  Cert.InHalvesKernel.Gen.frame m ρ (by unfold Cert.InHalvesKernel.Gen.Ok Cert.InHalvesKernel.ok0; trivial)

theorem frame_ki : Cert.quiescent_InHalvesKernelIdeal := fun m ρ _ => frame m ρ (ok m)

/-- The reference is host operations alone: it ends with its arguments as they were and every counter at zero. -/
theorem frame_ri : Cert.quiescent_InHalvesReferenceIdeal := fun m ρ _ =>
  (θ_run Cert.InHalvesReferenceIdeal.defs _ _).mono
    (fun r h => ⟨fun c => (h c).2.2.2.2, sem_eq_zero_of_no_sems (by decide) r.2⟩)
    (Cert.InHalvesReferenceIdeal.Value.run (F := Ideal) m ρ)

/-- From equal arguments the call's four arrays and the reference's four results are the same: the whole gradient, the
    update and the two moments. -/
theorem equal : Cert.algebraic_InHalvesKernelIdeal_InHalvesReferenceIdeal := by
  intro m ρ m' ρ' _ hargs
  refine ⟨fun c => gv m c, fun c => dv m c, fun c => mv m c, fun c => vv m c, ?_, ?_⟩
  · refine (θ_run Cert.InHalvesKernelIdeal.defs _ _).mono (fun r h c => ?_) (run_main (F := Ideal) m ρ (ok m))
    have k (n : Fin 9) (hn : ((cfgM m (ok m)).win n).isOut = false) :=
      ((h c).1 n).trans (((dats m (ok m) 0 c).arrAt_in n hn _).trans (A_eq m (ok m) c n))
    exact ⟨((h c).1 5).trans (arr_g m c), ((h c).1 6).trans (arr_d m c), ((h c).1 7).trans (arr_m m c), ((h c).1 8).trans (arr_v m c),
      ((h c).2 main_arg0 (by decide : main_arg0 ∈ Pipeline.restRefs sig spec0)).trans (V_main_arg0 m c),
      (k 0 rfl).trans (V_main_arg1 m c), (k 1 rfl).trans (V_main_arg2 m c), (k 2 rfl).trans (V_main_arg3 m c),
      (k 3 rfl).trans (V_main_arg4 m c), (k 4 rfl).trans (V_main_arg5 m c)⟩
  · refine (θ_run Cert.InHalvesReferenceIdeal.defs _ _).mono (fun r h c => ?_)
      (Cert.InHalvesReferenceIdeal.Value.run (F := Ideal) m' ρ')
    obtain ⟨e0, e1, e2, e3, k⟩ := h c
    obtain ⟨a0, a1, a2, a3, a4, a5⟩ := hargs c
    refine ⟨(e0.trans (Cert.InHalvesReferenceIdeal.Read.val_main_v6_eq _ _ _)).trans ((res_g _ _ _).trans ?_),
      (e1.trans (Cert.InHalvesReferenceIdeal.Read.val_main_v30_eq _ _ _ _ _ _)).trans ((res_d _ _ _ _ _ _).trans ?_),
      (e2.trans (Cert.InHalvesReferenceIdeal.Read.val_main_v11_eq _ _ _ _)).trans ((res_m _ _ _ _).trans ?_),
      (e3.trans (Cert.InHalvesReferenceIdeal.Read.val_main_v17_eq _ _ _ _)).trans ((res_v _ _ _ _).trans ?_), k⟩
    · rw [a0, a2, a3]
    · rw [a0, a1, a2, a3, a4, a5]
    · rw [a0, a2, a3, a4]
    · rw [a0, a2, a3, a5]

end Cert.InHalves

end
-- ==== Proof.RowHalves.lean ====
/- The optimiser's call for a shard of 256 rows of 1024 (`w_conv_branch`, `w_lru_branch`, `w_out`): two points, a half each. -/
module

public import proofs.«01_k».proof.Proof.Gen.RowHalvesKernel.Frame
public import proofs.«01_k».proof.Proof.Gen.RowHalvesKernelIdeal.Frame
public import proofs.«01_k».proof.Proof.Gen.RowHalvesReferenceIdeal.Read
public import Idealize.ShloMosaic.Lib.Pipeline.Covers
public import proofs.«01_k».proof.Proof.HalvesShape

@[expose] public section

set_option maxRecDepth 16384

noncomputable section

namespace Cert.RowHalves

open Idealize.ShloMosaic Idealize.ShloMosaic.TcCoe Idealize.SL.Sem Cert.RowHalvesKernelIdeal Cert.RowHalvesKernelIdeal.Gen
open Cert.Halves (mom sqm upd pick joined gAll dAll mAll vAll joined_at joined_pair byDiv byDiv_eq half_of)

variable (m : (ℓ : Loc nD τ sig) → Buf (Elt Ideal) ℓ) (c : Dev nD)

/-- The arguments on a device: the core's number, the parameter, the two halves of its gradient, and the two moments. -/
abbrev ka : IVec S1 32 := m (c, Proc.tc.devRef main_arg0)
abbrev wa : FVec Ideal S256x1024 .f32 := m (c, Proc.tc.devRef main_arg1)
abbrev ga : FVec Ideal S128x1024 .f32 := m (c, Proc.tc.devRef main_arg2)
abbrev ha : FVec Ideal S128x1024 .f32 := m (c, Proc.tc.devRef main_arg3)
abbrev ma : FVec Ideal S256x1024 .f32 := m (c, Proc.tc.devRef main_arg4)
abbrev va : FVec Ideal S256x1024 .f32 := m (c, Proc.tc.devRef main_arg5)

/-- The core's number. -/
abbrev core : BitVec 32 := ka m c (ix1 0)

/-- What the table of one word holds at its one index is the core's number. -/
theorem word (x : S1.Idx) : ka m 0 x = core m 0 := congrArg (ka m 0) (Cert.Halves.one x)

/-- No window's place depends on the core's number. -/
theorem ok : Ok m := by
  unfold Ok ok0
  trivial

/-! ## The windows -/

/-- The row of the parameter, and of a half, that a point's row `f` is. -/
def brow (t : Fin grid0.N) (f : Fin 128) : Fin 256 := ⟨t.val * 128 + f.val, by have h : t.val < 2 := t.isLt; omega⟩
def hrow (_ : Fin grid0.N) (f : Fin 128) : Fin 128 := f

/-- The windows by their shapes. -/
abbrev wb (t : Fin grid0.N) : Vec Ideal S128x1024 .f32 := iblk m (ok m) c 0 t
abbrev gb (t : Fin grid0.N) : Vec Ideal S128x1024 .f32 := iblk m (ok m) c 1 t
abbrev hb (t : Fin grid0.N) : Vec Ideal S128x1024 .f32 := iblk m (ok m) c 2 t
abbrev mb (t : Fin grid0.N) : Vec Ideal S128x1024 .f32 := iblk m (ok m) c 3 t
abbrev vb (t : Fin grid0.N) : Vec Ideal S128x1024 .f32 := iblk m (ok m) c 4 t

/-- The point's coordinate is its number; the windows' places are its block of rows, and its place in the half. -/
theorem coord (t : Fin grid0.N) : (grid0.coords t 0).val = t.val := by decide +revert
theorem place (t : Fin grid0.N) : cc0_transform_0 (grid0.coords t) = ![t.val, 0] := by decide +revert
theorem half_place (t : Fin grid0.N) : cc0_transform_1 (grid0.coords t) = ![0, 0] := by decide +revert

/-- The windows at a point. -/
theorem blk0 (t : Fin grid0.N) (i : Fin 128) (j : Fin 1024) : wb m c t (ix2 i j) = wa m c (ix2 (brow t i) j) := by
  rw [wa, ← V_main_arg1 m c]
  have e0 : (pcfg0.win (adm m (ok m)) 0).index t (0 : Fin 2) = t.val := congrFun (place t) 0
  have e1 : (pcfg0.win (adm m (ok m)) 0).index t (1 : Fin 2) = 0 := congrFun (place t) 1
  blk_ext [iblk, e0, e1, brow]
  · exact congrArg (· * 128 + i.val) e0
  · exact (congrArg (· * 1024 + j.val) e1).trans (by simp)

theorem blk1 (t : Fin grid0.N) (i : Fin 128) (j : Fin 1024) : gb m c t (ix2 i j) = ga m c (ix2 (hrow t i) j) := by
  rw [ga, ← V_main_arg2 m c]
  have e0 : (pcfg0.win (adm m (ok m)) 1).index t (0 : Fin 2) = 0 := congrFun (half_place t) 0
  have e1 : (pcfg0.win (adm m (ok m)) 1).index t (1 : Fin 2) = 0 := congrFun (half_place t) 1
  blk_ext [iblk, e0, e1, hrow]
  · exact (congrArg (· * 128 + i.val) e0).trans (by simp)
  · exact (congrArg (· * 1024 + j.val) e1).trans (by simp)

theorem blk2 (t : Fin grid0.N) (i : Fin 128) (j : Fin 1024) : hb m c t (ix2 i j) = ha m c (ix2 (hrow t i) j) := by
  rw [ha, ← V_main_arg3 m c]
  have e0 : (pcfg0.win (adm m (ok m)) 2).index t (0 : Fin 2) = 0 := congrFun (half_place t) 0
  have e1 : (pcfg0.win (adm m (ok m)) 2).index t (1 : Fin 2) = 0 := congrFun (half_place t) 1
  blk_ext [iblk, e0, e1, hrow]
  · exact (congrArg (· * 128 + i.val) e0).trans (by simp)
  · exact (congrArg (· * 1024 + j.val) e1).trans (by simp)

theorem blk3 (t : Fin grid0.N) (i : Fin 128) (j : Fin 1024) : mb m c t (ix2 i j) = ma m c (ix2 (brow t i) j) := by
  rw [ma, ← V_main_arg4 m c]
  have e0 : (pcfg0.win (adm m (ok m)) 3).index t (0 : Fin 2) = t.val := congrFun (place t) 0
  have e1 : (pcfg0.win (adm m (ok m)) 3).index t (1 : Fin 2) = 0 := congrFun (place t) 1
  blk_ext [iblk, e0, e1, brow]
  · exact congrArg (· * 128 + i.val) e0
  · exact (congrArg (· * 1024 + j.val) e1).trans (by simp)

theorem blk4 (t : Fin grid0.N) (i : Fin 128) (j : Fin 1024) : vb m c t (ix2 i j) = va m c (ix2 (brow t i) j) := by
  rw [va, ← V_main_arg5 m c]
  have e0 : (pcfg0.win (adm m (ok m)) 4).index t (0 : Fin 2) = t.val := congrFun (place t) 0
  have e1 : (pcfg0.win (adm m (ok m)) 4).index t (1 : Fin 2) = 0 := congrFun (place t) 1
  blk_ext [iblk, e0, e1, brow]
  · exact congrArg (· * 128 + i.val) e0
  · exact (congrArg (· * 1024 + j.val) e1).trans (by simp)

/-! ## The body -/

/-- The half of the gradient that a grid point takes: this core's where its number is the half's, else the other's. -/
theorem pay_g (i : grid0.Coords) (k : BitVec 32) (a b : Vec Ideal S128x1024 .f32) :
    k0_pay3 i k a b = if BitVec.ofNat 32 (i 0).val = k then a else b := by
  unfold k0_pay3
  have hn : (i 0).val < 2 := (i 0).isLt
  generalize (i 0).val = n at hn ⊢
  interval_cases n
  · exact pick 0#32 k a b
  · exact pick 1#32 k a b

/-- The first moment, the second and the update, as functions of the gradient's entry. -/
theorem pay_m (i : grid0.Coords) (k : BitVec 32) (a b u : Vec Ideal S128x1024 .f32) (y : S128x1024.Idx) :
    k0_pay4 i k a b u y = mom (k0_pay3 i k a b y) (u y) := rfl

theorem pay_v (i : grid0.Coords) (k : BitVec 32) (a b v : Vec Ideal S128x1024 .f32) (y : S128x1024.Idx) :
    k0_pay1 (k0_pay5 v) (k0_pay6 i k a b) (FloatOps.ofBits .f32 0x3A83126F#32) y = sqm (k0_pay3 i k a b y) (v y) := rfl

theorem pay_d (i : grid0.Coords) (k : BitVec 32) (w a b u v : Vec Ideal S128x1024 .f32) (y : S128x1024.Idx) :
    k0_pay2 w (k0_pay4 i k a b u) (k0_pay5 v) (k0_pay6 i k a b) (FloatOps.ofBits .f32 0x3A83126F#32) y
      = upd (w y) (k0_pay3 i k a b y) (u y) (v y) := rfl

/-- The whole gradient at the device's arguments. -/
abbrev grad : Fin 256 → Fin 1024 → EReal := joined (by norm_num) (core m c) (ga m c) (ha m c)

/-- What a point takes is its rows of the whole gradient. -/
theorem grad_at (t : Fin grid0.N) (i : Fin 128) (j : Fin 1024) :
    k0_pay3 (grid0.coords t) (core m c) (gb m c t) (hb m c t) (ix2 i j) = grad m c (brow t i) j := by
  have ht : t.val < 2 := t.isLt
  rw [pay_g, coord, grad, joined_at (by norm_num) _ _ _ (brow t i) (hrow t i) t.val (by simp only [brow]; omega)
    (by simp only [brow, hrow]; omega)]
  split
  · exact blk1 m c t i j
  · exact blk2 m c t i j

/-- What the body leaves in its four outputs, of blocks as they are read and of the word as it is read. -/
theorem g_body (t : Fin grid0.N) (i : Fin 128) (j : Fin 1024) (k : BitVec 32) (hk : k = core m c)
    (a b : Vec Ideal S128x1024 .f32) (ea : a = gb m c t) (eb : b = hb m c t) :
    k0_pay3 (grid0.coords t) k a b (ix2 i j) = grad m c (brow t i) j := by
  subst hk ea eb
  exact grad_at m c t i j

theorem m_body (t : Fin grid0.N) (i : Fin 128) (j : Fin 1024) (k : BitVec 32) (hk : k = core m c)
    (a b u : Vec Ideal S128x1024 .f32) (ea : a = gb m c t) (eb : b = hb m c t) (eu : u = mb m c t) :
    k0_pay4 (grid0.coords t) k a b u (ix2 i j) = mom (grad m c (brow t i) j) (ma m c (ix2 (brow t i) j)) := by
  subst hk ea eb eu
  rw [pay_m, grad_at, blk3]

theorem v_body (t : Fin grid0.N) (i : Fin 128) (j : Fin 1024) (k : BitVec 32) (hk : k = core m c)
    (a b v : Vec Ideal S128x1024 .f32) (ea : a = gb m c t) (eb : b = hb m c t) (ev : v = vb m c t) :
    k0_pay1 (k0_pay5 v) (k0_pay6 (grid0.coords t) k a b) (FloatOps.ofBits .f32 0x3A83126F#32) (ix2 i j)
      = sqm (grad m c (brow t i) j) (va m c (ix2 (brow t i) j)) := by
  subst hk ea eb ev
  rw [pay_v, grad_at, blk4]

theorem d_body (t : Fin grid0.N) (i : Fin 128) (j : Fin 1024) (k : BitVec 32) (hk : k = core m c)
    (w a b u v : Vec Ideal S128x1024 .f32) (ew : w = wb m c t) (ea : a = gb m c t) (eb : b = hb m c t)
    (eu : u = mb m c t) (ev : v = vb m c t) :
    k0_pay2 w (k0_pay4 (grid0.coords t) k a b u) (k0_pay5 v) (k0_pay6 (grid0.coords t) k a b)
        (FloatOps.ofBits .f32 0x3A83126F#32) (ix2 i j)
      = upd (wa m c (ix2 (brow t i) j)) (grad m c (brow t i) j) (ma m c (ix2 (brow t i) j)) (va m c (ix2 (brow t i) j)) := by
  subst hk ew ea eb eu ev
  rw [pay_d, grad_at, blk0, blk3, blk4]

/-- What a point leaves in its block of the gradient, of the first moment, of the second, and of the update. -/
theorem g_out (t : Fin grid0.N) (i : Fin 128) (j : Fin 1024) :
    (outsAt0 m (ok m) c t).1 (ix2 i j) = grad m c (brow t i) j := by
  obtain rfl : c = 0 := Subsingleton.elim _ _
  unfold outsAt0
  frame_out
  refine g_body m 0 t i j _ ?_ _ _ ((hs0_1 m (ok m) t).read_unread _) ((hs0_2 m (ok m) t).read_unread _)
  exact word m _

theorem m_out (t : Fin grid0.N) (i : Fin 128) (j : Fin 1024) :
    (outsAt0 m (ok m) c t).2.2.1 (ix2 i j) = mom (grad m c (brow t i) j) (ma m c (ix2 (brow t i) j)) := by
  obtain rfl : c = 0 := Subsingleton.elim _ _
  unfold outsAt0
  frame_out
  refine m_body m 0 t i j _ ?_ _ _ _ ((hs0_1 m (ok m) t).read_unread _) ((hs0_2 m (ok m) t).read_unread _)
    ((hs0_3 m (ok m) t).read_unread _)
  exact word m _

theorem v_out (t : Fin grid0.N) (i : Fin 128) (j : Fin 1024) :
    (outsAt0 m (ok m) c t).2.2.2 (ix2 i j) = sqm (grad m c (brow t i) j) (va m c (ix2 (brow t i) j)) := by
  obtain rfl : c = 0 := Subsingleton.elim _ _
  unfold outsAt0
  frame_out
  refine v_body m 0 t i j _ ?_ _ _ _ ((hs0_1 m (ok m) t).read_unread _) ((hs0_2 m (ok m) t).read_unread _)
    ((hs0_4 m (ok m) t).read_unread _)
  exact word m _

theorem d_out (t : Fin grid0.N) (i : Fin 128) (j : Fin 1024) :
    (outsAt0 m (ok m) c t).2.1 (ix2 i j) = upd (wa m c (ix2 (brow t i) j)) (grad m c (brow t i) j)
      (ma m c (ix2 (brow t i) j)) (va m c (ix2 (brow t i) j)) := by
  obtain rfl : c = 0 := Subsingleton.elim _ _
  unfold outsAt0
  frame_out
  refine d_body m 0 t i j _ ?_ _ _ _ _ _ ((hs0_0 m (ok m) t).read_unread _) ((hs0_1 m (ok m) t).read_unread _)
    ((hs0_2 m (ok m) t).read_unread _) ((hs0_3 m (ok m) t).read_unread _) ((hs0_4 m (ok m) t).read_unread _)
  exact word m _

/-! ## The arrays -/

/-- Each block of rows is one point's. -/
theorem surj : ∀ β : (a : Fin S256x1024.rank) → Fin ((S256x1024.size a + S128x1024.size a - 1) / S128x1024.size a),
    ∃ t : Fin grid0.N, ∀ a, cc0_transform_0 (grid0.coords t) a = β a := by decide +kernel

theorem size_pos : ∀ a, 0 < S128x1024.size a := by decide

/-- An index of a block. -/
theorem idx (y : S128x1024.Idx) : ∃ (i : Fin 128) (j : Fin 1024), y = ix2 i j :=
  ⟨y 0, y 1, by funext b; fin_cases b <;> rfl⟩

/-- The call's four results, at the device's arguments. -/
abbrev gv : FVec Ideal S256x1024 .f32 := gAll (by norm_num) (core m c) (ga m c) (ha m c)
abbrev dv : FVec Ideal S256x1024 .f32 := dAll (by norm_num) (core m c) (wa m c) (ga m c) (ha m c) (ma m c) (va m c)
abbrev mv : FVec Ideal S256x1024 .f32 := mAll (by norm_num) (core m c) (ga m c) (ha m c) (ma m c)
abbrev vv : FVec Ideal S256x1024 .f32 := vAll (by norm_num) (core m c) (ga m c) (ha m c) (va m c)

/-- They are its four arrays. -/
theorem arr_g : (dats m (ok m) 0 c).arrAt 5 grid0.N = gv m c := by
  refine (dats m (ok m) 0 c).arrAt_eq_of_covers 5 _ (Pipeline.Window.covers_of_index_surj _ rfl size_pos surj) fun t hf y => ?_
  obtain ⟨i, j, rfl⟩ := idx y
  have e0 : (pcfg0.win (adm m (ok m)) 5).index t (0 : Fin 2) = t.val := congrFun (place t) 0
  have e1 : (pcfg0.win (adm m (ok m)) 5).index t (1 : Fin 2) = 0 := congrFun (place t) 1
  have hx : (((cfgM m (ok m)).win 5).blk t).view.emb (ix2 i j) = ix2 (brow t i) j := by
    blk_ext [e0, e1]
    · exact congrArg (· * 128 + i.val) e0
    · exact (congrArg (· * 1024 + j.val) e1).trans (by simp)
  refine Eq.trans ?_ (congrArg (gv m c) hx.symm)
  blk_simp
  rw [after0_5]
  exact g_out m c t i j

theorem arr_d : (dats m (ok m) 0 c).arrAt 6 grid0.N = dv m c := by
  refine (dats m (ok m) 0 c).arrAt_eq_of_covers 6 _ (Pipeline.Window.covers_of_index_surj _ rfl size_pos surj) fun t hf y => ?_
  obtain ⟨i, j, rfl⟩ := idx y
  have e0 : (pcfg0.win (adm m (ok m)) 6).index t (0 : Fin 2) = t.val := congrFun (place t) 0
  have e1 : (pcfg0.win (adm m (ok m)) 6).index t (1 : Fin 2) = 0 := congrFun (place t) 1
  have hx : (((cfgM m (ok m)).win 6).blk t).view.emb (ix2 i j) = ix2 (brow t i) j := by
    blk_ext [e0, e1]
    · exact congrArg (· * 128 + i.val) e0
    · exact (congrArg (· * 1024 + j.val) e1).trans (by simp)
  refine Eq.trans ?_ (congrArg (dv m c) hx.symm)
  blk_simp
  rw [after0_6]
  exact d_out m c t i j

theorem arr_m : (dats m (ok m) 0 c).arrAt 7 grid0.N = mv m c := by
  refine (dats m (ok m) 0 c).arrAt_eq_of_covers 7 _ (Pipeline.Window.covers_of_index_surj _ rfl size_pos surj) fun t hf y => ?_
  obtain ⟨i, j, rfl⟩ := idx y
  have e0 : (pcfg0.win (adm m (ok m)) 7).index t (0 : Fin 2) = t.val := congrFun (place t) 0
  have e1 : (pcfg0.win (adm m (ok m)) 7).index t (1 : Fin 2) = 0 := congrFun (place t) 1
  have hx : (((cfgM m (ok m)).win 7).blk t).view.emb (ix2 i j) = ix2 (brow t i) j := by
    blk_ext [e0, e1]
    · exact congrArg (· * 128 + i.val) e0
    · exact (congrArg (· * 1024 + j.val) e1).trans (by simp)
  refine Eq.trans ?_ (congrArg (mv m c) hx.symm)
  blk_simp
  rw [after0_7]
  exact m_out m c t i j

theorem arr_v : (dats m (ok m) 0 c).arrAt 8 grid0.N = vv m c := by
  refine (dats m (ok m) 0 c).arrAt_eq_of_covers 8 _ (Pipeline.Window.covers_of_index_surj _ rfl size_pos surj) fun t hf y => ?_
  obtain ⟨i, j, rfl⟩ := idx y
  have e0 : (pcfg0.win (adm m (ok m)) 8).index t (0 : Fin 2) = t.val := congrFun (place t) 0
  have e1 : (pcfg0.win (adm m (ok m)) 8).index t (1 : Fin 2) = 0 := congrFun (place t) 1
  have hx : (((cfgM m (ok m)).win 8).blk t).view.emb (ix2 i j) = ix2 (brow t i) j := by
    blk_ext [e0, e1]
    · exact congrArg (· * 128 + i.val) e0
    · exact (congrArg (· * 1024 + j.val) e1).trans (by simp)
  refine Eq.trans ?_ (congrArg (vv m c) hx.symm)
  blk_simp
  rw [after0_8]
  exact v_out m c t i j

/-! ## The reference -/

section
open Cert.RowHalvesReferenceIdeal.Read
variable (x0 : IVec S1 32) (w : FVec Ideal S256x1024 .f32) (a b : FVec Ideal S128x1024 .f32) (u v : FVec Ideal S256x1024 .f32)

/-- Its four results are the call's, at its arguments. -/
theorem res_g : val_main_v6 (F := Ideal) x0 a b = gAll (by norm_num) (x0 (ix1 0)) a b :=
  joined_pair (by norm_num) (x0 (ix1 0)) a b rfl _ _
    (fun z => half_of (val_main_v0 (F := Ideal) x0 (fun i => i.elim0)) _ 0#32 (congrArg x0 (Cert.Halves.one _)) (a z) (b z))
    (fun z => half_of (val_main_v3 (F := Ideal) x0 (fun i => i.elim0)) _ 1#32 (congrArg x0 (Cert.Halves.one _)) (a z) (b z)) _

theorem res_m : val_main_v11 (F := Ideal) x0 a b u = mAll (by norm_num) (x0 (ix1 0)) a b u := by
  funext y
  exact Eq.trans (b := mom (val_main_v6 (F := Ideal) x0 a b y) (u y)) rfl (congrArg (mom · (u y)) (congrFun (res_g x0 a b) y))

theorem res_v : val_main_v17 (F := Ideal) x0 a b v = vAll (by norm_num) (x0 (ix1 0)) a b v := by
  funext y
  exact Eq.trans (b := sqm (val_main_v6 (F := Ideal) x0 a b y) (v y)) rfl (congrArg (sqm · (v y)) (congrFun (res_g x0 a b) y))

theorem res_d : val_main_v30 (F := Ideal) x0 w a b u v = dAll (by norm_num) (x0 (ix1 0)) w a b u v := by
  funext y
  refine Eq.trans (b := byDiv (val_main_v11 (F := Ideal) x0 a b u y) (val_main_v17 (F := Ideal) x0 a b v y) (w y)) rfl ?_
  rw [res_m, res_v]
  exact byDiv_eq _ _ _ _

end

/-! ## The claims -/

/-- The two named constants of the idealized call are the reciprocals of the reference's divisors. -/
theorem named : Cert.preserves_RowHalvesKernel_RowHalvesKernelIdeal :=
  ⟨IdealRules.named_const.statement Cert.RowHalvesKernelIdeal.κ _ _ _ _ rfl,
    IdealRules.named_const.statement Cert.RowHalvesKernelIdeal.κ _ _ _ _ rfl⟩

/-- The call as printed, and idealized: it ends with its arguments as they were, whatever the core's number. -/
theorem frame_k : Cert.quiescent_RowHalvesKernel := fun m ρ _ =>
  Cert.RowHalvesKernel.Gen.frame m ρ (by unfold Cert.RowHalvesKernel.Gen.Ok Cert.RowHalvesKernel.ok0; trivial)

theorem frame_ki : Cert.quiescent_RowHalvesKernelIdeal := fun m ρ _ => frame m ρ (ok m)

/-- The reference is host operations alone: it ends with its arguments as they were and every counter at zero. -/
theorem frame_ri : Cert.quiescent_RowHalvesReferenceIdeal := fun m ρ _ =>
  (θ_run Cert.RowHalvesReferenceIdeal.defs _ _).mono
    (fun r h => ⟨fun c => (h c).2.2.2.2, sem_eq_zero_of_no_sems (by decide) r.2⟩)
    (Cert.RowHalvesReferenceIdeal.Value.run (F := Ideal) m ρ)

/-- From equal arguments the call's four arrays and the reference's four results are the same: the whole gradient, the
    update and the two moments. -/
theorem equal : Cert.algebraic_RowHalvesKernelIdeal_RowHalvesReferenceIdeal := by
  intro m ρ m' ρ' _ hargs
  refine ⟨fun c => gv m c, fun c => dv m c, fun c => mv m c, fun c => vv m c, ?_, ?_⟩
  · refine (θ_run Cert.RowHalvesKernelIdeal.defs _ _).mono (fun r h c => ?_) (run_main (F := Ideal) m ρ (ok m))
    have k (n : Fin 9) (hn : ((cfgM m (ok m)).win n).isOut = false) :=
      ((h c).1 n).trans (((dats m (ok m) 0 c).arrAt_in n hn _).trans (A_eq m (ok m) c n))
    exact ⟨((h c).1 5).trans (arr_g m c), ((h c).1 6).trans (arr_d m c), ((h c).1 7).trans (arr_m m c), ((h c).1 8).trans (arr_v m c),
      ((h c).2 main_arg0 (by decide : main_arg0 ∈ Pipeline.restRefs sig spec0)).trans (V_main_arg0 m c),
      (k 0 rfl).trans (V_main_arg1 m c), (k 1 rfl).trans (V_main_arg2 m c), (k 2 rfl).trans (V_main_arg3 m c),
      (k 3 rfl).trans (V_main_arg4 m c), (k 4 rfl).trans (V_main_arg5 m c)⟩
  · refine (θ_run Cert.RowHalvesReferenceIdeal.defs _ _).mono (fun r h c => ?_)
      (Cert.RowHalvesReferenceIdeal.Value.run (F := Ideal) m' ρ')
    obtain ⟨e0, e1, e2, e3, k⟩ := h c
    obtain ⟨a0, a1, a2, a3, a4, a5⟩ := hargs c
    refine ⟨(e0.trans (Cert.RowHalvesReferenceIdeal.Read.val_main_v6_eq _ _ _)).trans ((res_g _ _ _).trans ?_),
      (e1.trans (Cert.RowHalvesReferenceIdeal.Read.val_main_v30_eq _ _ _ _ _ _)).trans ((res_d _ _ _ _ _ _).trans ?_),
      (e2.trans (Cert.RowHalvesReferenceIdeal.Read.val_main_v11_eq _ _ _ _)).trans ((res_m _ _ _ _).trans ?_),
      (e3.trans (Cert.RowHalvesReferenceIdeal.Read.val_main_v17_eq _ _ _ _)).trans ((res_v _ _ _ _).trans ?_), k⟩
    · rw [a0, a2, a3]
    · rw [a0, a1, a2, a3, a4, a5]
    · rw [a0, a2, a3, a4]
    · rw [a0, a2, a3, a5]

end Cert.RowHalves

end
-- ==== Proof.SmallHalves.lean ====
/- The optimiser's call for the packed small parameters, 576 rows of 256: two points, a half each. -/
module

public import proofs.«01_k».proof.Proof.Gen.SmallHalvesKernel.Frame
public import proofs.«01_k».proof.Proof.Gen.SmallHalvesKernelIdeal.Frame
public import proofs.«01_k».proof.Proof.Gen.SmallHalvesReferenceIdeal.Read
public import Idealize.ShloMosaic.Lib.Pipeline.Covers
public import proofs.«01_k».proof.Proof.HalvesShape

@[expose] public section

set_option maxRecDepth 16384

noncomputable section

namespace Cert.SmallHalves

open Idealize.ShloMosaic Idealize.ShloMosaic.TcCoe Idealize.SL.Sem Cert.SmallHalvesKernelIdeal Cert.SmallHalvesKernelIdeal.Gen
open Cert.Halves (mom sqm upd pick joined gAll dAll mAll vAll joined_at joined_pair byDiv byDiv_eq half_of)

variable (m : (ℓ : Loc nD τ sig) → Buf (Elt Ideal) ℓ) (c : Dev nD)

/-- The arguments on a device: the core's number, the parameter, the two halves of its gradient, and the two moments. -/
abbrev ka : IVec S1 32 := m (c, Proc.tc.devRef main_arg0)
abbrev wa : FVec Ideal S576x256 .f32 := m (c, Proc.tc.devRef main_arg1)
abbrev ga : FVec Ideal S288x256 .f32 := m (c, Proc.tc.devRef main_arg2)
abbrev ha : FVec Ideal S288x256 .f32 := m (c, Proc.tc.devRef main_arg3)
abbrev ma : FVec Ideal S576x256 .f32 := m (c, Proc.tc.devRef main_arg4)
abbrev va : FVec Ideal S576x256 .f32 := m (c, Proc.tc.devRef main_arg5)

/-- The core's number. -/
abbrev core : BitVec 32 := ka m c (ix1 0)

/-- What the table of one word holds at its one index is the core's number. -/
theorem word (x : S1.Idx) : ka m 0 x = core m 0 := congrArg (ka m 0) (Cert.Halves.one x)

/-- No window's place depends on the core's number. -/
theorem ok : Ok m := by
  unfold Ok ok0
  trivial

/-! ## The windows -/

/-- The row of the parameter, and of a half, that a point's row `f` is. -/
def brow (t : Fin grid0.N) (f : Fin 288) : Fin 576 := ⟨t.val * 288 + f.val, by have h : t.val < 2 := t.isLt; omega⟩
def hrow (_ : Fin grid0.N) (f : Fin 288) : Fin 288 := f

/-- The windows by their shapes. -/
abbrev wb (t : Fin grid0.N) : Vec Ideal S288x256 .f32 := iblk m (ok m) c 0 t
abbrev gb (t : Fin grid0.N) : Vec Ideal S288x256 .f32 := iblk m (ok m) c 1 t
abbrev hb (t : Fin grid0.N) : Vec Ideal S288x256 .f32 := iblk m (ok m) c 2 t
abbrev mb (t : Fin grid0.N) : Vec Ideal S288x256 .f32 := iblk m (ok m) c 3 t
abbrev vb (t : Fin grid0.N) : Vec Ideal S288x256 .f32 := iblk m (ok m) c 4 t

/-- The point's coordinate is its number; the windows' places are its block of rows, and its place in the half. -/
theorem coord (t : Fin grid0.N) : (grid0.coords t 0).val = t.val := by decide +revert
theorem place (t : Fin grid0.N) : cc0_transform_0 (grid0.coords t) = ![t.val, 0] := by decide +revert
theorem half_place (t : Fin grid0.N) : cc0_transform_1 (grid0.coords t) = ![0, 0] := by decide +revert

/-- The windows at a point. -/
theorem blk0 (t : Fin grid0.N) (i : Fin 288) (j : Fin 256) : wb m c t (ix2 i j) = wa m c (ix2 (brow t i) j) := by
  rw [wa, ← V_main_arg1 m c]
  have e0 : (pcfg0.win (adm m (ok m)) 0).index t (0 : Fin 2) = t.val := congrFun (place t) 0
  have e1 : (pcfg0.win (adm m (ok m)) 0).index t (1 : Fin 2) = 0 := congrFun (place t) 1
  blk_ext [iblk, e0, e1, brow]
  · exact congrArg (· * 288 + i.val) e0
  · exact (congrArg (· * 256 + j.val) e1).trans (by simp)

theorem blk1 (t : Fin grid0.N) (i : Fin 288) (j : Fin 256) : gb m c t (ix2 i j) = ga m c (ix2 (hrow t i) j) := by
  rw [ga, ← V_main_arg2 m c]
  have e0 : (pcfg0.win (adm m (ok m)) 1).index t (0 : Fin 2) = 0 := congrFun (half_place t) 0
  have e1 : (pcfg0.win (adm m (ok m)) 1).index t (1 : Fin 2) = 0 := congrFun (half_place t) 1
  blk_ext [iblk, e0, e1, hrow]
  · exact (congrArg (· * 288 + i.val) e0).trans (by simp)
  · exact (congrArg (· * 256 + j.val) e1).trans (by simp)

theorem blk2 (t : Fin grid0.N) (i : Fin 288) (j : Fin 256) : hb m c t (ix2 i j) = ha m c (ix2 (hrow t i) j) := by
  rw [ha, ← V_main_arg3 m c]
  have e0 : (pcfg0.win (adm m (ok m)) 2).index t (0 : Fin 2) = 0 := congrFun (half_place t) 0
  have e1 : (pcfg0.win (adm m (ok m)) 2).index t (1 : Fin 2) = 0 := congrFun (half_place t) 1
  blk_ext [iblk, e0, e1, hrow]
  · exact (congrArg (· * 288 + i.val) e0).trans (by simp)
  · exact (congrArg (· * 256 + j.val) e1).trans (by simp)

theorem blk3 (t : Fin grid0.N) (i : Fin 288) (j : Fin 256) : mb m c t (ix2 i j) = ma m c (ix2 (brow t i) j) := by
  rw [ma, ← V_main_arg4 m c]
  have e0 : (pcfg0.win (adm m (ok m)) 3).index t (0 : Fin 2) = t.val := congrFun (place t) 0
  have e1 : (pcfg0.win (adm m (ok m)) 3).index t (1 : Fin 2) = 0 := congrFun (place t) 1
  blk_ext [iblk, e0, e1, brow]
  · exact congrArg (· * 288 + i.val) e0
  · exact (congrArg (· * 256 + j.val) e1).trans (by simp)

theorem blk4 (t : Fin grid0.N) (i : Fin 288) (j : Fin 256) : vb m c t (ix2 i j) = va m c (ix2 (brow t i) j) := by
  rw [va, ← V_main_arg5 m c]
  have e0 : (pcfg0.win (adm m (ok m)) 4).index t (0 : Fin 2) = t.val := congrFun (place t) 0
  have e1 : (pcfg0.win (adm m (ok m)) 4).index t (1 : Fin 2) = 0 := congrFun (place t) 1
  blk_ext [iblk, e0, e1, brow]
  · exact congrArg (· * 288 + i.val) e0
  · exact (congrArg (· * 256 + j.val) e1).trans (by simp)

/-! ## The body -/

/-- The half of the gradient that a grid point takes: this core's where its number is the half's, else the other's. -/
theorem pay_g (i : grid0.Coords) (k : BitVec 32) (a b : Vec Ideal S288x256 .f32) :
    k0_pay3 i k a b = if BitVec.ofNat 32 (i 0).val = k then a else b := by
  unfold k0_pay3
  have hn : (i 0).val < 2 := (i 0).isLt
  generalize (i 0).val = n at hn ⊢
  interval_cases n
  · exact pick 0#32 k a b
  · exact pick 1#32 k a b

/-- The first moment, the second and the update, as functions of the gradient's entry. -/
theorem pay_m (i : grid0.Coords) (k : BitVec 32) (a b u : Vec Ideal S288x256 .f32) (y : S288x256.Idx) :
    k0_pay4 i k a b u y = mom (k0_pay3 i k a b y) (u y) := rfl

theorem pay_v (i : grid0.Coords) (k : BitVec 32) (a b v : Vec Ideal S288x256 .f32) (y : S288x256.Idx) :
    k0_pay1 (k0_pay5 v) (k0_pay6 i k a b) (FloatOps.ofBits .f32 0x3A83126F#32) y = sqm (k0_pay3 i k a b y) (v y) := rfl

theorem pay_d (i : grid0.Coords) (k : BitVec 32) (w a b u v : Vec Ideal S288x256 .f32) (y : S288x256.Idx) :
    k0_pay2 w (k0_pay4 i k a b u) (k0_pay5 v) (k0_pay6 i k a b) (FloatOps.ofBits .f32 0x3A83126F#32) y
      = upd (w y) (k0_pay3 i k a b y) (u y) (v y) := rfl

/-- The whole gradient at the device's arguments. -/
abbrev grad : Fin 576 → Fin 256 → EReal := joined (by norm_num) (core m c) (ga m c) (ha m c)

/-- What a point takes is its rows of the whole gradient. -/
theorem grad_at (t : Fin grid0.N) (i : Fin 288) (j : Fin 256) :
    k0_pay3 (grid0.coords t) (core m c) (gb m c t) (hb m c t) (ix2 i j) = grad m c (brow t i) j := by
  have ht : t.val < 2 := t.isLt
  rw [pay_g, coord, grad, joined_at (by norm_num) _ _ _ (brow t i) (hrow t i) t.val (by simp only [brow]; omega)
    (by simp only [brow, hrow]; omega)]
  split
  · exact blk1 m c t i j
  · exact blk2 m c t i j

/-- What the body leaves in its four outputs, of blocks as they are read and of the word as it is read. -/
theorem g_body (t : Fin grid0.N) (i : Fin 288) (j : Fin 256) (k : BitVec 32) (hk : k = core m c)
    (a b : Vec Ideal S288x256 .f32) (ea : a = gb m c t) (eb : b = hb m c t) :
    k0_pay3 (grid0.coords t) k a b (ix2 i j) = grad m c (brow t i) j := by
  subst hk ea eb
  exact grad_at m c t i j

theorem m_body (t : Fin grid0.N) (i : Fin 288) (j : Fin 256) (k : BitVec 32) (hk : k = core m c)
    (a b u : Vec Ideal S288x256 .f32) (ea : a = gb m c t) (eb : b = hb m c t) (eu : u = mb m c t) :
    k0_pay4 (grid0.coords t) k a b u (ix2 i j) = mom (grad m c (brow t i) j) (ma m c (ix2 (brow t i) j)) := by
  subst hk ea eb eu
  rw [pay_m, grad_at, blk3]

theorem v_body (t : Fin grid0.N) (i : Fin 288) (j : Fin 256) (k : BitVec 32) (hk : k = core m c)
    (a b v : Vec Ideal S288x256 .f32) (ea : a = gb m c t) (eb : b = hb m c t) (ev : v = vb m c t) :
    k0_pay1 (k0_pay5 v) (k0_pay6 (grid0.coords t) k a b) (FloatOps.ofBits .f32 0x3A83126F#32) (ix2 i j)
      = sqm (grad m c (brow t i) j) (va m c (ix2 (brow t i) j)) := by
  subst hk ea eb ev
  rw [pay_v, grad_at, blk4]

theorem d_body (t : Fin grid0.N) (i : Fin 288) (j : Fin 256) (k : BitVec 32) (hk : k = core m c)
    (w a b u v : Vec Ideal S288x256 .f32) (ew : w = wb m c t) (ea : a = gb m c t) (eb : b = hb m c t)
    (eu : u = mb m c t) (ev : v = vb m c t) :
    k0_pay2 w (k0_pay4 (grid0.coords t) k a b u) (k0_pay5 v) (k0_pay6 (grid0.coords t) k a b)
        (FloatOps.ofBits .f32 0x3A83126F#32) (ix2 i j)
      = upd (wa m c (ix2 (brow t i) j)) (grad m c (brow t i) j) (ma m c (ix2 (brow t i) j)) (va m c (ix2 (brow t i) j)) := by
  subst hk ew ea eb eu ev
  rw [pay_d, grad_at, blk0, blk3, blk4]

/-- What a point leaves in its block of the gradient, of the first moment, of the second, and of the update. -/
theorem g_out (t : Fin grid0.N) (i : Fin 288) (j : Fin 256) :
    (outsAt0 m (ok m) c t).1 (ix2 i j) = grad m c (brow t i) j := by
  obtain rfl : c = 0 := Subsingleton.elim _ _
  unfold outsAt0
  frame_out
  refine g_body m 0 t i j _ ?_ _ _ ((hs0_1 m (ok m) t).read_unread _) ((hs0_2 m (ok m) t).read_unread _)
  exact word m _

theorem m_out (t : Fin grid0.N) (i : Fin 288) (j : Fin 256) :
    (outsAt0 m (ok m) c t).2.2.1 (ix2 i j) = mom (grad m c (brow t i) j) (ma m c (ix2 (brow t i) j)) := by
  obtain rfl : c = 0 := Subsingleton.elim _ _
  unfold outsAt0
  frame_out
  refine m_body m 0 t i j _ ?_ _ _ _ ((hs0_1 m (ok m) t).read_unread _) ((hs0_2 m (ok m) t).read_unread _)
    ((hs0_3 m (ok m) t).read_unread _)
  exact word m _

theorem v_out (t : Fin grid0.N) (i : Fin 288) (j : Fin 256) :
    (outsAt0 m (ok m) c t).2.2.2 (ix2 i j) = sqm (grad m c (brow t i) j) (va m c (ix2 (brow t i) j)) := by
  obtain rfl : c = 0 := Subsingleton.elim _ _
  unfold outsAt0
  frame_out
  refine v_body m 0 t i j _ ?_ _ _ _ ((hs0_1 m (ok m) t).read_unread _) ((hs0_2 m (ok m) t).read_unread _)
    ((hs0_4 m (ok m) t).read_unread _)
  exact word m _

theorem d_out (t : Fin grid0.N) (i : Fin 288) (j : Fin 256) :
    (outsAt0 m (ok m) c t).2.1 (ix2 i j) = upd (wa m c (ix2 (brow t i) j)) (grad m c (brow t i) j)
      (ma m c (ix2 (brow t i) j)) (va m c (ix2 (brow t i) j)) := by
  obtain rfl : c = 0 := Subsingleton.elim _ _
  unfold outsAt0
  frame_out
  refine d_body m 0 t i j _ ?_ _ _ _ _ _ ((hs0_0 m (ok m) t).read_unread _) ((hs0_1 m (ok m) t).read_unread _)
    ((hs0_2 m (ok m) t).read_unread _) ((hs0_3 m (ok m) t).read_unread _) ((hs0_4 m (ok m) t).read_unread _)
  exact word m _

/-! ## The arrays -/

/-- Each block of rows is one point's. -/
theorem surj : ∀ β : (a : Fin S576x256.rank) → Fin ((S576x256.size a + S288x256.size a - 1) / S288x256.size a),
    ∃ t : Fin grid0.N, ∀ a, cc0_transform_0 (grid0.coords t) a = β a := by decide +kernel

theorem size_pos : ∀ a, 0 < S288x256.size a := by decide

/-- An index of a block. -/
theorem idx (y : S288x256.Idx) : ∃ (i : Fin 288) (j : Fin 256), y = ix2 i j :=
  ⟨y 0, y 1, by funext b; fin_cases b <;> rfl⟩

/-- The call's four results, at the device's arguments. -/
abbrev gv : FVec Ideal S576x256 .f32 := gAll (by norm_num) (core m c) (ga m c) (ha m c)
abbrev dv : FVec Ideal S576x256 .f32 := dAll (by norm_num) (core m c) (wa m c) (ga m c) (ha m c) (ma m c) (va m c)
abbrev mv : FVec Ideal S576x256 .f32 := mAll (by norm_num) (core m c) (ga m c) (ha m c) (ma m c)
abbrev vv : FVec Ideal S576x256 .f32 := vAll (by norm_num) (core m c) (ga m c) (ha m c) (va m c)

/-- They are its four arrays. -/
theorem arr_g : (dats m (ok m) 0 c).arrAt 5 grid0.N = gv m c := by
  refine (dats m (ok m) 0 c).arrAt_eq_of_covers 5 _ (Pipeline.Window.covers_of_index_surj _ rfl size_pos surj) fun t hf y => ?_
  obtain ⟨i, j, rfl⟩ := idx y
  have e0 : (pcfg0.win (adm m (ok m)) 5).index t (0 : Fin 2) = t.val := congrFun (place t) 0
  have e1 : (pcfg0.win (adm m (ok m)) 5).index t (1 : Fin 2) = 0 := congrFun (place t) 1
  have hx : (((cfgM m (ok m)).win 5).blk t).view.emb (ix2 i j) = ix2 (brow t i) j := by
    blk_ext [e0, e1]
    · exact congrArg (· * 288 + i.val) e0
    · exact (congrArg (· * 256 + j.val) e1).trans (by simp)
  refine Eq.trans ?_ (congrArg (gv m c) hx.symm)
  blk_simp
  rw [after0_5]
  exact g_out m c t i j

theorem arr_d : (dats m (ok m) 0 c).arrAt 6 grid0.N = dv m c := by
  refine (dats m (ok m) 0 c).arrAt_eq_of_covers 6 _ (Pipeline.Window.covers_of_index_surj _ rfl size_pos surj) fun t hf y => ?_
  obtain ⟨i, j, rfl⟩ := idx y
  have e0 : (pcfg0.win (adm m (ok m)) 6).index t (0 : Fin 2) = t.val := congrFun (place t) 0
  have e1 : (pcfg0.win (adm m (ok m)) 6).index t (1 : Fin 2) = 0 := congrFun (place t) 1
  have hx : (((cfgM m (ok m)).win 6).blk t).view.emb (ix2 i j) = ix2 (brow t i) j := by
    blk_ext [e0, e1]
    · exact congrArg (· * 288 + i.val) e0
    · exact (congrArg (· * 256 + j.val) e1).trans (by simp)
  refine Eq.trans ?_ (congrArg (dv m c) hx.symm)
  blk_simp
  rw [after0_6]
  exact d_out m c t i j

theorem arr_m : (dats m (ok m) 0 c).arrAt 7 grid0.N = mv m c := by
  refine (dats m (ok m) 0 c).arrAt_eq_of_covers 7 _ (Pipeline.Window.covers_of_index_surj _ rfl size_pos surj) fun t hf y => ?_
  obtain ⟨i, j, rfl⟩ := idx y
  have e0 : (pcfg0.win (adm m (ok m)) 7).index t (0 : Fin 2) = t.val := congrFun (place t) 0
  have e1 : (pcfg0.win (adm m (ok m)) 7).index t (1 : Fin 2) = 0 := congrFun (place t) 1
  have hx : (((cfgM m (ok m)).win 7).blk t).view.emb (ix2 i j) = ix2 (brow t i) j := by
    blk_ext [e0, e1]
    · exact congrArg (· * 288 + i.val) e0
    · exact (congrArg (· * 256 + j.val) e1).trans (by simp)
  refine Eq.trans ?_ (congrArg (mv m c) hx.symm)
  blk_simp
  rw [after0_7]
  exact m_out m c t i j

theorem arr_v : (dats m (ok m) 0 c).arrAt 8 grid0.N = vv m c := by
  refine (dats m (ok m) 0 c).arrAt_eq_of_covers 8 _ (Pipeline.Window.covers_of_index_surj _ rfl size_pos surj) fun t hf y => ?_
  obtain ⟨i, j, rfl⟩ := idx y
  have e0 : (pcfg0.win (adm m (ok m)) 8).index t (0 : Fin 2) = t.val := congrFun (place t) 0
  have e1 : (pcfg0.win (adm m (ok m)) 8).index t (1 : Fin 2) = 0 := congrFun (place t) 1
  have hx : (((cfgM m (ok m)).win 8).blk t).view.emb (ix2 i j) = ix2 (brow t i) j := by
    blk_ext [e0, e1]
    · exact congrArg (· * 288 + i.val) e0
    · exact (congrArg (· * 256 + j.val) e1).trans (by simp)
  refine Eq.trans ?_ (congrArg (vv m c) hx.symm)
  blk_simp
  rw [after0_8]
  exact v_out m c t i j

/-! ## The reference -/

section
open Cert.SmallHalvesReferenceIdeal.Read
variable (x0 : IVec S1 32) (w : FVec Ideal S576x256 .f32) (a b : FVec Ideal S288x256 .f32) (u v : FVec Ideal S576x256 .f32)

/-- Its four results are the call's, at its arguments. -/
theorem res_g : val_main_v6 (F := Ideal) x0 a b = gAll (by norm_num) (x0 (ix1 0)) a b :=
  joined_pair (by norm_num) (x0 (ix1 0)) a b rfl _ _
    (fun z => half_of (val_main_v0 (F := Ideal) x0 (fun i => i.elim0)) _ 0#32 (congrArg x0 (Cert.Halves.one _)) (a z) (b z))
    (fun z => half_of (val_main_v3 (F := Ideal) x0 (fun i => i.elim0)) _ 1#32 (congrArg x0 (Cert.Halves.one _)) (a z) (b z)) _

theorem res_m : val_main_v11 (F := Ideal) x0 a b u = mAll (by norm_num) (x0 (ix1 0)) a b u := by
  funext y
  exact Eq.trans (b := mom (val_main_v6 (F := Ideal) x0 a b y) (u y)) rfl (congrArg (mom · (u y)) (congrFun (res_g x0 a b) y))

theorem res_v : val_main_v17 (F := Ideal) x0 a b v = vAll (by norm_num) (x0 (ix1 0)) a b v := by
  funext y
  exact Eq.trans (b := sqm (val_main_v6 (F := Ideal) x0 a b y) (v y)) rfl (congrArg (sqm · (v y)) (congrFun (res_g x0 a b) y))

theorem res_d : val_main_v30 (F := Ideal) x0 w a b u v = dAll (by norm_num) (x0 (ix1 0)) w a b u v := by
  funext y
  refine Eq.trans (b := byDiv (val_main_v11 (F := Ideal) x0 a b u y) (val_main_v17 (F := Ideal) x0 a b v y) (w y)) rfl ?_
  rw [res_m, res_v]
  exact byDiv_eq _ _ _ _

end

/-! ## The claims -/

/-- The two named constants of the idealized call are the reciprocals of the reference's divisors. -/
theorem named : Cert.preserves_SmallHalvesKernel_SmallHalvesKernelIdeal :=
  ⟨IdealRules.named_const.statement Cert.SmallHalvesKernelIdeal.κ _ _ _ _ rfl,
    IdealRules.named_const.statement Cert.SmallHalvesKernelIdeal.κ _ _ _ _ rfl⟩

/-- The call as printed, and idealized: it ends with its arguments as they were, whatever the core's number. -/
theorem frame_k : Cert.quiescent_SmallHalvesKernel := fun m ρ _ =>
  Cert.SmallHalvesKernel.Gen.frame m ρ (by unfold Cert.SmallHalvesKernel.Gen.Ok Cert.SmallHalvesKernel.ok0; trivial)

theorem frame_ki : Cert.quiescent_SmallHalvesKernelIdeal := fun m ρ _ => frame m ρ (ok m)

/-- The reference is host operations alone: it ends with its arguments as they were and every counter at zero. -/
theorem frame_ri : Cert.quiescent_SmallHalvesReferenceIdeal := fun m ρ _ =>
  (θ_run Cert.SmallHalvesReferenceIdeal.defs _ _).mono
    (fun r h => ⟨fun c => (h c).2.2.2.2, sem_eq_zero_of_no_sems (by decide) r.2⟩)
    (Cert.SmallHalvesReferenceIdeal.Value.run (F := Ideal) m ρ)

/-- From equal arguments the call's four arrays and the reference's four results are the same: the whole gradient, the
    update and the two moments. -/
theorem equal : Cert.algebraic_SmallHalvesKernelIdeal_SmallHalvesReferenceIdeal := by
  intro m ρ m' ρ' _ hargs
  refine ⟨fun c => gv m c, fun c => dv m c, fun c => mv m c, fun c => vv m c, ?_, ?_⟩
  · refine (θ_run Cert.SmallHalvesKernelIdeal.defs _ _).mono (fun r h c => ?_) (run_main (F := Ideal) m ρ (ok m))
    have k (n : Fin 9) (hn : ((cfgM m (ok m)).win n).isOut = false) :=
      ((h c).1 n).trans (((dats m (ok m) 0 c).arrAt_in n hn _).trans (A_eq m (ok m) c n))
    exact ⟨((h c).1 5).trans (arr_g m c), ((h c).1 6).trans (arr_d m c), ((h c).1 7).trans (arr_m m c), ((h c).1 8).trans (arr_v m c),
      ((h c).2 main_arg0 (by decide : main_arg0 ∈ Pipeline.restRefs sig spec0)).trans (V_main_arg0 m c),
      (k 0 rfl).trans (V_main_arg1 m c), (k 1 rfl).trans (V_main_arg2 m c), (k 2 rfl).trans (V_main_arg3 m c),
      (k 3 rfl).trans (V_main_arg4 m c), (k 4 rfl).trans (V_main_arg5 m c)⟩
  · refine (θ_run Cert.SmallHalvesReferenceIdeal.defs _ _).mono (fun r h c => ?_)
      (Cert.SmallHalvesReferenceIdeal.Value.run (F := Ideal) m' ρ')
    obtain ⟨e0, e1, e2, e3, k⟩ := h c
    obtain ⟨a0, a1, a2, a3, a4, a5⟩ := hargs c
    refine ⟨(e0.trans (Cert.SmallHalvesReferenceIdeal.Read.val_main_v6_eq _ _ _)).trans ((res_g _ _ _).trans ?_),
      (e1.trans (Cert.SmallHalvesReferenceIdeal.Read.val_main_v30_eq _ _ _ _ _ _)).trans ((res_d _ _ _ _ _ _).trans ?_),
      (e2.trans (Cert.SmallHalvesReferenceIdeal.Read.val_main_v11_eq _ _ _ _)).trans ((res_m _ _ _ _).trans ?_),
      (e3.trans (Cert.SmallHalvesReferenceIdeal.Read.val_main_v17_eq _ _ _ _)).trans ((res_v _ _ _ _).trans ?_), k⟩
    · rw [a0, a2, a3]
    · rw [a0, a1, a2, a3, a4, a5]
    · rw [a0, a2, a3, a4]
    · rw [a0, a2, a3, a5]

end Cert.SmallHalves

end
-- ==== Proof.LruBwdEqual.lean ====
/- The recurrent branch's backward call, of whose nine results this states one: the gradient of the branch's projection. What the
   body computes at one grid point, the array that the grid leaves, the reference's result by the same formula, and the claims. -/
module

public import proofs.«01_k».proof.Defs
public import proofs.«01_k».proof.Proof.UpPoint
public import proofs.«01_k».proof.Proof.Host
public import proofs.«01_k».proof.Proof.Gen.LruBwdKernel.Frame
public import proofs.«01_k».proof.Proof.Gen.LruBwdKernelIdeal.Value
public import proofs.«01_k».proof.Proof.Gen.LruBwdReferenceIdeal.Read
public import Idealize.ShloMosaic.Lib.Pipeline.ValueKit
public import Idealize.ShloMosaic.Lib.Pointwise
public import Idealize.ShloMosaic.Lib.Quiescent

@[expose] public section

set_option maxRecDepth 16384

noncomputable section

namespace Cert.LruBwd

open Idealize.ShloMosaic Idealize.ShloMosaic.TcCoe Idealize.SL.Sem Cert.LruBwdKernelIdeal Cert.LruBwdKernelIdeal.Gen
open Cert.UpFwd (act)

/-! ## The formula -/

/-- Column `j` of the branch's gate in the input projection, and column `f` of block `b`. -/
def ycol (j : Fin 1024) : Fin 7168 := ⟨4096 + j.val, by omega⟩
def bcol (b : Fin 4) (f : Fin 256) : Fin 1024 := ⟨b.val * 256 + f.val, by omega⟩

/-- The gradient of the branch's projection, of the recurrence's output `h`, the input projection `p` and the incoming gradient
    `ct`: the gated output against the gradient, summed over the positions. -/
def dwl (h : FVec Ideal S2048x1024 .f32) (p : FVec Ideal S2048x7168 .f32) (ct : FVec Ideal S2048x1024 .f32) (j d : Fin 1024) :
    EReal :=
  ∑ s : Fin 2048, h (ix2 s j) * act (p (ix2 s (ycol j))) * ct (ix2 s d)

/-! ## A grid point -/

/-- The cubic coefficient of the activation. -/
theorem named_k : Named.named (F := Ideal) (φ := .f32) Cert.LruBwdKernelIdeal.κ "k" 0x3D372713#32 = ((8943 / 200000 : ℝ) : EReal) :=
  IdealRules.named_const.ideal_named_scalar _ _ _ _ rfl

/-- The activation, in the order of the body's products. -/
theorem pay_act (v : Vec Ideal S2048x256 .f32) (s : Fin 2048) (f : Fin 256) : k0_pay92 v (ix2 s f) = act (v (ix2 s f)) := by
  pointwise [k0_pay92, k0_pay91, k0_pay90]
  rw [named_k, act, ← mul_assoc]

/-- The stored block: the gated output against the incoming gradient. -/
theorem pay_dw (x0 : Vec Ideal S2048x1024 .bf16) (x3 x7 : Vec Ideal S2048x256 .f32) (f : Fin 256) (d : Fin 1024) :
    k0_pay95 (k0_pay88 x0) (k0_pay94 x7 x3) (ix2 f d)
      = ∑ s : Fin 2048, x7 (ix2 s f) * act (x3 (ix2 s f)) * x0 (ix2 s d) := by
  pointwise [k0_pay95, k0_pay94, k0_pay88]
  simp only [pay_act]

section
variable (c : Dev nD) (i : grid0.Coords)
  (arg1 : Memref sig .tc .vmem S2048x1024 .bf16) (harg1 : arg1.IsWhole)
  (arg2 : Memref sig .tc .vmem S256x1024 .bf16) (harg2 : arg2.IsWhole)
  (arg3 : Memref sig .tc .vmem S2048x256 .f32) (harg3 : arg3.IsWhole)
  (arg4 : Memref sig .tc .vmem S2048x256 .f32) (harg4 : arg4.IsWhole)
  (arg5 : Memref sig .tc .vmem S2048x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S2048x256 .f32) (harg8 : arg8.IsWhole)
  (arg9 : Memref sig .tc .vmem S4x256 .f32) (harg9 : arg9.IsWhole)
  (arg10 : Memref sig .tc .vmem S1x256x256 .bf16) (harg10 : arg10.IsWhole)
  (arg11 : Memref sig .tc .vmem S1x256x256 .bf16) (harg11 : arg11.IsWhole)
  (arg12 : Memref sig .tc .vmem S1x256 .f32) (harg12 : arg12.IsWhole)
  (arg13 : Memref sig .tc .vmem S2x2048x256 .bf16) (harg13 : arg13.IsWhole)
  (arg14 : Memref sig .tc .vmem S256x1024 .bf16) (harg14 : arg14.IsWhole)
  (arg15 : Memref sig .tc .vmem S1x256x256 .f32) (harg15 : arg15.IsWhole)
  (arg16 : Memref sig .tc .vmem S1x256x256 .f32) (harg16 : arg16.IsWhole)
  (arg17 : Memref sig .tc .vmem S1x256 .f32) (harg17 : arg17.IsWhole)
  (arg18 : Memref sig .tc .vmem S1x256 .f32) (harg18 : arg18.IsWhole)
  (arg19 : Memref sig .tc .vmem S4x256 .f32) (harg19 : arg19.IsWhole)
  (arg20 : Memref sig .tc .vmem S1x256 .f32) (harg20 : arg20.IsWhole)
  (arg21 : Memref sig .tc .vmem S1x256 .f32) (harg21 : arg21.IsWhole)
  (arg22 : Memref sig .tc .vmem S2048x256 .f32) (harg22 : arg22.IsWhole)
  (arg23 : Memref sig .tc .vmem S2048x256 .f32) (harg23 : arg23.IsWhole)
  (x0 : Vec Ideal S2048x1024 .bf16)
  (x1 : Vec Ideal S256x1024 .bf16)
  (x2 : Vec Ideal S2048x256 .f32)
  (x3 : Vec Ideal S2048x256 .f32)
  (x4 : Vec Ideal S2048x256 .bf16)
  (x5 : Vec Ideal S2048x256 .bf16)
  (x6 : Vec Ideal S2048x256 .bf16)
  (x7 : Vec Ideal S2048x256 .f32)
  (x8 : Vec Ideal S4x256 .f32)
  (x9 : Vec Ideal S1x256x256 .bf16)
  (x10 : Vec Ideal S1x256x256 .bf16)
  (x11 : Vec Ideal S1x256 .f32)

/-- What the body leaves in the gradient's block. -/
theorem dw_at (f : Fin 256) (d : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 (ix2 f d)
      = ∑ s : Fin 2048, x7 (ix2 s f) * act (x3 (ix2 s f)) * x0 (ix2 s d) := by
  rw [← pay_dw]
  frame_out

end

/-! ## The operands -/

variable (m : (ℓ : Loc nD τ sig) → Buf (Elt Ideal) ℓ) (c : Dev nD)

/-- The arguments that the result depends on: the incoming gradient, the input projection and the recurrence's output. -/
abbrev ctg : FVec Ideal S2048x1024 .f32 := m (c, Proc.tc.devRef main_arg0)
abbrev prj : FVec Ideal S2048x7168 .f32 := m (c, Proc.tc.devRef main_arg2)
abbrev hid : FVec Ideal S2048x1024 .f32 := m (c, Proc.tc.devRef main_arg6)

/-- The incoming gradient, as the host hands it over. -/
theorem host_ct (i : Fin 2048) (j : Fin 1024) : V m c main_v0 (ix2 i j) = ctg m c (ix2 i j) := by
  entry_read
  pointwise

/-- The grid's point as the number of its block of 256 columns. -/
def num (t : Fin cfg0.N) : Fin 4 := ⟨t.val, lt_of_lt_of_eq t.isLt (show cfg0.N = 4 from N_0)⟩

/-- The windows at a point: the incoming gradient whole, and the point's block of columns of the gate and of the recurrence's
    output. -/
theorem blk0 (t : Fin cfg0.N) (i : Fin 2048) (j : Fin 1024) : iblk m c 0 t (ix2 i j) = ctg m c (ix2 i j) := by
  rw [← host_ct]
  have e0 : (cfg0.win 0).index t 0 = 0 := by decide +revert
  have e1 : (cfg0.win 0).index t 1 = 0 := by decide +revert
  blk_ext [iblk, e0, e1]

theorem blk3 (t : Fin cfg0.N) (i : Fin 2048) (f : Fin 256) : iblk m c 3 t (ix2 i f) = prj m c (ix2 i (ycol (bcol (num t) f))) := by
  rw [prj, ← V_main_arg2 m c]
  have e0 : (cfg0.win 3).index t 0 = 0 := by decide +revert
  have e1 : (cfg0.win 3).index t 1 = 16 + t.val := by decide +revert
  blk_ext [iblk, e0, e1, bcol, num, ycol]

theorem blk7 (t : Fin cfg0.N) (i : Fin 2048) (f : Fin 256) : iblk m c 7 t (ix2 i f) = hid m c (ix2 i (bcol (num t) f)) := by
  rw [hid, ← V_main_arg6 m c]
  have e0 : (cfg0.win 7).index t 0 = 0 := by decide +revert
  have e1 : (cfg0.win 7).index t 1 = t.val := by decide +revert
  blk_ext [iblk, e0, e1, bcol, num]

/-- What a point leaves. -/
theorem w_at (t : Fin cfg0.N) (f : Fin 256) (d : Fin 1024) :
    (outsAt0 m c t).2.1 (ix2 f d) = dwl (hid m c) (prj m c) (ctg m c) (bcol (num t) f) d := by
  unfold outsAt0
  dsimp only
  rw [dw_at]
  exact Finset.sum_congr rfl fun s _ => congrArg₂ (fun x y : EReal => x * y)
    (congrArg₂ (fun x y : EReal => x * act y) (blk7 m c t s f) (blk3 m c t s f)) (blk0 m c t s d)

/-- The array: every row is in the block of one point. -/
theorem arr_w : (dats m 0 c).arrAt 13 cfg0.N = fun x => dwl (hid m c) (prj m c) (ctg m c) (x 0) (x 1) := by
  refine (dats m 0 c).arrAt_eq_of_covers 13 _ (by decide +kernel) fun t hf y => ?_
  have e0 : (cfg0.win 13).index t 0 = t.val := by decide +revert
  have e1 : (cfg0.win 13).index t 1 = 0 := by decide +revert
  have x0 : (((cfg0.win 13).blk t).view.emb y 0).val = t.val * 256 + (y 0).val := by blk_simp [e0]
  have x1 : (((cfg0.win 13).blk t).view.emb y 1).val = (y 1).val := by blk_simp [e1]
  blk_simp
  rw [after0_13]
  have hy : y = ix2 (y 0) (y 1) := by funext b; fin_cases b <;> rfl
  refine (congrArg _ hy).trans ((w_at m c t (y 0) (y 1)).trans ?_)
  exact congrArg₂ _ (Fin.ext x0.symm) (Fin.ext x1.symm)

/-! ## The reference -/

section
open Cert.LruBwdReferenceIdeal.Read
variable (x0 x6 : FVec Ideal S2048x1024 .f32) (x2 : FVec Ideal S2048x7168 .f32)

/-- The reference's gate and its activation. -/
theorem ref_gate (s : Fin 2048) (j : Fin 1024) : val_main_v0 (F := Ideal) x2 (ix2 s j) = x2 (ix2 s (ycol j)) := by
  pointwise [val_main_v0]
  rfl

theorem ref_act (s : Fin 2048) (j : Fin 1024) : val_main_v14 (F := Ideal) x2 (ix2 s j) = act (x2 (ix2 s (ycol j))) := by
  pointwise [val_main_v14, val_main_v13, val_main_v12, val_main_v11, val_main_v10, val_main_v9, val_main_v8, val_main_v7,
    val_main_v6, val_main_v5, val_main_v4, val_main_v3, val_main_v2, val_main_v1, val_main_cst, val_main_cst_0, val_main_cst_1,
    val_main_cst_2, val_main_cst_3]
  rw [ref_gate, Cert.Ffn.lit_quot, act]
  simp only [mul_assoc, mul_comm, mul_left_comm]

/-- The reference's result. -/
theorem ref_w (j d : Fin 1024) : val_main_v19 (F := Ideal) x0 x2 x6 (ix2 j d) = dwl x6 x2 x0 j d := by
  pointwise [val_main_v19, val_main_v18, val_main_v17, val_main_v15]
  refine Finset.sum_congr rfl fun s _ => ?_
  rw [ref_act]
  exact mul_comm (G := EReal) _ _

theorem res_w : val_main_v19 (F := Ideal) x0 x2 x6 = fun y => dwl x6 x2 x0 (y 0) (y 1) := by
  funext y
  have hy : y = ix2 (y 0) (y 1) := by funext b; fin_cases b <;> rfl
  exact (congrArg _ hy).trans (ref_w x0 x6 x2 (y 0) (y 1))

end

/-! ## The claims -/

/-- The reference is host operations alone: it ends with its arguments as they were and every counter at zero. -/
theorem frame_ri : Cert.quiescent_LruBwdReferenceIdeal := fun m ρ _ =>
  (θ_run Cert.LruBwdReferenceIdeal.defs _ _).mono
    (fun r h => ⟨fun c => (h c).2, sem_eq_zero_of_no_sems (by decide) r.2⟩)
    (Cert.LruBwdReferenceIdeal.Value.run (F := Ideal) m ρ)

/-- The one named constant of the idealized call is 0.044715. -/
theorem named : Cert.preserves_LruBwdKernel_LruBwdKernelIdeal :=
  IdealRules.named_const.statement Cert.LruBwdKernelIdeal.κ _ _ _ _ rfl

/-- From equal arguments the call's array and the reference's result are the same: the gradient of the branch's projection. -/
theorem equal : Cert.algebraic_LruBwdKernelIdeal_LruBwdReferenceIdeal := by
  intro m ρ m' ρ' _ hargs
  refine ⟨fun c => fun x => dwl (hid m c) (prj m c) (ctg m c) (x 0) (x 1), ?_, ?_⟩
  · refine (θ_run Cert.LruBwdKernelIdeal.defs _ _).mono (fun r h c => ?_) (Cert.LruBwdKernelIdeal.Value.run_blocks (F := Ideal) m ρ)
    obtain ⟨_, e1, _, _, _, _, _, _, _, k⟩ := h c
    exact ⟨e1.trans (arr_w m c), k⟩
  · refine (θ_run Cert.LruBwdReferenceIdeal.defs _ _).mono (fun r h c => ?_) (Cert.LruBwdReferenceIdeal.Value.run (F := Ideal) m' ρ')
    obtain ⟨e0, k⟩ := h c
    obtain ⟨a0, a1, a2, a3, a4, a5, a6, a7, a8, a9, a10⟩ := hargs c
    refine ⟨(e0.trans (Cert.LruBwdReferenceIdeal.Read.val_main_v19_eq _ _ _)).trans ((res_w _ _ _).trans ?_), k⟩
    rw [a0, a2, a6]
    rfl

end Cert.LruBwd

end
-- ==== Proof.lean ====
module

public import proofs.«01_k».proof.Defs
public import proofs.«01_k».proof.Proof.Gen.Kernel
public import proofs.«01_k».proof.Proof.Gen.Kernel.Frame
public import proofs.«01_k».proof.Proof.Equal
public import proofs.«01_k».proof.Proof.Finite
public import proofs.«01_k».proof.Proof.ConvEqual
public import proofs.«01_k».proof.Proof.WgradEqual
public import proofs.«01_k».proof.Proof.DgradEqual
public import proofs.«01_k».proof.Proof.ProjEqual
public import proofs.«01_k».proof.Proof.UpEqual
public import proofs.«01_k».proof.Proof.ConvFwdEqual
public import proofs.«01_k».proof.Proof.MergeEqual
public import proofs.«01_k».proof.Proof.NormEqual
public import proofs.«01_k».proof.Proof.OutEqual
public import proofs.«01_k».proof.Proof.MergeBwdEqual
public import proofs.«01_k».proof.Proof.AdamEqual
public import proofs.«01_k».proof.Proof.NormBwdEqual
public import proofs.«01_k».proof.Proof.MidBwdEqual
public import proofs.«01_k».proof.Proof.LossEqual
public import proofs.«01_k».proof.Proof.HalvesEqual
public import proofs.«01_k».proof.Proof.SumEqual
public import proofs.«01_k».proof.Proof.UpHalves
public import proofs.«01_k».proof.Proof.InHalves
public import proofs.«01_k».proof.Proof.RowHalves
public import proofs.«01_k».proof.Proof.SmallHalves
public import proofs.«01_k».proof.Proof.LruBwdEqual
public import proofs.«01_k».proof.Proof.Gen.ConvKernel
public import proofs.«01_k».proof.Proof.Gen.ConvKernelIdeal
public import proofs.«01_k».proof.Proof.Gen.ConvReferenceIdeal
public import proofs.«01_k».proof.Proof.Gen.ConvKernel.Frame
public import proofs.«01_k».proof.Proof.Gen.ConvKernelIdeal.Frame
public import proofs.«01_k».proof.Proof.Gen.ConvKernelIdeal.Value
public import proofs.«01_k».proof.Proof.Gen.ConvReferenceIdeal.Run
public import proofs.«01_k».proof.Proof.Gen.ConvReferenceIdeal.Read
public import proofs.«01_k».proof.Proof.Gen.WgradKernel
public import proofs.«01_k».proof.Proof.Gen.WgradKernelIdeal
public import proofs.«01_k».proof.Proof.Gen.WgradReferenceIdeal
public import proofs.«01_k».proof.Proof.Gen.WgradKernel.Frame
public import proofs.«01_k».proof.Proof.Gen.WgradKernelIdeal.Frame
public import proofs.«01_k».proof.Proof.Gen.WgradKernelIdeal.Value
public import proofs.«01_k».proof.Proof.Gen.WgradReferenceIdeal.Run
public import proofs.«01_k».proof.Proof.Gen.WgradReferenceIdeal.Read
public import proofs.«01_k».proof.Proof.Gen.DgradKernel
public import proofs.«01_k».proof.Proof.Gen.DgradKernelIdeal
public import proofs.«01_k».proof.Proof.Gen.DgradReferenceIdeal
public import proofs.«01_k».proof.Proof.Gen.DgradKernel.Frame
public import proofs.«01_k».proof.Proof.Gen.DgradKernelIdeal.Frame
public import proofs.«01_k».proof.Proof.Gen.DgradKernelIdeal.Value
public import proofs.«01_k».proof.Proof.Gen.DgradReferenceIdeal.Run
public import proofs.«01_k».proof.Proof.Gen.DgradReferenceIdeal.Read
public import proofs.«01_k».proof.Proof.Gen.ProjKernel
public import proofs.«01_k».proof.Proof.Gen.ProjKernelIdeal
public import proofs.«01_k».proof.Proof.Gen.ProjReferenceIdeal
public import proofs.«01_k».proof.Proof.Gen.ProjKernel.Frame
public import proofs.«01_k».proof.Proof.Gen.ProjKernelIdeal.Frame
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Gen.UpKernel
public import proofs.«01_k».proof.Proof.Gen.UpKernelIdeal
public import proofs.«01_k».proof.Proof.Gen.UpReferenceIdeal
public import proofs.«01_k».proof.Proof.Gen.UpKernel.Frame
public import proofs.«01_k».proof.Proof.Gen.UpKernelIdeal.Frame
public import proofs.«01_k».proof.Proof.Gen.UpKernelIdeal.Value
public import proofs.«01_k».proof.Proof.Gen.UpReferenceIdeal.Run
public import proofs.«01_k».proof.Proof.Gen.UpReferenceIdeal.Read
public import proofs.«01_k».proof.Proof.Gen.ConvFwdKernel
public import proofs.«01_k».proof.Proof.Gen.ConvFwdKernelIdeal
public import proofs.«01_k».proof.Proof.Gen.ConvFwdReferenceIdeal
public import proofs.«01_k».proof.Proof.Gen.ConvFwdKernel.Frame
public import proofs.«01_k».proof.Proof.Gen.ConvFwdKernelIdeal.Frame
public import proofs.«01_k».proof.Proof.Gen.ConvFwdKernelIdeal.Value
public import proofs.«01_k».proof.Proof.Gen.ConvFwdReferenceIdeal.Run
public import proofs.«01_k».proof.Proof.Gen.ConvFwdReferenceIdeal.Read
public import proofs.«01_k».proof.Proof.Gen.MergeKernel
public import proofs.«01_k».proof.Proof.Gen.MergeKernelIdeal
public import proofs.«01_k».proof.Proof.Gen.MergeReferenceIdeal
public import proofs.«01_k».proof.Proof.Gen.MergeKernel.Frame
public import proofs.«01_k».proof.Proof.Gen.MergeKernelIdeal.Frame
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.Gen.NormKernel
public import proofs.«01_k».proof.Proof.Gen.NormKernelIdeal
public import proofs.«01_k».proof.Proof.Gen.NormReferenceIdeal
public import proofs.«01_k».proof.Proof.Gen.NormKernel.Frame
public import proofs.«01_k».proof.Proof.Gen.NormKernelIdeal.Frame
public import proofs.«01_k».proof.Proof.Gen.NormKernelIdeal.Value
public import proofs.«01_k».proof.Proof.Gen.NormReferenceIdeal.Run
public import proofs.«01_k».proof.Proof.Gen.NormReferenceIdeal.Read
public import proofs.«01_k».proof.Proof.Gen.OutKernel
public import proofs.«01_k».proof.Proof.Gen.OutKernelIdeal
public import proofs.«01_k».proof.Proof.Gen.OutReferenceIdeal
public import proofs.«01_k».proof.Proof.Gen.OutKernel.Frame
public import proofs.«01_k».proof.Proof.Gen.OutKernelIdeal.Frame
public import proofs.«01_k».proof.Proof.Gen.OutKernelIdeal.Value
public import proofs.«01_k».proof.Proof.Gen.OutReferenceIdeal.Run
public import proofs.«01_k».proof.Proof.Gen.OutReferenceIdeal.Read
public import proofs.«01_k».proof.Proof.Gen.MergeBwdKernel
public import proofs.«01_k».proof.Proof.Gen.MergeBwdKernelIdeal
public import proofs.«01_k».proof.Proof.Gen.MergeBwdReferenceIdeal
public import proofs.«01_k».proof.Proof.Gen.MergeBwdKernel.Frame
public import proofs.«01_k».proof.Proof.Gen.MergeBwdKernelIdeal.Frame
public import proofs.«01_k».proof.Proof.Gen.MergeBwdKernelIdeal.Value
public import proofs.«01_k».proof.Proof.Gen.MergeBwdReferenceIdeal.Run
public import proofs.«01_k».proof.Proof.Gen.MergeBwdReferenceIdeal.Read
public import proofs.«01_k».proof.Proof.Gen.AdamKernel
public import proofs.«01_k».proof.Proof.Gen.AdamKernelIdeal
public import proofs.«01_k».proof.Proof.Gen.AdamReferenceIdeal
public import proofs.«01_k».proof.Proof.Gen.AdamKernel.Frame
public import proofs.«01_k».proof.Proof.Gen.AdamKernelIdeal.Frame
public import proofs.«01_k».proof.Proof.Gen.AdamKernelIdeal.Value
public import proofs.«01_k».proof.Proof.Gen.AdamReferenceIdeal.Run
public import proofs.«01_k».proof.Proof.Gen.AdamReferenceIdeal.Read
public import proofs.«01_k».proof.Proof.Gen.HalvesKernel
public import proofs.«01_k».proof.Proof.Gen.HalvesKernelIdeal
public import proofs.«01_k».proof.Proof.Gen.HalvesReferenceIdeal
public import proofs.«01_k».proof.Proof.Gen.HalvesKernel.Frame
public import proofs.«01_k».proof.Proof.Gen.HalvesKernelIdeal.Frame
public import proofs.«01_k».proof.Proof.Gen.HalvesReferenceIdeal.Run
public import proofs.«01_k».proof.Proof.Gen.HalvesReferenceIdeal.Read
public import proofs.«01_k».proof.Proof.Gen.NormBwdKernel
public import proofs.«01_k».proof.Proof.Gen.NormBwdKernelIdeal
public import proofs.«01_k».proof.Proof.Gen.NormBwdReferenceIdeal
public import proofs.«01_k».proof.Proof.Gen.NormBwdKernel.Frame
public import proofs.«01_k».proof.Proof.Gen.NormBwdKernelIdeal.Frame
public import proofs.«01_k».proof.Proof.Gen.NormBwdKernelIdeal.Value
public import proofs.«01_k».proof.Proof.Gen.NormBwdReferenceIdeal.Run
public import proofs.«01_k».proof.Proof.Gen.NormBwdReferenceIdeal.Read
public import proofs.«01_k».proof.Proof.Gen.MidBwdKernel
public import proofs.«01_k».proof.Proof.Gen.MidBwdKernelIdeal
public import proofs.«01_k».proof.Proof.Gen.MidBwdReferenceIdeal
public import proofs.«01_k».proof.Proof.Gen.MidBwdKernel.Frame
public import proofs.«01_k».proof.Proof.Gen.MidBwdKernelIdeal.Frame
public import proofs.«01_k».proof.Proof.Gen.MidBwdKernelIdeal.Value
public import proofs.«01_k».proof.Proof.Gen.MidBwdReferenceIdeal.Run
public import proofs.«01_k».proof.Proof.Gen.MidBwdReferenceIdeal.Read
public import proofs.«01_k».proof.Proof.Gen.LossKernel
public import proofs.«01_k».proof.Proof.Gen.LossKernelIdeal
public import proofs.«01_k».proof.Proof.Gen.LossReferenceIdeal
public import proofs.«01_k».proof.Proof.Gen.LossKernel.Frame
public import proofs.«01_k».proof.Proof.Gen.LossKernelIdeal.Frame
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.SumKernel
public import proofs.«01_k».proof.Proof.Gen.SumKernelIdeal
public import proofs.«01_k».proof.Proof.Gen.SumReferenceIdeal
public import proofs.«01_k».proof.Proof.Gen.SumKernel.Frame
public import proofs.«01_k».proof.Proof.Gen.SumKernelIdeal.Frame
public import proofs.«01_k».proof.Proof.Gen.SumReferenceIdeal.Run
public import proofs.«01_k».proof.Proof.Gen.SumReferenceIdeal.Read
public import proofs.«01_k».proof.Proof.Gen.SumKernelIdeal.Value
public import proofs.«01_k».proof.Proof.Gen.UpHalvesKernel
public import proofs.«01_k».proof.Proof.Gen.UpHalvesKernelIdeal
public import proofs.«01_k».proof.Proof.Gen.UpHalvesReferenceIdeal
public import proofs.«01_k».proof.Proof.Gen.UpHalvesKernel.Frame
public import proofs.«01_k».proof.Proof.Gen.UpHalvesKernelIdeal.Frame
public import proofs.«01_k».proof.Proof.Gen.UpHalvesReferenceIdeal.Run
public import proofs.«01_k».proof.Proof.Gen.UpHalvesReferenceIdeal.Read
public import proofs.«01_k».proof.Proof.Gen.InHalvesKernel
public import proofs.«01_k».proof.Proof.Gen.InHalvesKernelIdeal
public import proofs.«01_k».proof.Proof.Gen.InHalvesReferenceIdeal
public import proofs.«01_k».proof.Proof.Gen.InHalvesKernel.Frame
public import proofs.«01_k».proof.Proof.Gen.InHalvesKernelIdeal.Frame
public import proofs.«01_k».proof.Proof.Gen.InHalvesReferenceIdeal.Run
public import proofs.«01_k».proof.Proof.Gen.InHalvesReferenceIdeal.Read
public import proofs.«01_k».proof.Proof.Gen.RowHalvesKernel
public import proofs.«01_k».proof.Proof.Gen.RowHalvesKernelIdeal
public import proofs.«01_k».proof.Proof.Gen.RowHalvesReferenceIdeal
public import proofs.«01_k».proof.Proof.Gen.RowHalvesKernel.Frame
public import proofs.«01_k».proof.Proof.Gen.RowHalvesKernelIdeal.Frame
public import proofs.«01_k».proof.Proof.Gen.RowHalvesReferenceIdeal.Run
public import proofs.«01_k».proof.Proof.Gen.RowHalvesReferenceIdeal.Read
public import proofs.«01_k».proof.Proof.Gen.SmallHalvesKernel
public import proofs.«01_k».proof.Proof.Gen.SmallHalvesKernelIdeal
public import proofs.«01_k».proof.Proof.Gen.SmallHalvesReferenceIdeal
public import proofs.«01_k».proof.Proof.Gen.SmallHalvesKernel.Frame
public import proofs.«01_k».proof.Proof.Gen.SmallHalvesKernelIdeal.Frame
public import proofs.«01_k».proof.Proof.Gen.SmallHalvesReferenceIdeal.Run
public import proofs.«01_k».proof.Proof.Gen.SmallHalvesReferenceIdeal.Read
public import proofs.«01_k».proof.Proof.Gen.LruBwdKernel
public import proofs.«01_k».proof.Proof.Gen.LruBwdKernelIdeal
public import proofs.«01_k».proof.Proof.Gen.LruBwdReferenceIdeal
public import proofs.«01_k».proof.Proof.Gen.LruBwdKernel.Frame
public import proofs.«01_k».proof.Proof.Gen.LruBwdKernelIdeal.Frame
public import proofs.«01_k».proof.Proof.Gen.LruBwdReferenceIdeal.Run
public import proofs.«01_k».proof.Proof.Gen.LruBwdReferenceIdeal.Read
public import Idealize.ShloMosaic.Lib.Quiescent

@[expose] public section

noncomputable section

namespace Cert.Proof

open Idealize.ShloMosaic Idealize.ShloMosaic.TcCoe Idealize.SL.Sem Cert.Ffn

/-- The reference is host operations alone: it ends with its arguments as they were and, having no semaphores, with every
    counter at zero. -/
theorem frame_ri : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The two constants the idealized kernel names are the rationals `0.044715` and `3 · 0.044715`. -/
theorem named : Cert.preserves_Kernel_KernelIdeal :=
  ⟨IdealRules.named_const.statement Cert.KernelIdeal.κ "k" .f32 0x3D372713#32 ((8943 / 200000 : ℝ) : EReal) rfl,
   IdealRules.named_const.statement Cert.KernelIdeal.κ "k3" .f32 0x3E095D4F#32 ((26829 / 200000 : ℝ) : EReal) rfl⟩

/-- From equal finite arguments the call's five arrays and the reference's five results are the same reals: the gradients of
    the layer. -/
theorem equal : Cert.algebraic_KernelIdeal_ReferenceIdeal_pre_finite := by
  intro m ρ m' ρ' hpre hargs
  choose a r0 r1 r2 r3 r4 r5 using fun c => reals_of_finite (hpre c)
  have HK : ∀ c, Held m c (a c) := fun c => ⟨r0 c, r1 c, r2 c, r3 c, r4 c, r5 c⟩
  have HR : ∀ c, Given _ _ _ _ _ _ (a c) := fun c =>
    (⟨fun i j => (congrFun (hargs c).1 (ix2 i j)).trans (r0 c i j),
      fun i j => (congrFun (hargs c).2.1 (ix2 i j)).trans (r1 c i j),
      fun i j => (congrFun (hargs c).2.2.1 (ix2 i j)).trans (r2 c i j),
      fun j => (congrFun (hargs c).2.2.2.1 (ix1 j)).trans (r3 c j),
      fun i j => (congrFun (hargs c).2.2.2.2.1 (ix2 i j)).trans (r4 c i j),
      fun i j => (congrFun (hargs c).2.2.2.2.2 (ix2 i j)).trans (r5 c i j)⟩ :
      Given (StableHlo.launchContents m' c (Proc.devRef .tc Cert.ReferenceIdeal.main_arg0))
        (StableHlo.launchContents m' c (Proc.devRef .tc Cert.ReferenceIdeal.main_arg1))
        (StableHlo.launchContents m' c (Proc.devRef .tc Cert.ReferenceIdeal.main_arg2))
        (StableHlo.launchContents m' c (Proc.devRef .tc Cert.ReferenceIdeal.main_arg3))
        (StableHlo.launchContents m' c (Proc.devRef .tc Cert.ReferenceIdeal.main_arg4))
        (StableHlo.launchContents m' c (Proc.devRef .tc Cert.ReferenceIdeal.main_arg5)) (a c))
  refine ⟨fun c => fun x => (((a c).dh (x 0) (x 1) : ℝ) : EReal), fun c => fun x => (((a c).dwu (x 1) (col (x 0) (x 2)) : ℝ) : EReal),
    fun c => fun x => (((a c).dwd (x 0) (x 1) : ℝ) : EReal), fun c => fun x => (((a c).dcw (x 1) (col (x 0) (x 2)) : ℝ) : EReal),
    fun c => fun x => (((a c).dcb (col (x 0) (x 2)) : ℝ) : EReal), ?_, ?_⟩
  · refine (θ_run Cert.KernelIdeal.defs _ _).mono (fun r h c => ?_) (Cert.KernelIdeal.Value.run_blocks (F := Ideal) m ρ)
    obtain ⟨e0, e1, e2, e3, e4, k⟩ := h c
    exact ⟨e0.trans (arr_dh (HK c)), e1.trans (arr_dwu (HK c)), e2.trans (arr_dwd (HK c)), e3.trans (arr_dcw (HK c)),
      e4.trans (arr_dcb (HK c)), k⟩
  · refine (θ_run Cert.ReferenceIdeal.defs _ _).mono (fun r h c => ?_) (Cert.ReferenceIdeal.Value.run (F := Ideal) m' ρ')
    obtain ⟨e0, e1, e2, e3, e4, k⟩ := h c
    exact ⟨(e0.trans (Cert.ReferenceIdeal.Read.val_main_v97_eq _)).trans (ref_arr_dh (HR c)),
      (e1.trans (Cert.ReferenceIdeal.Read.val_main_v100_eq _)).trans (ref_arr_dwu (HR c)),
      (e2.trans (Cert.ReferenceIdeal.Read.val_main_v101_eq _)).trans (ref_arr_dwd (HR c)),
      (e3.trans (Cert.ReferenceIdeal.Read.val_main_v103_eq _)).trans (ref_arr_dcw (HR c)),
      (e4.trans (Cert.ReferenceIdeal.Read.val_main_v104_eq _)).trans (ref_arr_dcb (HR c)), k⟩

/-- All the claims: of the gated layer's backward call, of the convolution mixer's backward call, of the three calls of the input
    projection, of the layer's forward call, of the convolution's forward call, of the branches' merge and the output projection forward
    and backward, of the norms forward and backward, of the loss, of AdamW of the replicated parameters and
    of the sharded ones at each of their shapes, and of the sum over the devices. -/
theorem claim : Cert.Claim :=
  ⟨Cert.Kernel.Gen.facts, Cert.KernelIdeal.Gen.facts, Cert.ReferenceIdeal.Gen.facts,
    Cert.ConvKernel.Gen.facts, Cert.ConvKernelIdeal.Gen.facts, Cert.ConvReferenceIdeal.Gen.facts,
    Cert.WgradKernel.Gen.facts, Cert.WgradKernelIdeal.Gen.facts, Cert.WgradReferenceIdeal.Gen.facts,
    Cert.DgradKernel.Gen.facts, Cert.DgradKernelIdeal.Gen.facts, Cert.DgradReferenceIdeal.Gen.facts,
    Cert.ProjKernel.Gen.facts, Cert.ProjKernelIdeal.Gen.facts, Cert.ProjReferenceIdeal.Gen.facts,
    Cert.UpKernel.Gen.facts, Cert.UpKernelIdeal.Gen.facts, Cert.UpReferenceIdeal.Gen.facts,
    Cert.ConvFwdKernel.Gen.facts, Cert.ConvFwdKernelIdeal.Gen.facts, Cert.ConvFwdReferenceIdeal.Gen.facts,
    Cert.MergeKernel.Gen.facts, Cert.MergeKernelIdeal.Gen.facts, Cert.MergeReferenceIdeal.Gen.facts,
    Cert.NormKernel.Gen.facts, Cert.NormKernelIdeal.Gen.facts, Cert.NormReferenceIdeal.Gen.facts,
    Cert.OutKernel.Gen.facts, Cert.OutKernelIdeal.Gen.facts, Cert.OutReferenceIdeal.Gen.facts,
    Cert.MergeBwdKernel.Gen.facts, Cert.MergeBwdKernelIdeal.Gen.facts, Cert.MergeBwdReferenceIdeal.Gen.facts,
    Cert.AdamKernel.Gen.facts, Cert.AdamKernelIdeal.Gen.facts, Cert.AdamReferenceIdeal.Gen.facts,
    Cert.NormBwdKernel.Gen.facts, Cert.NormBwdKernelIdeal.Gen.facts, Cert.NormBwdReferenceIdeal.Gen.facts,
    Cert.MidBwdKernel.Gen.facts, Cert.MidBwdKernelIdeal.Gen.facts, Cert.MidBwdReferenceIdeal.Gen.facts,
    Cert.LossKernel.Gen.facts, Cert.LossKernelIdeal.Gen.facts, Cert.LossReferenceIdeal.Gen.facts,
    Cert.HalvesKernel.Gen.facts, Cert.HalvesKernelIdeal.Gen.facts, Cert.HalvesReferenceIdeal.Gen.facts,
    Cert.SumKernel.Gen.facts, Cert.SumKernelIdeal.Gen.facts, Cert.SumReferenceIdeal.Gen.facts,
    Cert.UpHalvesKernel.Gen.facts, Cert.UpHalvesKernelIdeal.Gen.facts, Cert.UpHalvesReferenceIdeal.Gen.facts,
    Cert.InHalvesKernel.Gen.facts, Cert.InHalvesKernelIdeal.Gen.facts, Cert.InHalvesReferenceIdeal.Gen.facts,
    Cert.RowHalvesKernel.Gen.facts, Cert.RowHalvesKernelIdeal.Gen.facts, Cert.RowHalvesReferenceIdeal.Gen.facts,
    Cert.SmallHalvesKernel.Gen.facts, Cert.SmallHalvesKernelIdeal.Gen.facts, Cert.SmallHalvesReferenceIdeal.Gen.facts,
    Cert.LruBwdKernel.Gen.facts, Cert.LruBwdKernelIdeal.Gen.facts, Cert.LruBwdReferenceIdeal.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    frame_ri, fun m ρ _ => frame_ri m ρ trivial,
    fun m ρ _ => Cert.ConvKernel.Gen.frame m ρ, fun m ρ _ => Cert.ConvKernelIdeal.Gen.frame m ρ, Cert.Conv.frame_ri,
    fun m ρ _ => Cert.WgradKernel.Gen.frame m ρ, fun m ρ _ => Cert.WgradKernelIdeal.Gen.frame m ρ, Cert.Wgrad.frame_ri,
    fun m ρ _ => Cert.DgradKernel.Gen.frame m ρ, fun m ρ _ => Cert.DgradKernelIdeal.Gen.frame m ρ, Cert.Dgrad.frame_ri,
    fun m ρ _ => Cert.ProjKernel.Gen.frame m ρ, fun m ρ _ => Cert.ProjKernelIdeal.Gen.frame m ρ, Cert.Proj.frame_ri,
    fun m ρ _ => Cert.UpKernel.Gen.frame m ρ, fun m ρ _ => Cert.UpKernelIdeal.Gen.frame m ρ, Cert.UpFwd.frame_ri,
    fun m ρ _ => Cert.ConvFwdKernel.Gen.frame m ρ, fun m ρ _ => Cert.ConvFwdKernelIdeal.Gen.frame m ρ, Cert.ConvFwd.frame_ri,
    fun m ρ _ => Cert.MergeKernel.Gen.frame m ρ, fun m ρ _ => Cert.MergeKernelIdeal.Gen.frame m ρ, Cert.Merge.frame_ri,
    fun m ρ _ => Cert.NormKernel.Gen.frame m ρ, fun m ρ _ => Cert.NormKernelIdeal.Gen.frame m ρ, Cert.Norm.frame_ri,
    fun m ρ _ => Cert.OutKernel.Gen.frame m ρ, fun m ρ _ => Cert.OutKernelIdeal.Gen.frame m ρ, Cert.Out.frame_ri,
    fun m ρ _ => Cert.MergeBwdKernel.Gen.frame m ρ, fun m ρ _ => Cert.MergeBwdKernelIdeal.Gen.frame m ρ, Cert.MergeBwd.frame_ri,
    fun m ρ _ => Cert.AdamKernel.Gen.frame m ρ, fun m ρ _ => Cert.AdamKernelIdeal.Gen.frame m ρ, Cert.Adam.frame_ri,
    fun m ρ _ => Cert.NormBwdKernel.Gen.frame m ρ, fun m ρ _ => Cert.NormBwdKernelIdeal.Gen.frame m ρ, Cert.NormBwd.frame_ri,
    fun m ρ _ => Cert.MidBwdKernel.Gen.frame m ρ, fun m ρ _ => Cert.MidBwdKernelIdeal.Gen.frame m ρ, Cert.MidBwd.frame_ri,
    fun m ρ _ => Cert.LossKernel.Gen.frame m ρ, fun m ρ _ => Cert.LossKernelIdeal.Gen.frame m ρ, Cert.Loss.frame_ri,
    Cert.Halves.frame_k, Cert.Halves.frame_ki, Cert.Halves.frame_ri,
    fun m ρ _ => Cert.SumKernel.Gen.frame m ρ, fun m ρ _ => Cert.SumKernelIdeal.Gen.frame m ρ, Cert.DevSum.frame_ri,
    Cert.UpHalves.frame_k, Cert.UpHalves.frame_ki, Cert.UpHalves.frame_ri,
    Cert.InHalves.frame_k, Cert.InHalves.frame_ki, Cert.InHalves.frame_ri,
    Cert.RowHalves.frame_k, Cert.RowHalves.frame_ki, Cert.RowHalves.frame_ri,
    Cert.SmallHalves.frame_k, Cert.SmallHalves.frame_ki, Cert.SmallHalves.frame_ri,
    fun m ρ _ => Cert.LruBwdKernel.Gen.frame m ρ, fun m ρ _ => Cert.LruBwdKernelIdeal.Gen.frame m ρ, Cert.LruBwd.frame_ri,
    named, equal, trivial, Cert.Conv.equal, trivial, Cert.Wgrad.equal, trivial, Cert.Dgrad.equal, trivial, Cert.Proj.equal,
    Cert.UpFwd.named, Cert.UpFwd.equal,
    trivial, Cert.ConvFwd.equal,
    trivial, Cert.Merge.equal,
    trivial, Cert.Norm.equal,
    trivial, Cert.Out.equal,
    trivial, Cert.MergeBwd.equal,
    Cert.Adam.named, Cert.Adam.equal,
    trivial, Cert.NormBwd.equal,
    trivial, Cert.MidBwd.equal,
    trivial, Cert.Loss.equal,
    Cert.Halves.named, Cert.Halves.equal,
    trivial, Cert.DevSum.equal,
    Cert.UpHalves.named, Cert.UpHalves.equal,
    Cert.InHalves.named, Cert.InHalves.equal,
    Cert.RowHalves.named, Cert.RowHalves.equal,
    Cert.SmallHalves.named, Cert.SmallHalves.equal,
    Cert.LruBwd.named, Cert.LruBwd.equal⟩

end Cert.Proof

end
